-- ==== Defs.lean ====
def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleRefIdeal (m : (ℓ : Loc Cert.ScaleRefIdeal.nD Cert.ScaleRefIdeal.τ Cert.ScaleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2 = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_heads_finite [hPre_heads_finite : Cert.Pre_heads_finite.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_heads_finite.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5))).1 = (fun _ => 1#1)
    ∧ (Cert.Pre_heads_finite.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5))).2.1 = (fun _ => 1#1)
    ∧ (Cert.Pre_heads_finite.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5))).2.2.1 = (fun _ => 1#1)
    ∧ (Cert.Pre_heads_finite.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5))).2.2.2.1 = (fun _ => 1#1)
    ∧ (Cert.Pre_heads_finite.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5))).2.2.2.2 = (fun _ => 1#1)

def Pre_HeadsRefIdeal (m : (ℓ : Loc Cert.HeadsRefIdeal.nD Cert.HeadsRefIdeal.τ Cert.HeadsRefIdeal.sig) → Buf (Elt Ideal) ℓ) : Prop :=
  True

def Pre_HeadsRefIdeal_heads_finite [hPre_heads_finite : Cert.Pre_heads_finite.Facts] (m : (ℓ : Loc Cert.HeadsRefIdeal.nD Cert.HeadsRefIdeal.τ Cert.HeadsRefIdeal.sig) → Buf (Elt Ideal) ℓ) : Prop :=
  ∀ c : Dev Cert.HeadsRefIdeal.nD,
    (Cert.Pre_heads_finite.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5))).1 = (fun _ => 1#1)
    ∧ (Cert.Pre_heads_finite.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5))).2.1 = (fun _ => 1#1)
    ∧ (Cert.Pre_heads_finite.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5))).2.2.1 = (fun _ => 1#1)
    ∧ (Cert.Pre_heads_finite.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5))).2.2.2.1 = (fun _ => 1#1)
    ∧ (Cert.Pre_heads_finite.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5))).2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0))) = (fun _ => 1#1)

def Pre_Normfwd (m : (ℓ : Loc Cert.Normfwd.nD Cert.Normfwd.τ Cert.Normfwd.sig) → Buf (Elt Bits) ℓ) : Prop :=
  True

def Pre_NormfwdIdeal (m : (ℓ : Loc Cert.NormfwdIdeal.nD Cert.NormfwdIdeal.τ Cert.NormfwdIdeal.sig) → Buf (Elt Ideal) ℓ) : Prop :=
  True

def Pre_NormfwdRefIdeal (m : (ℓ : Loc Cert.NormfwdRefIdeal.nD Cert.NormfwdRefIdeal.τ Cert.NormfwdRefIdeal.sig) → Buf (Elt Ideal) ℓ) : Prop :=
  True

def Pre_Headsfwd (m : (ℓ : Loc Cert.Headsfwd.nD Cert.Headsfwd.τ Cert.Headsfwd.sig) → Buf (Elt Bits) ℓ) : Prop :=
  True

def Pre_HeadsfwdIdeal (m : (ℓ : Loc Cert.HeadsfwdIdeal.nD Cert.HeadsfwdIdeal.τ Cert.HeadsfwdIdeal.sig) → Buf (Elt Ideal) ℓ) : Prop :=
  True

def Pre_HeadsfwdRefIdeal (m : (ℓ : Loc Cert.HeadsfwdRefIdeal.nD Cert.HeadsfwdRefIdeal.τ Cert.HeadsfwdRefIdeal.sig) → Buf (Elt Ideal) ℓ) : Prop :=
  True

def Pre_Poolfwd (m : (ℓ : Loc Cert.Poolfwd.nD Cert.Poolfwd.τ Cert.Poolfwd.sig) → Buf (Elt Bits) ℓ) : Prop :=
  True

def Pre_PoolfwdIdeal (m : (ℓ : Loc Cert.PoolfwdIdeal.nD Cert.PoolfwdIdeal.τ Cert.PoolfwdIdeal.sig) → Buf (Elt Ideal) ℓ) : Prop :=
  True

def Pre_PoolfwdIdeal_poolfwd_finite [hPre_poolfwd_finite : Cert.Pre_poolfwd_finite.Facts] (m : (ℓ : Loc Cert.PoolfwdIdeal.nD Cert.PoolfwdIdeal.τ Cert.PoolfwdIdeal.sig) → Buf (Elt Ideal) ℓ) : Prop :=
  ∀ c : Dev Cert.PoolfwdIdeal.nD,
    (Cert.Pre_poolfwd_finite.fn (F := Ideal) (m ((c.tc : Thread Cert.PoolfwdIdeal.nD Cert.PoolfwdIdeal.τ).loc Cert.PoolfwdIdeal.main_arg0))) = (fun _ => 1#1)

def Pre_PoolfwdRefIdeal (m : (ℓ : Loc Cert.PoolfwdRefIdeal.nD Cert.PoolfwdRefIdeal.τ Cert.PoolfwdRefIdeal.sig) → Buf (Elt Ideal) ℓ) : Prop :=
  True

def Pre_PoolfwdRefIdeal_poolfwd_finite [hPre_poolfwd_finite : Cert.Pre_poolfwd_finite.Facts] (m : (ℓ : Loc Cert.PoolfwdRefIdeal.nD Cert.PoolfwdRefIdeal.τ Cert.PoolfwdRefIdeal.sig) → Buf (Elt Ideal) ℓ) : Prop :=
  ∀ c : Dev Cert.PoolfwdRefIdeal.nD,
    (Cert.Pre_poolfwd_finite.fn (F := Ideal) (m ((c.tc : Thread Cert.PoolfwdRefIdeal.nD Cert.PoolfwdRefIdeal.τ).loc Cert.PoolfwdRefIdeal.main_arg0))) = (fun _ => 1#1)

def Pre_Convfwd (m : (ℓ : Loc Cert.Convfwd.nD Cert.Convfwd.τ Cert.Convfwd.sig) → Buf (Elt Bits) ℓ) : Prop :=
  True

def Pre_ConvfwdIdeal (m : (ℓ : Loc Cert.ConvfwdIdeal.nD Cert.ConvfwdIdeal.τ Cert.ConvfwdIdeal.sig) → Buf (Elt Ideal) ℓ) : Prop :=
  True

def Pre_ConvfwdRefIdeal (m : (ℓ : Loc Cert.ConvfwdRefIdeal.nD Cert.ConvfwdRefIdeal.τ Cert.ConvfwdRefIdeal.sig) → Buf (Elt Ideal) ℓ) : Prop :=
  True

def Pre_Gatefwd (m : (ℓ : Loc Cert.Gatefwd.nD Cert.Gatefwd.τ Cert.Gatefwd.sig) → Buf (Elt Bits) ℓ) : Prop :=
  True

def Pre_GatefwdIdeal (m : (ℓ : Loc Cert.GatefwdIdeal.nD Cert.GatefwdIdeal.τ Cert.GatefwdIdeal.sig) → Buf (Elt Ideal) ℓ) : Prop :=
  True

def Pre_GatefwdRefIdeal (m : (ℓ : Loc Cert.GatefwdRefIdeal.nD Cert.GatefwdRefIdeal.τ Cert.GatefwdRefIdeal.sig) → Buf (Elt Ideal) ℓ) : Prop :=
  True

def Pre_Poolmix (m : (ℓ : Loc Cert.Poolmix.nD Cert.Poolmix.τ Cert.Poolmix.sig) → Buf (Elt Bits) ℓ) : Prop :=
  True

def Pre_PoolmixIdeal (m : (ℓ : Loc Cert.PoolmixIdeal.nD Cert.PoolmixIdeal.τ Cert.PoolmixIdeal.sig) → Buf (Elt Ideal) ℓ) : Prop :=
  True

def Pre_PoolmixRefIdeal (m : (ℓ : Loc Cert.PoolmixRefIdeal.nD Cert.PoolmixRefIdeal.τ Cert.PoolmixRefIdeal.sig) → Buf (Elt Ideal) ℓ) : Prop :=
  True

def Pre_Downfwd (m : (ℓ : Loc Cert.Downfwd.nD Cert.Downfwd.τ Cert.Downfwd.sig) → Buf (Elt Bits) ℓ) : Prop :=
  True

def Pre_DownfwdIdeal (m : (ℓ : Loc Cert.DownfwdIdeal.nD Cert.DownfwdIdeal.τ Cert.DownfwdIdeal.sig) → Buf (Elt Ideal) ℓ) : Prop :=
  True

def Pre_DownfwdRefIdeal (m : (ℓ : Loc Cert.DownfwdRefIdeal.nD Cert.DownfwdRefIdeal.τ Cert.DownfwdRefIdeal.sig) → Buf (Elt Ideal) ℓ) : Prop :=
  True

def Pre_Downwt (m : (ℓ : Loc Cert.Downwt.nD Cert.Downwt.τ Cert.Downwt.sig) → Buf (Elt Bits) ℓ) : Prop :=
  True

def Pre_DownwtIdeal (m : (ℓ : Loc Cert.DownwtIdeal.nD Cert.DownwtIdeal.τ Cert.DownwtIdeal.sig) → Buf (Elt Ideal) ℓ) : Prop :=
  True

def Pre_DownwtRefIdeal (m : (ℓ : Loc Cert.DownwtRefIdeal.nD Cert.DownwtRefIdeal.τ Cert.DownwtRefIdeal.sig) → Buf (Elt Ideal) ℓ) : Prop :=
  True

def Pre_Ffndata (m : (ℓ : Loc Cert.Ffndata.nD Cert.Ffndata.τ Cert.Ffndata.sig) → Buf (Elt Bits) ℓ) : Prop :=
  True

def Pre_FfndataIdeal (m : (ℓ : Loc Cert.FfndataIdeal.nD Cert.FfndataIdeal.τ Cert.FfndataIdeal.sig) → Buf (Elt Ideal) ℓ) : Prop :=
  True

def Pre_FfndataRefIdeal (m : (ℓ : Loc Cert.FfndataRefIdeal.nD Cert.FfndataRefIdeal.τ Cert.FfndataRefIdeal.sig) → Buf (Elt Ideal) ℓ) : Prop :=
  True

def Pre_Qkvdata (m : (ℓ : Loc Cert.Qkvdata.nD Cert.Qkvdata.τ Cert.Qkvdata.sig) → Buf (Elt Bits) ℓ) : Prop :=
  True

def Pre_QkvdataIdeal (m : (ℓ : Loc Cert.QkvdataIdeal.nD Cert.QkvdataIdeal.τ Cert.QkvdataIdeal.sig) → Buf (Elt Ideal) ℓ) : Prop :=
  True

def Pre_QkvdataRefIdeal (m : (ℓ : Loc Cert.QkvdataRefIdeal.nD Cert.QkvdataRefIdeal.τ Cert.QkvdataRefIdeal.sig) → Buf (Elt Ideal) ℓ) : Prop :=
  True

def Pre_Ffnwt (m : (ℓ : Loc Cert.Ffnwt.nD Cert.Ffnwt.τ Cert.Ffnwt.sig) → Buf (Elt Bits) ℓ) : Prop :=
  True

def Pre_FfnwtIdeal (m : (ℓ : Loc Cert.FfnwtIdeal.nD Cert.FfnwtIdeal.τ Cert.FfnwtIdeal.sig) → Buf (Elt Ideal) ℓ) : Prop :=
  True

def Pre_FfnwtRefIdeal (m : (ℓ : Loc Cert.FfnwtRefIdeal.nD Cert.FfnwtRefIdeal.τ Cert.FfnwtRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Sumdev (m : (ℓ : Loc Cert.Sumdev.nD Cert.Sumdev.τ Cert.Sumdev.sig) → Buf (Elt Bits) ℓ) : Prop :=
  True

def Pre_SumdevIdeal (m : (ℓ : Loc Cert.SumdevIdeal.nD Cert.SumdevIdeal.τ Cert.SumdevIdeal.sig) → Buf (Elt Ideal) ℓ) : Prop :=
  True

def Pre_SumdevRefIdeal (m : (ℓ : Loc Cert.SumdevRefIdeal.nD Cert.SumdevRefIdeal.τ Cert.SumdevRefIdeal.sig) → Buf (Elt Ideal) ℓ) : Prop :=
  True

def Pre_Pooldata (m : (ℓ : Loc Cert.Pooldata.nD Cert.Pooldata.τ Cert.Pooldata.sig) → Buf (Elt Bits) ℓ) : Prop :=
  True

def Pre_PooldataIdeal (m : (ℓ : Loc Cert.PooldataIdeal.nD Cert.PooldataIdeal.τ Cert.PooldataIdeal.sig) → Buf (Elt Ideal) ℓ) : Prop :=
  True

def Pre_PooldataRefIdeal (m : (ℓ : Loc Cert.PooldataRefIdeal.nD Cert.PooldataRefIdeal.τ Cert.PooldataRefIdeal.sig) → Buf (Elt Ideal) ℓ) : Prop :=
  True

def Pre_Poolwt (m : (ℓ : Loc Cert.Poolwt.nD Cert.Poolwt.τ Cert.Poolwt.sig) → Buf (Elt Bits) ℓ) : Prop :=
  True

def Pre_PoolwtIdeal (m : (ℓ : Loc Cert.PoolwtIdeal.nD Cert.PoolwtIdeal.τ Cert.PoolwtIdeal.sig) → Buf (Elt Ideal) ℓ) : Prop :=
  True

def Pre_PoolwtRefIdeal (m : (ℓ : Loc Cert.PoolwtRefIdeal.nD Cert.PoolwtRefIdeal.τ Cert.PoolwtRefIdeal.sig) → Buf (Elt Ideal) ℓ) : Prop :=
  True

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0)
      ∧ r.2.mem ((c.tc : Thread Cert.Scale.nD Cert.Scale.τ).loc Cert.Scale.main_arg1) = m ((c.tc : Thread Cert.Scale.nD Cert.Scale.τ).loc Cert.Scale.main_arg1)
      ∧ r.2.mem ((c.tc : Thread Cert.Scale.nD Cert.Scale.τ).loc Cert.Scale.main_arg2) = m ((c.tc : Thread Cert.Scale.nD Cert.Scale.τ).loc Cert.Scale.main_arg2))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
      ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
      ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ r.2.sem = fun _ => 0)

def quiescent_ScaleRefIdeal [hScaleRefIdeal : Cert.ScaleRefIdeal.Facts] : Prop :=
  ∀ (m : (ℓ : Loc Cert.ScaleRefIdeal.nD Cert.ScaleRefIdeal.τ Cert.ScaleRefIdeal.sig) → Buf (Elt Ideal) ℓ) (g : Dev Cert.ScaleRefIdeal.nD → PrngReg), Pre_ScaleRefIdeal m →
    θ_run (Cert.ScaleRefIdeal.defs (F := Ideal)) (onTc (τ := Cert.ScaleRefIdeal.τ) (Cert.ScaleRefIdeal.main (F := Ideal))) ⟨m, fun _ => 0, g⟩ (fun r => (∀ c : Dev Cert.ScaleRefIdeal.nD,
      r.2.mem ((c.tc : Thread Cert.ScaleRefIdeal.nD Cert.ScaleRefIdeal.τ).loc Cert.ScaleRefIdeal.main_arg0) = m ((c.tc : Thread Cert.ScaleRefIdeal.nD Cert.ScaleRefIdeal.τ).loc Cert.ScaleRefIdeal.main_arg0)
      ∧ r.2.mem ((c.tc : Thread Cert.ScaleRefIdeal.nD Cert.ScaleRefIdeal.τ).loc Cert.ScaleRefIdeal.main_arg1) = m ((c.tc : Thread Cert.ScaleRefIdeal.nD Cert.ScaleRefIdeal.τ).loc Cert.ScaleRefIdeal.main_arg1)
      ∧ r.2.mem ((c.tc : Thread Cert.ScaleRefIdeal.nD Cert.ScaleRefIdeal.τ).loc Cert.ScaleRefIdeal.main_arg2) = m ((c.tc : Thread Cert.ScaleRefIdeal.nD Cert.ScaleRefIdeal.τ).loc Cert.ScaleRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5))
      ∧ r.2.sem = fun _ => 0)

def quiescent_HeadsIdeal_pre_heads_finite [hHeadsIdeal : Cert.HeadsIdeal.Facts] [hPre_heads_finite : Cert.Pre_heads_finite.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_heads_finite m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5))
      ∧ r.2.sem = fun _ => 0)

def quiescent_HeadsRefIdeal_pre_heads_finite [hHeadsRefIdeal : Cert.HeadsRefIdeal.Facts] [hPre_heads_finite : Cert.Pre_heads_finite.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal_heads_finite m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_Normfwd [hNormfwd : Cert.Normfwd.Facts] : Prop :=
  ∀ (m : (ℓ : Loc Cert.Normfwd.nD Cert.Normfwd.τ Cert.Normfwd.sig) → Buf (Elt Bits) ℓ) (g : Dev Cert.Normfwd.nD → PrngReg), Pre_Normfwd m →
    θ_run (Cert.Normfwd.defs (F := Bits)) (onTc (τ := Cert.Normfwd.τ) (Cert.Normfwd.main (F := Bits))) ⟨m, fun _ => 0, g⟩ (fun r => (∀ c : Dev Cert.Normfwd.nD,
      r.2.mem ((c.tc : Thread Cert.Normfwd.nD Cert.Normfwd.τ).loc Cert.Normfwd.main_arg0) = m ((c.tc : Thread Cert.Normfwd.nD Cert.Normfwd.τ).loc Cert.Normfwd.main_arg0)
      ∧ r.2.mem ((c.tc : Thread Cert.Normfwd.nD Cert.Normfwd.τ).loc Cert.Normfwd.main_arg1) = m ((c.tc : Thread Cert.Normfwd.nD Cert.Normfwd.τ).loc Cert.Normfwd.main_arg1))
      ∧ r.2.sem = fun _ => 0)

def quiescent_NormfwdIdeal [hNormfwdIdeal : Cert.NormfwdIdeal.Facts] : Prop :=
  ∀ (m : (ℓ : Loc Cert.NormfwdIdeal.nD Cert.NormfwdIdeal.τ Cert.NormfwdIdeal.sig) → Buf (Elt Ideal) ℓ) (g : Dev Cert.NormfwdIdeal.nD → PrngReg), Pre_NormfwdIdeal m →
    θ_run (Cert.NormfwdIdeal.defs (F := Ideal)) (onTc (τ := Cert.NormfwdIdeal.τ) (Cert.NormfwdIdeal.main (F := Ideal))) ⟨m, fun _ => 0, g⟩ (fun r => (∀ c : Dev Cert.NormfwdIdeal.nD,
      r.2.mem ((c.tc : Thread Cert.NormfwdIdeal.nD Cert.NormfwdIdeal.τ).loc Cert.NormfwdIdeal.main_arg0) = m ((c.tc : Thread Cert.NormfwdIdeal.nD Cert.NormfwdIdeal.τ).loc Cert.NormfwdIdeal.main_arg0)
      ∧ r.2.mem ((c.tc : Thread Cert.NormfwdIdeal.nD Cert.NormfwdIdeal.τ).loc Cert.NormfwdIdeal.main_arg1) = m ((c.tc : Thread Cert.NormfwdIdeal.nD Cert.NormfwdIdeal.τ).loc Cert.NormfwdIdeal.main_arg1))
      ∧ r.2.sem = fun _ => 0)

def quiescent_NormfwdRefIdeal [hNormfwdRefIdeal : Cert.NormfwdRefIdeal.Facts] : Prop :=
  ∀ (m : (ℓ : Loc Cert.NormfwdRefIdeal.nD Cert.NormfwdRefIdeal.τ Cert.NormfwdRefIdeal.sig) → Buf (Elt Ideal) ℓ) (g : Dev Cert.NormfwdRefIdeal.nD → PrngReg), Pre_NormfwdRefIdeal m →
    θ_run (Cert.NormfwdRefIdeal.defs (F := Ideal)) (onTc (τ := Cert.NormfwdRefIdeal.τ) (Cert.NormfwdRefIdeal.main (F := Ideal))) ⟨m, fun _ => 0, g⟩ (fun r => (∀ c : Dev Cert.NormfwdRefIdeal.nD,
      r.2.mem ((c.tc : Thread Cert.NormfwdRefIdeal.nD Cert.NormfwdRefIdeal.τ).loc Cert.NormfwdRefIdeal.main_arg0) = m ((c.tc : Thread Cert.NormfwdRefIdeal.nD Cert.NormfwdRefIdeal.τ).loc Cert.NormfwdRefIdeal.main_arg0)
      ∧ r.2.mem ((c.tc : Thread Cert.NormfwdRefIdeal.nD Cert.NormfwdRefIdeal.τ).loc Cert.NormfwdRefIdeal.main_arg1) = m ((c.tc : Thread Cert.NormfwdRefIdeal.nD Cert.NormfwdRefIdeal.τ).loc Cert.NormfwdRefIdeal.main_arg1))
      ∧ r.2.sem = fun _ => 0)

def quiescent_Headsfwd [hHeadsfwd : Cert.Headsfwd.Facts] : Prop :=
  ∀ (m : (ℓ : Loc Cert.Headsfwd.nD Cert.Headsfwd.τ Cert.Headsfwd.sig) → Buf (Elt Bits) ℓ) (g : Dev Cert.Headsfwd.nD → PrngReg), Pre_Headsfwd m →
    θ_run (Cert.Headsfwd.defs (F := Bits)) (onTc (τ := Cert.Headsfwd.τ) (Cert.Headsfwd.main (F := Bits))) ⟨m, fun _ => 0, g⟩ (fun r => (∀ c : Dev Cert.Headsfwd.nD,
      r.2.mem ((c.tc : Thread Cert.Headsfwd.nD Cert.Headsfwd.τ).loc Cert.Headsfwd.main_arg0) = m ((c.tc : Thread Cert.Headsfwd.nD Cert.Headsfwd.τ).loc Cert.Headsfwd.main_arg0)
      ∧ r.2.mem ((c.tc : Thread Cert.Headsfwd.nD Cert.Headsfwd.τ).loc Cert.Headsfwd.main_arg1) = m ((c.tc : Thread Cert.Headsfwd.nD Cert.Headsfwd.τ).loc Cert.Headsfwd.main_arg1)
      ∧ r.2.mem ((c.tc : Thread Cert.Headsfwd.nD Cert.Headsfwd.τ).loc Cert.Headsfwd.main_arg2) = m ((c.tc : Thread Cert.Headsfwd.nD Cert.Headsfwd.τ).loc Cert.Headsfwd.main_arg2))
      ∧ r.2.sem = fun _ => 0)

def quiescent_HeadsfwdIdeal [hHeadsfwdIdeal : Cert.HeadsfwdIdeal.Facts] : Prop :=
  ∀ (m : (ℓ : Loc Cert.HeadsfwdIdeal.nD Cert.HeadsfwdIdeal.τ Cert.HeadsfwdIdeal.sig) → Buf (Elt Ideal) ℓ) (g : Dev Cert.HeadsfwdIdeal.nD → PrngReg), Pre_HeadsfwdIdeal m →
    θ_run (Cert.HeadsfwdIdeal.defs (F := Ideal)) (onTc (τ := Cert.HeadsfwdIdeal.τ) (Cert.HeadsfwdIdeal.main (F := Ideal))) ⟨m, fun _ => 0, g⟩ (fun r => (∀ c : Dev Cert.HeadsfwdIdeal.nD,
      r.2.mem ((c.tc : Thread Cert.HeadsfwdIdeal.nD Cert.HeadsfwdIdeal.τ).loc Cert.HeadsfwdIdeal.main_arg0) = m ((c.tc : Thread Cert.HeadsfwdIdeal.nD Cert.HeadsfwdIdeal.τ).loc Cert.HeadsfwdIdeal.main_arg0)
      ∧ r.2.mem ((c.tc : Thread Cert.HeadsfwdIdeal.nD Cert.HeadsfwdIdeal.τ).loc Cert.HeadsfwdIdeal.main_arg1) = m ((c.tc : Thread Cert.HeadsfwdIdeal.nD Cert.HeadsfwdIdeal.τ).loc Cert.HeadsfwdIdeal.main_arg1)
      ∧ r.2.mem ((c.tc : Thread Cert.HeadsfwdIdeal.nD Cert.HeadsfwdIdeal.τ).loc Cert.HeadsfwdIdeal.main_arg2) = m ((c.tc : Thread Cert.HeadsfwdIdeal.nD Cert.HeadsfwdIdeal.τ).loc Cert.HeadsfwdIdeal.main_arg2))
      ∧ r.2.sem = fun _ => 0)

def quiescent_HeadsfwdRefIdeal [hHeadsfwdRefIdeal : Cert.HeadsfwdRefIdeal.Facts] : Prop :=
  ∀ (m : (ℓ : Loc Cert.HeadsfwdRefIdeal.nD Cert.HeadsfwdRefIdeal.τ Cert.HeadsfwdRefIdeal.sig) → Buf (Elt Ideal) ℓ) (g : Dev Cert.HeadsfwdRefIdeal.nD → PrngReg), Pre_HeadsfwdRefIdeal m →
    θ_run (Cert.HeadsfwdRefIdeal.defs (F := Ideal)) (onTc (τ := Cert.HeadsfwdRefIdeal.τ) (Cert.HeadsfwdRefIdeal.main (F := Ideal))) ⟨m, fun _ => 0, g⟩ (fun r => (∀ c : Dev Cert.HeadsfwdRefIdeal.nD,
      r.2.mem ((c.tc : Thread Cert.HeadsfwdRefIdeal.nD Cert.HeadsfwdRefIdeal.τ).loc Cert.HeadsfwdRefIdeal.main_arg0) = m ((c.tc : Thread Cert.HeadsfwdRefIdeal.nD Cert.HeadsfwdRefIdeal.τ).loc Cert.HeadsfwdRefIdeal.main_arg0)
      ∧ r.2.mem ((c.tc : Thread Cert.HeadsfwdRefIdeal.nD Cert.HeadsfwdRefIdeal.τ).loc Cert.HeadsfwdRefIdeal.main_arg1) = m ((c.tc : Thread Cert.HeadsfwdRefIdeal.nD Cert.HeadsfwdRefIdeal.τ).loc Cert.HeadsfwdRefIdeal.main_arg1)
      ∧ r.2.mem ((c.tc : Thread Cert.HeadsfwdRefIdeal.nD Cert.HeadsfwdRefIdeal.τ).loc Cert.HeadsfwdRefIdeal.main_arg2) = m ((c.tc : Thread Cert.HeadsfwdRefIdeal.nD Cert.HeadsfwdRefIdeal.τ).loc Cert.HeadsfwdRefIdeal.main_arg2))
      ∧ r.2.sem = fun _ => 0)

def quiescent_Poolfwd [hPoolfwd : Cert.Poolfwd.Facts] : Prop :=
  ∀ (m : (ℓ : Loc Cert.Poolfwd.nD Cert.Poolfwd.τ Cert.Poolfwd.sig) → Buf (Elt Bits) ℓ) (g : Dev Cert.Poolfwd.nD → PrngReg), Pre_Poolfwd m →
    θ_run (Cert.Poolfwd.defs (F := Bits)) (onTc (τ := Cert.Poolfwd.τ) (Cert.Poolfwd.main (F := Bits))) ⟨m, fun _ => 0, g⟩ (fun r => (∀ c : Dev Cert.Poolfwd.nD,
      r.2.mem ((c.tc : Thread Cert.Poolfwd.nD Cert.Poolfwd.τ).loc Cert.Poolfwd.main_arg0) = m ((c.tc : Thread Cert.Poolfwd.nD Cert.Poolfwd.τ).loc Cert.Poolfwd.main_arg0))
      ∧ r.2.sem = fun _ => 0)

def quiescent_PoolfwdIdeal [hPoolfwdIdeal : Cert.PoolfwdIdeal.Facts] : Prop :=
  ∀ (m : (ℓ : Loc Cert.PoolfwdIdeal.nD Cert.PoolfwdIdeal.τ Cert.PoolfwdIdeal.sig) → Buf (Elt Ideal) ℓ) (g : Dev Cert.PoolfwdIdeal.nD → PrngReg), Pre_PoolfwdIdeal m →
    θ_run (Cert.PoolfwdIdeal.defs (F := Ideal)) (onTc (τ := Cert.PoolfwdIdeal.τ) (Cert.PoolfwdIdeal.main (F := Ideal))) ⟨m, fun _ => 0, g⟩ (fun r => (∀ c : Dev Cert.PoolfwdIdeal.nD,
      r.2.mem ((c.tc : Thread Cert.PoolfwdIdeal.nD Cert.PoolfwdIdeal.τ).loc Cert.PoolfwdIdeal.main_arg0) = m ((c.tc : Thread Cert.PoolfwdIdeal.nD Cert.PoolfwdIdeal.τ).loc Cert.PoolfwdIdeal.main_arg0))
      ∧ r.2.sem = fun _ => 0)

def quiescent_PoolfwdIdeal_pre_poolfwd_finite [hPoolfwdIdeal : Cert.PoolfwdIdeal.Facts] [hPre_poolfwd_finite : Cert.Pre_poolfwd_finite.Facts] : Prop :=
  ∀ (m : (ℓ : Loc Cert.PoolfwdIdeal.nD Cert.PoolfwdIdeal.τ Cert.PoolfwdIdeal.sig) → Buf (Elt Ideal) ℓ) (g : Dev Cert.PoolfwdIdeal.nD → PrngReg), Pre_PoolfwdIdeal_poolfwd_finite m →
    θ_run (Cert.PoolfwdIdeal.defs (F := Ideal)) (onTc (τ := Cert.PoolfwdIdeal.τ) (Cert.PoolfwdIdeal.main (F := Ideal))) ⟨m, fun _ => 0, g⟩ (fun r => (∀ c : Dev Cert.PoolfwdIdeal.nD,
      r.2.mem ((c.tc : Thread Cert.PoolfwdIdeal.nD Cert.PoolfwdIdeal.τ).loc Cert.PoolfwdIdeal.main_arg0) = m ((c.tc : Thread Cert.PoolfwdIdeal.nD Cert.PoolfwdIdeal.τ).loc Cert.PoolfwdIdeal.main_arg0))
      ∧ r.2.sem = fun _ => 0)

def quiescent_PoolfwdRefIdeal [hPoolfwdRefIdeal : Cert.PoolfwdRefIdeal.Facts] : Prop :=
  ∀ (m : (ℓ : Loc Cert.PoolfwdRefIdeal.nD Cert.PoolfwdRefIdeal.τ Cert.PoolfwdRefIdeal.sig) → Buf (Elt Ideal) ℓ) (g : Dev Cert.PoolfwdRefIdeal.nD → PrngReg), Pre_PoolfwdRefIdeal m →
    θ_run (Cert.PoolfwdRefIdeal.defs (F := Ideal)) (onTc (τ := Cert.PoolfwdRefIdeal.τ) (Cert.PoolfwdRefIdeal.main (F := Ideal))) ⟨m, fun _ => 0, g⟩ (fun r => (∀ c : Dev Cert.PoolfwdRefIdeal.nD,
      r.2.mem ((c.tc : Thread Cert.PoolfwdRefIdeal.nD Cert.PoolfwdRefIdeal.τ).loc Cert.PoolfwdRefIdeal.main_arg0) = m ((c.tc : Thread Cert.PoolfwdRefIdeal.nD Cert.PoolfwdRefIdeal.τ).loc Cert.PoolfwdRefIdeal.main_arg0))
      ∧ r.2.sem = fun _ => 0)

def quiescent_PoolfwdRefIdeal_pre_poolfwd_finite [hPoolfwdRefIdeal : Cert.PoolfwdRefIdeal.Facts] [hPre_poolfwd_finite : Cert.Pre_poolfwd_finite.Facts] : Prop :=
  ∀ (m : (ℓ : Loc Cert.PoolfwdRefIdeal.nD Cert.PoolfwdRefIdeal.τ Cert.PoolfwdRefIdeal.sig) → Buf (Elt Ideal) ℓ) (g : Dev Cert.PoolfwdRefIdeal.nD → PrngReg), Pre_PoolfwdRefIdeal_poolfwd_finite m →
    θ_run (Cert.PoolfwdRefIdeal.defs (F := Ideal)) (onTc (τ := Cert.PoolfwdRefIdeal.τ) (Cert.PoolfwdRefIdeal.main (F := Ideal))) ⟨m, fun _ => 0, g⟩ (fun r => (∀ c : Dev Cert.PoolfwdRefIdeal.nD,
      r.2.mem ((c.tc : Thread Cert.PoolfwdRefIdeal.nD Cert.PoolfwdRefIdeal.τ).loc Cert.PoolfwdRefIdeal.main_arg0) = m ((c.tc : Thread Cert.PoolfwdRefIdeal.nD Cert.PoolfwdRefIdeal.τ).loc Cert.PoolfwdRefIdeal.main_arg0))
      ∧ r.2.sem = fun _ => 0)

def quiescent_Convfwd [hConvfwd : Cert.Convfwd.Facts] : Prop :=
  ∀ (m : (ℓ : Loc Cert.Convfwd.nD Cert.Convfwd.τ Cert.Convfwd.sig) → Buf (Elt Bits) ℓ) (g : Dev Cert.Convfwd.nD → PrngReg), Pre_Convfwd m →
    θ_run (Cert.Convfwd.defs (F := Bits)) (onTc (τ := Cert.Convfwd.τ) (Cert.Convfwd.main (F := Bits))) ⟨m, fun _ => 0, g⟩ (fun r => (∀ c : Dev Cert.Convfwd.nD,
      r.2.mem ((c.tc : Thread Cert.Convfwd.nD Cert.Convfwd.τ).loc Cert.Convfwd.main_arg0) = m ((c.tc : Thread Cert.Convfwd.nD Cert.Convfwd.τ).loc Cert.Convfwd.main_arg0)
      ∧ r.2.mem ((c.tc : Thread Cert.Convfwd.nD Cert.Convfwd.τ).loc Cert.Convfwd.main_arg1) = m ((c.tc : Thread Cert.Convfwd.nD Cert.Convfwd.τ).loc Cert.Convfwd.main_arg1))
      ∧ r.2.sem = fun _ => 0)

def quiescent_ConvfwdIdeal [hConvfwdIdeal : Cert.ConvfwdIdeal.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg), Pre_ConvfwdIdeal m →
    θ_run (Cert.ConvfwdIdeal.defs (F := Ideal)) (onTc (τ := Cert.ConvfwdIdeal.τ) (Cert.ConvfwdIdeal.main (F := Ideal))) ⟨m, fun _ => 0, g⟩ (fun r => (∀ c : Dev Cert.ConvfwdIdeal.nD,
      r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
      ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1))
      ∧ r.2.sem = fun _ => 0)

def quiescent_ConvfwdRefIdeal [hConvfwdRefIdeal : Cert.ConvfwdRefIdeal.Facts] : Prop :=
  ∀ (m : (ℓ : Loc Cert.ConvfwdRefIdeal.nD Cert.ConvfwdRefIdeal.τ Cert.ConvfwdRefIdeal.sig) → Buf (Elt Ideal) ℓ) (g : Dev Cert.ConvfwdRefIdeal.nD → PrngReg), Pre_ConvfwdRefIdeal m →
    θ_run (Cert.ConvfwdRefIdeal.defs (F := Ideal)) (onTc (τ := Cert.ConvfwdRefIdeal.τ) (Cert.ConvfwdRefIdeal.main (F := Ideal))) ⟨m, fun _ => 0, g⟩ (fun r => (∀ c : Dev Cert.ConvfwdRefIdeal.nD,
      r.2.mem ((c.tc : Thread Cert.ConvfwdRefIdeal.nD Cert.ConvfwdRefIdeal.τ).loc Cert.ConvfwdRefIdeal.main_arg0) = m ((c.tc : Thread Cert.ConvfwdRefIdeal.nD Cert.ConvfwdRefIdeal.τ).loc Cert.ConvfwdRefIdeal.main_arg0)
      ∧ r.2.mem ((c.tc : Thread Cert.ConvfwdRefIdeal.nD Cert.ConvfwdRefIdeal.τ).loc Cert.ConvfwdRefIdeal.main_arg1) = m ((c.tc : Thread Cert.ConvfwdRefIdeal.nD Cert.ConvfwdRefIdeal.τ).loc Cert.ConvfwdRefIdeal.main_arg1))
      ∧ r.2.sem = fun _ => 0)

def quiescent_Gatefwd [hGatefwd : Cert.Gatefwd.Facts] : Prop :=
  ∀ (m : (ℓ : Loc Cert.Gatefwd.nD Cert.Gatefwd.τ Cert.Gatefwd.sig) → Buf (Elt Bits) ℓ) (g : Dev Cert.Gatefwd.nD → PrngReg), Pre_Gatefwd m →
    θ_run (Cert.Gatefwd.defs (F := Bits)) (onTc (τ := Cert.Gatefwd.τ) (Cert.Gatefwd.main (F := Bits))) ⟨m, fun _ => 0, g⟩ (fun r => (∀ c : Dev Cert.Gatefwd.nD,
      r.2.mem ((c.tc : Thread Cert.Gatefwd.nD Cert.Gatefwd.τ).loc Cert.Gatefwd.main_arg0) = m ((c.tc : Thread Cert.Gatefwd.nD Cert.Gatefwd.τ).loc Cert.Gatefwd.main_arg0)
      ∧ r.2.mem ((c.tc : Thread Cert.Gatefwd.nD Cert.Gatefwd.τ).loc Cert.Gatefwd.main_arg1) = m ((c.tc : Thread Cert.Gatefwd.nD Cert.Gatefwd.τ).loc Cert.Gatefwd.main_arg1)
      ∧ r.2.mem ((c.tc : Thread Cert.Gatefwd.nD Cert.Gatefwd.τ).loc Cert.Gatefwd.main_arg2) = m ((c.tc : Thread Cert.Gatefwd.nD Cert.Gatefwd.τ).loc Cert.Gatefwd.main_arg2))
      ∧ r.2.sem = fun _ => 0)

def quiescent_GatefwdIdeal [hGatefwdIdeal : Cert.GatefwdIdeal.Facts] : Prop :=
  ∀ (m : (ℓ : Loc Cert.GatefwdIdeal.nD Cert.GatefwdIdeal.τ Cert.GatefwdIdeal.sig) → Buf (Elt Ideal) ℓ) (g : Dev Cert.GatefwdIdeal.nD → PrngReg), Pre_GatefwdIdeal m →
    θ_run (Cert.GatefwdIdeal.defs (F := Ideal)) (onTc (τ := Cert.GatefwdIdeal.τ) (Cert.GatefwdIdeal.main (F := Ideal))) ⟨m, fun _ => 0, g⟩ (fun r => (∀ c : Dev Cert.GatefwdIdeal.nD,
      r.2.mem ((c.tc : Thread Cert.GatefwdIdeal.nD Cert.GatefwdIdeal.τ).loc Cert.GatefwdIdeal.main_arg0) = m ((c.tc : Thread Cert.GatefwdIdeal.nD Cert.GatefwdIdeal.τ).loc Cert.GatefwdIdeal.main_arg0)
      ∧ r.2.mem ((c.tc : Thread Cert.GatefwdIdeal.nD Cert.GatefwdIdeal.τ).loc Cert.GatefwdIdeal.main_arg1) = m ((c.tc : Thread Cert.GatefwdIdeal.nD Cert.GatefwdIdeal.τ).loc Cert.GatefwdIdeal.main_arg1)
      ∧ r.2.mem ((c.tc : Thread Cert.GatefwdIdeal.nD Cert.GatefwdIdeal.τ).loc Cert.GatefwdIdeal.main_arg2) = m ((c.tc : Thread Cert.GatefwdIdeal.nD Cert.GatefwdIdeal.τ).loc Cert.GatefwdIdeal.main_arg2))
      ∧ r.2.sem = fun _ => 0)

def quiescent_GatefwdRefIdeal [hGatefwdRefIdeal : Cert.GatefwdRefIdeal.Facts] : Prop :=
  ∀ (m : (ℓ : Loc Cert.GatefwdRefIdeal.nD Cert.GatefwdRefIdeal.τ Cert.GatefwdRefIdeal.sig) → Buf (Elt Ideal) ℓ) (g : Dev Cert.GatefwdRefIdeal.nD → PrngReg), Pre_GatefwdRefIdeal m →
    θ_run (Cert.GatefwdRefIdeal.defs (F := Ideal)) (onTc (τ := Cert.GatefwdRefIdeal.τ) (Cert.GatefwdRefIdeal.main (F := Ideal))) ⟨m, fun _ => 0, g⟩ (fun r => (∀ c : Dev Cert.GatefwdRefIdeal.nD,
      r.2.mem ((c.tc : Thread Cert.GatefwdRefIdeal.nD Cert.GatefwdRefIdeal.τ).loc Cert.GatefwdRefIdeal.main_arg0) = m ((c.tc : Thread Cert.GatefwdRefIdeal.nD Cert.GatefwdRefIdeal.τ).loc Cert.GatefwdRefIdeal.main_arg0)
      ∧ r.2.mem ((c.tc : Thread Cert.GatefwdRefIdeal.nD Cert.GatefwdRefIdeal.τ).loc Cert.GatefwdRefIdeal.main_arg1) = m ((c.tc : Thread Cert.GatefwdRefIdeal.nD Cert.GatefwdRefIdeal.τ).loc Cert.GatefwdRefIdeal.main_arg1)
      ∧ r.2.mem ((c.tc : Thread Cert.GatefwdRefIdeal.nD Cert.GatefwdRefIdeal.τ).loc Cert.GatefwdRefIdeal.main_arg2) = m ((c.tc : Thread Cert.GatefwdRefIdeal.nD Cert.GatefwdRefIdeal.τ).loc Cert.GatefwdRefIdeal.main_arg2))
      ∧ r.2.sem = fun _ => 0)

def quiescent_Poolmix [hPoolmix : Cert.Poolmix.Facts] : Prop :=
  ∀ (m : (ℓ : Loc Cert.Poolmix.nD Cert.Poolmix.τ Cert.Poolmix.sig) → Buf (Elt Bits) ℓ) (g : Dev Cert.Poolmix.nD → PrngReg), Pre_Poolmix m →
    θ_run (Cert.Poolmix.defs (F := Bits)) (onTc (τ := Cert.Poolmix.τ) (Cert.Poolmix.main (F := Bits))) ⟨m, fun _ => 0, g⟩ (fun r => (∀ c : Dev Cert.Poolmix.nD,
      r.2.mem ((c.tc : Thread Cert.Poolmix.nD Cert.Poolmix.τ).loc Cert.Poolmix.main_arg0) = m ((c.tc : Thread Cert.Poolmix.nD Cert.Poolmix.τ).loc Cert.Poolmix.main_arg0)
      ∧ r.2.mem ((c.tc : Thread Cert.Poolmix.nD Cert.Poolmix.τ).loc Cert.Poolmix.main_arg1) = m ((c.tc : Thread Cert.Poolmix.nD Cert.Poolmix.τ).loc Cert.Poolmix.main_arg1)
      ∧ r.2.mem ((c.tc : Thread Cert.Poolmix.nD Cert.Poolmix.τ).loc Cert.Poolmix.main_arg2) = m ((c.tc : Thread Cert.Poolmix.nD Cert.Poolmix.τ).loc Cert.Poolmix.main_arg2)
      ∧ r.2.mem ((c.tc : Thread Cert.Poolmix.nD Cert.Poolmix.τ).loc Cert.Poolmix.main_arg3) = m ((c.tc : Thread Cert.Poolmix.nD Cert.Poolmix.τ).loc Cert.Poolmix.main_arg3))
      ∧ r.2.sem = fun _ => 0)

def quiescent_PoolmixIdeal [hPoolmixIdeal : Cert.PoolmixIdeal.Facts] : Prop :=
  ∀ (m : (ℓ : Loc Cert.PoolmixIdeal.nD Cert.PoolmixIdeal.τ Cert.PoolmixIdeal.sig) → Buf (Elt Ideal) ℓ) (g : Dev Cert.PoolmixIdeal.nD → PrngReg), Pre_PoolmixIdeal m →
    θ_run (Cert.PoolmixIdeal.defs (F := Ideal)) (onTc (τ := Cert.PoolmixIdeal.τ) (Cert.PoolmixIdeal.main (F := Ideal))) ⟨m, fun _ => 0, g⟩ (fun r => (∀ c : Dev Cert.PoolmixIdeal.nD,
      r.2.mem ((c.tc : Thread Cert.PoolmixIdeal.nD Cert.PoolmixIdeal.τ).loc Cert.PoolmixIdeal.main_arg0) = m ((c.tc : Thread Cert.PoolmixIdeal.nD Cert.PoolmixIdeal.τ).loc Cert.PoolmixIdeal.main_arg0)
      ∧ r.2.mem ((c.tc : Thread Cert.PoolmixIdeal.nD Cert.PoolmixIdeal.τ).loc Cert.PoolmixIdeal.main_arg1) = m ((c.tc : Thread Cert.PoolmixIdeal.nD Cert.PoolmixIdeal.τ).loc Cert.PoolmixIdeal.main_arg1)
      ∧ r.2.mem ((c.tc : Thread Cert.PoolmixIdeal.nD Cert.PoolmixIdeal.τ).loc Cert.PoolmixIdeal.main_arg2) = m ((c.tc : Thread Cert.PoolmixIdeal.nD Cert.PoolmixIdeal.τ).loc Cert.PoolmixIdeal.main_arg2)
      ∧ r.2.mem ((c.tc : Thread Cert.PoolmixIdeal.nD Cert.PoolmixIdeal.τ).loc Cert.PoolmixIdeal.main_arg3) = m ((c.tc : Thread Cert.PoolmixIdeal.nD Cert.PoolmixIdeal.τ).loc Cert.PoolmixIdeal.main_arg3))
      ∧ r.2.sem = fun _ => 0)

def quiescent_PoolmixRefIdeal [hPoolmixRefIdeal : Cert.PoolmixRefIdeal.Facts] : Prop :=
  ∀ (m : (ℓ : Loc Cert.PoolmixRefIdeal.nD Cert.PoolmixRefIdeal.τ Cert.PoolmixRefIdeal.sig) → Buf (Elt Ideal) ℓ) (g : Dev Cert.PoolmixRefIdeal.nD → PrngReg), Pre_PoolmixRefIdeal m →
    θ_run (Cert.PoolmixRefIdeal.defs (F := Ideal)) (onTc (τ := Cert.PoolmixRefIdeal.τ) (Cert.PoolmixRefIdeal.main (F := Ideal))) ⟨m, fun _ => 0, g⟩ (fun r => (∀ c : Dev Cert.PoolmixRefIdeal.nD,
      r.2.mem ((c.tc : Thread Cert.PoolmixRefIdeal.nD Cert.PoolmixRefIdeal.τ).loc Cert.PoolmixRefIdeal.main_arg0) = m ((c.tc : Thread Cert.PoolmixRefIdeal.nD Cert.PoolmixRefIdeal.τ).loc Cert.PoolmixRefIdeal.main_arg0)
      ∧ r.2.mem ((c.tc : Thread Cert.PoolmixRefIdeal.nD Cert.PoolmixRefIdeal.τ).loc Cert.PoolmixRefIdeal.main_arg1) = m ((c.tc : Thread Cert.PoolmixRefIdeal.nD Cert.PoolmixRefIdeal.τ).loc Cert.PoolmixRefIdeal.main_arg1)
      ∧ r.2.mem ((c.tc : Thread Cert.PoolmixRefIdeal.nD Cert.PoolmixRefIdeal.τ).loc Cert.PoolmixRefIdeal.main_arg2) = m ((c.tc : Thread Cert.PoolmixRefIdeal.nD Cert.PoolmixRefIdeal.τ).loc Cert.PoolmixRefIdeal.main_arg2)
      ∧ r.2.mem ((c.tc : Thread Cert.PoolmixRefIdeal.nD Cert.PoolmixRefIdeal.τ).loc Cert.PoolmixRefIdeal.main_arg3) = m ((c.tc : Thread Cert.PoolmixRefIdeal.nD Cert.PoolmixRefIdeal.τ).loc Cert.PoolmixRefIdeal.main_arg3))
      ∧ r.2.sem = fun _ => 0)

def quiescent_Downfwd [hDownfwd : Cert.Downfwd.Facts] : Prop :=
  ∀ (m : (ℓ : Loc Cert.Downfwd.nD Cert.Downfwd.τ Cert.Downfwd.sig) → Buf (Elt Bits) ℓ) (g : Dev Cert.Downfwd.nD → PrngReg), Pre_Downfwd m →
    θ_run (Cert.Downfwd.defs (F := Bits)) (onTc (τ := Cert.Downfwd.τ) (Cert.Downfwd.main (F := Bits))) ⟨m, fun _ => 0, g⟩ (fun r => (∀ c : Dev Cert.Downfwd.nD,
      r.2.mem ((c.tc : Thread Cert.Downfwd.nD Cert.Downfwd.τ).loc Cert.Downfwd.main_arg0) = m ((c.tc : Thread Cert.Downfwd.nD Cert.Downfwd.τ).loc Cert.Downfwd.main_arg0)
      ∧ r.2.mem ((c.tc : Thread Cert.Downfwd.nD Cert.Downfwd.τ).loc Cert.Downfwd.main_arg1) = m ((c.tc : Thread Cert.Downfwd.nD Cert.Downfwd.τ).loc Cert.Downfwd.main_arg1)
      ∧ r.2.mem ((c.tc : Thread Cert.Downfwd.nD Cert.Downfwd.τ).loc Cert.Downfwd.main_arg2) = m ((c.tc : Thread Cert.Downfwd.nD Cert.Downfwd.τ).loc Cert.Downfwd.main_arg2))
      ∧ r.2.sem = fun _ => 0)

def quiescent_DownfwdIdeal [hDownfwdIdeal : Cert.DownfwdIdeal.Facts] : Prop :=
  ∀ (m : (ℓ : Loc Cert.DownfwdIdeal.nD Cert.DownfwdIdeal.τ Cert.DownfwdIdeal.sig) → Buf (Elt Ideal) ℓ) (g : Dev Cert.DownfwdIdeal.nD → PrngReg), Pre_DownfwdIdeal m →
    θ_run (Cert.DownfwdIdeal.defs (F := Ideal)) (onTc (τ := Cert.DownfwdIdeal.τ) (Cert.DownfwdIdeal.main (F := Ideal))) ⟨m, fun _ => 0, g⟩ (fun r => (∀ c : Dev Cert.DownfwdIdeal.nD,
      r.2.mem ((c.tc : Thread Cert.DownfwdIdeal.nD Cert.DownfwdIdeal.τ).loc Cert.DownfwdIdeal.main_arg0) = m ((c.tc : Thread Cert.DownfwdIdeal.nD Cert.DownfwdIdeal.τ).loc Cert.DownfwdIdeal.main_arg0)
      ∧ r.2.mem ((c.tc : Thread Cert.DownfwdIdeal.nD Cert.DownfwdIdeal.τ).loc Cert.DownfwdIdeal.main_arg1) = m ((c.tc : Thread Cert.DownfwdIdeal.nD Cert.DownfwdIdeal.τ).loc Cert.DownfwdIdeal.main_arg1)
      ∧ r.2.mem ((c.tc : Thread Cert.DownfwdIdeal.nD Cert.DownfwdIdeal.τ).loc Cert.DownfwdIdeal.main_arg2) = m ((c.tc : Thread Cert.DownfwdIdeal.nD Cert.DownfwdIdeal.τ).loc Cert.DownfwdIdeal.main_arg2))
      ∧ r.2.sem = fun _ => 0)

def quiescent_DownfwdRefIdeal [hDownfwdRefIdeal : Cert.DownfwdRefIdeal.Facts] : Prop :=
  ∀ (m : (ℓ : Loc Cert.DownfwdRefIdeal.nD Cert.DownfwdRefIdeal.τ Cert.DownfwdRefIdeal.sig) → Buf (Elt Ideal) ℓ) (g : Dev Cert.DownfwdRefIdeal.nD → PrngReg), Pre_DownfwdRefIdeal m →
    θ_run (Cert.DownfwdRefIdeal.defs (F := Ideal)) (onTc (τ := Cert.DownfwdRefIdeal.τ) (Cert.DownfwdRefIdeal.main (F := Ideal))) ⟨m, fun _ => 0, g⟩ (fun r => (∀ c : Dev Cert.DownfwdRefIdeal.nD,
      r.2.mem ((c.tc : Thread Cert.DownfwdRefIdeal.nD Cert.DownfwdRefIdeal.τ).loc Cert.DownfwdRefIdeal.main_arg0) = m ((c.tc : Thread Cert.DownfwdRefIdeal.nD Cert.DownfwdRefIdeal.τ).loc Cert.DownfwdRefIdeal.main_arg0)
      ∧ r.2.mem ((c.tc : Thread Cert.DownfwdRefIdeal.nD Cert.DownfwdRefIdeal.τ).loc Cert.DownfwdRefIdeal.main_arg1) = m ((c.tc : Thread Cert.DownfwdRefIdeal.nD Cert.DownfwdRefIdeal.τ).loc Cert.DownfwdRefIdeal.main_arg1)
      ∧ r.2.mem ((c.tc : Thread Cert.DownfwdRefIdeal.nD Cert.DownfwdRefIdeal.τ).loc Cert.DownfwdRefIdeal.main_arg2) = m ((c.tc : Thread Cert.DownfwdRefIdeal.nD Cert.DownfwdRefIdeal.τ).loc Cert.DownfwdRefIdeal.main_arg2))
      ∧ r.2.sem = fun _ => 0)

def quiescent_Downwt [hDownwt : Cert.Downwt.Facts] : Prop :=
  ∀ (m : (ℓ : Loc Cert.Downwt.nD Cert.Downwt.τ Cert.Downwt.sig) → Buf (Elt Bits) ℓ) (g : Dev Cert.Downwt.nD → PrngReg), Pre_Downwt m →
    θ_run (Cert.Downwt.defs (F := Bits)) (onTc (τ := Cert.Downwt.τ) (Cert.Downwt.main (F := Bits))) ⟨m, fun _ => 0, g⟩ (fun r => (∀ c : Dev Cert.Downwt.nD,
      r.2.mem ((c.tc : Thread Cert.Downwt.nD Cert.Downwt.τ).loc Cert.Downwt.main_arg0) = m ((c.tc : Thread Cert.Downwt.nD Cert.Downwt.τ).loc Cert.Downwt.main_arg0)
      ∧ r.2.mem ((c.tc : Thread Cert.Downwt.nD Cert.Downwt.τ).loc Cert.Downwt.main_arg1) = m ((c.tc : Thread Cert.Downwt.nD Cert.Downwt.τ).loc Cert.Downwt.main_arg1))
      ∧ r.2.sem = fun _ => 0)

def quiescent_DownwtIdeal [hDownwtIdeal : Cert.DownwtIdeal.Facts] : Prop :=
  ∀ (m : (ℓ : Loc Cert.DownwtIdeal.nD Cert.DownwtIdeal.τ Cert.DownwtIdeal.sig) → Buf (Elt Ideal) ℓ) (g : Dev Cert.DownwtIdeal.nD → PrngReg), Pre_DownwtIdeal m →
    θ_run (Cert.DownwtIdeal.defs (F := Ideal)) (onTc (τ := Cert.DownwtIdeal.τ) (Cert.DownwtIdeal.main (F := Ideal))) ⟨m, fun _ => 0, g⟩ (fun r => (∀ c : Dev Cert.DownwtIdeal.nD,
      r.2.mem ((c.tc : Thread Cert.DownwtIdeal.nD Cert.DownwtIdeal.τ).loc Cert.DownwtIdeal.main_arg0) = m ((c.tc : Thread Cert.DownwtIdeal.nD Cert.DownwtIdeal.τ).loc Cert.DownwtIdeal.main_arg0)
      ∧ r.2.mem ((c.tc : Thread Cert.DownwtIdeal.nD Cert.DownwtIdeal.τ).loc Cert.DownwtIdeal.main_arg1) = m ((c.tc : Thread Cert.DownwtIdeal.nD Cert.DownwtIdeal.τ).loc Cert.DownwtIdeal.main_arg1))
      ∧ r.2.sem = fun _ => 0)

def quiescent_DownwtRefIdeal [hDownwtRefIdeal : Cert.DownwtRefIdeal.Facts] : Prop :=
  ∀ (m : (ℓ : Loc Cert.DownwtRefIdeal.nD Cert.DownwtRefIdeal.τ Cert.DownwtRefIdeal.sig) → Buf (Elt Ideal) ℓ) (g : Dev Cert.DownwtRefIdeal.nD → PrngReg), Pre_DownwtRefIdeal m →
    θ_run (Cert.DownwtRefIdeal.defs (F := Ideal)) (onTc (τ := Cert.DownwtRefIdeal.τ) (Cert.DownwtRefIdeal.main (F := Ideal))) ⟨m, fun _ => 0, g⟩ (fun r => (∀ c : Dev Cert.DownwtRefIdeal.nD,
      r.2.mem ((c.tc : Thread Cert.DownwtRefIdeal.nD Cert.DownwtRefIdeal.τ).loc Cert.DownwtRefIdeal.main_arg0) = m ((c.tc : Thread Cert.DownwtRefIdeal.nD Cert.DownwtRefIdeal.τ).loc Cert.DownwtRefIdeal.main_arg0)
      ∧ r.2.mem ((c.tc : Thread Cert.DownwtRefIdeal.nD Cert.DownwtRefIdeal.τ).loc Cert.DownwtRefIdeal.main_arg1) = m ((c.tc : Thread Cert.DownwtRefIdeal.nD Cert.DownwtRefIdeal.τ).loc Cert.DownwtRefIdeal.main_arg1))
      ∧ r.2.sem = fun _ => 0)

def quiescent_Ffndata [hFfndata : Cert.Ffndata.Facts] : Prop :=
  ∀ (m : (ℓ : Loc Cert.Ffndata.nD Cert.Ffndata.τ Cert.Ffndata.sig) → Buf (Elt Bits) ℓ) (g : Dev Cert.Ffndata.nD → PrngReg), Pre_Ffndata m →
    θ_run (Cert.Ffndata.defs (F := Bits)) (onTc (τ := Cert.Ffndata.τ) (Cert.Ffndata.main (F := Bits))) ⟨m, fun _ => 0, g⟩ (fun r => (∀ c : Dev Cert.Ffndata.nD,
      r.2.mem ((c.tc : Thread Cert.Ffndata.nD Cert.Ffndata.τ).loc Cert.Ffndata.main_arg0) = m ((c.tc : Thread Cert.Ffndata.nD Cert.Ffndata.τ).loc Cert.Ffndata.main_arg0)
      ∧ r.2.mem ((c.tc : Thread Cert.Ffndata.nD Cert.Ffndata.τ).loc Cert.Ffndata.main_arg1) = m ((c.tc : Thread Cert.Ffndata.nD Cert.Ffndata.τ).loc Cert.Ffndata.main_arg1)
      ∧ r.2.mem ((c.tc : Thread Cert.Ffndata.nD Cert.Ffndata.τ).loc Cert.Ffndata.main_arg2) = m ((c.tc : Thread Cert.Ffndata.nD Cert.Ffndata.τ).loc Cert.Ffndata.main_arg2)
      ∧ r.2.mem ((c.tc : Thread Cert.Ffndata.nD Cert.Ffndata.τ).loc Cert.Ffndata.main_arg3) = m ((c.tc : Thread Cert.Ffndata.nD Cert.Ffndata.τ).loc Cert.Ffndata.main_arg3))
      ∧ r.2.sem = fun _ => 0)

def quiescent_FfndataIdeal [hFfndataIdeal : Cert.FfndataIdeal.Facts] : Prop :=
  ∀ (m : (ℓ : Loc Cert.FfndataIdeal.nD Cert.FfndataIdeal.τ Cert.FfndataIdeal.sig) → Buf (Elt Ideal) ℓ) (g : Dev Cert.FfndataIdeal.nD → PrngReg), Pre_FfndataIdeal m →
    θ_run (Cert.FfndataIdeal.defs (F := Ideal)) (onTc (τ := Cert.FfndataIdeal.τ) (Cert.FfndataIdeal.main (F := Ideal))) ⟨m, fun _ => 0, g⟩ (fun r => (∀ c : Dev Cert.FfndataIdeal.nD,
      r.2.mem ((c.tc : Thread Cert.FfndataIdeal.nD Cert.FfndataIdeal.τ).loc Cert.FfndataIdeal.main_arg0) = m ((c.tc : Thread Cert.FfndataIdeal.nD Cert.FfndataIdeal.τ).loc Cert.FfndataIdeal.main_arg0)
      ∧ r.2.mem ((c.tc : Thread Cert.FfndataIdeal.nD Cert.FfndataIdeal.τ).loc Cert.FfndataIdeal.main_arg1) = m ((c.tc : Thread Cert.FfndataIdeal.nD Cert.FfndataIdeal.τ).loc Cert.FfndataIdeal.main_arg1)
      ∧ r.2.mem ((c.tc : Thread Cert.FfndataIdeal.nD Cert.FfndataIdeal.τ).loc Cert.FfndataIdeal.main_arg2) = m ((c.tc : Thread Cert.FfndataIdeal.nD Cert.FfndataIdeal.τ).loc Cert.FfndataIdeal.main_arg2)
      ∧ r.2.mem ((c.tc : Thread Cert.FfndataIdeal.nD Cert.FfndataIdeal.τ).loc Cert.FfndataIdeal.main_arg3) = m ((c.tc : Thread Cert.FfndataIdeal.nD Cert.FfndataIdeal.τ).loc Cert.FfndataIdeal.main_arg3))
      ∧ r.2.sem = fun _ => 0)

def quiescent_FfndataRefIdeal [hFfndataRefIdeal : Cert.FfndataRefIdeal.Facts] : Prop :=
  ∀ (m : (ℓ : Loc Cert.FfndataRefIdeal.nD Cert.FfndataRefIdeal.τ Cert.FfndataRefIdeal.sig) → Buf (Elt Ideal) ℓ) (g : Dev Cert.FfndataRefIdeal.nD → PrngReg), Pre_FfndataRefIdeal m →
    θ_run (Cert.FfndataRefIdeal.defs (F := Ideal)) (onTc (τ := Cert.FfndataRefIdeal.τ) (Cert.FfndataRefIdeal.main (F := Ideal))) ⟨m, fun _ => 0, g⟩ (fun r => (∀ c : Dev Cert.FfndataRefIdeal.nD,
      r.2.mem ((c.tc : Thread Cert.FfndataRefIdeal.nD Cert.FfndataRefIdeal.τ).loc Cert.FfndataRefIdeal.main_arg0) = m ((c.tc : Thread Cert.FfndataRefIdeal.nD Cert.FfndataRefIdeal.τ).loc Cert.FfndataRefIdeal.main_arg0)
      ∧ r.2.mem ((c.tc : Thread Cert.FfndataRefIdeal.nD Cert.FfndataRefIdeal.τ).loc Cert.FfndataRefIdeal.main_arg1) = m ((c.tc : Thread Cert.FfndataRefIdeal.nD Cert.FfndataRefIdeal.τ).loc Cert.FfndataRefIdeal.main_arg1)
      ∧ r.2.mem ((c.tc : Thread Cert.FfndataRefIdeal.nD Cert.FfndataRefIdeal.τ).loc Cert.FfndataRefIdeal.main_arg2) = m ((c.tc : Thread Cert.FfndataRefIdeal.nD Cert.FfndataRefIdeal.τ).loc Cert.FfndataRefIdeal.main_arg2)
      ∧ r.2.mem ((c.tc : Thread Cert.FfndataRefIdeal.nD Cert.FfndataRefIdeal.τ).loc Cert.FfndataRefIdeal.main_arg3) = m ((c.tc : Thread Cert.FfndataRefIdeal.nD Cert.FfndataRefIdeal.τ).loc Cert.FfndataRefIdeal.main_arg3))
      ∧ r.2.sem = fun _ => 0)

def quiescent_Qkvdata [hQkvdata : Cert.Qkvdata.Facts] : Prop :=
  ∀ (m : (ℓ : Loc Cert.Qkvdata.nD Cert.Qkvdata.τ Cert.Qkvdata.sig) → Buf (Elt Bits) ℓ) (g : Dev Cert.Qkvdata.nD → PrngReg), Pre_Qkvdata m →
    θ_run (Cert.Qkvdata.defs (F := Bits)) (onTc (τ := Cert.Qkvdata.τ) (Cert.Qkvdata.main (F := Bits))) ⟨m, fun _ => 0, g⟩ (fun r => (∀ c : Dev Cert.Qkvdata.nD,
      r.2.mem ((c.tc : Thread Cert.Qkvdata.nD Cert.Qkvdata.τ).loc Cert.Qkvdata.main_arg0) = m ((c.tc : Thread Cert.Qkvdata.nD Cert.Qkvdata.τ).loc Cert.Qkvdata.main_arg0)
      ∧ r.2.mem ((c.tc : Thread Cert.Qkvdata.nD Cert.Qkvdata.τ).loc Cert.Qkvdata.main_arg1) = m ((c.tc : Thread Cert.Qkvdata.nD Cert.Qkvdata.τ).loc Cert.Qkvdata.main_arg1))
      ∧ r.2.sem = fun _ => 0)

def quiescent_QkvdataIdeal [hQkvdataIdeal : Cert.QkvdataIdeal.Facts] : Prop :=
  ∀ (m : (ℓ : Loc Cert.QkvdataIdeal.nD Cert.QkvdataIdeal.τ Cert.QkvdataIdeal.sig) → Buf (Elt Ideal) ℓ) (g : Dev Cert.QkvdataIdeal.nD → PrngReg), Pre_QkvdataIdeal m →
    θ_run (Cert.QkvdataIdeal.defs (F := Ideal)) (onTc (τ := Cert.QkvdataIdeal.τ) (Cert.QkvdataIdeal.main (F := Ideal))) ⟨m, fun _ => 0, g⟩ (fun r => (∀ c : Dev Cert.QkvdataIdeal.nD,
      r.2.mem ((c.tc : Thread Cert.QkvdataIdeal.nD Cert.QkvdataIdeal.τ).loc Cert.QkvdataIdeal.main_arg0) = m ((c.tc : Thread Cert.QkvdataIdeal.nD Cert.QkvdataIdeal.τ).loc Cert.QkvdataIdeal.main_arg0)
      ∧ r.2.mem ((c.tc : Thread Cert.QkvdataIdeal.nD Cert.QkvdataIdeal.τ).loc Cert.QkvdataIdeal.main_arg1) = m ((c.tc : Thread Cert.QkvdataIdeal.nD Cert.QkvdataIdeal.τ).loc Cert.QkvdataIdeal.main_arg1))
      ∧ r.2.sem = fun _ => 0)

def quiescent_QkvdataRefIdeal [hQkvdataRefIdeal : Cert.QkvdataRefIdeal.Facts] : Prop :=
  ∀ (m : (ℓ : Loc Cert.QkvdataRefIdeal.nD Cert.QkvdataRefIdeal.τ Cert.QkvdataRefIdeal.sig) → Buf (Elt Ideal) ℓ) (g : Dev Cert.QkvdataRefIdeal.nD → PrngReg), Pre_QkvdataRefIdeal m →
    θ_run (Cert.QkvdataRefIdeal.defs (F := Ideal)) (onTc (τ := Cert.QkvdataRefIdeal.τ) (Cert.QkvdataRefIdeal.main (F := Ideal))) ⟨m, fun _ => 0, g⟩ (fun r => (∀ c : Dev Cert.QkvdataRefIdeal.nD,
      r.2.mem ((c.tc : Thread Cert.QkvdataRefIdeal.nD Cert.QkvdataRefIdeal.τ).loc Cert.QkvdataRefIdeal.main_arg0) = m ((c.tc : Thread Cert.QkvdataRefIdeal.nD Cert.QkvdataRefIdeal.τ).loc Cert.QkvdataRefIdeal.main_arg0)
      ∧ r.2.mem ((c.tc : Thread Cert.QkvdataRefIdeal.nD Cert.QkvdataRefIdeal.τ).loc Cert.QkvdataRefIdeal.main_arg1) = m ((c.tc : Thread Cert.QkvdataRefIdeal.nD Cert.QkvdataRefIdeal.τ).loc Cert.QkvdataRefIdeal.main_arg1))
      ∧ r.2.sem = fun _ => 0)

def quiescent_Ffnwt [hFfnwt : Cert.Ffnwt.Facts] : Prop :=
  ∀ (m : (ℓ : Loc Cert.Ffnwt.nD Cert.Ffnwt.τ Cert.Ffnwt.sig) → Buf (Elt Bits) ℓ) (g : Dev Cert.Ffnwt.nD → PrngReg), Pre_Ffnwt m →
    θ_run (Cert.Ffnwt.defs (F := Bits)) (onTc (τ := Cert.Ffnwt.τ) (Cert.Ffnwt.main (F := Bits))) ⟨m, fun _ => 0, g⟩ (fun r => (∀ c : Dev Cert.Ffnwt.nD,
      r.2.mem ((c.tc : Thread Cert.Ffnwt.nD Cert.Ffnwt.τ).loc Cert.Ffnwt.main_arg0) = m ((c.tc : Thread Cert.Ffnwt.nD Cert.Ffnwt.τ).loc Cert.Ffnwt.main_arg0)
      ∧ r.2.mem ((c.tc : Thread Cert.Ffnwt.nD Cert.Ffnwt.τ).loc Cert.Ffnwt.main_arg1) = m ((c.tc : Thread Cert.Ffnwt.nD Cert.Ffnwt.τ).loc Cert.Ffnwt.main_arg1)
      ∧ r.2.mem ((c.tc : Thread Cert.Ffnwt.nD Cert.Ffnwt.τ).loc Cert.Ffnwt.main_arg2) = m ((c.tc : Thread Cert.Ffnwt.nD Cert.Ffnwt.τ).loc Cert.Ffnwt.main_arg2))
      ∧ r.2.sem = fun _ => 0)

def quiescent_FfnwtIdeal [hFfnwtIdeal : Cert.FfnwtIdeal.Facts] : Prop :=
  ∀ (m : (ℓ : Loc Cert.FfnwtIdeal.nD Cert.FfnwtIdeal.τ Cert.FfnwtIdeal.sig) → Buf (Elt Ideal) ℓ) (g : Dev Cert.FfnwtIdeal.nD → PrngReg), Pre_FfnwtIdeal m →
    θ_run (Cert.FfnwtIdeal.defs (F := Ideal)) (onTc (τ := Cert.FfnwtIdeal.τ) (Cert.FfnwtIdeal.main (F := Ideal))) ⟨m, fun _ => 0, g⟩ (fun r => (∀ c : Dev Cert.FfnwtIdeal.nD,
      r.2.mem ((c.tc : Thread Cert.FfnwtIdeal.nD Cert.FfnwtIdeal.τ).loc Cert.FfnwtIdeal.main_arg0) = m ((c.tc : Thread Cert.FfnwtIdeal.nD Cert.FfnwtIdeal.τ).loc Cert.FfnwtIdeal.main_arg0)
      ∧ r.2.mem ((c.tc : Thread Cert.FfnwtIdeal.nD Cert.FfnwtIdeal.τ).loc Cert.FfnwtIdeal.main_arg1) = m ((c.tc : Thread Cert.FfnwtIdeal.nD Cert.FfnwtIdeal.τ).loc Cert.FfnwtIdeal.main_arg1)
      ∧ r.2.mem ((c.tc : Thread Cert.FfnwtIdeal.nD Cert.FfnwtIdeal.τ).loc Cert.FfnwtIdeal.main_arg2) = m ((c.tc : Thread Cert.FfnwtIdeal.nD Cert.FfnwtIdeal.τ).loc Cert.FfnwtIdeal.main_arg2))
      ∧ r.2.sem = fun _ => 0)

def quiescent_FfnwtRefIdeal [hFfnwtRefIdeal : Cert.FfnwtRefIdeal.Facts] : Prop :=
  ∀ (m : (ℓ : Loc Cert.FfnwtRefIdeal.nD Cert.FfnwtRefIdeal.τ Cert.FfnwtRefIdeal.sig) → Buf (Elt Ideal) ℓ) (g : Dev Cert.FfnwtRefIdeal.nD → PrngReg), Pre_FfnwtRefIdeal m →
    θ_run (Cert.FfnwtRefIdeal.defs (F := Ideal)) (onTc (τ := Cert.FfnwtRefIdeal.τ) (Cert.FfnwtRefIdeal.main (F := Ideal))) ⟨m, fun _ => 0, g⟩ (fun r => (∀ c : Dev Cert.FfnwtRefIdeal.nD,
      r.2.mem ((c.tc : Thread Cert.FfnwtRefIdeal.nD Cert.FfnwtRefIdeal.τ).loc Cert.FfnwtRefIdeal.main_arg0) = m ((c.tc : Thread Cert.FfnwtRefIdeal.nD Cert.FfnwtRefIdeal.τ).loc Cert.FfnwtRefIdeal.main_arg0)
      ∧ r.2.mem ((c.tc : Thread Cert.FfnwtRefIdeal.nD Cert.FfnwtRefIdeal.τ).loc Cert.FfnwtRefIdeal.main_arg1) = m ((c.tc : Thread Cert.FfnwtRefIdeal.nD Cert.FfnwtRefIdeal.τ).loc Cert.FfnwtRefIdeal.main_arg1)
      ∧ r.2.mem ((c.tc : Thread Cert.FfnwtRefIdeal.nD Cert.FfnwtRefIdeal.τ).loc Cert.FfnwtRefIdeal.main_arg2) = m ((c.tc : Thread Cert.FfnwtRefIdeal.nD Cert.FfnwtRefIdeal.τ).loc Cert.FfnwtRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Sumdev [hSumdev : Cert.Sumdev.Facts] : Prop :=
  ∀ (m : (ℓ : Loc Cert.Sumdev.nD Cert.Sumdev.τ Cert.Sumdev.sig) → Buf (Elt Bits) ℓ) (g : Dev Cert.Sumdev.nD → PrngReg), Pre_Sumdev m →
    θ_run (Cert.Sumdev.defs (F := Bits)) (onTc (τ := Cert.Sumdev.τ) (Cert.Sumdev.main (F := Bits))) ⟨m, fun _ => 0, g⟩ (fun r => (∀ c : Dev Cert.Sumdev.nD,
      r.2.mem ((c.tc : Thread Cert.Sumdev.nD Cert.Sumdev.τ).loc Cert.Sumdev.main_arg0) = m ((c.tc : Thread Cert.Sumdev.nD Cert.Sumdev.τ).loc Cert.Sumdev.main_arg0))
      ∧ r.2.sem = fun _ => 0)

def quiescent_SumdevIdeal [hSumdevIdeal : Cert.SumdevIdeal.Facts] : Prop :=
  ∀ (m : (ℓ : Loc Cert.SumdevIdeal.nD Cert.SumdevIdeal.τ Cert.SumdevIdeal.sig) → Buf (Elt Ideal) ℓ) (g : Dev Cert.SumdevIdeal.nD → PrngReg), Pre_SumdevIdeal m →
    θ_run (Cert.SumdevIdeal.defs (F := Ideal)) (onTc (τ := Cert.SumdevIdeal.τ) (Cert.SumdevIdeal.main (F := Ideal))) ⟨m, fun _ => 0, g⟩ (fun r => (∀ c : Dev Cert.SumdevIdeal.nD,
      r.2.mem ((c.tc : Thread Cert.SumdevIdeal.nD Cert.SumdevIdeal.τ).loc Cert.SumdevIdeal.main_arg0) = m ((c.tc : Thread Cert.SumdevIdeal.nD Cert.SumdevIdeal.τ).loc Cert.SumdevIdeal.main_arg0))
      ∧ r.2.sem = fun _ => 0)

def quiescent_SumdevRefIdeal [hSumdevRefIdeal : Cert.SumdevRefIdeal.Facts] : Prop :=
  ∀ (m : (ℓ : Loc Cert.SumdevRefIdeal.nD Cert.SumdevRefIdeal.τ Cert.SumdevRefIdeal.sig) → Buf (Elt Ideal) ℓ) (g : Dev Cert.SumdevRefIdeal.nD → PrngReg), Pre_SumdevRefIdeal m →
    θ_run (Cert.SumdevRefIdeal.defs (F := Ideal)) (onTc (τ := Cert.SumdevRefIdeal.τ) (Cert.SumdevRefIdeal.main (F := Ideal))) ⟨m, fun _ => 0, g⟩ (fun r => (∀ c : Dev Cert.SumdevRefIdeal.nD,
      r.2.mem ((c.tc : Thread Cert.SumdevRefIdeal.nD Cert.SumdevRefIdeal.τ).loc Cert.SumdevRefIdeal.main_arg0) = m ((c.tc : Thread Cert.SumdevRefIdeal.nD Cert.SumdevRefIdeal.τ).loc Cert.SumdevRefIdeal.main_arg0))
      ∧ r.2.sem = fun _ => 0)

def quiescent_Pooldata [hPooldata : Cert.Pooldata.Facts] : Prop :=
  ∀ (m : (ℓ : Loc Cert.Pooldata.nD Cert.Pooldata.τ Cert.Pooldata.sig) → Buf (Elt Bits) ℓ) (g : Dev Cert.Pooldata.nD → PrngReg), Pre_Pooldata m →
    θ_run (Cert.Pooldata.defs (F := Bits)) (onTc (τ := Cert.Pooldata.τ) (Cert.Pooldata.main (F := Bits))) ⟨m, fun _ => 0, g⟩ (fun r => (∀ c : Dev Cert.Pooldata.nD,
      r.2.mem ((c.tc : Thread Cert.Pooldata.nD Cert.Pooldata.τ).loc Cert.Pooldata.main_arg0) = m ((c.tc : Thread Cert.Pooldata.nD Cert.Pooldata.τ).loc Cert.Pooldata.main_arg0)
      ∧ r.2.mem ((c.tc : Thread Cert.Pooldata.nD Cert.Pooldata.τ).loc Cert.Pooldata.main_arg1) = m ((c.tc : Thread Cert.Pooldata.nD Cert.Pooldata.τ).loc Cert.Pooldata.main_arg1))
      ∧ r.2.sem = fun _ => 0)

def quiescent_PooldataIdeal [hPooldataIdeal : Cert.PooldataIdeal.Facts] : Prop :=
  ∀ (m : (ℓ : Loc Cert.PooldataIdeal.nD Cert.PooldataIdeal.τ Cert.PooldataIdeal.sig) → Buf (Elt Ideal) ℓ) (g : Dev Cert.PooldataIdeal.nD → PrngReg), Pre_PooldataIdeal m →
    θ_run (Cert.PooldataIdeal.defs (F := Ideal)) (onTc (τ := Cert.PooldataIdeal.τ) (Cert.PooldataIdeal.main (F := Ideal))) ⟨m, fun _ => 0, g⟩ (fun r => (∀ c : Dev Cert.PooldataIdeal.nD,
      r.2.mem ((c.tc : Thread Cert.PooldataIdeal.nD Cert.PooldataIdeal.τ).loc Cert.PooldataIdeal.main_arg0) = m ((c.tc : Thread Cert.PooldataIdeal.nD Cert.PooldataIdeal.τ).loc Cert.PooldataIdeal.main_arg0)
      ∧ r.2.mem ((c.tc : Thread Cert.PooldataIdeal.nD Cert.PooldataIdeal.τ).loc Cert.PooldataIdeal.main_arg1) = m ((c.tc : Thread Cert.PooldataIdeal.nD Cert.PooldataIdeal.τ).loc Cert.PooldataIdeal.main_arg1))
      ∧ r.2.sem = fun _ => 0)

def quiescent_PooldataRefIdeal [hPooldataRefIdeal : Cert.PooldataRefIdeal.Facts] : Prop :=
  ∀ (m : (ℓ : Loc Cert.PooldataRefIdeal.nD Cert.PooldataRefIdeal.τ Cert.PooldataRefIdeal.sig) → Buf (Elt Ideal) ℓ) (g : Dev Cert.PooldataRefIdeal.nD → PrngReg), Pre_PooldataRefIdeal m →
    θ_run (Cert.PooldataRefIdeal.defs (F := Ideal)) (onTc (τ := Cert.PooldataRefIdeal.τ) (Cert.PooldataRefIdeal.main (F := Ideal))) ⟨m, fun _ => 0, g⟩ (fun r => (∀ c : Dev Cert.PooldataRefIdeal.nD,
      r.2.mem ((c.tc : Thread Cert.PooldataRefIdeal.nD Cert.PooldataRefIdeal.τ).loc Cert.PooldataRefIdeal.main_arg0) = m ((c.tc : Thread Cert.PooldataRefIdeal.nD Cert.PooldataRefIdeal.τ).loc Cert.PooldataRefIdeal.main_arg0)
      ∧ r.2.mem ((c.tc : Thread Cert.PooldataRefIdeal.nD Cert.PooldataRefIdeal.τ).loc Cert.PooldataRefIdeal.main_arg1) = m ((c.tc : Thread Cert.PooldataRefIdeal.nD Cert.PooldataRefIdeal.τ).loc Cert.PooldataRefIdeal.main_arg1))
      ∧ r.2.sem = fun _ => 0)

def quiescent_Poolwt [hPoolwt : Cert.Poolwt.Facts] : Prop :=
  ∀ (m : (ℓ : Loc Cert.Poolwt.nD Cert.Poolwt.τ Cert.Poolwt.sig) → Buf (Elt Bits) ℓ) (g : Dev Cert.Poolwt.nD → PrngReg), Pre_Poolwt m →
    θ_run (Cert.Poolwt.defs (F := Bits)) (onTc (τ := Cert.Poolwt.τ) (Cert.Poolwt.main (F := Bits))) ⟨m, fun _ => 0, g⟩ (fun r => (∀ c : Dev Cert.Poolwt.nD,
      r.2.mem ((c.tc : Thread Cert.Poolwt.nD Cert.Poolwt.τ).loc Cert.Poolwt.main_arg0) = m ((c.tc : Thread Cert.Poolwt.nD Cert.Poolwt.τ).loc Cert.Poolwt.main_arg0)
      ∧ r.2.mem ((c.tc : Thread Cert.Poolwt.nD Cert.Poolwt.τ).loc Cert.Poolwt.main_arg1) = m ((c.tc : Thread Cert.Poolwt.nD Cert.Poolwt.τ).loc Cert.Poolwt.main_arg1))
      ∧ r.2.sem = fun _ => 0)

def quiescent_PoolwtIdeal [hPoolwtIdeal : Cert.PoolwtIdeal.Facts] : Prop :=
  ∀ (m : (ℓ : Loc Cert.PoolwtIdeal.nD Cert.PoolwtIdeal.τ Cert.PoolwtIdeal.sig) → Buf (Elt Ideal) ℓ) (g : Dev Cert.PoolwtIdeal.nD → PrngReg), Pre_PoolwtIdeal m →
    θ_run (Cert.PoolwtIdeal.defs (F := Ideal)) (onTc (τ := Cert.PoolwtIdeal.τ) (Cert.PoolwtIdeal.main (F := Ideal))) ⟨m, fun _ => 0, g⟩ (fun r => (∀ c : Dev Cert.PoolwtIdeal.nD,
      r.2.mem ((c.tc : Thread Cert.PoolwtIdeal.nD Cert.PoolwtIdeal.τ).loc Cert.PoolwtIdeal.main_arg0) = m ((c.tc : Thread Cert.PoolwtIdeal.nD Cert.PoolwtIdeal.τ).loc Cert.PoolwtIdeal.main_arg0)
      ∧ r.2.mem ((c.tc : Thread Cert.PoolwtIdeal.nD Cert.PoolwtIdeal.τ).loc Cert.PoolwtIdeal.main_arg1) = m ((c.tc : Thread Cert.PoolwtIdeal.nD Cert.PoolwtIdeal.τ).loc Cert.PoolwtIdeal.main_arg1))
      ∧ r.2.sem = fun _ => 0)

def quiescent_PoolwtRefIdeal [hPoolwtRefIdeal : Cert.PoolwtRefIdeal.Facts] : Prop :=
  ∀ (m : (ℓ : Loc Cert.PoolwtRefIdeal.nD Cert.PoolwtRefIdeal.τ Cert.PoolwtRefIdeal.sig) → Buf (Elt Ideal) ℓ) (g : Dev Cert.PoolwtRefIdeal.nD → PrngReg), Pre_PoolwtRefIdeal m →
    θ_run (Cert.PoolwtRefIdeal.defs (F := Ideal)) (onTc (τ := Cert.PoolwtRefIdeal.τ) (Cert.PoolwtRefIdeal.main (F := Ideal))) ⟨m, fun _ => 0, g⟩ (fun r => (∀ c : Dev Cert.PoolwtRefIdeal.nD,
      r.2.mem ((c.tc : Thread Cert.PoolwtRefIdeal.nD Cert.PoolwtRefIdeal.τ).loc Cert.PoolwtRefIdeal.main_arg0) = m ((c.tc : Thread Cert.PoolwtRefIdeal.nD Cert.PoolwtRefIdeal.τ).loc Cert.PoolwtRefIdeal.main_arg0)
      ∧ r.2.mem ((c.tc : Thread Cert.PoolwtRefIdeal.nD Cert.PoolwtRefIdeal.τ).loc Cert.PoolwtRefIdeal.main_arg1) = m ((c.tc : Thread Cert.PoolwtRefIdeal.nD Cert.PoolwtRefIdeal.τ).loc Cert.PoolwtRefIdeal.main_arg1))
      ∧ r.2.sem = fun _ => 0)

def preserves_Scale_ScaleIdeal : Prop :=
  True

def algebraic_ScaleIdeal_ScaleRefIdeal [hScaleIdeal : Cert.ScaleIdeal.Facts] [hScaleRefIdeal : Cert.ScaleRefIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleRefIdeal.nD Cert.ScaleRefIdeal.τ Cert.ScaleRefIdeal.sig) → Buf (Elt Ideal) ℓ) (g' : Dev Cert.ScaleRefIdeal.nD → PrngReg), Pre_ScaleIdeal m →
    (∀ c : Dev Cert.ScaleIdeal.nD,
      m' ((c.tc : Thread Cert.ScaleRefIdeal.nD Cert.ScaleRefIdeal.τ).loc Cert.ScaleRefIdeal.main_arg0) = m ((c.tc : Thread Cert.ScaleIdeal.nD Cert.ScaleIdeal.τ).loc Cert.ScaleIdeal.main_arg0)
      ∧ m' ((c.tc : Thread Cert.ScaleRefIdeal.nD Cert.ScaleRefIdeal.τ).loc Cert.ScaleRefIdeal.main_arg1) = m ((c.tc : Thread Cert.ScaleIdeal.nD Cert.ScaleIdeal.τ).loc Cert.ScaleIdeal.main_arg1)
      ∧ m' ((c.tc : Thread Cert.ScaleRefIdeal.nD Cert.ScaleRefIdeal.τ).loc Cert.ScaleRefIdeal.main_arg2) = m ((c.tc : Thread Cert.ScaleIdeal.nD Cert.ScaleIdeal.τ).loc Cert.ScaleIdeal.main_arg2)) →
    ∃ (v0 : (c : Dev Cert.ScaleIdeal.nD) → Buf (Elt Ideal) ((c.tc : Thread Cert.ScaleIdeal.nD Cert.ScaleIdeal.τ).loc Cert.ScaleIdeal.main_v1_0)) (v1 : (c : Dev Cert.ScaleIdeal.nD) → Buf (Elt Ideal) ((c.tc : Thread Cert.ScaleIdeal.nD Cert.ScaleIdeal.τ).loc Cert.ScaleIdeal.main_v1_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v1_0) = v0 c
          ∧ r.2.mem ((c.tc : Thread Cert.ScaleIdeal.nD Cert.ScaleIdeal.τ).loc Cert.ScaleIdeal.main_v1_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
          ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
          ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ θ_run (Cert.ScaleRefIdeal.defs (F := Ideal)) (onTc (τ := Cert.ScaleRefIdeal.τ) (Cert.ScaleRefIdeal.main (F := Ideal))) ⟨m', fun _ => 0, g'⟩ (fun r => ∀ c : Dev Cert.ScaleRefIdeal.nD,
          r.2.mem ((c.tc : Thread Cert.ScaleRefIdeal.nD Cert.ScaleRefIdeal.τ).loc Cert.ScaleRefIdeal.main_v9) = v0 c
          ∧ r.2.mem ((c.tc : Thread Cert.ScaleRefIdeal.nD Cert.ScaleRefIdeal.τ).loc Cert.ScaleRefIdeal.main_v6) = v1 c
          ∧ r.2.mem ((c.tc : Thread Cert.ScaleRefIdeal.nD Cert.ScaleRefIdeal.τ).loc Cert.ScaleRefIdeal.main_arg0) = m' ((c.tc : Thread Cert.ScaleRefIdeal.nD Cert.ScaleRefIdeal.τ).loc Cert.ScaleRefIdeal.main_arg0)
          ∧ r.2.mem ((c.tc : Thread Cert.ScaleRefIdeal.nD Cert.ScaleRefIdeal.τ).loc Cert.ScaleRefIdeal.main_arg1) = m' ((c.tc : Thread Cert.ScaleRefIdeal.nD Cert.ScaleRefIdeal.τ).loc Cert.ScaleRefIdeal.main_arg1)
          ∧ r.2.mem ((c.tc : Thread Cert.ScaleRefIdeal.nD Cert.ScaleRefIdeal.τ).loc Cert.ScaleRefIdeal.main_arg2) = m' ((c.tc : Thread Cert.ScaleRefIdeal.nD Cert.ScaleRefIdeal.τ).loc Cert.ScaleRefIdeal.main_arg2))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v14_0)) (v1 : (c : Dev Cert.AttnIdeal.nD) → Buf (Elt Ideal) ((c.tc : Thread Cert.AttnIdeal.nD Cert.AttnIdeal.τ).loc Cert.AttnIdeal.main_v25_0)) (v2 : (c : Dev Cert.AttnIdeal.nD) → Buf (Elt Ideal) ((c.tc : Thread Cert.AttnIdeal.nD Cert.AttnIdeal.τ).loc Cert.AttnIdeal.main_v25_1)) (v3 : (c : Dev Cert.AttnIdeal.nD) → Buf (Elt Ideal) ((c.tc : Thread Cert.AttnIdeal.nD Cert.AttnIdeal.τ).loc Cert.AttnIdeal.main_v25_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14_0) = v0 c
          ∧ r.2.mem ((c.tc : Thread Cert.AttnIdeal.nD Cert.AttnIdeal.τ).loc Cert.AttnIdeal.main_v25_0) = v1 c
          ∧ r.2.mem ((c.tc : Thread Cert.AttnIdeal.nD Cert.AttnIdeal.τ).loc Cert.AttnIdeal.main_v25_1) = v2 c
          ∧ r.2.mem ((c.tc : Thread Cert.AttnIdeal.nD Cert.AttnIdeal.τ).loc Cert.AttnIdeal.main_v25_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_v53) = v1 c
          ∧ r.2.mem ((c.tc : Thread Cert.AttnRefIdeal.nD Cert.AttnRefIdeal.τ).loc Cert.AttnRefIdeal.main_v52) = v2 c
          ∧ r.2.mem ((c.tc : Thread Cert.AttnRefIdeal.nD Cert.AttnRefIdeal.τ).loc Cert.AttnRefIdeal.main_v51) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_v19) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v80) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v34) = v0 c
          ∧ r.2.mem ((c.tc : Thread Cert.NormRefIdeal.nD Cert.NormRefIdeal.τ).loc Cert.NormRefIdeal.main_v35) = v1 c
          ∧ r.2.mem ((c.tc : Thread Cert.NormRefIdeal.nD Cert.NormRefIdeal.τ).loc Cert.NormRefIdeal.main_v17) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Heads_HeadsIdeal : Prop :=
  True

def algebraic_HeadsIdeal_HeadsRefIdeal_pre_heads_finite [hHeadsIdeal : Cert.HeadsIdeal.Facts] [hHeadsRefIdeal : Cert.HeadsRefIdeal.Facts] [hPre_heads_finite : Cert.Pre_heads_finite.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal_heads_finite m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)) →
    ∃ (v0 : (c : Dev Cert.HeadsIdeal.nD) → Buf (Elt Ideal) ((c.tc : Thread Cert.HeadsIdeal.nD Cert.HeadsIdeal.τ).loc Cert.HeadsIdeal.main_v0_0)) (v1 : (c : Dev Cert.HeadsIdeal.nD) → Buf (Elt Ideal) ((c.tc : Thread Cert.HeadsIdeal.nD Cert.HeadsIdeal.τ).loc Cert.HeadsIdeal.main_v0_1)) (v2 : (c : Dev Cert.HeadsIdeal.nD) → Buf (Elt Ideal) ((c.tc : Thread Cert.HeadsIdeal.nD Cert.HeadsIdeal.τ).loc Cert.HeadsIdeal.main_v0_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0_0) = v0 c
          ∧ r.2.mem ((c.tc : Thread Cert.HeadsIdeal.nD Cert.HeadsIdeal.τ).loc Cert.HeadsIdeal.main_v0_1) = v1 c
          ∧ r.2.mem ((c.tc : Thread Cert.HeadsIdeal.nD Cert.HeadsIdeal.τ).loc Cert.HeadsIdeal.main_v0_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v100) = v0 c
          ∧ r.2.mem ((c.tc : Thread Cert.HeadsRefIdeal.nD Cert.HeadsRefIdeal.τ).loc Cert.HeadsRefIdeal.main_v81) = v1 c
          ∧ r.2.mem ((c.tc : Thread Cert.HeadsRefIdeal.nD Cert.HeadsRefIdeal.τ).loc Cert.HeadsRefIdeal.main_v54) = v2 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_v14) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v141) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_Normfwd_NormfwdIdeal : Prop :=
  True

def algebraic_NormfwdIdeal_NormfwdRefIdeal [hNormfwdIdeal : Cert.NormfwdIdeal.Facts] [hNormfwdRefIdeal : Cert.NormfwdRefIdeal.Facts] : Prop :=
  ∀ (m : (ℓ : Loc Cert.NormfwdIdeal.nD Cert.NormfwdIdeal.τ Cert.NormfwdIdeal.sig) → Buf (Elt Ideal) ℓ) (g : Dev Cert.NormfwdIdeal.nD → PrngReg)
    (m' : (ℓ : Loc Cert.NormfwdRefIdeal.nD Cert.NormfwdRefIdeal.τ Cert.NormfwdRefIdeal.sig) → Buf (Elt Ideal) ℓ) (g' : Dev Cert.NormfwdRefIdeal.nD → PrngReg), Pre_NormfwdIdeal m →
    (∀ c : Dev Cert.NormfwdIdeal.nD,
      m' ((c.tc : Thread Cert.NormfwdRefIdeal.nD Cert.NormfwdRefIdeal.τ).loc Cert.NormfwdRefIdeal.main_arg0) = m ((c.tc : Thread Cert.NormfwdIdeal.nD Cert.NormfwdIdeal.τ).loc Cert.NormfwdIdeal.main_arg0)
      ∧ m' ((c.tc : Thread Cert.NormfwdRefIdeal.nD Cert.NormfwdRefIdeal.τ).loc Cert.NormfwdRefIdeal.main_arg1) = m ((c.tc : Thread Cert.NormfwdIdeal.nD Cert.NormfwdIdeal.τ).loc Cert.NormfwdIdeal.main_arg1)) →
    ∃ (v0 : (c : Dev Cert.NormfwdIdeal.nD) → Buf (Elt Ideal) ((c.tc : Thread Cert.NormfwdIdeal.nD Cert.NormfwdIdeal.τ).loc Cert.NormfwdIdeal.main_v0)),
      θ_run (Cert.NormfwdIdeal.defs (F := Ideal)) (onTc (τ := Cert.NormfwdIdeal.τ) (Cert.NormfwdIdeal.main (F := Ideal))) ⟨m, fun _ => 0, g⟩ (fun r => ∀ c : Dev Cert.NormfwdIdeal.nD,
          r.2.mem ((c.tc : Thread Cert.NormfwdIdeal.nD Cert.NormfwdIdeal.τ).loc Cert.NormfwdIdeal.main_v0) = v0 c
          ∧ r.2.mem ((c.tc : Thread Cert.NormfwdIdeal.nD Cert.NormfwdIdeal.τ).loc Cert.NormfwdIdeal.main_arg0) = m ((c.tc : Thread Cert.NormfwdIdeal.nD Cert.NormfwdIdeal.τ).loc Cert.NormfwdIdeal.main_arg0)
          ∧ r.2.mem ((c.tc : Thread Cert.NormfwdIdeal.nD Cert.NormfwdIdeal.τ).loc Cert.NormfwdIdeal.main_arg1) = m ((c.tc : Thread Cert.NormfwdIdeal.nD Cert.NormfwdIdeal.τ).loc Cert.NormfwdIdeal.main_arg1))
      ∧ θ_run (Cert.NormfwdRefIdeal.defs (F := Ideal)) (onTc (τ := Cert.NormfwdRefIdeal.τ) (Cert.NormfwdRefIdeal.main (F := Ideal))) ⟨m', fun _ => 0, g'⟩ (fun r => ∀ c : Dev Cert.NormfwdRefIdeal.nD,
          r.2.mem ((c.tc : Thread Cert.NormfwdRefIdeal.nD Cert.NormfwdRefIdeal.τ).loc Cert.NormfwdRefIdeal.main_v12) = v0 c
          ∧ r.2.mem ((c.tc : Thread Cert.NormfwdRefIdeal.nD Cert.NormfwdRefIdeal.τ).loc Cert.NormfwdRefIdeal.main_arg0) = m' ((c.tc : Thread Cert.NormfwdRefIdeal.nD Cert.NormfwdRefIdeal.τ).loc Cert.NormfwdRefIdeal.main_arg0)
          ∧ r.2.mem ((c.tc : Thread Cert.NormfwdRefIdeal.nD Cert.NormfwdRefIdeal.τ).loc Cert.NormfwdRefIdeal.main_arg1) = m' ((c.tc : Thread Cert.NormfwdRefIdeal.nD Cert.NormfwdRefIdeal.τ).loc Cert.NormfwdRefIdeal.main_arg1))

def preserves_Headsfwd_HeadsfwdIdeal : Prop :=
  True

def algebraic_HeadsfwdIdeal_HeadsfwdRefIdeal [hHeadsfwdIdeal : Cert.HeadsfwdIdeal.Facts] [hHeadsfwdRefIdeal : Cert.HeadsfwdRefIdeal.Facts] : Prop :=
  ∀ (m : (ℓ : Loc Cert.HeadsfwdIdeal.nD Cert.HeadsfwdIdeal.τ Cert.HeadsfwdIdeal.sig) → Buf (Elt Ideal) ℓ) (g : Dev Cert.HeadsfwdIdeal.nD → PrngReg)
    (m' : (ℓ : Loc Cert.HeadsfwdRefIdeal.nD Cert.HeadsfwdRefIdeal.τ Cert.HeadsfwdRefIdeal.sig) → Buf (Elt Ideal) ℓ) (g' : Dev Cert.HeadsfwdRefIdeal.nD → PrngReg), Pre_HeadsfwdIdeal m →
    (∀ c : Dev Cert.HeadsfwdIdeal.nD,
      m' ((c.tc : Thread Cert.HeadsfwdRefIdeal.nD Cert.HeadsfwdRefIdeal.τ).loc Cert.HeadsfwdRefIdeal.main_arg0) = m ((c.tc : Thread Cert.HeadsfwdIdeal.nD Cert.HeadsfwdIdeal.τ).loc Cert.HeadsfwdIdeal.main_arg0)
      ∧ m' ((c.tc : Thread Cert.HeadsfwdRefIdeal.nD Cert.HeadsfwdRefIdeal.τ).loc Cert.HeadsfwdRefIdeal.main_arg1) = m ((c.tc : Thread Cert.HeadsfwdIdeal.nD Cert.HeadsfwdIdeal.τ).loc Cert.HeadsfwdIdeal.main_arg1)
      ∧ m' ((c.tc : Thread Cert.HeadsfwdRefIdeal.nD Cert.HeadsfwdRefIdeal.τ).loc Cert.HeadsfwdRefIdeal.main_arg2) = m ((c.tc : Thread Cert.HeadsfwdIdeal.nD Cert.HeadsfwdIdeal.τ).loc Cert.HeadsfwdIdeal.main_arg2)) →
    ∃ (v0 : (c : Dev Cert.HeadsfwdIdeal.nD) → Buf (Elt Ideal) ((c.tc : Thread Cert.HeadsfwdIdeal.nD Cert.HeadsfwdIdeal.τ).loc Cert.HeadsfwdIdeal.main_v0_0)) (v1 : (c : Dev Cert.HeadsfwdIdeal.nD) → Buf (Elt Ideal) ((c.tc : Thread Cert.HeadsfwdIdeal.nD Cert.HeadsfwdIdeal.τ).loc Cert.HeadsfwdIdeal.main_v0_1)) (v2 : (c : Dev Cert.HeadsfwdIdeal.nD) → Buf (Elt Ideal) ((c.tc : Thread Cert.HeadsfwdIdeal.nD Cert.HeadsfwdIdeal.τ).loc Cert.HeadsfwdIdeal.main_v0_2)),
      θ_run (Cert.HeadsfwdIdeal.defs (F := Ideal)) (onTc (τ := Cert.HeadsfwdIdeal.τ) (Cert.HeadsfwdIdeal.main (F := Ideal))) ⟨m, fun _ => 0, g⟩ (fun r => ∀ c : Dev Cert.HeadsfwdIdeal.nD,
          r.2.mem ((c.tc : Thread Cert.HeadsfwdIdeal.nD Cert.HeadsfwdIdeal.τ).loc Cert.HeadsfwdIdeal.main_v0_0) = v0 c
          ∧ r.2.mem ((c.tc : Thread Cert.HeadsfwdIdeal.nD Cert.HeadsfwdIdeal.τ).loc Cert.HeadsfwdIdeal.main_v0_1) = v1 c
          ∧ r.2.mem ((c.tc : Thread Cert.HeadsfwdIdeal.nD Cert.HeadsfwdIdeal.τ).loc Cert.HeadsfwdIdeal.main_v0_2) = v2 c
          ∧ r.2.mem ((c.tc : Thread Cert.HeadsfwdIdeal.nD Cert.HeadsfwdIdeal.τ).loc Cert.HeadsfwdIdeal.main_arg0) = m ((c.tc : Thread Cert.HeadsfwdIdeal.nD Cert.HeadsfwdIdeal.τ).loc Cert.HeadsfwdIdeal.main_arg0)
          ∧ r.2.mem ((c.tc : Thread Cert.HeadsfwdIdeal.nD Cert.HeadsfwdIdeal.τ).loc Cert.HeadsfwdIdeal.main_arg1) = m ((c.tc : Thread Cert.HeadsfwdIdeal.nD Cert.HeadsfwdIdeal.τ).loc Cert.HeadsfwdIdeal.main_arg1)
          ∧ r.2.mem ((c.tc : Thread Cert.HeadsfwdIdeal.nD Cert.HeadsfwdIdeal.τ).loc Cert.HeadsfwdIdeal.main_arg2) = m ((c.tc : Thread Cert.HeadsfwdIdeal.nD Cert.HeadsfwdIdeal.τ).loc Cert.HeadsfwdIdeal.main_arg2))
      ∧ θ_run (Cert.HeadsfwdRefIdeal.defs (F := Ideal)) (onTc (τ := Cert.HeadsfwdRefIdeal.τ) (Cert.HeadsfwdRefIdeal.main (F := Ideal))) ⟨m', fun _ => 0, g'⟩ (fun r => ∀ c : Dev Cert.HeadsfwdRefIdeal.nD,
          r.2.mem ((c.tc : Thread Cert.HeadsfwdRefIdeal.nD Cert.HeadsfwdRefIdeal.τ).loc Cert.HeadsfwdRefIdeal.main_v38) = v0 c
          ∧ r.2.mem ((c.tc : Thread Cert.HeadsfwdRefIdeal.nD Cert.HeadsfwdRefIdeal.τ).loc Cert.HeadsfwdRefIdeal.main_v39) = v1 c
          ∧ r.2.mem ((c.tc : Thread Cert.HeadsfwdRefIdeal.nD Cert.HeadsfwdRefIdeal.τ).loc Cert.HeadsfwdRefIdeal.main_v40) = v2 c
          ∧ r.2.mem ((c.tc : Thread Cert.HeadsfwdRefIdeal.nD Cert.HeadsfwdRefIdeal.τ).loc Cert.HeadsfwdRefIdeal.main_arg0) = m' ((c.tc : Thread Cert.HeadsfwdRefIdeal.nD Cert.HeadsfwdRefIdeal.τ).loc Cert.HeadsfwdRefIdeal.main_arg0)
          ∧ r.2.mem ((c.tc : Thread Cert.HeadsfwdRefIdeal.nD Cert.HeadsfwdRefIdeal.τ).loc Cert.HeadsfwdRefIdeal.main_arg1) = m' ((c.tc : Thread Cert.HeadsfwdRefIdeal.nD Cert.HeadsfwdRefIdeal.τ).loc Cert.HeadsfwdRefIdeal.main_arg1)
          ∧ r.2.mem ((c.tc : Thread Cert.HeadsfwdRefIdeal.nD Cert.HeadsfwdRefIdeal.τ).loc Cert.HeadsfwdRefIdeal.main_arg2) = m' ((c.tc : Thread Cert.HeadsfwdRefIdeal.nD Cert.HeadsfwdRefIdeal.τ).loc Cert.HeadsfwdRefIdeal.main_arg2))

def preserves_Poolfwd_PoolfwdIdeal : Prop :=
  True

def algebraic_PoolfwdIdeal_PoolfwdRefIdeal_pre_poolfwd_finite [hPoolfwdIdeal : Cert.PoolfwdIdeal.Facts] [hPoolfwdRefIdeal : Cert.PoolfwdRefIdeal.Facts] [hPre_poolfwd_finite : Cert.Pre_poolfwd_finite.Facts] : Prop :=
  ∀ (m : (ℓ : Loc Cert.PoolfwdIdeal.nD Cert.PoolfwdIdeal.τ Cert.PoolfwdIdeal.sig) → Buf (Elt Ideal) ℓ) (g : Dev Cert.PoolfwdIdeal.nD → PrngReg)
    (m' : (ℓ : Loc Cert.PoolfwdRefIdeal.nD Cert.PoolfwdRefIdeal.τ Cert.PoolfwdRefIdeal.sig) → Buf (Elt Ideal) ℓ) (g' : Dev Cert.PoolfwdRefIdeal.nD → PrngReg), Pre_PoolfwdIdeal_poolfwd_finite m →
    (∀ c : Dev Cert.PoolfwdIdeal.nD,
      m' ((c.tc : Thread Cert.PoolfwdRefIdeal.nD Cert.PoolfwdRefIdeal.τ).loc Cert.PoolfwdRefIdeal.main_arg0) = m ((c.tc : Thread Cert.PoolfwdIdeal.nD Cert.PoolfwdIdeal.τ).loc Cert.PoolfwdIdeal.main_arg0)) →
    ∃ (v0 : (c : Dev Cert.PoolfwdIdeal.nD) → Buf (Elt Ideal) ((c.tc : Thread Cert.PoolfwdIdeal.nD Cert.PoolfwdIdeal.τ).loc Cert.PoolfwdIdeal.main_v0)),
      θ_run (Cert.PoolfwdIdeal.defs (F := Ideal)) (onTc (τ := Cert.PoolfwdIdeal.τ) (Cert.PoolfwdIdeal.main (F := Ideal))) ⟨m, fun _ => 0, g⟩ (fun r => ∀ c : Dev Cert.PoolfwdIdeal.nD,
          r.2.mem ((c.tc : Thread Cert.PoolfwdIdeal.nD Cert.PoolfwdIdeal.τ).loc Cert.PoolfwdIdeal.main_v0) = v0 c
          ∧ r.2.mem ((c.tc : Thread Cert.PoolfwdIdeal.nD Cert.PoolfwdIdeal.τ).loc Cert.PoolfwdIdeal.main_arg0) = m ((c.tc : Thread Cert.PoolfwdIdeal.nD Cert.PoolfwdIdeal.τ).loc Cert.PoolfwdIdeal.main_arg0))
      ∧ θ_run (Cert.PoolfwdRefIdeal.defs (F := Ideal)) (onTc (τ := Cert.PoolfwdRefIdeal.τ) (Cert.PoolfwdRefIdeal.main (F := Ideal))) ⟨m', fun _ => 0, g'⟩ (fun r => ∀ c : Dev Cert.PoolfwdRefIdeal.nD,
          r.2.mem ((c.tc : Thread Cert.PoolfwdRefIdeal.nD Cert.PoolfwdRefIdeal.τ).loc Cert.PoolfwdRefIdeal.main_v71) = v0 c
          ∧ r.2.mem ((c.tc : Thread Cert.PoolfwdRefIdeal.nD Cert.PoolfwdRefIdeal.τ).loc Cert.PoolfwdRefIdeal.main_arg0) = m' ((c.tc : Thread Cert.PoolfwdRefIdeal.nD Cert.PoolfwdRefIdeal.τ).loc Cert.PoolfwdRefIdeal.main_arg0))

def preserves_Convfwd_ConvfwdIdeal : Prop :=
  True

def algebraic_ConvfwdIdeal_ConvfwdRefIdeal [hConvfwdIdeal : Cert.ConvfwdIdeal.Facts] [hConvfwdRefIdeal : Cert.ConvfwdRefIdeal.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg)
    (m' : (ℓ : Loc Cert.ConvfwdRefIdeal.nD Cert.ConvfwdRefIdeal.τ Cert.ConvfwdRefIdeal.sig) → Buf (Elt Ideal) ℓ) (g' : Dev Cert.ConvfwdRefIdeal.nD → PrngReg), Pre_ConvfwdIdeal m →
    (∀ c : Dev Cert.ConvfwdIdeal.nD,
      m' ((c.tc : Thread Cert.ConvfwdRefIdeal.nD Cert.ConvfwdRefIdeal.τ).loc Cert.ConvfwdRefIdeal.main_arg0) = m ((c.tc : Thread Cert.ConvfwdIdeal.nD Cert.ConvfwdIdeal.τ).loc Cert.ConvfwdIdeal.main_arg0)
      ∧ m' ((c.tc : Thread Cert.ConvfwdRefIdeal.nD Cert.ConvfwdRefIdeal.τ).loc Cert.ConvfwdRefIdeal.main_arg1) = m ((c.tc : Thread Cert.ConvfwdIdeal.nD Cert.ConvfwdIdeal.τ).loc Cert.ConvfwdIdeal.main_arg1)) →
    ∃ (v0 : (c : Dev Cert.ConvfwdIdeal.nD) → Buf (Elt Ideal) ((c.tc : Thread Cert.ConvfwdIdeal.nD Cert.ConvfwdIdeal.τ).loc Cert.ConvfwdIdeal.main_v3)),
      θ_run (Cert.ConvfwdIdeal.defs (F := Ideal)) (onTc (τ := Cert.ConvfwdIdeal.τ) (Cert.ConvfwdIdeal.main (F := Ideal))) ⟨m, fun _ => 0, g⟩ (fun r => ∀ c : Dev Cert.ConvfwdIdeal.nD,
          r.2.mem ((c.tc : Thread Cert.ConvfwdIdeal.nD Cert.ConvfwdIdeal.τ).loc Cert.ConvfwdIdeal.main_v3) = v0 c
          ∧ r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
          ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1))
      ∧ θ_run (Cert.ConvfwdRefIdeal.defs (F := Ideal)) (onTc (τ := Cert.ConvfwdRefIdeal.τ) (Cert.ConvfwdRefIdeal.main (F := Ideal))) ⟨m', fun _ => 0, g'⟩ (fun r => ∀ c : Dev Cert.ConvfwdRefIdeal.nD,
          r.2.mem ((c.tc : Thread Cert.ConvfwdRefIdeal.nD Cert.ConvfwdRefIdeal.τ).loc Cert.ConvfwdRefIdeal.main_v32) = v0 c
          ∧ r.2.mem ((c.tc : Thread Cert.ConvfwdRefIdeal.nD Cert.ConvfwdRefIdeal.τ).loc Cert.ConvfwdRefIdeal.main_arg0) = m' ((c.tc : Thread Cert.ConvfwdRefIdeal.nD Cert.ConvfwdRefIdeal.τ).loc Cert.ConvfwdRefIdeal.main_arg0)
          ∧ r.2.mem ((c.tc : Thread Cert.ConvfwdRefIdeal.nD Cert.ConvfwdRefIdeal.τ).loc Cert.ConvfwdRefIdeal.main_arg1) = m' ((c.tc : Thread Cert.ConvfwdRefIdeal.nD Cert.ConvfwdRefIdeal.τ).loc Cert.ConvfwdRefIdeal.main_arg1))

def preserves_Gatefwd_GatefwdIdeal : Prop :=
  True

def algebraic_GatefwdIdeal_GatefwdRefIdeal [hGatefwdIdeal : Cert.GatefwdIdeal.Facts] [hGatefwdRefIdeal : Cert.GatefwdRefIdeal.Facts] : Prop :=
  ∀ (m : (ℓ : Loc Cert.GatefwdIdeal.nD Cert.GatefwdIdeal.τ Cert.GatefwdIdeal.sig) → Buf (Elt Ideal) ℓ) (g : Dev Cert.GatefwdIdeal.nD → PrngReg)
    (m' : (ℓ : Loc Cert.GatefwdRefIdeal.nD Cert.GatefwdRefIdeal.τ Cert.GatefwdRefIdeal.sig) → Buf (Elt Ideal) ℓ) (g' : Dev Cert.GatefwdRefIdeal.nD → PrngReg), Pre_GatefwdIdeal m →
    (∀ c : Dev Cert.GatefwdIdeal.nD,
      m' ((c.tc : Thread Cert.GatefwdRefIdeal.nD Cert.GatefwdRefIdeal.τ).loc Cert.GatefwdRefIdeal.main_arg0) = m ((c.tc : Thread Cert.GatefwdIdeal.nD Cert.GatefwdIdeal.τ).loc Cert.GatefwdIdeal.main_arg0)
      ∧ m' ((c.tc : Thread Cert.GatefwdRefIdeal.nD Cert.GatefwdRefIdeal.τ).loc Cert.GatefwdRefIdeal.main_arg1) = m ((c.tc : Thread Cert.GatefwdIdeal.nD Cert.GatefwdIdeal.τ).loc Cert.GatefwdIdeal.main_arg1)
      ∧ m' ((c.tc : Thread Cert.GatefwdRefIdeal.nD Cert.GatefwdRefIdeal.τ).loc Cert.GatefwdRefIdeal.main_arg2) = m ((c.tc : Thread Cert.GatefwdIdeal.nD Cert.GatefwdIdeal.τ).loc Cert.GatefwdIdeal.main_arg2)) →
    ∃ (v0 : (c : Dev Cert.GatefwdIdeal.nD) → Buf (Elt Ideal) ((c.tc : Thread Cert.GatefwdIdeal.nD Cert.GatefwdIdeal.τ).loc Cert.GatefwdIdeal.main_v9_0)) (v1 : (c : Dev Cert.GatefwdIdeal.nD) → Buf (Elt Ideal) ((c.tc : Thread Cert.GatefwdIdeal.nD Cert.GatefwdIdeal.τ).loc Cert.GatefwdIdeal.main_v9_1)) (v2 : (c : Dev Cert.GatefwdIdeal.nD) → Buf (Elt Ideal) ((c.tc : Thread Cert.GatefwdIdeal.nD Cert.GatefwdIdeal.τ).loc Cert.GatefwdIdeal.main_v9_2)),
      θ_run (Cert.GatefwdIdeal.defs (F := Ideal)) (onTc (τ := Cert.GatefwdIdeal.τ) (Cert.GatefwdIdeal.main (F := Ideal))) ⟨m, fun _ => 0, g⟩ (fun r => ∀ c : Dev Cert.GatefwdIdeal.nD,
          r.2.mem ((c.tc : Thread Cert.GatefwdIdeal.nD Cert.GatefwdIdeal.τ).loc Cert.GatefwdIdeal.main_v9_0) = v0 c
          ∧ r.2.mem ((c.tc : Thread Cert.GatefwdIdeal.nD Cert.GatefwdIdeal.τ).loc Cert.GatefwdIdeal.main_v9_1) = v1 c
          ∧ r.2.mem ((c.tc : Thread Cert.GatefwdIdeal.nD Cert.GatefwdIdeal.τ).loc Cert.GatefwdIdeal.main_v9_2) = v2 c
          ∧ r.2.mem ((c.tc : Thread Cert.GatefwdIdeal.nD Cert.GatefwdIdeal.τ).loc Cert.GatefwdIdeal.main_arg0) = m ((c.tc : Thread Cert.GatefwdIdeal.nD Cert.GatefwdIdeal.τ).loc Cert.GatefwdIdeal.main_arg0)
          ∧ r.2.mem ((c.tc : Thread Cert.GatefwdIdeal.nD Cert.GatefwdIdeal.τ).loc Cert.GatefwdIdeal.main_arg1) = m ((c.tc : Thread Cert.GatefwdIdeal.nD Cert.GatefwdIdeal.τ).loc Cert.GatefwdIdeal.main_arg1)
          ∧ r.2.mem ((c.tc : Thread Cert.GatefwdIdeal.nD Cert.GatefwdIdeal.τ).loc Cert.GatefwdIdeal.main_arg2) = m ((c.tc : Thread Cert.GatefwdIdeal.nD Cert.GatefwdIdeal.τ).loc Cert.GatefwdIdeal.main_arg2))
      ∧ θ_run (Cert.GatefwdRefIdeal.defs (F := Ideal)) (onTc (τ := Cert.GatefwdRefIdeal.τ) (Cert.GatefwdRefIdeal.main (F := Ideal))) ⟨m', fun _ => 0, g'⟩ (fun r => ∀ c : Dev Cert.GatefwdRefIdeal.nD,
          r.2.mem ((c.tc : Thread Cert.GatefwdRefIdeal.nD Cert.GatefwdRefIdeal.τ).loc Cert.GatefwdRefIdeal.main_v4) = v0 c
          ∧ r.2.mem ((c.tc : Thread Cert.GatefwdRefIdeal.nD Cert.GatefwdRefIdeal.τ).loc Cert.GatefwdRefIdeal.main_v7) = v1 c
          ∧ r.2.mem ((c.tc : Thread Cert.GatefwdRefIdeal.nD Cert.GatefwdRefIdeal.τ).loc Cert.GatefwdRefIdeal.main_v10) = v2 c
          ∧ r.2.mem ((c.tc : Thread Cert.GatefwdRefIdeal.nD Cert.GatefwdRefIdeal.τ).loc Cert.GatefwdRefIdeal.main_arg0) = m' ((c.tc : Thread Cert.GatefwdRefIdeal.nD Cert.GatefwdRefIdeal.τ).loc Cert.GatefwdRefIdeal.main_arg0)
          ∧ r.2.mem ((c.tc : Thread Cert.GatefwdRefIdeal.nD Cert.GatefwdRefIdeal.τ).loc Cert.GatefwdRefIdeal.main_arg1) = m' ((c.tc : Thread Cert.GatefwdRefIdeal.nD Cert.GatefwdRefIdeal.τ).loc Cert.GatefwdRefIdeal.main_arg1)
          ∧ r.2.mem ((c.tc : Thread Cert.GatefwdRefIdeal.nD Cert.GatefwdRefIdeal.τ).loc Cert.GatefwdRefIdeal.main_arg2) = m' ((c.tc : Thread Cert.GatefwdRefIdeal.nD Cert.GatefwdRefIdeal.τ).loc Cert.GatefwdRefIdeal.main_arg2))

def preserves_Poolmix_PoolmixIdeal : Prop :=
  True

def algebraic_PoolmixIdeal_PoolmixRefIdeal [hPoolmixIdeal : Cert.PoolmixIdeal.Facts] [hPoolmixRefIdeal : Cert.PoolmixRefIdeal.Facts] : Prop :=
  ∀ (m : (ℓ : Loc Cert.PoolmixIdeal.nD Cert.PoolmixIdeal.τ Cert.PoolmixIdeal.sig) → Buf (Elt Ideal) ℓ) (g : Dev Cert.PoolmixIdeal.nD → PrngReg)
    (m' : (ℓ : Loc Cert.PoolmixRefIdeal.nD Cert.PoolmixRefIdeal.τ Cert.PoolmixRefIdeal.sig) → Buf (Elt Ideal) ℓ) (g' : Dev Cert.PoolmixRefIdeal.nD → PrngReg), Pre_PoolmixIdeal m →
    (∀ c : Dev Cert.PoolmixIdeal.nD,
      m' ((c.tc : Thread Cert.PoolmixRefIdeal.nD Cert.PoolmixRefIdeal.τ).loc Cert.PoolmixRefIdeal.main_arg0) = m ((c.tc : Thread Cert.PoolmixIdeal.nD Cert.PoolmixIdeal.τ).loc Cert.PoolmixIdeal.main_arg0)
      ∧ m' ((c.tc : Thread Cert.PoolmixRefIdeal.nD Cert.PoolmixRefIdeal.τ).loc Cert.PoolmixRefIdeal.main_arg1) = m ((c.tc : Thread Cert.PoolmixIdeal.nD Cert.PoolmixIdeal.τ).loc Cert.PoolmixIdeal.main_arg1)
      ∧ m' ((c.tc : Thread Cert.PoolmixRefIdeal.nD Cert.PoolmixRefIdeal.τ).loc Cert.PoolmixRefIdeal.main_arg2) = m ((c.tc : Thread Cert.PoolmixIdeal.nD Cert.PoolmixIdeal.τ).loc Cert.PoolmixIdeal.main_arg2)
      ∧ m' ((c.tc : Thread Cert.PoolmixRefIdeal.nD Cert.PoolmixRefIdeal.τ).loc Cert.PoolmixRefIdeal.main_arg3) = m ((c.tc : Thread Cert.PoolmixIdeal.nD Cert.PoolmixIdeal.τ).loc Cert.PoolmixIdeal.main_arg3)) →
    ∃ (v0 : (c : Dev Cert.PoolmixIdeal.nD) → Buf (Elt Ideal) ((c.tc : Thread Cert.PoolmixIdeal.nD Cert.PoolmixIdeal.τ).loc Cert.PoolmixIdeal.main_v5_0)) (v1 : (c : Dev Cert.PoolmixIdeal.nD) → Buf (Elt Ideal) ((c.tc : Thread Cert.PoolmixIdeal.nD Cert.PoolmixIdeal.τ).loc Cert.PoolmixIdeal.main_v5_1)),
      θ_run (Cert.PoolmixIdeal.defs (F := Ideal)) (onTc (τ := Cert.PoolmixIdeal.τ) (Cert.PoolmixIdeal.main (F := Ideal))) ⟨m, fun _ => 0, g⟩ (fun r => ∀ c : Dev Cert.PoolmixIdeal.nD,
          r.2.mem ((c.tc : Thread Cert.PoolmixIdeal.nD Cert.PoolmixIdeal.τ).loc Cert.PoolmixIdeal.main_v5_0) = v0 c
          ∧ r.2.mem ((c.tc : Thread Cert.PoolmixIdeal.nD Cert.PoolmixIdeal.τ).loc Cert.PoolmixIdeal.main_v5_1) = v1 c
          ∧ r.2.mem ((c.tc : Thread Cert.PoolmixIdeal.nD Cert.PoolmixIdeal.τ).loc Cert.PoolmixIdeal.main_arg0) = m ((c.tc : Thread Cert.PoolmixIdeal.nD Cert.PoolmixIdeal.τ).loc Cert.PoolmixIdeal.main_arg0)
          ∧ r.2.mem ((c.tc : Thread Cert.PoolmixIdeal.nD Cert.PoolmixIdeal.τ).loc Cert.PoolmixIdeal.main_arg1) = m ((c.tc : Thread Cert.PoolmixIdeal.nD Cert.PoolmixIdeal.τ).loc Cert.PoolmixIdeal.main_arg1)
          ∧ r.2.mem ((c.tc : Thread Cert.PoolmixIdeal.nD Cert.PoolmixIdeal.τ).loc Cert.PoolmixIdeal.main_arg2) = m ((c.tc : Thread Cert.PoolmixIdeal.nD Cert.PoolmixIdeal.τ).loc Cert.PoolmixIdeal.main_arg2)
          ∧ r.2.mem ((c.tc : Thread Cert.PoolmixIdeal.nD Cert.PoolmixIdeal.τ).loc Cert.PoolmixIdeal.main_arg3) = m ((c.tc : Thread Cert.PoolmixIdeal.nD Cert.PoolmixIdeal.τ).loc Cert.PoolmixIdeal.main_arg3))
      ∧ θ_run (Cert.PoolmixRefIdeal.defs (F := Ideal)) (onTc (τ := Cert.PoolmixRefIdeal.τ) (Cert.PoolmixRefIdeal.main (F := Ideal))) ⟨m', fun _ => 0, g'⟩ (fun r => ∀ c : Dev Cert.PoolmixRefIdeal.nD,
          r.2.mem ((c.tc : Thread Cert.PoolmixRefIdeal.nD Cert.PoolmixRefIdeal.τ).loc Cert.PoolmixRefIdeal.main_v10) = v0 c
          ∧ r.2.mem ((c.tc : Thread Cert.PoolmixRefIdeal.nD Cert.PoolmixRefIdeal.τ).loc Cert.PoolmixRefIdeal.main_v11) = v1 c
          ∧ r.2.mem ((c.tc : Thread Cert.PoolmixRefIdeal.nD Cert.PoolmixRefIdeal.τ).loc Cert.PoolmixRefIdeal.main_arg0) = m' ((c.tc : Thread Cert.PoolmixRefIdeal.nD Cert.PoolmixRefIdeal.τ).loc Cert.PoolmixRefIdeal.main_arg0)
          ∧ r.2.mem ((c.tc : Thread Cert.PoolmixRefIdeal.nD Cert.PoolmixRefIdeal.τ).loc Cert.PoolmixRefIdeal.main_arg1) = m' ((c.tc : Thread Cert.PoolmixRefIdeal.nD Cert.PoolmixRefIdeal.τ).loc Cert.PoolmixRefIdeal.main_arg1)
          ∧ r.2.mem ((c.tc : Thread Cert.PoolmixRefIdeal.nD Cert.PoolmixRefIdeal.τ).loc Cert.PoolmixRefIdeal.main_arg2) = m' ((c.tc : Thread Cert.PoolmixRefIdeal.nD Cert.PoolmixRefIdeal.τ).loc Cert.PoolmixRefIdeal.main_arg2)
          ∧ r.2.mem ((c.tc : Thread Cert.PoolmixRefIdeal.nD Cert.PoolmixRefIdeal.τ).loc Cert.PoolmixRefIdeal.main_arg3) = m' ((c.tc : Thread Cert.PoolmixRefIdeal.nD Cert.PoolmixRefIdeal.τ).loc Cert.PoolmixRefIdeal.main_arg3))

def preserves_Downfwd_DownfwdIdeal : Prop :=
  True

def algebraic_DownfwdIdeal_DownfwdRefIdeal [hDownfwdIdeal : Cert.DownfwdIdeal.Facts] [hDownfwdRefIdeal : Cert.DownfwdRefIdeal.Facts] : Prop :=
  ∀ (m : (ℓ : Loc Cert.DownfwdIdeal.nD Cert.DownfwdIdeal.τ Cert.DownfwdIdeal.sig) → Buf (Elt Ideal) ℓ) (g : Dev Cert.DownfwdIdeal.nD → PrngReg)
    (m' : (ℓ : Loc Cert.DownfwdRefIdeal.nD Cert.DownfwdRefIdeal.τ Cert.DownfwdRefIdeal.sig) → Buf (Elt Ideal) ℓ) (g' : Dev Cert.DownfwdRefIdeal.nD → PrngReg), Pre_DownfwdIdeal m →
    (∀ c : Dev Cert.DownfwdIdeal.nD,
      m' ((c.tc : Thread Cert.DownfwdRefIdeal.nD Cert.DownfwdRefIdeal.τ).loc Cert.DownfwdRefIdeal.main_arg0) = m ((c.tc : Thread Cert.DownfwdIdeal.nD Cert.DownfwdIdeal.τ).loc Cert.DownfwdIdeal.main_arg0)
      ∧ m' ((c.tc : Thread Cert.DownfwdRefIdeal.nD Cert.DownfwdRefIdeal.τ).loc Cert.DownfwdRefIdeal.main_arg1) = m ((c.tc : Thread Cert.DownfwdIdeal.nD Cert.DownfwdIdeal.τ).loc Cert.DownfwdIdeal.main_arg1)
      ∧ m' ((c.tc : Thread Cert.DownfwdRefIdeal.nD Cert.DownfwdRefIdeal.τ).loc Cert.DownfwdRefIdeal.main_arg2) = m ((c.tc : Thread Cert.DownfwdIdeal.nD Cert.DownfwdIdeal.τ).loc Cert.DownfwdIdeal.main_arg2)) →
    ∃ (v0 : (c : Dev Cert.DownfwdIdeal.nD) → Buf (Elt Ideal) ((c.tc : Thread Cert.DownfwdIdeal.nD Cert.DownfwdIdeal.τ).loc Cert.DownfwdIdeal.main_v3)),
      θ_run (Cert.DownfwdIdeal.defs (F := Ideal)) (onTc (τ := Cert.DownfwdIdeal.τ) (Cert.DownfwdIdeal.main (F := Ideal))) ⟨m, fun _ => 0, g⟩ (fun r => ∀ c : Dev Cert.DownfwdIdeal.nD,
          r.2.mem ((c.tc : Thread Cert.DownfwdIdeal.nD Cert.DownfwdIdeal.τ).loc Cert.DownfwdIdeal.main_v3) = v0 c
          ∧ r.2.mem ((c.tc : Thread Cert.DownfwdIdeal.nD Cert.DownfwdIdeal.τ).loc Cert.DownfwdIdeal.main_arg0) = m ((c.tc : Thread Cert.DownfwdIdeal.nD Cert.DownfwdIdeal.τ).loc Cert.DownfwdIdeal.main_arg0)
          ∧ r.2.mem ((c.tc : Thread Cert.DownfwdIdeal.nD Cert.DownfwdIdeal.τ).loc Cert.DownfwdIdeal.main_arg1) = m ((c.tc : Thread Cert.DownfwdIdeal.nD Cert.DownfwdIdeal.τ).loc Cert.DownfwdIdeal.main_arg1)
          ∧ r.2.mem ((c.tc : Thread Cert.DownfwdIdeal.nD Cert.DownfwdIdeal.τ).loc Cert.DownfwdIdeal.main_arg2) = m ((c.tc : Thread Cert.DownfwdIdeal.nD Cert.DownfwdIdeal.τ).loc Cert.DownfwdIdeal.main_arg2))
      ∧ θ_run (Cert.DownfwdRefIdeal.defs (F := Ideal)) (onTc (τ := Cert.DownfwdRefIdeal.τ) (Cert.DownfwdRefIdeal.main (F := Ideal))) ⟨m', fun _ => 0, g'⟩ (fun r => ∀ c : Dev Cert.DownfwdRefIdeal.nD,
          r.2.mem ((c.tc : Thread Cert.DownfwdRefIdeal.nD Cert.DownfwdRefIdeal.τ).loc Cert.DownfwdRefIdeal.main_v5) = v0 c
          ∧ r.2.mem ((c.tc : Thread Cert.DownfwdRefIdeal.nD Cert.DownfwdRefIdeal.τ).loc Cert.DownfwdRefIdeal.main_arg0) = m' ((c.tc : Thread Cert.DownfwdRefIdeal.nD Cert.DownfwdRefIdeal.τ).loc Cert.DownfwdRefIdeal.main_arg0)
          ∧ r.2.mem ((c.tc : Thread Cert.DownfwdRefIdeal.nD Cert.DownfwdRefIdeal.τ).loc Cert.DownfwdRefIdeal.main_arg1) = m' ((c.tc : Thread Cert.DownfwdRefIdeal.nD Cert.DownfwdRefIdeal.τ).loc Cert.DownfwdRefIdeal.main_arg1)
          ∧ r.2.mem ((c.tc : Thread Cert.DownfwdRefIdeal.nD Cert.DownfwdRefIdeal.τ).loc Cert.DownfwdRefIdeal.main_arg2) = m' ((c.tc : Thread Cert.DownfwdRefIdeal.nD Cert.DownfwdRefIdeal.τ).loc Cert.DownfwdRefIdeal.main_arg2))

def preserves_Downwt_DownwtIdeal : Prop :=
  True

def algebraic_DownwtIdeal_DownwtRefIdeal [hDownwtIdeal : Cert.DownwtIdeal.Facts] [hDownwtRefIdeal : Cert.DownwtRefIdeal.Facts] : Prop :=
  ∀ (m : (ℓ : Loc Cert.DownwtIdeal.nD Cert.DownwtIdeal.τ Cert.DownwtIdeal.sig) → Buf (Elt Ideal) ℓ) (g : Dev Cert.DownwtIdeal.nD → PrngReg)
    (m' : (ℓ : Loc Cert.DownwtRefIdeal.nD Cert.DownwtRefIdeal.τ Cert.DownwtRefIdeal.sig) → Buf (Elt Ideal) ℓ) (g' : Dev Cert.DownwtRefIdeal.nD → PrngReg), Pre_DownwtIdeal m →
    (∀ c : Dev Cert.DownwtIdeal.nD,
      m' ((c.tc : Thread Cert.DownwtRefIdeal.nD Cert.DownwtRefIdeal.τ).loc Cert.DownwtRefIdeal.main_arg0) = m ((c.tc : Thread Cert.DownwtIdeal.nD Cert.DownwtIdeal.τ).loc Cert.DownwtIdeal.main_arg0)
      ∧ m' ((c.tc : Thread Cert.DownwtRefIdeal.nD Cert.DownwtRefIdeal.τ).loc Cert.DownwtRefIdeal.main_arg1) = m ((c.tc : Thread Cert.DownwtIdeal.nD Cert.DownwtIdeal.τ).loc Cert.DownwtIdeal.main_arg1)) →
    ∃ (v0 : (c : Dev Cert.DownwtIdeal.nD) → Buf (Elt Ideal) ((c.tc : Thread Cert.DownwtIdeal.nD Cert.DownwtIdeal.τ).loc Cert.DownwtIdeal.main_v2)),
      θ_run (Cert.DownwtIdeal.defs (F := Ideal)) (onTc (τ := Cert.DownwtIdeal.τ) (Cert.DownwtIdeal.main (F := Ideal))) ⟨m, fun _ => 0, g⟩ (fun r => ∀ c : Dev Cert.DownwtIdeal.nD,
          r.2.mem ((c.tc : Thread Cert.DownwtIdeal.nD Cert.DownwtIdeal.τ).loc Cert.DownwtIdeal.main_v2) = v0 c
          ∧ r.2.mem ((c.tc : Thread Cert.DownwtIdeal.nD Cert.DownwtIdeal.τ).loc Cert.DownwtIdeal.main_arg0) = m ((c.tc : Thread Cert.DownwtIdeal.nD Cert.DownwtIdeal.τ).loc Cert.DownwtIdeal.main_arg0)
          ∧ r.2.mem ((c.tc : Thread Cert.DownwtIdeal.nD Cert.DownwtIdeal.τ).loc Cert.DownwtIdeal.main_arg1) = m ((c.tc : Thread Cert.DownwtIdeal.nD Cert.DownwtIdeal.τ).loc Cert.DownwtIdeal.main_arg1))
      ∧ θ_run (Cert.DownwtRefIdeal.defs (F := Ideal)) (onTc (τ := Cert.DownwtRefIdeal.τ) (Cert.DownwtRefIdeal.main (F := Ideal))) ⟨m', fun _ => 0, g'⟩ (fun r => ∀ c : Dev Cert.DownwtRefIdeal.nD,
          r.2.mem ((c.tc : Thread Cert.DownwtRefIdeal.nD Cert.DownwtRefIdeal.τ).loc Cert.DownwtRefIdeal.main_v7) = v0 c
          ∧ r.2.mem ((c.tc : Thread Cert.DownwtRefIdeal.nD Cert.DownwtRefIdeal.τ).loc Cert.DownwtRefIdeal.main_arg0) = m' ((c.tc : Thread Cert.DownwtRefIdeal.nD Cert.DownwtRefIdeal.τ).loc Cert.DownwtRefIdeal.main_arg0)
          ∧ r.2.mem ((c.tc : Thread Cert.DownwtRefIdeal.nD Cert.DownwtRefIdeal.τ).loc Cert.DownwtRefIdeal.main_arg1) = m' ((c.tc : Thread Cert.DownwtRefIdeal.nD Cert.DownwtRefIdeal.τ).loc Cert.DownwtRefIdeal.main_arg1))

def preserves_Ffndata_FfndataIdeal : Prop :=
  True

def algebraic_FfndataIdeal_FfndataRefIdeal [hFfndataIdeal : Cert.FfndataIdeal.Facts] [hFfndataRefIdeal : Cert.FfndataRefIdeal.Facts] : Prop :=
  ∀ (m : (ℓ : Loc Cert.FfndataIdeal.nD Cert.FfndataIdeal.τ Cert.FfndataIdeal.sig) → Buf (Elt Ideal) ℓ) (g : Dev Cert.FfndataIdeal.nD → PrngReg)
    (m' : (ℓ : Loc Cert.FfndataRefIdeal.nD Cert.FfndataRefIdeal.τ Cert.FfndataRefIdeal.sig) → Buf (Elt Ideal) ℓ) (g' : Dev Cert.FfndataRefIdeal.nD → PrngReg), Pre_FfndataIdeal m →
    (∀ c : Dev Cert.FfndataIdeal.nD,
      m' ((c.tc : Thread Cert.FfndataRefIdeal.nD Cert.FfndataRefIdeal.τ).loc Cert.FfndataRefIdeal.main_arg0) = m ((c.tc : Thread Cert.FfndataIdeal.nD Cert.FfndataIdeal.τ).loc Cert.FfndataIdeal.main_arg0)
      ∧ m' ((c.tc : Thread Cert.FfndataRefIdeal.nD Cert.FfndataRefIdeal.τ).loc Cert.FfndataRefIdeal.main_arg1) = m ((c.tc : Thread Cert.FfndataIdeal.nD Cert.FfndataIdeal.τ).loc Cert.FfndataIdeal.main_arg1)
      ∧ m' ((c.tc : Thread Cert.FfndataRefIdeal.nD Cert.FfndataRefIdeal.τ).loc Cert.FfndataRefIdeal.main_arg2) = m ((c.tc : Thread Cert.FfndataIdeal.nD Cert.FfndataIdeal.τ).loc Cert.FfndataIdeal.main_arg2)
      ∧ m' ((c.tc : Thread Cert.FfndataRefIdeal.nD Cert.FfndataRefIdeal.τ).loc Cert.FfndataRefIdeal.main_arg3) = m ((c.tc : Thread Cert.FfndataIdeal.nD Cert.FfndataIdeal.τ).loc Cert.FfndataIdeal.main_arg3)) →
    ∃ (v0 : (c : Dev Cert.FfndataIdeal.nD) → Buf (Elt Ideal) ((c.tc : Thread Cert.FfndataIdeal.nD Cert.FfndataIdeal.τ).loc Cert.FfndataIdeal.main_v10)),
      θ_run (Cert.FfndataIdeal.defs (F := Ideal)) (onTc (τ := Cert.FfndataIdeal.τ) (Cert.FfndataIdeal.main (F := Ideal))) ⟨m, fun _ => 0, g⟩ (fun r => ∀ c : Dev Cert.FfndataIdeal.nD,
          r.2.mem ((c.tc : Thread Cert.FfndataIdeal.nD Cert.FfndataIdeal.τ).loc Cert.FfndataIdeal.main_v10) = v0 c
          ∧ r.2.mem ((c.tc : Thread Cert.FfndataIdeal.nD Cert.FfndataIdeal.τ).loc Cert.FfndataIdeal.main_arg0) = m ((c.tc : Thread Cert.FfndataIdeal.nD Cert.FfndataIdeal.τ).loc Cert.FfndataIdeal.main_arg0)
          ∧ r.2.mem ((c.tc : Thread Cert.FfndataIdeal.nD Cert.FfndataIdeal.τ).loc Cert.FfndataIdeal.main_arg1) = m ((c.tc : Thread Cert.FfndataIdeal.nD Cert.FfndataIdeal.τ).loc Cert.FfndataIdeal.main_arg1)
          ∧ r.2.mem ((c.tc : Thread Cert.FfndataIdeal.nD Cert.FfndataIdeal.τ).loc Cert.FfndataIdeal.main_arg2) = m ((c.tc : Thread Cert.FfndataIdeal.nD Cert.FfndataIdeal.τ).loc Cert.FfndataIdeal.main_arg2)
          ∧ r.2.mem ((c.tc : Thread Cert.FfndataIdeal.nD Cert.FfndataIdeal.τ).loc Cert.FfndataIdeal.main_arg3) = m ((c.tc : Thread Cert.FfndataIdeal.nD Cert.FfndataIdeal.τ).loc Cert.FfndataIdeal.main_arg3))
      ∧ θ_run (Cert.FfndataRefIdeal.defs (F := Ideal)) (onTc (τ := Cert.FfndataRefIdeal.τ) (Cert.FfndataRefIdeal.main (F := Ideal))) ⟨m', fun _ => 0, g'⟩ (fun r => ∀ c : Dev Cert.FfndataRefIdeal.nD,
          r.2.mem ((c.tc : Thread Cert.FfndataRefIdeal.nD Cert.FfndataRefIdeal.τ).loc Cert.FfndataRefIdeal.main_v12) = v0 c
          ∧ r.2.mem ((c.tc : Thread Cert.FfndataRefIdeal.nD Cert.FfndataRefIdeal.τ).loc Cert.FfndataRefIdeal.main_arg0) = m' ((c.tc : Thread Cert.FfndataRefIdeal.nD Cert.FfndataRefIdeal.τ).loc Cert.FfndataRefIdeal.main_arg0)
          ∧ r.2.mem ((c.tc : Thread Cert.FfndataRefIdeal.nD Cert.FfndataRefIdeal.τ).loc Cert.FfndataRefIdeal.main_arg1) = m' ((c.tc : Thread Cert.FfndataRefIdeal.nD Cert.FfndataRefIdeal.τ).loc Cert.FfndataRefIdeal.main_arg1)
          ∧ r.2.mem ((c.tc : Thread Cert.FfndataRefIdeal.nD Cert.FfndataRefIdeal.τ).loc Cert.FfndataRefIdeal.main_arg2) = m' ((c.tc : Thread Cert.FfndataRefIdeal.nD Cert.FfndataRefIdeal.τ).loc Cert.FfndataRefIdeal.main_arg2)
          ∧ r.2.mem ((c.tc : Thread Cert.FfndataRefIdeal.nD Cert.FfndataRefIdeal.τ).loc Cert.FfndataRefIdeal.main_arg3) = m' ((c.tc : Thread Cert.FfndataRefIdeal.nD Cert.FfndataRefIdeal.τ).loc Cert.FfndataRefIdeal.main_arg3))

def preserves_Qkvdata_QkvdataIdeal : Prop :=
  True

def algebraic_QkvdataIdeal_QkvdataRefIdeal [hQkvdataIdeal : Cert.QkvdataIdeal.Facts] [hQkvdataRefIdeal : Cert.QkvdataRefIdeal.Facts] : Prop :=
  ∀ (m : (ℓ : Loc Cert.QkvdataIdeal.nD Cert.QkvdataIdeal.τ Cert.QkvdataIdeal.sig) → Buf (Elt Ideal) ℓ) (g : Dev Cert.QkvdataIdeal.nD → PrngReg)
    (m' : (ℓ : Loc Cert.QkvdataRefIdeal.nD Cert.QkvdataRefIdeal.τ Cert.QkvdataRefIdeal.sig) → Buf (Elt Ideal) ℓ) (g' : Dev Cert.QkvdataRefIdeal.nD → PrngReg), Pre_QkvdataIdeal m →
    (∀ c : Dev Cert.QkvdataIdeal.nD,
      m' ((c.tc : Thread Cert.QkvdataRefIdeal.nD Cert.QkvdataRefIdeal.τ).loc Cert.QkvdataRefIdeal.main_arg0) = m ((c.tc : Thread Cert.QkvdataIdeal.nD Cert.QkvdataIdeal.τ).loc Cert.QkvdataIdeal.main_arg0)
      ∧ m' ((c.tc : Thread Cert.QkvdataRefIdeal.nD Cert.QkvdataRefIdeal.τ).loc Cert.QkvdataRefIdeal.main_arg1) = m ((c.tc : Thread Cert.QkvdataIdeal.nD Cert.QkvdataIdeal.τ).loc Cert.QkvdataIdeal.main_arg1)) →
    ∃ (v0 : (c : Dev Cert.QkvdataIdeal.nD) → Buf (Elt Ideal) ((c.tc : Thread Cert.QkvdataIdeal.nD Cert.QkvdataIdeal.τ).loc Cert.QkvdataIdeal.main_v7)),
      θ_run (Cert.QkvdataIdeal.defs (F := Ideal)) (onTc (τ := Cert.QkvdataIdeal.τ) (Cert.QkvdataIdeal.main (F := Ideal))) ⟨m, fun _ => 0, g⟩ (fun r => ∀ c : Dev Cert.QkvdataIdeal.nD,
          r.2.mem ((c.tc : Thread Cert.QkvdataIdeal.nD Cert.QkvdataIdeal.τ).loc Cert.QkvdataIdeal.main_v7) = v0 c
          ∧ r.2.mem ((c.tc : Thread Cert.QkvdataIdeal.nD Cert.QkvdataIdeal.τ).loc Cert.QkvdataIdeal.main_arg0) = m ((c.tc : Thread Cert.QkvdataIdeal.nD Cert.QkvdataIdeal.τ).loc Cert.QkvdataIdeal.main_arg0)
          ∧ r.2.mem ((c.tc : Thread Cert.QkvdataIdeal.nD Cert.QkvdataIdeal.τ).loc Cert.QkvdataIdeal.main_arg1) = m ((c.tc : Thread Cert.QkvdataIdeal.nD Cert.QkvdataIdeal.τ).loc Cert.QkvdataIdeal.main_arg1))
      ∧ θ_run (Cert.QkvdataRefIdeal.defs (F := Ideal)) (onTc (τ := Cert.QkvdataRefIdeal.τ) (Cert.QkvdataRefIdeal.main (F := Ideal))) ⟨m', fun _ => 0, g'⟩ (fun r => ∀ c : Dev Cert.QkvdataRefIdeal.nD,
          r.2.mem ((c.tc : Thread Cert.QkvdataRefIdeal.nD Cert.QkvdataRefIdeal.τ).loc Cert.QkvdataRefIdeal.main_v5) = v0 c
          ∧ r.2.mem ((c.tc : Thread Cert.QkvdataRefIdeal.nD Cert.QkvdataRefIdeal.τ).loc Cert.QkvdataRefIdeal.main_arg0) = m' ((c.tc : Thread Cert.QkvdataRefIdeal.nD Cert.QkvdataRefIdeal.τ).loc Cert.QkvdataRefIdeal.main_arg0)
          ∧ r.2.mem ((c.tc : Thread Cert.QkvdataRefIdeal.nD Cert.QkvdataRefIdeal.τ).loc Cert.QkvdataRefIdeal.main_arg1) = m' ((c.tc : Thread Cert.QkvdataRefIdeal.nD Cert.QkvdataRefIdeal.τ).loc Cert.QkvdataRefIdeal.main_arg1))

def preserves_Ffnwt_FfnwtIdeal : Prop :=
  True

def algebraic_FfnwtIdeal_FfnwtRefIdeal [hFfnwtIdeal : Cert.FfnwtIdeal.Facts] [hFfnwtRefIdeal : Cert.FfnwtRefIdeal.Facts] : Prop :=
  ∀ (m : (ℓ : Loc Cert.FfnwtIdeal.nD Cert.FfnwtIdeal.τ Cert.FfnwtIdeal.sig) → Buf (Elt Ideal) ℓ) (g : Dev Cert.FfnwtIdeal.nD → PrngReg)
    (m' : (ℓ : Loc Cert.FfnwtRefIdeal.nD Cert.FfnwtRefIdeal.τ Cert.FfnwtRefIdeal.sig) → Buf (Elt Ideal) ℓ) (g' : Dev Cert.FfnwtRefIdeal.nD → PrngReg), Pre_FfnwtIdeal m →
    (∀ c : Dev Cert.FfnwtIdeal.nD,
      m' ((c.tc : Thread Cert.FfnwtRefIdeal.nD Cert.FfnwtRefIdeal.τ).loc Cert.FfnwtRefIdeal.main_arg0) = m ((c.tc : Thread Cert.FfnwtIdeal.nD Cert.FfnwtIdeal.τ).loc Cert.FfnwtIdeal.main_arg0)
      ∧ m' ((c.tc : Thread Cert.FfnwtRefIdeal.nD Cert.FfnwtRefIdeal.τ).loc Cert.FfnwtRefIdeal.main_arg1) = m ((c.tc : Thread Cert.FfnwtIdeal.nD Cert.FfnwtIdeal.τ).loc Cert.FfnwtIdeal.main_arg1)
      ∧ m' ((c.tc : Thread Cert.FfnwtRefIdeal.nD Cert.FfnwtRefIdeal.τ).loc Cert.FfnwtRefIdeal.main_arg2) = m ((c.tc : Thread Cert.FfnwtIdeal.nD Cert.FfnwtIdeal.τ).loc Cert.FfnwtIdeal.main_arg2)) →
    ∃ (v0 : (c : Dev Cert.FfnwtIdeal.nD) → Buf (Elt Ideal) ((c.tc : Thread Cert.FfnwtIdeal.nD Cert.FfnwtIdeal.τ).loc Cert.FfnwtIdeal.main_v3_0)) (v1 : (c : Dev Cert.FfnwtIdeal.nD) → Buf (Elt Ideal) ((c.tc : Thread Cert.FfnwtIdeal.nD Cert.FfnwtIdeal.τ).loc Cert.FfnwtIdeal.main_v3_1)),
      θ_run (Cert.FfnwtIdeal.defs (F := Ideal)) (onTc (τ := Cert.FfnwtIdeal.τ) (Cert.FfnwtIdeal.main (F := Ideal))) ⟨m, fun _ => 0, g⟩ (fun r => ∀ c : Dev Cert.FfnwtIdeal.nD,
          r.2.mem ((c.tc : Thread Cert.FfnwtIdeal.nD Cert.FfnwtIdeal.τ).loc Cert.FfnwtIdeal.main_v3_0) = v0 c
          ∧ r.2.mem ((c.tc : Thread Cert.FfnwtIdeal.nD Cert.FfnwtIdeal.τ).loc Cert.FfnwtIdeal.main_v3_1) = v1 c
          ∧ r.2.mem ((c.tc : Thread Cert.FfnwtIdeal.nD Cert.FfnwtIdeal.τ).loc Cert.FfnwtIdeal.main_arg0) = m ((c.tc : Thread Cert.FfnwtIdeal.nD Cert.FfnwtIdeal.τ).loc Cert.FfnwtIdeal.main_arg0)
          ∧ r.2.mem ((c.tc : Thread Cert.FfnwtIdeal.nD Cert.FfnwtIdeal.τ).loc Cert.FfnwtIdeal.main_arg1) = m ((c.tc : Thread Cert.FfnwtIdeal.nD Cert.FfnwtIdeal.τ).loc Cert.FfnwtIdeal.main_arg1)
          ∧ r.2.mem ((c.tc : Thread Cert.FfnwtIdeal.nD Cert.FfnwtIdeal.τ).loc Cert.FfnwtIdeal.main_arg2) = m ((c.tc : Thread Cert.FfnwtIdeal.nD Cert.FfnwtIdeal.τ).loc Cert.FfnwtIdeal.main_arg2))
      ∧ θ_run (Cert.FfnwtRefIdeal.defs (F := Ideal)) (onTc (τ := Cert.FfnwtRefIdeal.τ) (Cert.FfnwtRefIdeal.main (F := Ideal))) ⟨m', fun _ => 0, g'⟩ (fun r => ∀ c : Dev Cert.FfnwtRefIdeal.nD,
          r.2.mem ((c.tc : Thread Cert.FfnwtRefIdeal.nD Cert.FfnwtRefIdeal.τ).loc Cert.FfnwtRefIdeal.main_v8) = v0 c
          ∧ r.2.mem ((c.tc : Thread Cert.FfnwtRefIdeal.nD Cert.FfnwtRefIdeal.τ).loc Cert.FfnwtRefIdeal.main_v14) = v1 c
          ∧ r.2.mem ((c.tc : Thread Cert.FfnwtRefIdeal.nD Cert.FfnwtRefIdeal.τ).loc Cert.FfnwtRefIdeal.main_arg0) = m' ((c.tc : Thread Cert.FfnwtRefIdeal.nD Cert.FfnwtRefIdeal.τ).loc Cert.FfnwtRefIdeal.main_arg0)
          ∧ r.2.mem ((c.tc : Thread Cert.FfnwtRefIdeal.nD Cert.FfnwtRefIdeal.τ).loc Cert.FfnwtRefIdeal.main_arg1) = m' ((c.tc : Thread Cert.FfnwtRefIdeal.nD Cert.FfnwtRefIdeal.τ).loc Cert.FfnwtRefIdeal.main_arg1)
          ∧ r.2.mem ((c.tc : Thread Cert.FfnwtRefIdeal.nD Cert.FfnwtRefIdeal.τ).loc Cert.FfnwtRefIdeal.main_arg2) = m' ((c.tc : Thread Cert.FfnwtRefIdeal.nD Cert.FfnwtRefIdeal.τ).loc Cert.FfnwtRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Sumdev_SumdevIdeal : Prop :=
  True

def algebraic_SumdevIdeal_SumdevRefIdeal [hSumdevIdeal : Cert.SumdevIdeal.Facts] [hSumdevRefIdeal : Cert.SumdevRefIdeal.Facts] : Prop :=
  ∀ (m : (ℓ : Loc Cert.SumdevIdeal.nD Cert.SumdevIdeal.τ Cert.SumdevIdeal.sig) → Buf (Elt Ideal) ℓ) (g : Dev Cert.SumdevIdeal.nD → PrngReg)
    (m' : (ℓ : Loc Cert.SumdevRefIdeal.nD Cert.SumdevRefIdeal.τ Cert.SumdevRefIdeal.sig) → Buf (Elt Ideal) ℓ) (g' : Dev Cert.SumdevRefIdeal.nD → PrngReg), Pre_SumdevIdeal m →
    (∀ c : Dev Cert.SumdevIdeal.nD,
      m' ((c.tc : Thread Cert.SumdevRefIdeal.nD Cert.SumdevRefIdeal.τ).loc Cert.SumdevRefIdeal.main_arg0) = m ((c.tc : Thread Cert.SumdevIdeal.nD Cert.SumdevIdeal.τ).loc Cert.SumdevIdeal.main_arg0)) →
    ∃ (v0 : (c : Dev Cert.SumdevIdeal.nD) → Buf (Elt Ideal) ((c.tc : Thread Cert.SumdevIdeal.nD Cert.SumdevIdeal.τ).loc Cert.SumdevIdeal.main_v0)),
      θ_run (Cert.SumdevIdeal.defs (F := Ideal)) (onTc (τ := Cert.SumdevIdeal.τ) (Cert.SumdevIdeal.main (F := Ideal))) ⟨m, fun _ => 0, g⟩ (fun r => ∀ c : Dev Cert.SumdevIdeal.nD,
          r.2.mem ((c.tc : Thread Cert.SumdevIdeal.nD Cert.SumdevIdeal.τ).loc Cert.SumdevIdeal.main_v0) = v0 c
          ∧ r.2.mem ((c.tc : Thread Cert.SumdevIdeal.nD Cert.SumdevIdeal.τ).loc Cert.SumdevIdeal.main_arg0) = m ((c.tc : Thread Cert.SumdevIdeal.nD Cert.SumdevIdeal.τ).loc Cert.SumdevIdeal.main_arg0))
      ∧ θ_run (Cert.SumdevRefIdeal.defs (F := Ideal)) (onTc (τ := Cert.SumdevRefIdeal.τ) (Cert.SumdevRefIdeal.main (F := Ideal))) ⟨m', fun _ => 0, g'⟩ (fun r => ∀ c : Dev Cert.SumdevRefIdeal.nD,
          r.2.mem ((c.tc : Thread Cert.SumdevRefIdeal.nD Cert.SumdevRefIdeal.τ).loc Cert.SumdevRefIdeal.main_v0) = v0 c
          ∧ r.2.mem ((c.tc : Thread Cert.SumdevRefIdeal.nD Cert.SumdevRefIdeal.τ).loc Cert.SumdevRefIdeal.main_arg0) = m' ((c.tc : Thread Cert.SumdevRefIdeal.nD Cert.SumdevRefIdeal.τ).loc Cert.SumdevRefIdeal.main_arg0))

def preserves_Pooldata_PooldataIdeal : Prop :=
  True

def algebraic_PooldataIdeal_PooldataRefIdeal [hPooldataIdeal : Cert.PooldataIdeal.Facts] [hPooldataRefIdeal : Cert.PooldataRefIdeal.Facts] : Prop :=
  ∀ (m : (ℓ : Loc Cert.PooldataIdeal.nD Cert.PooldataIdeal.τ Cert.PooldataIdeal.sig) → Buf (Elt Ideal) ℓ) (g : Dev Cert.PooldataIdeal.nD → PrngReg)
    (m' : (ℓ : Loc Cert.PooldataRefIdeal.nD Cert.PooldataRefIdeal.τ Cert.PooldataRefIdeal.sig) → Buf (Elt Ideal) ℓ) (g' : Dev Cert.PooldataRefIdeal.nD → PrngReg), Pre_PooldataIdeal m →
    (∀ c : Dev Cert.PooldataIdeal.nD,
      m' ((c.tc : Thread Cert.PooldataRefIdeal.nD Cert.PooldataRefIdeal.τ).loc Cert.PooldataRefIdeal.main_arg0) = m ((c.tc : Thread Cert.PooldataIdeal.nD Cert.PooldataIdeal.τ).loc Cert.PooldataIdeal.main_arg0)
      ∧ m' ((c.tc : Thread Cert.PooldataRefIdeal.nD Cert.PooldataRefIdeal.τ).loc Cert.PooldataRefIdeal.main_arg1) = m ((c.tc : Thread Cert.PooldataIdeal.nD Cert.PooldataIdeal.τ).loc Cert.PooldataIdeal.main_arg1)) →
    ∃ (v0 : (c : Dev Cert.PooldataIdeal.nD) → Buf (Elt Ideal) ((c.tc : Thread Cert.PooldataIdeal.nD Cert.PooldataIdeal.τ).loc Cert.PooldataIdeal.main_v5)),
      θ_run (Cert.PooldataIdeal.defs (F := Ideal)) (onTc (τ := Cert.PooldataIdeal.τ) (Cert.PooldataIdeal.main (F := Ideal))) ⟨m, fun _ => 0, g⟩ (fun r => ∀ c : Dev Cert.PooldataIdeal.nD,
          r.2.mem ((c.tc : Thread Cert.PooldataIdeal.nD Cert.PooldataIdeal.τ).loc Cert.PooldataIdeal.main_v5) = v0 c
          ∧ r.2.mem ((c.tc : Thread Cert.PooldataIdeal.nD Cert.PooldataIdeal.τ).loc Cert.PooldataIdeal.main_arg0) = m ((c.tc : Thread Cert.PooldataIdeal.nD Cert.PooldataIdeal.τ).loc Cert.PooldataIdeal.main_arg0)
          ∧ r.2.mem ((c.tc : Thread Cert.PooldataIdeal.nD Cert.PooldataIdeal.τ).loc Cert.PooldataIdeal.main_arg1) = m ((c.tc : Thread Cert.PooldataIdeal.nD Cert.PooldataIdeal.τ).loc Cert.PooldataIdeal.main_arg1))
      ∧ θ_run (Cert.PooldataRefIdeal.defs (F := Ideal)) (onTc (τ := Cert.PooldataRefIdeal.τ) (Cert.PooldataRefIdeal.main (F := Ideal))) ⟨m', fun _ => 0, g'⟩ (fun r => ∀ c : Dev Cert.PooldataRefIdeal.nD,
          r.2.mem ((c.tc : Thread Cert.PooldataRefIdeal.nD Cert.PooldataRefIdeal.τ).loc Cert.PooldataRefIdeal.main_v7) = v0 c
          ∧ r.2.mem ((c.tc : Thread Cert.PooldataRefIdeal.nD Cert.PooldataRefIdeal.τ).loc Cert.PooldataRefIdeal.main_arg0) = m' ((c.tc : Thread Cert.PooldataRefIdeal.nD Cert.PooldataRefIdeal.τ).loc Cert.PooldataRefIdeal.main_arg0)
          ∧ r.2.mem ((c.tc : Thread Cert.PooldataRefIdeal.nD Cert.PooldataRefIdeal.τ).loc Cert.PooldataRefIdeal.main_arg1) = m' ((c.tc : Thread Cert.PooldataRefIdeal.nD Cert.PooldataRefIdeal.τ).loc Cert.PooldataRefIdeal.main_arg1))

def preserves_Poolwt_PoolwtIdeal : Prop :=
  True

def algebraic_PoolwtIdeal_PoolwtRefIdeal [hPoolwtIdeal : Cert.PoolwtIdeal.Facts] [hPoolwtRefIdeal : Cert.PoolwtRefIdeal.Facts] : Prop :=
  ∀ (m : (ℓ : Loc Cert.PoolwtIdeal.nD Cert.PoolwtIdeal.τ Cert.PoolwtIdeal.sig) → Buf (Elt Ideal) ℓ) (g : Dev Cert.PoolwtIdeal.nD → PrngReg)
    (m' : (ℓ : Loc Cert.PoolwtRefIdeal.nD Cert.PoolwtRefIdeal.τ Cert.PoolwtRefIdeal.sig) → Buf (Elt Ideal) ℓ) (g' : Dev Cert.PoolwtRefIdeal.nD → PrngReg), Pre_PoolwtIdeal m →
    (∀ c : Dev Cert.PoolwtIdeal.nD,
      m' ((c.tc : Thread Cert.PoolwtRefIdeal.nD Cert.PoolwtRefIdeal.τ).loc Cert.PoolwtRefIdeal.main_arg0) = m ((c.tc : Thread Cert.PoolwtIdeal.nD Cert.PoolwtIdeal.τ).loc Cert.PoolwtIdeal.main_arg0)
      ∧ m' ((c.tc : Thread Cert.PoolwtRefIdeal.nD Cert.PoolwtRefIdeal.τ).loc Cert.PoolwtRefIdeal.main_arg1) = m ((c.tc : Thread Cert.PoolwtIdeal.nD Cert.PoolwtIdeal.τ).loc Cert.PoolwtIdeal.main_arg1)) →
    ∃ (v0 : (c : Dev Cert.PoolwtIdeal.nD) → Buf (Elt Ideal) ((c.tc : Thread Cert.PoolwtIdeal.nD Cert.PoolwtIdeal.τ).loc Cert.PoolwtIdeal.main_v2)),
      θ_run (Cert.PoolwtIdeal.defs (F := Ideal)) (onTc (τ := Cert.PoolwtIdeal.τ) (Cert.PoolwtIdeal.main (F := Ideal))) ⟨m, fun _ => 0, g⟩ (fun r => ∀ c : Dev Cert.PoolwtIdeal.nD,
          r.2.mem ((c.tc : Thread Cert.PoolwtIdeal.nD Cert.PoolwtIdeal.τ).loc Cert.PoolwtIdeal.main_v2) = v0 c
          ∧ r.2.mem ((c.tc : Thread Cert.PoolwtIdeal.nD Cert.PoolwtIdeal.τ).loc Cert.PoolwtIdeal.main_arg0) = m ((c.tc : Thread Cert.PoolwtIdeal.nD Cert.PoolwtIdeal.τ).loc Cert.PoolwtIdeal.main_arg0)
          ∧ r.2.mem ((c.tc : Thread Cert.PoolwtIdeal.nD Cert.PoolwtIdeal.τ).loc Cert.PoolwtIdeal.main_arg1) = m ((c.tc : Thread Cert.PoolwtIdeal.nD Cert.PoolwtIdeal.τ).loc Cert.PoolwtIdeal.main_arg1))
      ∧ θ_run (Cert.PoolwtRefIdeal.defs (F := Ideal)) (onTc (τ := Cert.PoolwtRefIdeal.τ) (Cert.PoolwtRefIdeal.main (F := Ideal))) ⟨m', fun _ => 0, g'⟩ (fun r => ∀ c : Dev Cert.PoolwtRefIdeal.nD,
          r.2.mem ((c.tc : Thread Cert.PoolwtRefIdeal.nD Cert.PoolwtRefIdeal.τ).loc Cert.PoolwtRefIdeal.main_v10) = v0 c
          ∧ r.2.mem ((c.tc : Thread Cert.PoolwtRefIdeal.nD Cert.PoolwtRefIdeal.τ).loc Cert.PoolwtRefIdeal.main_arg0) = m' ((c.tc : Thread Cert.PoolwtRefIdeal.nD Cert.PoolwtRefIdeal.τ).loc Cert.PoolwtRefIdeal.main_arg0)
          ∧ r.2.mem ((c.tc : Thread Cert.PoolwtRefIdeal.nD Cert.PoolwtRefIdeal.τ).loc Cert.PoolwtRefIdeal.main_arg1) = m' ((c.tc : Thread Cert.PoolwtRefIdeal.nD Cert.PoolwtRefIdeal.τ).loc Cert.PoolwtRefIdeal.main_arg1))

def Claim : Prop :=
  ∃ (hScale : Cert.Scale.Facts) (hScaleIdeal : Cert.ScaleIdeal.Facts) (hScaleRefIdeal : Cert.ScaleRefIdeal.Facts) (hAttn : Cert.Attn.Facts) (hAttnIdeal : Cert.AttnIdeal.Facts) (hAttnRefIdeal : Cert.AttnRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hNorm : Cert.Norm.Facts) (hNormIdeal : Cert.NormIdeal.Facts) (hNormRefIdeal : Cert.NormRefIdeal.Facts) (hHeads : Cert.Heads.Facts) (hHeadsIdeal : Cert.HeadsIdeal.Facts) (hHeadsRefIdeal : Cert.HeadsRefIdeal.Facts) (hGate : Cert.Gate.Facts) (hGateIdeal : Cert.GateIdeal.Facts) (hGateRefIdeal : Cert.GateRefIdeal.Facts) (hPool : Cert.Pool.Facts) (hPoolIdeal : Cert.PoolIdeal.Facts) (hPoolRefIdeal : Cert.PoolRefIdeal.Facts) (hNormfwd : Cert.Normfwd.Facts) (hNormfwdIdeal : Cert.NormfwdIdeal.Facts) (hNormfwdRefIdeal : Cert.NormfwdRefIdeal.Facts) (hHeadsfwd : Cert.Headsfwd.Facts) (hHeadsfwdIdeal : Cert.HeadsfwdIdeal.Facts) (hHeadsfwdRefIdeal : Cert.HeadsfwdRefIdeal.Facts) (hPoolfwd : Cert.Poolfwd.Facts) (hPoolfwdIdeal : Cert.PoolfwdIdeal.Facts) (hPoolfwdRefIdeal : Cert.PoolfwdRefIdeal.Facts) (hConvfwd : Cert.Convfwd.Facts) (hConvfwdIdeal : Cert.ConvfwdIdeal.Facts) (hConvfwdRefIdeal : Cert.ConvfwdRefIdeal.Facts) (hGatefwd : Cert.Gatefwd.Facts) (hGatefwdIdeal : Cert.GatefwdIdeal.Facts) (hGatefwdRefIdeal : Cert.GatefwdRefIdeal.Facts) (hPoolmix : Cert.Poolmix.Facts) (hPoolmixIdeal : Cert.PoolmixIdeal.Facts) (hPoolmixRefIdeal : Cert.PoolmixRefIdeal.Facts) (hDownfwd : Cert.Downfwd.Facts) (hDownfwdIdeal : Cert.DownfwdIdeal.Facts) (hDownfwdRefIdeal : Cert.DownfwdRefIdeal.Facts) (hDownwt : Cert.Downwt.Facts) (hDownwtIdeal : Cert.DownwtIdeal.Facts) (hDownwtRefIdeal : Cert.DownwtRefIdeal.Facts) (hFfndata : Cert.Ffndata.Facts) (hFfndataIdeal : Cert.FfndataIdeal.Facts) (hFfndataRefIdeal : Cert.FfndataRefIdeal.Facts) (hQkvdata : Cert.Qkvdata.Facts) (hQkvdataIdeal : Cert.QkvdataIdeal.Facts) (hQkvdataRefIdeal : Cert.QkvdataRefIdeal.Facts) (hFfnwt : Cert.Ffnwt.Facts) (hFfnwtIdeal : Cert.FfnwtIdeal.Facts) (hFfnwtRefIdeal : Cert.FfnwtRefIdeal.Facts) (hAdamw : Cert.Adamw.Facts) (hAdamwIdeal : Cert.AdamwIdeal.Facts) (hAdamwRefIdeal : Cert.AdamwRefIdeal.Facts) (hSumdev : Cert.Sumdev.Facts) (hSumdevIdeal : Cert.SumdevIdeal.Facts) (hSumdevRefIdeal : Cert.SumdevRefIdeal.Facts) (hPooldata : Cert.Pooldata.Facts) (hPooldataIdeal : Cert.PooldataIdeal.Facts) (hPooldataRefIdeal : Cert.PooldataRefIdeal.Facts) (hPoolwt : Cert.Poolwt.Facts) (hPoolwtIdeal : Cert.PoolwtIdeal.Facts) (hPoolwtRefIdeal : Cert.PoolwtRefIdeal.Facts) (hPre_attn_finite : Cert.Pre_attn_finite.Facts) (hPre_norm_finite : Cert.Pre_norm_finite.Facts) (hPre_heads_finite : Cert.Pre_heads_finite.Facts) (hPre_gate_finite : Cert.Pre_gate_finite.Facts) (hPre_pool_finite : Cert.Pre_pool_finite.Facts) (hPre_poolfwd_finite : Cert.Pre_poolfwd_finite.Facts),
    quiescent_Scale (hScale := hScale)
    ∧ quiescent_ScaleIdeal (hScaleIdeal := hScaleIdeal)
    ∧ quiescent_ScaleRefIdeal (hScaleRefIdeal := hScaleRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvRefIdeal (hConvRefIdeal := hConvRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Heads (hHeads := hHeads)
    ∧ quiescent_HeadsIdeal (hHeadsIdeal := hHeadsIdeal)
    ∧ quiescent_HeadsIdeal_pre_heads_finite (hHeadsIdeal := hHeadsIdeal) (hPre_heads_finite := hPre_heads_finite)
    ∧ quiescent_HeadsRefIdeal (hHeadsRefIdeal := hHeadsRefIdeal)
    ∧ quiescent_HeadsRefIdeal_pre_heads_finite (hHeadsRefIdeal := hHeadsRefIdeal) (hPre_heads_finite := hPre_heads_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Normfwd (hNormfwd := hNormfwd)
    ∧ quiescent_NormfwdIdeal (hNormfwdIdeal := hNormfwdIdeal)
    ∧ quiescent_NormfwdRefIdeal (hNormfwdRefIdeal := hNormfwdRefIdeal)
    ∧ quiescent_Headsfwd (hHeadsfwd := hHeadsfwd)
    ∧ quiescent_HeadsfwdIdeal (hHeadsfwdIdeal := hHeadsfwdIdeal)
    ∧ quiescent_HeadsfwdRefIdeal (hHeadsfwdRefIdeal := hHeadsfwdRefIdeal)
    ∧ quiescent_Poolfwd (hPoolfwd := hPoolfwd)
    ∧ quiescent_PoolfwdIdeal (hPoolfwdIdeal := hPoolfwdIdeal)
    ∧ quiescent_PoolfwdIdeal_pre_poolfwd_finite (hPoolfwdIdeal := hPoolfwdIdeal) (hPre_poolfwd_finite := hPre_poolfwd_finite)
    ∧ quiescent_PoolfwdRefIdeal (hPoolfwdRefIdeal := hPoolfwdRefIdeal)
    ∧ quiescent_PoolfwdRefIdeal_pre_poolfwd_finite (hPoolfwdRefIdeal := hPoolfwdRefIdeal) (hPre_poolfwd_finite := hPre_poolfwd_finite)
    ∧ quiescent_Convfwd (hConvfwd := hConvfwd)
    ∧ quiescent_ConvfwdIdeal (hConvfwdIdeal := hConvfwdIdeal)
    ∧ quiescent_ConvfwdRefIdeal (hConvfwdRefIdeal := hConvfwdRefIdeal)
    ∧ quiescent_Gatefwd (hGatefwd := hGatefwd)
    ∧ quiescent_GatefwdIdeal (hGatefwdIdeal := hGatefwdIdeal)
    ∧ quiescent_GatefwdRefIdeal (hGatefwdRefIdeal := hGatefwdRefIdeal)
    ∧ quiescent_Poolmix (hPoolmix := hPoolmix)
    ∧ quiescent_PoolmixIdeal (hPoolmixIdeal := hPoolmixIdeal)
    ∧ quiescent_PoolmixRefIdeal (hPoolmixRefIdeal := hPoolmixRefIdeal)
    ∧ quiescent_Downfwd (hDownfwd := hDownfwd)
    ∧ quiescent_DownfwdIdeal (hDownfwdIdeal := hDownfwdIdeal)
    ∧ quiescent_DownfwdRefIdeal (hDownfwdRefIdeal := hDownfwdRefIdeal)
    ∧ quiescent_Downwt (hDownwt := hDownwt)
    ∧ quiescent_DownwtIdeal (hDownwtIdeal := hDownwtIdeal)
    ∧ quiescent_DownwtRefIdeal (hDownwtRefIdeal := hDownwtRefIdeal)
    ∧ quiescent_Ffndata (hFfndata := hFfndata)
    ∧ quiescent_FfndataIdeal (hFfndataIdeal := hFfndataIdeal)
    ∧ quiescent_FfndataRefIdeal (hFfndataRefIdeal := hFfndataRefIdeal)
    ∧ quiescent_Qkvdata (hQkvdata := hQkvdata)
    ∧ quiescent_QkvdataIdeal (hQkvdataIdeal := hQkvdataIdeal)
    ∧ quiescent_QkvdataRefIdeal (hQkvdataRefIdeal := hQkvdataRefIdeal)
    ∧ quiescent_Ffnwt (hFfnwt := hFfnwt)
    ∧ quiescent_FfnwtIdeal (hFfnwtIdeal := hFfnwtIdeal)
    ∧ quiescent_FfnwtRefIdeal (hFfnwtRefIdeal := hFfnwtRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Sumdev (hSumdev := hSumdev)
    ∧ quiescent_SumdevIdeal (hSumdevIdeal := hSumdevIdeal)
    ∧ quiescent_SumdevRefIdeal (hSumdevRefIdeal := hSumdevRefIdeal)
    ∧ quiescent_Pooldata (hPooldata := hPooldata)
    ∧ quiescent_PooldataIdeal (hPooldataIdeal := hPooldataIdeal)
    ∧ quiescent_PooldataRefIdeal (hPooldataRefIdeal := hPooldataRefIdeal)
    ∧ quiescent_Poolwt (hPoolwt := hPoolwt)
    ∧ quiescent_PoolwtIdeal (hPoolwtIdeal := hPoolwtIdeal)
    ∧ quiescent_PoolwtRefIdeal (hPoolwtRefIdeal := hPoolwtRefIdeal)
    ∧ preserves_Scale_ScaleIdeal
    ∧ algebraic_ScaleIdeal_ScaleRefIdeal (hScaleIdeal := hScaleIdeal) (hScaleRefIdeal := hScaleRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Loss_LossIdeal
    ∧ algebraic_LossIdeal_LossRefIdeal (hLossIdeal := hLossIdeal) (hLossRefIdeal := hLossRefIdeal)
    ∧ preserves_Conv_ConvIdeal
    ∧ algebraic_ConvIdeal_ConvRefIdeal (hConvIdeal := hConvIdeal) (hConvRefIdeal := hConvRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Heads_HeadsIdeal
    ∧ algebraic_HeadsIdeal_HeadsRefIdeal_pre_heads_finite (hHeadsIdeal := hHeadsIdeal) (hHeadsRefIdeal := hHeadsRefIdeal) (hPre_heads_finite := hPre_heads_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Normfwd_NormfwdIdeal
    ∧ algebraic_NormfwdIdeal_NormfwdRefIdeal (hNormfwdIdeal := hNormfwdIdeal) (hNormfwdRefIdeal := hNormfwdRefIdeal)
    ∧ preserves_Headsfwd_HeadsfwdIdeal
    ∧ algebraic_HeadsfwdIdeal_HeadsfwdRefIdeal (hHeadsfwdIdeal := hHeadsfwdIdeal) (hHeadsfwdRefIdeal := hHeadsfwdRefIdeal)
    ∧ preserves_Poolfwd_PoolfwdIdeal
    ∧ algebraic_PoolfwdIdeal_PoolfwdRefIdeal_pre_poolfwd_finite (hPoolfwdIdeal := hPoolfwdIdeal) (hPoolfwdRefIdeal := hPoolfwdRefIdeal) (hPre_poolfwd_finite := hPre_poolfwd_finite)
    ∧ preserves_Convfwd_ConvfwdIdeal
    ∧ algebraic_ConvfwdIdeal_ConvfwdRefIdeal (hConvfwdIdeal := hConvfwdIdeal) (hConvfwdRefIdeal := hConvfwdRefIdeal)
    ∧ preserves_Gatefwd_GatefwdIdeal
    ∧ algebraic_GatefwdIdeal_GatefwdRefIdeal (hGatefwdIdeal := hGatefwdIdeal) (hGatefwdRefIdeal := hGatefwdRefIdeal)
    ∧ preserves_Poolmix_PoolmixIdeal
    ∧ algebraic_PoolmixIdeal_PoolmixRefIdeal (hPoolmixIdeal := hPoolmixIdeal) (hPoolmixRefIdeal := hPoolmixRefIdeal)
    ∧ preserves_Downfwd_DownfwdIdeal
    ∧ algebraic_DownfwdIdeal_DownfwdRefIdeal (hDownfwdIdeal := hDownfwdIdeal) (hDownfwdRefIdeal := hDownfwdRefIdeal)
    ∧ preserves_Downwt_DownwtIdeal
    ∧ algebraic_DownwtIdeal_DownwtRefIdeal (hDownwtIdeal := hDownwtIdeal) (hDownwtRefIdeal := hDownwtRefIdeal)
    ∧ preserves_Ffndata_FfndataIdeal
    ∧ algebraic_FfndataIdeal_FfndataRefIdeal (hFfndataIdeal := hFfndataIdeal) (hFfndataRefIdeal := hFfndataRefIdeal)
    ∧ preserves_Qkvdata_QkvdataIdeal
    ∧ algebraic_QkvdataIdeal_QkvdataRefIdeal (hQkvdataIdeal := hQkvdataIdeal) (hQkvdataRefIdeal := hQkvdataRefIdeal)
    ∧ preserves_Ffnwt_FfnwtIdeal
    ∧ algebraic_FfnwtIdeal_FfnwtRefIdeal (hFfnwtIdeal := hFfnwtIdeal) (hFfnwtRefIdeal := hFfnwtRefIdeal)
    ∧ preserves_Adamw_AdamwIdeal
    ∧ algebraic_AdamwIdeal_AdamwRefIdeal (hAdamwIdeal := hAdamwIdeal) (hAdamwRefIdeal := hAdamwRefIdeal)
    ∧ preserves_Sumdev_SumdevIdeal
    ∧ algebraic_SumdevIdeal_SumdevRefIdeal (hSumdevIdeal := hSumdevIdeal) (hSumdevRefIdeal := hSumdevRefIdeal)
    ∧ preserves_Pooldata_PooldataIdeal
    ∧ algebraic_PooldataIdeal_PooldataRefIdeal (hPooldataIdeal := hPooldataIdeal) (hPooldataRefIdeal := hPooldataRefIdeal)
    ∧ preserves_Poolwt_PoolwtIdeal
    ∧ algebraic_PoolwtIdeal_PoolwtRefIdeal (hPoolwtIdeal := hPoolwtIdeal) (hPoolwtRefIdeal := hPoolwtRefIdeal)
-- ==== Pre_attn_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S4096x2048 .f32) (main_arg3 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := andi main_v2 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_v10 : IVec S4096x2048 1 := andi main_v6 main_v9
  let main_v11 : FVec F S4096x2048 .f32 := Host.absf main_arg3
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : IVec S4096x2048 1 := andi main_v10 main_v13
  main_v14
-- ==== Pre_gate_finite.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S4096x5632 : S_.BroadcastsInDim S4096x5632 (![] : Fin 0 → Fin S4096x5632.rank)
  bcast_S_S5632x2048 : S_.BroadcastsInDim S5632x2048 (![] : Fin 0 → Fin S5632x2048.rank)

variable [Facts]

def fn {F : FTy → Type} [FloatOps F] (main_arg0 : FVec F S4096x2048 .f32) (main_arg1 : FVec F S4096x5632 .f32) (main_arg2 : FVec F S4096x5632 .f32) (main_arg3 : FVec F S5632x2048 .f32) : IVec S4096x2048 1 × IVec S4096x5632 1 × IVec S5632x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x5632 .f32 := Host.absf main_arg2
  let main_cst_0 : FVec F S_ .f32 := constant S_ .f32 0x7F800000#32
  let main_v4 : FVec F S4096x5632 .f32 := broadcastInDim S4096x5632 ![] bcast_S_S4096x5632 main_cst_0
  let main_v5 : IVec S4096x5632 1 := cmpf .olt main_v3 main_v4
  let main_v6 : FVec F S5632x2048 .f32 := Host.absf main_arg3
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  (main_v2, main_v5, main_v8)
-- ==== Pre_heads_finite.lean ====
abbrev S3x4096x2048 : Shape := ⟨3, ![3, 4096, 2048]⟩
abbrev S1x128 : Shape := ⟨2, ![1, 128]⟩
abbrev S4096x2048 : Shape := ⟨2, ![4096, 2048]⟩
abbrev S_ : Shape := ⟨0, ![]⟩

class Facts : Prop where
  bcast_S_S3x4096x2048 : S_.BroadcastsInDim S3x4096x2048 (![] : Fin 0 → Fin S3x4096x2048.rank)
  bcast_S_S1x128 : S_.BroadcastsInDim S1x128 (![] : Fin 0 → Fin S1x128.rank)
  bcast_S_S4096x2048 : S_.BroadcastsInDim S4096x2048 (![] : Fin 0 → Fin S4096x2048.rank)

variable [Facts]

def fn {F : FTy → Type} [FloatOps F] (main_arg0 : FVec F S3x4096x2048 .f32) (main_arg1 : FVec F S1x128 .f32) (main_arg2 : FVec F S1x128 .f32) (main_arg3 : FVec F S4096x2048 .f32) (main_arg4 : FVec F S4096x2048 .f32) (main_arg5 : FVec F S4096x2048 .f32) : IVec S3x4096x2048 1 × IVec S1x128 1 × IVec S1x128 1 × IVec S4096x2048 1 × IVec S4096x2048 1 :=
  let main_v0 : FVec F S3x4096x2048 .f32 := Host.absf main_arg0
  let main_cst : FVec F S_ .f32 := constant S_ .f32 0x7F800000#32
  let main_v1 : FVec F S3x4096x2048 .f32 := broadcastInDim S3x4096x2048 ![] bcast_S_S3x4096x2048 main_cst
  let main_v2 : IVec S3x4096x2048 1 := cmpf .olt main_v0 main_v1
  let main_v3 : FVec F S1x128 .f32 := Host.absf main_arg1
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_norm_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_pool_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Pre_poolfwd_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Scale.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .sgt arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleRefIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Attn.lean ====
abbrev S4096x2048 : Shape := ⟨2, ![4096, 2048]⟩
abbrev S256x256 : Shape := ⟨2, ![256, 256]⟩
abbrev S_ : Shape := ⟨0, ![]⟩
abbrev S512x128 : Shape := ⟨2, ![512, 128]⟩
abbrev S4096x128 : Shape := ⟨2, ![4096, 128]⟩
abbrev S512x512 : Shape := ⟨2, ![512, 512]⟩
abbrev S512x256 : Shape := ⟨2, ![512, 256]⟩

abbrev nBuf : Space → Nat
  | .hbm => 45
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .i32⟩
  | .hbm, ⟨15, _⟩ => ⟨S256x256, .i32⟩
  | .hbm, ⟨16, _⟩ => ⟨S256x256, .i1⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S4096x2048, .bf16⟩
  | .hbm, ⟨25, _⟩ => ⟨S4096x2048, .f32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S256x256, .i1⟩
  | .hbm, ⟨36, _⟩ => ⟨S_, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .bf16⟩
  | .hbm, ⟨42, _⟩ => ⟨S4096x2048, .f32⟩
  | .hbm, ⟨43, _⟩ => ⟨S4096x2048, .f32⟩
  | .hbm, ⟨44, _⟩ => ⟨S4096x2048, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S512x128, .bf16⟩
  | .local _ .vmem, ⟨8, _⟩ => ⟨S512x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .bf16⟩
  | .local _ .vmem, ⟨14, _⟩ => ⟨S512x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S512x128, .f32⟩
  | .local _ .vmem, ⟨20, _⟩ => ⟨S512x128, .f32⟩
  | .local _ .vmem, ⟨21, _⟩ => ⟨S512x128, .bf16⟩
  | .local _ .vmem, ⟨22, _⟩ => ⟨S512x128, .bf16⟩
  | .local _ .vmem, ⟨23, _⟩ => ⟨S256x256, .bf16⟩
  | .local _ .vmem, ⟨24, _⟩ => ⟨S512x128, .f32⟩
  | .local _ .vmem, ⟨25, _⟩ => ⟨S512x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S512x128, .f32⟩
  | .local _ .vmem, ⟨31, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_scratch0 : Ref sig .tc := ⟨.vmem, 30, rfl⟩
abbrev cc1_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c4_i32 : BitVec 32 := 4#32
  let v12 : BitVec 32 := Scalar.muli arg1 c4_i32
  let c4_i32_8 : BitVec 32 := 4#32
  let v13 : BitVec 32 := Scalar.addi v12 c4_i32_8
  let c1_i32 : BitVec 32 := 1#32
  let v14 : BitVec 32 := Scalar.subi v13 c1_i32
  let c0_i32 : BitVec 32 := 0#32
  let v15 : BitVec 32 := Scalar.subi v14 c0_i32
  let c4_i32_9 : BitVec 32 := 4#32
  let v16 : BitVec 32 := Scalar.subi v15 c4_i32_9
  let c1_i32_10 : BitVec 32 := 1#32
  let v17 : BitVec 32 := Scalar.addi v16 c1_i32_10
  let c128_i32 : BitVec 32 := 128#32
  let v18 : BitVec 32 := Scalar.muli v17 c128_i32
  v18
def k0_off1 (i : grid0.Coords) : Fin 2 → Nat :=
  let arg1 : BitVec 32 := BitVec.ofNat 32 (i 1).val
  let c4_i32 : BitVec 32 := 4#32
  let v12 : BitVec 32 := Scalar.muli arg1 c4_i32
  let c4_i32_8 : BitVec 32 := 4#32
  let v13 : BitVec 32 := Scalar.addi v12 c4_i32_8
  let c1_i32 : BitVec 32 := 1#32
  let v14 : BitVec 32 := Scalar.subi v13 c1_i32
  let c0_i32 : BitVec 32 := 0#32
  let v15 : BitVec 32 := Scalar.subi v14 c0_i32
  let c4_i32_9 : BitVec 32 := 4#32
  let v16 : BitVec 32 := Scalar.subi v15 c4_i32_9
  let c1_i32_10 : BitVec 32 := 1#32
  let v17 : BitVec 32 := Scalar.addi v16 c1_i32_10
  let c128_i32 : BitVec 32 := 128#32
  let v18 : BitVec 32 := Scalar.muli v17 c128_i32
  let v19 : BitVec 32 := v18
  let v20 : Index := Scalar.indexCast v19
  let c0_11 : Index := 0#32
  ![v20.toNat, 0]
@[reducible] def k0_t1_loop (i : grid0.Coords) : Scf.Loop 32 :=
  let c0_i32_54 : BitVec 32 := 0#32
  let arg1 : BitVec 32 := BitVec.ofNat 32 (i 1).val
  let c1_i32_52 : BitVec 32 := 1#32
  let v190 : BitVec 32 := Scalar.muli arg1 c1_i32_52
  let v191 : BitVec 32 := Scalar.subi v190 c0_i32_54
  let c1_i32_55 : BitVec 32 := 1#32
  let v193 : BitVec 32 := Scalar.divsi v191 c1_i32_55
  let v194 : BitVec 32 := Scalar.muli v193 c1_i32_55
  let v195 : BitVec 32 := Scalar.addi c0_i32_54 v194
  let c1_i32_56 : BitVec 32 := 1#32
  ⟨c0_i32_54, v195, c1_i32_56⟩
def k0_mult2 (i : grid0.Coords) (k0_t1 : Fin (k0_t1_loop i).trips) : BitVec 32 :=
  let arg1 : BitVec 32 := BitVec.ofNat 32 (i 1).val
  let c4_i32_66 : BitVec 32 := 4#32
  let v201 : BitVec 32 := Scalar.muli arg1 c4_i32_66
  let c1_i32_67 : BitVec 32 := 1#32
  let v202 : BitVec 32 := Scalar.subi v201 c1_i32_67
  let c0_i32_54 : BitVec 32 := 0#32
  let c1_i32_56 : BitVec 32 := 1#32
  let arg10 : BitVec 32 := Scf.iv c0_i32_54 c1_i32_56 k0_t1
  let c4_i32_68 : BitVec 32 := 4#32
  let v203 : BitVec 32 := Scalar.muli arg10 c4_i32_68
  let v204 : BitVec 32 := Scalar.subi v202 v203
  let c4_i32_69 : BitVec 32 := 4#32
  let v205 : BitVec 32 := Scalar.subi v204 c4_i32_69
  let c1_i32_70 : BitVec 32 := 1#32
  let v206 : BitVec 32 := Scalar.addi v205 c1_i32_70
  let c128_i32_71 : BitVec 32 := 128#32
  let v207 : BitVec 32 := Scalar.muli v206 c128_i32_71
  v207
def k0_off2 (i : grid0.Coords) (k0_t1 : Fin (k0_t1_loop i).trips) : Fin 2 → Nat :=
  let arg1 : BitVec 32 := BitVec.ofNat 32 (i 1).val
  let c4_i32_66 : BitVec 32 := 4#32
  let v201 : BitVec 32 := Scalar.muli arg1 c4_i32_66
  let c1_i32_67 : BitVec 32 := 1#32
  let v202 : BitVec 32 := Scalar.subi v201 c1_i32_67
  let c0_i32_54 : BitVec 32 := 0#32
  let c1_i32_56 : BitVec 32 := 1#32
  let arg10 : BitVec 32 := Scf.iv c0_i32_54 c1_i32_56 k0_t1
  let c4_i32_68 : BitVec 32 := 4#32
  let v203 : BitVec 32 := Scalar.muli arg10 c4_i32_68
  let v204 : BitVec 32 := Scalar.subi v202 v203
  let c4_i32_69 : BitVec 32 := 4#32
  let v205 : BitVec 32 := Scalar.subi v204 c4_i32_69
  let c1_i32_70 : BitVec 32 := 1#32
  let v206 : BitVec 32 := Scalar.addi v205 c1_i32_70
  let c128_i32_71 : BitVec 32 := 128#32
  let v207 : BitVec 32 := Scalar.muli v206 c128_i32_71
  let v208 : BitVec 32 := v207
  let v209 : Index := Scalar.indexCast v208
  let c0_72 : Index := 0#32
  ![v209.toNat, 0]
@[reducible] def k0_t2_loop (i : grid0.Coords) : Scf.Loop 32 :=
  let c0_i32_54 : BitVec 32 := 0#32
  let arg1 : BitVec 32 := BitVec.ofNat 32 (i 1).val
  let c1_i32_52 : BitVec 32 := 1#32
  let v190 : BitVec 32 := Scalar.muli arg1 c1_i32_52
  let v191 : BitVec 32 := Scalar.subi v190 c0_i32_54
  let c1_i32_55 : BitVec 32 := 1#32
  let v193 : BitVec 32 := Scalar.divsi v191 c1_i32_55
  let v194 : BitVec 32 := Scalar.muli v193 c1_i32_55
  let v195 : BitVec 32 := Scalar.addi c0_i32_54 v194
  let v192 : BitVec 32 := Scalar.addi c0_i32_54 v191
  let c1_i32_57 : BitVec 32 := 1#32
  ⟨v195, v192, c1_i32_57⟩
def k0_mult3 (i : grid0.Coords) (k0_t2 : Fin (k0_t2_loop i).trips) : BitVec 32 :=
  let arg1 : BitVec 32 := BitVec.ofNat 32 (i 1).val
  let c4_i32_66 : BitVec 32 := 4#32
  let v201 : BitVec 32 := Scalar.muli arg1 c4_i32_66
  let c1_i32_67 : BitVec 32 := 1#32
  let v202 : BitVec 32 := Scalar.subi v201 c1_i32_67
  let c0_i32_54 : BitVec 32 := 0#32
  let c1_i32_52 : BitVec 32 := 1#32
  let v190 : BitVec 32 := Scalar.muli arg1 c1_i32_52
  let v191 : BitVec 32 := Scalar.subi v190 c0_i32_54
  let c1_i32_55 : BitVec 32 := 1#32
  let v193 : BitVec 32 := Scalar.divsi v191 c1_i32_55
  let v194 : BitVec 32 := Scalar.muli v193 c1_i32_55
  let v195 : BitVec 32 := Scalar.addi c0_i32_54 v194
  let c1_i32_57 : BitVec 32 := 1#32
  let arg10 : BitVec 32 := Scf.iv v195 c1_i32_57 k0_t2
  let c4_i32_68 : BitVec 32 := 4#32
  let v203 : BitVec 32 := Scalar.muli arg10 c4_i32_68
  let v204 : BitVec 32 := Scalar.subi v202 v203
  let c4_i32_69 : BitVec 32 := 4#32
  let v205 : BitVec 32 := Scalar.subi v204 c4_i32_69
  let c1_i32_70 : BitVec 32 := 1#32
  let v206 : BitVec 32 := Scalar.addi v205 c1_i32_70
  let c128_i32_71 : BitVec 32 := 128#32
  let v207 : BitVec 32 := Scalar.muli v206 c128_i32_71
  v207
def k0_off3 (i : grid0.Coords) (k0_t2 : Fin (k0_t2_loop i).trips) : Fin 2 → Nat :=
  let arg1 : BitVec 32 := BitVec.ofNat 32 (i 1).val
  let c4_i32_66 : BitVec 32 := 4#32
  let v201 : BitVec 32 := Scalar.muli arg1 c4_i32_66
  let c1_i32_67 : BitVec 32 := 1#32
  let v202 : BitVec 32 := Scalar.subi v201 c1_i32_67
  let c0_i32_54 : BitVec 32 := 0#32
  let c1_i32_52 : BitVec 32 := 1#32
  let v190 : BitVec 32 := Scalar.muli arg1 c1_i32_52
  let v191 : BitVec 32 := Scalar.subi v190 c0_i32_54
  let c1_i32_55 : BitVec 32 := 1#32
  let v193 : BitVec 32 := Scalar.divsi v191 c1_i32_55
  let v194 : BitVec 32 := Scalar.muli v193 c1_i32_55
  let v195 : BitVec 32 := Scalar.addi c0_i32_54 v194
  let c1_i32_57 : BitVec 32 := 1#32
  let arg10 : BitVec 32 := Scf.iv v195 c1_i32_57 k0_t2
  let c4_i32_68 : BitVec 32 := 4#32
  let v203 : BitVec 32 := Scalar.muli arg10 c4_i32_68
  let v204 : BitVec 32 := Scalar.subi v202 v203
  let c4_i32_69 : BitVec 32 := 4#32
  let v205 : BitVec 32 := Scalar.subi v204 c4_i32_69
  let c1_i32_70 : BitVec 32 := 1#32
  let v206 : BitVec 32 := Scalar.addi v205 c1_i32_70
  let c128_i32_71 : BitVec 32 := 128#32
  let v207 : BitVec 32 := Scalar.muli v206 c128_i32_71
  let v208 : BitVec 32 := v207
  let v209 : Index := Scalar.indexCast v208
  let c0_72 : Index := 0#32
  ![v209.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 8], ![false, false]⟩

@[reducible] def k1_t1_loop (i : grid1.Coords) : Scf.Loop 32 :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let c1_i32_17 : BitVec 32 := 1#32
  ⟨c0_i32_15, v24, c1_i32_17⟩
def k1_mult1 (i : grid1.Coords) (k1_t1 : Fin (k1_t1_loop i).trips) : BitVec 32 :=
  let c0_i32_15 : BitVec 32 := 0#32
  let c1_i32_17 : BitVec 32 := 1#32
  let arg13 : BitVec 32 := Scf.iv c0_i32_15 c1_i32_17 k1_t1
  let c4_i32_88 : BitVec 32 := 4#32
  let v302 : BitVec 32 := Scalar.muli arg13 c4_i32_88
  let c128_i32_89 : BitVec 32 := 128#32
  let v303 : BitVec 32 := Scalar.muli v302 c128_i32_89
  v303
def k1_off1 (i : grid1.Coords) (k1_t1 : Fin (k1_t1_loop i).trips) : Fin 2 → Nat :=
  let c0_i32_15 : BitVec 32 := 0#32
  let c1_i32_17 : BitVec 32 := 1#32
  let arg13 : BitVec 32 := Scf.iv c0_i32_15 c1_i32_17 k1_t1
  let c4_i32_88 : BitVec 32 := 4#32
  let v302 : BitVec 32 := Scalar.muli arg13 c4_i32_88
  let c128_i32_89 : BitVec 32 := 128#32
  let v303 : BitVec 32 := Scalar.muli v302 c128_i32_89
  let v304 : BitVec 32 := v303
  let v305 : Index := Scalar.indexCast v304
  let c0_90 : Index := 0#32
  ![v305.toNat, 0]
@[reducible] def k1_t2_loop (i : grid1.Coords) : Scf.Loop 32 :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let v21 : BitVec 32 := Scalar.addi c0_i32_15 v20
  let c1_i32_18 : BitVec 32 := 1#32
  ⟨v24, v21, c1_i32_18⟩
def k1_mult2 (i : grid1.Coords) (k1_t2 : Fin (k1_t2_loop i).trips) : BitVec 32 :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let c1_i32_18 : BitVec 32 := 1#32
  let arg13 : BitVec 32 := Scf.iv v24 c1_i32_18 k1_t2
  let c4_i32_88 : BitVec 32 := 4#32
  let v302 : BitVec 32 := Scalar.muli arg13 c4_i32_88
  let c128_i32_89 : BitVec 32 := 128#32
  let v303 : BitVec 32 := Scalar.muli v302 c128_i32_89
  v303
def k1_off2 (i : grid1.Coords) (k1_t2 : Fin (k1_t2_loop i).trips) : Fin 2 → Nat :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let c1_i32_18 : BitVec 32 := 1#32
  let arg13 : BitVec 32 := Scf.iv v24 c1_i32_18 k1_t2
  let c4_i32_88 : BitVec 32 := 4#32
  let v302 : BitVec 32 := Scalar.muli arg13 c4_i32_88
  let c128_i32_89 : BitVec 32 := 128#32
  let v303 : BitVec 32 := Scalar.muli v302 c128_i32_89
  let v304 : BitVec 32 := v303
  let v305 : Index := Scalar.indexCast v304
  let c0_90 : Index := 0#32
  ![v305.toNat, 0]
def k1_mult3 (i : grid1.Coords) : BitVec 32 :=
  let arg1 : BitVec 32 := BitVec.ofNat 32 (i 1).val
  let c4_i32 : BitVec 32 := 4#32
  let v25 : BitVec 32 := Scalar.muli arg1 c4_i32
  let c0_i32_19 : BitVec 32 := 0#32
  let v26 : BitVec 32 := Scalar.addi v25 c0_i32_19
  let c128_i32 : BitVec 32 := 128#32
  let v27 : BitVec 32 := Scalar.muli v26 c128_i32
  v27
def k1_off3 (i : grid1.Coords) : Fin 2 → Nat :=
  let arg1 : BitVec 32 := BitVec.ofNat 32 (i 1).val
  let c4_i32 : BitVec 32 := 4#32
  let v25 : BitVec 32 := Scalar.muli arg1 c4_i32
  let c0_i32_19 : BitVec 32 := 0#32
  let v26 : BitVec 32 := Scalar.addi v25 c0_i32_19
  let c128_i32 : BitVec 32 := 128#32
  let v27 : BitVec 32 := Scalar.muli v26 c128_i32
  let v28 : BitVec 32 := v27
  let v29 : Index := Scalar.indexCast v28
  let c0_20 : Index := 0#32
  ![v29.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== AttnRefIdeal.lean ====
abbrev S4096x2048 : Shape := ⟨2, ![4096, 2048]⟩
abbrev S4096x16x128 : Shape := ⟨3, ![4096, 16, 128]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x128x4096 : Shape := ⟨3, ![16, 128, 4096]⟩
abbrev S16x4096x128 : Shape := ⟨3, ![16, 4096, 128]⟩

abbrev nBuf : Space → Nat
  | .hbm => 176
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x2048, .bf16⟩
  | 5 => ⟨S4096x2048, .f32⟩
  | 6 => ⟨S4096x2048, .bf16⟩
  | 7 => ⟨S4096x2048, .f32⟩
  | 8 => ⟨S4096x2048, .bf16⟩
  | 9 => ⟨S4096x2048, .f32⟩
  | 10 => ⟨S4096x2048, .bf16⟩
  | 11 => ⟨S4096x2048, .f32⟩
  | 12 => ⟨S4096x16x128, .f32⟩
  | 13 => ⟨S4096x16x128, .f32⟩
  | 14 => ⟨S4096x16x128, .f32⟩
  | 15 => ⟨S16x4096x4096, .f32⟩
  | 16 => ⟨S4096, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i1⟩
  | 23 => ⟨S16x4096x4096, .f32⟩
  | 24 => ⟨S16x4096x4096, .f32⟩
  | 25 => ⟨S_, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .i1⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S_, .f32⟩
  | 40 => ⟨S16x4096x4096, .f32⟩
  | 41 => ⟨S16x4096x4096, .i1⟩
  | 42 => ⟨S_, .f32⟩
  | 43 => ⟨S16x4096x4096, .f32⟩
  | 44 => ⟨S16x4096x4096, .f32⟩
  | 45 => ⟨S_, .f32⟩
  | 46 => ⟨S16x4096x4096, .f32⟩
  | 47 => ⟨S16x4096x4096, .i1⟩
  | 48 => ⟨S_, .f32⟩
  | 49 => ⟨S16x4096x4096, .f32⟩
  | 50 => ⟨S16x4096x4096, .f32⟩
  | 51 => ⟨S16x4096x4096, .f32⟩
  | 52 => ⟨S16x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S16x4096x4096, .f32⟩
  | 61 => ⟨S16x4096x4096, .i1⟩
  | 62 => ⟨S_, .f32⟩
  | 63 => ⟨S16x4096x4096, .f32⟩
  | 64 => ⟨S16x4096x4096, .f32⟩
  | 65 => ⟨S16x4096x4096, .f32⟩
  | 66 => ⟨S16x4096x4096, .f32⟩
  | 67 => ⟨S16x4096x4096, .f32⟩
  | 68 => ⟨S_, .f32⟩
  | 69 => ⟨S16x4096x4096, .f32⟩
  | 70 => ⟨S16x4096x4096, .f32⟩
  | 71 => ⟨S16x4096x4096, .f32⟩
  | 72 => ⟨S_, .f32⟩
  | 73 => ⟨S_, .f32⟩
  | 74 => ⟨S16x4096x4096, .i1⟩
  | 75 => ⟨S16x4096x4096, .f32⟩
  | 76 => ⟨S16x4096x4096, .f32⟩
  | 77 => ⟨S_, .f32⟩
  | 78 => ⟨S16x4096x4096, .f32⟩
  | 79 => ⟨S_, .f32⟩
  | 80 => ⟨S_, .f32⟩
  | 81 => ⟨S16x4096x4096, .f32⟩
  | 82 => ⟨S16x4096x4096, .f32⟩
  | 83 => ⟨S16x4096x4096, .f32⟩
  | 84 => ⟨S_, .f32⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .i1⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S16x4096x4096, .f32⟩
  | 97 => ⟨S16x4096x4096, .f32⟩
  | 98 => ⟨S_, .f32⟩
  | 99 => ⟨S16x4096x4096, .f32⟩
  | 100 => ⟨S16x4096x4096, .i1⟩
  | 101 => ⟨S_, .f32⟩
  | 102 => ⟨S16x4096x4096, .f32⟩
  | 103 => ⟨S16x4096x4096, .f32⟩
  | 104 => ⟨S_, .f32⟩
  | 105 => ⟨S16x4096x4096, .f32⟩
  | 106 => ⟨S16x4096x4096, .i1⟩
  | 107 => ⟨S_, .f32⟩
  | 108 => ⟨S16x4096x4096, .f32⟩
  | 109 => ⟨S16x4096x4096, .f32⟩
  | 110 => ⟨S16x4096x4096, .f32⟩
  | 111 => ⟨S16x4096x4096, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S16x4096x4096, .f32⟩
  | 120 => ⟨S16x4096x4096, .i1⟩
  | 121 => ⟨S_, .f32⟩
  | 122 => ⟨S16x4096x4096, .f32⟩
  | 123 => ⟨S16x4096x4096, .f32⟩
  | 124 => ⟨S16x4096x4096, .f32⟩
  | 125 => ⟨S16x4096x4096, .f32⟩
  | 126 => ⟨S16x4096x4096, .f32⟩
  | 127 => ⟨S_, .f32⟩
  | _ => ⟨S4096x2048, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S16x4096x4096, .f32⟩
  | 5 => ⟨S_, .f32⟩
  | 6 => ⟨S_, .f32⟩
  | 7 => ⟨S16x4096x4096, .i1⟩
  | 8 => ⟨S16x4096x4096, .f32⟩
  | 9 => ⟨S16x4096x4096, .f32⟩
  | 10 => ⟨S_, .f32⟩
  | 11 => ⟨S16x4096x4096, .f32⟩
  | 12 => ⟨S16x128x4096, .f32⟩
  | 13 => ⟨S4096x16x128, .f32⟩
  | 14 => ⟨S4096x2048, .f32⟩
  | 15 => ⟨S4096x2048, .bf16⟩
  | 16 => ⟨S4096x16x128, .f32⟩
  | 17 => ⟨S16x128x4096, .f32⟩
  | 18 => ⟨S16x4096x4096, .f32⟩
  | 19 => ⟨S16x128x4096, .f32⟩
  | 20 => ⟨S4096x16x128, .f32⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S_, .f32⟩
  | 30 => ⟨S_, .f32⟩
  | 31 => ⟨S16x4096x4096, .f32⟩
  | 32 => ⟨S16x4096x4096, .f32⟩
  | 33 => ⟨S_, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S16x4096x128, .f32⟩
  | 42 => ⟨S4096x16x128, .f32⟩
  | 43 => ⟨S16x4096x128, .f32⟩
  | 44 => ⟨S4096x16x128, .f32⟩
  | 45 => ⟨S4096x2048, .f32⟩
  | 46 => ⟨S4096x2048, .f32⟩
  | 47 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_cst : Ref sig .tc := ⟨.hbm, 72, rfl⟩
abbrev main_call1_v0 : Ref sig .tc := ⟨.hbm, 73, rfl⟩
abbrev main_v21_1 : Ref sig .tc := ⟨.hbm, 74, rfl⟩
abbrev main_call1_v2 : Ref sig .tc := ⟨.hbm, 75, rfl⟩
abbrev main_v21_0 : Ref sig .tc := ⟨.hbm, 76, rfl⟩
abbrev main_call1_cst : Ref sig .tc := ⟨.hbm, 77, rfl⟩
abbrev main_v21_2 : Ref sig .tc := ⟨.hbm, 78, rfl⟩
abbrev main_call2_cst : Ref sig .tc := ⟨.hbm, 79, rfl⟩
abbrev main_call2_v0 : Ref sig .tc := ⟨.hbm, 80, rfl⟩
abbrev main_v22 : Ref sig .tc := ⟨.hbm, 81, rfl⟩
abbrev main_v23 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v24_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v24_2 : Ref sig .tc := ⟨.hbm, 129, rfl⟩
abbrev main_v24_0 : Ref sig .tc := ⟨.hbm, 130, rfl⟩
abbrev main_v25 : Ref sig .tc := ⟨.hbm, 131, rfl⟩
abbrev main_v26 : Ref sig .tc := ⟨.hbm, 132, rfl⟩
abbrev main_cst_0 : Ref sig .tc := ⟨.hbm, 133, rfl⟩
abbrev main_call4_v0 : Ref sig .tc := ⟨.hbm, 134, rfl⟩
abbrev main_v27_1 : Ref sig .tc := ⟨.hbm, 135, rfl⟩
abbrev main_call4_v2 : Ref sig .tc := ⟨.hbm, 136, rfl⟩
abbrev main_v27_0 : Ref sig .tc := ⟨.hbm, 137, rfl⟩
abbrev main_call4_cst : Ref sig .tc := ⟨.hbm, 138, rfl⟩
abbrev main_v27_2 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_call5_cst : Ref sig .tc := ⟨.hbm, 149, rfl⟩
abbrev main_call5_v0 : Ref sig .tc := ⟨.hbm, 150, rfl⟩
abbrev main_v37 : Ref sig .tc := ⟨.hbm, 151, rfl⟩
abbrev main_v38 : Ref sig .tc := ⟨.hbm, 152, rfl⟩
abbrev main_call6_v0 : Ref sig .tc := ⟨.hbm, 153, rfl⟩
abbrev main_call6_v1 : Ref sig .tc := ⟨.hbm, 154, rfl⟩
abbrev main_v39 : Ref sig .tc := ⟨.hbm, 155, rfl⟩
abbrev main_v40 : Ref sig .tc := ⟨.hbm, 156, rfl⟩
abbrev main_call7_cst : Ref sig .tc := ⟨.hbm, 157, rfl⟩
abbrev main_call7_v0 : Ref sig .tc := ⟨.hbm, 158, rfl⟩
abbrev main_v41 : Ref sig .tc := ⟨.hbm, 159, rfl⟩
abbrev main_v42 : Ref sig .tc := ⟨.hbm, 160, rfl⟩
abbrev main_call8_cst : Ref sig .tc := ⟨.hbm, 161, rfl⟩
abbrev main_call8_v0 : Ref sig .tc := ⟨.hbm, 162, rfl⟩
abbrev main_v43 : Ref sig .tc := ⟨.hbm, 163, rfl⟩
abbrev main_call9_v0 : Ref sig .tc := ⟨.hbm, 164, rfl⟩
abbrev main_call9_v1 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== Loss.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg0 : BitVec 32 := BitVec.ofNat 32 (i 0).val
  let c0_i32_9 : BitVec 32 := 0#32
  let v14 : BitVec 1 := Scalar.cmpi .sgt arg0 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S2048 : Shape := ⟨1, ![2048]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Conv.lean ====
abbrev S4096x2048 : Shape := ⟨2, ![4096, 2048]⟩
abbrev S3x4096x2048 : Shape := ⟨3, ![3, 4096, 2048]⟩
abbrev S3x2048 : Shape := ⟨2, ![3, 2048]⟩
abbrev S_ : Shape := ⟨0, ![]⟩
abbrev S16x2048 : Shape := ⟨2, ![16, 2048]⟩
abbrev S16x4x512 : Shape := ⟨3, ![16, 4, 512]⟩
abbrev S4x16x512 : Shape := ⟨3, ![4, 16, 512]⟩
abbrev S4x8x512 : Shape := ⟨3, ![4, 8, 512]⟩
abbrev S4096x128 : Shape := ⟨2, ![4096, 128]⟩
abbrev S1x4096x128 : Shape := ⟨3, ![1, 4096, 128]⟩
abbrev S1x8x128 : Shape := ⟨3, ![1, 8, 128]⟩
abbrev S3x4096x128 : Shape := ⟨3, ![3, 4096, 128]⟩
abbrev S8x128 : Shape := ⟨2, ![8, 128]⟩
abbrev S1x128 : Shape := ⟨2, ![1, 128]⟩
abbrev S128 : Shape := ⟨1, ![128]⟩
abbrev S1x1x128 : Shape := ⟨3, ![1, 1, 128]⟩
abbrev S5x128 : Shape := ⟨2, ![5, 128]⟩
abbrev S1x5x128 : Shape := ⟨3, ![1, 5, 128]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S3x4096x2048, .f32⟩
  | .hbm, ⟨2, _⟩ => ⟨S3x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x4x512, .f32⟩
  | .hbm, ⟨7, _⟩ => ⟨S4x16x512, .f32⟩
  | .hbm, ⟨8, _⟩ => ⟨S3x4096x2048, .bf16⟩
  | .hbm, ⟨9, _⟩ => ⟨S4x8x512, .f32⟩
  | .local _ .vmem, ⟨0, _⟩ => ⟨S4096x128, .f32⟩
  | .local _ .vmem, ⟨1, _⟩ => ⟨S4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x8x128, .f32⟩
  | .local _ .vmem, ⟨9, _⟩ => ⟨S1x8x128, .f32⟩
  | .local _ .vmem, ⟨10, _⟩ => ⟨S3x4096x128, .bf16⟩
  | .local _ .vmem, ⟨11, _⟩ => ⟨S3x4096x128, .bf16⟩
  | .local _ .vmem, ⟨12, _⟩ => ⟨S1x8x128, .f32⟩
  | .local _ .vmem, ⟨13, _⟩ => ⟨S1x8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S4096x2048 : Shape := ⟨2, ![4096, 2048]⟩
abbrev S3x4096x2048 : Shape := ⟨3, ![3, 4096, 2048]⟩
abbrev S3x2048 : Shape := ⟨2, ![3, 2048]⟩
abbrev S1x4096x2048 : Shape := ⟨3, ![1, 4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S8x2048 : Shape := ⟨2, ![8, 2048]⟩
abbrev S8x4x512 : Shape := ⟨3, ![8, 4, 512]⟩
abbrev S4x8x512 : Shape := ⟨3, ![4, 8, 512]⟩

abbrev nBuf : Space → Nat
  | .hbm => 105
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3x4096x2048, .f32⟩
  | .hbm, ⟨2, _⟩ => ⟨S3x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S1x4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S2x2048, .f32⟩
  | .hbm, ⟨12, _⟩ => ⟨S4098x2048, .f32⟩
  | .hbm, ⟨13, _⟩ => ⟨S_, .f32⟩
  | .hbm, ⟨14, _⟩ => ⟨S2x2048, .f32⟩
  | .hbm, ⟨15, _⟩ => ⟨S4096x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S3x2048, .f32⟩
  | .hbm, ⟨52, _⟩ => ⟨S_, .f32⟩
  | .hbm, ⟨53, _⟩ => ⟨S4098x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S_, .f32⟩
  | .hbm, ⟨64, _⟩ => ⟨S3x2048, .f32⟩
  | .hbm, ⟨65, _⟩ => ⟨S3x2048, .f32⟩
  | .hbm, ⟨66, _⟩ => ⟨S_, .f32⟩
  | .hbm, ⟨67, _⟩ => ⟨S4098x2048, .f32⟩
  | .hbm, ⟨68, _⟩ => ⟨S4098x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S3x2048, .f32⟩
  | .hbm, ⟨80, _⟩ => ⟨S3x2048, .f32⟩
  | .hbm, ⟨81, _⟩ => ⟨S_, .f32⟩
  | .hbm, ⟨82, _⟩ => ⟨S4098x2048, .f32⟩
  | .hbm, ⟨83, _⟩ => ⟨S4098x2048, .f32⟩
  | .hbm, ⟨84, _⟩ => ⟨S2x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S1x4096x2048, .f32⟩
  | .hbm, ⟨89, _⟩ => ⟨S_, .f32⟩
  | .hbm, ⟨90, _⟩ => ⟨S3x4096x2048, .f32⟩
  | .hbm, ⟨91, _⟩ => ⟨S1x4096x2048, .f32⟩
  | .hbm, ⟨92, _⟩ => ⟨S_, .f32⟩
  | .hbm, ⟨93, _⟩ => ⟨S3x4096x2048, .f32⟩
  | .hbm, ⟨94, _⟩ => ⟨S3x4096x2048, .f32⟩
  | .hbm, ⟨95, _⟩ => ⟨S1x4096x2048, .f32⟩
  | .hbm, ⟨96, _⟩ => ⟨S_, .f32⟩
  | .hbm, ⟨97, _⟩ => ⟨S3x4096x2048, .f32⟩
  | .hbm, ⟨98, _⟩ => ⟨S3x4096x2048, .f32⟩
  | .hbm, ⟨99, _⟩ => ⟨S_, .i32⟩
  | .hbm, ⟨100, _⟩ => ⟨S_, .f32⟩
  | .hbm, ⟨101, _⟩ => ⟨S8x2048, .f32⟩
  | .hbm, ⟨102, _⟩ => ⟨S8x4x512, .f32⟩
  | .hbm, ⟨103, _⟩ => ⟨S4x8x512, .f32⟩
  | .hbm, ⟨104, _⟩ => ⟨S3x4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_14 : Ref sig .tc := ⟨.hbm, 89, rfl⟩
abbrev main_v71 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_c : Ref sig .tc := ⟨.hbm, 99, rfl⟩
abbrev main_call0_v0 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Heads.lean ====
abbrev S3x4096x2048 : Shape := ⟨3, ![3, 4096, 2048]⟩
abbrev S1x128 : Shape := ⟨2, ![1, 128]⟩
abbrev S4096x2048 : Shape := ⟨2, ![4096, 2048]⟩
abbrev S1x256x2048 : Shape := ⟨3, ![1, 256, 2048]⟩
abbrev S256x2048 : Shape := ⟨2, ![256, 2048]⟩
abbrev S3x256x2048 : Shape := ⟨3, ![3, 256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 9
  | .vmem => 16
  | .smem => 0
  | _ => 0

abbrev bufTy : (tb : Table) → Fin (tcTables nBuf tb) → BufTy
  | .hbm, ⟨0, _⟩ => ⟨S3x4096x2048, .f32⟩
  | .hbm, ⟨1, _⟩ => ⟨S1x128, .f32⟩
  | .hbm, ⟨2, _⟩ => ⟨S1x128, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S3x4096x2048, .bf16⟩
  | .hbm, ⟨7, _⟩ => ⟨S1x128, .f32⟩
  | .hbm, ⟨8, _⟩ => ⟨S1x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x128, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S3x256x2048, .bf16⟩
  | .local _ .vmem, ⟨13, _⟩ => ⟨S3x256x2048, .bf16⟩
  | .local _ .vmem, ⟨14, _⟩ => ⟨S1x128, .f32⟩
  | .local _ .vmem, ⟨15, _⟩ => ⟨S1x128, .f32⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1159 : BitVec 1 := Scalar.cmpi .eq arg0 c0_i32
  let v1160 : BitVec 32 := Scalar.extui v1159
  let c0_i32_532 : BitVec 32 := 0#32
  let v1161 : BitVec 1 := Scalar.cmpi .ne v1160 c0_i32_532
  v1161

def k0_cond2 (i : grid0.Coords) : BitVec 1 :=
  let arg0 : BitVec 32 := BitVec.ofNat 32 (i 0).val
  let c0_i32_533 : BitVec 32 := 0#32
  let v1162 : BitVec 1 := Scalar.cmpi .sgt arg0 c0_i32_533
  let v1163 : BitVec 32 := Scalar.extui v1162
  let c0_i32_534 : BitVec 32 := 0#32
  let v1164 : BitVec 1 := Scalar.cmpi .ne v1163 c0_i32_534
  v1164

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadsRefIdeal.lean ====
abbrev S3x4096x2048 : Shape := ⟨3, ![3, 4096, 2048]⟩
abbrev S1x128 : Shape := ⟨2, ![1, 128]⟩
abbrev S4096x2048 : Shape := ⟨2, ![4096, 2048]⟩
abbrev S1x4096x2048 : Shape := ⟨3, ![1, 4096, 2048]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S128 : Shape := ⟨1, ![128]⟩

abbrev nBuf : Space → Nat
  | .hbm => 130
  | .vmem => 0
  | .smem => 0
  | _ => 0

abbrev hbmTy0_0 (i : Nat) : BufTy := match i % 128 with
  | 0 => ⟨S3x4096x2048, .f32⟩
  | 1 => ⟨S1x128, .f32⟩
  | 2 => ⟨S1x128, .f32⟩
  | 3 => ⟨S4096x2048, .f32⟩
  | 4 => ⟨S4096x2048, .f32⟩
  | 5 => ⟨S4096x2048, .f32⟩
  | 6 => ⟨S1x4096x2048, .f32⟩
  | 7 => ⟨S4096x2048, .f32⟩
  | 8 => ⟨S4096x16x128, .f32⟩
  | 9 => ⟨S4096x16x128, .f32⟩
  | 10 => ⟨S_, .f32⟩
  | 11 => ⟨S4096x16, .f32⟩
  | 12 => ⟨S4096x16x1, .f32⟩
  | 13 => ⟨S_, .f32⟩
  | 14 => ⟨S4096x16x1, .f32⟩
  | 15 => ⟨S4096x16x1, .f32⟩
  | 16 => ⟨S_, .f32⟩
  | 17 => ⟨S4096x16x1, .f32⟩
  | 18 => ⟨S4096x16x1, .f32⟩
  | 19 => ⟨S4096x16x1, .f32⟩
  | 20 => ⟨S4096x16x1, .f32⟩
  | 21 => ⟨S_, .f32⟩
  | 22 => ⟨S4096x16x1, .f32⟩
  | 23 => ⟨S4096x16x1, .f32⟩
  | 24 => ⟨S4096x16x128, .f32⟩
  | 25 => ⟨S4096x16x128, .f32⟩
  | 26 => ⟨S1x1x128, .f32⟩
  | 27 => ⟨S4096x16x128, .f32⟩
  | 28 => ⟨S4096x16x128, .f32⟩
  | 29 => ⟨S_, .f32⟩
  | 30 => ⟨S4096x16x128, .f32⟩
  | 31 => ⟨S4096x16x128, .f32⟩
  | 32 => ⟨S1x4096x2048, .f32⟩
  | 33 => ⟨S4096x2048, .f32⟩
  | 34 => ⟨S4096x16x128, .f32⟩
  | 35 => ⟨S4096x16x128, .f32⟩
  | 36 => ⟨S_, .f32⟩
  | 37 => ⟨S4096x16, .f32⟩
  | 38 => ⟨S4096x16x1, .f32⟩
  | 39 => ⟨S_, .f32⟩
  | 40 => ⟨S4096x16x1, .f32⟩
  | 41 => ⟨S4096x16x1, .f32⟩
  | 42 => ⟨S_, .f32⟩
  | 43 => ⟨S4096x16x1, .f32⟩
  | 44 => ⟨S4096x16x1, .f32⟩
  | 45 => ⟨S4096x16x1, .f32⟩
  | 46 => ⟨S4096x16x1, .f32⟩
  | 47 => ⟨S_, .f32⟩
  | 48 => ⟨S4096x16x1, .f32⟩
  | 49 => ⟨S4096x16x1, .f32⟩
  | 50 => ⟨S4096x16x128, .f32⟩
  | 51 => ⟨S4096x16x128, .f32⟩
  | 52 => ⟨S1x1x128, .f32⟩
  | 53 => ⟨S4096x16x128, .f32⟩
  | 54 => ⟨S4096x16x128, .f32⟩
  | 55 => ⟨S4096x2048, .f32⟩
  | 56 => ⟨S4096x2048, .f32⟩
  | 57 => ⟨S1x4096x2048, .f32⟩
  | 58 => ⟨S4096x2048, .f32⟩
  | 59 => ⟨S1x4096x2048, .f32⟩
  | 60 => ⟨S_, .f32⟩
  | 61 => ⟨S3x4096x2048, .f32⟩
  | 62 => ⟨S4096x16x128, .f32⟩
  | 63 => ⟨S4096x16x128, .f32⟩
  | 64 => ⟨S4096x16x128, .f32⟩
  | 65 => ⟨S_, .f32⟩
  | 66 => ⟨S128, .f32⟩
  | 67 => ⟨S1x1x128, .f32⟩
  | 68 => ⟨S4096x16x128, .f32⟩
  | 69 => ⟨S4096x16x128, .f32⟩
  | 70 => ⟨S_, .f32⟩
  | 71 => ⟨S128, .f32⟩
  | 72 => ⟨S1x128, .f32⟩
  | 73 => ⟨S4096x16x128, .f32⟩
  | 74 => ⟨S_, .f32⟩
  | 75 => ⟨S4096x16, .f32⟩
  | 76 => ⟨S4096x16x1, .f32⟩
  | 77 => ⟨S4096x16x128, .f32⟩
  | 78 => ⟨S4096x16x128, .f32⟩
  | 79 => ⟨S4096x16x1, .f32⟩
  | 80 => ⟨S_, .f32⟩
  | 81 => ⟨S4096x16x1, .f32⟩
  | 82 => ⟨S4096x16x1, .f32⟩
  | 83 => ⟨S_, .f32⟩
  | 84 => ⟨S4096x16, .f32⟩
  | 85 => ⟨S4096x16x128, .f32⟩
  | 86 => ⟨S4096x16x128, .f32⟩
  | 87 => ⟨S4096x16x128, .f32⟩
  | 88 => ⟨S4096x16x128, .f32⟩
  | 89 => ⟨S4096x16x128, .f32⟩
  | 90 => ⟨S4096x2048, .f32⟩
  | 91 => ⟨S1x4096x2048, .f32⟩
  | 92 => ⟨S_, .f32⟩
  | 93 => ⟨S3x4096x2048, .f32⟩
  | 94 => ⟨S3x4096x2048, .f32⟩
  | 95 => ⟨S_, .f32⟩
  | 96 => ⟨S4096x16x128, .f32⟩
  | 97 => ⟨S4096x16x128, .f32⟩
  | 98 => ⟨S4096x16x128, .f32⟩
  | 99 => ⟨S_, .f32⟩
  | 100 => ⟨S128, .f32⟩
  | 101 => ⟨S1x1x128, .f32⟩
  | 102 => ⟨S4096x16x128, .f32⟩
  | 103 => ⟨S4096x16x128, .f32⟩
  | 104 => ⟨S_, .f32⟩
  | 105 => ⟨S128, .f32⟩
  | 106 => ⟨S1x128, .f32⟩
  | 107 => ⟨S4096x16x128, .f32⟩
  | 108 => ⟨S_, .f32⟩
  | 109 => ⟨S4096x16, .f32⟩
  | 110 => ⟨S4096x16x1, .f32⟩
  | 111 => ⟨S4096x16x128, .f32⟩
  | 112 => ⟨S4096x16x128, .f32⟩
  | 113 => ⟨S4096x16x1, .f32⟩
  | 114 => ⟨S_, .f32⟩
  | 115 => ⟨S4096x16x1, .f32⟩
  | 116 => ⟨S4096x16x1, .f32⟩
  | 117 => ⟨S_, .f32⟩
  | 118 => ⟨S4096x16, .f32⟩
  | 119 => ⟨S4096x16x128, .f32⟩
  | 120 => ⟨S4096x16x128, .f32⟩
  | 121 => ⟨S4096x16x128, .f32⟩
  | 122 => ⟨S4096x16x128, .f32⟩
  | 123 => ⟨S4096x16x128, .f32⟩
  | 124 => ⟨S4096x2048, .f32⟩
  | 125 => ⟨S1x4096x2048, .f32⟩
  | 126 => ⟨S_, .f32⟩
  | 127 => ⟨S3x4096x2048, .f32⟩
  | _ => ⟨S3x4096x2048, .f32⟩

abbrev hbmTy0_1 (i : Nat) : BufTy := match i % 128 with
  | 0 => ⟨S3x4096x2048, .f32⟩
  | 1 => ⟨S3x4096x2048, .bf16⟩
  | _ => ⟨S3x4096x2048, .f32⟩

abbrev hbmTy (i : Nat) : BufTy := match i / 128 with
  | 0 => hbmTy0_0 i
  | 1 => hbmTy0_1 i
  | _ => ⟨S3x4096x2048, .f32⟩

abbrev bufTy : (tb : Table) → Fin (tcTables nBuf tb) → BufTy
  | .hbm, ⟨i, _⟩ => hbmTy i
  | _, _ => ⟨S3x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_21 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Gate.lean ====
abbrev S4096x2048 : Shape := ⟨2, ![4096, 2048]⟩
abbrev S4096x5632 : Shape := ⟨2, ![4096, 5632]⟩
abbrev S5632x2048 : Shape := ⟨2, ![5632, 2048]⟩
abbrev S4x1x1408x2048 : Shape := ⟨4, ![4, 1, 1408, 2048]⟩
abbrev S256x2048 : Shape := ⟨2, ![256, 2048]⟩
abbrev S1x1x1408x2048 : Shape := ⟨4, ![1, 1, 1408, 2048]⟩
abbrev S256x1408 : Shape := ⟨2, ![256, 1408]⟩
abbrev S1408x2048 : Shape := ⟨2, ![1408, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S5632x2048, .f32⟩
  | .hbm, ⟨4, _⟩ => ⟨S5632x2048, .bf16⟩
  | .hbm, ⟨5, _⟩ => ⟨S4x1x1408x2048, .bf16⟩
  | .hbm, ⟨6, _⟩ => ⟨S4096x2048, .bf16⟩
  | .hbm, ⟨7, _⟩ => ⟨S4096x5632, .bf16⟩
  | .hbm, ⟨8, _⟩ => ⟨S4096x5632, .bf16⟩
  | .local _ .vmem, ⟨0, _⟩ => ⟨S256x2048, .bf16⟩
  | .local _ .vmem, ⟨1, _⟩ => ⟨S256x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩
abbrev S2048x5632 : Shape := ⟨2, ![2048, 5632]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S5632x2048, .f32⟩
  | .hbm, ⟨4, _⟩ => ⟨S5632x2048, .bf16⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .bf16⟩
  | .hbm, ⟨22, _⟩ => ⟨S4096x2048, .f32⟩
  | .hbm, ⟨23, _⟩ => ⟨S2048x5632, .f32⟩
  | .hbm, ⟨24, _⟩ => ⟨S5632x2048, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .bf16⟩
  | .hbm, ⟨33, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Pool.lean ====
abbrev S4096x2048 : Shape := ⟨2, ![4096, 2048]⟩
abbrev S4096x256 : Shape := ⟨2, ![4096, 256]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolRefIdeal.lean ====
abbrev S4096x2048 : Shape := ⟨2, ![4096, 2048]⟩
abbrev S_ : Shape := ⟨0, ![]⟩
abbrev S4096x4x512 : Shape := ⟨3, ![4096, 4, 512]⟩
abbrev S4096 : Shape := ⟨1, ![4096]⟩
abbrev S4096x1x512 : Shape := ⟨3, ![4096, 1, 512]⟩
abbrev S4096x512 : Shape := ⟨2, ![4096, 512]⟩
abbrev S2x512 : Shape := ⟨2, ![2, 512]⟩
abbrev S4098x512 : Shape := ⟨2, ![4098, 512]⟩
abbrev S4096x1 : Shape := ⟨2, ![4096, 1]⟩
abbrev S4x512 : Shape := ⟨2, ![4, 512]⟩
abbrev S4100x512 : Shape := ⟨2, ![4100, 512]⟩
abbrev S8x512 : Shape := ⟨2, ![8, 512]⟩
abbrev S4104x512 : Shape := ⟨2, ![4104, 512]⟩
abbrev S16x512 : Shape := ⟨2, ![16, 512]⟩
abbrev S4112x512 : Shape := ⟨2, ![4112, 512]⟩

abbrev nBuf : Space → Nat
  | .hbm => 173
  | .vmem => 0
  | .smem => 0
  | _ => 0

abbrev hbmTy0_0 (i : Nat) : BufTy := match i % 128 with
  | 0 => ⟨S4096x2048, .f32⟩
  | 1 => ⟨S_, .f32⟩
  | 2 => ⟨S4096x2048, .f32⟩
  | 3 => ⟨S4096x4x512, .f32⟩
  | 4 => ⟨S_, .f32⟩
  | 5 => ⟨S_, .f32⟩
  | 6 => ⟨S4096x4x512, .f32⟩
  | 7 => ⟨S4096, .i32⟩
  | 8 => ⟨S_, .i32⟩
  | 9 => ⟨S4096, .i32⟩
  | 10 => ⟨S4096, .i32⟩
  | 11 => ⟨S4096x1x512, .f32⟩
  | 12 => ⟨S4096x512, .f32⟩
  | 13 => ⟨S_, .f32⟩
  | 14 => ⟨S2x512, .f32⟩
  | 15 => ⟨S4098x512, .f32⟩
  | 16 => ⟨S_, .f32⟩
  | 17 => ⟨S2x512, .f32⟩
  | 18 => ⟨S4096x512, .f32⟩
  | 19 => ⟨S_, .i32⟩
  | 20 => ⟨S4096, .i32⟩
  | 21 => ⟨S4096, .i32⟩
  | 22 => ⟨S4096, .f32⟩
  | 23 => ⟨S4096x1, .f32⟩
  | 24 => ⟨S4096x512, .f32⟩
  | 25 => ⟨S4096x512, .f32⟩
  | 26 => ⟨S4096x512, .f32⟩
  | 27 => ⟨S4096x1x512, .f32⟩
  | 28 => ⟨S4096x512, .f32⟩
  | 29 => ⟨S4096x512, .f32⟩
  | 30 => ⟨S4096x1x512, .f32⟩
  | 31 => ⟨S4096x512, .f32⟩
  | 32 => ⟨S_, .f32⟩
  | 33 => ⟨S4x512, .f32⟩
  | 34 => ⟨S4100x512, .f32⟩
  | 35 => ⟨S_, .f32⟩
  | 36 => ⟨S4x512, .f32⟩
  | 37 => ⟨S4096x512, .f32⟩
  | 38 => ⟨S_, .i32⟩
  | 39 => ⟨S4096, .i32⟩
  | 40 => ⟨S4096, .i32⟩
  | 41 => ⟨S4096, .f32⟩
  | 42 => ⟨S4096x1, .f32⟩
  | 43 => ⟨S4096x512, .f32⟩
  | 44 => ⟨S4096x512, .f32⟩
  | 45 => ⟨S4096x512, .f32⟩
  | 46 => ⟨S4096x1x512, .f32⟩
  | 47 => ⟨S4096x512, .f32⟩
  | 48 => ⟨S4096x512, .f32⟩
  | 49 => ⟨S4096x1x512, .f32⟩
  | 50 => ⟨S4096x512, .f32⟩
  | 51 => ⟨S_, .f32⟩
  | 52 => ⟨S8x512, .f32⟩
  | 53 => ⟨S4104x512, .f32⟩
  | 54 => ⟨S_, .f32⟩
  | 55 => ⟨S8x512, .f32⟩
  | 56 => ⟨S4096x512, .f32⟩
  | 57 => ⟨S_, .i32⟩
  | 58 => ⟨S4096, .i32⟩
  | 59 => ⟨S4096, .i32⟩
  | 60 => ⟨S4096, .f32⟩
  | 61 => ⟨S4096x1, .f32⟩
  | 62 => ⟨S4096x512, .f32⟩
  | 63 => ⟨S4096x512, .f32⟩
  | 64 => ⟨S4096x512, .f32⟩
  | 65 => ⟨S4096x1x512, .f32⟩
  | 66 => ⟨S4096x512, .f32⟩
  | 67 => ⟨S4096x512, .f32⟩
  | 68 => ⟨S4096x1x512, .f32⟩
  | 69 => ⟨S4096x512, .f32⟩
  | 70 => ⟨S_, .f32⟩
  | 71 => ⟨S16x512, .f32⟩
  | 72 => ⟨S4112x512, .f32⟩
  | 73 => ⟨S_, .f32⟩
  | 74 => ⟨S16x512, .f32⟩
  | 75 => ⟨S4096x512, .f32⟩
  | 76 => ⟨S_, .i32⟩
  | 77 => ⟨S4096, .i32⟩
  | 78 => ⟨S4096, .i32⟩
  | 79 => ⟨S4096, .f32⟩
  | 80 => ⟨S4096x1, .f32⟩
  | 81 => ⟨S4096x512, .f32⟩
  | 82 => ⟨S4096x512, .f32⟩
  | 83 => ⟨S4096x512, .f32⟩
  | 84 => ⟨S4096x1x512, .f32⟩
  | 85 => ⟨S4096x512, .f32⟩
  | 86 => ⟨S4096x512, .f32⟩
  | 87 => ⟨S4096x1x512, .f32⟩
  | 88 => ⟨S4096x1x512, .f32⟩
  | 89 => ⟨S4096x1x512, .f32⟩
  | 90 => ⟨S4096x1x512, .f32⟩
  | 91 => ⟨S4096x4x512, .f32⟩
  | 92 => ⟨S4096x2048, .f32⟩
  | 93 => ⟨S4096x4x512, .f32⟩
  | 94 => ⟨S4096x1x512, .f32⟩
  | 95 => ⟨S4096x512, .f32⟩
  | 96 => ⟨S4096x1x512, .f32⟩
  | 97 => ⟨S4096x512, .f32⟩
  | 98 => ⟨S4096x1x512, .f32⟩
  | 99 => ⟨S4096x512, .f32⟩
  | 100 => ⟨S4096x1x512, .f32⟩
  | 101 => ⟨S4096x512, .f32⟩
  | 102 => ⟨S4096x512, .f32⟩
  | 103 => ⟨S4096x1x512, .f32⟩
  | 104 => ⟨S_, .f32⟩
  | 105 => ⟨S4096x4x512, .f32⟩
  | 106 => ⟨S4096x512, .f32⟩
  | 107 => ⟨S4096x512, .f32⟩
  | 108 => ⟨S4096x512, .f32⟩
  | 109 => ⟨S_, .f32⟩
  | 110 => ⟨S4112x512, .f32⟩
  | 111 => ⟨S16x512, .f32⟩
  | 112 => ⟨S4096x512, .f32⟩
  | 113 => ⟨S4096x512, .f32⟩
  | 114 => ⟨S4096x1x512, .f32⟩
  | 115 => ⟨S_, .f32⟩
  | 116 => ⟨S4096x4x512, .f32⟩
  | 117 => ⟨S4096x512, .f32⟩
  | 118 => ⟨S4096x1x512, .f32⟩
  | 119 => ⟨S_, .f32⟩
  | 120 => ⟨S4096x4x512, .f32⟩
  | 121 => ⟨S4096x4x512, .f32⟩
  | 122 => ⟨S4096x512, .f32⟩
  | 123 => ⟨S4096x512, .f32⟩
  | 124 => ⟨S4096x512, .f32⟩
  | 125 => ⟨S_, .f32⟩
  | 126 => ⟨S4104x512, .f32⟩
  | 127 => ⟨S8x512, .f32⟩
  | _ => ⟨S4096x2048, .f32⟩

abbrev hbmTy0_1 (i : Nat) : BufTy := match i % 128 with
  | 0 => ⟨S4096x512, .f32⟩
  | 1 => ⟨S4096x512, .f32⟩
  | 2 => ⟨S4096x1x512, .f32⟩
  | 3 => ⟨S_, .f32⟩
  | 4 => ⟨S4096x4x512, .f32⟩
  | 5 => ⟨S4096x4x512, .f32⟩
  | 6 => ⟨S4096x512, .f32⟩
  | 7 => ⟨S4096x1x512, .f32⟩
  | 8 => ⟨S_, .f32⟩
  | 9 => ⟨S4096x4x512, .f32⟩
  | 10 => ⟨S4096x4x512, .f32⟩
  | 11 => ⟨S4096x512, .f32⟩
  | 12 => ⟨S4096x512, .f32⟩
  | 13 => ⟨S4096x512, .f32⟩
  | 14 => ⟨S_, .f32⟩
  | 15 => ⟨S4100x512, .f32⟩
  | 16 => ⟨S4x512, .f32⟩
  | 17 => ⟨S4096x512, .f32⟩
  | 18 => ⟨S4096x512, .f32⟩
  | 19 => ⟨S4096x1x512, .f32⟩
  | 20 => ⟨S_, .f32⟩
  | 21 => ⟨S4096x4x512, .f32⟩
  | 22 => ⟨S4096x4x512, .f32⟩
  | 23 => ⟨S4096x512, .f32⟩
  | 24 => ⟨S4096x1x512, .f32⟩
  | 25 => ⟨S_, .f32⟩
  | 26 => ⟨S4096x4x512, .f32⟩
  | 27 => ⟨S4096x4x512, .f32⟩
  | 28 => ⟨S4096x512, .f32⟩
  | 29 => ⟨S4096x512, .f32⟩
  | 30 => ⟨S4096x512, .f32⟩
  | 31 => ⟨S_, .f32⟩
  | 32 => ⟨S4098x512, .f32⟩
  | 33 => ⟨S2x512, .f32⟩
  | 34 => ⟨S4096x512, .f32⟩
  | 35 => ⟨S4096x512, .f32⟩
  | 36 => ⟨S4096x1x512, .f32⟩
  | 37 => ⟨S_, .f32⟩
  | 38 => ⟨S4096x4x512, .f32⟩
  | 39 => ⟨S4096x4x512, .f32⟩
  | 40 => ⟨S_, .f32⟩
  | 41 => ⟨S_, .f32⟩
  | 42 => ⟨S4096x4x512, .f32⟩
  | 43 => ⟨S4096x4x512, .f32⟩
  | 44 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_12 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_13 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_14 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_15 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_16 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_17 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_18 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_19 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_20 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_21 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_22 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_cst_23 : Ref sig .tc := ⟨.hbm, 165, rfl⟩
abbrev main_v137 : Ref sig .tc := ⟨.hbm, 166, rfl⟩
abbrev main_v138 : Ref sig .tc := ⟨.hbm, 167, rfl⟩
abbrev main_call1_call0_cst : Ref sig .tc := ⟨.hbm, 168, rfl⟩
abbrev main_call1_call0_v0 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩

abbrev nD : Nat := 1
abbrev τ : Topo := Topo.v7x

variable {F : FTy → Type} [FloatOps F]
-- ==== Normfwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormfwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Headsfwd.lean ====
abbrev S3x4096x2048 : Shape := ⟨3, ![3, 4096, 2048]⟩
abbrev S1x128 : Shape := ⟨2, ![1, 128]⟩
abbrev S4096x2048 : Shape := ⟨2, ![4096, 2048]⟩
abbrev S1x256x2048 : Shape := ⟨3, ![1, 256, 2048]⟩
abbrev S256x2048 : Shape := ⟨2, ![256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S3x4096x2048, .f32⟩
  | .hbm, ⟨1, _⟩ => ⟨S1x128, .f32⟩
  | .hbm, ⟨2, _⟩ => ⟨S1x128, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x128, .f32⟩
  | .local _ .vmem, ⟨7, _⟩ => ⟨S1x128, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HeadsfwdRefIdeal.lean ====
abbrev S3x4096x2048 : Shape := ⟨3, ![3, 4096, 2048]⟩
abbrev S1x128 : Shape := ⟨2, ![1, 128]⟩
abbrev S1x4096x2048 : Shape := ⟨3, ![1, 4096, 2048]⟩
abbrev S4096x2048 : Shape := ⟨2, ![4096, 2048]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩

abbrev nBuf : Space → Nat
  | .hbm => 51
  | .vmem => 0
  | .smem => 0
  | _ => 0

abbrev bufTy : (tb : Table) → Fin (tcTables nBuf tb) → BufTy
  | .hbm, ⟨0, _⟩ => ⟨S3x4096x2048, .f32⟩
  | .hbm, ⟨1, _⟩ => ⟨S1x128, .f32⟩
  | .hbm, ⟨2, _⟩ => ⟨S1x128, .f32⟩
  | .hbm, ⟨3, _⟩ => ⟨S1x4096x2048, .f32⟩
  | .hbm, ⟨4, _⟩ => ⟨S4096x2048, .f32⟩
  | .hbm, ⟨5, _⟩ => ⟨S4096x16x128, .f32⟩
  | .hbm, ⟨6, _⟩ => ⟨S4096x16x128, .f32⟩
  | .hbm, ⟨7, _⟩ => ⟨S_, .f32⟩
  | .hbm, ⟨8, _⟩ => ⟨S4096x16, .f32⟩
  | .hbm, ⟨9, _⟩ => ⟨S4096x16x1, .f32⟩
  | .hbm, ⟨10, _⟩ => ⟨S_, .f32⟩
  | .hbm, ⟨11, _⟩ => ⟨S4096x16x1, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S4096x16x1, .f32⟩
  | .hbm, ⟨17, _⟩ => ⟨S4096x16x128, .f32⟩
  | .hbm, ⟨18, _⟩ => ⟨S4096x16x128, .f32⟩
  | .hbm, ⟨19, _⟩ => ⟨S1x1x128, .f32⟩
  | .hbm, ⟨20, _⟩ => ⟨S4096x16x128, .f32⟩
  | .hbm, ⟨21, _⟩ => ⟨S4096x16x128, .f32⟩
  | .hbm, ⟨22, _⟩ => ⟨S_, .f32⟩
  | .hbm, ⟨23, _⟩ => ⟨S4096x16x128, .f32⟩
  | .hbm, ⟨24, _⟩ => ⟨S4096x16x128, .f32⟩
  | .hbm, ⟨25, _⟩ => ⟨S1x4096x2048, .f32⟩
  | .hbm, ⟨26, _⟩ => ⟨S4096x2048, .f32⟩
  | .hbm, ⟨27, _⟩ => ⟨S4096x16x128, .f32⟩
  | .hbm, ⟨28, _⟩ => ⟨S4096x16x128, .f32⟩
  | .hbm, ⟨29, _⟩ => ⟨S_, .f32⟩
  | .hbm, ⟨30, _⟩ => ⟨S4096x16, .f32⟩
  | .hbm, ⟨31, _⟩ => ⟨S4096x16x1, .f32⟩
  | .hbm, ⟨32, _⟩ => ⟨S_, .f32⟩
  | .hbm, ⟨33, _⟩ => ⟨S4096x16x1, .f32⟩
  | .hbm, ⟨34, _⟩ => ⟨S4096x16x1, .f32⟩
  | .hbm, ⟨35, _⟩ => ⟨S_, .f32⟩
  | .hbm, ⟨36, _⟩ => ⟨S4096x16x1, .f32⟩
  | .hbm, ⟨37, _⟩ => ⟨S4096x16x1, .f32⟩
  | .hbm, ⟨38, _⟩ => ⟨S4096x16x1, .f32⟩
  | .hbm, ⟨39, _⟩ => ⟨S4096x16x128, .f32⟩
  | .hbm, ⟨40, _⟩ => ⟨S4096x16x128, .f32⟩
  | .hbm, ⟨41, _⟩ => ⟨S1x1x128, .f32⟩
  | .hbm, ⟨42, _⟩ => ⟨S4096x16x128, .f32⟩
  | .hbm, ⟨43, _⟩ => ⟨S4096x16x128, .f32⟩
  | .hbm, ⟨44, _⟩ => ⟨S4096x2048, .f32⟩
  | .hbm, ⟨45, _⟩ => ⟨S4096x2048, .f32⟩
  | .hbm, ⟨46, _⟩ => ⟨S1x4096x2048, .f32⟩
  | .hbm, ⟨47, _⟩ => ⟨S4096x2048, .f32⟩
  | .hbm, ⟨48, _⟩ => ⟨S4096x2048, .bf16⟩
  | .hbm, ⟨49, _⟩ => ⟨S4096x2048, .bf16⟩
  | .hbm, ⟨50, _⟩ => ⟨S4096x2048, .bf16⟩
  | _, _ => ⟨S3x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Poolfwd.lean ====
abbrev S4096x2048 : Shape := ⟨2, ![4096, 2048]⟩
abbrev S4096x256 : Shape := ⟨2, ![4096, 256]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolfwdRefIdeal.lean ====
abbrev S4096x2048 : Shape := ⟨2, ![4096, 2048]⟩
abbrev S4096x4x512 : Shape := ⟨3, ![4096, 4, 512]⟩
abbrev S_ : Shape := ⟨0, ![]⟩
abbrev S4096 : Shape := ⟨1, ![4096]⟩
abbrev S4096x1x512 : Shape := ⟨3, ![4096, 1, 512]⟩
abbrev S4096x512 : Shape := ⟨2, ![4096, 512]⟩
abbrev S2x512 : Shape := ⟨2, ![2, 512]⟩
abbrev S4098x512 : Shape := ⟨2, ![4098, 512]⟩
abbrev S4096x1 : Shape := ⟨2, ![4096, 1]⟩
abbrev S4x512 : Shape := ⟨2, ![4, 512]⟩
abbrev S4100x512 : Shape := ⟨2, ![4100, 512]⟩
abbrev S8x512 : Shape := ⟨2, ![8, 512]⟩
abbrev S4104x512 : Shape := ⟨2, ![4104, 512]⟩
abbrev S16x512 : Shape := ⟨2, ![16, 512]⟩
abbrev S4112x512 : Shape := ⟨2, ![4112, 512]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4x512, .f32⟩
  | .hbm, ⟨2, _⟩ => ⟨S_, .f32⟩
  | .hbm, ⟨3, _⟩ => ⟨S_, .f32⟩
  | .hbm, ⟨4, _⟩ => ⟨S4096x4x512, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096x1x512, .f32⟩
  | .hbm, ⟨10, _⟩ => ⟨S4096x512, .f32⟩
  | .hbm, ⟨11, _⟩ => ⟨S_, .f32⟩
  | .hbm, ⟨12, _⟩ => ⟨S2x512, .f32⟩
  | .hbm, ⟨13, _⟩ => ⟨S4098x512, .f32⟩
  | .hbm, ⟨14, _⟩ => ⟨S4096x512, .f32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x1x512, .f32⟩
  | .hbm, ⟨24, _⟩ => ⟨S4096x512, .f32⟩
  | .hbm, ⟨25, _⟩ => ⟨S4096x512, .f32⟩
  | .hbm, ⟨26, _⟩ => ⟨S4096x1x512, .f32⟩
  | .hbm, ⟨27, _⟩ => ⟨S4096x512, .f32⟩
  | .hbm, ⟨28, _⟩ => ⟨S_, .f32⟩
  | .hbm, ⟨29, _⟩ => ⟨S4x512, .f32⟩
  | .hbm, ⟨30, _⟩ => ⟨S4100x512, .f32⟩
  | .hbm, ⟨31, _⟩ => ⟨S4096x512, .f32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .f32⟩
  | .hbm, ⟨36, _⟩ => ⟨S4096x1, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x1x512, .f32⟩
  | .hbm, ⟨41, _⟩ => ⟨S4096x512, .f32⟩
  | .hbm, ⟨42, _⟩ => ⟨S4096x512, .f32⟩
  | .hbm, ⟨43, _⟩ => ⟨S4096x1x512, .f32⟩
  | .hbm, ⟨44, _⟩ => ⟨S4096x512, .f32⟩
  | .hbm, ⟨45, _⟩ => ⟨S_, .f32⟩
  | .hbm, ⟨46, _⟩ => ⟨S8x512, .f32⟩
  | .hbm, ⟨47, _⟩ => ⟨S4104x512, .f32⟩
  | .hbm, ⟨48, _⟩ => ⟨S4096x512, .f32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .f32⟩
  | .hbm, ⟨53, _⟩ => ⟨S4096x1, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x1x512, .f32⟩
  | .hbm, ⟨58, _⟩ => ⟨S4096x512, .f32⟩
  | .hbm, ⟨59, _⟩ => ⟨S4096x512, .f32⟩
  | .hbm, ⟨60, _⟩ => ⟨S4096x1x512, .f32⟩
  | .hbm, ⟨61, _⟩ => ⟨S4096x512, .f32⟩
  | .hbm, ⟨62, _⟩ => ⟨S_, .f32⟩
  | .hbm, ⟨63, _⟩ => ⟨S16x512, .f32⟩
  | .hbm, ⟨64, _⟩ => ⟨S4112x512, .f32⟩
  | .hbm, ⟨65, _⟩ => ⟨S4096x512, .f32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .f32⟩
  | .hbm, ⟨70, _⟩ => ⟨S4096x1, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x1x512, .f32⟩
  | .hbm, ⟨75, _⟩ => ⟨S4096x512, .f32⟩
  | .hbm, ⟨76, _⟩ => ⟨S4096x512, .f32⟩
  | .hbm, ⟨77, _⟩ => ⟨S4096x1x512, .f32⟩
  | .hbm, ⟨78, _⟩ => ⟨S4096x1x512, .f32⟩
  | .hbm, ⟨79, _⟩ => ⟨S4096x1x512, .f32⟩
  | .hbm, ⟨80, _⟩ => ⟨S4096x1x512, .f32⟩
  | .hbm, ⟨81, _⟩ => ⟨S4096x4x512, .f32⟩
  | .hbm, ⟨82, _⟩ => ⟨S4096x2048, .f32⟩
  | .hbm, ⟨83, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Convfwd.lean ====
abbrev S3x4096x2048 : Shape := ⟨3, ![3, 4096, 2048]⟩
abbrev S3x2048 : Shape := ⟨2, ![3, 2048]⟩
abbrev S_ : Shape := ⟨0, ![]⟩
abbrev S16x2048 : Shape := ⟨2, ![16, 2048]⟩
abbrev S16x4x512 : Shape := ⟨3, ![16, 4, 512]⟩
abbrev S4x16x512 : Shape := ⟨3, ![4, 16, 512]⟩
abbrev S4096x2048 : Shape := ⟨2, ![4096, 2048]⟩
abbrev S1x4096x128 : Shape := ⟨3, ![1, 4096, 128]⟩
abbrev S1x8x128 : Shape := ⟨3, ![1, 8, 128]⟩
abbrev S4096x128 : Shape := ⟨2, ![4096, 128]⟩
abbrev S8x128 : Shape := ⟨2, ![8, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S3x4096x2048, .f32⟩
  | .hbm, ⟨1, _⟩ => ⟨S3x2048, .f32⟩
  | .hbm, ⟨2, _⟩ => ⟨S_, .i32⟩
  | .hbm, ⟨3, _⟩ => ⟨S_, .f32⟩
  | .hbm, ⟨4, _⟩ => ⟨S16x2048, .f32⟩
  | .hbm, ⟨5, _⟩ => ⟨S16x4x512, .f32⟩
  | .hbm, ⟨6, _⟩ => ⟨S4x16x512, .f32⟩
  | .hbm, ⟨7, _⟩ => ⟨S4096x2048, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x8x128, .f32⟩
  | .local _ .vmem, ⟨7, _⟩ => ⟨S1x8x128, .f32⟩
  | .local _ .vmem, ⟨8, _⟩ => ⟨S4096x128, .bf16⟩
  | .local _ .vmem, ⟨9, _⟩ => ⟨S4096x128, .bf16⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvfwdRefIdeal.lean ====
abbrev S3x4096x2048 : Shape := ⟨3, ![3, 4096, 2048]⟩
abbrev S3x2048 : Shape := ⟨2, ![3, 2048]⟩
abbrev S1x4096x2048 : Shape := ⟨3, ![1, 4096, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 37
  | .vmem => 0
  | .smem => 0
  | _ => 0

abbrev bufTy : (tb : Table) → Fin (tcTables nBuf tb) → BufTy
  | .hbm, ⟨0, _⟩ => ⟨S3x4096x2048, .f32⟩
  | .hbm, ⟨1, _⟩ => ⟨S3x2048, .f32⟩
  | .hbm, ⟨2, _⟩ => ⟨S1x4096x2048, .f32⟩
  | .hbm, ⟨3, _⟩ => ⟨S4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S2x2048, .f32⟩
  | .hbm, ⟨11, _⟩ => ⟨S4098x2048, .f32⟩
  | .hbm, ⟨12, _⟩ => ⟨S4096x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S3x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Gatefwd.lean ====
abbrev S4096x2048 : Shape := ⟨2, ![4096, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S4096x5632 : Shape := ⟨2, ![4096, 5632]⟩
abbrev S256x2048 : Shape := ⟨2, ![256, 2048]⟩
abbrev S1x1x2048x1408 : Shape := ⟨4, ![1, 1, 2048, 1408]⟩
abbrev S256x1408 : Shape := ⟨2, ![256, 1408]⟩
abbrev S2048x1408 : Shape := ⟨2, ![2048, 1408]⟩

abbrev nBuf : Space → Nat
  | .hbm => 15
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S4x1x2048x1408, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S4x1x2048x1408, .bf16⟩
  | .hbm, ⟨11, _⟩ => ⟨S4096x2048, .bf16⟩
  | .hbm, ⟨12, _⟩ => ⟨S4096x5632, .f32⟩
  | .hbm, ⟨13, _⟩ => ⟨S4096x5632, .f32⟩
  | .hbm, ⟨14, _⟩ => ⟨S4096x5632, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .bf16⟩
  | .local _ .vmem, ⟨11, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GatefwdRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .bf16⟩
  | .hbm, ⟨4, _⟩ => ⟨S4096x2048, .f32⟩
  | .hbm, ⟨5, _⟩ => ⟨S2048x5632, .bf16⟩
  | .hbm, ⟨6, _⟩ => ⟨S2048x5632, .f32⟩
  | .hbm, ⟨7, _⟩ => ⟨S4096x5632, .f32⟩
  | .hbm, ⟨8, _⟩ => ⟨S2048x5632, .bf16⟩
  | .hbm, ⟨9, _⟩ => ⟨S2048x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Poolmix.lean ====
abbrev S4096x2048 : Shape := ⟨2, ![4096, 2048]⟩
abbrev S4x512x512 : Shape := ⟨3, ![4, 512, 512]⟩
abbrev S1x2048 : Shape := ⟨2, ![1, 2048]⟩
abbrev S4x4x128x512 : Shape := ⟨4, ![4, 4, 128, 512]⟩
abbrev S4x1x512x512 : Shape := ⟨4, ![4, 1, 512, 512]⟩
abbrev S512x128 : Shape := ⟨2, ![512, 128]⟩
abbrev S1x1x128x512 : Shape := ⟨4, ![1, 1, 128, 512]⟩
abbrev S512x512 : Shape := ⟨2, ![512, 512]⟩
abbrev S1x512 : Shape := ⟨2, ![1, 512]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x512x512, .f32⟩
  | .hbm, ⟨3, _⟩ => ⟨S1x2048, .f32⟩
  | .hbm, ⟨4, _⟩ => ⟨S4x512x512, .bf16⟩
  | .hbm, ⟨5, _⟩ => ⟨S4x4x128x512, .bf16⟩
  | .hbm, ⟨6, _⟩ => ⟨S4x4x128x512, .bf16⟩
  | .hbm, ⟨7, _⟩ => ⟨S4x1x512x512, .bf16⟩
  | .hbm, ⟨8, _⟩ => ⟨S4096x2048, .bf16⟩
  | .hbm, ⟨9, _⟩ => ⟨S4096x2048, .f32⟩
  | .hbm, ⟨10, _⟩ => ⟨S4096x2048, .bf16⟩
  | .local _ .vmem, ⟨0, _⟩ => ⟨S512x128, .bf16⟩
  | .local _ .vmem, ⟨1, _⟩ => ⟨S512x128, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PoolmixRefIdeal.lean ====
abbrev S4096x2048 : Shape := ⟨2, ![4096, 2048]⟩
abbrev S4x512x512 : Shape := ⟨3, ![4, 512, 512]⟩
abbrev S1x2048 : Shape := ⟨2, ![1, 2048]⟩
abbrev S4096x4x512 : Shape := ⟨3, ![4096, 4, 512]⟩
abbrev S4x512x4096 : Shape := ⟨3, ![4, 512, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x512x512, .f32⟩
  | .hbm, ⟨3, _⟩ => ⟨S1x2048, .f32⟩
  | .hbm, ⟨4, _⟩ => ⟨S4096x2048, .bf16⟩
  | .hbm, ⟨5, _⟩ => ⟨S4096x2048, .f32⟩
  | .hbm, ⟨6, _⟩ => ⟨S4096x4x512, .f32⟩
  | .hbm, ⟨7, _⟩ => ⟨S4x512x512, .bf16⟩
  | .hbm, ⟨8, _⟩ => ⟨S4x512x512, .f32⟩
  | .hbm, ⟨9, _⟩ => ⟨S4x512x4096, .f32⟩
  | .hbm, ⟨10, _⟩ => ⟨S4096x4x512, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Downfwd.lean ====
abbrev S4096x5632 : Shape := ⟨2, ![4096, 5632]⟩
abbrev S5632x2048 : Shape := ⟨2, ![5632, 2048]⟩
abbrev S4096x2048 : Shape := ⟨2, ![4096, 2048]⟩
abbrev S4x1x1408x2048 : Shape := ⟨4, ![4, 1, 1408, 2048]⟩
abbrev S256x1408 : Shape := ⟨2, ![256, 1408]⟩
abbrev S1x1x1408x1024 : Shape := ⟨4, ![1, 1, 1408, 1024]⟩
abbrev S256x1024 : Shape := ⟨2, ![256, 1024]⟩
abbrev S1408x1024 : Shape := ⟨2, ![1408, 1024]⟩

abbrev nBuf : Space → Nat
  | .hbm => 7
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4x1x1408x2048, .bf16⟩
  | .hbm, ⟨6, _⟩ => ⟨S4096x2048, .f32⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S1x1x1408x1024, .bf16⟩
  | .local _ .vmem, ⟨9, _⟩ => ⟨S1x1x1408x1024, .bf16⟩
  | .local _ .vmem, ⟨10, _⟩ => ⟨S1x1x1408x1024, .bf16⟩
  | .local _ .vmem, ⟨11, _⟩ => ⟨S1x1x1408x1024, .bf16⟩
  | .local _ .vmem, ⟨12, _⟩ => ⟨S1x1x1408x1024, .bf16⟩
  | .local _ .vmem, ⟨13, _⟩ => ⟨S1x1x1408x1024, .bf16⟩
  | .local _ .vmem, ⟨14, _⟩ => ⟨S1x1x1408x1024, .bf16⟩
  | .local _ .vmem, ⟨15, _⟩ => ⟨S1x1x1408x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DownfwdRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S4096x5632, .f32⟩
  | .hbm, ⟨5, _⟩ => ⟨S5632x2048, .bf16⟩
  | .hbm, ⟨6, _⟩ => ⟨S5632x2048, .f32⟩
  | .hbm, ⟨7, _⟩ => ⟨S4096x2048, .f32⟩
  | .hbm, ⟨8, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Downwt.lean ====
abbrev S4096x5632 : Shape := ⟨2, ![4096, 5632]⟩
abbrev S4096x2048 : Shape := ⟨2, ![4096, 2048]⟩
abbrev S4x1408x2048 : Shape := ⟨3, ![4, 1408, 2048]⟩
abbrev S512x1408 : Shape := ⟨2, ![512, 1408]⟩
abbrev S512x1024 : Shape := ⟨2, ![512, 1024]⟩
abbrev S1x1408x1024 : Shape := ⟨3, ![1, 1408, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S4x1408x2048, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownwtRefIdeal.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩
abbrev S4x1408x2048 : Shape := ⟨3, ![4, 1408, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x5632, .f32⟩
  | .hbm, ⟨4, _⟩ => ⟨S5632x4096, .f32⟩
  | .hbm, ⟨5, _⟩ => ⟨S4096x2048, .bf16⟩
  | .hbm, ⟨6, _⟩ => ⟨S4096x2048, .f32⟩
  | .hbm, ⟨7, _⟩ => ⟨S5632x2048, .f32⟩
  | .hbm, ⟨8, _⟩ => ⟨S5632x2048, .bf16⟩
  | .hbm, ⟨9, _⟩ => ⟨S4x1408x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Ffndata.lean ====
abbrev S4096x5632 : Shape := ⟨2, ![4096, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S4096x2048 : Shape := ⟨2, ![4096, 2048]⟩
abbrev S256x1408 : Shape := ⟨2, ![256, 1408]⟩
abbrev S1x1x512x1408 : Shape := ⟨4, ![1, 1, 512, 1408]⟩
abbrev S256x512 : Shape := ⟨2, ![256, 512]⟩
abbrev S512x1408 : Shape := ⟨2, ![512, 1408]⟩

abbrev nBuf : Space → Nat
  | .hbm => 15
  | .vmem => 34
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x4x1408, .bf16⟩
  | .hbm, ⟨6, _⟩ => ⟨S4x2048x1408, .bf16⟩
  | .hbm, ⟨7, _⟩ => ⟨S4x1x2048x1408, .bf16⟩
  | .hbm, ⟨8, _⟩ => ⟨S2048x5632, .bf16⟩
  | .hbm, ⟨9, _⟩ => ⟨S2048x4x1408, .bf16⟩
  | .hbm, ⟨10, _⟩ => ⟨S4x2048x1408, .bf16⟩
  | .hbm, ⟨11, _⟩ => ⟨S4x1x2048x1408, .bf16⟩
  | .hbm, ⟨12, _⟩ => ⟨S4096x5632, .bf16⟩
  | .hbm, ⟨13, _⟩ => ⟨S4096x5632, .bf16⟩
  | .hbm, ⟨14, _⟩ => ⟨S4096x2048, .f32⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | .local _ .vmem, ⟨12, _⟩ => ⟨S256x1408, .bf16⟩
  | .local _ .vmem, ⟨13, _⟩ => ⟨S256x1408, .bf16⟩
  | .local _ .vmem, ⟨14, _⟩ => ⟨S256x1408, .bf16⟩
  | .local _ .vmem, ⟨15, _⟩ => ⟨S256x1408, .bf16⟩
  | .local _ .vmem, ⟨16, _⟩ => ⟨S1x1x512x1408, .bf16⟩
  | .local _ .vmem, ⟨17, _⟩ => ⟨S1x1x512x1408, .bf16⟩
  | .local _ .vmem, ⟨18, _⟩ => ⟨S1x1x512x1408, .bf16⟩
  | .local _ .vmem, ⟨19, _⟩ => ⟨S1x1x512x1408, .bf16⟩
  | .local _ .vmem, ⟨20, _⟩ => ⟨S1x1x512x1408, .bf16⟩
  | .local _ .vmem, ⟨21, _⟩ => ⟨S1x1x512x1408, .bf16⟩
  | .local _ .vmem, ⟨22, _⟩ => ⟨S1x1x512x1408, .bf16⟩
  | .local _ .vmem, ⟨23, _⟩ => ⟨S1x1x512x1408, .bf16⟩
  | .local _ .vmem, ⟨24, _⟩ => ⟨S1x1x512x1408, .bf16⟩
  | .local _ .vmem, ⟨25, _⟩ => ⟨S1x1x512x1408, .bf16⟩
  | .local _ .vmem, ⟨26, _⟩ => ⟨S1x1x512x1408, .bf16⟩
  | .local _ .vmem, ⟨27, _⟩ => ⟨S1x1x512x1408, .bf16⟩
  | .local _ .vmem, ⟨28, _⟩ => ⟨S1x1x512x1408, .bf16⟩
  | .local _ .vmem, ⟨29, _⟩ => ⟨S1x1x512x1408, .bf16⟩
  | .local _ .vmem, ⟨30, _⟩ => ⟨S1x1x512x1408, .bf16⟩
  | .local _ .vmem, ⟨31, _⟩ => ⟨S1x1x512x1408, .bf16⟩
  | .local _ .vmem, ⟨32, _⟩ => ⟨S256x512, .f32⟩
  | .local _ .vmem, ⟨33, _⟩ => ⟨S256x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, arg0.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, arg0.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x1x512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x1x512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x1x512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x1x512x1408 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1x1x512x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== FfndataRefIdeal.lean ====
abbrev S4096x5632 : Shape := ⟨2, ![4096, 5632]⟩
abbrev S2048x5632 : Shape := ⟨2, ![2048, 5632]⟩
abbrev S5632x2048 : Shape := ⟨2, ![5632, 2048]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S4096x5632, .bf16⟩
  | .hbm, ⟨5, _⟩ => ⟨S4096x5632, .f32⟩
  | .hbm, ⟨6, _⟩ => ⟨S2048x5632, .bf16⟩
  | .hbm, ⟨7, _⟩ => ⟨S2048x5632, .f32⟩
  | .hbm, ⟨8, _⟩ => ⟨S5632x2048, .f32⟩
  | .hbm, ⟨9, _⟩ => ⟨S4096x2048, .f32⟩
  | .hbm, ⟨10, _⟩ => ⟨S4096x5632, .bf16⟩
  | .hbm, ⟨11, _⟩ => ⟨S4096x5632, .f32⟩
  | .hbm, ⟨12, _⟩ => ⟨S2048x5632, .bf16⟩
  | .hbm, ⟨13, _⟩ => ⟨S2048x5632, .f32⟩
  | .hbm, ⟨14, _⟩ => ⟨S5632x2048, .f32⟩
  | .hbm, ⟨15, _⟩ => ⟨S4096x2048, .f32⟩
  | .hbm, ⟨16, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Qkvdata.lean ====
abbrev S4096x6144 : Shape := ⟨2, ![4096, 6144]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S4x1x2048x1536 : Shape := ⟨4, ![4, 1, 2048, 1536]⟩
abbrev S4096x3x2048 : Shape := ⟨3, ![4096, 3, 2048]⟩
abbrev S3x4096x2048 : Shape := ⟨3, ![3, 4096, 2048]⟩
abbrev S4096x2048 : Shape := ⟨2, ![4096, 2048]⟩
abbrev S1x512x512 : Shape := ⟨3, ![1, 512, 512]⟩
abbrev S1x1x2048x512 : Shape := ⟨4, ![1, 1, 2048, 512]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 10
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S2048x6144, .f32⟩
  | .hbm, ⟨2, _⟩ => ⟨S2048x6144, .bf16⟩
  | .hbm, ⟨3, _⟩ => ⟨S2048x4x1536, .bf16⟩
  | .hbm, ⟨4, _⟩ => ⟨S4x2048x1536, .bf16⟩
  | .hbm, ⟨5, _⟩ => ⟨S4x1x2048x1536, .bf16⟩
  | .hbm, ⟨6, _⟩ => ⟨S4096x6144, .bf16⟩
  | .hbm, ⟨7, _⟩ => ⟨S4096x3x2048, .bf16⟩
  | .hbm, ⟨8, _⟩ => ⟨S3x4096x2048, .bf16⟩
  | .hbm, ⟨9, _⟩ => ⟨S4096x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 12], ![false, false, false]⟩

def k0_cond3 (i : grid0.Coords) : BitVec 1 :=
  let arg2 : BitVec 32 := BitVec.ofNat 32 (i 2).val
  let c11_i32 : BitVec 32 := 11#32
  let v6 : BitVec 1 := Scalar.cmpi .eq arg2 c11_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== QkvdataRefIdeal.lean ====
abbrev S4096x6144 : Shape := ⟨2, ![4096, 6144]⟩
abbrev S2048x6144 : Shape := ⟨2, ![2048, 6144]⟩
abbrev S6144x2048 : Shape := ⟨2, ![6144, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2048x6144, .f32⟩
  | .hbm, ⟨2, _⟩ => ⟨S4096x6144, .bf16⟩
  | .hbm, ⟨3, _⟩ => ⟨S4096x6144, .f32⟩
  | .hbm, ⟨4, _⟩ => ⟨S2048x6144, .bf16⟩
  | .hbm, ⟨5, _⟩ => ⟨S2048x6144, .f32⟩
  | .hbm, ⟨6, _⟩ => ⟨S6144x2048, .f32⟩
  | .hbm, ⟨7, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ffnwt.lean ====
abbrev S4096x2048 : Shape := ⟨2, ![4096, 2048]⟩
abbrev S4096x5632 : Shape := ⟨2, ![4096, 5632]⟩
abbrev S4x2048x1408 : Shape := ⟨3, ![4, 2048, 1408]⟩
abbrev S512x512 : Shape := ⟨2, ![512, 512]⟩
abbrev S512x1408 : Shape := ⟨2, ![512, 1408]⟩
abbrev S1x512x1408 : Shape := ⟨3, ![1, 512, 1408]⟩

abbrev nBuf : Space → Nat
  | .hbm => 8
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S4096x2048, .bf16⟩
  | .hbm, ⟨4, _⟩ => ⟨S4096x5632, .bf16⟩
  | .hbm, ⟨5, _⟩ => ⟨S4096x5632, .bf16⟩
  | .hbm, ⟨6, _⟩ => ⟨S4x2048x1408, .bf16⟩
  | .hbm, ⟨7, _⟩ => ⟨S4x2048x1408, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S1x512x1408, .bf16⟩
  | .local _ .vmem, ⟨25, _⟩ => ⟨S1x512x1408, .bf16⟩
  | .local _ .vmem, ⟨26, _⟩ => ⟨S1x512x1408, .bf16⟩
  | .local _ .vmem, ⟨27, _⟩ => ⟨S1x512x1408, .bf16⟩
  | .local _ .vmem, ⟨28, _⟩ => ⟨S512x1408, .f32⟩
  | .local _ .vmem, ⟨29, _⟩ => ⟨S512x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c0_i32_0 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c0_i32_0 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c0_i32 : BitVec 32 := 0#32
  ![v1.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1x512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== FfnwtRefIdeal.lean ====
abbrev S4096x2048 : Shape := ⟨2, ![4096, 2048]⟩
abbrev S4096x5632 : Shape := ⟨2, ![4096, 5632]⟩
abbrev S2048x4096 : Shape := ⟨2, ![2048, 4096]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S4096x2048, .bf16⟩
  | .hbm, ⟨4, _⟩ => ⟨S4096x2048, .f32⟩
  | .hbm, ⟨5, _⟩ => ⟨S2048x4096, .f32⟩
  | .hbm, ⟨6, _⟩ => ⟨S4096x5632, .bf16⟩
  | .hbm, ⟨7, _⟩ => ⟨S4096x5632, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | .hbm, ⟨12, _⟩ => ⟨S4096x5632, .bf16⟩
  | .hbm, ⟨13, _⟩ => ⟨S4096x5632, .f32⟩
  | .hbm, ⟨14, _⟩ => ⟨S2048x5632, .f32⟩
  | .hbm, ⟨15, _⟩ => ⟨S2048x5632, .bf16⟩
  | .hbm, ⟨16, _⟩ => ⟨S2048x4x1408, .bf16⟩
  | .hbm, ⟨17, _⟩ => ⟨S4x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Adamw.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sumdev.lean ====
abbrev S8x16x2048 : Shape := ⟨3, ![8, 16, 2048]⟩
abbrev S16x2048 : Shape := ⟨2, ![16, 2048]⟩
abbrev S1x16x2048 : Shape := ⟨3, ![1, 16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x16x2048, .f32⟩
  | .hbm, ⟨1, _⟩ => ⟨S16x2048, .f32⟩
  | .local _ .vmem, ⟨0, _⟩ => ⟨S8x16x2048, .f32⟩
  | .local _ .vmem, ⟨1, _⟩ => ⟨S16x2048, .f32⟩
  | _, _ => ⟨S8x16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumdevRefIdeal.lean ====
abbrev S8x16x2048 : Shape := ⟨3, ![8, 16, 2048]⟩
abbrev S_ : Shape := ⟨0, ![]⟩
abbrev S16x2048 : Shape := ⟨2, ![16, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S_, .f32⟩
  | .hbm, ⟨2, _⟩ => ⟨S16x2048, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pooldata.lean ====
abbrev S4096x2048 : Shape := ⟨2, ![4096, 2048]⟩
abbrev S4x512x512 : Shape := ⟨3, ![4, 512, 512]⟩
abbrev S4x4x128x512 : Shape := ⟨4, ![4, 4, 128, 512]⟩
abbrev S4x1x512x512 : Shape := ⟨4, ![4, 1, 512, 512]⟩
abbrev S512x512 : Shape := ⟨2, ![512, 512]⟩
abbrev S1x1x128x512 : Shape := ⟨4, ![1, 1, 128, 512]⟩
abbrev S512x128 : Shape := ⟨2, ![512, 128]⟩
abbrev S128x512 : Shape := ⟨2, ![128, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S4x512x512, .bf16⟩
  | .hbm, ⟨3, _⟩ => ⟨S4x4x128x512, .bf16⟩
  | .hbm, ⟨4, _⟩ => ⟨S4x4x128x512, .bf16⟩
  | .hbm, ⟨5, _⟩ => ⟨S4x1x512x512, .bf16⟩
  | .hbm, ⟨6, _⟩ => ⟨S4096x2048, .bf16⟩
  | .hbm, ⟨7, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S512x128, .f32⟩
  | .local _ .vmem, ⟨5, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, c0_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PooldataRefIdeal.lean ====
abbrev S4096x2048 : Shape := ⟨2, ![4096, 2048]⟩
abbrev S4x512x512 : Shape := ⟨3, ![4, 512, 512]⟩
abbrev S4096x4x512 : Shape := ⟨3, ![4096, 4, 512]⟩
abbrev S4x512x4096 : Shape := ⟨3, ![4, 512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S4096x2048, .bf16⟩
  | .hbm, ⟨3, _⟩ => ⟨S4096x2048, .f32⟩
  | .hbm, ⟨4, _⟩ => ⟨S4096x4x512, .f32⟩
  | .hbm, ⟨5, _⟩ => ⟨S4x512x512, .bf16⟩
  | .hbm, ⟨6, _⟩ => ⟨S4x512x512, .f32⟩
  | .hbm, ⟨7, _⟩ => ⟨S4x512x4096, .f32⟩
  | .hbm, ⟨8, _⟩ => ⟨S4096x4x512, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Poolwt.lean ====
abbrev S4096x2048 : Shape := ⟨2, ![4096, 2048]⟩
abbrev S4x512x512 : Shape := ⟨3, ![4, 512, 512]⟩
abbrev S512x128 : Shape := ⟨2, ![512, 128]⟩
abbrev S512x512 : Shape := ⟨2, ![512, 512]⟩
abbrev S1x128x512 : Shape := ⟨3, ![1, 128, 512]⟩
abbrev S128x512 : Shape := ⟨2, ![128, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S4x512x512, .bf16⟩
  | .local _ .vmem, ⟨0, _⟩ => ⟨S512x128, .bf16⟩
  | .local _ .vmem, ⟨1, _⟩ => ⟨S512x128, .bf16⟩
  | .local _ .vmem, ⟨2, _⟩ => ⟨S512x512, .bf16⟩
  | .local _ .vmem, ⟨3, _⟩ => ⟨S512x512, .bf16⟩
  | .local _ .vmem, ⟨4, _⟩ => ⟨S1x128x512, .bf16⟩
  | .local _ .vmem, ⟨5, _⟩ => ⟨S1x128x512, .bf16⟩
  | .local _ .vmem, ⟨6, _⟩ => ⟨S128x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PoolwtRefIdeal.lean ====
abbrev S4096x2048 : Shape := ⟨2, ![4096, 2048]⟩
abbrev S4096x4x512 : Shape := ⟨3, ![4096, 4, 512]⟩
abbrev S4x512x512 : Shape := ⟨3, ![4, 512, 512]⟩
abbrev S4x4x128x512 : Shape := ⟨4, ![4, 4, 128, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .f32⟩
  | .hbm, ⟨4, _⟩ => ⟨S4096x4x512, .f32⟩
  | .hbm, ⟨5, _⟩ => ⟨S4096x2048, .bf16⟩
  | .hbm, ⟨6, _⟩ => ⟨S4096x2048, .f32⟩
  | .hbm, ⟨7, _⟩ => ⟨S4096x4x512, .f32⟩
  | .hbm, ⟨8, _⟩ => ⟨S4x512x512, .f32⟩
  | .hbm, ⟨9, _⟩ => ⟨S4x512x512, .bf16⟩
  | .hbm, ⟨10, _⟩ => ⟨S4x4x128x512, .bf16⟩
  | .hbm, ⟨11, _⟩ => ⟨S4x4x128x512, .bf16⟩
  | .hbm, ⟨12, _⟩ => ⟨S4x512x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.ScaleValue.lean ====
/- The gradient of `y * scale` on the kernel's side: the scaled cotangent block by block, and the scale's gradient
   accumulated over the sixteen row blocks, both as the reference's terms over the argument arrays. -/
module

public import proofs.«01_k».proof.Proof.Gen.ScaleIdeal.Value
public import proofs.«01_k».proof.Proof.Gen.ScaleRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScaleIdeal.Value

open Cert.ScaleIdeal Cert.ScaleIdeal.Gen

variable (m : (ℓ : Loc nD τ sig) → Buf (Elt Ideal) ℓ)

/-- The windows' block indices: rows in blocks of 256, the scale and its gradient whole. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- What one point stores of the scaled cotangent. -/
theorem point3 (c : Dev nD) (t : Fin cfg0.N) (y) : k0_pay1 (iblk m c 0 t) (iblk m c 2 t) y
    = Cert.ScaleRefIdeal.Read.val_main_v9 (F := Ideal) (m ((c : Thread nD τ).loc main_arg0)) (m ((c : Thread nD τ).loc main_arg2)) (((cfg0.win 3).blk t).view.emb y) := by
  rw [← Cert.ScaleRefIdeal.Read.val_main_v9_eq]
  pointwise [k0_pay1]
  blk_point [iblk, V, idx t]

/-- The scaled cotangent after the run. -/
theorem final3 (c : Dev nD) : (dats m 0 c).arrAt 3 (cfgs 0).N
    = Cert.ScaleRefIdeal.Read.val_main_v9 (F := Ideal) (m ((c : Thread nD τ).loc main_arg0)) (m ((c : Thread nD τ).loc main_arg2)) := by
  refine (dats m 0 c).arrAt_eq_of_covers 3 _ (by decide +kernel) fun t _ y => ?_
  blk_simp
  rw [after0_3]
  by_cases h0 : t.val % 16 = 0
  · rw [outsAt0_A m c t h0 (by have := lt_of_lt_of_eq t.isLt N_0; omega)]; frame_out; exact point3 m c t y
  · rw [outsAt0_B m c t h0 (by omega)]; frame_out; exact point3 m c t y

theorem pay2 (x0 x6 j) : k0_pay2 (F := Ideal) x0 x6 j = ∑ k : Fin 256, x0 (ix2 k (j 1)) * x6 (ix2 k (j 1)) := by
  pointwise [k0_pay2]

theorem pay3 (x0 x6 acc j) : k0_pay3 (F := Ideal) x0 x6 acc j = acc j + ∑ k : Fin 256, x0 (ix2 k (j 1)) * x6 (ix2 k (j 1)) := by
  pointwise [k0_pay3, k0_pay2]

theorem ref6 (X0 X1 j) : Cert.ScaleRefIdeal.Read.val_main_v6 (F := Ideal) X0 X1 j = ∑ k : Fin 4096, X0 (ix2 k (j 1)) * X1 (ix2 k (j 1)) := by
  rw [← Cert.ScaleRefIdeal.Read.val_main_v6_eq]
  pointwise
  exact Fin.sum_fin_congr fun k => mul_comm _ _

/-- The gradient of the scale after the run. -/
theorem final4 (c : Dev nD) : (dats m 0 c).arrAt 4 (cfgs 0).N
    = Cert.ScaleRefIdeal.Read.val_main_v6 (F := Ideal) (m ((c : Thread nD τ).loc main_arg0)) (m ((c : Thread nD τ).loc main_arg1)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => by
      rw [outsAt0_A m c t h (by have := lt_of_lt_of_eq t.isLt N_0; omega)]; frame_out; rw [pay2, ← zero_add (Finset.sum _ _)])
    (fun t h j => by rw [outsAt0_B m c t h (by omega)]; frame_out; rw [pay3])
    (le_of_eq N_0) t0_15 rfl j, zero_add, ref6]
  refine Fin.sum_mul_add_congr fun s k hl => ?_
  blk_point [iblk, V, idx s]

end Cert.ScaleIdeal.Value
-- ==== Proof.ScaleClaim.lean ====
/- The claims about the gradient of `y * scale`. -/
module

public import proofs.«01_k».proof.Defs
public import proofs.«01_k».proof.Proof.Gen.Scale.Frame
public import proofs.«01_k».proof.Proof.Gen.ScaleRefIdeal
public import proofs.«01_k».proof.Proof.ScaleValue
public import Idealize.ShloMosaic.Lib.Claim

@[expose] public section

noncomputable section

open Idealize.ShloMosaic Idealize.ShloMosaic.TcCoe Idealize.SL.Sem

namespace Cert.Scale.Claims

theorem frame_ref : Cert.quiescent_ScaleRefIdeal (hScaleRefIdeal := Cert.ScaleRefIdeal.Gen.facts) := fun m ρ _ =>
  (θ_run Cert.ScaleRefIdeal.defs _ _).mono (fun r h => ⟨fun c => (h c).2.2, sem_eq_zero_of_no_sems (by decide) r.2⟩)
    (Cert.ScaleRefIdeal.Value.run (F := Ideal) m ρ)

open Cert.ScaleIdeal Cert.ScaleRefIdeal.Read in
theorem equal : Cert.algebraic_ScaleIdeal_ScaleRefIdeal (hScaleIdeal := Cert.ScaleIdeal.Gen.facts) (hScaleRefIdeal := Cert.ScaleRefIdeal.Gen.facts) := by
  intro m g m' g' _ ha
  refine ⟨fun c => val_main_v9 (F := Ideal) (m ((c.tc : Thread nD τ).loc main_arg0)) (m ((c.tc : Thread nD τ).loc main_arg2)),
    fun c => val_main_v6 (F := Ideal) (m ((c.tc : Thread nD τ).loc main_arg0)) (m ((c.tc : Thread nD τ).loc main_arg1)), ?_, ?_⟩
  · exact (θ_run Cert.ScaleIdeal.defs _ _).mono (fun r h c =>
      ⟨(h c).1.trans (Cert.ScaleIdeal.Value.final3 m c), (h c).2.1.trans (Cert.ScaleIdeal.Value.final4 m c), (h c).2.2⟩)
      (Cert.ScaleIdeal.Value.run_blocks (F := Ideal) m g)
  · refine (θ_run Cert.ScaleRefIdeal.defs _ _).mono (fun r h c => ⟨?_, ?_, (h c).2.2⟩)
      (Cert.ScaleRefIdeal.Value.run (F := Ideal) m' g')
    · exact ((h c).1.trans (val_main_v9_eq _ _)).trans (congrArg₂ _ (ha c).1 (ha c).2.2)
    · exact ((h c).2.1.trans (val_main_v6_eq _ _)).trans (congrArg₂ _ (ha c).1 (ha c).2.1)

end Cert.Scale.Claims
-- ==== Proof.AttnArr.lean ====
/- Arrays of real numbers: `arr f` is the array whose entry at `(r, c)` is the real `f r c`, and each vector
   operation of the attention kernels takes such arrays to such an array. -/
module

public import proofs.«01_k».proof.Proof.Gen.AttnIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnIdeal.Value

open Cert.AttnIdeal Cert.AttnIdeal.Gen

/-- The array with the real `f r c` at row `r`, column `c`. -/
def arr {m n : ℕ} (f : ℕ → ℕ → ℝ) (p : Shape.Idx ⟨2, ![m, n]⟩) : EReal := ((f (p 0).val (p 1).val : ℝ) : EReal)

theorem arr_congr {m n : ℕ} {f g : ℕ → ℕ → ℝ} (h : ∀ r c, r < m → c < n → f r c = g r c) :
    (arr f : Shape.Idx ⟨2, ![m, n]⟩ → EReal) = arr g :=
  funext fun p => congrArg _ (h _ _ (p 0).isLt (p 1).isLt)

section
variable {m n : ℕ} (f g : ℕ → ℕ → ℝ)

theorem add_arr {φ : FTy} : addf (F := Ideal) (s := ⟨2, ![m, n]⟩) (φ := φ) (arr f) (arr g) = arr fun r c => f r c + g r c :=
  funext fun p => (EReal.coe_add _ _).symm

theorem sub_arr {φ : FTy} : subf (F := Ideal) (s := ⟨2, ![m, n]⟩) (φ := φ) (arr f) (arr g) = arr fun r c => f r c - g r c :=
  funext fun p => (EReal.coe_sub _ _).symm

theorem mul_arr {φ : FTy} : mulf (F := Ideal) (s := ⟨2, ![m, n]⟩) (φ := φ) (arr f) (arr g) = arr fun r c => f r c * g r c :=
  funext fun p => (EReal.coe_mul _ _).symm

theorem min_arr {φ : FTy} : minimumf (F := Ideal) (s := ⟨2, ![m, n]⟩) (φ := φ) (arr f) (arr g) = arr fun r c => min (f r c) (g r c) :=
  funext fun p => (EReal.coe_strictMono.monotone.map_min).symm

theorem abs_arr {φ : FTy} : absf (F := Ideal) (s := ⟨2, ![m, n]⟩) (φ := φ) (arr f) = arr fun r c => |f r c| :=
  funext fun p => (show max ((f (p 0).val (p 1).val : ℝ) : EReal) (-((f (p 0).val (p 1).val : ℝ) : EReal)) = _ by
    rw [← EReal.coe_neg, ← EReal.coe_strictMono.monotone.map_max]; rfl)

theorem exp_arr {φ : FTy} : exp (F := Ideal) (s := ⟨2, ![m, n]⟩) (φ := φ) (arr f) = arr fun r c => Real.exp (f r c) :=
  funext fun p => rfl

theorem log_arr {φ : FTy} (h : ∀ r c, 0 < f r c) :
    log (F := Ideal) (s := ⟨2, ![m, n]⟩) (φ := φ) (arr f) = arr fun r c => Real.log (f r c) :=
  funext fun p => if_neg (not_le.mpr (h _ _))

theorem trunc_arr {φ ψ : FTy} (h) : truncf (F := Ideal) (s := ⟨2, ![m, n]⟩) (φ := φ) ψ (arr f) h = arr f := rfl

theorem ext_arr {φ ψ : FTy} (h) : extf (F := Ideal) (s := ⟨2, ![m, n]⟩) (φ := φ) ψ (arr f) h = arr f := rfl

theorem zero_arr : broadcast (⟨2, ![m, n]⟩ : Shape) (Scalar.ofBits .f32 0x00000000#32 : Ideal .f32) = arr fun _ _ => 0 := by
  funext p; exact Ideal.ofBits_zero_f32

theorem const_arr : constant (F := Ideal) ⟨2, ![m, n]⟩ .f32 0x00000000#32 = arr fun _ _ => 0 := by
  funext p; exact Ideal.ofBits_zero_f32

theorem one_arr : broadcast (⟨2, ![m, n]⟩ : Shape) (Scalar.ofBits .f32 0x3F800000#32 : Ideal .f32) = arr fun _ _ => 1 := by
  funext p; exact Ideal.ofBits_one_f32

theorem cast_arr (h) : shapeCast (s := ⟨2, ![m, n]⟩) (α := EReal) ⟨2, ![m, n]⟩ (arr f) h = arr f := by
  funext p; pointwise

theorem slice_arr {m' n' a b : ℕ} (h) : extractStridedSlice (s := ⟨2, ![m, n]⟩) (α := EReal) ⟨2, ![m', n']⟩ ![a, b] (arr f) h
    = arr fun r c => f (a + r) (b + c) := rfl

theorem select_arr (P : ℕ → ℕ → Prop) [∀ r c, Decidable (P r c)] (M : IVec ⟨2, ![m, n]⟩ 1)
    (hM : ∀ p, M p = 1 ↔ P (p 0).val (p 1).val) :
    select M (arr f) (arr g) = arr fun r c => if P r c then f r c else g r c := by
  funext p
  show (if M p = 1 then ((f (p 0).val (p 1).val : ℝ) : EReal) else ((g (p 0).val (p 1).val : ℝ) : EReal))
    = (((if P (p 0).val (p 1).val then f (p 0).val (p 1).val else g (p 0).val (p 1).val) : ℝ) : EReal)
  by_cases h : P (p 0).val (p 1).val
  · rw [if_pos ((hM p).mpr h), if_pos h]
  · rw [if_neg (fun h' => h ((hM p).mp h')), if_neg h]
end

section
variable (f g h : ℕ → ℕ → ℝ)

/-- A sum of reals, taken in the extended reals. -/
theorem coe_sum {ι : Type} (s : Finset ι) (a : ι → ℝ) : ((∑ k ∈ s, a k : ℝ) : EReal) = ∑ k ∈ s, ((a k : ℝ) : EReal) := by
  classical
  induction s using Finset.induction_on with
  | empty => simp
  | insert i s hi ih => rw [Finset.sum_insert hi, Finset.sum_insert hi, EReal.coe_add, ih]

/-- A sum of products of reals, taken in the extended reals. -/
theorem coe_sum_mul {K : ℕ} (a b : ℕ → ℝ) : ∑ k : Fin K, ((a k.val : ℝ) : EReal) * ((b k.val : ℝ) : EReal)
    = ((∑ k ∈ Finset.range K, a k * b k : ℝ) : EReal) := by
  rw [Finset.sum_range, coe_sum]
  exact Finset.sum_congr rfl fun k _ => (EReal.coe_mul _ _).symm

theorem dot_qk : matmul (F := Ideal) (φ₁ := .bf16) (φ₂ := .bf16) dot_S512x128_S512x128_S512x512_1_1_0_0_n_n none (arr f) (arr g) (arr h)
    = arr fun r c => h r c + ∑ k ∈ Finset.range 128, f r k * g c k := by
  funext p
  pointwise
  simp only [arr]
  rw [EReal.coe_add, ← coe_sum_mul]
  rfl

theorem dot_av : matmul (F := Ideal) (φ₁ := .bf16) (φ₂ := .bf16) dot_S512x512_S512x128_S512x128_1_0_0_1_n_n none (arr f) (arr g) (arr h)
    = arr fun r c => h r c + ∑ k ∈ Finset.range 512, f r k * g k c := by
  funext p
  pointwise
  simp only [arr]
  rw [EReal.coe_add, ← coe_sum_mul]
  rfl

theorem dot_tn : matmul (F := Ideal) (φ₁ := .bf16) (φ₂ := .bf16) dot_S512x512_S512x128_S512x128_0_0_1_1_n_n none (arr f) (arr g) (arr h)
    = arr fun r c => h r c + ∑ k ∈ Finset.range 512, f k r * g k c := by
  funext p
  pointwise
  simp only [arr]
  rw [EReal.coe_add, ← coe_sum_mul]
  rfl

theorem dot_sums : matmul (F := Ideal) (φ₁ := .bf16) (φ₂ := .bf16) dot_S512x256_S256x256_S512x256_1_0_0_1_n_n none (arr f) (arr g) (arr h)
    = arr fun r c => h r c + ∑ k ∈ Finset.range 256, f r k * g k c := by
  funext p
  pointwise
  simp only [arr]
  rw [EReal.coe_add, ← coe_sum_mul]
  rfl

/-- Two blocks side by side, and four; the pieces are arguments, so rewriting reaches them. -/
def pair (a b : FVec Ideal S512x128 .bf16) : FVec Ideal S512x256 .bf16 :=
  concatenate S512x256 1 [⟨S512x128, a⟩, ⟨S512x128, b⟩] concatenates_S512x128_S512x128_S512x256_d1
@[inherit_doc pair] def quad {φ : FTy} (a b d e : FVec Ideal S512x128 φ) : FVec Ideal S512x512 φ :=
  concatenate S512x512 1 [⟨S512x128, a⟩, ⟨S512x128, b⟩, ⟨S512x128, d⟩, ⟨S512x128, e⟩]
    concatenates_S512x128_S512x128_S512x128_S512x128_S512x512_d1

theorem pair_eq (a b : FVec Ideal S512x128 .bf16) :
    concatenate S512x256 1 [⟨S512x128, a⟩, ⟨S512x128, b⟩] concatenates_S512x128_S512x128_S512x256_d1 = pair a b := rfl
theorem quad_eq {φ : FTy} (a b d e : FVec Ideal S512x128 φ) :
    concatenate S512x512 1 [⟨S512x128, a⟩, ⟨S512x128, b⟩, ⟨S512x128, d⟩, ⟨S512x128, e⟩]
      concatenates_S512x128_S512x128_S512x128_S512x128_S512x512_d1 = quad a b d e := rfl

theorem cat2 : pair (arr f) (arr g)
    = arr fun r c => if c < 128 then f r c else g r (c - 128) := by
  funext p
  unfold pair
  pointwise
  simp only [arr]
  split <;> rfl

/-- Four blocks of 128 columns side by side. -/
def blocks (f g h k : ℕ → ℕ → ℝ) (r c : ℕ) : ℝ :=
  if c < 128 then f r c else if c - 128 < 128 then g r (c - 128)
    else if c - 128 - 128 < 128 then h r (c - 128 - 128) else k r (c - 128 - 128 - 128)

theorem cat4 (k : ℕ → ℕ → ℝ) {φ : FTy} : quad (φ := φ) (arr f) (arr g) (arr h) (arr k) = arr (blocks f g h k) := by
  funext p
  unfold quad
  pointwise
  simp only [arr, blocks]
  split
  · rfl
  split
  · rfl
  split <;> rfl
end

end Cert.AttnIdeal.Value
-- ==== Proof.AttnSums.lean ====
/- The sums of the attention kernels over reals: the logarithm of the sigmoid, the 0/1 matrices whose products are
   the running sums of a block of 128 keys and its total, and a sum over 512 keys as four of 128. -/
module

public import proofs.«01_k».proof.Proof.AttnArr

@[expose] public section

noncomputable section

open Idealize.ShloMosaic Idealize.ShloMosaic.TcCoe Idealize.SL.Sem

namespace Cert.AttnIdeal.Value

open Cert.AttnIdeal Cert.AttnIdeal.Gen

/-- The logarithm of the sigmoid, as the kernels write it. -/
def ls (z : ℝ) : ℝ := min z 0 - Real.log (1 + Real.exp (0 - |z|))

section
variable {m n : ℕ} (f : ℕ → ℕ → ℝ)

theorem log1p_arr {φ : FTy} : log (F := Ideal) (s := ⟨2, ![m, n]⟩) (φ := φ) (arr fun r c => 1 + Real.exp (f r c))
    = arr fun r c => Real.log (1 + Real.exp (f r c)) :=
  log_arr _ fun r c => by positivity

theorem ls_arr : (arr fun r c => min (f r c) 0 - Real.log (1 + Real.exp (0 - |f r c|)) : Shape.Idx ⟨2, ![m, n]⟩ → EReal)
    = arr fun r c => ls (f r c) := rfl
end

/-- The matrix of the forward kernel: column `c < 128` keeps the keys after `c`, the columns from 128 on keep all. -/
def uAfter (k c : ℕ) : ℝ := if 128 ≤ c ∨ c < k % 128 then 1 else 0

/-- The matrix of the backward kernel: column `c < 128` keeps the keys up to `c`, the columns from 128 on keep all. -/
def uUpto (k c : ℕ) : ℝ := if 128 ≤ c ∨ k % 128 ≤ c then 1 else 0

/-- A block's sums by a matrix with equal halves: the second half meets the difference of a value and itself. -/
theorem sums_arr (u : ℕ → ℕ → ℝ) (hu : ∀ k c, u (128 + k) c = u k c) (f : ℕ → ℕ → ℝ) :
    matmul (F := Ideal) (φ₁ := .bf16) (φ₂ := .bf16) dot_S512x256_S256x256_S512x256_1_0_0_1_n_n none
      (pair (arr f) (arr fun r c => f r c - f r c))
      (arr u) (arr fun _ _ => 0)
    = arr fun r c => ∑ k ∈ Finset.range 128, f r k * u k c := by
  rw [cat2, dot_sums]
  congr 1
  funext r c
  rw [show (256 : ℕ) = 128 + 128 from rfl, Finset.sum_range_add, zero_add]
  have h : ∑ x ∈ Finset.range 128, (if 128 + x < 128 then f r (128 + x) else f r (128 + x - 128) - f r (128 + x - 128)) * u (128 + x) c = 0 :=
    Finset.sum_eq_zero fun x _ => by rw [if_neg (by omega), sub_self, zero_mul]
  rw [h, add_zero]
  exact Finset.sum_congr rfl fun x hx => by rw [if_pos (Finset.mem_range.mp hx)]

theorem uAfter_half (k c : ℕ) : uAfter (128 + k) c = uAfter k c := by unfold uAfter; rw [Nat.add_mod_left]
theorem uUpto_half (k c : ℕ) : uUpto (128 + k) c = uUpto k c := by unfold uUpto; rw [Nat.add_mod_left]

theorem uAfter_all (a : ℕ → ℝ) (c : ℕ) : ∑ k ∈ Finset.range 128, a k * uAfter k (128 + c) = ∑ k ∈ Finset.range 128, a k :=
  Finset.sum_congr rfl fun k _ => by rw [uAfter, if_pos (.inl (by omega)), mul_one]
theorem uUpto_all (a : ℕ → ℝ) (c : ℕ) : ∑ k ∈ Finset.range 128, a k * uUpto k (128 + c) = ∑ k ∈ Finset.range 128, a k :=
  Finset.sum_congr rfl fun k _ => by rw [uUpto, if_pos (.inl (by omega)), mul_one]

/-- A sum over 512 keys, as four over 128. -/
theorem sum512 (a : ℕ → ℝ) : ∑ j ∈ Finset.range 512, a j = ∑ k ∈ Finset.range 128, a k + ∑ k ∈ Finset.range 128, a (128 + k)
    + ∑ k ∈ Finset.range 128, a (256 + k) + ∑ k ∈ Finset.range 128, a (384 + k) := by
  rw [show (512 : ℕ) = 128 + 128 + 128 + 128 from rfl, Finset.sum_range_add, Finset.sum_range_add, Finset.sum_range_add]

/-- A row of 512 given block by block. -/
theorem blocks_eq (g : ℕ → ℝ) {f₀ f₁ f₂ f₃ : ℕ → ℕ → ℝ} {r k : ℕ} (hk : k < 512) (h₀ : ∀ c < 128, f₀ r c = g c)
    (h₁ : ∀ c < 128, f₁ r c = g (128 + c)) (h₂ : ∀ c < 128, f₂ r c = g (256 + c)) (h₃ : ∀ c < 128, f₃ r c = g (384 + c)) :
    blocks f₀ f₁ f₂ f₃ r k = g k := by
  unfold blocks
  split
  · exact h₀ k ‹_›
  split
  · rw [h₁ _ ‹_›]; congr 1; omega
  split
  · rw [h₂ _ ‹_›]; congr 1; omega
  · rw [h₃ _ (by omega)]; congr 1; omega

/-- Four blocks of 128 columns of one array, side by side again. -/
theorem quad_arr (f : ℕ → ℕ → ℝ) {φ : FTy} : quad (φ := φ) (arr f) (arr fun r c => f r (128 + c)) (arr fun r c => f r (256 + c))
    (arr fun r c => f r (384 + c)) = arr f := by
  rw [cat4]
  exact arr_congr fun r c _ hc => blocks_eq (f r) hc (fun _ _ => rfl) (fun _ _ => rfl) (fun _ _ => rfl) (fun _ _ => rfl)

/-- The sum over the keys of a group after key `j`. -/
def after (a : ℕ → ℝ) (j : ℕ) : ℝ := ∑ k ∈ Finset.range 512, if j < k then a k else 0

/-- The sum over the keys of a group up to key `j`. -/
def upto (a : ℕ → ℝ) (j : ℕ) : ℝ := ∑ k ∈ Finset.range 512, if k ≤ j then a k else 0

/-- One block's part of such a sum: the matrix's column where the block holds `c`, all of it or none elsewhere. -/
theorem part (b : ℕ → ℝ) (P : ℕ → Prop) [DecidablePred P] (u : ℕ → ℝ) (h : ∀ k < 128, u k = if P k then 1 else 0) :
    (∑ k ∈ Finset.range 128, if P k then b k else 0) = ∑ k ∈ Finset.range 128, b k * u k :=
  Finset.sum_congr rfl fun k hk => by rw [h k (Finset.mem_range.mp hk)]; split <;> simp

theorem part_all (b : ℕ → ℝ) (P : ℕ → Prop) [DecidablePred P] (h : ∀ k < 128, P k) :
    (∑ k ∈ Finset.range 128, if P k then b k else 0) = ∑ k ∈ Finset.range 128, b k :=
  Finset.sum_congr rfl fun k hk => if_pos (h k (Finset.mem_range.mp hk))

theorem part_none (b : ℕ → ℝ) (P : ℕ → Prop) [DecidablePred P] (h : ∀ k < 128, ¬ P k) :
    (∑ k ∈ Finset.range 128, if P k then b k else 0) = 0 :=
  Finset.sum_eq_zero fun k hk => if_neg (h k (Finset.mem_range.mp hk))

section
variable (a : ℕ → ℝ) {c : ℕ} (hc : c < 128)
include hc

theorem after_0 : after a c = ∑ k ∈ Finset.range 128, a k * uAfter k c + ∑ k ∈ Finset.range 128, a (128 + k) + ∑ k ∈ Finset.range 128, a (256 + k) + ∑ k ∈ Finset.range 128, a (384 + k) := by
  rw [after, sum512]
  exact congrArg₂ (· + ·) (congrArg₂ (· + ·) (congrArg₂ (· + ·)
    (part (fun k => a k) (fun k => c < k) (fun k => uAfter k c) (fun k hk => if_congr (by rw [Nat.mod_eq_of_lt hk]; omega) rfl rfl))
    (part_all (fun k => a (128 + k)) (fun k => c < 128 + k) (fun k hk => by omega)))
    (part_all (fun k => a (256 + k)) (fun k => c < 256 + k) (fun k hk => by omega)))
    (part_all (fun k => a (384 + k)) (fun k => c < 384 + k) (fun k hk => by omega))

theorem after_1 : after a (128 + c) = 0 + ∑ k ∈ Finset.range 128, a (128 + k) * uAfter k c + ∑ k ∈ Finset.range 128, a (256 + k) + ∑ k ∈ Finset.range 128, a (384 + k) := by
  rw [after, sum512]
  exact congrArg₂ (· + ·) (congrArg₂ (· + ·) (congrArg₂ (· + ·)
    (part_none (fun k => a k) (fun k => 128 + c < k) (fun k hk => by omega))
    (part (fun k => a (128 + k)) (fun k => 128 + c < 128 + k) (fun k => uAfter k c) (fun k hk => if_congr (by rw [Nat.mod_eq_of_lt hk]; omega) rfl rfl)))
    (part_all (fun k => a (256 + k)) (fun k => 128 + c < 256 + k) (fun k hk => by omega)))
    (part_all (fun k => a (384 + k)) (fun k => 128 + c < 384 + k) (fun k hk => by omega))

theorem after_2 : after a (256 + c) = 0 + 0 + ∑ k ∈ Finset.range 128, a (256 + k) * uAfter k c + ∑ k ∈ Finset.range 128, a (384 + k) := by
  rw [after, sum512]
  exact congrArg₂ (· + ·) (congrArg₂ (· + ·) (congrArg₂ (· + ·)
    (part_none (fun k => a k) (fun k => 256 + c < k) (fun k hk => by omega))
    (part_none (fun k => a (128 + k)) (fun k => 256 + c < 128 + k) (fun k hk => by omega)))
    (part (fun k => a (256 + k)) (fun k => 256 + c < 256 + k) (fun k => uAfter k c) (fun k hk => if_congr (by rw [Nat.mod_eq_of_lt hk]; omega) rfl rfl)))
    (part_all (fun k => a (384 + k)) (fun k => 256 + c < 384 + k) (fun k hk => by omega))

theorem after_3 : after a (384 + c) = 0 + 0 + 0 + ∑ k ∈ Finset.range 128, a (384 + k) * uAfter k c := by
  rw [after, sum512]
  exact congrArg₂ (· + ·) (congrArg₂ (· + ·) (congrArg₂ (· + ·)
    (part_none (fun k => a k) (fun k => 384 + c < k) (fun k hk => by omega))
    (part_none (fun k => a (128 + k)) (fun k => 384 + c < 128 + k) (fun k hk => by omega)))
    (part_none (fun k => a (256 + k)) (fun k => 384 + c < 256 + k) (fun k hk => by omega)))
    (part (fun k => a (384 + k)) (fun k => 384 + c < 384 + k) (fun k => uAfter k c) (fun k hk => if_congr (by rw [Nat.mod_eq_of_lt hk]; omega) rfl rfl))

theorem upto_0 : upto a c = ∑ k ∈ Finset.range 128, a k * uUpto k c + 0 + 0 + 0 := by
  rw [upto, sum512]
  exact congrArg₂ (· + ·) (congrArg₂ (· + ·) (congrArg₂ (· + ·)
    (part (fun k => a k) (fun k => k ≤ c) (fun k => uUpto k c) (fun k hk => if_congr (by rw [Nat.mod_eq_of_lt hk]; omega) rfl rfl))
    (part_none (fun k => a (128 + k)) (fun k => 128 + k ≤ c) (fun k hk => by omega)))
    (part_none (fun k => a (256 + k)) (fun k => 256 + k ≤ c) (fun k hk => by omega)))
    (part_none (fun k => a (384 + k)) (fun k => 384 + k ≤ c) (fun k hk => by omega))

theorem upto_1 : upto a (128 + c) = ∑ k ∈ Finset.range 128, a k + ∑ k ∈ Finset.range 128, a (128 + k) * uUpto k c + 0 + 0 := by
  rw [upto, sum512]
  exact congrArg₂ (· + ·) (congrArg₂ (· + ·) (congrArg₂ (· + ·)
    (part_all (fun k => a k) (fun k => k ≤ 128 + c) (fun k hk => by omega))
    (part (fun k => a (128 + k)) (fun k => 128 + k ≤ 128 + c) (fun k => uUpto k c) (fun k hk => if_congr (by rw [Nat.mod_eq_of_lt hk]; omega) rfl rfl)))
    (part_none (fun k => a (256 + k)) (fun k => 256 + k ≤ 128 + c) (fun k hk => by omega)))
    (part_none (fun k => a (384 + k)) (fun k => 384 + k ≤ 128 + c) (fun k hk => by omega))

theorem upto_2 : upto a (256 + c) = ∑ k ∈ Finset.range 128, a k + ∑ k ∈ Finset.range 128, a (128 + k) + ∑ k ∈ Finset.range 128, a (256 + k) * uUpto k c + 0 := by
  rw [upto, sum512]
  exact congrArg₂ (· + ·) (congrArg₂ (· + ·) (congrArg₂ (· + ·)
    (part_all (fun k => a k) (fun k => k ≤ 256 + c) (fun k hk => by omega))
    (part_all (fun k => a (128 + k)) (fun k => 128 + k ≤ 256 + c) (fun k hk => by omega)))
    (part (fun k => a (256 + k)) (fun k => 256 + k ≤ 256 + c) (fun k => uUpto k c) (fun k hk => if_congr (by rw [Nat.mod_eq_of_lt hk]; omega) rfl rfl)))
    (part_none (fun k => a (384 + k)) (fun k => 384 + k ≤ 256 + c) (fun k hk => by omega))

theorem upto_3 : upto a (384 + c) = ∑ k ∈ Finset.range 128, a k + ∑ k ∈ Finset.range 128, a (128 + k) + ∑ k ∈ Finset.range 128, a (256 + k) + ∑ k ∈ Finset.range 128, a (384 + k) * uUpto k c := by
  rw [upto, sum512]
  exact congrArg₂ (· + ·) (congrArg₂ (· + ·) (congrArg₂ (· + ·)
    (part_all (fun k => a k) (fun k => k ≤ 384 + c) (fun k hk => by omega))
    (part_all (fun k => a (128 + k)) (fun k => 128 + k ≤ 384 + c) (fun k hk => by omega)))
    (part_all (fun k => a (256 + k)) (fun k => 256 + k ≤ 384 + c) (fun k hk => by omega)))
    (part (fun k => a (384 + k)) (fun k => 384 + k ≤ 384 + c) (fun k => uUpto k c) (fun k hk => if_congr (by rw [Nat.mod_eq_of_lt hk]; omega) rfl rfl))

end

end Cert.AttnIdeal.Value
-- ==== Proof.AttnFwd.lean ====
/- One group of 512 keys in the forward attention kernel, below the diagonal and on it. -/
module

public import proofs.«01_k».proof.Proof.AttnSums

@[expose] public section

set_option maxRecDepth 16384

noncomputable section

open Idealize.ShloMosaic Idealize.ShloMosaic.TcCoe Idealize.SL.Sem

namespace Cert.AttnIdeal.Value

open Cert.AttnIdeal Cert.AttnIdeal.Gen

/-- What a group below the diagonal leaves in the accumulator. -/
def fwdAcc (q : Vec Ideal S512x128 .bf16) (u : Vec Ideal S256x256 .bf16) (k v : Vec Ideal S512x128 .bf16)
    (acc run : Vec Ideal S512x128 .f32) : Vec Ideal S512x128 .f32 :=
  k0_pay6 (k0_pay18 q u k) (k0_pay19 q u k) (k0_pay23 u (k0_pay20 q k) (k0_pay21 q k)) (k0_pay24 u (k0_pay20 q k) (k0_pay21 q k))
    (k0_pay28 u (k0_pay14 q k)) (k0_pay29 u (k0_pay14 q k)) (k0_pay31 (k0_pay14 q k)) (k0_pay33 u (k0_pay14 q k)) run acc v

/-- What it leaves of the running sum. -/
def fwdRun (q : Vec Ideal S512x128 .bf16) (u : Vec Ideal S256x256 .bf16) (k : Vec Ideal S512x128 .bf16)
    (run : Vec Ideal S512x128 .f32) : Vec Ideal S512x128 .f32 :=
  k0_pay7 (k0_pay18 q u k) (k0_pay23 u (k0_pay20 q k) (k0_pay21 q k)) (k0_pay28 u (k0_pay14 q k)) (k0_pay34 u (k0_pay14 q k)) run

/-- The scores of a group: the product of a query row and a key row. -/
def zg (q k : ℕ → ℕ → ℝ) (r j : ℕ) : ℝ := ∑ d ∈ Finset.range 128, q r d * k j d

theorem z_arr (q k : ℕ → ℕ → ℝ) : k0_pay14 (F := Ideal) (arr q) (arr k) = arr (zg q k) := by
  simp only [k0_pay14, cast_arr, const_arr, dot_qk, zero_add]
  rfl

variable (q k v acc : ℕ → ℕ → ℝ) (run : ℕ → ℝ)

set_option maxHeartbeats 1000000 in
theorem fwdRun_arr : fwdRun (arr q) (arr uAfter) (arr k) (arr fun r _ => run r)
    = arr fun r _ => run r + ∑ j ∈ Finset.range 512, (ls (zg q k r j) - zg q k r j) := by
  have hz := z_arr q k
  generalize zg q k = z at hz ⊢
  unfold fwdRun
  simp only [k0_pay7, k0_pay5, k0_pay4, k0_pay3, k0_pay18, k0_pay17, k0_pay16, k0_pay15, k0_pay20, k0_pay21, k0_pay22, k0_pay23,
    k0_pay25, k0_pay26, k0_pay27, k0_pay28, k0_pay30, k0_pay31, k0_pay32, k0_pay34, hz, pair_eq, quad_eq, slice_arr, zero_arr, one_arr, const_arr,
    min_arr, abs_arr, sub_arr, exp_arr, add_arr, log1p_arr, ls_arr, trunc_arr, ext_arr, cast_arr, sums_arr _ uAfter_half, uAfter_all]
  refine arr_congr fun r c _ _ => ?_
  rw [sum512 (fun j => ls (z r j) - z r j)]
  simp only [zero_add]
  ring

set_option maxHeartbeats 1000000 in
theorem fwdAcc_arr : fwdAcc (arr q) (arr uAfter) (arr k) (arr v) (arr acc) (arr fun r _ => run r)
    = arr fun r c => acc r c + ∑ j ∈ Finset.range 512,
        Real.exp (ls (zg q k r j) + (run r + after (fun s => ls (zg q k r s) - zg q k r s) j)) * v j c := by
  have hz := z_arr q k
  generalize zg q k = z at hz ⊢
  unfold fwdAcc
  simp only [k0_pay6, k0_pay19, k0_pay24, k0_pay29, k0_pay33, k0_pay34, k0_pay5, k0_pay4, k0_pay3, k0_pay18, k0_pay17, k0_pay16, k0_pay15, k0_pay20, k0_pay21, k0_pay22, k0_pay23,
    k0_pay25, k0_pay26, k0_pay27, k0_pay28, k0_pay30, k0_pay31, k0_pay32, k0_pay34, hz, pair_eq, quad_eq, slice_arr, zero_arr, one_arr, const_arr,
    min_arr, abs_arr, sub_arr, exp_arr, add_arr, log1p_arr, ls_arr, trunc_arr, ext_arr, cast_arr, sums_arr _ uAfter_half, uAfter_all, cat4, dot_av]
  simp only [zero_add]
  refine arr_congr fun r c _ _ => congrArg (acc r c + ·) (Finset.sum_congr rfl fun j hj => congrArg (· * v j c) ?_)
  refine blocks_eq (fun j => Real.exp (ls (z r j) + (run r + after (fun s => ls (z r s) - z r s) j))) (Finset.mem_range.mp hj)
    (fun c hc => congrArg Real.exp ?_) (fun c hc => congrArg Real.exp ?_) (fun c hc => congrArg Real.exp ?_)
    (fun c hc => congrArg Real.exp ?_)
  · rw [after_0 _ hc]; ring
  · rw [after_1 _ hc]; ring
  · rw [after_2 _ hc]; ring
  · rw [after_3 _ hc]; ring

/-- The first key of the diagonal group, as the kernel computes it. -/
def diagBase (n : ℕ) : BitVec 32 :=
  Scalar.muli (Scalar.addi (Scalar.subi (Scalar.subi (Scalar.subi (Scalar.addi (Scalar.muli (BitVec.ofNat 32 n) 4#32) 4#32) 1#32) 0#32) 4#32) 1#32) 128#32

/-- The keys of a block that lie before the query, when the block begins `b` after the first query of its row block. -/
def mk (b : ℕ) : IVec S512x128 1 := fun p => if b + (p 1).val < (p 0).val then 1 else 0

theorem select_mk (b : ℕ) (f g : ℕ → ℕ → ℝ) :
    select (mk b) (arr f) (arr g) = arr fun r c => if b + c < r then f r c else g r c :=
  select_arr f g (fun r c => b + c < r) (mk b) fun p => by unfold mk; split <;> simp [*]

theorem cmp_mk (x b : ℕ) (hx : x < 4096) (hb : b < 512) :
    cmpi .slt (addi (broadcast S512x128 (BitVec.ofNat 32 (x + b))) (iota .tc S512x128 32 [1] iota_S512x128_d1_w32))
      (addi (broadcast S512x128 (BitVec.ofNat 32 x)) (iota .tc S512x128 32 [0] iota_S512x128_d0_w32)) = mk b := by
  funext p
  have h0 : (p 0).val < 512 := (p 0).isLt
  have h1 : (p 1).val < 128 := (p 1).isLt
  unfold mk
  pointwise
  have e : ∀ a b : BitVec 32, IntOp.cmpi CmpIPredicate.slt a b = if a.toInt < b.toInt then 1 else 0 := fun a b => by
    show BitVec.ofBool (BitVec.slt a b) = _
    rw [BitVec.slt_eq_decide]
    by_cases h : a.toInt < b.toInt <;> simp [h]
  have t : ∀ a b : ℕ, a + b < 2 ^ 31 → (IntOp.addi (BitVec.ofNat 32 a) (BitVec.ofNat 32 b)).toInt = a + b := fun a b h => by
    show (BitVec.ofNat 32 a + BitVec.ofNat 32 b).toInt = _
    rw [← BitVec.ofNat_add, BitVec.toInt_eq_toNat_of_lt (by rw [BitVec.toNat_ofNat]; omega), BitVec.toNat_ofNat,
      Nat.mod_eq_of_lt (by omega)]
    rfl
  rw [e, t _ _ (by omega), t _ _ (by omega)]
  exact if_congr (by omega) rfl rfl

theorem base_off : ∀ n : Fin 8, Scalar.muli (BitVec.ofNat 32 n.val) 512#32 = BitVec.ofNat 32 (512 * n.val)
    ∧ Scalar.addi (diagBase n.val) 384#32 = BitVec.ofNat 32 (512 * n.val + 384)
    ∧ Scalar.addi (diagBase n.val) 256#32 = BitVec.ofNat 32 (512 * n.val + 256)
    ∧ Scalar.addi (diagBase n.val) 128#32 = BitVec.ofNat 32 (512 * n.val + 128)
    ∧ Scalar.addi (diagBase n.val) 0#32 = BitVec.ofNat 32 (512 * n.val + 0) := by
  decide +kernel

/-- The zero the first block of the diagonal group is compared against. -/
def zeroF : Ideal .f32 := Scalar.ofBits .f32 0x00000000#32

/-- What the diagonal group leaves of the running sum. -/
def diagRun (i : grid0.Coords) (q : Vec Ideal S512x128 .bf16) (u : Vec Ideal S256x256 .bf16) (k : Vec Ideal S512x128 .bf16)
    (run : Vec Ideal S512x128 .f32) : Vec Ideal S512x128 .f32 :=
  k0_pay2 (k0_pay89 (k0_pay57 u) (k0_pay65 (k0_pay57 u) (k0_pay61 i) (k0_pay62 q k) zeroF)
    (k0_pay72 (k0_pay57 u) (k0_pay70 (BitVec.ofNat 32 (i 1).val) (diagBase (i 1).val) (k0_pay60 q k)))
    (k0_pay78 (BitVec.ofNat 32 (i 1).val) (k0_pay57 u) (diagBase (i 1).val) (k0_pay60 q k))
    (k0_pay80 (BitVec.ofNat 32 (i 1).val) (diagBase (i 1).val)) (k0_pay81 (k0_pay60 q k)) (k0_pay82 (k0_pay60 q k))
    (k0_pay83 (k0_pay60 q k)) run)

/-- What it leaves in the accumulator. -/
def diagAcc (i : grid0.Coords) (q : Vec Ideal S512x128 .bf16) (u : Vec Ideal S256x256 .bf16) (k v : Vec Ideal S512x128 .bf16)
    (acc run : Vec Ideal S512x128 .f32) : Vec Ideal S512x128 .f32 :=
  k0_pay1 acc (k0_pay90 (k0_pay57 u) (k0_pay61 i) (k0_pay65 (k0_pay57 u) (k0_pay61 i) (k0_pay62 q k) zeroF)
    (k0_pay66 (k0_pay57 u) (k0_pay61 i) (k0_pay62 q k) zeroF) (k0_pay67 (BitVec.ofNat 32 (i 1).val) (diagBase (i 1).val))
    (k0_pay72 (k0_pay57 u) (k0_pay70 (BitVec.ofNat 32 (i 1).val) (diagBase (i 1).val) (k0_pay60 q k)))
    (k0_pay73 (k0_pay57 u) (k0_pay69 (k0_pay60 q k)) (k0_pay70 (BitVec.ofNat 32 (i 1).val) (diagBase (i 1).val) (k0_pay60 q k)))
    (k0_pay74 (BitVec.ofNat 32 (i 1).val) (diagBase (i 1).val))
    (k0_pay78 (BitVec.ofNat 32 (i 1).val) (k0_pay57 u) (diagBase (i 1).val) (k0_pay60 q k))
    (k0_pay79 (BitVec.ofNat 32 (i 1).val) (k0_pay57 u) (diagBase (i 1).val) (k0_pay60 q k))
    (k0_pay80 (BitVec.ofNat 32 (i 1).val) (diagBase (i 1).val)) (k0_pay81 (k0_pay60 q k)) (k0_pay82 (k0_pay60 q k))
    (k0_pay83 (k0_pay60 q k)) run) v

theorem z_arr' : k0_pay60 (F := Ideal) (arr q) (arr k) = arr (zg q k) := by
  simp only [k0_pay60, k0_pay56, cast_arr, const_arr, dot_qk, zero_add]
  rfl

section
variable (i : grid0.Coords)

theorem masks : k0_pay61 i = mk 384 ∧ k0_pay67 (BitVec.ofNat 32 (i 1).val) (diagBase (i 1).val) = mk 256
    ∧ k0_pay74 (BitVec.ofNat 32 (i 1).val) (diagBase (i 1).val) = mk 128
    ∧ k0_pay80 (BitVec.ofNat 32 (i 1).val) (diagBase (i 1).val) = mk 0 := by
  obtain ⟨h, h3, h2, h1, h0⟩ := base_off (i 1)
  have hx : 512 * (i 1).val < 4096 := by have : (i 1).val < 8 := (i 1).isLt; omega
  refine ⟨?_, ?_, ?_, ?_⟩
  · rw [← cmp_mk _ 384 hx (by omega), ← h3, ← h]; rfl
  · rw [← cmp_mk _ 256 hx (by omega), ← h2, ← h]; rfl
  · rw [← cmp_mk _ 128 hx (by omega), ← h1, ← h]; rfl
  · rw [← cmp_mk _ 0 hx (by omega), ← h0, ← h]; rfl

set_option maxHeartbeats 1000000 in
theorem diagRun_arr : diagRun i (arr q) (arr uAfter) (arr k) (arr fun r _ => run r)
    = arr fun r _ => run r + ∑ j ∈ Finset.range 512, (if j < r then ls (zg q k r j) - zg q k r j else 0) := by
  obtain ⟨m3, m2, m1, m0⟩ := masks i
  have hz := z_arr' q k
  generalize zg q k = z at hz ⊢
  unfold diagRun zeroF
  simp only [k0_pay2, k0_pay57, k0_pay62, k0_pay63, k0_pay64, k0_pay65, k0_pay68, k0_pay69, k0_pay70, k0_pay71, k0_pay72, k0_pay75, k0_pay76, k0_pay77, k0_pay78,
    k0_pay81, k0_pay82, k0_pay83, k0_pay84, k0_pay85, k0_pay86, k0_pay87, k0_pay88, k0_pay89,
    m3, m2, m1, m0, select_mk, hz, pair_eq, quad_eq, slice_arr, zero_arr, one_arr, const_arr,
    min_arr, abs_arr, sub_arr, exp_arr, add_arr, log1p_arr, ls_arr, trunc_arr, ext_arr, cast_arr, sums_arr _ uAfter_half, uAfter_all]
  refine arr_congr fun r c _ _ => ?_
  rw [sum512 (fun j => if j < r then ls (z r j) - z r j else 0)]
  simp only [zero_add]
  ring

set_option maxHeartbeats 1000000 in
theorem diagAcc_arr : diagAcc i (arr q) (arr uAfter) (arr k) (arr v) (arr acc) (arr fun r _ => run r)
    = arr fun r c => acc r c + ∑ j ∈ Finset.range 512, (if j < r then
        Real.exp (ls (zg q k r j) + (run r + after (fun s => if s < r then ls (zg q k r s) - zg q k r s else 0) j)) else 0) * v j c := by
  obtain ⟨m3, m2, m1, m0⟩ := masks i
  have hz := z_arr' q k
  generalize zg q k = z at hz ⊢
  unfold diagAcc zeroF
  simp only [k0_pay1, k0_pay57, k0_pay62, k0_pay63, k0_pay64, k0_pay65, k0_pay66, k0_pay68, k0_pay69, k0_pay70, k0_pay71, k0_pay72, k0_pay73, k0_pay75, k0_pay76, k0_pay77, k0_pay78,
    k0_pay79, k0_pay81, k0_pay82, k0_pay83, k0_pay84, k0_pay85, k0_pay86, k0_pay87, k0_pay88, k0_pay90,
    m3, m2, m1, m0, select_mk, hz, pair_eq, quad_eq, slice_arr, zero_arr, one_arr, const_arr,
    min_arr, abs_arr, sub_arr, exp_arr, add_arr, log1p_arr, ls_arr, trunc_arr, ext_arr, cast_arr, sums_arr _ uAfter_half, uAfter_all, cat4, dot_av, zero_add]
  refine arr_congr fun r c _ _ => congrArg (acc r c + ·) (Finset.sum_congr rfl fun j hj => congrArg (· * v j c) ?_)
  refine blocks_eq (fun j => if j < r then Real.exp (ls (z r j) + (run r + after (fun s => if s < r then ls (z r s) - z r s else 0) j)) else 0) (Finset.mem_range.mp hj)
    (fun c hc => if_congr Iff.rfl (congrArg Real.exp ?_) rfl) (fun c hc => if_congr Iff.rfl (congrArg Real.exp ?_) rfl)
    (fun c hc => if_congr Iff.rfl (congrArg Real.exp ?_) rfl) (fun c hc => if_congr Iff.rfl (congrArg Real.exp ?_) rfl)
  · rw [after_0 _ hc]; ring
  · rw [after_1 _ hc]; ring
  · rw [after_2 _ hc]; ring
  · rw [after_3 _ hc]; ring

end

end Cert.AttnIdeal.Value
-- ==== Proof.AttnBwd.lean ====
/- One group of 512 keys in the backward attention kernel, below the diagonal and on it. -/
module

public import proofs.«01_k».proof.Proof.AttnFwd

@[expose] public section

set_option maxRecDepth 16384

noncomputable section

open Idealize.ShloMosaic Idealize.ShloMosaic.TcCoe Idealize.SL.Sem

namespace Cert.AttnIdeal.Value

open Cert.AttnIdeal Cert.AttnIdeal.Gen

/-- What the backward kernel keeps while it walks the groups: the query gradient, the group's rows of the key and value
    gradients, the sum of the keeps and the sum of the weighted value gradients so far. -/
structure Grads where
  dq : Vec Ideal S512x128 .f32
  dk : Vec Ideal S512x128 .f32
  dv : Vec Ideal S512x128 .f32
  run : Vec Ideal S512x128 .f32
  grun : Vec Ideal S512x128 .f32

/-- What a group below the diagonal makes of it. -/
def bwdGroup (v3 v5 : Vec Ideal S512x128 .bf16) (v7 : Vec Ideal S256x256 .bf16) (v306 v310 : Vec Ideal S512x128 .bf16)
    (tot : Vec Ideal S512x128 .f32) (g : Grads) : Grads :=
  let v4 := k1_pay131 v3
  let v6 := k1_pay132 v5
  let v8 := k1_pay133 v7
  let v307 := k1_pay7 v306
  let v308 := k1_pay8 v4 v306
  let v312 := k1_pay9 v6 v310
  let v323 := k1_pay11 v4 v306
  let v332 := k1_pay13 v4 v8 v306
  let v335 := k1_pay14 v4 v8 v306 tot
  let v336 := k1_pay15 v6 v310
  let v337 := k1_pay16 v4 v306
  let v339 := k1_pay17 v4 v306
  let v345 := k1_pay18 v4 v306
  let v347 := k1_pay19 v339 v345
  let v356 := k1_pay21 v8 v337 v339 v345
  let v359 := k1_pay22 v8 v337 v339 v345 tot
  let v360 := k1_pay23 v312
  let v371 := k1_pay25 v308
  let v380 := k1_pay27 v8 v308
  let v383 := k1_pay28 v8 v308 tot
  let v384 := k1_pay29 v312
  let v385 := k1_pay30 v308
  let v387 := k1_pay31 v308
  let v393 := k1_pay32 v308
  let v395 := k1_pay33 v387 v393
  let v404 := k1_pay35 v8 v385 v387 v393
  let v407 := k1_pay36 v8 v385 v387 v393 tot
  let v408 := k1_pay37 v312
  let v427 := k1_pay41 v323 v335 g.run
  let v428 := k1_pay42 v8 v323 v335 v336 g.run g.grun
  let v429 := k1_pay43 v332 g.run
  let v430 := k1_pay44 v8 v323 v335 v336 g.run g.grun
  let v433 := k1_pay45 v332 v347 v359 g.run
  let v434 := k1_pay46 v332 v347 v359 v360 g.run
  let v442 := k1_pay48 v8 v332 v347 v359 v360 g.run
  let v443 := k1_pay49 v347
  let v444 := k1_pay50 v8 v323 v332 v335 v336 v347 v359 v360 g.run g.grun
  let v491 := k1_pay66 v8 v356 v371 v380 v383 v384 v395 v407 v408 v428 v429 v430 v434 v442 v443 v444
  { dq := k1_pay67 v8 v307 v356 v371 v380 v383 v384 v395 v407 v408 v428 v429 v430 v434 v442 v443 v444 g.dq
    dk := k1_pay137 v3 v491 g.dk
    dv := k1_pay138 v5 v427 (k1_pay51 v433) (k1_pay57 v356 v371 v383 v429) (k1_pay63 v356 v380 v395 v407 v429) g.dv
    run := k1_pay139 (k1_pay64 v356 v380 v404 v429)
    grun := k1_pay140 (k1_pay65 v8 v356 v371 v380 v383 v384 v395 v407 v408 v429 v430 v442) }

/-- A row's weights: the exponential of what is left after the keys up to `j`. -/
def wt (z L : ℕ → ℕ → ℝ) (tot run : ℕ → ℝ) (r j : ℕ) : ℝ := Real.exp (ls (z r j) + (tot r - upto (L r) j - run r))

/-- The gradient of the scores. -/
def dz (z W d : ℕ → ℕ → ℝ) (grun : ℕ → ℝ) (r j : ℕ) : ℝ :=
  W r j * d r j - Real.exp (ls (z r j)) * (grun r + upto (fun s => W r s * d r s) j)

section
variable (z L W d : ℕ → ℕ → ℝ) (tot run grun : ℕ → ℝ)

theorem wt_0 {r c : ℕ} (hc : c < 128) : Real.exp (ls (z r c) + (tot r - ∑ k ∈ Finset.range 128, L r k * uUpto k c - run r)) = wt z L tot run r c := by
  rw [wt, upto_0 _ hc]; ring_nf
theorem wt_1 {r c : ℕ} (hc : c < 128) : Real.exp (ls (z r (128 + c)) + (tot r - ∑ k ∈ Finset.range 128, L r (128 + k) * uUpto k c
    - (run r + ∑ k ∈ Finset.range 128, L r k))) = wt z L tot run r (128 + c) := by
  rw [wt, upto_1 _ hc]; ring_nf
theorem wt_2 {r c : ℕ} (hc : c < 128) : Real.exp (ls (z r (256 + c)) + (tot r - ∑ k ∈ Finset.range 128, L r (256 + k) * uUpto k c
    - (run r + ∑ k ∈ Finset.range 128, L r k + ∑ k ∈ Finset.range 128, L r (128 + k)))) = wt z L tot run r (256 + c) := by
  rw [wt, upto_2 _ hc]; ring_nf
theorem wt_3 {r c : ℕ} (hc : c < 128) : Real.exp (ls (z r (384 + c)) + (tot r - ∑ k ∈ Finset.range 128, L r (384 + k) * uUpto k c
    - (run r + ∑ k ∈ Finset.range 128, L r k + ∑ k ∈ Finset.range 128, L r (128 + k) + ∑ k ∈ Finset.range 128, L r (256 + k))))
    = wt z L tot run r (384 + c) := by
  rw [wt, upto_3 _ hc]; ring_nf

theorem dz_0 {r c : ℕ} (hc : c < 128) : W r c * d r c - Real.exp (ls (z r c)) * (grun r + ∑ k ∈ Finset.range 128, W r k * d r k * uUpto k c)
    = dz z W d grun r c := by
  rw [dz, upto_0 _ hc]; ring
theorem dz_1 {r c : ℕ} (hc : c < 128) : W r (128 + c) * d r (128 + c) - Real.exp (ls (z r (128 + c))) * (grun r + ∑ k ∈ Finset.range 128, W r k * d r k
    + ∑ k ∈ Finset.range 128, W r (128 + k) * d r (128 + k) * uUpto k c) = dz z W d grun r (128 + c) := by
  rw [dz, upto_1 _ hc]; ring
theorem dz_2 {r c : ℕ} (hc : c < 128) : W r (256 + c) * d r (256 + c) - Real.exp (ls (z r (256 + c))) * (grun r + ∑ k ∈ Finset.range 128, W r k * d r k
    + ∑ k ∈ Finset.range 128, W r (128 + k) * d r (128 + k)
    + ∑ k ∈ Finset.range 128, W r (256 + k) * d r (256 + k) * uUpto k c) = dz z W d grun r (256 + c) := by
  rw [dz, upto_2 _ hc]; ring
theorem dz_3 {r c : ℕ} (hc : c < 128) : W r (384 + c) * d r (384 + c) - Real.exp (ls (z r (384 + c))) * (grun r + ∑ k ∈ Finset.range 128, W r k * d r k
    + ∑ k ∈ Finset.range 128, W r (128 + k) * d r (128 + k) + ∑ k ∈ Finset.range 128, W r (256 + k) * d r (256 + k)
    + ∑ k ∈ Finset.range 128, W r (384 + k) * d r (384 + k) * uUpto k c) = dz z W d grun r (384 + c) := by
  rw [dz, upto_3 _ hc]; ring

/-- A running sum moved on by the four blocks of a group. -/
theorem sum_arr (f : ℕ → ℕ → ℝ) : (arr fun r c => run r + ∑ k ∈ Finset.range 128, f r k + ∑ k ∈ Finset.range 128, f r (128 + k)
      + ∑ k ∈ Finset.range 128, f r (256 + k) + ∑ k ∈ Finset.range 128, f r (384 + k) : Vec Ideal S512x128 .f32)
    = arr fun r _ => run r + ∑ j ∈ Finset.range 512, f r j :=
  arr_congr fun r c _ _ => by rw [sum512]; ring
end

variable (q k v o : ℕ → ℕ → ℝ) (tot run grun : ℕ → ℝ) (dq dk dv : ℕ → ℕ → ℝ)

/-- The keeps of a group: the logarithm of what a key leaves to the ones before it. -/
def keep (z : ℕ → ℕ → ℝ) (r j : ℕ) : ℝ := ls (z r j) - z r j

set_option maxHeartbeats 2000000 in
theorem bwdGroup_arr (z d L W D : ℕ → ℕ → ℝ) (ez : z = zg q k) (ed : d = zg o v) (eL : L = keep z) (eW : W = wt z L tot run)
    (eD : D = dz z W d grun) :
    bwdGroup (arr q) (arr o) (arr uUpto) (arr k) (arr v) (arr fun r _ => tot r)
      ⟨arr dq, arr dk, arr dv, arr fun r _ => run r, arr fun r _ => grun r⟩
    = ⟨arr fun r c => dq r c + ∑ j ∈ Finset.range 512, D r j * k j c,
       arr fun j c => dk j c + ∑ r ∈ Finset.range 512, D r j * q r c,
       arr fun j c => dv j c + ∑ r ∈ Finset.range 512, W r j * o r c,
       arr fun r _ => run r + ∑ j ∈ Finset.range 512, L r j,
       arr fun r _ => grun r + ∑ j ∈ Finset.range 512, W r j * d r j⟩ := by
  have hz : k1_pay8 (F := Ideal) (arr q) (arr k) = arr z := by
    rw [ez]; simp only [k1_pay8, k1_pay7, cast_arr, const_arr, dot_qk, zero_add]; rfl
  have hd : k1_pay9 (F := Ideal) (arr o) (arr v) = arr d := by
    rw [ed]; simp only [k1_pay9, cast_arr, const_arr, dot_qk, zero_add]; rfl
  have l (a : ℕ) : (arr fun r c => ls (z r (a + c)) - z r (a + c) : Vec Ideal S512x128 .f32) = arr fun r c => L r (a + c) := by
    rw [eL]; rfl
  have l0 : (arr fun r c => ls (z r c) - z r c : Vec Ideal S512x128 .f32) = arr fun r c => L r c := by
    rw [eL]; rfl
  have w0 := arr_congr (m := 512) (n := 128) fun r c _ hc => (wt_0 z L tot run hc).trans (congrFun (congrFun eW.symm r) c)
  have w1 := arr_congr (m := 512) (n := 128) fun r c _ hc => (wt_1 z L tot run hc).trans (congrFun (congrFun eW.symm r) _)
  have w2 := arr_congr (m := 512) (n := 128) fun r c _ hc => (wt_2 z L tot run hc).trans (congrFun (congrFun eW.symm r) _)
  have w3 := arr_congr (m := 512) (n := 128) fun r c _ hc => (wt_3 z L tot run hc).trans (congrFun (congrFun eW.symm r) _)
  have d0 := arr_congr (m := 512) (n := 128) fun r c _ hc => (dz_0 z W d grun hc).trans (congrFun (congrFun eD.symm r) c)
  have d1 := arr_congr (m := 512) (n := 128) fun r c _ hc => (dz_1 z W d grun hc).trans (congrFun (congrFun eD.symm r) _)
  have d2 := arr_congr (m := 512) (n := 128) fun r c _ hc => (dz_2 z W d grun hc).trans (congrFun (congrFun eD.symm r) _)
  have d3 := arr_congr (m := 512) (n := 128) fun r c _ hc => (dz_3 z W d grun hc).trans (congrFun (congrFun eD.symm r) _)
  clear eD eW eL ez ed
  unfold bwdGroup
  simp only [k1_pay7, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay131, k1_pay132, k1_pay133, k1_pay137, k1_pay138, k1_pay139, k1_pay140,
    hz, hd, l, l0, w0, w1, w2, w3, d0, d1, d2, d3, pair_eq, quad_eq, quad_arr, slice_arr, zero_arr, one_arr, const_arr, mul_arr,
    min_arr, abs_arr, sub_arr, exp_arr, add_arr, log1p_arr, ls_arr, trunc_arr, ext_arr, cast_arr, sums_arr _ uUpto_half, uUpto_all, dot_av, dot_tn, zero_add]
  rw [sum_arr run L, sum_arr grun fun r j => W r j * d r j]

/-! ## The diagonal group -/

/-- The first block of the diagonal group, as the kernel computes it. -/
def diagBlk (n : ℕ) : BitVec 32 := Scalar.addi (Scalar.muli (BitVec.ofNat 32 n) 4#32) 0#32

/-- What the group on the diagonal makes of the gradients so far. -/
def bwdDiag (i : grid1.Coords) (v3 v5 : Vec Ideal S512x128 .bf16) (v7 : Vec Ideal S256x256 .bf16) (v30 v34 : Vec Ideal S512x128 .bf16)
    (tot : Vec Ideal S512x128 .f32) (g : Grads) : Grads :=
  let n := BitVec.ofNat 32 (i 1).val
  let b := diagBlk (i 1).val
  let x := Scalar.muli (diagBlk (i 1).val) 128#32
  let v4 := k1_pay131 v3
  let v6 := k1_pay132 v5
  let v8 := k1_pay133 v7
  let v31 := k1_pay145 v30
  let v32 := k1_pay146 v4 v30
  let v36 := k1_pay147 v6 v34
  let v45 := k1_pay148 n b
  let v56 := k1_pay150 v4 v30
  let v67 := k1_pay152 n v4 v8 b v30
  let v70 := k1_pay153 n v4 v8 b v30 tot
  let v71 := k1_pay154 v6 v34
  let v80 := k1_pay155 n x 512#32
  let v91 := k1_pay157 v32
  let v102 := k1_pay159 n v8 x v32 512#32
  let v105 := k1_pay160 n v8 x v32 512#32 tot
  let v106 := k1_pay161 v36
  let v115 := k1_pay162 n x
  let v116 := k1_pay163 v32
  let v118 := k1_pay164 v32
  let v119 := k1_pay165 v32
  let v126 := k1_pay166 v118 v119 zeroF
  let v137 := k1_pay168 v8 v115 v116 v118 v119 zeroF
  let v140 := k1_pay169 v8 v115 v116 v118 v119 zeroF tot
  let v141 := k1_pay170 v36
  let v150 := k1_pay171 n x
  let v161 := k1_pay173 v32
  let v165 := k1_pay175 n x v32
  let v168 := k1_pay176 n x v32
  let v172 := k1_pay178 v8 v165 v168
  let v175 := k1_pay179 v8 v165 v168 tot
  let v176 := k1_pay180 v36
  let v199 := k1_pay184 v45 v56 v70 g.run
  let v200 := k1_pay185 v8 v45 v56 v70 v71 g.run g.grun
  let v201 := k1_pay186 v67 g.run
  let v202 := k1_pay187 v8 v45 v56 v70 v71 g.run g.grun
  let v207 := k1_pay188 v67 v80 v91 v105 g.run
  let v208 := k1_pay189 v67 v80 v91 v105 v106 g.run
  let v215 := k1_pay191 v8 v67 v80 v91 v105 v106 g.run
  let v216 := k1_pay192 v8 v67 v80 v91 v105 v106 g.run
  let v223 := k1_pay193 v207
  let v224 := k1_pay194 v80 v91 v202 v208 v215
  let v247 := k1_pay200 v102 v115 v126 v140 v201
  let v248 := k1_pay201 v8 v102 v115 v126 v140 v141 v201 v202 v216
  let v249 := k1_pay202 v102 v137 v201
  let v250 := k1_pay203 v8 v102 v115 v126 v140 v141 v201 v202 v216
  let v255 := k1_pay204 v102 v137 v150 v161 v175 v201
  let v264 := k1_pay207 v8 v102 v137 v150 v161 v175 v176 v201
  let v268 := k1_pay208 v8 v102 v115 v126 v137 v140 v141 v150 v161 v175 v176 v201 v202 v216
  let v269 := k1_pay209
  { dq := k1_pay2 v31 v150 v200 v224 v248 v268 v269 g.dq
    dk := k1_pay3 v4 v150 v200 v224 v248 v268 v269 g.dk
    dv := k1_pay4 v6 v199 v223 v247 v255 g.dv
    run := k1_pay5 v172 v249
    grun := k1_pay6 v250 v264 }

theorem blk_off : ∀ n : Fin 8, Scalar.muli (BitVec.ofNat 32 n.val) 512#32 = BitVec.ofNat 32 (512 * n.val)
    ∧ Scalar.addi (Scalar.muli (diagBlk n.val) 128#32) 384#32 = BitVec.ofNat 32 (512 * n.val + 384)
    ∧ Scalar.addi (Scalar.muli (diagBlk n.val) 128#32) 256#32 = BitVec.ofNat 32 (512 * n.val + 256)
    ∧ Scalar.addi (Scalar.muli (diagBlk n.val) 128#32) 128#32 = BitVec.ofNat 32 (512 * n.val + 128)
    ∧ Scalar.addi (Scalar.muli (diagBlk n.val) 128#32) 0#32 = BitVec.ofNat 32 (512 * n.val + 0) := by
  decide +kernel

theorem bwd_masks (i : grid1.Coords) : k1_pay148 (BitVec.ofNat 32 (i 1).val) (diagBlk (i 1).val) = mk 0
    ∧ k1_pay155 (BitVec.ofNat 32 (i 1).val) (Scalar.muli (diagBlk (i 1).val) 128#32) 512#32 = mk 128
    ∧ k1_pay162 (BitVec.ofNat 32 (i 1).val) (Scalar.muli (diagBlk (i 1).val) 128#32) = mk 256
    ∧ k1_pay171 (BitVec.ofNat 32 (i 1).val) (Scalar.muli (diagBlk (i 1).val) 128#32) = mk 384 := by
  obtain ⟨h, h3, h2, h1, h0⟩ := blk_off (i 1)
  have hx : 512 * (i 1).val < 4096 := by have : (i 1).val < 8 := (i 1).isLt; omega
  refine ⟨?_, ?_, ?_, ?_⟩
  · rw [← cmp_mk _ 0 hx (by omega), ← h0, ← h]; rfl
  · rw [← cmp_mk _ 128 hx (by omega), ← h1, ← h]; rfl
  · rw [← cmp_mk _ 256 hx (by omega), ← h2, ← h]; rfl
  · rw [← cmp_mk _ 384 hx (by omega), ← h3, ← h]; rfl

set_option maxHeartbeats 2000000 in
theorem bwdDiag_arr (i : grid1.Coords) (z d L W D : ℕ → ℕ → ℝ) (ez : z = zg q k) (ed : d = zg o v)
    (eL : L = fun r j => if j < r then keep z r j else 0) (eW : W = fun r j => if j < r then wt z L tot run r j else 0)
    (eD : D = fun r j => if j < r then dz z W d grun r j else 0) :
    bwdDiag i (arr q) (arr o) (arr uUpto) (arr k) (arr v) (arr fun r _ => tot r)
      ⟨arr dq, arr dk, arr dv, arr fun r _ => run r, arr fun r _ => grun r⟩
    = ⟨arr fun r c => dq r c + ∑ j ∈ Finset.range 512, D r j * k j c,
       arr fun j c => dk j c + ∑ r ∈ Finset.range 512, D r j * q r c,
       arr fun j c => dv j c + ∑ r ∈ Finset.range 512, W r j * o r c,
       arr fun r _ => run r + ∑ j ∈ Finset.range 512, L r j,
       arr fun r _ => grun r + ∑ j ∈ Finset.range 512, W r j * d r j⟩ := by
  obtain ⟨m0, m1, m2, m3⟩ := bwd_masks i
  have hz : k1_pay146 (F := Ideal) (arr q) (arr k) = arr z := by
    rw [ez]; simp only [k1_pay146, k1_pay145, cast_arr, const_arr, dot_qk, zero_add]; rfl
  have hd : k1_pay147 (F := Ideal) (arr o) (arr v) = arr d := by
    rw [ed]; simp only [k1_pay147, cast_arr, const_arr, dot_qk, zero_add]; rfl
  have l (a : ℕ) : (arr fun r c => if a + c < r then ls (z r (a + c)) - z r (a + c) else 0 : Vec Ideal S512x128 .f32) = arr fun r c => L r (a + c) := by
    rw [eL]; rfl
  have l0 : (arr fun r c => if c < r then ls (z r c) - z r c else 0 : Vec Ideal S512x128 .f32) = arr fun r c => L r c := by
    rw [eL]; rfl
  have w0 := arr_congr (m := 512) (n := 128) fun r c _ hc => (if_congr (Iff.refl (c < r)) (wt_0 z L tot run hc) rfl).trans (congrFun (congrFun eW.symm r) c)
  have w1 := arr_congr (m := 512) (n := 128) fun r c _ hc => (if_congr (Iff.refl (128 + c < r)) (wt_1 z L tot run hc) rfl).trans (congrFun (congrFun eW.symm r) _)
  have w2 := arr_congr (m := 512) (n := 128) fun r c _ hc => (if_congr (Iff.refl (256 + c < r)) (wt_2 z L tot run hc) rfl).trans (congrFun (congrFun eW.symm r) _)
  have w3 := arr_congr (m := 512) (n := 128) fun r c _ hc => (if_congr (Iff.refl (384 + c < r)) (wt_3 z L tot run hc) rfl).trans (congrFun (congrFun eW.symm r) _)
  have d0 := arr_congr (m := 512) (n := 128) fun r c _ hc => (if_congr (Iff.refl (c < r)) (dz_0 z W d grun hc) rfl).trans (congrFun (congrFun eD.symm r) c)
  have d1 := arr_congr (m := 512) (n := 128) fun r c _ hc => (if_congr (Iff.refl (128 + c < r)) (dz_1 z W d grun hc) rfl).trans (congrFun (congrFun eD.symm r) _)
  have d2 := arr_congr (m := 512) (n := 128) fun r c _ hc => (if_congr (Iff.refl (256 + c < r)) (dz_2 z W d grun hc) rfl).trans (congrFun (congrFun eD.symm r) _)
  have d3 := arr_congr (m := 512) (n := 128) fun r c _ hc => (if_congr (Iff.refl (384 + c < r)) (dz_3 z W d grun hc) rfl).trans (congrFun (congrFun eD.symm r) _)
  clear eD eW eL ez ed
  unfold bwdDiag zeroF
  simp only [k1_pay1, k1_pay2, k1_pay3, k1_pay4, k1_pay5, k1_pay6, k1_pay145, k1_pay149, k1_pay150, k1_pay151, k1_pay152, k1_pay153, k1_pay154, k1_pay156, k1_pay157, k1_pay158, k1_pay159, k1_pay160, k1_pay161, k1_pay163, k1_pay164, k1_pay165, k1_pay166, k1_pay167, k1_pay168, k1_pay169, k1_pay170, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay131, k1_pay132, k1_pay133, m0, m1, m2, m3, select_mk,
    hz, hd, l, l0, w0, w1, w2, w3, d0, d1, d2, d3, pair_eq, quad_eq, quad_arr, slice_arr, zero_arr, one_arr, const_arr, mul_arr,
    min_arr, abs_arr, sub_arr, exp_arr, add_arr, log1p_arr, ls_arr, trunc_arr, ext_arr, cast_arr, sums_arr _ uUpto_half, uUpto_all, dot_av, dot_tn, zero_add]
  rw [sum_arr run L, sum_arr grun fun r j => W r j * d r j]

end Cert.AttnIdeal.Value
-- ==== Proof.AttnMath.lean ====
/- Stick-breaking attention over real numbers, one head: rows `t`, keys `s` from 0 to 4095, and what a group of 512 keys adds
   to the running sums of the forward and of the backward walk. -/
module

public import proofs.«01_k».proof.Proof.AttnBwd

@[expose] public section

noncomputable section

namespace Cert.AttnIdeal.Value

open Finset

variable (z d : ℕ → ℕ → ℝ)

/-- The logarithm of what key `s` leaves of the stick, for a key before the query. -/
def lk (t s : ℕ) : ℝ := if s < t then keep z t s else 0

/-- The weight of key `s`. -/
def aw (t s : ℕ) : ℝ := if s < t then Real.exp (ls (z t s) + ∑ x ∈ Ico (s + 1) 4096, lk z t x) else 0

/-- The weight times its own gradient. -/
def gw (t s : ℕ) : ℝ := aw z t s * d t s

/-- The gradient of the score. -/
def dw (t s : ℕ) : ℝ := if s < t then gw z d t s - Real.exp (ls (z t s)) * ∑ x ∈ Ico 0 (s + 1), gw z d t x else 0

theorem after_ico (f : ℕ → ℝ) (lo : ℕ) {j : ℕ} (hj : j < 512) : after (fun k => f (lo + k)) j = ∑ x ∈ Ico (lo + j + 1) (lo + 512), f x := by
  rw [after, ← sum_filter, ← sum_image (s := (range 512).filter (j < ·)) (g := (lo + ·)) (f := f) (fun a _ b _ h => by simpa using h)]
  refine sum_congr ?_ fun _ _ => rfl
  ext x
  simp only [mem_image, mem_filter, mem_range, mem_Ico]
  exact ⟨fun ⟨a, h, e⟩ => by omega, fun h => ⟨x - lo, by omega, by omega⟩⟩

theorem upto_ico (f : ℕ → ℝ) (lo : ℕ) {j : ℕ} (hj : j < 512) : upto (fun k => f (lo + k)) j = ∑ x ∈ Ico lo (lo + j + 1), f x := by
  rw [upto, ← sum_filter, ← sum_image (s := (range 512).filter (· ≤ j)) (g := (lo + ·)) (f := f) (fun a _ b _ h => by simpa using h)]
  refine sum_congr ?_ fun _ _ => rfl
  ext x
  simp only [mem_image, mem_filter, mem_range, mem_Ico]
  exact ⟨fun ⟨a, h, e⟩ => by omega, fun h => ⟨x - lo, by omega, by omega⟩⟩

theorem group_ico (f : ℕ → ℝ) (lo : ℕ) : ∑ j ∈ range 512, f (lo + j) = ∑ x ∈ Ico lo (lo + 512), f x := by
  rw [sum_Ico_eq_sum_range, Nat.add_sub_cancel_left]

/-- Nothing comes from a key that is not before the query. -/
theorem ico_late (f : ℕ → ℝ) (a b c : ℕ) (hab : a ≤ b) (hbc : b ≤ c) (h : ∀ x, b ≤ x → f x = 0) : ∑ x ∈ Ico a b, f x = ∑ x ∈ Ico a c, f x := by
  rw [← sum_Ico_consecutive f hab hbc, sum_eq_zero fun x hx => h x (mem_Ico.mp hx).1, add_zero]

/-- One more group at the front of a sum to the end. -/
theorem ico_front (f : ℕ → ℝ) {a b c : ℕ} (hab : a ≤ b) (hbc : b ≤ c) : ∑ x ∈ Ico b c, f x + ∑ x ∈ Ico a b, f x = ∑ x ∈ Ico a c, f x := by
  rw [add_comm, sum_Ico_consecutive f hab hbc]

/-- A weight of a group below the diagonal, from the forward walk's running sum. -/
theorem fwd_wt (t lo j : ℕ) (hj : j < 512) (hlo : lo + 512 ≤ 4096) (ht : lo + j < t) (hr : ∀ s < 512, lo + s < t) :
    Real.exp (ls (z t (lo + j)) + (∑ x ∈ Ico (lo + 512) 4096, lk z t x + after (fun s => ls (z t (lo + s)) - z t (lo + s)) j)) = aw z t (lo + j) := by
  have e : after (fun s => ls (z t (lo + s)) - z t (lo + s)) j = after (fun s => lk z t (lo + s)) j := by
    unfold after
    exact sum_congr rfl fun s hs => by simp only [lk, if_pos (hr s (mem_range.mp hs)), keep]
  rw [aw, if_pos ht, e, after_ico (lk z t) lo hj, ico_front (lk z t) (by omega) hlo]

/-- The same on the diagonal, where the running sum is still zero. -/
theorem fwd_wt_diag (lo r j : ℕ) (hj : j < 512) (hr : r < 512) (hlo : lo + 512 ≤ 4096) :
    (if j < r then Real.exp (ls (z (lo + r) (lo + j)) + (0 + after (fun s => if s < r then ls (z (lo + r) (lo + s)) - z (lo + r) (lo + s) else 0) j)) else 0)
      = aw z (lo + r) (lo + j) := by
  have e : (fun s => if s < r then ls (z (lo + r) (lo + s)) - z (lo + r) (lo + s) else 0) = fun s => lk z (lo + r) (lo + s) :=
    funext fun s => if_congr (by omega) rfl rfl
  rw [aw]
  refine if_congr (by omega) (congrArg Real.exp ?_) rfl
  rw [e, after_ico (lk z (lo + r)) lo hj, zero_add,
    ico_late (lk z (lo + r)) _ (lo + 512) 4096 (by omega) hlo fun x hx => if_neg (by omega)]

/-- A weight of a group, from the backward walk's running sum and the total. -/
theorem bwd_wt (t lo j : ℕ) (hj : j < 512) (hlo : lo + 512 ≤ 4096) (L : ℕ → ℝ) (hL : ∀ s < 512, L s = lk z t (lo + s)) :
    Real.exp (ls (z t (lo + j)) + (∑ x ∈ Ico 0 4096, lk z t x - upto L j - ∑ x ∈ Ico 0 lo, lk z t x))
      = Real.exp (ls (z t (lo + j)) + ∑ x ∈ Ico (lo + j + 1) 4096, lk z t x) := by
  have e : upto L j = upto (fun s => lk z t (lo + s)) j := by
    unfold upto
    exact sum_congr rfl fun s hs => by simp only [hL s (mem_range.mp hs)]
  rw [e, upto_ico (lk z t) lo hj, ← sum_Ico_consecutive (lk z t) (Nat.zero_le (lo + j + 1)) (by omega : lo + j + 1 ≤ 4096),
    ← sum_Ico_consecutive (lk z t) (Nat.zero_le lo) (by omega : lo ≤ lo + j + 1)]
  congr 2
  ring

/-- The gradient of a score from the running sum of the weighted gradients. -/
theorem bwd_dz (t lo j : ℕ) (hj : j < 512) (W : ℕ → ℝ) (hW : ∀ s < 512, W s = aw z t (lo + s)) (hj' : lo + j < t) :
    W j * d t (lo + j) - Real.exp (ls (z t (lo + j))) * (∑ x ∈ Ico 0 lo, gw z d t x + upto (fun s => W s * d t (lo + s)) j) = dw z d t (lo + j) := by
  have e : upto (fun s => W s * d t (lo + s)) j = upto (fun s => gw z d t (lo + s)) j := by
    unfold upto
    exact sum_congr rfl fun s hs => by simp only [hW s (mem_range.mp hs), gw]
  rw [dw, if_pos hj', e, upto_ico (gw z d t) lo hj, sum_Ico_consecutive _ (Nat.zero_le lo) (by omega), hW j hj]
  rfl

end Cert.AttnIdeal.Value
-- ==== Proof.AttnFwdRun.lean ====
/- What a block of the forward attention kernel leaves in its two results: the walk over the groups of keys below the diagonal, whose
   two running arrays every trip replaces whole. -/
module

public import proofs.«01_k».proof.Proof.Gen.AttnIdeal.Frame
public import proofs.«01_k».proof.Proof.AttnMath
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- 512 rows of an array of 4096. -/
def slabAt (m : Memref sig .tc .vmem S4096x128 .bf16) (X : BufTy.Contents (Elt Ideal) m.view.ty) (off : Fin 2 → ℕ)
    (inb : ∀ a, off a + S512x128.size a ≤ S4096x128.size a) : FVec Ideal S512x128 .bf16 :=
  View.readAt (Elt Ideal) m.view (Rect.unit (s := S4096x128) off S512x128.size inb).toLoadRect X

theorem slabAt_arr (m : Memref sig .tc .vmem S4096x128 .bf16) (h : m.IsWhole) (x : FVec Ideal S4096x128 .bf16) (f : ℕ → ℕ → ℝ) (hx : x = arr f) (off : Fin 2 → ℕ) (inb) (o : ℕ) (ho : off = ![o, 0]) :
    slabAt m (h.unread x) off inb = arr fun r c => f (o + r) c := by
  subst ho hx
  unfold slabAt
  rw [View.readAt_eq_ld, h.read_unread]
  funext y
  refine congrArg₂ (fun a b => ((f a b : ℝ) : EReal)) ?_ ?_
  · show o + 1 * (y 0).val = o + (y 0).val
    omega
  · show 0 + 1 * (y 1).val = (y 1).val
    omega

/-- What one trip stores. -/
theorem trip_fwd (V : Variants) (c : Dev nD) (bd : Option V.V) (i : grid0.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S256x256 .bf16) (h5 : m5.IsWhole) (m6 : Memref sig .tc .vmem S512x128 .bf16) (h6 : m6.IsWhole) (m7 : Memref sig .tc .vmem S512x128 .f32) (h7 : m7.IsWhole) (m8 : Memref sig .tc .vmem S512x128 .f32) (h8 : m8.IsWhole) (m9 : Memref sig .tc .vmem S512x128 .f32) (h9 : m9.IsWhole) (a1 : BitVec 32) (q : FVec Ideal S512x128 .bf16) (u : FVec Ideal S256x256 .bf16) (X3 : BufTy.Contents (Elt Ideal) m3.view.ty) (X4 : BufTy.Contents (Elt Ideal) m4.view.ty) (k : Fin (k0_t1_loop i).trips) (f8 : BufTy.Contents (Elt Ideal) m8.view.ty) (f9 : BufTy.Contents (Elt Ideal) m9.view.ty) :
    m8.view.read (Elt Ideal) (m8.view.writes (Elt Ideal) f8 (tripL_k0_t1 (F := Ideal) V c bd i m2 h2 m3 h3 m4 h4 m5 h5 m6 h6 m7 h7 m8 h8 m9 h9 a1 q u X3 X4 k f8 f9).1)
        = fwdAcc q u (slabAt m3 X3 (k0_off2 i k) (k0_off2_inb i k)) (slabAt m4 X4 (k0_off2 i k) (k0_off2_inb i k)) (m8.view.read (Elt Ideal) f8) (m9.view.read (Elt Ideal) f9)
      ∧ m9.view.read (Elt Ideal) (m9.view.writes (Elt Ideal) f9 (tripL_k0_t1 (F := Ideal) V c bd i m2 h2 m3 h3 m4 h4 m5 h5 m6 h6 m7 h7 m8 h8 m9 h9 a1 q u X3 X4 k f8 f9).2)
        = fwdRun q u (slabAt m3 X3 (k0_off2 i k) (k0_off2_inb i k)) (m9.view.read (Elt Ideal) f9) := by
  constructor
  · unfold tripL_k0_t1 trip_k0_t1
    sl_unfold_words
    dsimp only
    refine (View.read_writes_full ..).trans ?_
    rw [← View.readAt_full m9.view f9 (off := ![0, 0]) (by decide), ← View.readAt_full m8.view f8 (off := ![0, 0]) (by decide)]
    rfl
  · unfold tripL_k0_t1 trip_k0_t1
    sl_unfold_words
    dsimp only
    refine (View.read_writes_full ..).trans ?_
    rw [← View.readAt_full m9.view f9 (off := ![0, 0]) (by decide)]
    rfl

/-- The two running arrays after `n` trips, from any arrays that go on the same way. -/
theorem loop_fwd (V : Variants) (c : Dev nD) (bd : Option V.V) (i : grid0.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S256x256 .bf16) (h5 : m5.IsWhole) (m6 : Memref sig .tc .vmem S512x128 .bf16) (h6 : m6.IsWhole) (m7 : Memref sig .tc .vmem S512x128 .f32) (h7 : m7.IsWhole) (m8 : Memref sig .tc .vmem S512x128 .f32) (h8 : m8.IsWhole) (m9 : Memref sig .tc .vmem S512x128 .f32) (h9 : m9.IsWhole) (a1 : BitVec 32) (q : FVec Ideal S512x128 .bf16) (u : FVec Ideal S256x256 .bf16) (X3 : BufTy.Contents (Elt Ideal) m3.view.ty) (X4 : BufTy.Contents (Elt Ideal) m4.view.ty) (G8 : BufTy.Contents (Elt Ideal) m8.view.ty) (G9 : BufTy.Contents (Elt Ideal) m9.view.ty)
    (S T : ℕ → FVec Ideal S512x128 .f32) (e8 : m8.view.read (Elt Ideal) G8 = S 0) (e9 : m9.view.read (Elt Ideal) G9 = T 0)
    (hS : ∀ k : Fin (k0_t1_loop i).trips, S (k.val + 1) = fwdAcc q u (slabAt m3 X3 (k0_off2 i k) (k0_off2_inb i k)) (slabAt m4 X4 (k0_off2 i k) (k0_off2_inb i k)) (S k.val) (T k.val))
    (hT : ∀ k : Fin (k0_t1_loop i).trips, T (k.val + 1) = fwdRun q u (slabAt m3 X3 (k0_off2 i k) (k0_off2_inb i k)) (T k.val)) :
    ∀ n, n ≤ (k0_t1_loop i).trips →
      m8.view.read (Elt Ideal) (m8.view.writes (Elt Ideal) G8 (pb_k0_t1 (F := Ideal) V c bd i m2 h2 m3 h3 m4 h4 m5 h5 m6 h6 m7 h7 m8 h8 m9 h9 a1 q u X3 X4 G8 G9 n).1) = S n
      ∧ m9.view.read (Elt Ideal) (m9.view.writes (Elt Ideal) G9 (pb_k0_t1 (F := Ideal) V c bd i m2 h2 m3 h3 m4 h4 m5 h5 m6 h6 m7 h7 m8 h8 m9 h9 a1 q u X3 X4 G8 G9 n).2) = T n := by
  intro n
  induction n with
  | zero => exact fun _ => ⟨e8, e9⟩
  | succ n ih =>
    intro hn
    obtain ⟨e8, e9⟩ := ih (Nat.le_of_succ_le hn)
    have t := trip_fwd V c bd i m2 h2 m3 h3 m4 h4 m5 h5 m6 h6 m7 h7 m8 h8 m9 h9 a1 q u X3 X4 ⟨n, hn⟩ (m8.view.writes (Elt Ideal) G8 (pb_k0_t1 (F := Ideal) V c bd i m2 h2 m3 h3 m4 h4 m5 h5 m6 h6 m7 h7 m8 h8 m9 h9 a1 q u X3 X4 G8 G9 n).1) (m9.view.writes (Elt Ideal) G9 (pb_k0_t1 (F := Ideal) V c bd i m2 h2 m3 h3 m4 h4 m5 h5 m6 h6 m7 h7 m8 h8 m9 h9 a1 q u X3 X4 G8 G9 n).2)
    rw [e8, e9, ← hS ⟨n, hn⟩, ← hT ⟨n, hn⟩, ← View.writes_append, ← View.writes_append] at t
    rw [pb_k0_t1_succ V c bd i m2 h2 m3 h3 m4 h4 m5 h5 m6 h6 m7 h7 m8 h8 m9 h9 a1 q u X3 X4 G8 G9 ⟨n, hn⟩]
    exact t

/-- The second loop of the kernel, over the rest of a division by one, makes no trip. -/
theorem no_rest (i : grid0.Coords) : (k0_t2_loop i).trips = 0 := by
  revert i
  decide +kernel

end Cert.AttnIdeal.Value
-- ==== Proof.AttnFwdBlock.lean ====
/- A block of the forward attention kernel, over real numbers: the attention of its 512 rows and the total of each row. -/
module

public import proofs.«01_k».proof.Proof.AttnFwdRun
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

theorem diag_off (i : grid0.Coords) : k0_off1 i = ![512 * (i 1).val, 0] := by
  revert i
  decide +kernel

theorem trips_fwd (i : grid0.Coords) : (k0_t1_loop i).trips = (i 1).val := by
  revert i
  decide +kernel

theorem loop_off (i : grid0.Coords) (k : Fin (k0_t1_loop i).trips) : k0_off2 i k = ![512 * ((i 1).val - 1 - k.val), 0] := by
  revert i
  decide +kernel

/-- The loop over the rest stores nothing. -/
theorem rest_fwd (c : Dev nD) (i : grid0.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S256x256 .bf16) (h5 : m5.IsWhole) (m6 : Memref sig .tc .vmem S512x128 .bf16) (h6 : m6.IsWhole) (m7 : Memref sig .tc .vmem S512x128 .f32) (h7 : m7.IsWhole) (m8 : Memref sig .tc .vmem S512x128 .f32) (h8 : m8.IsWhole) (m9 : Memref sig .tc .vmem S512x128 .f32) (h9 : m9.IsWhole) (a1 : BitVec 32) (q : FVec Ideal S512x128 .bf16) (u : FVec Ideal S256x256 .bf16) (a2 : BitVec 32) (X3 : BufTy.Contents (Elt Ideal) m3.view.ty) (X4 : BufTy.Contents (Elt Ideal) m4.view.ty)
    (G8 : BufTy.Contents (Elt Ideal) m8.view.ty) (G9 : BufTy.Contents (Elt Ideal) m9.view.ty) :
    pb_k0_t2 (F := Ideal) Variants.none c none i m2 h2 m3 h3 m4 h4 m5 h5 m6 h6 m7 h7 m8 h8 m9 h9 a1 q u a2 X3 X4 G8 G9 (k0_t2_loop i).trips = ([], []) := by
  rw [no_rest]
  rfl

/-- A load of a whole array after a store of the whole array. -/
theorem cov_whole (m : Memref sig .tc .vmem S512x128 .f32) (w : Vec Ideal S512x128 .f32) :
    m.view.readCov [⟨Rect.unit ![0, 0] S512x128.size inb_S512x128_S512x128_0_0, w⟩] (Rect.unit ![0, 0] S512x128.size inb_S512x128_S512x128_0_0).toLoadRect = w :=
  View.readCov_full ..

/-- A load of a whole array reads what the stores left. -/
theorem cov_read (m : Memref sig .tc .vmem S512x128 .f32) (L : List (View.Piece (Elt Ideal) S512x128 .f32)) :
    m.view.readCov L (Rect.unit ![0, 0] S512x128.size inb_S512x128_S512x128_0_0).toLoadRect = m.view.read (Elt Ideal) (m.view.writes (Elt Ideal) m.view.junk L) :=
  View.readAt_full ..

set_option maxHeartbeats 1000000 in
/-- The two results of a block, for any arrays that start with the diagonal group and go on through the groups below. -/
theorem out_fwd (c : Dev nD) (i : grid0.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S256x256 .bf16) (h5 : m5.IsWhole) (m6 : Memref sig .tc .vmem S512x128 .bf16) (h6 : m6.IsWhole) (m7 : Memref sig .tc .vmem S512x128 .f32) (h7 : m7.IsWhole) (m8 : Memref sig .tc .vmem S512x128 .f32) (h8 : m8.IsWhole) (m9 : Memref sig .tc .vmem S512x128 .f32) (h9 : m9.IsWhole) (x0 : FVec Ideal S512x128 .bf16) (x1 x2 : FVec Ideal S4096x128 .bf16) (x3 : FVec Ideal S256x256 .bf16) (S T : ℕ → FVec Ideal S512x128 .f32)
    (hS0 : S 0 = diagAcc i x0 x3 (slabAt m3 (h3.unread x1) (k0_off1 i) (k0_off1_inb i)) (slabAt m4 (h4.unread x2) (k0_off1 i) (k0_off1_inb i)) (k0_pay58 (F := Ideal)) (k0_pay59 (F := Ideal)))
    (hT0 : T 0 = diagRun i x0 x3 (slabAt m3 (h3.unread x1) (k0_off1 i) (k0_off1_inb i)) (k0_pay59 (F := Ideal)))
    (hS : ∀ k : Fin (k0_t1_loop i).trips, S (k.val + 1) = fwdAcc (k0_pay56 (F := Ideal) x0) (k0_pay57 (F := Ideal) x3) (slabAt m3 (h3.unread x1) (k0_off2 i k) (k0_off2_inb i k)) (slabAt m4 (h4.unread x2) (k0_off2 i k) (k0_off2_inb i k)) (S k.val) (T k.val))
    (hT : ∀ k : Fin (k0_t1_loop i).trips, T (k.val + 1) = fwdRun (k0_pay56 (F := Ideal) x0) (k0_pay57 (F := Ideal) x3) (slabAt m3 (h3.unread x1) (k0_off2 i k) (k0_off2_inb i k)) (T k.val)) :
    out0_A_4 (F := Ideal) c i m2 h2 m3 h3 m4 h4 m5 h5 m6 h6 m7 h7 m8 h8 m9 h9 x0 x1 x2 x3 = k0_pay13 (F := Ideal) (S (i 1).val) ∧ out0_A_5 (F := Ideal) c i m2 h2 m3 h3 m4 h4 m5 h5 m6 h6 m7 h7 m8 h8 m9 h9 x0 x1 x2 x3 = T (i 1).val := by
  have e0 : m2.view.readAt (Elt Ideal) (Rect.unit ![0, 0] S512x128.size (by decide)).toLoadRect (h2.unread x0) = x0 := by
    rw [View.readAt_full, h2.read_unread]
  have e3 : m5.view.readAt (Elt Ideal) (Rect.unit ![0, 0] S256x256.size (by decide)).toLoadRect (h5.unread x3) = x3 := by
    rw [View.readAt_full, h5.read_unread]
  rw [← trips_fwd]
  rw [← e0, ← e3, ← cov_whole m8 (k0_pay58 (F := Ideal)), ← cov_whole m9 (k0_pay59 (F := Ideal))] at hS0
  rw [← e0, ← e3, ← cov_whole m9 (k0_pay59 (F := Ideal))] at hT0
  have l := loop_fwd Variants.none c none i m2 h2 m3 h3 m4 h4 m5 h5 m6 h6 m7 h7 m8 h8 m9 h9 (BitVec.ofNat 32 (i 1).val) (k0_pay56 (F := Ideal) (m2.view.readAt (Elt Ideal) (Rect.unit ![0, 0] S512x128.size inb_S512x128_S512x128_0_0).toLoadRect (h2.unread x0))) (k0_pay57 (F := Ideal) (m5.view.readAt (Elt Ideal) (Rect.unit ![0, 0] S256x256.size inb_S256x256_S256x256_0_0).toLoadRect (h5.unread x3))) (h3.unread x1) (h4.unread x2)
    (m8.view.writes (Elt Ideal) m8.view.junk [⟨Rect.unit ![0, 0] S512x128.size inb_S512x128_S512x128_0_0, S 0⟩, ⟨Rect.unit ![0, 0] S512x128.size inb_S512x128_S512x128_0_0, k0_pay58 (F := Ideal)⟩])
    (m9.view.writes (Elt Ideal) m9.view.junk [⟨Rect.unit ![0, 0] S512x128.size inb_S512x128_S512x128_0_0, T 0⟩, ⟨Rect.unit ![0, 0] S512x128.size inb_S512x128_S512x128_0_0, k0_pay59 (F := Ideal)⟩])
    S T (View.read_writes_full ..) (View.read_writes_full ..) (by rw [e0, e3]; exact hS) (by rw [e0, e3]; exact hT) _ le_rfl
  unfold diagAcc diagBase slabAt zeroF k0_off1 at hS0
  unfold diagRun diagBase slabAt zeroF k0_off1 at hT0
  dsimp only at hS0 hT0
  rw [hS0, hT0] at l
  unfold k0_t1_loop at l
  dsimp only at l
  constructor
  · unfold out0_A_4 kernelRun0_A
    sl_unfold_words
    dsimp only
    rw [View.read_writes_full]
    refine congrArg (k0_pay13 (F := Ideal)) ((cov_read m8 _).trans ?_)
    rw [rest_fwd, View.writes_append, View.writes_append]
    exact l.1
  · unfold out0_A_5 kernelRun0_A
    sl_unfold_words
    dsimp only
    rw [View.read_writes_full]
    refine (cov_read m9 _).trans ?_
    rw [rest_fwd, View.writes_append, View.writes_append]
    exact l.2

end Cert.AttnIdeal.Value
-- ==== Proof.AttnFwdOut.lean ====
/- A block of the forward attention kernel, over real numbers: the attention of its 512 rows and the total of each row. -/
module

public import proofs.«01_k».proof.Proof.AttnFwdBlock
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (Q K Vv : ℕ → ℕ → ℝ)

/-- A row of the attention. -/
def ao (t c : ℕ) : ℝ := ∑ s ∈ Finset.Ico 0 4096, aw (zg Q K) t s * Vv s c

/-- The total of a row. -/
def at0 (t : ℕ) : ℝ := ∑ s ∈ Finset.Ico 0 4096, lk (zg Q K) t s

/-- The accumulator and the running sum of row block `b` when the keys from `lo` on are done. -/
def accAt (b lo : ℕ) : Vec Ideal S512x128 .f32 := arr fun r c => ∑ s ∈ Finset.Ico lo 4096, aw (zg Q K) (512 * b + r) s * Vv s c
def runAt (b lo : ℕ) : Vec Ideal S512x128 .f32 := arr fun r _ => ∑ s ∈ Finset.Ico lo 4096, lk (zg Q K) (512 * b + r) s

theorem step_run (b lo : ℕ) (hlo : lo + 512 ≤ 512 * b) (hb : b < 8) :
    fwdRun (arr fun r c => Q (512 * b + r) c) (arr uAfter) (arr fun r c => K (lo + r) c) (runAt Q K b (lo + 512)) = runAt Q K b lo := by
  unfold runAt
  rw [fwdRun_arr]
  refine arr_congr fun r c hr _ => ?_
  have e : ∀ j, zg (fun r c => Q (512 * b + r) c) (fun r c => K (lo + r) c) r j = zg Q K (512 * b + r) (lo + j) := fun _ => rfl
  simp only [e]
  rw [← ico_front _ (by omega : lo ≤ lo + 512) (by omega), ← group_ico]
  refine congrArg _ (Finset.sum_congr rfl fun j hj => ?_)
  rw [lk, if_pos (by have := Finset.mem_range.mp hj; omega), keep]

theorem step_acc (b lo : ℕ) (hlo : lo + 512 ≤ 512 * b) (hb : b < 8) :
    fwdAcc (arr fun r c => Q (512 * b + r) c) (arr uAfter) (arr fun r c => K (lo + r) c) (arr fun r c => Vv (lo + r) c) (accAt Q K Vv b (lo + 512))
      (runAt Q K b (lo + 512)) = accAt Q K Vv b lo := by
  unfold runAt accAt
  rw [fwdAcc_arr]
  refine arr_congr fun r c hr _ => ?_
  have e : ∀ j, zg (fun r c => Q (512 * b + r) c) (fun r c => K (lo + r) c) r j = zg Q K (512 * b + r) (lo + j) := fun _ => rfl
  simp only [e]
  rw [← ico_front _ (by omega : lo ≤ lo + 512) (by omega), ← group_ico]
  refine congrArg _ (Finset.sum_congr rfl fun j hj => ?_)
  have hj := Finset.mem_range.mp hj
  rw [fwd_wt _ _ _ _ hj (by omega) (by omega) fun s hs => by omega]

theorem first_run (i : grid0.Coords) (b : ℕ) (hb : b < 8) :
    diagRun i (arr fun r c => Q (512 * b + r) c) (arr uAfter) (arr fun r c => K (512 * b + r) c) (arr fun _ _ => 0) = runAt Q K b (512 * b) := by
  unfold runAt
  rw [diagRun_arr _ _ fun _ => 0]
  refine arr_congr fun r c hr _ => ?_
  have e : ∀ j, zg (fun r c => Q (512 * b + r) c) (fun r c => K (512 * b + r) c) r j = zg Q K (512 * b + r) (512 * b + j) := fun _ => rfl
  simp only [e]
  rw [← ico_late _ _ (512 * b + 512) 4096 (by omega) (by omega) fun x hx => by rw [lk, if_neg (by omega)], ← group_ico, zero_add]
  exact Finset.sum_congr rfl fun j _ => if_congr (by omega) rfl rfl

theorem first_acc (i : grid0.Coords) (b : ℕ) (hb : b < 8) :
    diagAcc i (arr fun r c => Q (512 * b + r) c) (arr uAfter) (arr fun r c => K (512 * b + r) c) (arr fun r c => Vv (512 * b + r) c) (arr fun _ _ => 0)
      (arr fun _ _ => 0) = accAt Q K Vv b (512 * b) := by
  unfold accAt
  rw [diagAcc_arr _ _ _ (fun _ _ => 0) fun _ => 0]
  refine arr_congr fun r c hr _ => ?_
  have e : ∀ j, zg (fun r c => Q (512 * b + r) c) (fun r c => K (512 * b + r) c) r j = zg Q K (512 * b + r) (512 * b + j) := fun _ => rfl
  simp only [e]
  rw [← ico_late _ _ (512 * b + 512) 4096 (by omega) (by omega) fun x hx => by rw [aw, if_neg (by omega), zero_mul], ← group_ico, zero_add]
  refine Finset.sum_congr rfl fun j hj => ?_
  rw [fwd_wt_diag _ _ _ _ (Finset.mem_range.mp hj) hr (by omega)]

/-- The two results of row block `i 1` of the forward kernel. -/
theorem out_fwd_arr (c : Dev nD) (i : grid0.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S256x256 .bf16) (h5 : m5.IsWhole) (m6 : Memref sig .tc .vmem S512x128 .bf16) (h6 : m6.IsWhole) (m7 : Memref sig .tc .vmem S512x128 .f32) (h7 : m7.IsWhole) (m8 : Memref sig .tc .vmem S512x128 .f32) (h8 : m8.IsWhole) (m9 : Memref sig .tc .vmem S512x128 .f32) (h9 : m9.IsWhole) :
    out0_A_4 (F := Ideal) c i m2 h2 m3 h3 m4 h4 m5 h5 m6 h6 m7 h7 m8 h8 m9 h9 (arr fun r c => Q (512 * (i 1).val + r) c) (arr K) (arr Vv) (arr uAfter)
        = (arr fun r c => ao Q K Vv (512 * (i 1).val + r) c : Vec Ideal S512x128 .f32)
      ∧ out0_A_5 (F := Ideal) c i m2 h2 m3 h3 m4 h4 m5 h5 m6 h6 m7 h7 m8 h8 m9 h9 (arr fun r c => Q (512 * (i 1).val + r) c) (arr K) (arr Vv) (arr uAfter)
        = (arr fun r _ => at0 Q K (512 * (i 1).val + r) : Vec Ideal S512x128 .f32) := by
  have hb : (i 1).val < 8 := (i 1).isLt
  have q56 (f : ℕ → ℕ → ℝ) : k0_pay56 (F := Ideal) (arr f) = arr f := cast_arr ..
  have q57 (f : ℕ → ℕ → ℝ) : k0_pay57 (F := Ideal) (arr f) = arr f := cast_arr ..
  have q58 : k0_pay58 (F := Ideal) = arr fun _ _ => 0 := by simp only [k0_pay58, zero_arr, cast_arr]
  have q59 : k0_pay59 (F := Ideal) = arr fun _ _ => 0 := by simp only [k0_pay59, zero_arr, cast_arr]
  have o := out_fwd c i m2 h2 m3 h3 m4 h4 m5 h5 m6 h6 m7 h7 m8 h8 m9 h9 (arr fun r c => Q (512 * (i 1).val + r) c) (arr K) (arr Vv) (arr uAfter)
    (fun n => accAt Q K Vv (i 1).val (512 * ((i 1).val - n))) (fun n => runAt Q K (i 1).val (512 * ((i 1).val - n)))
    (by rw [slabAt_arr m3 h3 _ K rfl _ _ _ (diag_off i), slabAt_arr m4 h4 _ Vv rfl _ _ _ (diag_off i), q58, q59]; exact (first_acc Q K Vv i _ hb).symm)
    (by rw [slabAt_arr m3 h3 _ K rfl _ _ _ (diag_off i), q59]; exact (first_run Q K i _ hb).symm)
    (fun k => by
      have hk : k.val < (i 1).val := trips_fwd i ▸ k.isLt
      rw [slabAt_arr m3 h3 _ K rfl _ _ _ (loop_off i k), slabAt_arr m4 h4 _ Vv rfl _ _ _ (loop_off i k), q56, q57,
        show 512 * ((i 1).val - k.val) = 512 * ((i 1).val - 1 - k.val) + 512 by omega, show (i 1).val - (k.val + 1) = (i 1).val - 1 - k.val by omega]
      exact (step_acc Q K Vv _ _ (by omega) hb).symm)
    (fun k => by
      have hk : k.val < (i 1).val := trips_fwd i ▸ k.isLt
      rw [slabAt_arr m3 h3 _ K rfl _ _ _ (loop_off i k), q56, q57,
        show 512 * ((i 1).val - k.val) = 512 * ((i 1).val - 1 - k.val) + 512 by omega, show (i 1).val - (k.val + 1) = (i 1).val - 1 - k.val by omega]
      exact (step_run Q K _ _ (by omega) hb).symm)
  refine ⟨o.1.trans ?_, o.2.trans ?_⟩
  · rw [Nat.sub_self]
    rfl
  · rw [Nat.sub_self]
    rfl

end Cert.AttnIdeal.Value
-- ==== Proof.AttnBwdRun.lean ====
/- The walk of the backward attention kernel over the groups of keys below the diagonal. -/
module

public import proofs.«01_k».proof.Proof.AttnFwdOut
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- What the five written arrays hold: the query gradient of the block, the key and value gradients of the head, and the two running sums. -/
structure St where
  dq : Vec Ideal S512x128 .f32
  dk : Vec Ideal S4096x128 .f32
  dv : Vec Ideal S4096x128 .f32
  run : Vec Ideal S512x128 .f32
  grun : Vec Ideal S512x128 .f32

def readSt (m8 : Memref sig .tc .vmem S512x128 .f32) (m9 m10 : Memref sig .tc .vmem S4096x128 .f32) (m11 m12 : Memref sig .tc .vmem S512x128 .f32) (f8 : BufTy.Contents (Elt Ideal) m8.view.ty) (f9 : BufTy.Contents (Elt Ideal) m9.view.ty) (f10 : BufTy.Contents (Elt Ideal) m10.view.ty) (f11 : BufTy.Contents (Elt Ideal) m11.view.ty) (f12 : BufTy.Contents (Elt Ideal) m12.view.ty) : St where
  dq := m8.view.read (Elt Ideal) f8
  dk := m9.view.read (Elt Ideal) f9
  dv := m10.view.read (Elt Ideal) f10
  run := m11.view.read (Elt Ideal) f11
  grun := m12.view.read (Elt Ideal) f12

/-- 512 rows of a gradient. -/
def rowsOf (x : Vec Ideal S4096x128 .f32) (off : Fin 2 → ℕ) (inb : ∀ a, off a + S512x128.size a ≤ S4096x128.size a) : Vec Ideal S512x128 .f32 :=
  VecWindow.window (s := S4096x128) x off S512x128.size inb

/-- The gradient with 512 rows replaced. -/
def setRows (x : Vec Ideal S4096x128 .f32) (off : Fin 2 → ℕ) (w : Vec Ideal S512x128 .f32) : Vec Ideal S4096x128 .f32 :=
  VecWindow.put (s := S4096x128) x off S512x128.size w

/-- The arrays after a group of keys at rows `off`, from what the group makes of them. -/
def stepSt (G : Grads → Grads) (off : Fin 2 → ℕ) (inb : ∀ a, off a + S512x128.size a ≤ S4096x128.size a) (x : St) : St :=
  let g := G ⟨x.dq, rowsOf x.dk off inb, rowsOf x.dv off inb, x.run, x.grun⟩
  ⟨g.dq, setRows x.dk off g.dk, setRows x.dv off g.dv, g.run, g.grun⟩

theorem st_ext (a b : St) (h1 : a.dq = b.dq) (h2 : a.dk = b.dk) (h3 : a.dv = b.dv) (h4 : a.run = b.run) (h5 : a.grun = b.grun) : a = b := by
  cases a; cases b; cases h1; cases h2; cases h3; cases h4; cases h5; rfl

set_option maxHeartbeats 1000000 in
/-- What one trip leaves. -/
theorem trip_bwd (V : Variants) (c : Dev nD) (bd : Option V.V) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (q o : Vec Ideal S512x128 .bf16) (u : Vec Ideal S256x256 .bf16) (X3 : BufTy.Contents (Elt Ideal) m3.view.ty) (X4 : BufTy.Contents (Elt Ideal) m4.view.ty) (X5 : BufTy.Contents (Elt Ideal) m5.view.ty) (k : Fin (k1_t1_loop i).trips) (f8 : BufTy.Contents (Elt Ideal) m8.view.ty) (f9 : BufTy.Contents (Elt Ideal) m9.view.ty) (f10 : BufTy.Contents (Elt Ideal) m10.view.ty) (f11 : BufTy.Contents (Elt Ideal) m11.view.ty) (f12 : BufTy.Contents (Elt Ideal) m12.view.ty) :
    readSt m8 m9 m10 m11 m12 (m8.view.writes (Elt Ideal) f8 (tripL_k1_t1 (F := Ideal) V c bd i m2 h2 m3 h3 m4 h4 m5 h5 m6 h6 m7 h7 m8 h8 m9 h9 m10 h10 m11 h11 m12 h12 q o u X3 X4 X5 k f8 f9 f10 f11 f12).1) (m9.view.writes (Elt Ideal) f9 (tripL_k1_t1 (F := Ideal) V c bd i m2 h2 m3 h3 m4 h4 m5 h5 m6 h6 m7 h7 m8 h8 m9 h9 m10 h10 m11 h11 m12 h12 q o u X3 X4 X5 k f8 f9 f10 f11 f12).2.1) (m10.view.writes (Elt Ideal) f10 (tripL_k1_t1 (F := Ideal) V c bd i m2 h2 m3 h3 m4 h4 m5 h5 m6 h6 m7 h7 m8 h8 m9 h9 m10 h10 m11 h11 m12 h12 q o u X3 X4 X5 k f8 f9 f10 f11 f12).2.2.1) (m11.view.writes (Elt Ideal) f11 (tripL_k1_t1 (F := Ideal) V c bd i m2 h2 m3 h3 m4 h4 m5 h5 m6 h6 m7 h7 m8 h8 m9 h9 m10 h10 m11 h11 m12 h12 q o u X3 X4 X5 k f8 f9 f10 f11 f12).2.2.2.1) (m12.view.writes (Elt Ideal) f12 (tripL_k1_t1 (F := Ideal) V c bd i m2 h2 m3 h3 m4 h4 m5 h5 m6 h6 m7 h7 m8 h8 m9 h9 m10 h10 m11 h11 m12 h12 q o u X3 X4 X5 k f8 f9 f10 f11 f12).2.2.2.2)
      = stepSt (bwdGroup q o u (slabAt m3 X3 (k1_off1 i k) (k1_off1_inb i k)) (slabAt m4 X4 (k1_off1 i k) (k1_off1_inb i k)) (m5.view.read (Elt Ideal) X5)) (k1_off1 i k) (k1_off1_inb i k) (readSt m8 m9 m10 m11 m12 f8 f9 f10 f11 f12) := by
  refine st_ext _ _ ?_ ?_ ?_ ?_ ?_
  all_goals
    unfold readSt stepSt
    dsimp only
    rw [← View.readAt_full m8.view f8 (off := ![0, 0]) (by decide), ← View.readAt_full m11.view f11 (off := ![0, 0]) (by decide),
      ← View.readAt_full m12.view f12 (off := ![0, 0]) (by decide), ← View.readAt_full m5.view X5 (off := ![0, 0]) (by decide)]
    unfold trip_k1_t1
    sl_unfold_words
    dsimp only
  · exact View.read_writes_full ..
  · exact View.read_writes_cons_put _ _ _ _ [] rfl
  · exact View.read_writes_cons_put _ _ _ _ [] rfl
  · exact View.read_writes_full ..
  · exact View.read_writes_full ..

/-- The arrays after `n` trips, from any arrays that go on the same way. -/
theorem loop_bwd (V : Variants) (c : Dev nD) (bd : Option V.V) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (q o : Vec Ideal S512x128 .bf16) (u : Vec Ideal S256x256 .bf16) (X3 : BufTy.Contents (Elt Ideal) m3.view.ty) (X4 : BufTy.Contents (Elt Ideal) m4.view.ty) (X5 : BufTy.Contents (Elt Ideal) m5.view.ty) (G8 : BufTy.Contents (Elt Ideal) m8.view.ty) (G9 : BufTy.Contents (Elt Ideal) m9.view.ty) (G10 : BufTy.Contents (Elt Ideal) m10.view.ty) (G11 : BufTy.Contents (Elt Ideal) m11.view.ty) (G12 : BufTy.Contents (Elt Ideal) m12.view.ty) (S : ℕ → St) (e : readSt m8 m9 m10 m11 m12 G8 G9 G10 G11 G12 = S 0)
    (hS : ∀ k : Fin (k1_t1_loop i).trips, S (k.val + 1) = stepSt (bwdGroup q o u (slabAt m3 X3 (k1_off1 i k) (k1_off1_inb i k)) (slabAt m4 X4 (k1_off1 i k) (k1_off1_inb i k)) (m5.view.read (Elt Ideal) X5)) (k1_off1 i k) (k1_off1_inb i k) (S k.val)) :
    ∀ n, n ≤ (k1_t1_loop i).trips → readSt m8 m9 m10 m11 m12 (m8.view.writes (Elt Ideal) G8 (pb_k1_t1 (F := Ideal) V c bd i m2 h2 m3 h3 m4 h4 m5 h5 m6 h6 m7 h7 m8 h8 m9 h9 m10 h10 m11 h11 m12 h12 q o u X3 X4 X5 G8 G9 G10 G11 G12 n).1) (m9.view.writes (Elt Ideal) G9 (pb_k1_t1 (F := Ideal) V c bd i m2 h2 m3 h3 m4 h4 m5 h5 m6 h6 m7 h7 m8 h8 m9 h9 m10 h10 m11 h11 m12 h12 q o u X3 X4 X5 G8 G9 G10 G11 G12 n).2.1) (m10.view.writes (Elt Ideal) G10 (pb_k1_t1 (F := Ideal) V c bd i m2 h2 m3 h3 m4 h4 m5 h5 m6 h6 m7 h7 m8 h8 m9 h9 m10 h10 m11 h11 m12 h12 q o u X3 X4 X5 G8 G9 G10 G11 G12 n).2.2.1) (m11.view.writes (Elt Ideal) G11 (pb_k1_t1 (F := Ideal) V c bd i m2 h2 m3 h3 m4 h4 m5 h5 m6 h6 m7 h7 m8 h8 m9 h9 m10 h10 m11 h11 m12 h12 q o u X3 X4 X5 G8 G9 G10 G11 G12 n).2.2.2.1) (m12.view.writes (Elt Ideal) G12 (pb_k1_t1 (F := Ideal) V c bd i m2 h2 m3 h3 m4 h4 m5 h5 m6 h6 m7 h7 m8 h8 m9 h9 m10 h10 m11 h11 m12 h12 q o u X3 X4 X5 G8 G9 G10 G11 G12 n).2.2.2.2) = S n := by
  intro n
  induction n with
  | zero => exact fun _ => e
  | succ n ih =>
    intro hn
    have e := ih (Nat.le_of_succ_le hn)
    have t := trip_bwd V c bd i m2 h2 m3 h3 m4 h4 m5 h5 m6 h6 m7 h7 m8 h8 m9 h9 m10 h10 m11 h11 m12 h12 q o u X3 X4 X5 ⟨n, hn⟩ (m8.view.writes (Elt Ideal) G8 (pb_k1_t1 (F := Ideal) V c bd i m2 h2 m3 h3 m4 h4 m5 h5 m6 h6 m7 h7 m8 h8 m9 h9 m10 h10 m11 h11 m12 h12 q o u X3 X4 X5 G8 G9 G10 G11 G12 n).1) (m9.view.writes (Elt Ideal) G9 (pb_k1_t1 (F := Ideal) V c bd i m2 h2 m3 h3 m4 h4 m5 h5 m6 h6 m7 h7 m8 h8 m9 h9 m10 h10 m11 h11 m12 h12 q o u X3 X4 X5 G8 G9 G10 G11 G12 n).2.1) (m10.view.writes (Elt Ideal) G10 (pb_k1_t1 (F := Ideal) V c bd i m2 h2 m3 h3 m4 h4 m5 h5 m6 h6 m7 h7 m8 h8 m9 h9 m10 h10 m11 h11 m12 h12 q o u X3 X4 X5 G8 G9 G10 G11 G12 n).2.2.1) (m11.view.writes (Elt Ideal) G11 (pb_k1_t1 (F := Ideal) V c bd i m2 h2 m3 h3 m4 h4 m5 h5 m6 h6 m7 h7 m8 h8 m9 h9 m10 h10 m11 h11 m12 h12 q o u X3 X4 X5 G8 G9 G10 G11 G12 n).2.2.2.1) (m12.view.writes (Elt Ideal) G12 (pb_k1_t1 (F := Ideal) V c bd i m2 h2 m3 h3 m4 h4 m5 h5 m6 h6 m7 h7 m8 h8 m9 h9 m10 h10 m11 h11 m12 h12 q o u X3 X4 X5 G8 G9 G10 G11 G12 n).2.2.2.2)
    rw [e, ← hS ⟨n, hn⟩] at t
    simp only [← View.writes_append] at t
    rw [pb_k1_t1_succ V c bd i m2 h2 m3 h3 m4 h4 m5 h5 m6 h6 m7 h7 m8 h8 m9 h9 m10 h10 m11 h11 m12 h12 q o u X3 X4 X5 G8 G9 G10 G11 G12 ⟨n, hn⟩]
    exact t

/-- The second loop makes no trip. -/
theorem no_rest' (i : grid1.Coords) : (k1_t2_loop i).trips = 0 := by
  revert i
  decide +kernel

theorem trips_bwd (i : grid1.Coords) : (k1_t1_loop i).trips = (i 1).val := by
  revert i
  decide +kernel

theorem loop_off' (i : grid1.Coords) (k : Fin (k1_t1_loop i).trips) : k1_off1 i k = ![512 * k.val, 0] := by
  revert i
  decide +kernel

theorem diag_off' (i : grid1.Coords) : k1_off3 i = ![512 * (i 1).val, 0] := by
  revert i
  decide +kernel

end Cert.AttnIdeal.Value
-- ==== Proof.AttnBwdBlock.lean ====
/- What a block of the backward attention kernel leaves in its three results. -/
module

public import proofs.«01_k».proof.Proof.AttnBwdRun
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- The loop over the rest stores nothing. -/
theorem rest_bwd (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (q o : Vec Ideal S512x128 .bf16) (u : Vec Ideal S256x256 .bf16) (a : BitVec 32) (X3 : BufTy.Contents (Elt Ideal) m3.view.ty) (X4 : BufTy.Contents (Elt Ideal) m4.view.ty) (X5 : BufTy.Contents (Elt Ideal) m5.view.ty) (G8 : BufTy.Contents (Elt Ideal) m8.view.ty) (G9 : BufTy.Contents (Elt Ideal) m9.view.ty) (G10 : BufTy.Contents (Elt Ideal) m10.view.ty) (G11 : BufTy.Contents (Elt Ideal) m11.view.ty) (G12 : BufTy.Contents (Elt Ideal) m12.view.ty) :
    pb_k1_t2 (F := Ideal) Variants.none c none i m2 h2 m3 h3 m4 h4 m5 h5 m6 h6 m7 h7 m8 h8 m9 h9 m10 h10 m11 h11 m12 h12 q o u a X3 X4 X5 G8 G9 G10 G11 G12 (k1_t2_loop i).trips = ([], [], [], [], []) := by
  rw [no_rest']
  rfl

theorem rows_read (m : Memref sig .tc .vmem S4096x128 .f32) (f : BufTy.Contents (Elt Ideal) m.view.ty) (off : Fin 2 → ℕ) (inb) :
    rowsOf (m.view.read (Elt Ideal) f) off inb = m.view.readAt (Elt Ideal) (Rect.unit (s := S4096x128) off S512x128.size inb).toLoadRect f := rfl

theorem cov_def {s : Shape} (m : Memref sig .tc .vmem s .f32) (L : List (View.Piece (Elt Ideal) s .f32)) (r : LoadRect s) :
    m.view.readAt (Elt Ideal) r (m.view.writes (Elt Ideal) m.view.junk L) = m.view.readCov L r := rfl

/-- The arrays after the groups below the diagonal, of the first row block of a head. -/
theorem after_first (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (x0 : Vec Ideal S512x128 .bf16) (x1 x2 : Vec Ideal S4096x128 .bf16) (x3 : Vec Ideal S512x128 .f32) (x4 : Vec Ideal S512x128 .bf16) (x5 : Vec Ideal S256x256 .bf16) (S : ℕ → St)
    (h0 : S 0 = ⟨k1_pay134 (F := Ideal), k1_pay129 (F := Ideal), k1_pay130 (F := Ideal), k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    readSt m8 m9 m10 m11 m12 (m8.view.writes (Elt Ideal) m8.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (m9.view.writes (Elt Ideal) m9.view.junk [⟨Rect.unit ![0, 0] S4096x128.size inb_S4096x128_S4096x128_0_0, k1_pay129 (F := Ideal)⟩]) (m10.view.writes (Elt Ideal) m10.view.junk [⟨Rect.unit ![0, 0] S4096x128.size inb_S4096x128_S4096x128_0_0, k1_pay130 (F := Ideal)⟩]) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).1 ++ [⟨Rect.unit ![0, 0] S512x128.size inb_S512x128_S512x128_0_0, k1_pay134 (F := Ideal)⟩])) (m9.view.writes (Elt Ideal) m9.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (m9.view.writes (Elt Ideal) m9.view.junk [⟨Rect.unit ![0, 0] S4096x128.size inb_S4096x128_S4096x128_0_0, k1_pay129 (F := Ideal)⟩]) (m10.view.writes (Elt Ideal) m10.view.junk [⟨Rect.unit ![0, 0] S4096x128.size inb_S4096x128_S4096x128_0_0, k1_pay130 (F := Ideal)⟩]) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.1 ++ [⟨Rect.unit ![0, 0] S4096x128.size inb_S4096x128_S4096x128_0_0, k1_pay129 (F := Ideal)⟩])) (m10.view.writes (Elt Ideal) m10.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (m9.view.writes (Elt Ideal) m9.view.junk [⟨Rect.unit ![0, 0] S4096x128.size inb_S4096x128_S4096x128_0_0, k1_pay129 (F := Ideal)⟩]) (m10.view.writes (Elt Ideal) m10.view.junk [⟨Rect.unit ![0, 0] S4096x128.size inb_S4096x128_S4096x128_0_0, k1_pay130 (F := Ideal)⟩]) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.2.1 ++ [⟨Rect.unit ![0, 0] S4096x128.size inb_S4096x128_S4096x128_0_0, k1_pay130 (F := Ideal)⟩])) (m11.view.writes (Elt Ideal) m11.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (m9.view.writes (Elt Ideal) m9.view.junk [⟨Rect.unit ![0, 0] S4096x128.size inb_S4096x128_S4096x128_0_0, k1_pay129 (F := Ideal)⟩]) (m10.view.writes (Elt Ideal) m10.view.junk [⟨Rect.unit ![0, 0] S4096x128.size inb_S4096x128_S4096x128_0_0, k1_pay130 (F := Ideal)⟩]) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.2.2.1 ++ [⟨Rect.unit ![0, 0] S512x128.size inb_S512x128_S512x128_0_0, k1_pay135 (F := Ideal)⟩])) (m12.view.writes (Elt Ideal) m12.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (m9.view.writes (Elt Ideal) m9.view.junk [⟨Rect.unit ![0, 0] S4096x128.size inb_S4096x128_S4096x128_0_0, k1_pay129 (F := Ideal)⟩]) (m10.view.writes (Elt Ideal) m10.view.junk [⟨Rect.unit ![0, 0] S4096x128.size inb_S4096x128_S4096x128_0_0, k1_pay130 (F := Ideal)⟩]) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.2.2.2 ++ [⟨Rect.unit ![0, 0] S512x128.size inb_S512x128_S512x128_0_0, k1_pay136 (F := Ideal)⟩])) = S (k1_t1_loop i).trips := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e5 : (m7.view.readAt (Elt Ideal) (Rect.unit ![0, 0] S256x256.size inb_S256x256_S256x256_0_0).toLoadRect (h7.unread x5)) = x5 := by rw [View.readAt_full, h7.read_unread]
  have t3 : m5.view.read (Elt Ideal) (h5.unread x3) = x3 := h5.read_unread x3
  have l := loop_bwd Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3)
    (m8.view.writes (Elt Ideal) m8.view.junk [⟨Rect.unit ![0, 0] S512x128.size inb_S512x128_S512x128_0_0, k1_pay134 (F := Ideal)⟩])
    (m9.view.writes (Elt Ideal) m9.view.junk [⟨Rect.unit ![0, 0] S4096x128.size inb_S4096x128_S4096x128_0_0, k1_pay129 (F := Ideal)⟩])
    (m10.view.writes (Elt Ideal) m10.view.junk [⟨Rect.unit ![0, 0] S4096x128.size inb_S4096x128_S4096x128_0_0, k1_pay130 (F := Ideal)⟩])
    (m11.view.writes (Elt Ideal) m11.view.junk [⟨Rect.unit ![0, 0] S512x128.size inb_S512x128_S512x128_0_0, k1_pay135 (F := Ideal)⟩])
    (m12.view.writes (Elt Ideal) m12.view.junk [⟨Rect.unit ![0, 0] S512x128.size inb_S512x128_S512x128_0_0, k1_pay136 (F := Ideal)⟩])
    S (by
      rw [h0]
      exact st_ext _ _ (View.read_writes_full ..) (View.read_writes_full ..) (View.read_writes_full ..) (View.read_writes_full ..) (View.read_writes_full ..))
    (by rw [e0, e4, e5, t3]; exact hS) _ le_rfl
  simp only [← View.writes_append] at l
  exact l

/-- The arrays after the groups below the diagonal, of a later row block of a head. -/
theorem after_next (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (x0 : Vec Ideal S512x128 .bf16) (x1 x2 : Vec Ideal S4096x128 .bf16) (x3 : Vec Ideal S512x128 .f32) (x4 : Vec Ideal S512x128 .bf16) (x5 : Vec Ideal S256x256 .bf16) (x6 x7 : Vec Ideal S4096x128 .f32) (S : ℕ → St)
    (h0 : S 0 = ⟨k1_pay134 (F := Ideal), x6, x7, k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    readSt m8 m9 m10 m11 m12 (m8.view.writes (Elt Ideal) m8.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (h9.unread x6) (h10.unread x7) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).1 ++ [⟨Rect.unit ![0, 0] S512x128.size inb_S512x128_S512x128_0_0, k1_pay134 (F := Ideal)⟩])) (m9.view.writes (Elt Ideal) (h9.unread x6) (pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (h9.unread x6) (h10.unread x7) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.1) (m10.view.writes (Elt Ideal) (h10.unread x7) (pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (h9.unread x6) (h10.unread x7) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.2.1) (m11.view.writes (Elt Ideal) m11.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (h9.unread x6) (h10.unread x7) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.2.2.1 ++ [⟨Rect.unit ![0, 0] S512x128.size inb_S512x128_S512x128_0_0, k1_pay135 (F := Ideal)⟩])) (m12.view.writes (Elt Ideal) m12.view.junk ((pb_k1_t1 (F := Ideal) Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3) (m8.view.writes (Elt Ideal) m8.view.junk [⟨Rect.unit ![0, 0] S512x128.size inb_S512x128_S512x128_0_0, k1_pay134 (F := Ideal)⟩]) (h9.unread x6) (h10.unread x7) (m11.view.writes (Elt Ideal) m11.view.junk [⟨Rect.unit ![0, 0] S512x128.size inb_S512x128_S512x128_0_0, k1_pay135 (F := Ideal)⟩]) (m12.view.writes (Elt Ideal) m12.view.junk [⟨Rect.unit ![0, 0] S512x128.size inb_S512x128_S512x128_0_0, k1_pay136 (F := Ideal)⟩]) (k1_t1_loop i).trips).2.2.2.2 ++ [⟨Rect.unit ![0, 0] S512x128.size inb_S512x128_S512x128_0_0, k1_pay136 (F := Ideal)⟩])) = S (k1_t1_loop i).trips := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e5 : (m7.view.readAt (Elt Ideal) (Rect.unit ![0, 0] S256x256.size inb_S256x256_S256x256_0_0).toLoadRect (h7.unread x5)) = x5 := by rw [View.readAt_full, h7.read_unread]
  have t3 : m5.view.read (Elt Ideal) (h5.unread x3) = x3 := h5.read_unread x3
  have l := loop_bwd Variants.none c none i m2 h2 m3 h3 m4 h4 m5 h5 m6 h6 m7 h7 m8 h8 m9 h9 m10 h10 m11 h11 m12 h12 (m2.view.readAt (Elt Ideal) (Rect.unit ![0, 0] S512x128.size inb_S512x128_S512x128_0_0).toLoadRect (h2.unread x0)) (m6.view.readAt (Elt Ideal) (Rect.unit ![0, 0] S512x128.size inb_S512x128_S512x128_0_0).toLoadRect (h6.unread x4)) (m7.view.readAt (Elt Ideal) (Rect.unit ![0, 0] S256x256.size inb_S256x256_S256x256_0_0).toLoadRect (h7.unread x5)) (h3.unread x1) (h4.unread x2) (h5.unread x3)
    (m8.view.writes (Elt Ideal) m8.view.junk [⟨Rect.unit ![0, 0] S512x128.size inb_S512x128_S512x128_0_0, k1_pay134 (F := Ideal)⟩])
    (h9.unread x6)
    (h10.unread x7)
    (m11.view.writes (Elt Ideal) m11.view.junk [⟨Rect.unit ![0, 0] S512x128.size inb_S512x128_S512x128_0_0, k1_pay135 (F := Ideal)⟩])
    (m12.view.writes (Elt Ideal) m12.view.junk [⟨Rect.unit ![0, 0] S512x128.size inb_S512x128_S512x128_0_0, k1_pay136 (F := Ideal)⟩])
    S (by
      rw [h0]
      exact st_ext _ _ (View.read_writes_full ..) (h9.read_unread _) (h10.read_unread _) (View.read_writes_full ..) (View.read_writes_full ..))
    (by rw [e0, e4, e5, t3]; exact hS) _ le_rfl
  simp only [← View.writes_append] at l
  exact l

/- The three results of the first row block of a head, for any arrays that go through the groups and start from zero. -/

set_option maxHeartbeats 2000000 in
theorem out_first_dq (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : cond1_0 i) (x0 : Vec Ideal S512x128 .bf16) (x1 x2 : Vec Ideal S4096x128 .bf16) (x3 : Vec Ideal S512x128 .f32) (x4 : Vec Ideal S512x128 .bf16) (x5 : Vec Ideal S256x256 .bf16) (S : ℕ → St)
    (h0 : S 0 = ⟨k1_pay134 (F := Ideal), k1_pay129 (F := Ideal), k1_pay130 (F := Ideal), k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    out1_A_6 (F := Ideal) c i m2 h2 m3 h3 m4 h4 m5 h5 m6 h6 m7 h7 m8 h8 m9 h9 m10 h10 m11 h11 m12 h12 hc x0 x1 x2 x3 x4 x5 = (stepSt (bwdDiag i x0 x4 x5 (slabAt m3 (h3.unread x1) (k1_off3 i) (k1_off3_inb i)) (slabAt m4 (h4.unread x2) (k1_off3 i) (k1_off3_inb i)) x3) (k1_off3 i) (k1_off3_inb i) (S (i 1).val)).dq := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e3 : (m5.view.readAt (Elt Ideal) (Rect.unit ![0, 0] S512x128.size inb_S512x128_S512x128_0_0).toLoadRect (h5.unread x3)) = x3 := by rw [View.readAt_full, h5.read_unread]
  have e5 : (m7.view.readAt (Elt Ideal) (Rect.unit ![0, 0] S256x256.size inb_S256x256_S256x256_0_0).toLoadRect (h7.unread x5)) = x5 := by rw [View.readAt_full, h7.read_unread]
  have l := after_first c i m2 h2 m3 h3 m4 h4 m5 h5 m6 h6 m7 h7 m8 h8 m9 h9 m10 h10 m11 h11 m12 h12 x0 x1 x2 x3 x4 x5 S h0 hS
  conv_rhs => rw [← trips_bwd, ← e0, ← e4, ← e3, ← e5, ← l]
  unfold readSt stepSt
  dsimp only
  rw [← View.readAt_full m8.view _ (off := ![0, 0]) inb_S512x128_S512x128_0_0, ← View.readAt_full m11.view _ (off := ![0, 0]) inb_S512x128_S512x128_0_0,
    ← View.readAt_full m12.view _ (off := ![0, 0]) inb_S512x128_S512x128_0_0]
  simp only [rows_read, cov_def]
  unfold bwdDiag diagBlk slabAt k1_off3 k1_t1_loop out1_A_6 kernelRun1_A
  sl_unfold_words
  dsimp only
  rw [rest_bwd]
  refine (View.read_writes_full ..).trans ?_
  exact rfl

set_option maxHeartbeats 2000000 in
theorem out_first_dk (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : cond1_0 i) (x0 : Vec Ideal S512x128 .bf16) (x1 x2 : Vec Ideal S4096x128 .bf16) (x3 : Vec Ideal S512x128 .f32) (x4 : Vec Ideal S512x128 .bf16) (x5 : Vec Ideal S256x256 .bf16) (S : ℕ → St)
    (h0 : S 0 = ⟨k1_pay134 (F := Ideal), k1_pay129 (F := Ideal), k1_pay130 (F := Ideal), k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    out1_A_7 (F := Ideal) c i m2 h2 m3 h3 m4 h4 m5 h5 m6 h6 m7 h7 m8 h8 m9 h9 m10 h10 m11 h11 m12 h12 hc x0 x1 x2 x3 x4 x5 = (stepSt (bwdDiag i x0 x4 x5 (slabAt m3 (h3.unread x1) (k1_off3 i) (k1_off3_inb i)) (slabAt m4 (h4.unread x2) (k1_off3 i) (k1_off3_inb i)) x3) (k1_off3 i) (k1_off3_inb i) (S (i 1).val)).dk := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e3 : (m5.view.readAt (Elt Ideal) (Rect.unit ![0, 0] S512x128.size inb_S512x128_S512x128_0_0).toLoadRect (h5.unread x3)) = x3 := by rw [View.readAt_full, h5.read_unread]
  have e5 : (m7.view.readAt (Elt Ideal) (Rect.unit ![0, 0] S256x256.size inb_S256x256_S256x256_0_0).toLoadRect (h7.unread x5)) = x5 := by rw [View.readAt_full, h7.read_unread]
  have l := after_first c i m2 h2 m3 h3 m4 h4 m5 h5 m6 h6 m7 h7 m8 h8 m9 h9 m10 h10 m11 h11 m12 h12 x0 x1 x2 x3 x4 x5 S h0 hS
  conv_rhs => rw [← trips_bwd, ← e0, ← e4, ← e3, ← e5, ← l]
  unfold readSt stepSt
  dsimp only
  rw [← View.readAt_full m8.view _ (off := ![0, 0]) inb_S512x128_S512x128_0_0, ← View.readAt_full m11.view _ (off := ![0, 0]) inb_S512x128_S512x128_0_0,
    ← View.readAt_full m12.view _ (off := ![0, 0]) inb_S512x128_S512x128_0_0]
  simp only [rows_read, cov_def]
  unfold bwdDiag diagBlk slabAt k1_off3 k1_t1_loop out1_A_7 kernelRun1_A
  sl_unfold_words
  dsimp only
  rw [rest_bwd]
  refine (View.read_writes_cons_put _ _ _ _ _ rfl).trans ?_
  refine congrArg₂ (fun x w => setRows x (k1_off3 i) w) ?_ ?_
  · exact (View.read_writes_junk_eq_canon _ _).trans (View.read_writes_junk_eq_canon _ _).symm
  · exact rfl

set_option maxHeartbeats 2000000 in
theorem out_first_dv (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : cond1_0 i) (x0 : Vec Ideal S512x128 .bf16) (x1 x2 : Vec Ideal S4096x128 .bf16) (x3 : Vec Ideal S512x128 .f32) (x4 : Vec Ideal S512x128 .bf16) (x5 : Vec Ideal S256x256 .bf16) (S : ℕ → St)
    (h0 : S 0 = ⟨k1_pay134 (F := Ideal), k1_pay129 (F := Ideal), k1_pay130 (F := Ideal), k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    out1_A_8 (F := Ideal) c i m2 h2 m3 h3 m4 h4 m5 h5 m6 h6 m7 h7 m8 h8 m9 h9 m10 h10 m11 h11 m12 h12 hc x0 x1 x2 x3 x4 x5 = (stepSt (bwdDiag i x0 x4 x5 (slabAt m3 (h3.unread x1) (k1_off3 i) (k1_off3_inb i)) (slabAt m4 (h4.unread x2) (k1_off3 i) (k1_off3_inb i)) x3) (k1_off3 i) (k1_off3_inb i) (S (i 1).val)).dv := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e3 : (m5.view.readAt (Elt Ideal) (Rect.unit ![0, 0] S512x128.size inb_S512x128_S512x128_0_0).toLoadRect (h5.unread x3)) = x3 := by rw [View.readAt_full, h5.read_unread]
  have e5 : (m7.view.readAt (Elt Ideal) (Rect.unit ![0, 0] S256x256.size inb_S256x256_S256x256_0_0).toLoadRect (h7.unread x5)) = x5 := by rw [View.readAt_full, h7.read_unread]
  have l := after_first c i m2 h2 m3 h3 m4 h4 m5 h5 m6 h6 m7 h7 m8 h8 m9 h9 m10 h10 m11 h11 m12 h12 x0 x1 x2 x3 x4 x5 S h0 hS
  conv_rhs => rw [← trips_bwd, ← e0, ← e4, ← e3, ← e5, ← l]
  unfold readSt stepSt
  dsimp only
  rw [← View.readAt_full m8.view _ (off := ![0, 0]) inb_S512x128_S512x128_0_0, ← View.readAt_full m11.view _ (off := ![0, 0]) inb_S512x128_S512x128_0_0,
    ← View.readAt_full m12.view _ (off := ![0, 0]) inb_S512x128_S512x128_0_0]
  simp only [rows_read, cov_def]
  unfold bwdDiag diagBlk slabAt k1_off3 k1_t1_loop out1_A_8 kernelRun1_A
  sl_unfold_words
  dsimp only
  rw [rest_bwd]
  refine (View.read_writes_cons_put _ _ _ _ _ rfl).trans ?_
  refine congrArg₂ (fun x w => setRows x (k1_off3 i) w) ?_ ?_
  · exact (View.read_writes_junk_eq_canon _ _).trans (View.read_writes_junk_eq_canon _ _).symm
  · exact rfl

set_option maxHeartbeats 2000000 in
theorem out_next_dq (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : ¬cond1_0 i) (x0 : Vec Ideal S512x128 .bf16) (x1 x2 : Vec Ideal S4096x128 .bf16) (x3 : Vec Ideal S512x128 .f32) (x4 : Vec Ideal S512x128 .bf16) (x5 : Vec Ideal S256x256 .bf16) (x6 x7 : Vec Ideal S4096x128 .f32) (S : ℕ → St)
    (h0 : S 0 = ⟨k1_pay134 (F := Ideal), x6, x7, k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    out1_B_6 (F := Ideal) c i m2 h2 m3 h3 m4 h4 m5 h5 m6 h6 m7 h7 m8 h8 m9 h9 m10 h10 m11 h11 m12 h12 hc x0 x1 x2 x3 x4 x5 x6 x7 = (stepSt (bwdDiag i x0 x4 x5 (slabAt m3 (h3.unread x1) (k1_off3 i) (k1_off3_inb i)) (slabAt m4 (h4.unread x2) (k1_off3 i) (k1_off3_inb i)) x3) (k1_off3 i) (k1_off3_inb i) (S (i 1).val)).dq := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e3 : (m5.view.readAt (Elt Ideal) (Rect.unit ![0, 0] S512x128.size inb_S512x128_S512x128_0_0).toLoadRect (h5.unread x3)) = x3 := by rw [View.readAt_full, h5.read_unread]
  have e5 : (m7.view.readAt (Elt Ideal) (Rect.unit ![0, 0] S256x256.size inb_S256x256_S256x256_0_0).toLoadRect (h7.unread x5)) = x5 := by rw [View.readAt_full, h7.read_unread]
  have l := after_next c i m2 h2 m3 h3 m4 h4 m5 h5 m6 h6 m7 h7 m8 h8 m9 h9 m10 h10 m11 h11 m12 h12 x0 x1 x2 x3 x4 x5 x6 x7 S h0 hS
  conv_rhs => rw [← trips_bwd, ← e0, ← e4, ← e3, ← e5, ← l]
  unfold readSt stepSt
  dsimp only
  rw [← View.readAt_full m8.view _ (off := ![0, 0]) inb_S512x128_S512x128_0_0, ← View.readAt_full m11.view _ (off := ![0, 0]) inb_S512x128_S512x128_0_0,
    ← View.readAt_full m12.view _ (off := ![0, 0]) inb_S512x128_S512x128_0_0]
  simp only [rows_read, cov_def]
  unfold bwdDiag diagBlk slabAt k1_off3 k1_t1_loop out1_B_6 kernelRun1_B
  sl_unfold_words
  dsimp only
  rw [rest_bwd]
  refine (View.read_writes_full ..).trans ?_
  exact rfl

set_option maxHeartbeats 2000000 in
theorem out_next_dk (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : ¬cond1_0 i) (x0 : Vec Ideal S512x128 .bf16) (x1 x2 : Vec Ideal S4096x128 .bf16) (x3 : Vec Ideal S512x128 .f32) (x4 : Vec Ideal S512x128 .bf16) (x5 : Vec Ideal S256x256 .bf16) (x6 x7 : Vec Ideal S4096x128 .f32) (S : ℕ → St)
    (h0 : S 0 = ⟨k1_pay134 (F := Ideal), x6, x7, k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    out1_B_7 (F := Ideal) c i m2 h2 m3 h3 m4 h4 m5 h5 m6 h6 m7 h7 m8 h8 m9 h9 m10 h10 m11 h11 m12 h12 hc x0 x1 x2 x3 x4 x5 x6 x7 = (stepSt (bwdDiag i x0 x4 x5 (slabAt m3 (h3.unread x1) (k1_off3 i) (k1_off3_inb i)) (slabAt m4 (h4.unread x2) (k1_off3 i) (k1_off3_inb i)) x3) (k1_off3 i) (k1_off3_inb i) (S (i 1).val)).dk := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e3 : (m5.view.readAt (Elt Ideal) (Rect.unit ![0, 0] S512x128.size inb_S512x128_S512x128_0_0).toLoadRect (h5.unread x3)) = x3 := by rw [View.readAt_full, h5.read_unread]
  have e5 : (m7.view.readAt (Elt Ideal) (Rect.unit ![0, 0] S256x256.size inb_S256x256_S256x256_0_0).toLoadRect (h7.unread x5)) = x5 := by rw [View.readAt_full, h7.read_unread]
  have l := after_next c i m2 h2 m3 h3 m4 h4 m5 h5 m6 h6 m7 h7 m8 h8 m9 h9 m10 h10 m11 h11 m12 h12 x0 x1 x2 x3 x4 x5 x6 x7 S h0 hS
  conv_rhs => rw [← trips_bwd, ← e0, ← e4, ← e3, ← e5, ← l]
  unfold readSt stepSt
  dsimp only
  rw [← View.readAt_full m8.view _ (off := ![0, 0]) inb_S512x128_S512x128_0_0, ← View.readAt_full m11.view _ (off := ![0, 0]) inb_S512x128_S512x128_0_0,
    ← View.readAt_full m12.view _ (off := ![0, 0]) inb_S512x128_S512x128_0_0]
  simp only [rows_read, cov_def]
  unfold bwdDiag diagBlk slabAt k1_off3 k1_t1_loop out1_B_7 kernelRun1_B
  sl_unfold_words
  dsimp only
  rw [rest_bwd]
  refine (View.read_writes_cons_put _ _ _ _ _ rfl).trans ?_
  refine congrArg₂ (fun x w => setRows x (k1_off3 i) w) ?_ ?_
  · exact rfl
  · exact rfl

set_option maxHeartbeats 2000000 in
theorem out_next_dv (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : ¬cond1_0 i) (x0 : Vec Ideal S512x128 .bf16) (x1 x2 : Vec Ideal S4096x128 .bf16) (x3 : Vec Ideal S512x128 .f32) (x4 : Vec Ideal S512x128 .bf16) (x5 : Vec Ideal S256x256 .bf16) (x6 x7 : Vec Ideal S4096x128 .f32) (S : ℕ → St)
    (h0 : S 0 = ⟨k1_pay134 (F := Ideal), x6, x7, k1_pay135 (F := Ideal), k1_pay136 (F := Ideal)⟩)
    (hS : ∀ k : Fin (k1_t1_loop i).trips, S (k.val + 1) = stepSt (bwdGroup x0 x4 x5 (slabAt m3 (h3.unread x1) (k1_off1 i k) (k1_off1_inb i k)) (slabAt m4 (h4.unread x2) (k1_off1 i k) (k1_off1_inb i k)) x3) (k1_off1 i k) (k1_off1_inb i k) (S k.val)) :
    out1_B_8 (F := Ideal) c i m2 h2 m3 h3 m4 h4 m5 h5 m6 h6 m7 h7 m8 h8 m9 h9 m10 h10 m11 h11 m12 h12 hc x0 x1 x2 x3 x4 x5 x6 x7 = (stepSt (bwdDiag i x0 x4 x5 (slabAt m3 (h3.unread x1) (k1_off3 i) (k1_off3_inb i)) (slabAt m4 (h4.unread x2) (k1_off3 i) (k1_off3_inb i)) x3) (k1_off3 i) (k1_off3_inb i) (S (i 1).val)).dv := by
  have e0 : (m2.view.readAt (Elt Ideal) (Rect.unit ![0, 0] S512x128.size inb_S512x128_S512x128_0_0).toLoadRect (h2.unread x0)) = x0 := by rw [View.readAt_full, h2.read_unread]
  have e4 : (m6.view.readAt (Elt Ideal) (Rect.unit ![0, 0] S512x128.size inb_S512x128_S512x128_0_0).toLoadRect (h6.unread x4)) = x4 := by rw [View.readAt_full, h6.read_unread]
  have e3 : (m5.view.readAt (Elt Ideal) (Rect.unit ![0, 0] S512x128.size inb_S512x128_S512x128_0_0).toLoadRect (h5.unread x3)) = x3 := by rw [View.readAt_full, h5.read_unread]
  have e5 : (m7.view.readAt (Elt Ideal) (Rect.unit ![0, 0] S256x256.size inb_S256x256_S256x256_0_0).toLoadRect (h7.unread x5)) = x5 := by rw [View.readAt_full, h7.read_unread]
  have l := after_next c i m2 h2 m3 h3 m4 h4 m5 h5 m6 h6 m7 h7 m8 h8 m9 h9 m10 h10 m11 h11 m12 h12 x0 x1 x2 x3 x4 x5 x6 x7 S h0 hS
  conv_rhs => rw [← trips_bwd, ← e0, ← e4, ← e3, ← e5, ← l]
  unfold readSt stepSt
  dsimp only
  rw [← View.readAt_full m8.view _ (off := ![0, 0]) inb_S512x128_S512x128_0_0, ← View.readAt_full m11.view _ (off := ![0, 0]) inb_S512x128_S512x128_0_0,
    ← View.readAt_full m12.view _ (off := ![0, 0]) inb_S512x128_S512x128_0_0]
  simp only [rows_read, cov_def]
  unfold bwdDiag diagBlk slabAt k1_off3 k1_t1_loop out1_B_8 kernelRun1_B
  sl_unfold_words
  dsimp only
  rw [rest_bwd]
  refine (View.read_writes_cons_put _ _ _ _ _ rfl).trans ?_
  refine congrArg₂ (fun x w => setRows x (k1_off3 i) w) ?_ ?_
  · exact rfl
  · exact rfl

end Cert.AttnIdeal.Value
-- ==== Proof.AttnBwdOut.lean ====
/- A block of the backward attention kernel, over real numbers: the query gradient of its rows and what it adds to the key and value
   gradients of the head. -/
module

public import proofs.«01_k».proof.Proof.AttnBwdBlock
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (Q K Vv O : ℕ → ℕ → ℝ)

/-- The gradient of a score and the weighted gradient, of a head. -/
def adz (t s : ℕ) : ℝ := dw (zg Q K) (zg O Vv) t s
def agw (t s : ℕ) : ℝ := gw (zg Q K) (zg O Vv) t s

/-- What the rows of block `b` add to a row of the key gradient and to one of the value gradient. -/
def dkAdd (b s c : ℕ) : ℝ := ∑ r ∈ Finset.range 512, adz Q K Vv O (512 * b + r) s * Q (512 * b + r) c
def dvAdd (b s c : ℕ) : ℝ := ∑ r ∈ Finset.range 512, aw (zg Q K) (512 * b + r) s * O (512 * b + r) c

variable (DK DV : ℕ → ℕ → ℝ)

/-- The written arrays of row block `b` when the first `n` groups of keys are done. -/
def stAt (b n : ℕ) : St where
  dq := arr fun r c => ∑ s ∈ Finset.Ico 0 (512 * n), adz Q K Vv O (512 * b + r) s * K s c
  dk := arr fun s c => DK s c + if s < 512 * n then dkAdd Q K Vv O b s c else 0
  dv := arr fun s c => DV s c + if s < 512 * n then dvAdd Q K O b s c else 0
  run := arr fun r _ => ∑ s ∈ Finset.Ico 0 (512 * n), lk (zg Q K) (512 * b + r) s
  grun := arr fun r _ => ∑ s ∈ Finset.Ico 0 (512 * n), agw Q K Vv O (512 * b + r) s

theorem rowsOf_arr (f : ℕ → ℕ → ℝ) (off : Fin 2 → ℕ) (inb) (o : ℕ) (ho : off = ![o, 0]) : rowsOf (arr f) off inb = arr fun r c => f (o + r) c := by
  subst ho
  funext y
  refine congrArg₂ (fun a b => ((f a b : ℝ) : EReal)) ?_ ?_
  · show o + 1 * (y 0).val = o + (y 0).val
    omega
  · show 0 + 1 * (y 1).val = (y 1).val
    omega

theorem setRows_arr (f g : ℕ → ℕ → ℝ) (off : Fin 2 → ℕ) (o : ℕ) (ho : off = ![o, 0]) :
    setRows (arr f) off (arr g) = arr fun s c => if o ≤ s ∧ s < o + 512 then g (s - o) c else f s c := by
  subst ho
  funext y
  have h1 : (y 1).val < 128 := (y 1).isLt
  unfold setRows VecWindow.put
  by_cases h : o ≤ (y 0).val ∧ (y 0).val < o + 512
  · have h' : ∀ a : Fin 2, (![o, 0] : Fin 2 → ℕ) a ≤ (y a).val ∧ (y a).val < (![o, 0] : Fin 2 → ℕ) a + S512x128.size a := fun a => by
      match a with
      | 0 => exact h
      | 1 => exact ⟨Nat.zero_le _, by show (y 1).val < 0 + 128; omega⟩
    refine (dif_pos h').trans ?_
    show ((g ((y 0).val - o) ((y 1).val - 0) : ℝ) : EReal) = (((if o ≤ (y 0).val ∧ (y 0).val < o + 512 then g ((y 0).val - o) (y 1).val else f (y 0).val (y 1).val : ℝ)) : EReal)
    rw [if_pos h]
    rfl
  · have h' : ¬ ∀ a : Fin 2, (![o, 0] : Fin 2 → ℕ) a ≤ (y a).val ∧ (y a).val < (![o, 0] : Fin 2 → ℕ) a + S512x128.size a := fun k => h (k 0)
    refine (dif_neg h').trans ?_
    show ((f (y 0).val (y 1).val : ℝ) : EReal) = (((if o ≤ (y 0).val ∧ (y 0).val < o + 512 then g ((y 0).val - o) (y 1).val else f (y 0).val (y 1).val : ℝ)) : EReal)
    rw [if_neg h]

/-- A group of rows of a gradient that gets what the block adds. -/
theorem put_group (F A : ℕ → ℕ → ℝ) (n : ℕ) (g : ℕ → ℕ → ℝ) (off : Fin 2 → ℕ) (ho : off = ![512 * n, 0])
    (hg : ∀ j c, j < 512 → c < 128 → g j c = (F (512 * n + j) c + if 512 * n + j < 512 * n then A (512 * n + j) c else 0) + A (512 * n + j) c) :
    setRows (arr fun s c => F s c + if s < 512 * n then A s c else 0) off (arr g) = arr fun s c => F s c + if s < 512 * (n + 1) then A s c else 0 := by
  rw [setRows_arr _ _ _ _ ho]
  refine arr_congr fun s c _ hc => ?_
  by_cases h : 512 * n ≤ s ∧ s < 512 * n + 512
  · rw [if_pos h, hg _ _ (by omega) hc, if_neg (by omega), if_pos (by omega), add_zero, Nat.add_sub_cancel' h.1]
  · rw [if_neg h]
    by_cases h2 : s < 512 * n
    · rw [if_pos h2, if_pos (by omega)]
    · rw [if_neg h2, if_neg (by omega)]

/-- What a group does, given the values of its weights and score gradients at the rows and keys it has. -/
theorem step_st (b n : ℕ) (G : Grads → Grads) (off : Fin 2 → ℕ) (inb) (ho : off = ![512 * n, 0]) (L W D : ℕ → ℕ → ℝ)
    (hL : ∀ r j, r < 512 → j < 512 → L r j = lk (zg Q K) (512 * b + r) (512 * n + j))
    (hW : ∀ r j, r < 512 → j < 512 → W r j = aw (zg Q K) (512 * b + r) (512 * n + j))
    (hD : ∀ r j, r < 512 → j < 512 → D r j = adz Q K Vv O (512 * b + r) (512 * n + j))
    (hG : ∀ dq dk dv : ℕ → ℕ → ℝ, G ⟨arr dq, arr dk, arr dv, (stAt Q K Vv O DK DV b n).run, (stAt Q K Vv O DK DV b n).grun⟩
      = ⟨arr fun r c => dq r c + ∑ j ∈ Finset.range 512, D r j * K (512 * n + j) c,
         arr fun j c => dk j c + ∑ r ∈ Finset.range 512, D r j * Q (512 * b + r) c,
         arr fun j c => dv j c + ∑ r ∈ Finset.range 512, W r j * O (512 * b + r) c,
         arr fun r _ => (∑ s ∈ Finset.Ico 0 (512 * n), lk (zg Q K) (512 * b + r) s) + ∑ j ∈ Finset.range 512, L r j,
         arr fun r _ => (∑ s ∈ Finset.Ico 0 (512 * n), agw Q K Vv O (512 * b + r) s) + ∑ j ∈ Finset.range 512, W r j * zg O Vv (512 * b + r) (512 * n + j)⟩) :
    stepSt G off inb (stAt Q K Vv O DK DV b n) = stAt Q K Vv O DK DV b (n + 1) := by
  have e512 : 512 * (n + 1) = 512 * n + 512 := by omega
  unfold stepSt
  have hr := rowsOf_arr (fun s c => DK s c + if s < 512 * n then dkAdd Q K Vv O b s c else 0) off inb _ ho
  have hr' := rowsOf_arr (fun s c => DV s c + if s < 512 * n then dvAdd Q K O b s c else 0) off inb _ ho
  have hg := hG (fun r c => ∑ s ∈ Finset.Ico 0 (512 * n), adz Q K Vv O (512 * b + r) s * K s c) (fun r c => DK (512 * n + r) c + if 512 * n + r < 512 * n then dkAdd Q K Vv O b (512 * n + r) c else 0)
    (fun r c => DV (512 * n + r) c + if 512 * n + r < 512 * n then dvAdd Q K O b (512 * n + r) c else 0)
  rw [← hr, ← hr'] at hg
  have hg2 := hg
  refine (congrArg (fun g : Grads => (⟨g.dq, setRows (stAt Q K Vv O DK DV b n).dk off g.dk, setRows (stAt Q K Vv O DK DV b n).dv off g.dv, g.run, g.grun⟩ : St)) hg).trans ?_
  refine st_ext _ _ ?_ ?_ ?_ ?_ ?_ <;> dsimp only [stAt]
  · refine arr_congr fun r c h _ => ?_
    rw [e512, ← Finset.sum_Ico_consecutive _ (Nat.zero_le (512 * n)) (by omega : 512 * n ≤ 512 * n + 512), ← group_ico]
    exact congrArg _ (Finset.sum_congr rfl fun j hj => by rw [hD r j h (Finset.mem_range.mp hj)])
  · refine put_group DK (dkAdd Q K Vv O b) n _ off ho fun j c hj _ => ?_
    refine congrArg _ (Finset.sum_congr rfl fun r hr => ?_)
    rw [hD r j (Finset.mem_range.mp hr) hj]
  · refine put_group DV (dvAdd Q K O b) n _ off ho fun j c hj _ => ?_
    refine congrArg _ (Finset.sum_congr rfl fun r hr => ?_)
    rw [hW r j (Finset.mem_range.mp hr) hj]
  · refine arr_congr fun r c h _ => ?_
    rw [e512, ← Finset.sum_Ico_consecutive _ (Nat.zero_le (512 * n)) (by omega : 512 * n ≤ 512 * n + 512), ← group_ico]
    exact congrArg _ (Finset.sum_congr rfl fun j hj => by rw [hL r j h (Finset.mem_range.mp hj)])
  · refine arr_congr fun r c h _ => ?_
    rw [e512, ← Finset.sum_Ico_consecutive _ (Nat.zero_le (512 * n)) (by omega : 512 * n ≤ 512 * n + 512), ← group_ico]
    exact congrArg _ (Finset.sum_congr rfl fun j hj => by rw [hW r j h (Finset.mem_range.mp hj)]; rfl)

/-- A group below the diagonal. -/
theorem step_below (b n : ℕ) (hn : n < b) (hb : b < 8) (off : Fin 2 → ℕ) (inb) (ho : off = ![512 * n, 0]) :
    stepSt (bwdGroup (arr fun r c => Q (512 * b + r) c) (arr fun r c => O (512 * b + r) c) (arr uUpto) (arr fun r c => K (512 * n + r) c) (arr fun r c => Vv (512 * n + r) c) (arr fun r _ => at0 Q K (512 * b + r)))
      off inb (stAt Q K Vv O DK DV b n) = stAt Q K Vv O DK DV b (n + 1) := by
  let z : ℕ → ℕ → ℝ := fun r j => zg Q K (512 * b + r) (512 * n + j)
  let d : ℕ → ℕ → ℝ := fun r j => zg O Vv (512 * b + r) (512 * n + j)
  let run : ℕ → ℝ := fun r => ∑ s ∈ Finset.Ico 0 (512 * n), lk (zg Q K) (512 * b + r) s
  let grun : ℕ → ℝ := fun r => ∑ s ∈ Finset.Ico 0 (512 * n), agw Q K Vv O (512 * b + r) s
  have hL : ∀ r j, r < 512 → j < 512 → keep z r j = lk (zg Q K) (512 * b + r) (512 * n + j) := fun r j hr hj => by
    rw [lk, if_pos (by omega)]; rfl
  have hW : ∀ r j, r < 512 → j < 512 → wt z (keep z) (fun r => at0 Q K (512 * b + r)) run r j = aw (zg Q K) (512 * b + r) (512 * n + j) := fun r j hr hj => by
    rw [aw, if_pos (by omega), ← bwd_wt (zg Q K) (512 * b + r) (512 * n) j hj (by omega) (keep z r) fun s hs => hL r s hr hs]; rfl
  refine step_st Q K Vv O DK DV b n _ off inb ho (keep z) (wt z (keep z) (fun r => at0 Q K (512 * b + r)) run)
    (dz z (wt z (keep z) (fun r => at0 Q K (512 * b + r)) run) d grun) hL hW (fun r j hr hj => ?_) fun dq dk dv => ?_
  · exact bwd_dz (zg Q K) (zg O Vv) (512 * b + r) (512 * n) j hj _ (fun s hs => hW r s hr hs) (by omega)
  · exact bwdGroup_arr _ _ _ _ _ run grun dq dk dv z d _ _ _ rfl rfl rfl rfl rfl

/-- The group on the diagonal. -/
theorem step_diag (i : grid1.Coords) (b : ℕ) (hb : b < 8) (off : Fin 2 → ℕ) (inb) (ho : off = ![512 * b, 0]) :
    stepSt (bwdDiag i (arr fun r c => Q (512 * b + r) c) (arr fun r c => O (512 * b + r) c) (arr uUpto) (arr fun r c => K (512 * b + r) c) (arr fun r c => Vv (512 * b + r) c) (arr fun r _ => at0 Q K (512 * b + r)))
      off inb (stAt Q K Vv O DK DV b b) = stAt Q K Vv O DK DV b (b + 1) := by
  let z : ℕ → ℕ → ℝ := fun r j => zg Q K (512 * b + r) (512 * b + j)
  let d : ℕ → ℕ → ℝ := fun r j => zg O Vv (512 * b + r) (512 * b + j)
  let run : ℕ → ℝ := fun r => ∑ s ∈ Finset.Ico 0 (512 * b), lk (zg Q K) (512 * b + r) s
  let grun : ℕ → ℝ := fun r => ∑ s ∈ Finset.Ico 0 (512 * b), agw Q K Vv O (512 * b + r) s
  let L : ℕ → ℕ → ℝ := fun r j => if j < r then keep z r j else 0
  let W : ℕ → ℕ → ℝ := fun r j => if j < r then wt z L (fun r => at0 Q K (512 * b + r)) run r j else 0
  have hL : ∀ r j, r < 512 → j < 512 → L r j = lk (zg Q K) (512 * b + r) (512 * b + j) := fun r j hr hj => if_congr (by omega) rfl rfl
  have hW : ∀ r j, r < 512 → j < 512 → W r j = aw (zg Q K) (512 * b + r) (512 * b + j) := fun r j hr hj => by
    rw [aw, ← bwd_wt (zg Q K) (512 * b + r) (512 * b) j hj (by omega) (L r) fun s hs => hL r s hr hs]
    exact if_congr (by omega) rfl rfl
  refine step_st Q K Vv O DK DV b b _ off inb ho L W (fun r j => if j < r then dz z W d grun r j else 0) hL hW (fun r j hr hj => ?_) fun dq dk dv => ?_
  · by_cases h : j < r
    · exact (if_pos h).trans (bwd_dz (zg Q K) (zg O Vv) (512 * b + r) (512 * b) j hj _ (fun s hs => hW r s hr hs) (by omega))
    · exact (if_neg h).trans (if_neg (by omega)).symm
  · exact bwdDiag_arr _ _ _ _ _ run grun dq dk dv i z d L W _ rfl rfl rfl rfl rfl

end Cert.AttnIdeal.Value
-- ==== Proof.AttnBwdSum.lean ====
/- What a block of the backward attention kernel leaves, as real sums over the rows of the head before it. -/
module

public import proofs.«01_k».proof.Proof.AttnBwdOut
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (Q K Vv O : ℕ → ℕ → ℝ)

/-- A row of the query gradient. -/
def dqSum (t c : ℕ) : ℝ := ∑ s ∈ Finset.Ico 0 4096, adz Q K Vv O t s * K s c
/-- A row of the key gradient and one of the value gradient, over the first `n` rows of the head. -/
def dkSum (n s c : ℕ) : ℝ := ∑ t ∈ Finset.Ico 0 n, adz Q K Vv O t s * Q t c
def dvSum (n s c : ℕ) : ℝ := ∑ t ∈ Finset.Ico 0 n, aw (zg Q K) t s * O t c

theorem adz_late (t s : ℕ) (h : t ≤ s) : adz Q K Vv O t s = 0 := if_neg (by omega)
theorem aw_late (z : ℕ → ℕ → ℝ) (t s : ℕ) (h : t ≤ s) : aw z t s = 0 := if_neg (by omega)

theorem dq_all (b r c : ℕ) (hb : b < 8) (hr : r < 512) :
    (∑ s ∈ Finset.Ico 0 (512 * (b + 1)), adz Q K Vv O (512 * b + r) s * K s c) = dqSum Q K Vv O (512 * b + r) c := by
  unfold dqSum
  rw [← Finset.sum_Ico_consecutive _ (Nat.zero_le (512 * (b + 1))) (by omega : 512 * (b + 1) ≤ 4096),
    Finset.sum_eq_zero (s := Finset.Ico (512 * (b + 1)) 4096) fun s hs => by
      rw [adz_late _ _ _ _ _ _ (by have := (Finset.mem_Ico.mp hs).1; omega), zero_mul], add_zero]

theorem dk_next (b s c : ℕ) : (dkSum Q K Vv O (512 * b) s c + if s < 512 * (b + 1) then dkAdd Q K Vv O b s c else 0) = dkSum Q K Vv O (512 * (b + 1)) s c := by
  have e : 512 * (b + 1) = 512 * b + 512 := by omega
  unfold dkSum
  rw [e, ← Finset.sum_Ico_consecutive _ (Nat.zero_le (512 * b)) (by omega : 512 * b ≤ 512 * b + 512), ← group_ico]
  congr 1
  by_cases h : s < 512 * b + 512
  · rw [if_pos h]; rfl
  · rw [if_neg h]
    exact (Finset.sum_eq_zero fun r hr => by
      rw [adz_late _ _ _ _ _ _ (by have := Finset.mem_range.mp hr; omega), zero_mul]).symm

theorem dv_next (b s c : ℕ) : (dvSum Q K O (512 * b) s c + if s < 512 * (b + 1) then dvAdd Q K O b s c else 0) = dvSum Q K O (512 * (b + 1)) s c := by
  have e : 512 * (b + 1) = 512 * b + 512 := by omega
  unfold dvSum
  rw [e, ← Finset.sum_Ico_consecutive _ (Nat.zero_le (512 * b)) (by omega : 512 * b ≤ 512 * b + 512), ← group_ico]
  congr 1
  by_cases h : s < 512 * b + 512
  · rw [if_pos h]; rfl
  · rw [if_neg h]
    exact (Finset.sum_eq_zero fun r hr => by
      rw [aw_late _ _ _ (by have := Finset.mem_range.mp hr; omega), zero_mul]).symm

theorem dk_first (b s c : ℕ) (hb : b = 0) : (0 + if s < 512 * (b + 1) then dkAdd Q K Vv O b s c else 0) = dkSum Q K Vv O (512 * (b + 1)) s c := by
  subst hb
  rw [← dk_next]
  rfl

theorem dv_first (b s c : ℕ) (hb : b = 0) : (0 + if s < 512 * (b + 1) then dvAdd Q K O b s c else 0) = dvSum Q K O (512 * (b + 1)) s c := by
  subst hb
  rw [← dv_next]
  rfl

theorem pay134 : (k1_pay134 (F := Ideal)) = arr fun _ _ => 0 := by unfold k1_pay134; exact zero_arr
theorem pay129 : (k1_pay129 (F := Ideal)) = arr fun _ _ => 0 := by unfold k1_pay129; exact zero_arr
theorem pay130 : (k1_pay130 (F := Ideal)) = arr fun _ _ => 0 := by unfold k1_pay130; exact zero_arr
theorem pay135 : (k1_pay135 (F := Ideal)) = arr fun _ _ => 0 := by unfold k1_pay135; exact (congrArg (fun v => shapeCast S512x128 v shapeCasts_S512x128_S512x128) zero_arr).trans (cast_arr _ _)
theorem pay136 : (k1_pay136 (F := Ideal)) = arr fun _ _ => 0 := by unfold k1_pay136; exact (congrArg (fun v => shapeCast S512x128 v shapeCasts_S512x128_S512x128) zero_arr).trans (cast_arr _ _)

theorem stAt_start (DK DV : ℕ → ℕ → ℝ) (b : ℕ) : stAt Q K Vv O DK DV b 0 = ⟨k1_pay134 (F := Ideal), arr DK, arr DV, k1_pay135 (F := Ideal), k1_pay136 (F := Ideal)⟩ := by
  rw [pay134, pay135, pay136]
  refine st_ext _ _ ?_ ?_ ?_ ?_ ?_ <;> dsimp only [stAt]
  · exact arr_congr fun r c _ _ => by simp only [Nat.mul_zero, Finset.Ico_self, Finset.sum_empty]
  · exact arr_congr fun s c _ _ => by rw [if_neg (by omega), add_zero]
  · exact arr_congr fun s c _ _ => by rw [if_neg (by omega), add_zero]
  · exact arr_congr fun r c _ _ => by simp only [Nat.mul_zero, Finset.Ico_self, Finset.sum_empty]
  · exact arr_congr fun r c _ _ => by simp only [Nat.mul_zero, Finset.Ico_self, Finset.sum_empty]

theorem stAt_first (b : ℕ) : stAt Q K Vv O (fun _ _ => 0) (fun _ _ => 0) b 0 = ⟨k1_pay134 (F := Ideal), k1_pay129 (F := Ideal), k1_pay130 (F := Ideal), k1_pay135 (F := Ideal), k1_pay136 (F := Ideal)⟩ := by
  rw [stAt_start, pay129, pay130]

/-- A block's three results when the head's gradients start from what is named. -/
theorem out_first_arr (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : cond1_0 i) (hz : (i 1).val = 0) :
    out1_A_6 (F := Ideal) c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) = arr (fun r c => dqSum Q K Vv O (512 * (i 1).val + r) c)
    ∧ out1_A_7 (F := Ideal) c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) = arr (dkSum Q K Vv O (512 * ((i 1).val + 1)))
    ∧ out1_A_8 (F := Ideal) c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) = arr (dvSum Q K O (512 * ((i 1).val + 1))) := by
  have hb : (i 1).val < 8 := (i 1).isLt
  have h0 := stAt_first Q K Vv O (i 1).val
  have hS : ∀ k : Fin (k1_t1_loop i).trips, stAt Q K Vv O (fun _ _ => 0) (fun _ _ => 0) (i 1).val (k.val + 1) = stepSt (bwdGroup (arr fun r c => Q (512 * (i 1).val + r) c) (arr fun r c => O (512 * (i 1).val + r) c) (arr uUpto) (slabAt m3 (h3.unread (arr K)) (k1_off1 i k) (k1_off1_inb i k)) (slabAt m4 (h4.unread (arr Vv)) (k1_off1 i k) (k1_off1_inb i k)) (arr fun r _ => at0 Q K (512 * (i 1).val + r))) (k1_off1 i k) (k1_off1_inb i k) (stAt Q K Vv O (fun _ _ => 0) (fun _ _ => 0) (i 1).val k.val) := fun k => by
    rw [slabAt_arr m3 h3 (arr K) K rfl _ _ _ (loop_off' i k), slabAt_arr m4 h4 (arr Vv) Vv rfl _ _ _ (loop_off' i k)]
    exact (step_below Q K Vv O (fun _ _ => 0) (fun _ _ => 0) (i 1).val k.val (lt_of_lt_of_eq k.isLt (trips_bwd i)) hb _ _ (loop_off' i k)).symm
  have hD := step_diag Q K Vv O (fun _ _ => 0) (fun _ _ => 0) i (i 1).val hb (k1_off3 i) (k1_off3_inb i) (diag_off' i)
  rw [← slabAt_arr m3 h3 (arr K) K rfl _ (k1_off3_inb i) _ (diag_off' i), ← slabAt_arr m4 h4 (arr Vv) Vv rfl _ (k1_off3_inb i) _ (diag_off' i)] at hD
  refine ⟨?_, ?_, ?_⟩
  · refine (out_first_dq c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) _ h0 hS).trans ((congrArg St.dq hD).trans ?_)
    exact arr_congr fun r c hr _ => dq_all Q K Vv O (i 1).val r c hb hr
  · refine (out_first_dk c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) _ h0 hS).trans ((congrArg St.dk hD).trans ?_)
    exact arr_congr fun s c _ _ => dk_first Q K Vv O (i 1).val s c hz
  · refine (out_first_dv c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) _ h0 hS).trans ((congrArg St.dv hD).trans ?_)
    exact arr_congr fun s c _ _ => dv_first Q K O (i 1).val s c hz

/-- A block's three results when the head's gradients start from what is named. -/
theorem out_next_arr (c : Dev nD) (i : grid1.Coords) (m2 : Memref sig .tc .vmem S512x128 .bf16) (h2 : m2.IsWhole) (m3 : Memref sig .tc .vmem S4096x128 .bf16) (h3 : m3.IsWhole) (m4 : Memref sig .tc .vmem S4096x128 .bf16) (h4 : m4.IsWhole) (m5 : Memref sig .tc .vmem S512x128 .f32) (h5 : m5.IsWhole) (m6 : Memref sig .tc .vmem S512x128 .bf16) (h6 : m6.IsWhole) (m7 : Memref sig .tc .vmem S256x256 .bf16) (h7 : m7.IsWhole) (m8 : Memref sig .tc .vmem S512x128 .f32) (h8 : m8.IsWhole) (m9 : Memref sig .tc .vmem S4096x128 .f32) (h9 : m9.IsWhole) (m10 : Memref sig .tc .vmem S4096x128 .f32) (h10 : m10.IsWhole) (m11 : Memref sig .tc .vmem S512x128 .f32) (h11 : m11.IsWhole) (m12 : Memref sig .tc .vmem S512x128 .f32) (h12 : m12.IsWhole) (hc : ¬cond1_0 i) :
    out1_B_6 (F := Ideal) c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) (arr (dkSum Q K Vv O (512 * (i 1).val))) (arr (dvSum Q K O (512 * (i 1).val))) = arr (fun r c => dqSum Q K Vv O (512 * (i 1).val + r) c)
    ∧ out1_B_7 (F := Ideal) c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) (arr (dkSum Q K Vv O (512 * (i 1).val))) (arr (dvSum Q K O (512 * (i 1).val))) = arr (dkSum Q K Vv O (512 * ((i 1).val + 1)))
    ∧ out1_B_8 (F := Ideal) c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) (arr (dkSum Q K Vv O (512 * (i 1).val))) (arr (dvSum Q K O (512 * (i 1).val))) = arr (dvSum Q K O (512 * ((i 1).val + 1))) := by
  have hb : (i 1).val < 8 := (i 1).isLt
  have h0 := stAt_start Q K Vv O (dkSum Q K Vv O (512 * (i 1).val)) (dvSum Q K O (512 * (i 1).val)) (i 1).val
  have hS : ∀ k : Fin (k1_t1_loop i).trips, stAt Q K Vv O (dkSum Q K Vv O (512 * (i 1).val)) (dvSum Q K O (512 * (i 1).val)) (i 1).val (k.val + 1) = stepSt (bwdGroup (arr fun r c => Q (512 * (i 1).val + r) c) (arr fun r c => O (512 * (i 1).val + r) c) (arr uUpto) (slabAt m3 (h3.unread (arr K)) (k1_off1 i k) (k1_off1_inb i k)) (slabAt m4 (h4.unread (arr Vv)) (k1_off1 i k) (k1_off1_inb i k)) (arr fun r _ => at0 Q K (512 * (i 1).val + r))) (k1_off1 i k) (k1_off1_inb i k) (stAt Q K Vv O (dkSum Q K Vv O (512 * (i 1).val)) (dvSum Q K O (512 * (i 1).val)) (i 1).val k.val) := fun k => by
    rw [slabAt_arr m3 h3 (arr K) K rfl _ _ _ (loop_off' i k), slabAt_arr m4 h4 (arr Vv) Vv rfl _ _ _ (loop_off' i k)]
    exact (step_below Q K Vv O (dkSum Q K Vv O (512 * (i 1).val)) (dvSum Q K O (512 * (i 1).val)) (i 1).val k.val (lt_of_lt_of_eq k.isLt (trips_bwd i)) hb _ _ (loop_off' i k)).symm
  have hD := step_diag Q K Vv O (dkSum Q K Vv O (512 * (i 1).val)) (dvSum Q K O (512 * (i 1).val)) i (i 1).val hb (k1_off3 i) (k1_off3_inb i) (diag_off' i)
  rw [← slabAt_arr m3 h3 (arr K) K rfl _ (k1_off3_inb i) _ (diag_off' i), ← slabAt_arr m4 h4 (arr Vv) Vv rfl _ (k1_off3_inb i) _ (diag_off' i)] at hD
  refine ⟨?_, ?_, ?_⟩
  · refine (out_next_dq c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) (arr (dkSum Q K Vv O (512 * (i 1).val))) (arr (dvSum Q K O (512 * (i 1).val))) _ h0 hS).trans ((congrArg St.dq hD).trans ?_)
    exact arr_congr fun r c hr _ => dq_all Q K Vv O (i 1).val r c hb hr
  · refine (out_next_dk c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) (arr (dkSum Q K Vv O (512 * (i 1).val))) (arr (dvSum Q K O (512 * (i 1).val))) _ h0 hS).trans ((congrArg St.dk hD).trans ?_)
    exact arr_congr fun s c _ _ => dk_next Q K Vv O (i 1).val s c
  · refine (out_next_dv c i m2 h2 m3 h3 m4 h4 m5 h5 m6 h6 m7 h7 m8 h8 m9 h9 m10 h10 m11 h11 m12 h12 hc (arr fun r c => Q (512 * (i 1).val + r) c) (arr K) (arr Vv) (arr fun r _ => at0 Q K (512 * (i 1).val + r)) (arr fun r c => O (512 * (i 1).val + r) c) (arr uUpto) (arr (dkSum Q K Vv O (512 * (i 1).val))) (arr (dvSum Q K O (512 * (i 1).val))) _ h0 hS).trans ((congrArg St.dv hD).trans ?_)
    exact arr_congr fun s c _ _ => dv_next Q K O (i 1).val s c

end Cert.AttnIdeal.Value
-- ==== Proof.AttnFwdArr.lean ====
/- The forward attention kernel over its whole grid: the output and the total log survival of every row and head. -/
module

public import proofs.«01_k».proof.Proof.AttnBwdSum
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- A head's columns of an array. -/
def head (f : ℕ → ℕ → ℝ) (h t c : ℕ) : ℝ := f t (128 * h + c)

/-- The output and the total log survival of every head side by side. -/
def aoAll (q k v : ℕ → ℕ → ℝ) (t c : ℕ) : ℝ := ao (head q (c / 128)) (head k (c / 128)) (head v (c / 128)) t (c % 128)
def totAll (q k : ℕ → ℕ → ℝ) (t c : ℕ) : ℝ := at0 (head q (c / 128)) (head k (c / 128)) t

/-- Where the forward windows' blocks lie. -/
theorem idx0 : ∀ t : Fin cfg0.N, win0_0.index t = ![t.val % 8, t.val / 8] ∧ win0_1.index t = ![0, t.val / 8] ∧ win0_2.index t = ![0, t.val / 8] ∧ win0_3.index t = ![0, 0]
    ∧ win0_4.index t = ![t.val % 8, t.val / 8] ∧ win0_5.index t = ![t.val % 8, t.val / 8] ∧ (grid0.coords t 1).val = t.val % 8 :=
  (by decide +kernel : ∀ t : Fin grid0.N, _)

variable (V : (c : Dev nD) → (b : Ref sig .tc) → Buf (Elt Ideal) ((c : Thread nD τ).loc b)) (q k v : ℕ → ℕ → ℝ) (c : Dev nD)

theorem blk0_q (h : (V c main_v0 : Vec Ideal S4096x2048 .bf16) = arr q) (t : Fin cfg0.N) :
    iblk0 V c 0 t = (arr fun r j => head q (t.val / 8) (512 * (grid0.coords t 1).val + r) j : Vec Ideal S512x128 .bf16) := by
  funext y
  show (V c main_v0 : Vec Ideal S4096x2048 .bf16) _ = _
  rw [h, (idx0 t).2.2.2.2.2.2]
  unfold arr
  blk_simp [idx0 t]
  exact congrArg₂ (fun a b => ((q a b : ℝ) : EReal)) (by omega) (by omega)

theorem blk0_k (h : (V c main_v1 : Vec Ideal S4096x2048 .bf16) = arr k) (t : Fin cfg0.N) :
    iblk0 V c 1 t = (arr (head k (t.val / 8)) : Vec Ideal S4096x128 .bf16) := by
  funext y
  show (V c main_v1 : Vec Ideal S4096x2048 .bf16) _ = _
  rw [h]
  unfold arr
  blk_simp [idx0 t]
  exact congrArg₂ (fun a b => ((k a b : ℝ) : EReal)) (by omega) (by omega)

theorem blk0_v (h : (V c main_v2 : Vec Ideal S4096x2048 .bf16) = arr v) (t : Fin cfg0.N) :
    iblk0 V c 2 t = (arr (head v (t.val / 8)) : Vec Ideal S4096x128 .bf16) := by
  funext y
  show (V c main_v2 : Vec Ideal S4096x2048 .bf16) _ = _
  rw [h]
  unfold arr
  blk_simp [idx0 t]
  exact congrArg₂ (fun a b => ((v a b : ℝ) : EReal)) (by omega) (by omega)

theorem blk0_u (h : (V c main_v13 : Vec Ideal S256x256 .bf16) = arr uAfter) (t : Fin cfg0.N) : iblk0 V c 3 t = (arr uAfter : Vec Ideal S256x256 .bf16) := by
  funext y
  show (V c main_v13 : Vec Ideal S256x256 .bf16) _ = _
  rw [h]
  unfold arr
  blk_simp [idx0 t]

/-- The output after the run. -/
theorem final0_4 (hq : (V c main_v0 : Vec Ideal S4096x2048 .bf16) = arr q) (hk : (V c main_v1 : Vec Ideal S4096x2048 .bf16) = arr k)
    (hv : (V c main_v2 : Vec Ideal S4096x2048 .bf16) = arr v) (hu : (V c main_v13 : Vec Ideal S256x256 .bf16) = arr uAfter) :
    (dat0 V c).arrAt 4 cfg0.N = (arr (aoAll q k v) : Vec Ideal S4096x2048 .bf16) := by
  refine (dat0 V c).arrAt_eq_of_covers 4 _ (by decide +kernel) fun t _ y => ?_
  blk_simp
  rw [after0_4]
  unfold outsAt0
  dsimp only
  rw [blk0_q V q c hq t, blk0_k V k c hk t, blk0_v V v c hv t, blk0_u V c hu t,
    (out_fwd_arr (head q (t.val / 8)) (head k (t.val / 8)) (head v (t.val / 8)) c (grid0.coords t) _ _ _ _ _ _ _ _ _ _ _ _ _ _ _ _).1, (idx0 t).2.2.2.2.2.2]
  unfold arr
  blk_simp [idx0 t]
  have h1 : (y 1).val < 128 := (y 1).isLt
  have h0 : (y 0).val < 512 := (y 0).isLt
  refine congrArg (fun x : ℝ => (x : EReal)) ?_
  unfold aoAll
  rw [show (t.val / 8 * 128 + (y 1).val) / 128 = t.val / 8 by omega, show (t.val / 8 * 128 + (y 1).val) % 128 = (y 1).val by omega,
    show t.val % 8 * 512 + (y 0).val = 512 * (t.val % 8) + (y 0).val by omega]

/-- The total log survival after the run. -/
theorem final0_5 (hq : (V c main_v0 : Vec Ideal S4096x2048 .bf16) = arr q) (hk : (V c main_v1 : Vec Ideal S4096x2048 .bf16) = arr k)
    (hv : (V c main_v2 : Vec Ideal S4096x2048 .bf16) = arr v) (hu : (V c main_v13 : Vec Ideal S256x256 .bf16) = arr uAfter) :
    (dat0 V c).arrAt 5 cfg0.N = (arr (totAll q k) : Vec Ideal S4096x2048 .f32) := by
  refine (dat0 V c).arrAt_eq_of_covers 5 _ (by decide +kernel) fun t _ y => ?_
  blk_simp
  rw [after0_5]
  unfold outsAt0
  dsimp only
  rw [blk0_q V q c hq t, blk0_k V k c hk t, blk0_v V v c hv t, blk0_u V c hu t,
    (out_fwd_arr (head q (t.val / 8)) (head k (t.val / 8)) (head v (t.val / 8)) c (grid0.coords t) _ _ _ _ _ _ _ _ _ _ _ _ _ _ _ _).2, (idx0 t).2.2.2.2.2.2]
  unfold arr
  blk_simp [idx0 t]
  have h1 : (y 1).val < 128 := (y 1).isLt
  have h0 : (y 0).val < 512 := (y 0).isLt
  refine congrArg (fun x : ℝ => (x : EReal)) ?_
  unfold totAll
  rw [show (t.val / 8 * 128 + (y 1).val) / 128 = t.val / 8 by omega, show t.val % 8 * 512 + (y 0).val = 512 * (t.val % 8) + (y 0).val by omega]

end Cert.AttnIdeal.Value
-- ==== Proof.AttnBwdArr.lean ====
/- The backward attention kernel over its whole grid: the gradients of the queries, the keys and the values of every head. -/
module

public import proofs.«01_k».proof.Proof.AttnFwdArr
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- The gradients of every head side by side. -/
def dqAll (q k v o : ℕ → ℕ → ℝ) (t c : ℕ) : ℝ := dqSum (head q (c / 128)) (head k (c / 128)) (head v (c / 128)) (head o (c / 128)) t (c % 128)
def dkAll (q k v o : ℕ → ℕ → ℝ) (s c : ℕ) : ℝ := dkSum (head q (c / 128)) (head k (c / 128)) (head v (c / 128)) (head o (c / 128)) 4096 s (c % 128)
def dvAll (q k o : ℕ → ℕ → ℝ) (s c : ℕ) : ℝ := dvSum (head q (c / 128)) (head k (c / 128)) (head o (c / 128)) 4096 s (c % 128)

/-- Where the backward windows' blocks lie. -/
theorem idx1 : ∀ t : Fin cfg1.N, win1_0.index t = ![t.val % 8, t.val / 8] ∧ win1_1.index t = ![0, t.val / 8] ∧ win1_2.index t = ![0, t.val / 8] ∧ win1_3.index t = ![t.val % 8, t.val / 8]
    ∧ win1_4.index t = ![t.val % 8, t.val / 8] ∧ win1_5.index t = ![0, 0] ∧ win1_6.index t = ![t.val % 8, t.val / 8] ∧ win1_7.index t = ![0, t.val / 8] ∧ win1_8.index t = ![0, t.val / 8]
    ∧ (grid1.coords t 1).val = t.val % 8 :=
  (by decide +kernel : ∀ t : Fin grid1.N, _)

variable (V : (c : Dev nD) → (b : Ref sig .tc) → Buf (Elt Ideal) ((c : Thread nD τ).loc b)) (q k v o : ℕ → ℕ → ℝ) (c : Dev nD)

theorem blk1_q (h : (V c main_v0 : Vec Ideal S4096x2048 .bf16) = arr q) (t : Fin cfg1.N) :
    iblk1 V c 0 t = (arr fun r j => head q (t.val / 8) (512 * (grid1.coords t 1).val + r) j : Vec Ideal S512x128 .bf16) := by
  funext y
  show (V c main_v0 : Vec Ideal S4096x2048 .bf16) _ = _
  rw [h, (idx1 t).2.2.2.2.2.2.2.2.2]
  unfold arr
  blk_simp [idx1 t]
  exact congrArg₂ (fun a b => ((q a b : ℝ) : EReal)) (by omega) (by omega)

theorem blk1_k (h : (V c main_v1 : Vec Ideal S4096x2048 .bf16) = arr k) (t : Fin cfg1.N) :
    iblk1 V c 1 t = (arr (head k (t.val / 8)) : Vec Ideal S4096x128 .bf16) := by
  funext y
  show (V c main_v1 : Vec Ideal S4096x2048 .bf16) _ = _
  rw [h]
  unfold arr
  blk_simp [idx1 t]
  exact congrArg₂ (fun a b => ((k a b : ℝ) : EReal)) (by omega) (by omega)

theorem blk1_v (h : (V c main_v2 : Vec Ideal S4096x2048 .bf16) = arr v) (t : Fin cfg1.N) :
    iblk1 V c 2 t = (arr (head v (t.val / 8)) : Vec Ideal S4096x128 .bf16) := by
  funext y
  show (V c main_v2 : Vec Ideal S4096x2048 .bf16) _ = _
  rw [h]
  unfold arr
  blk_simp [idx1 t]
  exact congrArg₂ (fun a b => ((v a b : ℝ) : EReal)) (by omega) (by omega)

theorem blk1_o (h : (V c main_v3 : Vec Ideal S4096x2048 .bf16) = arr o) (t : Fin cfg1.N) :
    iblk1 V c 4 t = (arr fun r j => head o (t.val / 8) (512 * (grid1.coords t 1).val + r) j : Vec Ideal S512x128 .bf16) := by
  funext y
  show (V c main_v3 : Vec Ideal S4096x2048 .bf16) _ = _
  rw [h, (idx1 t).2.2.2.2.2.2.2.2.2]
  unfold arr
  blk_simp [idx1 t]
  exact congrArg₂ (fun a b => ((o a b : ℝ) : EReal)) (by omega) (by omega)

theorem blk1_u (h : (V c main_v24 : Vec Ideal S256x256 .bf16) = arr uUpto) (t : Fin cfg1.N) : iblk1 V c 5 t = (arr uUpto : Vec Ideal S256x256 .bf16) := by
  funext y
  show (V c main_v24 : Vec Ideal S256x256 .bf16) _ = _
  rw [h]
  unfold arr
  blk_simp [idx1 t]

theorem blk1_t (h : (V c main_v14_1 : Vec Ideal S4096x2048 .f32) = arr (totAll q k)) (t : Fin cfg1.N) :
    iblk1 V c 3 t = (arr fun r _ => at0 (head q (t.val / 8)) (head k (t.val / 8)) (512 * (grid1.coords t 1).val + r) : Vec Ideal S512x128 .f32) := by
  funext y
  have h1 : (y 1).val < 128 := (y 1).isLt
  show (V c main_v14_1 : Vec Ideal S4096x2048 .f32) _ = _
  rw [h, (idx1 t).2.2.2.2.2.2.2.2.2]
  unfold arr
  blk_simp [idx1 t]
  refine congrArg (fun x : ℝ => (x : EReal)) ?_
  unfold totAll
  rw [show (t.val / 8 * 128 + (y 1).val) / 128 = t.val / 8 by omega, show t.val % 8 * 512 + (y 0).val = 512 * (t.val % 8) + (y 0).val by omega]

/-- What the outputs hold after a point: the query gradient of its rows, the key and value gradients of the head up to them. -/
def Holds (t : Fin cfg1.N) (x : Vec Ideal S512x128 .f32 × Vec Ideal S4096x128 .f32 × Vec Ideal S4096x128 .f32) : Prop :=
  x.1 = (arr fun r j => dqSum (head q (t.val / 8)) (head k (t.val / 8)) (head v (t.val / 8)) (head o (t.val / 8)) (512 * (grid1.coords t 1).val + r) j)
  ∧ x.2.1 = arr (dkSum (head q (t.val / 8)) (head k (t.val / 8)) (head v (t.val / 8)) (head o (t.val / 8)) (512 * ((grid1.coords t 1).val + 1)))
  ∧ x.2.2 = arr (dvSum (head q (t.val / 8)) (head k (t.val / 8)) (head o (t.val / 8)) (512 * ((grid1.coords t 1).val + 1)))

theorem holds_first (hq : (V c main_v0 : Vec Ideal S4096x2048 .bf16) = arr q) (hk : (V c main_v1 : Vec Ideal S4096x2048 .bf16) = arr k)
    (hv : (V c main_v2 : Vec Ideal S4096x2048 .bf16) = arr v) (ht : (V c main_v14_1 : Vec Ideal S4096x2048 .f32) = arr (totAll q k))
    (ho : (V c main_v3 : Vec Ideal S4096x2048 .bf16) = arr o) (hu : (V c main_v24 : Vec Ideal S256x256 .bf16) = arr uUpto) (t : Fin cfg1.N) (h0 : t.val % 8 = 0) : Holds q k v o t (outsAt1 V c t.val t.isLt) := by
  rw [outsAt1_A V c t h0, blk1_q V q c hq t, blk1_k V k c hk t, blk1_v V v c hv t, blk1_t V q k c ht t, blk1_o V o c ho t, blk1_u V c hu t]
  unfold Holds
  dsimp only
  refine ⟨?_, ?_, ?_⟩
  · rw [(out_first_arr (head q (t.val / 8)) (head k (t.val / 8)) (head v (t.val / 8)) (head o (t.val / 8)) c (grid1.coords t) _ _ _ _ _ _ _ _ _ _ _ _ _ _ _ _ _ _ _ _ _ _ _ ((idx1 t).2.2.2.2.2.2.2.2.2.trans h0)).1]
  · rw [(out_first_arr (head q (t.val / 8)) (head k (t.val / 8)) (head v (t.val / 8)) (head o (t.val / 8)) c (grid1.coords t) _ _ _ _ _ _ _ _ _ _ _ _ _ _ _ _ _ _ _ _ _ _ _ ((idx1 t).2.2.2.2.2.2.2.2.2.trans h0)).2.1]
  · rw [(out_first_arr (head q (t.val / 8)) (head k (t.val / 8)) (head v (t.val / 8)) (head o (t.val / 8)) c (grid1.coords t) _ _ _ _ _ _ _ _ _ _ _ _ _ _ _ _ _ _ _ _ _ _ _ ((idx1 t).2.2.2.2.2.2.2.2.2.trans h0)).2.2]

theorem holds_next (hq : (V c main_v0 : Vec Ideal S4096x2048 .bf16) = arr q) (hk : (V c main_v1 : Vec Ideal S4096x2048 .bf16) = arr k)
    (hv : (V c main_v2 : Vec Ideal S4096x2048 .bf16) = arr v) (ht : (V c main_v14_1 : Vec Ideal S4096x2048 .f32) = arr (totAll q k))
    (ho : (V c main_v3 : Vec Ideal S4096x2048 .bf16) = arr o) (hu : (V c main_v24 : Vec Ideal S256x256 .bf16) = arr uUpto) (t : Fin cfg1.N) (h0 : ¬t.val % 8 = 0)
    (ih : Holds q k v o ⟨t.val - 1, Nat.lt_of_le_of_lt (Nat.sub_le _ _) t.isLt⟩ (outsAt1 V c (t.val - 1) (Nat.lt_of_le_of_lt (Nat.sub_le _ _) t.isLt))) :
    Holds q k v o t (outsAt1 V c t.val t.isLt) := by
  have e7 := ih.2.1
  have e8 := ih.2.2
  rw [(idx1 ⟨t.val - 1, _⟩).2.2.2.2.2.2.2.2.2] at e7 e8
  rw [show (t.val - 1) / 8 = t.val / 8 by omega, show 512 * ((t.val - 1) % 8 + 1) = 512 * (t.val % 8) by omega, ← (idx1 t).2.2.2.2.2.2.2.2.2] at e7 e8
  rw [outsAt1_B V c t h0, blk1_q V q c hq t, blk1_k V k c hk t, blk1_v V v c hv t, blk1_t V q k c ht t, blk1_o V o c ho t, blk1_u V c hu t, e7, e8]
  unfold Holds
  dsimp only
  refine ⟨?_, ?_, ?_⟩
  · rw [(out_next_arr (head q (t.val / 8)) (head k (t.val / 8)) (head v (t.val / 8)) (head o (t.val / 8)) c (grid1.coords t) _ _ _ _ _ _ _ _ _ _ _ _ _ _ _ _ _ _ _ _ _ _ _).1]
  · rw [(out_next_arr (head q (t.val / 8)) (head k (t.val / 8)) (head v (t.val / 8)) (head o (t.val / 8)) c (grid1.coords t) _ _ _ _ _ _ _ _ _ _ _ _ _ _ _ _ _ _ _ _ _ _ _).2.1]
  · rw [(out_next_arr (head q (t.val / 8)) (head k (t.val / 8)) (head v (t.val / 8)) (head o (t.val / 8)) c (grid1.coords t) _ _ _ _ _ _ _ _ _ _ _ _ _ _ _ _ _ _ _ _ _ _ _).2.2]

theorem holds_all (hq : (V c main_v0 : Vec Ideal S4096x2048 .bf16) = arr q) (hk : (V c main_v1 : Vec Ideal S4096x2048 .bf16) = arr k)
    (hv : (V c main_v2 : Vec Ideal S4096x2048 .bf16) = arr v) (ht : (V c main_v14_1 : Vec Ideal S4096x2048 .f32) = arr (totAll q k))
    (ho : (V c main_v3 : Vec Ideal S4096x2048 .bf16) = arr o) (hu : (V c main_v24 : Vec Ideal S256x256 .bf16) = arr uUpto) (n : ℕ) (h : n < cfg1.N) : Holds q k v o ⟨n, h⟩ (outsAt1 V c n h) := by
  induction n with
  | zero => exact holds_first V q k v o c hq hk hv ht ho hu ⟨0, h⟩ rfl
  | succ n ih =>
    by_cases h0 : (n + 1) % 8 = 0
    · exact holds_first V q k v o c hq hk hv ht ho hu ⟨n + 1, h⟩ h0
    · exact holds_next V q k v o c hq hk hv ht ho hu ⟨n + 1, h⟩ h0 (ih (Nat.lt_of_succ_lt h))

/-- The query gradient after the run. -/
theorem final1_6 (hq : (V c main_v0 : Vec Ideal S4096x2048 .bf16) = arr q) (hk : (V c main_v1 : Vec Ideal S4096x2048 .bf16) = arr k)
    (hv : (V c main_v2 : Vec Ideal S4096x2048 .bf16) = arr v) (ht : (V c main_v14_1 : Vec Ideal S4096x2048 .f32) = arr (totAll q k))
    (ho : (V c main_v3 : Vec Ideal S4096x2048 .bf16) = arr o) (hu : (V c main_v24 : Vec Ideal S256x256 .bf16) = arr uUpto) :
    (dat1 V c).arrAt 6 cfg1.N = (arr (dqAll q k v o) : Vec Ideal S4096x2048 .f32) := by
  refine (dat1 V c).arrAt_eq_of_covers 6 _ (by decide +kernel) fun t hf y => ?_
  blk_simp
  rw [after1_6, (holds_all V q k v o c hq hk hv ht ho hu t.val t.isLt).1, (idx1 t).2.2.2.2.2.2.2.2.2]
  unfold arr
  blk_simp [idx1 t]
  have h1 : (y 1).val < 128 := (y 1).isLt
  refine congrArg (fun x : ℝ => (x : EReal)) ?_
  unfold dqAll
  rw [show (t.val / 8 * 128 + (y 1).val) / 128 = t.val / 8 by omega, show (t.val / 8 * 128 + (y 1).val) % 128 = (y 1).val by omega,
    show t.val % 8 * 512 + (y 0).val = 512 * (t.val % 8) + (y 0).val by omega]

/-- The key gradient after the run. -/
theorem final1_7 (hq : (V c main_v0 : Vec Ideal S4096x2048 .bf16) = arr q) (hk : (V c main_v1 : Vec Ideal S4096x2048 .bf16) = arr k)
    (hv : (V c main_v2 : Vec Ideal S4096x2048 .bf16) = arr v) (ht : (V c main_v14_1 : Vec Ideal S4096x2048 .f32) = arr (totAll q k))
    (ho : (V c main_v3 : Vec Ideal S4096x2048 .bf16) = arr o) (hu : (V c main_v24 : Vec Ideal S256x256 .bf16) = arr uUpto) :
    (dat1 V c).arrAt 7 cfg1.N = (arr (dkAll q k v o) : Vec Ideal S4096x2048 .f32) := by
  refine (dat1 V c).arrAt_eq_of_covers 7 _ (by decide +kernel) fun t hf y => ?_
  blk_simp
  rw [after1_7, (holds_all V q k v o c hq hk hv ht ho hu t.val t.isLt).2.1, (idx1 t).2.2.2.2.2.2.2.2.2]
  have h7 := (flush1_7 t).mp hf
  rw [h7]
  unfold arr
  blk_simp [idx1 t]
  have h1 : (y 1).val < 128 := (y 1).isLt
  refine congrArg (fun x : ℝ => (x : EReal)) ?_
  unfold dkAll
  rw [show (t.val / 8 * 128 + (y 1).val) / 128 = t.val / 8 by omega, show (t.val / 8 * 128 + (y 1).val) % 128 = (y 1).val by omega]

/-- The value gradient after the run. -/
theorem final1_8 (hq : (V c main_v0 : Vec Ideal S4096x2048 .bf16) = arr q) (hk : (V c main_v1 : Vec Ideal S4096x2048 .bf16) = arr k)
    (hv : (V c main_v2 : Vec Ideal S4096x2048 .bf16) = arr v) (ht : (V c main_v14_1 : Vec Ideal S4096x2048 .f32) = arr (totAll q k))
    (ho : (V c main_v3 : Vec Ideal S4096x2048 .bf16) = arr o) (hu : (V c main_v24 : Vec Ideal S256x256 .bf16) = arr uUpto) :
    (dat1 V c).arrAt 8 cfg1.N = (arr (dvAll q k o) : Vec Ideal S4096x2048 .f32) := by
  refine (dat1 V c).arrAt_eq_of_covers 8 _ (by decide +kernel) fun t hf y => ?_
  blk_simp
  rw [after1_8, (holds_all V q k v o c hq hk hv ht ho hu t.val t.isLt).2.2, (idx1 t).2.2.2.2.2.2.2.2.2]
  have h7 := (flush1_8 t).mp hf
  rw [h7]
  unfold arr
  blk_simp [idx1 t]
  have h1 : (y 1).val < 128 := (y 1).isLt
  refine congrArg (fun x : ℝ => (x : EReal)) ?_
  unfold dvAll
  rw [show (t.val / 8 * 128 + (y 1).val) / 128 = t.val / 8 by omega, show (t.val / 8 * 128 + (y 1).val) % 128 = (y 1).val by omega]

end Cert.AttnIdeal.Value
-- ==== Proof.AttnHost.lean ====
/- What the host operations of the attention step leave for the two kernels: the four arguments, the 0/1 matrices,
   and the forward kernel's total log survival. -/
module

public import proofs.«01_k».proof.Proof.AttnBwdArr
public import Idealize.ShloMosaic.Lib.WordCmp
public import Idealize.ShloMosaic.Lib.IdealHost

@[expose] public section

set_option maxRecDepth 16384

noncomputable section

open Idealize.ShloMosaic Idealize.ShloMosaic.TcCoe Idealize.SL.Sem Idealize.ShloMosaic.WordCmp

namespace Cert.AttnIdeal.Value

open Cert.AttnIdeal Cert.AttnIdeal.Gen

variable (m : (ℓ : Loc nD τ sig) → Buf (Elt Ideal) ℓ) (ρ : Dev nD → PrngReg) (c : Dev nD)

/-- A word below 256 masked to its last seven bits. -/
theorem and127 : ∀ a : Fin 256, BitVec.ofNat 32 a.val &&& 127#32 = BitVec.ofNat 32 (a.val % 128) := by decide +kernel

/-- The 0/1 matrix of a relation between a row modulo 128 and a column, with ones from column 128 on. -/
def tri (p : CmpIPredicate) : Vec Ideal S256x256 .bf16 :=
  truncf .bf16 (select
    (ori (cmpi p (andi (iotaInDim S256x256 32 0) (broadcastInDim S256x256 ![] bcast_S_S256x256 (constantI S_ 32 127#32))) (iotaInDim S256x256 32 1))
      (cmpi .sge (iotaInDim S256x256 32 1) (broadcastInDim S256x256 ![] bcast_S_S256x256 (constantI S_ 32 128#32))))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

theorem tri_apply (p : CmpIPredicate) (P : ℕ → ℕ → Prop) [∀ a b, Decidable (P a b)]
    (hP : ∀ a b : ℕ, a < 2 ^ 31 → b < 2 ^ 31 → IntOp.cmpi p (BitVec.ofNat 32 a) (BitVec.ofNat 32 b) = BitVec.ofBool (decide (P a b))) :
    tri p = arr fun k c => if 128 ≤ c ∨ P (k % 128) c then 1 else 0 := by
  funext y
  have h0 : (y 0).val < 256 := (y 0).isLt
  have h1 : (y 1).val < 256 := (y 1).isLt
  show (if IntOp.cmpi p (BitVec.ofNat 32 (y 0).val &&& 127#32) (BitVec.ofNat 32 (y 1).val) ||| IntOp.cmpi .sge (BitVec.ofNat 32 (y 1).val) (BitVec.ofNat 32 128) = 1#1
    then Ideal.ofBits .f32 0x3F800000#32 else Ideal.ofBits .f32 0x00000000#32) = _
  rw [and127 ⟨(y 0).val, h0⟩, hP _ _ (by show (y 0).val % 128 < _; omega) (by omega), cmpi_sge_ofNat (by omega) (by omega),
    Ideal.ofBits_zero_f32, Ideal.ofBits_one_f32]
  show _ = (((if 128 ≤ (y 1).val ∨ P ((y 0).val % 128) (y 1).val then 1 else 0 : ℝ)) : EReal)
  by_cases a : P ((y 0).val % 128) (y 1).val <;> by_cases b : 128 ≤ (y 1).val <;> simp [a, b]

theorem after_eq : tri .sgt = arr uAfter :=
  tri_apply .sgt (fun a b => b < a) fun a b ha hb => cmpi_sgt_ofNat ha hb
theorem upto_eq : tri .sle = arr uUpto :=
  tri_apply .sle (fun a b => a ≤ b) fun a b ha hb => cmpi_sle_ofNat ha hb

/-- The matrix at the forward kernel. -/
theorem host_after : (W3 m ρ c (Proc.devRef .tc main_v13) : Vec Ideal S256x256 .bf16) = arr uAfter := by
  have e11 : W1 m ρ c (Proc.devRef .tc main_v11) = ori (cmpi .sgt (andi (iotaInDim S256x256 32 0) (broadcastInDim S256x256 ![] bcast_S_S256x256 (constantI S_ 32 127#32))) (iotaInDim S256x256 32 1))
      (cmpi .sge (iotaInDim S256x256 32 1) (broadcastInDim S256x256 ![] bcast_S_S256x256 (constantI S_ 32 128#32))) := by after_results <;> rfl
  have ec : W1 m ρ c (Proc.devRef .tc main_cst) = constant (F := Ideal) S_ .f32 0x3F800000#32 := by after_results <;> rfl
  have ed : W1 m ρ c (Proc.devRef .tc main_cst_1) = constant (F := Ideal) S_ .f32 0x00000000#32 := by after_results <;> rfl
  have e12 : W2 m ρ c (Proc.devRef .tc main_v12) = select (W1 m ρ c (Proc.devRef .tc main_v11))
      (broadcastInDim S256x256 ![] bcast_S_S256x256 (W1 m ρ c (Proc.devRef .tc main_cst)))
      (broadcastInDim S256x256 ![] bcast_S_S256x256 (W1 m ρ c (Proc.devRef .tc main_cst_1))) := by after_results <;> rfl
  have e13 : W3 m ρ c (Proc.devRef .tc main_v13) = truncf (F := Ideal) .bf16 (W2 m ρ c (Proc.devRef .tc main_v12)) bitsLt_bf16_f32 := by after_results <;> rfl
  rw [e13, e12, e11, ec, ed]
  exact after_eq

/-- The matrix at the backward kernel. -/
theorem host_upto : (W7 m ρ c (Proc.devRef .tc main_v24) : Vec Ideal S256x256 .bf16) = arr uUpto := by
  have e11 : W5 m ρ c (Proc.devRef .tc main_v22) = ori (cmpi .sle (andi (iotaInDim S256x256 32 0) (broadcastInDim S256x256 ![] bcast_S_S256x256 (constantI S_ 32 127#32))) (iotaInDim S256x256 32 1))
      (cmpi .sge (iotaInDim S256x256 32 1) (broadcastInDim S256x256 ![] bcast_S_S256x256 (constantI S_ 32 128#32))) := by after_results <;> rfl
  have ec : W5 m ρ c (Proc.devRef .tc main_cst_4) = constant (F := Ideal) S_ .f32 0x3F800000#32 := by after_results <;> rfl
  have ed : W5 m ρ c (Proc.devRef .tc main_cst_5) = constant (F := Ideal) S_ .f32 0x00000000#32 := by after_results <;> rfl
  have e12 : W6 m ρ c (Proc.devRef .tc main_v23) = select (W5 m ρ c (Proc.devRef .tc main_v22))
      (broadcastInDim S256x256 ![] bcast_S_S256x256 (W5 m ρ c (Proc.devRef .tc main_cst_4)))
      (broadcastInDim S256x256 ![] bcast_S_S256x256 (W5 m ρ c (Proc.devRef .tc main_cst_5))) := by after_results <;> rfl
  have e13 : W7 m ρ c (Proc.devRef .tc main_v24) = truncf (F := Ideal) .bf16 (W6 m ρ c (Proc.devRef .tc main_v23)) bitsLt_bf16_f32 := by after_results <;> rfl
  rw [e13, e12, e11, ec, ed]
  exact upto_eq

/-- A buffer the operations between a kernel and the launch leave alone. -/
theorem keep3 (r : Ref sig .tc) (h1 : r ∉ hostOps0_1_W) (h2 : r ∉ hostOps0_2_W) : W3 m ρ c (Proc.devRef .tc r) = W1 m ρ c (Proc.devRef .tc r) :=
  (W3_of m ρ c r h2).trans (W2_of m ρ c r h1)
theorem keep7 (r : Ref sig .tc) (h0 : r ∉ hostOps1_W) (h1 : r ∉ hostOps1_1_W) (h2 : r ∉ hostOps1_2_W) : W7 m ρ c (Proc.devRef .tc r) = W4 m ρ c (Proc.devRef .tc r) :=
  ((W7_of m ρ c r h2).trans (W6_of m ρ c r h1)).trans (W5_of m ρ c r h0)

section
variable (q k v o : ℕ → ℕ → ℝ)

theorem host_q (h : m ((c.tc : Thread nD τ).loc main_arg0) = arr q) : (W3 m ρ c (Proc.devRef .tc main_v0) : Vec Ideal S4096x2048 .bf16) = arr q := by
  rw [keep3 m ρ c main_v0 (by decide) (by decide)]
  have e : W1 m ρ c (Proc.devRef .tc main_v0) = truncf (F := Ideal) .bf16 (m ((c.tc : Thread nD τ).loc main_arg0)) bitsLt_bf16_f32 := by after_results <;> rfl
  exact e.trans h

theorem host_k (h : m ((c.tc : Thread nD τ).loc main_arg1) = arr k) : (W3 m ρ c (Proc.devRef .tc main_v1) : Vec Ideal S4096x2048 .bf16) = arr k := by
  rw [keep3 m ρ c main_v1 (by decide) (by decide)]
  have e : W1 m ρ c (Proc.devRef .tc main_v1) = truncf (F := Ideal) .bf16 (m ((c.tc : Thread nD τ).loc main_arg1)) bitsLt_bf16_f32 := by after_results <;> rfl
  exact e.trans h

theorem host_v (h : m ((c.tc : Thread nD τ).loc main_arg2) = arr v) : (W3 m ρ c (Proc.devRef .tc main_v2) : Vec Ideal S4096x2048 .bf16) = arr v := by
  rw [keep3 m ρ c main_v2 (by decide) (by decide)]
  have e : W1 m ρ c (Proc.devRef .tc main_v2) = truncf (F := Ideal) .bf16 (m ((c.tc : Thread nD τ).loc main_arg2)) bitsLt_bf16_f32 := by after_results <;> rfl
  exact e.trans h

theorem host_o (h : m ((c.tc : Thread nD τ).loc main_arg3) = arr o) : (W3 m ρ c (Proc.devRef .tc main_v3) : Vec Ideal S4096x2048 .bf16) = arr o := by
  rw [keep3 m ρ c main_v3 (by decide) (by decide)]
  have e : W1 m ρ c (Proc.devRef .tc main_v3) = truncf (F := Ideal) .bf16 (m ((c.tc : Thread nD τ).loc main_arg3)) bitsLt_bf16_f32 := by after_results <;> rfl
  exact e.trans h

/-- What the launch gives the step: its four arguments. -/
abbrev Given : Prop := m ((c.tc : Thread nD τ).loc main_arg0) = arr q ∧ m ((c.tc : Thread nD τ).loc main_arg1) = arr k
  ∧ m ((c.tc : Thread nD τ).loc main_arg2) = arr v ∧ m ((c.tc : Thread nD τ).loc main_arg3) = arr o

/-- The forward kernel's two arrays. -/
theorem step_fwd (h : Given m c q k v o) : W4 m ρ c (Proc.devRef .tc main_v14_0) = (arr (aoAll q k v) : Vec Ideal S4096x2048 .bf16)
    ∧ W4 m ρ c (Proc.devRef .tc main_v14_1) = (arr (totAll q k) : Vec Ideal S4096x2048 .f32) :=
  have hq := host_q m ρ c q h.1
  have hk := host_k m ρ c k h.2.1
  have hv := host_v m ρ c v h.2.2.1
  have hu := host_after m ρ c
  ⟨(W4_arr m ρ c 4).trans (final0_4 (V3 m ρ) q k v c hq hk hv hu), (W4_arr m ρ c 5).trans (final0_5 (V3 m ρ) q k v c hq hk hv hu)⟩

/-- The backward kernel's three arrays, and the forward kernel's output kept. -/
theorem step_bwd (h : Given m c q k v o) : W8 m ρ c (Proc.devRef .tc main_v14_0) = (arr (aoAll q k v) : Vec Ideal S4096x2048 .bf16)
    ∧ W8 m ρ c (Proc.devRef .tc main_v25_0) = (arr (dqAll q k v o) : Vec Ideal S4096x2048 .f32)
    ∧ W8 m ρ c (Proc.devRef .tc main_v25_1) = (arr (dkAll q k v o) : Vec Ideal S4096x2048 .f32)
    ∧ W8 m ρ c (Proc.devRef .tc main_v25_2) = (arr (dvAll q k o) : Vec Ideal S4096x2048 .f32) :=
  have hq := ((keep7 m ρ c main_v0 (by decide) (by decide) (by decide)).trans (W4_of m ρ c main_v0 (by decide))).trans (host_q m ρ c q h.1)
  have hk := ((keep7 m ρ c main_v1 (by decide) (by decide) (by decide)).trans (W4_of m ρ c main_v1 (by decide))).trans (host_k m ρ c k h.2.1)
  have hv := ((keep7 m ρ c main_v2 (by decide) (by decide) (by decide)).trans (W4_of m ρ c main_v2 (by decide))).trans (host_v m ρ c v h.2.2.1)
  have ho := ((keep7 m ρ c main_v3 (by decide) (by decide) (by decide)).trans (W4_of m ρ c main_v3 (by decide))).trans (host_o m ρ c o h.2.2.2)
  have ht := (keep7 m ρ c main_v14_1 (by decide) (by decide) (by decide)).trans (step_fwd m ρ c q k v o h).2
  have hu := host_upto m ρ c
  ⟨((W8_of m ρ c main_v14_0 (by decide)).trans (keep7 m ρ c main_v14_0 (by decide) (by decide) (by decide))).trans (step_fwd m ρ c q k v o h).1,
    (W8_arr m ρ c 6).trans (final1_6 (V7 m ρ) q k v o c hq hk hv ht ho hu),
    (W8_arr m ρ c 7).trans (final1_7 (V7 m ρ) q k v o c hq hk hv ht ho hu),
    (W8_arr m ρ c 8).trans (final1_8 (V7 m ρ) q k v o c hq hk hv ht ho hu)⟩
end

end Cert.AttnIdeal.Value
-- ==== Proof.AttnRunValue.lean ====
/- The run of the attention step with its results: the forward kernel's output and the backward kernel's three
   gradients, each the array of reals the kernels leave. -/
module

public import proofs.«01_k».proof.Proof.AttnHost

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.AttnIdeal.Value

open Cert.AttnIdeal Cert.AttnIdeal.Gen

local notation "𝕄" => MT nD τ sig Unit (Elt Ideal) ℕ (UR sig nD τ) ℕ

/-- The host operations' conditions before the launch: nothing is owned, every semaphore unit is free. -/
theorem launch_units : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

theorem launch_rest : (BI.emp : sProp 𝕄) ⊢ bigSep Finset.univ (fun _ : Dev nD => (BI.emp : sProp 𝕄)) := by
  rw [BI.bigSep_emp_const]

set_option backward.isDefEq.respectTransparency.types false in
/-- Every buffer of the TensorCore ends at what the last boundary holds, with every counter at zero. -/
theorem run_buffers (m : (ℓ : Loc nD τ sig) → Buf (Elt Ideal) ℓ) (ρ : Dev nD → PrngReg) :
    θ_run defs (onTc (τ := τ) (main (F := Ideal))) ⟨m, fun _ => 0, ρ⟩ (fun r =>
      ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply launch_units
        iexact Hu
      iapply launch_rest
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hobl, -, Hprng, -⟩, -⟩
      imodintro
      isplitl [Hbufs]
      · iexact Hbufs
      isplitl [Hprng]
      · iexists _
        iexact Hprng
      iexists ∅
      iexact Hobl)
    (QY := fun c s => ∀ b ∈ Pipeline.ucRefs τ sig, s.mem (((c : Thread nD τ)).1, b) = W8 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W8 m ρ c) s')
      isplitl [Hbufs] <;> iassumption)
    (hQ := fun s h _ => h)

/-- The results of the step, from arguments that are reals. -/
theorem run_results (m : (ℓ : Loc nD τ sig) → Buf (Elt Ideal) ℓ) (ρ : Dev nD → PrngReg) (q k v o : Dev nD → ℕ → ℕ → ℝ)
    (hm : ∀ c, Given m c (q c) (k c) (v c) (o c)) :
    θ_run defs (onTc (τ := τ) (main (F := Ideal))) ⟨m, fun _ => 0, ρ⟩ (fun r => ∀ c : Dev nD,
      r.2.mem ((c.tc : Thread nD τ).loc main_v14_0) = arr (aoAll (q c) (k c) (v c))
      ∧ r.2.mem ((c.tc : Thread nD τ).loc main_v25_0) = arr (dqAll (q c) (k c) (v c) (o c))
      ∧ r.2.mem ((c.tc : Thread nD τ).loc main_v25_1) = arr (dkAll (q c) (k c) (v c) (o c))
      ∧ r.2.mem ((c.tc : Thread nD τ).loc main_v25_2) = arr (dvAll (q c) (k c) (o c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_buffers m ρ)
  have hb := step_bwd m ρ c (q c) (k c) (v c) (o c) (hm c)
  exact ⟨(h c _ (mem_uc main_v14_0 (by decide))).trans hb.1, (h c _ (mem_uc main_v25_0 (by decide))).trans hb.2.1,
    (h c _ (mem_uc main_v25_1 (by decide))).trans hb.2.2.1, (h c _ (mem_uc main_v25_2 (by decide))).trans hb.2.2.2,
    (h c _ (mem_uc main_arg0 (by decide))).trans (W8_main_arg0 m ρ c), (h c _ (mem_uc main_arg1 (by decide))).trans (W8_main_arg1 m ρ c),
    (h c _ (mem_uc main_arg2 (by decide))).trans (W8_main_arg2 m ρ c), (h c _ (mem_uc main_arg3 (by decide))).trans (W8_main_arg3 m ρ c)⟩

end Cert.AttnIdeal.Value
-- ==== Proof.AttnRefSums.lean ====
/- The running sums of the attention reference: along the last axis of an array of reals, the window from an entry
   to the end and the window from the start to an entry. -/
module

public import proofs.«01_k».proof.Proof.AttnArr

@[expose] public section

set_option maxRecDepth 16384

noncomputable section

open Idealize.ShloMosaic Idealize.ShloMosaic.TcCoe Idealize.SL.Sem

namespace Cert.AttnIdeal.Value

/-- The array with the real `f h t s` at `(h, t, s)`. -/
def arr3 {a b c : ℕ} (f : ℕ → ℕ → ℕ → ℝ) (p : Shape.Idx ⟨3, ![a, b, c]⟩) : EReal :=
  ((f (p 0).val (p 1).val (p 2).val : ℝ) : EReal)

/-- Adding reals one after the other, in the extended reals, adds their sum. -/
theorem foldl_real {α : Type} (g : EReal → α → EReal) (a : α → ℝ) (hg : ∀ r n, g r n = r + ((a n : ℝ) : EReal))
    (l : List α) (v : ℝ) : l.foldl g (v : EReal) = ((v + (l.map a).sum : ℝ) : EReal) := by
  induction l generalizing v with
  | nil => simp
  | cons n l ih => rw [List.foldl_cons, hg, ← EReal.coe_add, ih, List.map_cons, List.sum_cons, add_assoc]

/-- The indices of a window that is wide along the last axis only. -/
def lastEquiv (N : ℕ) : Shape.Idx ⟨3, ![1, 1, N]⟩ ≃ Fin N where
  toFun p := p 2
  invFun n := fun a => match a with
    | ⟨0, _⟩ => ⟨0, Nat.one_pos⟩
    | ⟨1, _⟩ => ⟨0, Nat.one_pos⟩
    | ⟨2, _⟩ => n
  left_inv p := funext fun a => match a with
    | ⟨0, _⟩ => Subsingleton.elim (α := Fin 1) _ _
    | ⟨1, _⟩ => Subsingleton.elim (α := Fin 1) _ _
    | ⟨2, _⟩ => rfl
  right_inv n := rfl

/-- A sum over such a window's positions, in any order. -/
theorem sum_last (N : ℕ) (a : ℕ → ℝ) :
    ((List.finRange (Shape.numel ⟨3, ![1, 1, N]⟩)).map fun n => a ((Shape.rowMajor ⟨3, ![1, 1, N]⟩).symm n 2).val).sum
      = ∑ n ∈ Finset.range N, a n := by
  rw [← Fin.sum_univ_def, Finset.sum_range]
  exact Fintype.sum_equiv ((Shape.rowMajor ⟨3, ![1, 1, N]⟩).symm.trans (lastEquiv N)) _ _ fun n => rfl

variable {A B N M : ℕ} (f : ℕ → ℕ → ℕ → ℝ)

/-- A window sum along the last axis, padded low by `lo`. -/
theorem window_arr3 (lo hi : ℕ) (init : Shape.Idx ⟨0, ![]⟩ → EReal) (hi0 : ∀ i, init i = 0)
    (h : Shape.ReduceWindows ⟨3, ![A, B, N]⟩ (![1, 1, N] : Fin 3 → ℕ) ![1, 1, 1] ![0, 0, lo] ![0, 0, hi] ⟨3, ![A, B, N]⟩)
    (hu : 0 < Shape.numel ⟨0, ![]⟩) :
    Host.reduceWindowAdd (F := Ideal) (φ := .f32) ![1, 1, N] ![1, 1, 1] ![0, 0, lo] ![0, 0, hi] (arr3 f) init h hu
      = arr3 fun i t s => ∑ n ∈ Finset.range N, if lo ≤ s + n ∧ s + n - lo < N then f i t (s + n - lo) else 0 := by
  funext p
  show Host.reduceWindow (· + ·) (![1, 1, N] : Fin 3 → ℕ) ![1, 1, 1] ![0, 0, lo] ![0, 0, hi] (arr3 f)
    (fun _ : (⟨0, ![]⟩ : Shape).Idx => init (Shape.Idx.first hu)) h (by decide) p = _
  unfold Host.reduceWindow
  rw [hi0]
  refine (foldl_real _ (fun n => if lo ≤ (p 2).val + ((Shape.rowMajor ⟨3, ![1, 1, N]⟩).symm n 2).val
      ∧ (p 2).val + ((Shape.rowMajor ⟨3, ![1, 1, N]⟩).symm n 2).val - lo < N
      then f (p 0).val (p 1).val ((p 2).val + ((Shape.rowMajor ⟨3, ![1, 1, N]⟩).symm n 2).val - lo) else 0) (fun r n => ?_) _ 0).trans ?_
  · have e0 : ((Shape.rowMajor ⟨3, ![1, 1, N]⟩).symm n 0).val = 0 := by
      have := ((Shape.rowMajor ⟨3, ![1, 1, N]⟩).symm n 0).isLt
      change _ < 1 at this
      omega
    have e1 : ((Shape.rowMajor ⟨3, ![1, 1, N]⟩).symm n 1).val = 0 := by
      have := ((Shape.rowMajor ⟨3, ![1, 1, N]⟩).symm n 1).isLt
      change _ < 1 at this
      omega
    dsimp only
    refine congrArg (r + ·) ?_
    split
    · next hin =>
      have h2 := hin 2
      change lo ≤ (p 2).val * 1 + ((Shape.rowMajor ⟨3, ![1, 1, N]⟩).symm n 2).val
        ∧ (p 2).val * 1 + ((Shape.rowMajor ⟨3, ![1, 1, N]⟩).symm n 2).val - lo < N at h2
      rw [Nat.mul_one] at h2
      rw [if_pos h2]
      show ((f ((p 0).val * 1 + ((Shape.rowMajor ⟨3, ![1, 1, N]⟩).symm n 0).val - 0) ((p 1).val * 1 + ((Shape.rowMajor ⟨3, ![1, 1, N]⟩).symm n 1).val - 0)
        ((p 2).val * 1 + ((Shape.rowMajor ⟨3, ![1, 1, N]⟩).symm n 2).val - lo) : ℝ) : EReal) = _
      rw [e0, e1, Nat.mul_one, Nat.mul_one, Nat.mul_one]
      rfl
    · next hin =>
      rw [if_neg fun h2 => hin fun a => by
        match a with
        | ⟨0, _⟩ =>
          show 0 ≤ (p 0).val * 1 + ((Shape.rowMajor ⟨3, ![1, 1, N]⟩).symm n 0).val
            ∧ (p 0).val * 1 + ((Shape.rowMajor ⟨3, ![1, 1, N]⟩).symm n 0).val - 0 < A
          have := (p 0).isLt
          change _ < A at this
          omega
        | ⟨1, _⟩ =>
          show 0 ≤ (p 1).val * 1 + ((Shape.rowMajor ⟨3, ![1, 1, N]⟩).symm n 1).val
            ∧ (p 1).val * 1 + ((Shape.rowMajor ⟨3, ![1, 1, N]⟩).symm n 1).val - 0 < B
          have := (p 1).isLt
          change _ < B at this
          omega
        | ⟨2, _⟩ =>
          show lo ≤ (p 2).val * 1 + ((Shape.rowMajor ⟨3, ![1, 1, N]⟩).symm n 2).val
            ∧ (p 2).val * 1 + ((Shape.rowMajor ⟨3, ![1, 1, N]⟩).symm n 2).val - lo < N
          rw [Nat.mul_one]
          exact h2]
      rfl
  · rw [zero_add]
    exact congrArg _ (sum_last N fun n => if lo ≤ (p 2).val + n ∧ (p 2).val + n - lo < N
      then f (p 0).val (p 1).val ((p 2).val + n - lo) else 0)

/-- The window from an entry to the end. -/
theorem sum_from (g : ℕ → ℝ) (s : ℕ) (hs : s < N) :
    (∑ n ∈ Finset.range N, if 0 ≤ s + n ∧ s + n - 0 < N then g (s + n - 0) else 0) = ∑ n ∈ Finset.Ico s N, g n := by
  rw [← Finset.sum_filter, Finset.sum_Ico_eq_sum_range]
  refine Finset.sum_congr (Finset.ext fun n => ?_) fun _ _ => rfl
  rw [Finset.mem_filter, Finset.mem_range, Finset.mem_range]
  omega

/-- The window from the start to an entry. -/
theorem sum_to (g : ℕ → ℝ) (s : ℕ) (hs : s < N) (hM : M + 1 = N) :
    (∑ n ∈ Finset.range N, if M ≤ s + n ∧ s + n - M < N then g (s + n - M) else 0) = ∑ n ∈ Finset.Ico 0 (s + 1), g n := by
  rw [← Finset.sum_filter]
  refine Finset.sum_bij' (fun n _ => s + n - M) (fun n _ => n + M - s) ?_ ?_ ?_ ?_ ?_ <;> intro n hn <;>
    simp only [Finset.mem_filter, Finset.mem_range, Finset.mem_Ico] at hn ⊢ <;> omega

end Cert.AttnIdeal.Value
-- ==== Proof.AttnRefStages.lean ====
/- The attention reference, first part: arrays of reals of three axes, the scores of every head, the causal mask and
   the two softplus calls. -/
module

public import proofs.«01_k».proof.Proof.Gen.AttnRefIdeal.Read
public import proofs.«01_k».proof.Proof.AttnRefSums
public import proofs.«01_k».proof.Proof.AttnFwdArr

@[expose] public section

set_option maxRecDepth 16384

noncomputable section

open Idealize.ShloMosaic Idealize.ShloMosaic.TcCoe Idealize.SL.Sem
open Cert.AttnIdeal.Value

namespace Cert.Attn.Claims

open Cert.AttnRefIdeal Cert.AttnRefIdeal.Gen Cert.AttnRefIdeal.Read

/-! Element-wise operations on arrays of reals. -/
section
variable {a b c : ℕ} (f g : ℕ → ℕ → ℕ → ℝ)

theorem arr3_congr {f g : ℕ → ℕ → ℕ → ℝ} (h : ∀ i t s, i < a → t < b → s < c → f i t s = g i t s) :
    (arr3 f : Shape.Idx ⟨3, ![a, b, c]⟩ → EReal) = arr3 g :=
  funext fun p => congrArg _ (h _ _ _ (p 0).isLt (p 1).isLt (p 2).isLt)

theorem add3 : addf (F := Ideal) (s := ⟨3, ![a, b, c]⟩) (φ := .f32) (arr3 f) (arr3 g) = arr3 fun i t s => f i t s + g i t s :=
  funext fun p => (EReal.coe_add _ _).symm

theorem sub3 : subf (F := Ideal) (s := ⟨3, ![a, b, c]⟩) (φ := .f32) (arr3 f) (arr3 g) = arr3 fun i t s => f i t s - g i t s :=
  funext fun p => (EReal.coe_sub _ _).symm

theorem mul3 : mulf (F := Ideal) (s := ⟨3, ![a, b, c]⟩) (φ := .f32) (arr3 f) (arr3 g) = arr3 fun i t s => f i t s * g i t s :=
  funext fun p => (EReal.coe_mul _ _).symm

theorem neg3 : Host.negf (F := Ideal) (s := ⟨3, ![a, b, c]⟩) (φ := .f32) (arr3 f) = arr3 fun i t s => -f i t s :=
  funext fun p => (EReal.coe_neg _).symm

theorem exp3 : Host.exp (F := Ideal) (s := ⟨3, ![a, b, c]⟩) (φ := .f32) (arr3 f) = arr3 fun i t s => Real.exp (f i t s) :=
  funext fun p => rfl

theorem max3 : maximumf (F := Ideal) (s := ⟨3, ![a, b, c]⟩) (φ := .f32) (arr3 f) (arr3 g) = arr3 fun i t s => max (f i t s) (g i t s) :=
  funext fun p => (EReal.coe_strictMono.monotone.map_max).symm

theorem abs3 : Host.absf (F := Ideal) (s := ⟨3, ![a, b, c]⟩) (φ := .f32) (arr3 f) = arr3 fun i t s => |f i t s| :=
  funext fun p => (show max ((f (p 0).val (p 1).val (p 2).val : ℝ) : EReal) (-((f (p 0).val (p 1).val (p 2).val : ℝ) : EReal)) = _ by
    rw [← EReal.coe_neg, ← EReal.coe_strictMono.monotone.map_max]; rfl)

theorem log1p3 : Host.log1p (F := Ideal) (s := ⟨3, ![a, b, c]⟩) (φ := .f32) (arr3 fun i t s => Real.exp (f i t s))
    = arr3 fun i t s => Real.log (1 + Real.exp (f i t s)) :=
  funext fun p => by
    show Ideal.log (1 + ((Real.exp (f (p 0).val (p 1).val (p 2).val) : ℝ) : EReal)) = _
    rw [← EReal.coe_one, ← EReal.coe_add]
    exact if_neg (not_le.mpr (by positivity))

/-- A number equals itself, so the branch for what is not a number is never taken. -/
theorem self3 (x y : Shape.Idx ⟨3, ![a, b, c]⟩ → EReal) (w : FVec Ideal ⟨3, ![a, b, c]⟩ .f32) :
    select (cmpf (F := Ideal) (s := ⟨3, ![a, b, c]⟩) (φ := .f32) .une w w) x y = y := by
  funext p
  have e : cmpf (F := Ideal) (s := ⟨3, ![a, b, c]⟩) (φ := .f32) .une w w p = 0#1 := by
    show BitVec.ofBool (decide (w p ≠ w p)) = 0#1
    simp
  show (if cmpf (F := Ideal) (s := ⟨3, ![a, b, c]⟩) (φ := .f32) .une w w p = 1 then x p else y p) = y p
  rw [e, if_neg (by decide)]

/-- A real is not infinite, so the branch for infinity is never taken. -/
theorem fin3 (x y : Shape.Idx ⟨3, ![a, b, c]⟩ → EReal) (w : FVec Ideal ⟨3, ![a, b, c]⟩ .f32) (hw : ∀ p, w p = ⊤) :
    select (cmpf (F := Ideal) (s := ⟨3, ![a, b, c]⟩) (φ := .f32) .oeq (arr3 f) w) x y = y := by
  funext p
  have e : cmpf (F := Ideal) (s := ⟨3, ![a, b, c]⟩) (φ := .f32) .oeq (arr3 f) w p = 0#1 := by
    show BitVec.ofBool (decide (((f (p 0).val (p 1).val (p 2).val : ℝ) : EReal) = w p)) = 0#1
    rw [hw, decide_eq_false (EReal.coe_ne_top _)]
    rfl
  show (if cmpf (F := Ideal) (s := ⟨3, ![a, b, c]⟩) (φ := .f32) .oeq (arr3 f) w p = 1 then x p else y p) = y p
  rw [e, if_neg (by decide)]

theorem mask3 (M : IVec ⟨3, ![a, b, c]⟩ 1) (hM : ∀ p, M p = 1 ↔ (p 2).val < (p 1).val) :
    select M (arr3 f) (arr3 g) = arr3 fun i t s => if s < t then f i t s else g i t s := by
  funext p
  show (if M p = 1 then ((f (p 0).val (p 1).val (p 2).val : ℝ) : EReal) else ((g (p 0).val (p 1).val (p 2).val : ℝ) : EReal))
    = (((if (p 2).val < (p 1).val then f (p 0).val (p 1).val (p 2).val else g (p 0).val (p 1).val (p 2).val) : ℝ) : EReal)
  by_cases h : (p 2).val < (p 1).val
  · rw [if_pos ((hM p).mpr h), if_pos h]
  · rw [if_neg (fun h' => h ((hM p).mp h')), if_neg h]
end

/-- The softplus as it is printed. -/
def sp (x : ℝ) : ℝ := max x 0 + Real.log (1 + Real.exp (-|x - 0|))

theorem neg_sp (z : ℝ) : -sp z = keep (fun _ _ => z) 0 0 := by
  unfold sp keep ls
  rcases le_total z 0 with h | h
  · rw [max_eq_right h, min_eq_left h]; simp only [sub_zero, zero_sub]; ring
  · rw [max_eq_left h, min_eq_right h]; simp only [sub_zero, zero_sub]; ring

theorem neg_sp_neg (z : ℝ) : -sp (-z) = ls z := by
  unfold sp ls
  rcases le_total z 0 with h | h
  · rw [max_eq_left (neg_nonneg.mpr h), min_eq_left h]; simp only [sub_zero, zero_sub, abs_neg]; ring
  · rw [max_eq_right (neg_nonpos.mpr h), min_eq_right h]; simp only [sub_zero, zero_sub, abs_neg]; ring

/-- What a key takes of the stick and what it leaves are one. -/
theorem exp_keep (z : ℝ) : Real.exp (ls z - z) = 1 - Real.exp (ls z) := by
  have key : ∀ x : ℝ, 0 ≤ x → Real.exp (0 - Real.log (1 + Real.exp (0 - |x|))) * (1 + Real.exp (-x)) = 1 := fun x hx => by
    rw [abs_of_nonneg hx, zero_sub, zero_sub, Real.exp_neg, Real.exp_log (by positivity), inv_mul_cancel₀ (by positivity)]
  unfold ls
  rcases le_total z 0 with h | h
  · have k := key (-z) (neg_nonneg.mpr h)
    rw [abs_neg, neg_neg] at k
    rw [min_eq_left h]
    have e1 : Real.exp (z - Real.log (1 + Real.exp (0 - |z|)) - z) = Real.exp (0 - Real.log (1 + Real.exp (0 - |z|))) := by congr 1; ring
    have e2 : Real.exp (z - Real.log (1 + Real.exp (0 - |z|))) = Real.exp (0 - Real.log (1 + Real.exp (0 - |z|))) * Real.exp z := by
      rw [← Real.exp_add]; congr 1; ring
    rw [e1, e2]
    linarith
  · have k := key z h
    rw [min_eq_right h]
    have e1 : Real.exp (0 - Real.log (1 + Real.exp (0 - |z|)) - z) = Real.exp (0 - Real.log (1 + Real.exp (0 - |z|))) * Real.exp (-z) := by
      rw [← Real.exp_add]; congr 1
    rw [e1]
    linarith

section
variable (q k v o : ℕ → ℕ → ℝ)

/-- The score of every head, query and key. -/
def zh (h t s : ℕ) : ℝ := zg (head q h) (head k h) t s

/-- The gradient of every head's weights. -/
def dah (h t s : ℕ) : ℝ := zg (head o h) (head v h) t s

theorem split_head (x : ℕ → ℕ → ℝ) : shapeCast (s := S4096x2048) (α := EReal) S4096x16x128 (arr x) shapeCasts_S4096x2048_S4096x16x128
    = arr3 fun t h c => head x h t c := by
  funext p
  refine (shapeCast_apply _ _ p (idx_main_v8 p) ?_).trans ?_
  · rewrite [Shape.rowMajor_val_two, Shape.rowMajor_val_three]
    have h0 : (p 0).val < 4096 := (p 0).isLt
    have h1 : (p 1).val < 16 := (p 1).isLt
    have h2 : (p 2).val < 128 := (p 2).isLt
    show (((p 0).val * 16 + (p 1).val) * 128 + (p 2).val) / 2048 * 2048 + (((p 0).val * 16 + (p 1).val) * 128 + (p 2).val) % 2048 = ((p 0).val * 16 + (p 1).val) * 128 + (p 2).val
    omega
  · have h0 : (p 0).val < 4096 := (p 0).isLt
    have h1 : (p 1).val < 16 := (p 1).isLt
    have h2 : (p 2).val < 128 := (p 2).isLt
    exact congrArg₂ (fun a b => ((x a b : ℝ) : EReal))
      (show (((p 0).val * 16 + (p 1).val) * 128 + (p 2).val) / 2048 = (p 0).val by omega)
      (show (((p 0).val * 16 + (p 1).val) * 128 + (p 2).val) % 2048 = 128 * (p 1).val + (p 2).val by omega)

theorem v8 : val_main_v8 (F := Ideal) (arr q) = arr3 fun t h c => head q h t c := split_head q
theorem v9 : val_main_v9 (F := Ideal) (arr k) = arr3 fun t h c => head k h t c := split_head k
theorem v10 : val_main_v10 (F := Ideal) (arr v) = arr3 fun t h c => head v h t c := split_head v
theorem v32 : val_main_v32 (F := Ideal) (arr o) = arr3 fun t h c => head o h t c := split_head o

theorem v33 : val_main_v33 (F := Ideal) (arr o) = arr3 fun h c t => head o h t c := by
  funext p
  rw [val_main_v33_apply, v32]
  rfl

theorem v11 : val_main_v11 (F := Ideal) (arr q) (arr k) = arr3 (zh q k) := by
  funext p
  rw [val_main_v11_apply, v8, v9]
  exact coe_sum_mul (fun c => head q (p 0).val (p 1).val c) (fun c => head k (p 0).val (p 2).val c)

theorem v34 : val_main_v34 (F := Ideal) (arr v) (arr o) = arr3 (dah v o) := by
  funext p
  rw [val_main_v34_apply, v33, v10]
  exact coe_sum_mul (fun c => head o (p 0).val (p 1).val c) (fun c => head v (p 0).val (p 2).val c)

theorem zero3 (w : (⟨S_, .f32⟩ : BufTy).Contents (Elt Ideal)) (hw : ∀ i, w i = (FloatOps.ofBits .f32 0x00000000#32 : Ideal .f32)) :
    broadcastInDim S16x4096x4096 ![] bcast_S_S16x4096x4096 w = arr3 fun _ _ _ => 0 := by
  funext p
  exact (hw _).trans Ideal.ofBits_zero_f32

theorem inf3 (p : S16x4096x4096.Idx) : (broadcastInDim S16x4096x4096 ![] bcast_S_S16x4096x4096 (constant (F := Ideal) S_ .f32 0x7F800000#32) :
    (⟨S16x4096x4096, .f32⟩ : BufTy).Contents (Elt Ideal)) p = ⊤ :=
  show Ideal.ofBits .f32 0x7F800000#32 = ⊤ by simp [Ideal.ofBits, Ideal.ieee]

/-- The mask: the key is before the query. -/
theorem mask_lt (p : S16x4096x4096.Idx) : val_main_v21_1 (F := Ideal) p = 1 ↔ (p 2).val < (p 1).val := by
  rw [val_main_v21_1_apply, val_main_v18_apply, val_main_v16_apply, val_main_v15_apply, val_main_v14_apply,
    val_main_v17_apply, val_main_v13_apply, val_main_v12_apply]
  have h1 : (p 1).val < 4096 := (p 1).isLt
  have h2 : (p 2).val < 4096 := (p 2).isLt
  show BitVec.ofBool ((BitVec.ofNat 32 (p 2).val).slt (BitVec.ofNat 32 (p 1).val)) = 1 ↔ _
  generalize (p 1).val = a at h1 ⊢
  generalize (p 2).val = b at h2 ⊢
  have e : (BitVec.ofNat 32 b).slt (BitVec.ofNat 32 a) = decide (b < a) := by
    rw [BitVec.slt, BitVec.toInt_ofNat', BitVec.toInt_ofNat']
    refine decide_eq_decide.mpr ?_
    simp only [Int.bmod]
    omega
  rw [e]
  by_cases h : b < a
  · rw [decide_eq_true h]; exact iff_of_true rfl h
  · rw [decide_eq_false h]; exact iff_of_false (by decide) h

theorem v19 : val_main_v19 (F := Ideal) (arr q) (arr k) = arr3 fun h t s => -zh q k h t s := by
  unfold val_main_v19
  rw [v11, neg3]

theorem pos0 : val_main_call0_v0 (F := Ideal) (arr q) (arr k) = arr3 fun h t s => zh q k h t s := by
  unfold val_main_call0_v0
  rw [v19, neg3]
  exact congrArg arr3 (by funext h t s; exact neg_neg _)

theorem pos1 : val_main_call0_v1_0 (F := Ideal) (arr q) (arr k) = arr3 fun h t s => sp (zh q k h t s) := by
  have z0 : val_main_call0_call0_v0 (F := Ideal) = arr3 fun _ _ _ => 0 := zero3 _ fun _ => rfl
  have z2 : val_main_call0_call0_v2 (F := Ideal) = arr3 fun _ _ _ => 0 := zero3 _ fun _ => rfl
  have e3 : val_main_call0_call0_v3 (F := Ideal) (arr q) (arr k) = arr3 fun h t s => zh q k h t s - 0 := by
    unfold val_main_call0_call0_v3; rw [pos0, z2]; exact sub3 _ _
  have e8 : val_main_call0_call0_v8 (F := Ideal) (arr q) (arr k) = arr3 fun h t s => -|zh q k h t s - 0| := by
    unfold val_main_call0_call0_v8 val_main_call0_call0_v7; rw [e3, abs3, neg3]
  have e10 : val_main_call0_call0_v10 (F := Ideal) (arr q) (arr k) = arr3 fun h t s => Real.log (1 + Real.exp (-|zh q k h t s - 0|)) := by
    unfold val_main_call0_call0_v10 val_main_call0_call0_v9; rw [e8, exp3, log1p3]
  have e1 : val_main_call0_call0_v1 (F := Ideal) (arr q) (arr k) = arr3 fun h t s => max (zh q k h t s) 0 := by
    unfold val_main_call0_call0_v1; rw [pos0, z0]; exact max3 _ _
  unfold val_main_call0_v1_0 val_main_call0_call0_v4
  rw [self3]
  unfold val_main_call0_call0_v11
  rw [e1, e10]
  exact add3 _ _

theorem pos2 : val_main_v20_1 (F := Ideal) (arr q) (arr k) = arr3 fun h t s => Real.exp (zh q k h t s - sp (zh q k h t s)) := by
  have e16 : val_main_call0_call0_v16 (F := Ideal) (arr q) (arr k) = arr3 fun h t s => zh q k h t s := by
    unfold val_main_call0_call0_v16 val_main_call0_call0_v14
    rw [pos0]
    exact fin3 _ _ _ _ inf3
  have e20 : val_main_call0_call0_v20 (F := Ideal) (arr q) (arr k) = arr3 fun h t s => sp (zh q k h t s) := by
    unfold val_main_call0_call0_v20 val_main_call0_call0_v18
    rw [pos1]
    exact fin3 _ _ _ _ inf3
  unfold val_main_v20_1 val_main_call0_call0_v21
  rw [e16, e20, sub3, exp3]

theorem neg0 : val_main_call3_v0 (F := Ideal) (arr q) (arr k) = arr3 fun h t s => -zh q k h t s := by
  unfold val_main_call3_v0
  rw [v11, neg3]

theorem neg1 : val_main_call3_v1_0 (F := Ideal) (arr q) (arr k) = arr3 fun h t s => sp (-zh q k h t s) := by
  have z0 : val_main_call3_call0_v0 (F := Ideal) = arr3 fun _ _ _ => 0 := zero3 _ fun _ => rfl
  have z2 : val_main_call3_call0_v2 (F := Ideal) = arr3 fun _ _ _ => 0 := zero3 _ fun _ => rfl
  have e3 : val_main_call3_call0_v3 (F := Ideal) (arr q) (arr k) = arr3 fun h t s => -zh q k h t s - 0 := by
    unfold val_main_call3_call0_v3; rw [neg0, z2]; exact sub3 _ _
  have e8 : val_main_call3_call0_v8 (F := Ideal) (arr q) (arr k) = arr3 fun h t s => -|-zh q k h t s - 0| := by
    unfold val_main_call3_call0_v8 val_main_call3_call0_v7; rw [e3, abs3, neg3]
  have e10 : val_main_call3_call0_v10 (F := Ideal) (arr q) (arr k) = arr3 fun h t s => Real.log (1 + Real.exp (-|-zh q k h t s - 0|)) := by
    unfold val_main_call3_call0_v10 val_main_call3_call0_v9; rw [e8, exp3, log1p3]
  have e1 : val_main_call3_call0_v1 (F := Ideal) (arr q) (arr k) = arr3 fun h t s => max (-zh q k h t s) 0 := by
    unfold val_main_call3_call0_v1; rw [neg0, z0]; exact max3 _ _
  unfold val_main_call3_v1_0 val_main_call3_call0_v4
  rw [self3]
  unfold val_main_call3_call0_v11
  rw [e1, e10]
  exact add3 _ _

theorem neg2 : val_main_v24_1 (F := Ideal) (arr q) (arr k) = arr3 fun h t s => Real.exp (-zh q k h t s - sp (-zh q k h t s)) := by
  have e16 : val_main_call3_call0_v16 (F := Ideal) (arr q) (arr k) = arr3 fun h t s => -zh q k h t s := by
    unfold val_main_call3_call0_v16 val_main_call3_call0_v14
    rw [neg0]
    exact fin3 _ _ _ _ inf3
  have e20 : val_main_call3_call0_v20 (F := Ideal) (arr q) (arr k) = arr3 fun h t s => sp (-zh q k h t s) := by
    unfold val_main_call3_call0_v20 val_main_call3_call0_v18
    rw [neg1]
    exact fin3 _ _ _ _ inf3
  unfold val_main_v24_1 val_main_call3_call0_v21
  rw [e16, e20, sub3, exp3]
end

end Cert.Attn.Claims
-- ==== Proof.AttnRefOut.lean ====
/- The attention reference, second part: the weights, their gradients, and its four results as arrays of reals. -/
module

public import proofs.«01_k».proof.Proof.Gen.AttnRefIdeal.Read
public import proofs.«01_k».proof.Proof.AttnRefStages
public import proofs.«01_k».proof.Proof.AttnBwdArr

@[expose] public section

set_option maxRecDepth 16384

noncomputable section

open Idealize.ShloMosaic Idealize.ShloMosaic.TcCoe Idealize.SL.Sem
open Cert.AttnIdeal.Value

namespace Cert.Attn.Claims

open Cert.AttnRefIdeal Cert.AttnRefIdeal.Gen Cert.AttnRefIdeal.Read

section
variable (q k v o : ℕ → ℕ → ℝ)

/-- The weights of every head, and the gradient of its scores. -/
def awh (h t s : ℕ) : ℝ := aw (zg (head q h) (head k h)) t s
def gwh (h t s : ℕ) : ℝ := gw (zg (head q h) (head k h)) (zg (head o h) (head v h)) t s
def dwh (h t s : ℕ) : ℝ := dw (zg (head q h) (head k h)) (zg (head o h) (head v h)) t s
def lkh (h t s : ℕ) : ℝ := lk (zg (head q h) (head k h)) t s

theorem mask_lt' (p : S16x4096x4096.Idx) : val_main_v27_1 (F := Ideal) p = 1 ↔ (p 2).val < (p 1).val := mask_lt p

theorem v20_0 : val_main_v20_0 (F := Ideal) (arr q) (arr k) = arr3 fun h t s => ls (zh q k h t s) - zh q k h t s := by
  unfold val_main_v20_0
  rw [pos1, neg3]
  exact congrArg arr3 (by funext h t s; exact neg_sp _)

theorem v20_1 : val_main_v20_1 (F := Ideal) (arr q) (arr k) = arr3 fun h t s => Real.exp (ls (zh q k h t s)) := by
  rw [pos2]
  refine arr3_congr fun h t s _ _ _ => ?_
  rw [sub_eq_add_neg, neg_sp]
  exact congrArg Real.exp (add_sub_cancel _ _)

theorem v24_0 : val_main_v24_0 (F := Ideal) (arr q) (arr k) = arr3 fun h t s => ls (zh q k h t s) := by
  unfold val_main_v24_0
  rw [neg1, neg3]
  exact congrArg arr3 (by funext h t s; exact neg_sp_neg _)

theorem v24_1 : val_main_v24_1 (F := Ideal) (arr q) (arr k) = arr3 fun h t s => 1 - Real.exp (ls (zh q k h t s)) := by
  rw [neg2]
  refine arr3_congr fun h t s _ _ _ => ?_
  rw [sub_eq_add_neg, neg_sp_neg, ← exp_keep, neg_add_eq_sub]

theorem v21_0 : val_main_v21_0 (F := Ideal) (arr q) (arr k) = arr3 (lkh q k) := by
  have z : val_main_call1_v2 (F := Ideal) = arr3 fun _ _ _ => 0 := zero3 _ fun _ => rfl
  unfold val_main_v21_0
  rw [v20_0, z]
  exact mask3 _ _ _ mask_lt

theorem v23 : val_main_v23 (F := Ideal) (arr q) (arr k) = arr3 fun h t s => ∑ x ∈ Finset.Ico (s + 1) 4096, lkh q k h t x := by
  have e : val_main_v22 (F := Ideal) (arr q) (arr k) = arr3 fun h t s => ∑ x ∈ Finset.Ico s 4096, lkh q k h t x := by
    unfold val_main_v22
    rw [v21_0]
    refine (window_arr3 (lkh q k) 0 4095 _ (fun _ => Ideal.ofBits_zero_f32) _ _).trans ?_
    exact arr3_congr fun h t s _ _ hs => sum_from (lkh q k h t) s hs
  unfold val_main_v23
  rw [e, v21_0, sub3]
  refine arr3_congr fun h t s _ _ hs => ?_
  rw [Finset.sum_eq_sum_Ico_succ_bot hs, add_sub_cancel_left]

theorem v26 : val_main_v26 (F := Ideal) (arr q) (arr k)
    = arr3 fun h t s => Real.exp (ls (zh q k h t s) + ∑ x ∈ Finset.Ico (s + 1) 4096, lkh q k h t x) := by
  unfold val_main_v26 val_main_v25
  rw [v24_0, v23, add3, exp3]

theorem v27 : val_main_v27_0 (F := Ideal) (arr q) (arr k) = arr3 (awh q k) := by
  have z : val_main_call4_v2 (F := Ideal) = arr3 fun _ _ _ => 0 := zero3 _ fun _ => rfl
  unfold val_main_v27_0
  rw [v26, z]
  exact mask3 _ _ _ mask_lt'

theorem v38 : val_main_v38 (F := Ideal) (arr q) (arr k) (arr v) (arr o) = arr3 (gwh q k v o) := by
  have z : val_main_call5_v0 (F := Ideal) = arr3 fun _ _ _ => 0 := zero3 _ fun _ => rfl
  have e : val_main_v37 (F := Ideal) (arr v) (arr o) = arr3 fun h t s => if s < t then dah v o h t s else 0 := by
    unfold val_main_v37
    rw [v34, z]
    exact mask3 _ _ _ mask_lt'
  unfold val_main_v38
  rw [e, v26, mul3]
  refine arr3_congr fun h t s _ _ _ => ?_
  unfold gwh gw aw
  split
  · exact mul_comm _ _
  · rw [zero_mul, zero_mul]

theorem v46 : val_main_v46 (F := Ideal) (arr q) (arr k) (arr v) (arr o) = arr3 (dwh q k v o) := by
  have z : val_main_call8_v0 (F := Ideal) = arr3 fun _ _ _ => 0 := zero3 _ fun _ => rfl
  have e41 : val_main_v41 (F := Ideal) (arr q) (arr k) (arr v) (arr o) = arr3 fun h t s => ∑ x ∈ Finset.Ico 0 (s + 1), gwh q k v o h t x := by
    unfold val_main_v41
    rw [v38]
    refine (window_arr3 (gwh q k v o) 4095 0 _ (fun _ => Ideal.ofBits_zero_f32) _ _).trans ?_
    exact arr3_congr fun h t s _ _ hs => sum_to (gwh q k v o h t) s hs rfl
  have e39 : val_main_v39 (F := Ideal) (arr q) (arr k) (arr v) (arr o)
      = arr3 fun h t s => -(-gwh q k v o h t s * (1 - Real.exp (ls (zh q k h t s)))) := by
    unfold val_main_v39 val_main_call6_v1 val_main_call6_v0
    rw [v38, v24_1, neg3, mul3, neg3]
  have e43 : val_main_v43 (F := Ideal) (arr q) (arr k) (arr v) (arr o)
      = arr3 fun h t s => if s < t then -gwh q k v o h t s + ∑ x ∈ Finset.Ico 0 (s + 1), gwh q k v o h t x else 0 := by
    unfold val_main_v43 val_main_v42 val_main_v40
    rw [v38, e41, neg3, add3, z]
    exact mask3 _ _ _ mask_lt
  unfold val_main_v46 val_main_v45 val_main_v44 val_main_call9_v1 val_main_call9_v0
  rw [e39, e43, v20_1, neg3, mul3, neg3, neg3, add3]
  refine arr3_congr fun h t s _ _ _ => ?_
  by_cases hst : s < t
  · rw [if_pos hst, dwh, dw, if_pos hst]
    unfold gwh zh
    ring
  · rw [if_neg hst, dwh, dw, if_neg hst, gwh, gw, aw, if_neg hst]
    ring

/-- Heads side by side again: the reshape of the three axes to two. -/
theorem join_head (f : ℕ → ℕ → ℕ → ℝ) (x : (⟨S4096x16x128, .f32⟩ : BufTy).Contents (Elt Ideal)) (hx : x = arr3 fun t h c => f h t c)
    (p : S4096x2048.Idx) : x (idx_main_v30 p) = ((f ((p 1).val / 128) (p 0).val ((p 1).val % 128) : ℝ) : EReal) := by
  have h0 : (p 0).val < 4096 := (p 0).isLt
  have h1 : (p 1).val < 2048 := (p 1).isLt
  rw [hx]
  show ((f (((p 0).val * 2048 + (p 1).val) / 128 % 16) (((p 0).val * 2048 + (p 1).val) / 2048) (((p 0).val * 2048 + (p 1).val) % 128) : ℝ) : EReal) = _
  rw [show ((p 0).val * 2048 + (p 1).val) / 128 % 16 = (p 1).val / 128 by omega,
    show ((p 0).val * 2048 + (p 1).val) / 2048 = (p 0).val by omega,
    show ((p 0).val * 2048 + (p 1).val) % 128 = (p 1).val % 128 by omega]

/-- The output. -/
theorem ref_o : val_main_v31 (F := Ideal) (arr q) (arr k) (arr v) = arr (aoAll q k v) := by
  have e : val_main_v29 (F := Ideal) (arr q) (arr k) (arr v) = arr3 fun t h c => ao (head q h) (head k h) (head v h) t c := by
    funext p
    rw [val_main_v29_apply, val_main_v28_apply, v10, v27]
    refine (coe_sum_mul (fun s => head v (p 1).val s (p 2).val) (fun s => awh q k (p 1).val (p 0).val s)).trans (congrArg (fun x : ℝ => (x : EReal)) ?_)
    unfold ao
    rw [← Finset.range_eq_Ico]
    exact Finset.sum_congr rfl fun s _ => mul_comm _ _
  funext p
  show val_main_v30 (F := Ideal) (arr q) (arr k) (arr v) p = _
  rw [val_main_v30_apply]
  exact join_head (fun h t c => ao (head q h) (head k h) (head v h) t c) _ e p

/-- The gradient of the values. -/
theorem ref_dv : val_main_v51 (F := Ideal) (arr q) (arr k) (arr o) = arr (dvAll q k o) := by
  have e : val_main_v36 (F := Ideal) (arr q) (arr k) (arr o) = arr3 fun t h c => dvSum (head q h) (head k h) (head o h) 4096 t c := by
    funext p
    rw [val_main_v36_apply, val_main_v35_apply, v33, v27]
    refine (coe_sum_mul (fun t => head o (p 1).val t (p 2).val) (fun t => awh q k (p 1).val t (p 0).val)).trans (congrArg (fun x : ℝ => (x : EReal)) ?_)
    unfold dvSum
    rw [← Finset.range_eq_Ico]
    exact Finset.sum_congr rfl fun s _ => mul_comm _ _
  funext p
  rw [val_main_v51_apply]
  exact join_head (fun h t c => dvSum (head q h) (head k h) (head o h) 4096 t c) _ e p

/-- The gradient of the keys. -/
theorem ref_dk : val_main_v52 (F := Ideal) (arr q) (arr k) (arr v) (arr o) = arr (dkAll q k v o) := by
  have e : val_main_v48 (F := Ideal) (arr q) (arr k) (arr v) (arr o)
      = arr3 fun t h c => dkSum (head q h) (head k h) (head v h) (head o h) 4096 t c := by
    funext p
    rw [val_main_v48_apply, val_main_v47_apply, v46, v8]
    refine (coe_sum_mul (fun t => dwh q k v o (p 1).val t (p 0).val) (fun t => head q (p 1).val t (p 2).val)).trans (congrArg (fun x : ℝ => (x : EReal)) ?_)
    unfold dkSum
    rw [← Finset.range_eq_Ico]
    rfl
  funext p
  rw [val_main_v52_apply]
  exact join_head (fun h t c => dkSum (head q h) (head k h) (head v h) (head o h) 4096 t c) _ e p

/-- The gradient of the queries. -/
theorem ref_dq : val_main_v53 (F := Ideal) (arr q) (arr k) (arr v) (arr o) = arr (dqAll q k v o) := by
  have e : val_main_v50 (F := Ideal) (arr q) (arr k) (arr v) (arr o)
      = arr3 fun t h c => dqSum (head q h) (head k h) (head v h) (head o h) t c := by
    funext p
    rw [val_main_v50_apply, val_main_v49_apply, v46, v9]
    refine (coe_sum_mul (fun s => dwh q k v o (p 1).val (p 0).val s) (fun s => head k (p 1).val s (p 2).val)).trans (congrArg (fun x : ℝ => (x : EReal)) ?_)
    unfold dqSum
    rw [← Finset.range_eq_Ico]
    rfl
  funext p
  rw [val_main_v53_apply]
  exact join_head (fun h t c => dqSum (head q h) (head k h) (head v h) (head o h) t c) _ e p
end

end Cert.Attn.Claims
-- ==== Proof.AttnClaim.lean ====
/- The claims about the attention step: finite arguments are arrays of reals, and on those the two kernels and the
   reference leave the same four arrays. -/
module

public import proofs.«01_k».proof.Defs
public import proofs.«01_k».proof.Proof.Gen.Attn.Frame
public import proofs.«01_k».proof.Proof.Gen.AttnRefIdeal
public import proofs.«01_k».proof.Proof.AttnRunValue
public import proofs.«01_k».proof.Proof.AttnRefOut
public import Idealize.ShloMosaic.Lib.Claim

@[expose] public section

noncomputable section

open Idealize.ShloMosaic Idealize.ShloMosaic.TcCoe Idealize.SL.Sem
open Cert.AttnIdeal.Value

namespace Cert.Attn.Claims

theorem pre_facts : Cert.Pre_attn_finite.Facts := ⟨by decide⟩

/-- The reals behind an array of them. -/
def reals (x : Shape.Idx ⟨2, ![4096, 2048]⟩ → EReal) (r c : ℕ) : ℝ :=
  if h : r < 4096 ∧ c < 2048 then (x fun a => match a with | ⟨0, _⟩ => ⟨r, h.1⟩ | ⟨1, _⟩ => ⟨c, h.2⟩).toReal else 0

/-- An array whose entries are finite is an array of reals. -/
theorem arr_of_finite (x : Shape.Idx ⟨2, ![4096, 2048]⟩ → EReal) (hx : ∀ p, max (x p) (-x p) < ⊤) :
    x = arr (reals x) := by
  funext p
  have h0 : (p 0).val < 4096 := (p 0).isLt
  have h1 : (p 1).val < 2048 := (p 1).isLt
  unfold arr reals
  rw [dif_pos ⟨h0, h1⟩]
  have e : (fun a => match a with | ⟨0, _⟩ => ⟨(p 0).val, h0⟩ | ⟨1, _⟩ => ⟨(p 1).val, h1⟩ : Shape.Idx ⟨2, ![4096, 2048]⟩) = p :=
    funext fun a => match a with | ⟨0, _⟩ => rfl | ⟨1, _⟩ => rfl
  rw [e]
  refine (EReal.coe_toReal (fun h => ?_) (fun h => ?_)).symm
  · exact absurd (hx p) (by rw [h]; simp)
  · exact absurd (hx p) (by rw [h]; simp)

theorem and_one {a b : BitVec 1} (h : a &&& b = 1#1) : a = 1#1 ∧ b = 1#1 := by
  revert h; revert a b; decide

theorem lt_of_bit {P : Prop} [Decidable P] (h : BitVec.ofBool (decide P) = 1#1) : P := by
  by_contra hP
  rw [decide_eq_false hP] at h
  exact absurd h (by decide)

/-- The precondition says each of the four arrays is an array of reals. -/
theorem given_of_pre (a b c d : FVec Ideal ⟨2, ![4096, 2048]⟩ .f32)
    (h : (haveI := pre_facts; Cert.Pre_attn_finite.fn (F := Ideal) a b c d) = fun _ => 1#1) :
    a = arr (reals a) ∧ b = arr (reals b) ∧ c = arr (reals c) ∧ d = arr (reals d) := by
  have inf : Ideal.ofBits .f32 0x7F800000#32 = ⊤ := by simp [Ideal.ofBits, Ideal.ieee]
  have key : ∀ p, ((max (a p) (-a p) < ⊤ ∧ max (b p) (-b p) < ⊤) ∧ max (c p) (-c p) < ⊤) ∧ max (d p) (-d p) < ⊤ := fun p => by
    have hp := congrFun h p
    change (((BitVec.ofBool (decide (max (a p) (-a p) < Ideal.ofBits .f32 0x7F800000#32))
      &&& BitVec.ofBool (decide (max (b p) (-b p) < Ideal.ofBits .f32 0x7F800000#32)))
      &&& BitVec.ofBool (decide (max (c p) (-c p) < Ideal.ofBits .f32 0x7F800000#32)))
      &&& BitVec.ofBool (decide (max (d p) (-d p) < Ideal.ofBits .f32 0x7F800000#32))) = 1#1 at hp
    rw [inf] at hp
    have h3 := and_one hp
    have h2 := and_one h3.1
    have h1 := and_one h2.1
    exact ⟨⟨⟨lt_of_bit h1.1, lt_of_bit h1.2⟩, lt_of_bit h2.2⟩, lt_of_bit h3.2⟩
  exact ⟨arr_of_finite a fun p => (key p).1.1.1, arr_of_finite b fun p => (key p).1.1.2, arr_of_finite c fun p => (key p).1.2,
    arr_of_finite d fun p => (key p).2⟩

theorem frame_ref : Cert.quiescent_AttnRefIdeal (hAttnRefIdeal := Cert.AttnRefIdeal.Gen.facts) := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

open Cert.AttnIdeal Cert.AttnRefIdeal.Read in
theorem equal : Cert.algebraic_AttnIdeal_AttnRefIdeal_pre_attn_finite (hAttnIdeal := Cert.AttnIdeal.Gen.facts)
    (hAttnRefIdeal := Cert.AttnRefIdeal.Gen.facts) (hPre_attn_finite := pre_facts) := by
  intro m g m' g' hp ha
  have hm := fun c => given_of_pre _ _ _ _ (hp c)
  refine ⟨fun c => arr (aoAll (reals (m ((c.tc : Thread nD τ).loc main_arg0))) (reals (m ((c.tc : Thread nD τ).loc main_arg1)))
        (reals (m ((c.tc : Thread nD τ).loc main_arg2)))),
    fun c => arr (dqAll (reals (m ((c.tc : Thread nD τ).loc main_arg0))) (reals (m ((c.tc : Thread nD τ).loc main_arg1)))
        (reals (m ((c.tc : Thread nD τ).loc main_arg2))) (reals (m ((c.tc : Thread nD τ).loc main_arg3)))),
    fun c => arr (dkAll (reals (m ((c.tc : Thread nD τ).loc main_arg0))) (reals (m ((c.tc : Thread nD τ).loc main_arg1)))
        (reals (m ((c.tc : Thread nD τ).loc main_arg2))) (reals (m ((c.tc : Thread nD τ).loc main_arg3)))),
    fun c => arr (dvAll (reals (m ((c.tc : Thread nD τ).loc main_arg0))) (reals (m ((c.tc : Thread nD τ).loc main_arg1)))
        (reals (m ((c.tc : Thread nD τ).loc main_arg3)))), ?_, ?_⟩
  · exact run_results m g (fun c => reals (m ((c.tc : Thread nD τ).loc main_arg0))) (fun c => reals (m ((c.tc : Thread nD τ).loc main_arg1)))
      (fun c => reals (m ((c.tc : Thread nD τ).loc main_arg2))) (fun c => reals (m ((c.tc : Thread nD τ).loc main_arg3))) hm
  · refine (θ_run Cert.AttnRefIdeal.defs _ _).mono (fun r h c => ?_) (Cert.AttnRefIdeal.Value.run (F := Ideal) m' g')
    have e0 := (ha c).1.trans (hm c).1
    have e1 := (ha c).2.1.trans (hm c).2.1
    have e2 := (ha c).2.2.1.trans (hm c).2.2.1
    have e3 := (ha c).2.2.2.trans (hm c).2.2.2
    refine ⟨?_, ?_, ?_, ?_, (h c).2.2.2.2⟩
    · refine ((h c).1.trans (val_main_v31_eq _ _)).trans ?_
      rw [e0, e1, e2]
      exact ref_o _ _ _
    · refine ((h c).2.1.trans (val_main_v53_eq _ _)).trans ?_
      rw [e0, e1, e2, e3]
      exact ref_dq _ _ _ _
    · refine ((h c).2.2.1.trans (val_main_v52_eq _ _)).trans ?_
      rw [e0, e1, e2, e3]
      exact ref_dk _ _ _ _
    · refine ((h c).2.2.2.1.trans (val_main_v51_eq _ _)).trans ?_
      rw [e0, e1, e3]
      exact ref_dv _ _ _

end Cert.Attn.Claims
-- ==== Proof.LossValue.lean ====
/- The loss head on the kernel's side: the gradient block by block, and the column sums of the squared error accumulated
   over the sixteen row blocks, both as the reference's terms over the argument arrays. -/
module

public import proofs.«01_k».proof.Proof.Gen.LossIdeal.Value
public import proofs.«01_k».proof.Proof.Gen.LossRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

variable (m : (ℓ : Loc nD τ sig) → Buf (Elt Ideal) ℓ)

/-- The windows' block indices: rows in blocks of 256, the column sums whole. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-- The kernel multiplies the error by 1/2048; the reference multiplies the doubled error by a half over 2048. -/
theorem factor (e : EReal) : e * Ideal.ofBits .f32 0x3A000000#32
    = Ideal.div (Ideal.ofBits .f32 0x3F000000#32) (Ideal.ofBits .f32 0x45000000#32)
      * (Ideal.ofBits .f32 0x40000000#32 * e) := by
  have h1 : Ideal.ofBits .f32 0x3A000000#32 = ((1 / 2048 : ℝ) : EReal) := by
    simp [Ideal.ofBits, Ideal.ieee]; rw [← EReal.coe_mul]; norm_num
  have h2 : Ideal.ofBits .f32 0x3F000000#32 = ((1 / 2 : ℝ) : EReal) := by
    simp [Ideal.ofBits, Ideal.ieee]; rw [← EReal.coe_mul]; norm_num
  have h3 : Ideal.ofBits .f32 0x45000000#32 = ((2048 : ℝ) : EReal) := by
    simp [Ideal.ofBits, Ideal.ieee]; rw [← EReal.coe_mul]; norm_num
  have h4 : Ideal.ofBits .f32 0x40000000#32 = ((2 : ℝ) : EReal) := by
    simp [Ideal.ofBits, Ideal.ieee]; rw [← EReal.coe_mul]; norm_num
  rw [h1, h2, h3, h4, Ideal.div_coe (by norm_num), ← mul_assoc, ← EReal.coe_mul, ← EReal.coe_mul, mul_comm]
  norm_num

/-- What one point stores of the gradient. -/
theorem point2 (c : Dev nD) (t : Fin cfg0.N) (y) : k0_pay2 (iblk m c 0 t) (iblk m c 1 t) y
    = Cert.LossRefIdeal.Read.val_main_v14 (F := Ideal) (m ((c : Thread nD τ).loc main_arg0)) (m ((c : Thread nD τ).loc main_arg1)) (((cfg0.win 2).blk t).view.emb y) := by
  rw [← Cert.LossRefIdeal.Read.val_main_v14_eq]
  pointwise [k0_pay2, k0_pay1]
  refine (factor _).trans ?_
  blk_point [iblk, V, idx t]

/-- The gradient after the run. -/
theorem final2 (c : Dev nD) : (dats m 0 c).arrAt 2 (cfgs 0).N
    = Cert.LossRefIdeal.Read.val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 16 = 0
  · rw [outsAt0_A m c t h0 (by have := lt_of_lt_of_eq t.isLt N_0; omega)]; frame_out; exact point2 m c t y
  · rw [outsAt0_B m c t h0 (by omega)]; frame_out; exact point2 m c t y

/-- The gradient's copy in the narrow format after the run. -/
theorem final3 (c : Dev nD) : (dats m 0 c).arrAt 3 (cfgs 0).N
    = Cert.LossRefIdeal.Read.val_main_v15 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  by_cases h0 : t.val % 16 = 0
  · rw [outsAt0_A m c t h0 (by have := lt_of_lt_of_eq t.isLt N_0; omega)]; frame_out; exact point2 m c t y
  · rw [outsAt0_B m c t h0 (by omega)]; frame_out; exact point2 m c t y

theorem pay4 (x0 x1 j) : k0_pay4 (F := Ideal) x0 x1 j
    = ∑ k : Fin 256, (x0 (ix2 k (j 1)) - x1 (ix2 k (j 1))) * (x0 (ix2 k (j 1)) - x1 (ix2 k (j 1))) := by
  pointwise [k0_pay4, k0_pay1]

theorem pay5 (x0 x1 acc j) : k0_pay5 (F := Ideal) x0 x1 acc j
    = acc j + ∑ k : Fin 256, (x0 (ix2 k (j 1)) - x1 (ix2 k (j 1))) * (x0 (ix2 k (j 1)) - x1 (ix2 k (j 1))) := by
  pointwise [k0_pay5, k0_pay4, k0_pay1]

theorem ref19 (X0 X1 j) : Cert.LossRefIdeal.Read.val_main_v19 (F := Ideal) X0 X1 j
    = ∑ k : Fin 4096, (X0 (ix2 k (j 1)) - X1 (ix2 k (j 1))) * (X0 (ix2 k (j 1)) - X1 (ix2 k (j 1))) := by
  rw [← Cert.LossRefIdeal.Read.val_main_v19_eq]
  pointwise

/-- The column sums after the run. -/
theorem final4 (c : Dev nD) : (dats m 0 c).arrAt 4 (cfgs 0).N
    = Cert.LossRefIdeal.Read.val_main_v19 (F := Ideal) (m ((c : Thread nD τ).loc main_arg0)) (m ((c : Thread nD τ).loc main_arg1)) := by
  refine (dats m 0 c).arrAt_eq_of_after_last 4 t0_15 (by decide +kernel) _ fun j => ?_
  blk_simp
  rw [after0_4, Pipeline.eq_sum_fin_of_reset_step_apply_last (fun n h => (outsAt0 m c n h).2.2) 16 (fun _ => 0) _
    (fun t h j => by
      rw [outsAt0_A m c t h (by have := lt_of_lt_of_eq t.isLt N_0; omega)]; frame_out; rw [pay4, ← zero_add (Finset.sum _ _)])
    (fun t h j => by rw [outsAt0_B m c t h (by omega)]; frame_out; rw [pay5])
    (le_of_eq N_0) t0_15 rfl j, zero_add, ref19]
  refine Fin.sum_mul_add_congr fun s k hl => ?_
  blk_point [iblk, V, idx s]

end Cert.LossIdeal.Value
-- ==== Proof.LossClaim.lean ====
/- The claims about the loss head. -/
module

public import proofs.«01_k».proof.Defs
public import proofs.«01_k».proof.Proof.Gen.Loss.Frame
public import proofs.«01_k».proof.Proof.Gen.LossRefIdeal
public import proofs.«01_k».proof.Proof.LossValue
public import Idealize.ShloMosaic.Lib.Claim

@[expose] public section

noncomputable section

open Idealize.ShloMosaic Idealize.ShloMosaic.TcCoe Idealize.SL.Sem

namespace Cert.Loss.Claims

theorem frame_ref : Cert.quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run (F := Ideal) m ρ)

open Cert.LossIdeal Cert.LossRefIdeal.Read in
theorem equal : Cert.algebraic_LossIdeal_LossRefIdeal (hLossIdeal := Cert.LossIdeal.Gen.facts) (hLossRefIdeal := Cert.LossRefIdeal.Gen.facts) := by
  intro m g m' g' _ ha
  refine ⟨fun c => val_main_v14 (F := Ideal) (m ((c.tc : Thread nD τ).loc main_arg0)) (m ((c.tc : Thread nD τ).loc main_arg1)),
    fun c => val_main_v15 (F := Ideal) (m ((c.tc : Thread nD τ).loc main_arg0)) (m ((c.tc : Thread nD τ).loc main_arg1)),
    fun c => val_main_v19 (F := Ideal) (m ((c.tc : Thread nD τ).loc main_arg0)) (m ((c.tc : Thread nD τ).loc main_arg1)), ?_, ?_⟩
  · exact (θ_run Cert.LossIdeal.defs _ _).mono (fun r h c =>
      ⟨(h c).1.trans (Cert.LossIdeal.Value.final2 m c), (h c).2.1.trans (Cert.LossIdeal.Value.final3 m c),
        (h c).2.2.1.trans (Cert.LossIdeal.Value.final4 m c), (h c).2.2.2⟩)
      (Cert.LossIdeal.Value.run_blocks (F := Ideal) m g)
  · refine (θ_run Cert.LossRefIdeal.defs _ _).mono (fun r h c => ⟨?_, ?_, ?_, (h c).2.2.2⟩)
      (Cert.LossRefIdeal.Value.run (F := Ideal) m' g')
    · exact ((h c).1.trans (val_main_v14_eq _ _)).trans (congrArg₂ _ (ha c).1 (ha c).2)
    · exact ((h c).2.1.trans (val_main_v15_eq _ _)).trans (congrArg₂ _ (ha c).1 (ha c).2)
    · exact ((h c).2.2.1.trans (val_main_v19_eq _ _)).trans (congrArg₂ _ (ha c).1 (ha c).2)

end Cert.Loss.Claims
-- ==== Proof.ShiftRows.lean ====
/- A column of 4096 rows moved down or up by some rows, with zeros in the rows that open up: as a rotation behind a
   comparison of row numbers. -/
module

public import proofs.«01_k».proof.Defs
public import Idealize.ShloMosaic.Lib.WordCmp

@[expose] public section

noncomputable section

open Idealize.ShloMosaic Idealize.ShloMosaic.WordCmp

namespace Cert.Shift

/-- Row `t` of the column `f` moved down by `n` rows. -/
def down (n : ℕ) (f : Fin 4096 → EReal) (t : Fin 4096) : EReal := if h : n ≤ (t : ℕ) then f ⟨t - n, by omega⟩ else 0

/-- Row `t` of the column `f` moved up by `n` rows. -/
def up (n : ℕ) (f : Fin 4096 → EReal) (t : Fin 4096) : EReal := if h : (t : ℕ) + n < 4096 then f ⟨t + n, h⟩ else 0

/-- The rotation by `n` rows behind the test that the row number is at least `n`. -/
theorem down_word (n : ℕ) (hn : n ≤ 4096) (f : Fin 4096 → EReal) (t : Fin 4096) (k : Fin 4096) (hk : (k : ℕ) = (t + 4096 - n) % 4096) :
    Scalar.select (IntOp.cmpi .sge (BitVec.ofNat 32 t) (BitVec.ofNat 32 n)) (f k) 0 = down n f t := by
  have ht : (t : ℕ) < 2 ^ (32 - 1) := by omega
  rw [cmpi_sge_ofNat ht (by omega), select_ofBool, down]
  by_cases h : n ≤ (t : ℕ)
  · rw [dif_pos h, if_pos (decide_eq_true h)]
    exact congrArg f (Fin.ext (by simp only [hk]; omega))
  · rw [dif_neg h, if_neg (by simpa using h)]

/-- The rotation by `4096 - n` rows behind the test that the row number is below `4096 - n`. -/
theorem up_word (n : ℕ) (hn : n ≤ 4096) (f : Fin 4096 → EReal) (t : Fin 4096) (k : Fin 4096) (hk : (k : ℕ) = (t + n) % 4096) :
    Scalar.select (IntOp.cmpi .slt (BitVec.ofNat 32 t) (BitVec.ofNat 32 (4096 - n))) (f k) 0 = up n f t := by
  have ht : (t : ℕ) < 2 ^ (32 - 1) := by omega
  rw [cmpi_slt_ofNat ht (by omega), select_ofBool, up]
  by_cases h : (t : ℕ) + n < 4096
  · rw [dif_pos h, if_pos (decide_eq_true (by omega))]
    exact congrArg f (Fin.ext (by simp only [hk]; omega))
  · rw [dif_neg h, if_neg (by simp; omega)]

/-- A factor goes inside the shift. -/
theorem mul_up (n : ℕ) (a : EReal) (f : Fin 4096 → EReal) (t : Fin 4096) : a * up n f t = up n (fun s => a * f s) t := by
  unfold up
  by_cases h : (t : ℕ) + n < 4096
  · rw [dif_pos h, dif_pos h]
  · rw [dif_neg h, dif_neg h, mul_zero]

theorem mul_down (n : ℕ) (a : EReal) (f : Fin 4096 → EReal) (t : Fin 4096) : a * down n f t = down n (fun s => a * f s) t := by
  unfold down
  by_cases h : n ≤ (t : ℕ)
  · rw [dif_pos h, dif_pos h]
  · rw [dif_neg h, dif_neg h, mul_zero]

end Cert.Shift
-- ==== Proof.ConvBlock.lean ====
/- What one column block of the gated convolution's backward call computes, entry by entry. -/
module

public import proofs.«01_k».proof.Proof.Gen.ConvIdeal.Skeleton
public import proofs.«01_k».proof.Proof.ShiftRows
public import Idealize.ShloMosaic.Lib.Pipeline.ValueKit
public import Idealize.ShloMosaic.Lib.Pointwise

@[expose] public section

set_option maxRecDepth 200000

noncomputable section

open Idealize.ShloMosaic Idealize.ShloMosaic.TcCoe Idealize.SL.Sem Cert.Shift

namespace Cert.ConvIdeal.Value

open Cert.ConvIdeal Cert.ConvIdeal.Gen

variable (b c u : Vec Ideal S1x4096x128 .f32) (q : Vec Ideal S4096x128 .f32) (w : Vec Ideal S1x8x128 .f32)

/-- The gated input of column `d`. -/
def gcol (d : Fin 128) (t : Fin 4096) : EReal := c (ix3 0 t d) * u (ix3 0 t d)

/-- The gradient of the convolution's output, column `d`. -/
def ycol (d : Fin 128) (t : Fin 4096) : EReal := q (ix2 t d) * b (ix3 0 t d)

/-- The gradient of the gated input, column `d`. -/
def dcol (d : Fin 128) (t : Fin 4096) : EReal :=
  w (ix3 0 2 d) * ycol b q d t + w (ix3 0 1 d) * up 1 (ycol b q d) t + w (ix3 0 0 d) * up 2 (ycol b q d) t

theorem pay10_at (t : Fin 4096) (d : Fin 128) : k0_pay10 (F := Ideal) c u (ix2 t d) = down 1 (gcol c u d) t := by
  pointwise [k0_pay10, k0_pay9, k0_pay6, k0_pay7]
  exact down_word 1 (by omega) (gcol c u d) t _ rfl

theorem pay11_at (t : Fin 4096) (d : Fin 128) : k0_pay11 (F := Ideal) c u (ix2 t d) = down 2 (gcol c u d) t := by
  pointwise [k0_pay11, k0_pay9, k0_pay6, k0_pay7]
  exact down_word 2 (by omega) (gcol c u d) t _ rfl

theorem pay12_at (t : Fin 4096) (d : Fin 128) : k0_pay12 (F := Ideal) c u q w (ix2 t d)
    = q (ix2 t d) * (w (ix3 0 2 d) * gcol c u d t + w (ix3 0 1 d) * down 1 (gcol c u d) t + w (ix3 0 0 d) * down 2 (gcol c u d) t) := by
  pointwise [k0_pay12, k0_pay8, pay10_at, pay11_at, k0_pay9, k0_pay6, k0_pay7, gcol]

theorem pay15_at (t : Fin 4096) (d : Fin 128) : k0_pay15 (F := Ideal) (k0_pay5 b) q (k0_pay8 w) (ix2 t d) = dcol b q w d t := by
  pointwise [k0_pay15, k0_pay14, k0_pay5, k0_pay8]
  rw [dcol, mul_up, mul_up]
  exact congrArg₂ (· + ·) (congrArg₂ (· + ·) rfl (up_word 1 (by omega) (fun s => w (ix3 0 1 d) * ycol b q d s) t _ (by simp)))
    (up_word 2 (by omega) (fun s => w (ix3 0 0 d) * ycol b q d s) t _ (by simp))

theorem pay2_at (j) : k0_pay2 (F := Ideal) (k0_pay10 c u) (k0_pay14 (k0_pay5 b) q) j
    = ∑ t : Fin 4096, ycol b q (j 2) t * down 1 (gcol c u (j 2)) t := by
  pointwise [k0_pay2, k0_pay14, k0_pay5]
  exact Finset.sum_congr rfl fun t _ => congrArg (_ * ·) (pay10_at c u t _)

theorem pay3_at (j) : k0_pay3 (F := Ideal) (k0_pay9 c u) (k0_pay14 (k0_pay5 b) q) j
    = ∑ t : Fin 4096, ycol b q (j 2) t * gcol c u (j 2) t := by
  pointwise [k0_pay3, k0_pay14, k0_pay5, k0_pay9, k0_pay6, k0_pay7]
  rfl

theorem pay1_at (j) : k0_pay1 (F := Ideal) (k0_pay18 (k0_pay5 b) q (k0_pay11 c u)) j
    = ∑ t : Fin 4096, ycol b q (j 2) t * down 2 (gcol c u (j 2)) t := by
  pointwise [k0_pay1, k0_pay18, k0_pay14, k0_pay5]
  exact Finset.sum_congr rfl fun t _ => congrArg (_ * ·) (pay11_at c u t _)

end Cert.ConvIdeal.Value
-- ==== Proof.ConvRef.lean ====
/- What the reference of the gated convolution's backward call computes, entry by entry. -/
module

public import proofs.«01_k».proof.Proof.Gen.ConvRefIdeal.Read
public import proofs.«01_k».proof.Proof.ShiftRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Shift

namespace Cert.ConvRefIdeal.Read

open Cert.ConvRefIdeal Cert.ConvRefIdeal.Gen

variable (X0 : (⟨S4096x2048, .f32⟩ : BufTy).Contents (Elt Ideal)) (X1 : (⟨S3x4096x2048, .f32⟩ : BufTy).Contents (Elt Ideal))
  (X2 : (⟨S3x2048, .f32⟩ : BufTy).Contents (Elt Ideal))

/-- The gated input of column `d`. -/
def gcol (d : Fin 2048) (t : Fin 4096) : EReal := X1 (ix3 1 t d) * X1 (ix3 2 t d)

/-- The gradient of the convolution's output, column `d`. -/
def ycol (d : Fin 2048) (t : Fin 4096) : EReal := X0 (ix2 t d) * X1 (ix3 0 t d)

/-- The gradient of the gated input, column `d`. -/
def dcol (d : Fin 2048) (t : Fin 4096) : EReal :=
  X2 (ix2 2 d) * ycol X0 X1 d t + X2 (ix2 1 d) * up 1 (ycol X0 X1 d) t + X2 (ix2 0 d) * up 2 (ycol X0 X1 d) t

theorem v6_at (t : Fin 4096) (d : Fin 2048) : val_main_v6 X1 (ix2 t d) = gcol X1 d t := by
  pointwise [val_main_v6, val_main_v5, val_main_v4, val_main_v3, val_main_v2]
  rfl

theorem v8_at (k : Fin 4098) (t : Fin 4096) (n : ℕ) (hn : n ≤ 2) (hk : (k : ℕ) = t + (2 - n)) (d : Fin 2048) : val_main_v8 X1 (ix2 k d) = down n (gcol X1 d) t := by
  pointwise [val_main_v8, val_main_v7, val_main_cst]
  unfold down
  by_cases h : (k : ℕ) < 2
  · rw [dif_pos h, dif_neg (by omega)]
  · rw [dif_neg h, dif_pos (by omega), v6_at]
    exact congrArg _ (Fin.ext (by simp only []; omega))

theorem v10_at (t : Fin 4096) (d : Fin 2048) : val_main_v10 X1 (ix2 t d) = down 2 (gcol X1 d) t := by
  pointwise [val_main_v10]
  exact v8_at X1 _ t 2 (by omega) (by simp) d

theorem v18_at (t : Fin 4096) (d : Fin 2048) : val_main_v18 X1 (ix2 t d) = down 1 (gcol X1 d) t := by
  pointwise [val_main_v18]
  exact v8_at X1 _ t 1 (by omega) (by simp; omega) d

theorem v25_at (t : Fin 4096) (d : Fin 2048) : val_main_v25 X1 (ix2 t d) = gcol X1 d t := by
  pointwise [val_main_v25]
  refine (v8_at X1 _ t 0 (by omega) (by simp; omega) d).trans ?_
  simp [down]

theorem v33_at (t : Fin 4096) (d : Fin 2048) : val_main_v33 X0 X1 (ix2 t d) = ycol X0 X1 d t := by
  pointwise [val_main_v33, val_main_v1, val_main_v0]
  exact mul_comm _ _

/-- The convolution's output. -/
theorem v31_at (t : Fin 4096) (d : Fin 2048) : val_main_v31 X1 X2 (ix2 t d)
    = X2 (ix2 2 d) * gcol X1 d t + X2 (ix2 1 d) * down 1 (gcol X1 d) t + X2 (ix2 0 d) * down 2 (gcol X1 d) t := by
  pointwise [val_main_v31, val_main_v30, val_main_v29, val_main_v28, val_main_v27, val_main_v26, val_main_v24, val_main_v23,
    val_main_v22, val_main_v21, val_main_v20, val_main_v19, val_main_v17, val_main_v16, val_main_cst_1, val_main_v15, val_main_v14,
    val_main_v13, val_main_v12, val_main_v11, v10_at, v18_at, v25_at]
  rw [mul_comm (X2 _), mul_comm (X2 _), mul_comm (X2 _), add_comm (_ + _) (gcol X1 d t * _), add_comm (down 2 _ t * _), add_assoc]

/-- The gradient of the gated input behind two rows of zeros. -/
theorem v67_at (t : Fin 4096) (d : Fin 2048) : val_main_v67 X0 X1 X2 (ix2 t d) = dcol X0 X1 X2 d t := by
  pointwise [val_main_v67, val_main_v65, val_main_v64, val_main_v54, val_main_v53, val_main_v43, val_main_v59, val_main_v58, val_main_v48, val_main_v47,
    val_main_v39, val_main_v38, val_main_v28, val_main_v27, val_main_v26, val_main_v21, val_main_v20, val_main_v19,
    val_main_v13, val_main_v12, val_main_v11, v33_at, val_main_cst_5, val_main_cst_9, val_main_cst_13]
  rw [dcol, mul_up, mul_up]
  refine congrArg₂ (· + ·) (congrArg₂ (· + ·) (mul_comm _ _) ?_) ?_
  · unfold up
    by_cases h : (t : ℕ) + 1 < 4096
    · rw [dif_pos (by omega), dif_pos h, mul_comm]
      exact congrArg (fun s => X2 (ix2 1 d) * ycol X0 X1 d s) (Fin.ext (by simp only []; omega))
    · rw [dif_neg (by omega), dif_neg h]
  · unfold up
    by_cases h : (t : ℕ) + 2 < 4096
    · rw [dif_pos (by omega), dif_pos h, mul_comm]
      exact congrArg (fun s => X2 (ix2 0 d) * ycol X0 X1 d s) (Fin.ext (by simp only []; omega))
    · rw [dif_neg (by omega), dif_neg h]

/-- The three parts of the gradient of the projected input. -/
theorem v77_at (p : Fin 3) (t : Fin 4096) (d : Fin 2048) : val_main_v77 X0 X1 X2 (ix3 p t d)
    = if (p : ℕ) = 0 then X0 (ix2 t d) *
          (X2 (ix2 2 d) * gcol X1 d t + X2 (ix2 1 d) * down 1 (gcol X1 d) t + X2 (ix2 0 d) * down 2 (gcol X1 d) t)
      else if (p : ℕ) = 1 then dcol X0 X1 X2 d t * X1 (ix3 2 t d) else X1 (ix3 1 t d) * dcol X0 X1 X2 d t := by
  pointwise [val_main_v77, val_main_v76, val_main_v75, val_main_v74, val_main_v73, val_main_v72, val_main_v71, val_main_v70,
    val_main_v69, val_main_v68, val_main_v34, v67_at, v31_at, val_main_cst_14, val_main_cst_15, val_main_cst_16,
    val_main_v5, val_main_v4, val_main_v3, val_main_v2]
  fin_cases p <;> simp

/-- The gradient of the taps: each tap's shifted input against the output's gradient. -/
theorem v63_at (p : Fin 3) (d : Fin 2048) : val_main_v63 X0 X1 (ix2 p d)
    = if (p : ℕ) = 0 then ∑ t, down 2 (gcol X1 d) t * ycol X0 X1 d t
      else if (p : ℕ) = 1 then ∑ t, down 1 (gcol X1 d) t * ycol X0 X1 d t else ∑ t, gcol X1 d t * ycol X0 X1 d t := by
  pointwise [val_main_v63, val_main_v62, val_main_v61, val_main_v60, val_main_v57, val_main_v56, val_main_v55,
     val_main_v52, val_main_v51, val_main_v50, val_main_v49, val_main_v46, val_main_v45, val_main_v44,
     val_main_v42, val_main_v41, val_main_v40, val_main_v37, val_main_v36, val_main_v35, v33_at, v10_at, v18_at, v25_at, val_main_cst_2,
     val_main_cst_3, val_main_cst_4, val_main_cst_6, val_main_cst_7, val_main_cst_8, val_main_cst_10, val_main_cst_11, val_main_cst_12]
  fin_cases p <;> simp

/-- The returned taps: five rows of zeros below the three, in four column blocks. -/
theorem v80_at (s : Fin 4) (p : Fin 8) (d : Fin 512) : val_main_v80 X0 X1 (ix3 s p d)
    = if h : (p : ℕ) < 3 then val_main_v63 X0 X1 (ix2 ⟨p, h⟩ ⟨s * 512 + d, by omega⟩) else 0 := by
  pointwise [val_main_v80, val_main_v79, val_main_v78, val_main_call0_v0, val_main_c]
  by_cases h : (p : ℕ) < 3
  · rw [dif_pos h, dif_pos ⟨h, by omega⟩]
  · rw [dif_neg h, dif_neg (by omega)]
    simp [FloatOps.sitofp]

end Cert.ConvRefIdeal.Read
-- ==== Proof.ConvValue.lean ====
/- The gated convolution's backward call on the kernel's side: the gradients of its three operands column block by column
   block, and the gradients of the taps, both as the reference's terms over the argument arrays. -/
module

public import proofs.«01_k».proof.Proof.Gen.ConvIdeal.Value
public import proofs.«01_k».proof.Proof.ConvBlock
public import proofs.«01_k».proof.Proof.ConvRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Shift
open Idealize.ShloMosaic.Pipeline (Dat)

namespace Cert.ConvIdeal.Value

open Cert.ConvIdeal Cert.ConvIdeal.Gen

variable (m : (ℓ : Loc nD τ sig) → Buf (Elt Ideal) ℓ)

/-- The windows' block indices: columns in blocks of 128, the taps in quarters of four blocks. -/
theorem idx : ∀ t : Fin cfg0.N, win0_0.index t = ![0, t.val] ∧ win0_1.index t = ![0, 0, t.val] ∧ win0_2.index t = ![1, 0, t.val]
    ∧ win0_3.index t = ![2, 0, t.val] ∧ win0_4.index t = ![t.val / 4, 0, t.val % 4] ∧ win0_5.index t = ![0, 0, t.val]
    ∧ win0_6.index t = ![t.val / 4, 0, t.val % 4] :=
  (by decide +kernel : ∀ t : Fin grid0.N, _)

/-- The column of the arrays behind column `d` of block `t`. -/
def col (t : Fin cfg0.N) (d : Fin 128) : Fin 2048 := ⟨t.val * 128 + d.val, by have := lt_of_lt_of_eq t.isLt N_0; omega⟩

theorem read0 (c : Dev nD) (t : Fin cfg0.N) (s : Fin 4096) (d : Fin 128) :
    (iblk m c 0 t : Vec Ideal S4096x128 .f32) (ix2 s d) = (m ((c : Thread nD τ).loc main_arg0) : Vec Ideal S4096x2048 .f32) (ix2 s (col t d)) := by
  blk_ext [iblk, V, idx t, col]

theorem read1 (c : Dev nD) (t : Fin cfg0.N) (s : Fin 4096) (d : Fin 128) :
    (iblk m c 1 t : Vec Ideal S1x4096x128 .f32) (ix3 0 s d) = (m ((c : Thread nD τ).loc main_arg1) : Vec Ideal S3x4096x2048 .f32) (ix3 0 s (col t d)) := by
  blk_ext [iblk, V, idx t, col]

theorem read2 (c : Dev nD) (t : Fin cfg0.N) (s : Fin 4096) (d : Fin 128) :
    (iblk m c 2 t : Vec Ideal S1x4096x128 .f32) (ix3 0 s d) = (m ((c : Thread nD τ).loc main_arg1) : Vec Ideal S3x4096x2048 .f32) (ix3 1 s (col t d)) := by
  blk_ext [iblk, V, idx t, col]

theorem read3 (c : Dev nD) (t : Fin cfg0.N) (s : Fin 4096) (d : Fin 128) :
    (iblk m c 3 t : Vec Ideal S1x4096x128 .f32) (ix3 0 s d) = (m ((c : Thread nD τ).loc main_arg1) : Vec Ideal S3x4096x2048 .f32) (ix3 2 s (col t d)) := by
  blk_ext [iblk, V, idx t, col]

/-- The taps with rows of zeros below, sixteen rows in four column blocks. -/
def padded (X : Vec Ideal S3x2048 .f32) : Vec Ideal S4x16x512 .f32 :=
  transpose S4x16x512 [1, 0, 2] (shapeCast S16x4x512
    (pad S16x2048 ![0, 0] ![13, 0] ![0, 0] X (sitofp (F := Ideal) .f32 (constantI S_ 32 0#32)) pads_S3x2048_S16x2048_0130_000 h_S_)
    shapeCasts_S16x2048_S16x4x512) transposes_S16x4x512_S4x16x512_1_0_2

theorem padded_at (X : Vec Ideal S3x2048 .f32) (q : Fin 4) (p : Fin 3) (d : Fin 512) :
    padded X (ix3 q ⟨p.val, by omega⟩ d) = X (ix2 p ⟨q.val * 512 + d.val, by omega⟩) := by
  have hp := p.isLt
  pointwise [padded]
  rw [dif_pos (by omega)]

/-- The host's array of taps. -/
theorem taps (c : Dev nD) : V m c main_v2 = padded (m ((c : Thread nD τ).loc main_arg2) : Vec Ideal S3x2048 .f32) := by
  unfold V padded
  simp only [hostOps0, hostOps0_1, hostOps0_2, List.flatten_cons, List.flatten_nil, List.append_nil, List.cons_append, List.nil_append]
  after_results <;> rfl

/-- The taps' padded array at a block: rows 0, 1, 2 are the taps. -/
theorem read4 (c : Dev nD) (t : Fin cfg0.N) (p : Fin 3) (d : Fin 128) :
    (iblk m c 4 t : Vec Ideal S1x8x128 .f32) (ix3 0 ⟨p, by omega⟩ d) = (m ((c : Thread nD τ).loc main_arg2) : Vec Ideal S3x2048 .f32) (ix2 p (col t d)) := by
  have ht := lt_of_lt_of_eq t.isLt N_0
  blk_simp [iblk]
  rw [taps]
  refine (congrArg (padded _) (show _ = (ix3 ⟨t.val / 4, by omega⟩ ⟨p.val, by omega⟩ ⟨t.val % 4 * 128 + d.val, by omega⟩ : S4x16x512.Idx) by
    blk_ext [idx t])).trans ((padded_at _ _ p _).trans ?_)
  exact congrArg (fun d => (m ((c : Thread nD τ).loc main_arg2) : Vec Ideal S3x2048 .f32) (ix2 p d)) (Fin.ext (by simp only [col]; omega))

theorem gcol_eq (c : Dev nD) (t : Fin cfg0.N) (d : Fin 128) : gcol (iblk m c 2 t) (iblk m c 3 t) d
    = Cert.ConvRefIdeal.Read.gcol (m ((c : Thread nD τ).loc main_arg1)) (col t d) := by
  funext s
  exact congrArg₂ (· * ·) (read2 m c t s d) (read3 m c t s d)

theorem ycol_eq (c : Dev nD) (t : Fin cfg0.N) (d : Fin 128) : ycol (iblk m c 1 t) (iblk m c 0 t) d
    = Cert.ConvRefIdeal.Read.ycol (m ((c : Thread nD τ).loc main_arg0)) (m ((c : Thread nD τ).loc main_arg1)) (col t d) := by
  funext s
  exact congrArg₂ (· * ·) (read0 m c t s d) (read1 m c t s d)

theorem dcol_eq (c : Dev nD) (t : Fin cfg0.N) (d : Fin 128) : dcol (iblk m c 1 t) (iblk m c 0 t) (iblk m c 4 t) d
    = Cert.ConvRefIdeal.Read.dcol (m ((c : Thread nD τ).loc main_arg0)) (m ((c : Thread nD τ).loc main_arg1)) (m ((c : Thread nD τ).loc main_arg2)) (col t d) := by
  funext s
  unfold dcol Cert.ConvRefIdeal.Read.dcol
  rw [ycol_eq]
  exact congrArg₂ (· + ·) (congrArg₂ (· + ·) (congrArg (· * _) (read4 m c t 2 d)) (congrArg (· * _) (read4 m c t 1 d))) (congrArg (· * _) (read4 m c t 0 d))

/-- The gradients of the operands after the run. -/
theorem final5 (c : Dev nD) : (dats m 0 c).arrAt 5 (cfgs 0).N
    = Cert.ConvRefIdeal.Read.val_main_v81 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_out
  canon_tiles x h
  all_goals idx_vars x
  case piece0 =>
    refine Eq.trans ?_ (congrArg _ (show (ix3 2 x1 (col t x2) : S3x4096x2048.Idx) = _ by blk_ext [idx t, col, h0, h1, h2]))
    pointwise [Cert.ConvRefIdeal.Read.val_main_v81, k0_pay17, pay15_at, k0_pay6, Cert.ConvRefIdeal.Read.v77_at]
    rw [dcol_eq, read2, mul_comm]
  case piece1 =>
    refine Eq.trans ?_ (congrArg _ (show (ix3 1 x1 (col t x2) : S3x4096x2048.Idx) = _ by blk_ext [idx t, col, h0, h1, h2]))
    pointwise [Cert.ConvRefIdeal.Read.val_main_v81, k0_pay16, pay15_at, k0_pay7, Cert.ConvRefIdeal.Read.v77_at]
    rw [dcol_eq, read3, mul_comm]
  case piece2 =>
    refine Eq.trans ?_ (congrArg _ (show (ix3 0 x1 (col t x2) : S3x4096x2048.Idx) = _ by blk_ext [idx t, col, h0, h1, h2]))
    pointwise [Cert.ConvRefIdeal.Read.val_main_v81, k0_pay13, pay12_at, Cert.ConvRefIdeal.Read.v77_at]
    rw [gcol_eq, read0]
    refine congrArg (HMul.hMul (α := EReal) (β := EReal) (γ := EReal) _) (congrArg₂ (· + ·) (congrArg₂ (· + ·) (congrArg (· * _) (read4 m c t 2 x2)) (congrArg (· * _) (read4 m c t 1 x2))) (congrArg (· * _) (read4 m c t 0 x2)))

/-- Entry by entry, the returned taps at a block. -/
theorem tap_at (c : Dev nD) (t : Fin cfg0.N) (p : Fin 3) (k : Fin 128) :
    Cert.ConvRefIdeal.Read.val_main_v63 (F := Ideal) (m ((c : Thread nD τ).loc main_arg0)) (m ((c : Thread nD τ).loc main_arg1)) (ix2 p (col t k))
      = Cert.ConvRefIdeal.Read.val_main_v80 (F := Ideal) (m ((c : Thread nD τ).loc main_arg0)) (m ((c : Thread nD τ).loc main_arg1))
        (ix3 ⟨t.val / 4, by have := lt_of_lt_of_eq t.isLt N_0; omega⟩ ⟨p.val, by omega⟩ ⟨t.val % 4 * 128 + k.val, by omega⟩) := by
  rw [Cert.ConvRefIdeal.Read.v80_at, dif_pos p.isLt]
  exact congrArg (fun d => Cert.ConvRefIdeal.Read.val_main_v63 (F := Ideal) _ _ (ix2 p d)) (Fin.ext (by simp only [col]; omega))

/-- The sums behind the three taps are the reference's. -/
theorem tap0 (c : Dev nD) (t : Fin cfg0.N) (k : Fin 128) :
    (∑ s : Fin 4096, ycol (iblk m c 1 t) (iblk m c 0 t) k s * down 2 (gcol (iblk m c 2 t) (iblk m c 3 t) k) s)
      = Cert.ConvRefIdeal.Read.val_main_v63 (F := Ideal) (m ((c : Thread nD τ).loc main_arg0)) (m ((c : Thread nD τ).loc main_arg1)) (ix2 0 (col t k)) := by
  rw [Cert.ConvRefIdeal.Read.v63_at, ycol_eq, gcol_eq]
  exact Finset.sum_congr rfl fun s _ => mul_comm _ _

theorem tap1 (c : Dev nD) (t : Fin cfg0.N) (k : Fin 128) :
    (∑ s : Fin 4096, ycol (iblk m c 1 t) (iblk m c 0 t) k s * down 1 (gcol (iblk m c 2 t) (iblk m c 3 t) k) s)
      = Cert.ConvRefIdeal.Read.val_main_v63 (F := Ideal) (m ((c : Thread nD τ).loc main_arg0)) (m ((c : Thread nD τ).loc main_arg1)) (ix2 1 (col t k)) := by
  rw [Cert.ConvRefIdeal.Read.v63_at, ycol_eq, gcol_eq]
  exact Finset.sum_congr rfl fun s _ => mul_comm _ _

theorem tap2 (c : Dev nD) (t : Fin cfg0.N) (k : Fin 128) :
    (∑ s : Fin 4096, ycol (iblk m c 1 t) (iblk m c 0 t) k s * gcol (iblk m c 2 t) (iblk m c 3 t) k s)
      = Cert.ConvRefIdeal.Read.val_main_v63 (F := Ideal) (m ((c : Thread nD τ).loc main_arg0)) (m ((c : Thread nD τ).loc main_arg1)) (ix2 2 (col t k)) := by
  rw [Cert.ConvRefIdeal.Read.v63_at, ycol_eq, gcol_eq]
  exact Finset.sum_congr rfl fun s _ => mul_comm _ _

/-- The gradients of the taps after the run. -/
theorem final6 (c : Dev nD) : (dats m 0 c).arrAt 6 (cfgs 0).N
    = Cert.ConvRefIdeal.Read.val_main_v80 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  unfold outsAt0
  frame_out
  canon_tiles x h using View.cover_of_tiledBy _ ![1, 1, 128] (by sl_kernel_rfl) y
  all_goals refine Eq.trans ?_ (congrArg _ (show (ix3 ⟨t.val / 4, by have := lt_of_lt_of_eq t.isLt N_0; omega⟩ ⟨(y 1).val, by omega⟩ ⟨t.val % 4 * 128 + (x 2).val, by omega⟩ : S4x8x512.Idx) = _ by
    blk_ext [idx t, h0, h2]))
  case piece0 =>
    rw [Cert.ConvRefIdeal.Read.v80_at, dif_neg (by simp only []; omega)]
    pointwise [k0_pay4]
  case piece1 =>
    refine Eq.trans ?_ ((tap_at m c t 2 (x 2)).trans (congrArg (Cert.ConvRefIdeal.Read.val_main_v80 (F := Ideal) _ _)
      (congrArg (fun p => (ix3 _ p _ : S4x8x512.Idx)) (Fin.ext (show 2 = (y 1).val by omega)))))
    exact (pay3_at _ _ _ _ x).trans (tap2 m c t (x 2))
  case piece2 =>
    refine Eq.trans ?_ ((tap_at m c t 1 (x 2)).trans (congrArg (Cert.ConvRefIdeal.Read.val_main_v80 (F := Ideal) _ _)
      (congrArg (fun p => (ix3 _ p _ : S4x8x512.Idx)) (Fin.ext (show 1 = (y 1).val by omega)))))
    exact (pay2_at _ _ _ _ x).trans (tap1 m c t (x 2))
  case piece3 =>
    refine Eq.trans ?_ ((tap_at m c t 0 (x 2)).trans (congrArg (Cert.ConvRefIdeal.Read.val_main_v80 (F := Ideal) _ _)
      (congrArg (fun p => (ix3 _ p _ : S4x8x512.Idx)) (Fin.ext (show 0 = (y 1).val by omega)))))
    exact (pay1_at _ _ _ _ x).trans (tap0 m c t (x 2))

end Cert.ConvIdeal.Value
-- ==== Proof.ConvClaim.lean ====
/- The claims about the gated convolution's backward call. -/
module

public import proofs.«01_k».proof.Defs
public import proofs.«01_k».proof.Proof.Gen.Conv.Frame
public import proofs.«01_k».proof.Proof.Gen.ConvRefIdeal
public import proofs.«01_k».proof.Proof.ConvValue
public import Idealize.ShloMosaic.Lib.Claim

@[expose] public section

noncomputable section

open Idealize.ShloMosaic Idealize.ShloMosaic.TcCoe Idealize.SL.Sem

namespace Cert.Conv.Claims

theorem frame_ref : Cert.quiescent_ConvRefIdeal (hConvRefIdeal := Cert.ConvRefIdeal.Gen.facts) := fun m ρ _ =>
  (θ_run Cert.ConvRefIdeal.defs _ _).mono (fun r h => ⟨fun c => (h c).2.2, sem_eq_zero_of_no_sems (by decide) r.2⟩)
    (Cert.ConvRefIdeal.Value.run (F := Ideal) m ρ)

open Cert.ConvIdeal Cert.ConvRefIdeal.Read in
theorem equal : Cert.algebraic_ConvIdeal_ConvRefIdeal (hConvIdeal := Cert.ConvIdeal.Gen.facts) (hConvRefIdeal := Cert.ConvRefIdeal.Gen.facts) := by
  intro m g m' g' _ ha
  refine ⟨fun c => val_main_v81 (F := Ideal) (m ((c.tc : Thread nD τ).loc main_arg0)) (m ((c.tc : Thread nD τ).loc main_arg1)) (m ((c.tc : Thread nD τ).loc main_arg2)),
    fun c => val_main_v80 (F := Ideal) (m ((c.tc : Thread nD τ).loc main_arg0)) (m ((c.tc : Thread nD τ).loc main_arg1)), ?_, ?_⟩
  · exact (θ_run Cert.ConvIdeal.defs _ _).mono (fun r h c =>
      ⟨(h c).1.trans (Cert.ConvIdeal.Value.final5 m c), (h c).2.1.trans (Cert.ConvIdeal.Value.final6 m c), (h c).2.2⟩)
      (Cert.ConvIdeal.Value.run_blocks (F := Ideal) m g)
  · refine (θ_run Cert.ConvRefIdeal.defs _ _).mono (fun r h c => ⟨?_, ?_, (h c).2.2⟩)
      (Cert.ConvRefIdeal.Value.run (F := Ideal) m' g')
    · refine ((h c).1.trans (val_main_v81_eq m' c)).trans ?_
      rw [(ha c).1, (ha c).2.1, (ha c).2.2]
    · exact ((h c).2.1.trans (val_main_v80_eq _ _)).trans (congrArg₂ _ (ha c).1 (ha c).2.1)

end Cert.Conv.Claims
-- ==== Proof.Finite.lean ====
/- Entries that are reals: what a finiteness test says of an entry, and the operations that keep entries real. -/
module

public import Idealize.ShloMosaic.Lib.Pointwise

@[expose] public section

noncomputable section

open Idealize.ShloMosaic

namespace Cert.Finite

/-- The entry is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {ι : Type} (s : Finset ι) {f : ι → EReal} (hf : ∀ i, IsReal (f i)) : IsReal (∑ i ∈ s, f i) := by
  classical
  induction s using Finset.induction_on with
  | empty => exact ⟨0, by simp⟩
  | insert a s ha ih => rw [Finset.sum_insert ha]; exact (hf a).add ih

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An entry whose magnitude tests below infinity is a real. -/
theorem of_test (x : EReal) (h : BitVec.ofBool (decide (max x (-x) < Ideal.ofBits .f32 0x7F800000#32)) = 1#1) : IsReal x := by
  have inf : Ideal.ofBits .f32 0x7F800000#32 = ⊤ := by simp [Ideal.ofBits, Ideal.ieee]
  rw [inf] at h
  have hx : max x (-x) < ⊤ := by
    by_contra hP
    rw [decide_eq_false hP] at h
    exact absurd h (by decide)
  refine ⟨x.toReal, (EReal.coe_toReal (fun e => ?_) (fun e => ?_)).symm⟩
  · rw [e] at hx; exact absurd hx (by simp)
  · rw [e] at hx; exact absurd hx (by simp)

end Cert.Finite
-- ==== Proof.NormMath.lean ====
/- The gradient of a root-mean-square normalisation at one row: the closed form of the kernels is what
   differentiating the forward lines gives, on rows of reals. -/
module

public import proofs.«01_k».proof.Proof.Finite

@[expose] public section

noncomputable section

open Idealize.ShloMosaic Cert.Finite

namespace Cert.Norm

variable {n : ℕ}

/-- The mean square of a row, with the small constant added. -/
def msq (N : EReal) (x : Fin n → EReal) : EReal := Ideal.div (∑ j, x j * x j) N + Ideal.ofBits .f32 0x358637BD#32

/-- The row's gradient as the kernels compute it: `x` the row, `a` the gradient of the normalised row times the gains. -/
def closed (N : EReal) (x a : Fin n → EReal) (k : Fin n) : EReal :=
  Ideal.rsqrt (msq N x) * (a k - x k * Ideal.rsqrt (msq N x) * Ideal.div (∑ j, a j * (x j * Ideal.rsqrt (msq N x))) N)

/-- The factor of the row in the derivative through the mean square. -/
def through (N : EReal) (x a : Fin n → EReal) : EReal :=
  Ideal.div ((∑ j, x j * a j) * (Ideal.ofBits .f32 0xBF000000#32 * Ideal.div (Ideal.rsqrt (msq N x)) (msq N x))) N

/-- The row's gradient as differentiation gives it: through the product, and twice through the square. -/
theorem closed_eq (N : EReal) (c : ℝ) (hc : 0 < c) (hN : N = c) (x a : Fin n → EReal) (hx : ∀ j, IsReal (x j)) (ha : ∀ j, IsReal (a j))
    (k : Fin n) : closed N x a k = a k * Ideal.rsqrt (msq N x) + x k * through N x a + through N x a * x k := by
  subst hN
  choose u hu using hx
  choose v hv using ha
  obtain rfl : x = fun j => (u j : EReal) := funext hu
  obtain rfl : a = fun j => (v j : EReal) := funext hv
  have he : Ideal.ofBits .f32 0x358637BD#32 = ((8796093 / 8796093022208 : ℝ) : EReal) := by
    simp [Ideal.ofBits, Ideal.ieee]; rw [← EReal.coe_mul]; norm_num
  have hh : Ideal.ofBits .f32 0xBF000000#32 = ((-(1 / 2) : ℝ) : EReal) := by
    simp [Ideal.ofBits, Ideal.ieee]; rw [← EReal.coe_mul]; norm_num
  set s : ℝ := (∑ j, u j * u j) * (1 / c) + 8796093 / 8796093022208 with hs
  have hs0 : 0 < s := by
    have : 0 ≤ ∑ j, u j * u j := Finset.sum_nonneg fun j _ => mul_self_nonneg _
    positivity
  have hm : msq (c : EReal) (fun j => (u j : EReal)) = (s : EReal) := by
    unfold msq
    rw [he, Ideal.div_coe hc.ne']
    simp only [← EReal.coe_mul, ← coe_sum, ← EReal.coe_add]
    rw [hs]
  have hr : Ideal.rsqrt (s : EReal) = (((Real.sqrt s)⁻¹ : ℝ) : EReal) := by
    rw [Ideal.rsqrt_coe, if_neg (not_lt.mpr hs0.le), if_neg hs0.ne']
  unfold closed through
  rw [hm, hr, hh, Ideal.div_coe hc.ne', Ideal.div_coe hs0.ne', Ideal.div_coe hc.ne']
  simp only [← EReal.coe_mul, ← coe_sum, ← EReal.coe_add, ← EReal.coe_sub]
  congr 1
  have hq : Real.sqrt s * Real.sqrt s = s := Real.mul_self_sqrt hs0.le
  have hq0 : Real.sqrt s ≠ 0 := (Real.sqrt_pos.mpr hs0).ne'
  have hsum : ∑ j, v j * (u j * (Real.sqrt s)⁻¹) = (∑ j, u j * v j) * (Real.sqrt s)⁻¹ := by
    rw [Finset.sum_mul]; exact Finset.sum_congr rfl fun j _ => by ring
  rw [hsum]
  generalize ∑ j, u j * v j = S
  generalize Real.sqrt s = q at hq hq0
  rw [← hq]
  field_simp
  ring

end Cert.Norm
-- ==== Proof.NormValue.lean ====
/- The normalisation's gradients on the kernel's side: the input's gradient and its narrow copy block by block, and the
   gains' gradient accumulated over the sixteen row blocks, as the reference's terms over the argument arrays. -/
module

public import proofs.«01_k».proof.Proof.Gen.NormIdeal.Value
public import proofs.«01_k».proof.Proof.Gen.NormRefIdeal.Read
public import proofs.«01_k».proof.Proof.NormMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Finite
open Idealize.ShloMosaic.Pipeline (Dat)

namespace Cert.NormIdeal.Value

open Cert.NormIdeal Cert.NormIdeal.Gen

variable (m : (ℓ : Loc nD τ sig) → Buf (Elt Ideal) ℓ)

/-- The windows' block indices: rows in blocks of 256, the gains and their gradient whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The row's length as a constant of the programs. -/
abbrev len : EReal := Ideal.ofBits .f32 0x45000000#32

theorem len_eq : len = ((2048 : ℝ) : EReal) := by
  simp [len, Ideal.ofBits, Ideal.ieee]; rw [← EReal.coe_mul]; norm_num

/-- The reference's gradient of the input, at an entry. -/
theorem ref34 (X0 X1 X2 X3) (h0 : ∀ i, IsReal (X0 i)) (h1 : ∀ i, IsReal (X1 i)) (h2 : ∀ i, IsReal (X2 i)) (r k) :
    Cert.NormRefIdeal.Read.val_main_v34 (F := Ideal) X0 X1 X2 X3 (ix2 r k)
      = Norm.closed len (fun j => X0 (ix2 r j)) (fun j => X2 (ix2 r j) * X1 (ix2 0 j)) k + X3 (ix2 r k) := by
  rw [Norm.closed_eq len 2048 (by norm_num) len_eq _ _ (fun j => h0 _) (fun j => (h2 _).mul (h1 _)), add_comm, ← add_assoc, ← add_assoc,
    ← Cert.NormRefIdeal.Read.val_main_v34_eq]
  pointwise
  rw [Fin.sum_univ_one]
  rfl

/-- The reference's gradient of the gains. -/
theorem ref17 (X0 X2 j) : Cert.NormRefIdeal.Read.val_main_v17 (F := Ideal) X0 X2 j
      = ∑ s : Fin 4096, X2 (ix2 s (j 1)) * (X0 (ix2 s (j 1)) * Ideal.rsqrt (Norm.msq len fun i => X0 (ix2 s i))) := by
  rw [← Cert.NormRefIdeal.Read.val_main_v17_eq]
  idx_vars j
  pointwise
  exact Finset.sum_congr rfl fun s _ => mul_comm _ _

theorem pay4 (x0 x1 x2 x3 r k) : k0_pay4 (F := Ideal) x0 x1 x2 x3 (ix2 r k)
      = Norm.closed len (fun j => x0 (ix2 r j)) (fun j => x1 (ix2 r j) * x2 (ix2 0 j)) k + x3 (ix2 r k) := by
  pointwise [k0_pay4, k0_pay3, k0_pay2]
  rfl

theorem pay6 (x0 x1 j) : k0_pay6 (F := Ideal) x0 x1 j
      = ∑ s : Fin 256, x1 (ix2 s (j 1)) * (x0 (ix2 s (j 1)) * Ideal.rsqrt (Norm.msq len fun i => x0 (ix2 s i))) := by
  idx_vars j
  pointwise [k0_pay6, k0_pay3, k0_pay2]
  rfl

theorem pay1 (p acc j) : k0_pay1 (F := Ideal) p acc j = acc j + p j := by
  pointwise [k0_pay1]

/-- The row of the arrays behind a row of block `t`. -/
def row (t : Fin cfg0.N) (a : Fin 256) : Fin 4096 := ⟨t.val * 256 + a.val, by have := lt_of_lt_of_eq t.isLt N_0; omega⟩

theorem read0 (c : Dev nD) (t : Fin cfg0.N) (a : Fin 256) (k : Fin 2048) : (iblk m c 0 t : Vec Ideal S256x2048 .f32) (ix2 a k)
    = (m ((c : Thread nD τ).loc main_arg0) : Vec Ideal S4096x2048 .f32) (ix2 (row t a) k) := by
  blk_ext [iblk, V, idx t, row]

theorem read1 (c : Dev nD) (t : Fin cfg0.N) (k : Fin 2048) : (iblk m c 1 t : Vec Ideal S1x2048 .f32) (ix2 0 k)
    = (m ((c : Thread nD τ).loc main_arg1) : Vec Ideal S1x2048 .f32) (ix2 0 k) := by
  blk_ext [iblk, V, idx t]

theorem read2 (c : Dev nD) (t : Fin cfg0.N) (a : Fin 256) (k : Fin 2048) : (iblk m c 2 t : Vec Ideal S256x2048 .f32) (ix2 a k)
    = (m ((c : Thread nD τ).loc main_arg2) : Vec Ideal S4096x2048 .f32) (ix2 (row t a) k) := by
  blk_ext [iblk, V, idx t, row]

theorem read3 (c : Dev nD) (t : Fin cfg0.N) (a : Fin 256) (k : Fin 2048) : (iblk m c 3 t : Vec Ideal S256x2048 .f32) (ix2 a k)
    = (m ((c : Thread nD τ).loc main_arg3) : Vec Ideal S4096x2048 .f32) (ix2 (row t a) k) := by
  blk_ext [iblk, V, idx t, row]

/-- What one point stores of the input's gradient. -/
theorem point4 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) (t : Fin cfg0.N) (a k) :
    k0_pay4 (F := Ideal) (iblk m c 0 t) (iblk m c 2 t) (iblk m c 1 t) (iblk m c 3 t) (ix2 a k)
    = Cert.NormRefIdeal.Read.val_main_v34 (F := Ideal) (m ((c : Thread nD τ).loc main_arg0)) (m ((c : Thread nD τ).loc main_arg1))
      (m ((c : Thread nD τ).loc main_arg2)) (m ((c : Thread nD τ).loc main_arg3)) (ix2 (row t a) k) := by
  rw [ref34 _ _ _ _ h0 h1 h2, pay4]
  simp only [read0, read1, read2, read3]

/-- The input's gradient after the run. -/
theorem final4 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) : (dats m 0 c).arrAt 4 (cfgs 0).N
    = Cert.NormRefIdeal.Read.val_main_v34 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 16 = 0
  all_goals
    first | rw [outsAt0_A m c t h (by have := lt_of_lt_of_eq t.isLt N_0; omega)] | rw [outsAt0_B m c t h (by omega)]
    frame_out
    idx_vars y
    exact (point4 m c h0 h1 h2 t y0 y1).trans (congrArg _ (show (ix2 (row t y0) y1 : S4096x2048.Idx) = _ by blk_ext [idx t, row]))

/-- Its copy in the narrow format after the run. -/
theorem final5 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) : (dats m 0 c).arrAt 5 (cfgs 0).N
    = Cert.NormRefIdeal.Read.val_main_v35 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 16 = 0
  all_goals
    first | rw [outsAt0_A m c t h (by have := lt_of_lt_of_eq t.isLt N_0; omega)] | rw [outsAt0_B m c t h (by omega)]
    frame_out
    idx_vars y
    exact (point4 m c h0 h1 h2 t y0 y1).trans (congrArg _ (show (ix2 (row t y0) y1 : S4096x2048.Idx) = _ by blk_ext [idx t, row]))

/-- The gains' gradient after the run. -/
theorem final6 (c : Dev nD) : (dats m 0 c).arrAt 6 (cfgs 0).N
    = Cert.NormRefIdeal.Read.val_main_v17 (F := Ideal) (m ((c : Thread nD τ).loc main_arg0)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by
      rw [outsAt0_A m c t h (by have := lt_of_lt_of_eq t.isLt N_0; omega)]; frame_out; rw [pay6, ← zero_add (Finset.sum _ _)])
    (fun t h j => by rw [outsAt0_B m c t h (by omega)]; frame_out; rw [pay1, pay6])
    (le_of_eq N_0) t0_15 rfl j, zero_add, ref17]
  refine Fin.sum_mul_add_congr fun s k hl => ?_
  exact congrArg₂ (fun a b : EReal => a * b) (read2 m c s k (j 1)) (congrArg₂ (fun (a : EReal) f => a * Ideal.rsqrt (Norm.msq len f))
    (read0 m c s k (j 1)) (funext fun i => read0 m c s k i))

end Cert.NormIdeal.Value
-- ==== Proof.NormClaim.lean ====
/- The claims about the normalisation around a mixer. -/
module

public import proofs.«01_k».proof.Defs
public import proofs.«01_k».proof.Proof.Gen.Norm.Frame
public import proofs.«01_k».proof.Proof.Gen.NormRefIdeal
public import proofs.«01_k».proof.Proof.NormValue
public import Idealize.ShloMosaic.Lib.Claim

@[expose] public section

noncomputable section

open Idealize.ShloMosaic Idealize.ShloMosaic.TcCoe Idealize.SL.Sem

namespace Cert.Norm.Claims

theorem pre_facts : Cert.Pre_norm_finite.Facts := ⟨by decide, by decide⟩

theorem frame_ref : Cert.quiescent_NormRefIdeal (hNormRefIdeal := Cert.NormRefIdeal.Gen.facts) := fun m ρ _ =>
  (θ_run Cert.NormRefIdeal.defs _ _).mono (fun r h => ⟨fun c => (h c).2.2.2, sem_eq_zero_of_no_sems (by decide) r.2⟩)
    (Cert.NormRefIdeal.Value.run (F := Ideal) m ρ)

open Cert.NormIdeal Cert.NormRefIdeal.Read in
theorem equal : Cert.algebraic_NormIdeal_NormRefIdeal_pre_norm_finite (hNormIdeal := Cert.NormIdeal.Gen.facts)
    (hNormRefIdeal := Cert.NormRefIdeal.Gen.facts) (hPre_norm_finite := pre_facts) := by
  intro m g m' g' hp ha
  refine ⟨fun c => val_main_v34 (F := Ideal) (m ((c.tc : Thread nD τ).loc main_arg0)) (m ((c.tc : Thread nD τ).loc main_arg1))
      (m ((c.tc : Thread nD τ).loc main_arg2)) (m ((c.tc : Thread nD τ).loc main_arg3)),
    fun c => val_main_v35 (F := Ideal) (m ((c.tc : Thread nD τ).loc main_arg0)) (m ((c.tc : Thread nD τ).loc main_arg1))
      (m ((c.tc : Thread nD τ).loc main_arg2)) (m ((c.tc : Thread nD τ).loc main_arg3)),
    fun c => val_main_v17 (F := Ideal) (m ((c.tc : Thread nD τ).loc main_arg0)) (m ((c.tc : Thread nD τ).loc main_arg2)), ?_, ?_⟩
  · have h0 := fun c i => Cert.Finite.of_test _ (congrFun (hp c).1 i)
    have h1 := fun c i => Cert.Finite.of_test _ (congrFun (hp c).2.1 i)
    have h2 := fun c i => Cert.Finite.of_test _ (congrFun (hp c).2.2 i)
    exact (θ_run Cert.NormIdeal.defs _ _).mono (fun r h c =>
      ⟨(h c).1.trans (Cert.NormIdeal.Value.final4 m c (h0 c) (h1 c) (h2 c)),
        (h c).2.1.trans (Cert.NormIdeal.Value.final5 m c (h0 c) (h1 c) (h2 c)),
        (h c).2.2.1.trans (Cert.NormIdeal.Value.final6 m c), (h c).2.2.2⟩)
      (Cert.NormIdeal.Value.run_blocks (F := Ideal) m g)
  · refine (θ_run Cert.NormRefIdeal.defs _ _).mono (fun r h c => ⟨?_, ?_, ?_, (h c).2.2.2⟩)
      (Cert.NormRefIdeal.Value.run (F := Ideal) m' g')
    all_goals obtain ⟨e0, e1, e2, e3⟩ := ha c
    · refine ((h c).1.trans (val_main_v34_eq _ _ _ _)).trans ?_
      rw [e0, e1, e2, e3]
    · refine ((h c).2.1.trans (val_main_v35_eq _ _ _ _)).trans ?_
      rw [e0, e1, e2, e3]
    · refine ((h c).2.2.1.trans (val_main_v17_eq _ _)).trans ?_
      rw [e0, e2]

end Cert.Norm.Claims
-- ==== Proof.HeadsRef.lean ====
/- What the head norms' reference computes: the projections' gradient at an entry as the closed form of its row inside
   the entry's head, and the gains' gradients as sums over rows and heads. -/
module

public import proofs.«01_k».proof.Proof.Gen.HeadsRefIdeal.Read
public import proofs.«01_k».proof.Proof.NormMath
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Finite

namespace Cert.HeadsRefIdeal.Read

open Cert.HeadsRefIdeal

/-- The sum over the two leading axes. -/
theorem sum_leading {n0 n1 n2 : ℕ} (h : (⟨3, ![n0, n1, n2]⟩ : Shape).ReducesTo [0, 1] ⟨1, ![n2]⟩) (v : (⟨3, ![n0, n1, n2]⟩ : Shape).Idx → EReal)
    (init : EReal) (k : Fin n2) : Ideal.hostReduceAdd h v init (ix1 k) = init + ∑ a : Fin n0, ∑ b : Fin n1, v (ix3 a b k) := by
  refine congrArg (init + ·) ((Finset.sum_filter_eq_sum_of_fiber _ (fun p : Fin n0 × Fin n1 => (ix3 p.1 p.2 k : (⟨3, ![n0, n1, n2]⟩ : Shape).Idx))
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    match b with
    | ⟨0, _⟩ => rfl

/-- Column `j` of head `h`. -/
abbrev hcol (h : Fin 16) (j : Fin 128) : Fin 2048 := ⟨h.val * 128 + j.val, by omega⟩

/-- The head's length and the queries' scale as constants of the programs. -/
abbrev len : EReal := Ideal.ofBits .f32 0x43000000#32
abbrev scale : EReal := Ideal.ofBits .f32 0x3DB504F3#32

theorem len_eq : len = ((128 : ℝ) : EReal) := by
  simp [len, Ideal.ofBits, Ideal.ieee]; rw [← EReal.coe_mul]; norm_num

theorem scale_real : IsReal scale := by
  simp [scale, Ideal.ofBits, Ideal.ieee]; exact ⟨_, (EReal.coe_mul _ _).symm⟩

/-- Part `p` of the projections, row `r` inside head `h`. -/
def hrow (X0 : Vec Ideal S3x4096x2048 .f32) (p : Fin 3) (r : Fin 4096) (h : Fin 16) : Fin 128 → EReal := fun j => X0 (ix3 p r (hcol h j))

/-- The gradient of the normalised queries times the scale and the gains, and of the normalised keys times the gains. -/
def qgrad (X1 : Vec Ideal S1x128 .f32) (X3 : Vec Ideal S4096x2048 .f32) (r : Fin 4096) (h : Fin 16) : Fin 128 → EReal :=
  fun j => X3 (ix2 r (hcol h j)) * scale * X1 (ix2 0 j)
def kgrad (X2 : Vec Ideal S1x128 .f32) (X4 : Vec Ideal S4096x2048 .f32) (r : Fin 4096) (h : Fin 16) : Fin 128 → EReal :=
  fun j => X4 (ix2 r (hcol h j)) * X2 (ix2 0 j)

theorem v9_at (X0 r h) : val_main_v9 (F := Ideal) X0 (ix3 r h 0) = Norm.msq len (hrow X0 0 r h) := by
  pointwise [val_main_v9, val_main_v7, val_main_v5, val_main_v4, val_main_v3, val_main_v2, val_main_v1, val_main_v0, val_main_v8, val_main_v6,
    val_main_cst, val_main_cst_0, val_main_cst_1]
  rfl

theorem v30_at (X0 r h) : val_main_v30 (F := Ideal) X0 (ix3 r h 0) = Norm.msq len (hrow X0 1 r h) := by
  pointwise [val_main_v30, val_main_v28, val_main_v26, val_main_v25, val_main_v24, val_main_v23, val_main_v22, val_main_v21, val_main_v29, val_main_v27,
    val_main_cst_4, val_main_cst_5, val_main_cst_6]
  rfl

theorem v2_at (X0 r h k) : val_main_v2 (F := Ideal) X0 (ix3 r h k) = hrow X0 0 r h k := by
  pointwise [val_main_v2, val_main_v1, val_main_v0]
  rfl

theorem v23_at (X0 r h k) : val_main_v23 (F := Ideal) X0 (ix3 r h k) = hrow X0 1 r h k := by
  pointwise [val_main_v23, val_main_v22, val_main_v21]
  rfl

theorem v79_at (X1 X3 r h k) : val_main_v79 (F := Ideal) X1 X3 (ix3 r h k) = qgrad X1 X3 r h k := by
  pointwise [val_main_v79, val_main_v78, val_main_v74, val_main_v73, val_main_v47, val_main_v16, val_main_cst_15]
  rfl

theorem v52_at (X2 X4 r h k) : val_main_v52 (F := Ideal) X2 X4 (ix3 r h k) = kgrad X2 X4 r h k := by
  pointwise [val_main_v52, val_main_v51, val_main_v46, val_main_v37]
  rfl

theorem v91_at (X0 X1 X3 r h k) : val_main_v91 (F := Ideal) X0 X1 X3 (ix3 r h k) = Norm.through len (hrow X0 0 r h) (qgrad X1 X3 r h) := by
  pointwise [val_main_v91, val_main_v90, val_main_v89, val_main_v88, val_main_v87, val_main_v84, val_main_v83, val_main_v82, val_main_v13,
    val_main_v12, val_main_v11, val_main_v10, val_main_cst_18, val_main_cst_19, val_main_cst_20, val_main_cst_2, v2_at, v79_at]
  rw [Fin.sum_univ_one, v9_at]
  rfl

theorem v64_at (X0 X2 X4 r h k) : val_main_v64 (F := Ideal) X0 X2 X4 (ix3 r h k) = Norm.through len (hrow X0 1 r h) (kgrad X2 X4 r h) := by
  pointwise [val_main_v64, val_main_v63, val_main_v62, val_main_v61, val_main_v60, val_main_v57, val_main_v56, val_main_v55, val_main_v34,
    val_main_v33, val_main_v32, val_main_v31, val_main_cst_11, val_main_cst_12, val_main_cst_13, val_main_cst_7, v23_at, v52_at]
  rw [Fin.sum_univ_one, v30_at]
  rfl

/-- The queries' part of the gradient, at an entry. -/
theorem v95_at (X0 X1 X3) (h0 : ∀ i, IsReal (X0 i)) (h1 : ∀ i, IsReal (X1 i)) (h3 : ∀ i, IsReal (X3 i)) (r h k) :
    val_main_v95 (F := Ideal) X0 X1 X3 (ix3 r h k) = Norm.closed len (hrow X0 0 r h) (qgrad X1 X3 r h) k := by
  rw [Norm.closed_eq len 128 (by norm_num) len_eq (hrow X0 0 r h) (qgrad X1 X3 r h) (fun j => h0 _) (fun j => ((h3 _).mul scale_real).mul (h1 _))]
  pointwise [val_main_v95, val_main_v94, val_main_v93, val_main_v92, val_main_v86, val_main_v85, val_main_v10, v91_at, v2_at, v79_at, v9_at]

/-- The keys' part of the gradient, at an entry. -/
theorem v68_at (X0 X2 X4) (h0 : ∀ i, IsReal (X0 i)) (h2 : ∀ i, IsReal (X2 i)) (h4 : ∀ i, IsReal (X4 i)) (r h k) :
    val_main_v68 (F := Ideal) X0 X2 X4 (ix3 r h k) = Norm.closed len (hrow X0 1 r h) (kgrad X2 X4 r h) k := by
  rw [Norm.closed_eq len 128 (by norm_num) len_eq (hrow X0 1 r h) (kgrad X2 X4 r h) (fun j => h0 _) (fun j => (h4 _).mul (h2 _))]
  pointwise [val_main_v68, val_main_v67, val_main_v66, val_main_v65, val_main_v59, val_main_v58, val_main_v31, v64_at, v23_at, v52_at, v30_at]

variable (X0 : Vec Ideal S3x4096x2048 .f32) (X1 X2 : Vec Ideal S1x128 .f32) (X3 X4 X5 : Vec Ideal S4096x2048 .f32)

theorem v100_at (p : Fin 3) (r : Fin 4096) (k : Fin 2048) : val_main_v100 (F := Ideal) X0 X1 X2 X3 X4 X5 (ix3 p r k)
      = if p.val = 2 then X5 (ix2 r k) else if p.val = 1 then val_main_v68 (F := Ideal) X0 X2 X4 (ix3 r ⟨k.val / 128, by omega⟩ ⟨k.val % 128, by omega⟩)
        else val_main_v95 (F := Ideal) X0 X1 X3 (ix3 r ⟨k.val / 128, by omega⟩ ⟨k.val % 128, by omega⟩) := by
  pointwise [val_main_v100, val_main_v99, val_main_v98, val_main_v97, val_main_v96, val_main_v72, val_main_v71, val_main_v70, val_main_v69, val_main_v45, val_main_v44,
    val_main_cst_8, val_main_cst_14, val_main_cst_21]
  rcases (by omega : p.val = 0 ∨ p.val = 1 ∨ p.val = 2) with e | e | e <;> simp [e]

/-- The gradient of the queries' gains. -/
theorem v81_at (k : Fin 128) : val_main_v81 (F := Ideal) X0 X3 (ix2 0 k)
      = ∑ r : Fin 4096, ∑ h : Fin 16, X3 (ix2 r (hcol h k)) * scale * (hrow X0 0 r h k * Ideal.rsqrt (Norm.msq len (hrow X0 0 r h))) := by
  pointwise [val_main_v81, val_main_v80, val_main_v77, val_main_v76]
  rw [sum_leading]
  pointwise [val_main_cst_16, val_main_cst_17]
  rw [Fin.sum_univ_one, Fin.sum_univ_one, sum_leading, zero_add]
  refine Finset.sum_congr rfl fun r _ => Finset.sum_congr rfl fun h _ => ?_
  pointwise [val_main_v75, val_main_v15, val_main_v14, val_main_v10, val_main_v74, val_main_v73, val_main_v47, val_main_cst_15, v2_at, v9_at]
  exact mul_comm _ _

/-- The gradient of the keys' gains. -/
theorem v54_at (k : Fin 128) : val_main_v54 (F := Ideal) X0 X4 (ix2 0 k)
      = ∑ r : Fin 4096, ∑ h : Fin 16, X4 (ix2 r (hcol h k)) * (hrow X0 1 r h k * Ideal.rsqrt (Norm.msq len (hrow X0 1 r h))) := by
  pointwise [val_main_v54, val_main_v53, val_main_v50, val_main_v49]
  rw [sum_leading]
  pointwise [val_main_cst_9, val_main_cst_10]
  rw [Fin.sum_univ_one, Fin.sum_univ_one, sum_leading, zero_add]
  refine Finset.sum_congr rfl fun r _ => Finset.sum_congr rfl fun h _ => ?_
  pointwise [val_main_v48, val_main_v36, val_main_v35, val_main_v31, val_main_v46, v23_at, v30_at]
  exact mul_comm _ _

end Cert.HeadsRefIdeal.Read
-- ==== Proof.HeadsValue.lean ====
/- The head norms' gradients on the kernel's side: the projections' gradient block by block, one head's columns of the
   queries or of the keys per store. -/
module

public import proofs.«01_k».proof.Proof.Gen.HeadsIdeal.Value
public import proofs.«01_k».proof.Proof.HeadsRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Finite
open Idealize.ShloMosaic.Pipeline (Dat)
open Cert.HeadsRefIdeal.Read (len scale hrow qgrad kgrad hcol)

namespace Cert.HeadsIdeal.Value

open Cert.HeadsIdeal Cert.HeadsIdeal.Gen

variable (m : (ℓ : Loc nD τ sig) → Buf (Elt Ideal) ℓ)

/-- The windows' block indices: rows in blocks of 256, the gains and their gradients whole. -/
theorem idx : ∀ t : Fin cfg0.N, win0_0.index t = ![0, t.val, 0] ∧ win0_1.index t = ![1, t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, t.val, 0] ∧ win0_8.index t = ![0, 0] ∧ win0_9.index t = ![0, 0] :=
  (by decide +kernel : ∀ t : Fin grid0.N, _)

/-- One head's columns as the kernel computes them: for the queries, whose gradient carries the scale, and for the keys. -/
theorem qhead (X : Vec Ideal S1x256x128 .f32) (D : Vec Ideal S256x128 .f32) (G : Vec Ideal S1x128 .f32) (a : Fin 256) (j : Fin 128) :
    k0_pay9 (F := Ideal) X D G (ix3 0 a j)
      = Norm.closed len (fun j => X (ix3 0 a j)) (fun j => D (ix2 a j) * scale * G (ix2 0 j)) j := by
  pointwise [k0_pay9, k0_pay8, k0_pay7, k0_pay6, k0_pay5]
  rfl

theorem khead (X : Vec Ideal S1x256x128 .f32) (D : Vec Ideal S256x128 .f32) (G : Vec Ideal S1x128 .f32) (a : Fin 256) (j : Fin 128) :
    k0_pay15 (F := Ideal) X D G (ix3 0 a j)
      = Norm.closed len (fun j => X (ix3 0 a j)) (fun j => D (ix2 a j) * G (ix2 0 j)) j := by
  pointwise [k0_pay15, k0_pay14, k0_pay13, k0_pay12, k0_pay11]
  rfl

/-- The row of the arrays behind a row of block `t`. -/
def row (t : Fin cfg0.N) (a : Fin 256) : Fin 4096 := ⟨t.val * 256 + a.val, by have := lt_of_lt_of_eq t.isLt N_0; omega⟩

theorem read0 (c : Dev nD) (t : Fin cfg0.N) (a : Fin 256) (k : Fin 2048) : (iblk m c 0 t : Vec Ideal S1x256x2048 .f32) (ix3 0 a k)
    = (m ((c : Thread nD τ).loc main_arg0) : Vec Ideal S3x4096x2048 .f32) (ix3 0 (row t a) k) := by
  blk_ext [iblk, V, idx t, row]

theorem read1 (c : Dev nD) (t : Fin cfg0.N) (a : Fin 256) (k : Fin 2048) : (iblk m c 1 t : Vec Ideal S1x256x2048 .f32) (ix3 0 a k)
    = (m ((c : Thread nD τ).loc main_arg0) : Vec Ideal S3x4096x2048 .f32) (ix3 1 (row t a) k) := by
  blk_ext [iblk, V, idx t, row]

theorem read2 (c : Dev nD) (t : Fin cfg0.N) (k : Fin 128) : (iblk m c 2 t : Vec Ideal S1x128 .f32) (ix2 0 k)
    = (m ((c : Thread nD τ).loc main_arg1) : Vec Ideal S1x128 .f32) (ix2 0 k) := by
  blk_ext [iblk, V, idx t]

theorem read3 (c : Dev nD) (t : Fin cfg0.N) (k : Fin 128) : (iblk m c 3 t : Vec Ideal S1x128 .f32) (ix2 0 k)
    = (m ((c : Thread nD τ).loc main_arg2) : Vec Ideal S1x128 .f32) (ix2 0 k) := by
  blk_ext [iblk, V, idx t]

theorem read4 (c : Dev nD) (t : Fin cfg0.N) (a : Fin 256) (k : Fin 2048) : (iblk m c 4 t : Vec Ideal S256x2048 .f32) (ix2 a k)
    = (m ((c : Thread nD τ).loc main_arg3) : Vec Ideal S4096x2048 .f32) (ix2 (row t a) k) := by
  blk_ext [iblk, V, idx t, row]

theorem read5 (c : Dev nD) (t : Fin cfg0.N) (a : Fin 256) (k : Fin 2048) : (iblk m c 5 t : Vec Ideal S256x2048 .f32) (ix2 a k)
    = (m ((c : Thread nD τ).loc main_arg4) : Vec Ideal S4096x2048 .f32) (ix2 (row t a) k) := by
  blk_ext [iblk, V, idx t, row]

theorem read6 (c : Dev nD) (t : Fin cfg0.N) (a : Fin 256) (k : Fin 2048) : (iblk m c 6 t : Vec Ideal S256x2048 .f32) (ix2 a k)
    = (m ((c : Thread nD τ).loc main_arg5) : Vec Ideal S4096x2048 .f32) (ix2 (row t a) k) := by
  blk_ext [iblk, V, idx t, row]

/-- The reference's gradient of the projections over the argument arrays. -/
abbrev want (c : Dev nD) : Vec Ideal S3x4096x2048 .bf16 :=
  Cert.HeadsRefIdeal.Read.val_main_v100 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

variable (c : Dev nD) (t : Fin cfg0.N)

/-- A store of the queries' gradient: the columns of the head that column `k` of the block lies in. -/
theorem qpiece (h0 : ∀ i, IsReal (m ((c : Thread nD τ).loc main_arg0) i)) (h1 : ∀ i, IsReal (m ((c : Thread nD τ).loc main_arg1) i))
    (h3 : ∀ i, IsReal (m ((c : Thread nD τ).loc main_arg3) i)) (X : Vec Ideal S1x256x128 .f32) (D : Vec Ideal S256x128 .f32) (z : Fin 1) (a : Fin 256) (j : Fin 128)
    (p : Fin 3) (a' : Fin 256) (k : Fin 2048) (hp : p.val = 0) (ha : a'.val = a.val) (hk : k.val % 128 = j.val)
    (hX : ∀ j : Fin 128, X (ix3 0 a j) = (iblk m c 0 t : Vec Ideal S1x256x2048 .f32) (ix3 0 a ⟨k.val / 128 * 128 + j.val, by omega⟩))
    (hD : ∀ j : Fin 128, D (ix2 a j) = (iblk m c 4 t : Vec Ideal S256x2048 .f32) (ix2 a ⟨k.val / 128 * 128 + j.val, by omega⟩)) :
    k0_pay9 (F := Ideal) X D (iblk m c 2 t) (ix3 z a j) = want m c (ix3 p (row t a') k) := by
  obtain rfl := Fin.ext ha
  obtain rfl : j = ⟨k.val % 128, Nat.mod_lt _ (by decide)⟩ := Fin.ext hk.symm
  obtain rfl : z = 0 := Subsingleton.elim _ _
  rw [want, Cert.HeadsRefIdeal.Read.v100_at, if_neg (by omega), if_neg (by omega), Cert.HeadsRefIdeal.Read.v95_at _ _ _ h0 h1 h3, qhead]
  simp only [hX, hD, read0, read2, read4]
  rfl

/-- A store of the keys' gradient. -/
theorem kpiece (h0 : ∀ i, IsReal (m ((c : Thread nD τ).loc main_arg0) i)) (h2 : ∀ i, IsReal (m ((c : Thread nD τ).loc main_arg2) i))
    (h4 : ∀ i, IsReal (m ((c : Thread nD τ).loc main_arg4) i)) (X : Vec Ideal S1x256x128 .f32) (D : Vec Ideal S256x128 .f32) (z : Fin 1) (a : Fin 256) (j : Fin 128)
    (p : Fin 3) (a' : Fin 256) (k : Fin 2048) (hp : p.val = 1) (ha : a'.val = a.val) (hk : k.val % 128 = j.val)
    (hX : ∀ j : Fin 128, X (ix3 0 a j) = (iblk m c 1 t : Vec Ideal S1x256x2048 .f32) (ix3 0 a ⟨k.val / 128 * 128 + j.val, by omega⟩))
    (hD : ∀ j : Fin 128, D (ix2 a j) = (iblk m c 5 t : Vec Ideal S256x2048 .f32) (ix2 a ⟨k.val / 128 * 128 + j.val, by omega⟩)) :
    k0_pay15 (F := Ideal) X D (iblk m c 3 t) (ix3 z a j) = want m c (ix3 p (row t a') k) := by
  obtain rfl := Fin.ext ha
  obtain rfl : j = ⟨k.val % 128, Nat.mod_lt _ (by decide)⟩ := Fin.ext hk.symm
  obtain rfl : z = 0 := Subsingleton.elim _ _
  rw [want, Cert.HeadsRefIdeal.Read.v100_at, if_neg (by omega), if_pos (by omega), Cert.HeadsRefIdeal.Read.v68_at _ _ _ h0 h2 h4, khead]
  simp only [hX, hD, read1, read3, read5]
  rfl

/-- The store of the values' gradient. -/
theorem vpiece (z : Fin 1) (a : Fin 256) (j : Fin 2048)
    (p : Fin 3) (a' : Fin 256) (k : Fin 2048) (hp : p.val = 2) (ha : a'.val = a.val) (hk : k.val = j.val) :
    k0_pay1 (F := Ideal) (k0_pay218 (F := Ideal) (iblk m c 6 t)) (ix3 z a j) = want m c (ix3 p (row t a') k) := by
  obtain rfl := Fin.ext ha
  obtain rfl := Fin.ext hk
  obtain rfl : z = 0 := Subsingleton.elim _ _
  rw [want, Cert.HeadsRefIdeal.Read.v100_at, if_pos hp]
  pointwise [k0_pay1, k0_pay218]
  exact read6 m c t _ _

set_option maxHeartbeats 2000000 in
/-- The projections' gradient after the run. -/
theorem final7 (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) : (dats m 0 c).arrAt 7 (cfgs 0).N = want m c := by
  refine (dats m 0 c).arrAt_eq_of_covers 7 _ (by decide +kernel) fun t _ y => ?_
  blk_simp
  rw [after0_7]
  by_cases g : t.val % 16 = 0
  all_goals
    first | rw [outsAt0_A m c t g (by have := lt_of_lt_of_eq t.isLt N_0; omega)] | rw [outsAt0_B m c t g (by omega)]
    frame_out
    refine Eq.trans ?_ (congrArg _ (show (ix3 (y 0) (row t (y 1)) (y 2) : S3x4096x2048.Idx) = _ by blk_ext [idx t, row]))
    canon_tiles x e using View.cover_of_tiledBy _ ![1, 256, 128] (by sl_kernel_rfl) y
    all_goals idx_vars x
    all_goals first
      | (have part : (y 0).val = 2 := by omega
         exact vpiece m c t _ _ _ _ _ _ part (by omega) (by omega))
      | (have part : (y 0).val = 0 := by omega
         refine qpiece m c t h0 h1 h3 _ _ _ _ _ _ _ _ part (by omega) (by omega) (fun j => ?_) (fun j => ?_) <;> (pointwise; blk_ext [e2]))
      | (have part : (y 0).val = 1 := by omega
         refine kpiece m c t h0 h2 h4 _ _ _ _ _ _ _ _ part (by omega) (by omega) (fun j => ?_) (fun j => ?_) <;> (pointwise; blk_ext [e2]))

end Cert.HeadsIdeal.Value
-- ==== Proof.HeadsGain.lean ====
/- The gradients of the head norms' gains on the kernel's side: inside a block the sum over the heads, then the sum over
   the sixteen row blocks. -/
module

public import proofs.«01_k».proof.Proof.HeadsValue

@[expose] public section

set_option maxRecDepth 16384

noncomputable section

open Idealize.ShloMosaic Idealize.ShloMosaic.TcCoe Idealize.SL.Sem Cert.Finite
open Idealize.ShloMosaic.Pipeline (Dat)
open Cert.HeadsRefIdeal.Read (len scale hrow hcol)

namespace Cert.HeadsIdeal.Value

open Cert.HeadsIdeal Cert.HeadsIdeal.Gen

variable (m : (ℓ : Loc nD τ sig) → Buf (Elt Ideal) ℓ)

/-- One row and head's share of the gains' gradients. -/
def qshare (X : Vec Ideal S3x4096x2048 .f32) (D : Vec Ideal S4096x2048 .f32) (r : Fin 4096) (h : Fin 16) (j : Fin 128) : EReal :=
  D (ix2 r (hcol h j)) * scale * (hrow X 0 r h j * Ideal.rsqrt (Norm.msq len (hrow X 0 r h)))
def kshare (X : Vec Ideal S3x4096x2048 .f32) (D : Vec Ideal S4096x2048 .f32) (r : Fin 4096) (h : Fin 16) (j : Fin 128) : EReal :=
  D (ix2 r (hcol h j)) * (hrow X 1 r h j * Ideal.rsqrt (Norm.msq len (hrow X 1 r h)))

/-- A block's rows of head `n`, as a function of the head's number. -/
def rows (f : Fin 4096 → Fin 16 → EReal) (t : Fin cfg0.N) (n : ℕ) : EReal := if hn : n < 16 then ∑ s : Fin 256, f (row t s) ⟨n, hn⟩ else 0

theorem rows_pos (f : Fin 4096 → Fin 16 → EReal) (t : Fin cfg0.N) (n : ℕ) (hn : n < 16) : rows f t n = ∑ s : Fin 256, f (row t s) ⟨n, hn⟩ :=
  dif_pos hn

variable (c : Dev nD) (t : Fin cfg0.N)

/-- One head's step of the sum over the heads. -/
theorem qstep (n : ℕ) (acc : FVec Ideal S1x128 .f32) (X : Vec Ideal S1x256x128 .f32) (D : Vec Ideal S256x128 .f32) (j : Fin 128)
    (hacc : acc (ix2 0 j) = ∑ i ∈ Finset.range n, rows (fun r h => qshare (m ((c : Thread nD τ).loc main_arg0)) (m ((c : Thread nD τ).loc main_arg3)) r h j) t i) (hn : n < 16)
    (hX : ∀ (a : Fin 256) (i : Fin 128), X (ix3 0 a i) = (iblk m c 0 t : Vec Ideal S1x256x2048 .f32) (ix3 0 a ⟨n * 128 + i.val, by omega⟩))
    (hD : ∀ (a : Fin 256) (i : Fin 128), D (ix2 a i) = (iblk m c 4 t : Vec Ideal S256x2048 .f32) (ix2 a ⟨n * 128 + i.val, by omega⟩)) :
    k0_pay77 (F := Ideal) acc X D (ix2 0 j) = ∑ i ∈ Finset.range (n + 1), rows (fun r h => qshare (m ((c : Thread nD τ).loc main_arg0)) (m ((c : Thread nD τ).loc main_arg3)) r h j) t i := by
  rw [Finset.sum_range_succ, ← hacc, rows_pos _ _ _ hn]
  pointwise [k0_pay77, k0_pay75, k0_pay74, k0_pay73, k0_pay72]
  simp only [hX, hD, read0, read4]
  rfl

theorem kstep (n : ℕ) (acc : FVec Ideal S1x128 .f32) (X : Vec Ideal S1x256x128 .f32) (D : Vec Ideal S256x128 .f32) (j : Fin 128)
    (hacc : acc (ix2 0 j) = ∑ i ∈ Finset.range n, rows (fun r h => kshare (m ((c : Thread nD τ).loc main_arg0)) (m ((c : Thread nD τ).loc main_arg4)) r h j) t i) (hn : n < 16)
    (hX : ∀ (a : Fin 256) (i : Fin 128), X (ix3 0 a i) = (iblk m c 1 t : Vec Ideal S1x256x2048 .f32) (ix3 0 a ⟨n * 128 + i.val, by omega⟩))
    (hD : ∀ (a : Fin 256) (i : Fin 128), D (ix2 a i) = (iblk m c 5 t : Vec Ideal S256x2048 .f32) (ix2 a ⟨n * 128 + i.val, by omega⟩)) :
    k0_pay16 (F := Ideal) acc X D (ix2 0 j) = ∑ i ∈ Finset.range (n + 1), rows (fun r h => kshare (m ((c : Thread nD τ).loc main_arg0)) (m ((c : Thread nD τ).loc main_arg4)) r h j) t i := by
  rw [Finset.sum_range_succ, ← hacc, rows_pos _ _ _ hn]
  pointwise [k0_pay16, k0_pay14, k0_pay13, k0_pay12, k0_pay11]
  simp only [hX, hD, read1, read5]
  rfl

theorem pay2 (S acc : FVec Ideal S1x128 .f32) (i) : k0_pay2 (F := Ideal) S acc i = acc i + S i := by pointwise [k0_pay2]
theorem pay3 (S acc : FVec Ideal S1x128 .f32) (i) : k0_pay3 (F := Ideal) S acc i = acc i + S i := by pointwise [k0_pay3]

/-- What a point leaves of the queries' gain's gradient: its rows' shares, on top of what the point before left. -/
theorem out8 (j : Fin 128) : (outsAt0 m c t.val t.isLt).2.1 (ix2 0 j)
    = (if t.val % 16 = 0 then 0 else (outsAt0 m c (t.val - 1) (Nat.lt_of_le_of_lt (Nat.sub_le _ _) t.isLt)).2.1 (ix2 0 j))
      + ∑ i ∈ Finset.range 16, rows (fun r h => qshare (m ((c : Thread nD τ).loc main_arg0)) (m ((c : Thread nD τ).loc main_arg3)) r h j) t i := by
  by_cases g : t.val % 16 = 0
  · rw [outsAt0_A m c t g (by have := lt_of_lt_of_eq t.isLt N_0; omega), if_pos g, zero_add]
    frame_out
    iterate 16 refine qstep m c t _ _ _ _ _ ?_ (by decide) ?_ ?_
    · pointwise [k0_pay4]; exact Finset.sum_range_zero _ |>.symm
    all_goals (intro a i; pointwise; blk_ext)
  · rw [outsAt0_B m c t g (by omega), if_neg g]
    frame_out
    refine (pay2 _ _ _).trans (congrArg _ ?_)
    iterate 16 refine qstep m c t _ _ _ _ _ ?_ (by decide) ?_ ?_
    · pointwise [k0_pay4]; exact Finset.sum_range_zero _ |>.symm
    all_goals (intro a i; pointwise; blk_ext)

/-- What a point leaves of the keys' gain's gradient: its rows' shares, on top of what the point before left. -/
theorem out9 (j : Fin 128) : (outsAt0 m c t.val t.isLt).2.2 (ix2 0 j)
    = (if t.val % 16 = 0 then 0 else (outsAt0 m c (t.val - 1) (Nat.lt_of_le_of_lt (Nat.sub_le _ _) t.isLt)).2.2 (ix2 0 j))
      + ∑ i ∈ Finset.range 16, rows (fun r h => kshare (m ((c : Thread nD τ).loc main_arg0)) (m ((c : Thread nD τ).loc main_arg4)) r h j) t i := by
  by_cases g : t.val % 16 = 0
  · rw [outsAt0_A m c t g (by have := lt_of_lt_of_eq t.isLt N_0; omega), if_pos g, zero_add]
    frame_out
    iterate 16 refine kstep m c t _ _ _ _ _ ?_ (by decide) ?_ ?_
    · pointwise [k0_pay4]; exact Finset.sum_range_zero _ |>.symm
    all_goals (intro a i; pointwise; blk_ext)
  · rw [outsAt0_B m c t g (by omega), if_neg g]
    frame_out
    refine (pay3 _ _ _).trans (congrArg _ ?_)
    iterate 16 refine kstep m c t _ _ _ _ _ ?_ (by decide) ?_ ?_
    · pointwise [k0_pay4]; exact Finset.sum_range_zero _ |>.symm
    all_goals (intro a i; pointwise; blk_ext)

/-- The blocks' rows of all heads are all rows of all heads. -/
theorem rows_all (f : Fin 4096 → Fin 16 → EReal) (q : Fin 16 → Fin cfg0.N) (hq : ∀ s, (q s).val = s.val) :
    ∑ s : Fin 16, ∑ i ∈ Finset.range 16, rows f (q s) i = ∑ r : Fin 4096, ∑ h : Fin 16, f r h := by
  have e (s : Fin 16) : ∑ i ∈ Finset.range 16, rows f (q s) i = ∑ k : Fin 256, ∑ h : Fin 16, f (row (q s) k) h := by
    rw [Finset.sum_range, Finset.sum_comm]
    exact Finset.sum_congr rfl fun h _ => rows_pos f (q s) h.val h.isLt
  simp only [e]
  refine Fin.sum_mul_add_congr fun s k hl => ?_
  exact congrArg (fun r => ∑ h : Fin 16, f r h) (Fin.ext (by simp [row, hq]))

/-- The queries' gain's gradient after the run. -/
theorem final8 : (dats m 0 c).arrAt 8 (cfgs 0).N
    = Cert.HeadsRefIdeal.Read.val_main_v81 (F := Ideal) (m ((c : Thread nD τ).loc main_arg0)) (m ((c : Thread nD τ).loc main_arg3)) := by
  refine (dats m 0 c).arrAt_eq_of_after_last 8 t0_15 (by decide +kernel) _ fun j => ?_
  idx_vars j
  obtain rfl : j0 = 0 := Subsingleton.elim _ _
  blk_simp
  rw [after0_8, Pipeline.eq_sum_fin_of_reset_step_apply_last (fun n h (k : Fin 128) => (outsAt0 m c n h).2.1 (ix2 0 k)) 16 (fun _ => 0) _
    (fun t h k => by rw [out8 m c t k, if_pos h]) (fun t h k => by rw [out8 m c t k, if_neg h]) (le_of_eq N_0) t0_15 rfl j1, zero_add]
  refine (rows_all _ _ fun _ => rfl).trans (Cert.HeadsRefIdeal.Read.v81_at _ _ _ |>.symm)

/-- The keys' gain's gradient after the run. -/
theorem final9 : (dats m 0 c).arrAt 9 (cfgs 0).N
    = Cert.HeadsRefIdeal.Read.val_main_v54 (F := Ideal) (m ((c : Thread nD τ).loc main_arg0)) (m ((c : Thread nD τ).loc main_arg4)) := by
  refine (dats m 0 c).arrAt_eq_of_after_last 9 t0_15 (by decide +kernel) _ fun j => ?_
  idx_vars j
  obtain rfl : j0 = 0 := Subsingleton.elim _ _
  blk_simp
  rw [after0_9, Pipeline.eq_sum_fin_of_reset_step_apply_last (fun n h (k : Fin 128) => (outsAt0 m c n h).2.2 (ix2 0 k)) 16 (fun _ => 0) _
    (fun t h k => by rw [out9 m c t k, if_pos h]) (fun t h k => by rw [out9 m c t k, if_neg h]) (le_of_eq N_0) t0_15 rfl j1, zero_add]
  refine (rows_all _ _ fun _ => rfl).trans (Cert.HeadsRefIdeal.Read.v54_at _ _ _ |>.symm)

end Cert.HeadsIdeal.Value
-- ==== Proof.HeadsClaim.lean ====
/- The claims about the norms of the heads. -/
module

public import proofs.«01_k».proof.Defs
public import proofs.«01_k».proof.Proof.Gen.Heads.Frame
public import proofs.«01_k».proof.Proof.Gen.HeadsRefIdeal
public import proofs.«01_k».proof.Proof.HeadsGain
public import Idealize.ShloMosaic.Lib.Claim

@[expose] public section

noncomputable section

open Idealize.ShloMosaic Idealize.ShloMosaic.TcCoe Idealize.SL.Sem

namespace Cert.Heads.Claims

theorem pre_facts : Cert.Pre_heads_finite.Facts := ⟨by decide, by decide, by decide⟩

theorem frame_ref : Cert.quiescent_HeadsRefIdeal (hHeadsRefIdeal := Cert.HeadsRefIdeal.Gen.facts) := fun m ρ _ =>
  (θ_run Cert.HeadsRefIdeal.defs _ _).mono (fun r h => ⟨fun c => (h c).2.2.2, sem_eq_zero_of_no_sems (by decide) r.2⟩)
    (Cert.HeadsRefIdeal.Value.run (F := Ideal) m ρ)

open Cert.HeadsIdeal Cert.HeadsRefIdeal.Read in
theorem equal : Cert.algebraic_HeadsIdeal_HeadsRefIdeal_pre_heads_finite (hHeadsIdeal := Cert.HeadsIdeal.Gen.facts)
    (hHeadsRefIdeal := Cert.HeadsRefIdeal.Gen.facts) (hPre_heads_finite := pre_facts) := by
  intro m g m' g' hp ha
  refine ⟨fun c => val_main_v100 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)),
    fun c => val_main_v81 (F := Ideal) (m ((c.tc : Thread nD τ).loc main_arg0)) (m ((c.tc : Thread nD τ).loc main_arg3)),
    fun c => val_main_v54 (F := Ideal) (m ((c.tc : Thread nD τ).loc main_arg0)) (m ((c.tc : Thread nD τ).loc main_arg4)), ?_, ?_⟩
  · have h0 := fun c i => Cert.Finite.of_test _ (congrFun (hp c).1 i)
    have h1 := fun c i => Cert.Finite.of_test _ (congrFun (hp c).2.1 i)
    have h2 := fun c i => Cert.Finite.of_test _ (congrFun (hp c).2.2.1 i)
    have h3 := fun c i => Cert.Finite.of_test _ (congrFun (hp c).2.2.2.1 i)
    have h4 := fun c i => Cert.Finite.of_test _ (congrFun (hp c).2.2.2.2 i)
    exact (θ_run Cert.HeadsIdeal.defs _ _).mono (fun r h c =>
      ⟨(h c).1.trans (Cert.HeadsIdeal.Value.final7 m c (h0 c) (h1 c) (h2 c) (h3 c) (h4 c)),
        (h c).2.1.trans (Cert.HeadsIdeal.Value.final8 m c), (h c).2.2.1.trans (Cert.HeadsIdeal.Value.final9 m c), (h c).2.2.2⟩)
      (Cert.HeadsIdeal.Value.run_blocks (F := Ideal) m g)
  · refine (θ_run Cert.HeadsRefIdeal.defs _ _).mono (fun r h c => ⟨?_, ?_, ?_, (h c).2.2.2⟩)
      (Cert.HeadsRefIdeal.Value.run (F := Ideal) m' g')
    all_goals obtain ⟨e0, e1, e2, e3, e4, e5⟩ := ha c
    · refine ((h c).1.trans (val_main_v100_eq m' c)).trans ?_
      rw [e0, e1, e2, e3, e4, e5]
    · refine ((h c).2.1.trans (val_main_v81_eq _ _)).trans ?_
      rw [e0, e3]
    · refine ((h c).2.2.1.trans (val_main_v54_eq _ _)).trans ?_
      rw [e0, e4]

end Cert.Heads.Claims
-- ==== Proof.GateMath.lean ====
/- The derivative of the gate, as the kernel multiplies it out and as the reference adds its two terms. -/
module

public import proofs.«01_k».proof.Proof.Finite

@[expose] public section

noncomputable section

open Idealize.ShloMosaic Cert.Finite

namespace Cert.Gate

/-- For a real factor the two forms agree at every gate, infinite ones included. -/
theorem gate_eq (p : EReal) (hp : IsReal p) (g : EReal) :
    p * (Ideal.logistic g * (1 + g * (1 - Ideal.logistic g)))
      = p * Ideal.logistic g + g * p * (Ideal.logistic g * (1 - Ideal.logistic g)) := by
  obtain ⟨p, rfl⟩ := hp
  induction g with
  | bot =>
    have h : Ideal.logistic ⊥ = 0 := by
      show Ideal.div 1 (1 + Ideal.exp (-⊥)) = 0
      rw [EReal.neg_bot]
      show Ideal.div 1 (1 + ⊤) = 0
      rw [show (1 : EReal) + ⊤ = ⊤ from EReal.add_top_of_ne_bot (EReal.coe_ne_bot 1)]
      simp [Ideal.div]
    rw [h]; simp
  | top =>
    have h : Ideal.logistic ⊤ = 1 := by
      show Ideal.div 1 (1 + Ideal.exp (-⊤)) = 1
      rw [EReal.neg_top]
      show Ideal.div 1 (1 + 0) = 1
      simp [Ideal.div]
    have e : (1 : EReal) - 1 = 0 := by rw [← EReal.coe_one, ← EReal.coe_sub]; simp
    rw [h, e]; simp
  | coe g =>
    have h : Ideal.logistic g = ((1 / (1 + Real.exp (-g)) : ℝ) : EReal) := by
      show Ideal.div 1 (1 + Ideal.exp (-(g : EReal))) = _
      rw [← EReal.coe_neg]
      show Ideal.div 1 (1 + ((Real.exp (-g) : ℝ) : EReal)) = _
      rw [← EReal.coe_one, ← EReal.coe_add, Ideal.div_coe (by positivity)]
      rw [EReal.coe_one, one_mul]
    rw [h, ← EReal.coe_one]
    simp only [← EReal.coe_mul, ← EReal.coe_add, ← EReal.coe_sub]
    congr 1
    ring

end Cert.Gate
-- ==== Proof.GateValue.lean ====
/- The gate of the feed-forward layer on the kernel's side: both gradients block by block, as the reference's terms
   over the argument arrays. -/
module

public import proofs.«01_k».proof.Proof.Gen.GateIdeal.Value
public import proofs.«01_k».proof.Proof.Gen.GateRefIdeal.Read
public import proofs.«01_k».proof.Proof.GateMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Cert.Finite
open Idealize.ShloMosaic.Pipeline (Dat)

namespace Cert.GateIdeal.Value

open Cert.GateIdeal Cert.GateIdeal.Gen

variable (m : (ℓ : Loc nD τ sig) → Buf (Elt Ideal) ℓ)

/-- The windows' block indices: row blocks inside each quarter of the columns. -/
theorem idx : ∀ t : Fin cfg0.N, win0_0.index t = ![t.val % 16, 0] ∧ win0_1.index t = ![t.val / 16, 0, 0, 0] ∧ win0_2.index t = ![t.val % 16, t.val / 16]
    ∧ win0_3.index t = ![t.val % 16, t.val / 16] ∧ win0_4.index t = ![t.val % 16, t.val / 16] ∧ win0_5.index t = ![t.val % 16, t.val / 16] :=
  (by decide +kernel : ∀ t : Fin grid0.N, _)

/-- The product in front of the gate, at an entry. -/
def prod (X0 : Vec Ideal S4096x2048 .f32) (X3 : Vec Ideal S5632x2048 .f32) (r : Fin 4096) (k : Fin 5632) : EReal :=
  ∑ j : Fin 2048, X0 (ix2 r j) * X3 (ix2 k j)

theorem ref13 (X0 X1 X2 X3) (h0 : ∀ i, IsReal (X0 i)) (h2 : ∀ i, IsReal (X2 i)) (h3 : ∀ i, IsReal (X3 i)) (r k) :
    Cert.GateRefIdeal.Read.val_main_v13 (F := Ideal) X0 X1 X2 X3 (ix2 r k)
      = prod X0 X3 r k * X2 (ix2 r k) * (Ideal.logistic (X1 (ix2 r k)) * (1 + X1 (ix2 r k) * (1 - Ideal.logistic (X1 (ix2 r k))))) := by
  rw [Gate.gate_eq (prod X0 X3 r k * X2 (ix2 r k)) ((IsReal.sum _ fun j => (h0 _).mul (h3 _)).mul (h2 _)), ← Cert.GateRefIdeal.Read.val_main_v13_eq]
  pointwise
  rfl

theorem ref14 (X0 X1 X3 r k) : Cert.GateRefIdeal.Read.val_main_v14 (F := Ideal) X0 X1 X3 (ix2 r k)
      = prod X0 X3 r k * (X1 (ix2 r k) * Ideal.logistic (X1 (ix2 r k))) := by
  rw [← Cert.GateRefIdeal.Read.val_main_v14_eq]
  pointwise
  exact mul_comm _ _

/-- The row and the column of the arrays behind an entry of block `t`. -/
def row (t : Fin cfg0.N) (a : Fin 256) : Fin 4096 := ⟨t.val % 16 * 256 + a.val, by omega⟩
def col (t : Fin cfg0.N) (b : Fin 1408) : Fin 5632 := ⟨t.val / 16 * 1408 + b.val, by have := lt_of_lt_of_eq t.isLt N_0; omega⟩

theorem read0 (c : Dev nD) (t : Fin cfg0.N) (a : Fin 256) (j : Fin 2048) : (iblk m c 0 t : Vec Ideal S256x2048 .bf16) (ix2 a j)
    = (m ((c : Thread nD τ).loc main_arg0) : Vec Ideal S4096x2048 .f32) (ix2 (row t a) j) := by
  blk_simp [iblk]
  entry_read
  pointwise
  blk_ext [idx t, row]

theorem read1 (c : Dev nD) (t : Fin cfg0.N) (b : Fin 1408) (j : Fin 2048) : (iblk m c 1 t : Vec Ideal S1x1x1408x2048 .bf16) (ix4 0 0 b j)
    = (m ((c : Thread nD τ).loc main_arg3) : Vec Ideal S5632x2048 .f32) (ix2 (col t b) j) := by
  blk_simp [iblk]
  entry_read
  pointwise
  blk_ext [idx t, col]

theorem read2 (c : Dev nD) (t : Fin cfg0.N) (a : Fin 256) (b : Fin 1408) : (iblk m c 2 t : Vec Ideal S256x1408 .f32) (ix2 a b)
    = (m ((c : Thread nD τ).loc main_arg1) : Vec Ideal S4096x5632 .f32) (ix2 (row t a) (col t b)) := by
  blk_ext [iblk, V, idx t, row, col]

theorem read3 (c : Dev nD) (t : Fin cfg0.N) (a : Fin 256) (b : Fin 1408) : (iblk m c 3 t : Vec Ideal S256x1408 .f32) (ix2 a b)
    = (m ((c : Thread nD τ).loc main_arg2) : Vec Ideal S4096x5632 .f32) (ix2 (row t a) (col t b)) := by
  blk_ext [iblk, V, idx t, row, col]

theorem pay1_at (c : Dev nD) (t : Fin cfg0.N) (a : Fin 256) (b : Fin 1408) : k0_pay1 (F := Ideal) (iblk m c 0 t) (iblk m c 1 t) (ix2 a b)
    = prod (m ((c : Thread nD τ).loc main_arg0)) (m ((c : Thread nD τ).loc main_arg3)) (row t a) (col t b) := by
  pointwise [k0_pay1]
  exact Finset.sum_congr rfl fun j _ => congrArg₂ (· * ·) (read0 m c t a j) (read1 m c t b j)

/-- The gradient of the gate after the run. -/
theorem final4 (c : Dev nD) (h0 : ∀ i, IsReal (m ((c : Thread nD τ).loc main_arg0) i)) (h2 : ∀ i, IsReal (m ((c : Thread nD τ).loc main_arg2) i))
    (h3 : ∀ i, IsReal (m ((c : Thread nD τ).loc main_arg3) i)) : (dats m 0 c).arrAt 4 (cfgs 0).N
    = Cert.GateRefIdeal.Read.val_main_v13 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  refine Eq.trans ?_ (congrArg _ (show (ix2 (row t y0) (col t y1) : S4096x5632.Idx) = _ by blk_ext [idx t, row, col]))
  rw [ref13 _ _ _ _ h0 h2 h3]
  pointwise [k0_pay3, pay1_at, k0_pay2]
  rw [read2, read3]

/-- The gradient of the gated factor after the run. -/
theorem final5 (c : Dev nD) : (dats m 0 c).arrAt 5 (cfgs 0).N
    = Cert.GateRefIdeal.Read.val_main_v14 (F := Ideal) (m ((c : Thread nD τ).loc main_arg0)) (m ((c : Thread nD τ).loc main_arg1))
      (m ((c : Thread nD τ).loc main_arg3)) := by
  refine (dats m 0 c).arrAt_eq_of_covers 5 _ (by decide +kernel) fun t _ y => ?_
  blk_simp
  rw [after0_5]
  frame_out
  idx_vars y
  refine Eq.trans ?_ (congrArg _ (show (ix2 (row t y0) (col t y1) : S4096x5632.Idx) = _ by blk_ext [idx t, row, col]))
  rw [ref14]
  pointwise [k0_pay4, pay1_at, k0_pay2]
  rw [read2]

end Cert.GateIdeal.Value
-- ==== Proof.GateClaim.lean ====
/- The claims about the gate of the feed-forward layer. -/
module

public import proofs.«01_k».proof.Defs
public import proofs.«01_k».proof.Proof.Gen.Gate.Frame
public import proofs.«01_k».proof.Proof.Gen.GateRefIdeal
public import proofs.«01_k».proof.Proof.GateValue
public import Idealize.ShloMosaic.Lib.Claim

@[expose] public section

noncomputable section

open Idealize.ShloMosaic Idealize.ShloMosaic.TcCoe Idealize.SL.Sem

namespace Cert.Gate.Claims

theorem pre_facts : Cert.Pre_gate_finite.Facts := ⟨by decide, by decide, by decide⟩

theorem frame_ref : Cert.quiescent_GateRefIdeal (hGateRefIdeal := Cert.GateRefIdeal.Gen.facts) := fun m ρ _ =>
  (θ_run Cert.GateRefIdeal.defs _ _).mono (fun r h => ⟨fun c => (h c).2.2, sem_eq_zero_of_no_sems (by decide) r.2⟩)
    (Cert.GateRefIdeal.Value.run (F := Ideal) m ρ)

open Cert.GateIdeal Cert.GateRefIdeal.Read in
theorem equal : Cert.algebraic_GateIdeal_GateRefIdeal_pre_gate_finite (hGateIdeal := Cert.GateIdeal.Gen.facts)
    (hGateRefIdeal := Cert.GateRefIdeal.Gen.facts) (hPre_gate_finite := pre_facts) := by
  intro m g m' g' hp ha
  refine ⟨fun c => val_main_v13 (F := Ideal) (m ((c.tc : Thread nD τ).loc main_arg0)) (m ((c.tc : Thread nD τ).loc main_arg1))
      (m ((c.tc : Thread nD τ).loc main_arg2)) (m ((c.tc : Thread nD τ).loc main_arg3)),
    fun c => val_main_v14 (F := Ideal) (m ((c.tc : Thread nD τ).loc main_arg0)) (m ((c.tc : Thread nD τ).loc main_arg1))
      (m ((c.tc : Thread nD τ).loc main_arg3)), ?_, ?_⟩
  · exact (θ_run Cert.GateIdeal.defs _ _).mono (fun r h c =>
      ⟨(h c).1.trans (Cert.GateIdeal.Value.final4 m c (fun i => Cert.Finite.of_test _ (congrFun (hp c).1 i))
          (fun i => Cert.Finite.of_test _ (congrFun (hp c).2.1 i)) (fun i => Cert.Finite.of_test _ (congrFun (hp c).2.2 i))),
        (h c).2.1.trans (Cert.GateIdeal.Value.final5 m c), (h c).2.2⟩)
      (Cert.GateIdeal.Value.run_blocks (F := Ideal) m g)
  · refine (θ_run Cert.GateRefIdeal.defs _ _).mono (fun r h c => ⟨?_, ?_, (h c).2.2⟩)
      (Cert.GateRefIdeal.Value.run (F := Ideal) m' g')
    all_goals obtain ⟨e0, e1, e2, e3⟩ := ha c
    · refine ((h c).1.trans (val_main_v13_eq _ _ _ _)).trans ?_
      rw [e0, e1, e2, e3]
    · refine ((h c).2.1.trans (val_main_v14_eq _ _ _)).trans ?_
      rw [e0, e1, e3]

end Cert.Gate.Claims
-- ==== Proof.WindowRows.lean ====
/- Sums over a window of rows, along the first axis of an array with three axes. -/
module

public import proofs.«01_k».proof.Proof.Finite
public import Idealize.ShloMosaic.Lib.Pointwise

@[expose] public section

set_option maxRecDepth 16384

noncomputable section

open Idealize.ShloMosaic Cert.Finite

namespace Cert.Window

/-- The indices of a window that is wide along the first axis only. -/
def firstEquiv (N : ℕ) : Shape.Idx ⟨3, ![N, 1, 1]⟩ ≃ Fin N where
  toFun p := p 0
  invFun n := fun a => match a with
    | ⟨0, _⟩ => n
    | ⟨1, _⟩ => ⟨0, Nat.one_pos⟩
    | ⟨2, _⟩ => ⟨0, Nat.one_pos⟩
  left_inv p := funext fun a => match a with
    | ⟨0, _⟩ => rfl
    | ⟨1, _⟩ => Subsingleton.elim (α := Fin 1) _ _
    | ⟨2, _⟩ => Subsingleton.elim (α := Fin 1) _ _
  right_inv n := rfl

theorem foldl_add {α : Type} (g : EReal → α → EReal) (a : α → EReal) (hg : ∀ r n, g r n = r + a n) (l : List α) (v : EReal) :
    l.foldl g v = v + (l.map a).sum := by
  induction l generalizing v with
  | nil => simp
  | cons n l ih => rw [List.foldl_cons, hg, ih, List.map_cons, List.sum_cons, add_assoc]

theorem sum_first (N : ℕ) (a : ℕ → EReal) :
    ((List.finRange (Shape.numel ⟨3, ![N, 1, 1]⟩)).map fun n => a ((Shape.rowMajor ⟨3, ![N, 1, 1]⟩).symm n 0).val).sum
      = ∑ n ∈ Finset.range N, a n := by
  rw [← Fin.sum_univ_def, Finset.sum_range]
  exact Fintype.sum_equiv ((Shape.rowMajor ⟨3, ![N, 1, 1]⟩).symm.trans (firstEquiv N)) _ _ fun n => rfl

variable {N B C : ℕ}

/-- A window sum along the rows, `lo` rows of padding in front, at an entry of the column `f`. -/
theorem rows_at (lo hi : ℕ) (X : Shape.Idx ⟨3, ![N, B, C]⟩ → EReal) (init : Shape.Idx ⟨0, ![]⟩ → EReal) (hi0 : ∀ i, init i = 0)
    (h : Shape.ReduceWindows ⟨3, ![N, B, C]⟩ (![N, 1, 1] : Fin 3 → ℕ) ![1, 1, 1] ![lo, 0, 0] ![hi, 0, 0] ⟨3, ![N, B, C]⟩)
    (hu : 0 < Shape.numel ⟨0, ![]⟩) (r : Fin N) (b : Fin B) (e : Fin C) (f : ℕ → EReal) (hf : ∀ s : Fin N, X (ix3 s b e) = f s) :
    Host.reduceWindowAdd (F := Ideal) (φ := .f32) ![N, 1, 1] ![1, 1, 1] ![lo, 0, 0] ![hi, 0, 0] X init h hu (ix3 r b e)
      = ∑ n ∈ Finset.range N, if lo ≤ r + n ∧ r + n - lo < N then f (r + n - lo) else 0 := by
  show Host.reduceWindow (· + ·) (![N, 1, 1] : Fin 3 → ℕ) ![1, 1, 1] ![lo, 0, 0] ![hi, 0, 0] X
    (fun _ : (⟨0, ![]⟩ : Shape).Idx => init (Shape.Idx.first hu)) h (by decide) (ix3 r b e) = _
  unfold Host.reduceWindow
  rw [hi0]
  refine (foldl_add _ (fun n => if lo ≤ r + ((Shape.rowMajor ⟨3, ![N, 1, 1]⟩).symm n 0).val
      ∧ r + ((Shape.rowMajor ⟨3, ![N, 1, 1]⟩).symm n 0).val - lo < N
      then f (r + ((Shape.rowMajor ⟨3, ![N, 1, 1]⟩).symm n 0).val - lo) else 0) (fun v n => ?_) _ 0).trans ?_
  · have e1 : ((Shape.rowMajor ⟨3, ![N, 1, 1]⟩).symm n 1).val = 0 := by
      have := ((Shape.rowMajor ⟨3, ![N, 1, 1]⟩).symm n 1).isLt
      change _ < 1 at this
      omega
    have e2 : ((Shape.rowMajor ⟨3, ![N, 1, 1]⟩).symm n 2).val = 0 := by
      have := ((Shape.rowMajor ⟨3, ![N, 1, 1]⟩).symm n 2).isLt
      change _ < 1 at this
      omega
    dsimp only
    refine congrArg (v + ·) ?_
    split
    · next hin =>
      have h0 := hin 0
      change lo ≤ r.val * 1 + ((Shape.rowMajor ⟨3, ![N, 1, 1]⟩).symm n 0).val
        ∧ r.val * 1 + ((Shape.rowMajor ⟨3, ![N, 1, 1]⟩).symm n 0).val - lo < N at h0
      rw [Nat.mul_one] at h0
      rw [if_pos h0, ← hf ⟨_, h0.2⟩]
      refine congrArg X (funext fun a => Fin.ext ?_)
      match a with
      | ⟨0, _⟩ => show r.val * 1 + ((Shape.rowMajor ⟨3, ![N, 1, 1]⟩).symm n 0).val - lo = _; rw [Nat.mul_one]; rfl
      | ⟨1, _⟩ => show b.val * 1 + ((Shape.rowMajor ⟨3, ![N, 1, 1]⟩).symm n 1).val - 0 = b.val; rw [e1]; omega
      | ⟨2, _⟩ => show e.val * 1 + ((Shape.rowMajor ⟨3, ![N, 1, 1]⟩).symm n 2).val - 0 = e.val; rw [e2]; omega
    · next hin =>
      rw [if_neg fun h0 => hin fun a => by
        match a with
        | ⟨0, _⟩ =>
          show lo ≤ r.val * 1 + ((Shape.rowMajor ⟨3, ![N, 1, 1]⟩).symm n 0).val
            ∧ r.val * 1 + ((Shape.rowMajor ⟨3, ![N, 1, 1]⟩).symm n 0).val - lo < N
          rw [Nat.mul_one]
          exact h0
        | ⟨1, _⟩ =>
          show 0 ≤ b.val * 1 + ((Shape.rowMajor ⟨3, ![N, 1, 1]⟩).symm n 1).val
            ∧ b.val * 1 + ((Shape.rowMajor ⟨3, ![N, 1, 1]⟩).symm n 1).val - 0 < B
          have := b.isLt
          omega
        | ⟨2, _⟩ =>
          show 0 ≤ e.val * 1 + ((Shape.rowMajor ⟨3, ![N, 1, 1]⟩).symm n 2).val
            ∧ e.val * 1 + ((Shape.rowMajor ⟨3, ![N, 1, 1]⟩).symm n 2).val - 0 < C
          have := e.isLt
          omega]
  · rw [zero_add]
    exact sum_first N fun n => if lo ≤ r + n ∧ r + n - lo < N then f (r + n - lo) else 0

/-- The sum of `n` consecutive entries of a column. -/
def run (n : ℕ) (f : ℕ → EReal) (r : ℕ) : EReal := ∑ i ∈ Finset.range n, f (r + i)

/-- Twice as many entries are the same number of entries twice. -/
theorem run_double (n : ℕ) (f : ℕ → EReal) (r : ℕ) : run n f r + run n f (r + n) = run (n + n) f r := by
  simp only [run, Finset.sum_range_add, add_assoc]

/-- Past the column's end there is nothing to add. -/
theorem run_end (n : ℕ) (f : ℕ → EReal) (r N : ℕ) (hf : ∀ s, N ≤ s → f s = 0) (hr : N ≤ r) : run n f r = 0 :=
  Finset.sum_eq_zero fun i _ => hf _ (by omega)

/-- Adding up the differences of a column and the same column `w` rows on, from a row to the end, leaves `w` entries. -/
theorem telescope (f : ℕ → ℝ) (N w r : ℕ) (hf : ∀ s, N ≤ s → f s = 0) :
    ∑ n ∈ Finset.range N, (if 0 ≤ r + n ∧ r + n - 0 < N then (((f (r + n - 0) - f (r + n - 0 + w) : ℝ)) : EReal) else 0)
      = run w (fun s => (f s : EReal)) r := by
  have e (n : ℕ) : (if 0 ≤ r + n ∧ r + n - 0 < N then (((f (r + n - 0) - f (r + n - 0 + w) : ℝ)) : EReal) else 0)
      = ((f (r + n) - f (r + w + n) : ℝ) : EReal) := by
    rw [Nat.sub_zero, Nat.add_right_comm r n w]
    by_cases h : r + n < N
    · rw [if_pos ⟨Nat.zero_le _, h⟩]
    · rw [if_neg fun c => h c.2, hf _ (by omega), hf _ (by omega), sub_zero, EReal.coe_zero]
  simp only [e, run, ← coe_sum]
  refine congrArg _ ?_
  rw [Finset.sum_sub_distrib, sub_eq_iff_eq_add]
  have a := Finset.sum_range_add (fun i => f (r + i)) N w
  have b := Finset.sum_range_add (fun i => f (r + i)) w N
  rw [Nat.add_comm w N] at b
  have z : ∑ x ∈ Finset.range w, f (r + (N + x)) = 0 := Finset.sum_eq_zero fun x _ => hf _ (by omega)
  rw [z, add_zero] at a
  rw [← a, b]
  simp only [add_assoc]

end Cert.Window
-- ==== Proof.PoolMath.lean ====
/- The terms of the multi-scale pooling: the length of a window that is cut off at the first row, and an entry divided
   by it. -/
module

public import proofs.«01_k».proof.Proof.WindowRows
public import Idealize.ShloMosaic.Lib.WordArith
public import Idealize.ShloMosaic.Lib.WordCmp

@[expose] public section

noncomputable section

open Idealize.ShloMosaic Cert.Finite

namespace Cert.Pool

/-- How many rows lie in the window of `w` rows that ends at row `s`. -/
def count (w s : ℕ) : ℝ := (min (s + 1) w : ℕ)

theorem count_ne (w s : ℕ) (hw : 0 < w) : count w s ≠ 0 := by
  unfold count
  exact_mod_cast (by omega : min (s + 1) w ≠ 0)

/-- The count as the programs form it, in words. -/
theorem count_word (w s : ℕ) (hw : w < 4096) (hs : s < 4096) :
    FloatOps.sitofp (F := Ideal) .f32 (IntOp.minsi (IntOp.addi (BitVec.ofNat 32 s) 1#32) (BitVec.ofNat 32 w)) = ((count w s : ℝ) : EReal) := by
  have e : IntOp.minsi (IntOp.addi (BitVec.ofNat 32 s) 1#32) (BitVec.ofNat 32 w) = BitVec.ofNat 32 (min (s + 1) w) := by
    have h : IntOp.addi (BitVec.ofNat 32 s) 1#32 = BitVec.ofNat 32 (s + 1) := by
      show BitVec.ofNat 32 s + 1#32 = _
      rw [BitVec.ofNat_add]
    rw [h]
    apply BitVec.eq_of_toNat_eq
    refine (Idealize.ShloMosaic.WordArith.toNat_minsi_of_lt _ _ ?_ ?_).trans ?_ <;> simp only [BitVec.toNat_ofNat] <;> omega
  rw [e]
  show (((BitVec.ofNat 32 (min (s + 1) w)).toInt : ℝ) : EReal) = _
  have i : (BitVec.ofNat 32 (min (s + 1) w)).toInt = ((min (s + 1) w : ℕ) : ℤ) := by
    rw [BitVec.toInt_eq_toNat_of_lt (by rw [BitVec.toNat_ofNat]; omega), BitVec.toNat_ofNat, Nat.mod_eq_of_lt (by omega)]
  rw [i, count, Int.cast_natCast]

/-- Row `s` of a column of reals over the count, zero past the end. -/
def share (w : ℕ) (f : Fin 4096 → ℝ) (s : ℕ) : ℝ := if h : s < 4096 then f ⟨s, h⟩ * (1 / count w s) else 0

theorem share_end (w : ℕ) (f : Fin 4096 → ℝ) (s : ℕ) (h : 4096 ≤ s) : share w f s = 0 := dif_neg (by omega)

theorem share_div (w : ℕ) (hw : 0 < w) (f : Fin 4096 → ℝ) (s : Fin 4096) :
    Ideal.div ((f s : ℝ) : EReal) ((count w s : ℝ) : EReal) = ((share w f s : ℝ) : EReal) := by
  rw [Ideal.div_coe (count_ne w s hw), ← EReal.coe_mul, share, dif_pos s.isLt]

end Cert.Pool
-- ==== Proof.PoolRef.lean ====
/- The multi-scale pooling's gradient on the reference's side, entry by entry. -/
module

public import proofs.«01_k».proof.Proof.Gen.PoolRefIdeal.Run
public import proofs.«01_k».proof.Proof.Gen.PoolRefIdeal.Read
public import proofs.«01_k».proof.Proof.PoolMath
public import Idealize.ShloMosaic.Lib.Pointwise

@[expose] public section

set_option maxRecDepth 200000

noncomputable section

open Idealize.ShloMosaic Idealize.ShloMosaic.TcCoe Idealize.SL.Sem Cert.Finite Cert.Window Cert.Pool

namespace Cert.PoolRefIdeal.Read

/-- Column `k` of the gradient, as reals. -/
def column (X : Vec Ideal S4096x2048 .f32) (k : Fin 2048) (s : Fin 4096) : ℝ := (X (ix2 s k)).toReal

variable (X : Vec Ideal S4096x2048 .f32) (hX : ∀ i, IsReal (X i))

include hX in
theorem column_eq (s : Fin 4096) (k : Fin 2048) : X (ix2 s k) = ((column X k s : ℝ) : EReal) := by
  obtain ⟨r, hr⟩ := hX (ix2 s k)
  rw [column, hr, EReal.toReal_coe]

include hX in
/-- An entry over its window's count. -/
theorem quot (w : ℕ) (hw : 0 < w) (hw' : w < 4096) (s : Fin 4096) (k : Fin 2048) :
    Ideal.div (X (ix2 s k)) (FloatOps.sitofp (F := Ideal) .f32 (IntOp.minsi (IntOp.addi (1#32) (BitVec.ofNat 32 s)) (BitVec.ofNat 32 w)))
      = ((share w (column X k) s : ℝ) : EReal) := by
  rw [show IntOp.addi (1#32) (BitVec.ofNat 32 s) = IntOp.addi (BitVec.ofNat 32 s) 1#32 from BitVec.add_comm _ _,
    count_word w s hw' s.isLt, column_eq X hX, share_div w hw]

/-- A row's term minus the term `w` rows on. -/
theorem step (w : ℕ) (f : Fin 4096 → ℝ) (q : Fin 4096 → EReal) (hq : ∀ s : Fin 4096, q s = ((share w f s : ℝ) : EReal)) (s : Fin 4096) :
    (q s + if h : w + (s : ℕ) < 4096 then -q ⟨w + s, h⟩ else 0) = ((share w f s - share w f (s + w) : ℝ) : EReal) := by
  rw [hq]
  by_cases h : w + (s : ℕ) < 4096
  · rw [dif_pos h, hq, EReal.coe_sub, sub_eq_add_neg, Nat.add_comm s.val w]
  · rw [dif_neg h, share_end w f (s + w) (by omega), sub_zero, add_zero]

section Groups

variable (s : Fin 4096) (e : Fin 512)

include hX

theorem v130_at : val_main_v130 (F := Ideal) X (ix2 s e) = ((share 2 (column X ⟨e.val, by omega⟩) s : ℝ) : EReal) := by
  pointwise [val_main_v130, val_main_v129, val_main_v78, val_main_v77, val_main_v76, val_main_v15, val_main_v14, val_main_v13, val_main_v12,
    val_main_c_2, val_main_v5, val_main_v4, val_main_v3, val_main_c]
  exact quot X hX 2 (by decide) (by decide) s _

theorem v116_at : val_main_v116 (F := Ideal) X (ix2 s e) = ((share 4 (column X ⟨512 + e.val, by omega⟩) s : ℝ) : EReal) := by
  pointwise [val_main_v116, val_main_v115, val_main_v80, val_main_v79, val_main_v76, val_main_v31, val_main_v30, val_main_v29, val_main_v28,
    val_main_c_5, val_main_v5, val_main_v4, val_main_v3, val_main_c]
  exact quot X hX 4 (by decide) (by decide) s _

theorem v102_at : val_main_v102 (F := Ideal) X (ix2 s e) = ((share 8 (column X ⟨1024 + e.val, by omega⟩) s : ℝ) : EReal) := by
  pointwise [val_main_v102, val_main_v101, val_main_v82, val_main_v81, val_main_v76, val_main_v47, val_main_v46, val_main_v45, val_main_v44,
    val_main_c_8, val_main_v5, val_main_v4, val_main_v3, val_main_c]
  exact quot X hX 8 (by decide) (by decide) s _

theorem v89_at : val_main_v89 (F := Ideal) X (ix2 s e) = ((share 16 (column X ⟨1536 + e.val, by omega⟩) s : ℝ) : EReal) := by
  pointwise [val_main_v89, val_main_v88, val_main_v84, val_main_v83, val_main_v76, val_main_v63, val_main_v62, val_main_v61, val_main_v60,
    val_main_c_11, val_main_v5, val_main_v4, val_main_v3, val_main_c]
  exact quot X hX 16 (by decide) (by decide) s _

theorem v135_at : val_main_v135 (F := Ideal) X (ix2 s e) = ((share 2 (column X ⟨e.val, by omega⟩) s - share 2 (column X ⟨e.val, by omega⟩) (s + 2) : ℝ) : EReal) := by
  pointwise [val_main_v135, val_main_v134, val_main_v132, val_main_v131, val_main_cst_22]
  exact step 2 _ (fun s => val_main_v130 (F := Ideal) X (ix2 s e)) (fun s => v130_at X hX s e) s

theorem v121_at : val_main_v121 (F := Ideal) X (ix2 s e) = ((share 4 (column X ⟨512 + e.val, by omega⟩) s - share 4 (column X ⟨512 + e.val, by omega⟩) (s + 4) : ℝ) : EReal) := by
  pointwise [val_main_v121, val_main_v120, val_main_v118, val_main_v117, val_main_cst_19]
  exact step 4 _ (fun s => val_main_v116 (F := Ideal) X (ix2 s e)) (fun s => v116_at X hX s e) s

theorem v107_at : val_main_v107 (F := Ideal) X (ix2 s e) = ((share 8 (column X ⟨1024 + e.val, by omega⟩) s - share 8 (column X ⟨1024 + e.val, by omega⟩) (s + 8) : ℝ) : EReal) := by
  pointwise [val_main_v107, val_main_v106, val_main_v104, val_main_v103, val_main_cst_16]
  exact step 8 _ (fun s => val_main_v102 (F := Ideal) X (ix2 s e)) (fun s => v102_at X hX s e) s

theorem v94_at : val_main_v94 (F := Ideal) X (ix2 s e) = ((share 16 (column X ⟨1536 + e.val, by omega⟩) s - share 16 (column X ⟨1536 + e.val, by omega⟩) (s + 16) : ℝ) : EReal) := by
  pointwise [val_main_v94, val_main_v93, val_main_v91, val_main_v90, val_main_cst_13]
  exact step 16 _ (fun s => val_main_v89 (F := Ideal) X (ix2 s e)) (fun s => v89_at X hX s e) s

end Groups

/-- The window of a group of columns. -/
def width (g : ℕ) : ℕ := 2 ^ (g + 1)

/-- A column by its group and its place in the group. -/
def gcol (g : Fin 4) (e : Fin 512) : Fin 2048 := ⟨g.val * 512 + e.val, by omega⟩

include hX in
/-- The gradient of the running sums. -/
theorem v138_at (s : Fin 4096) (g : Fin 4) (e : Fin 512) : val_main_v138 (F := Ideal) X (ix3 s g e)
    = ((share (width g) (column X (gcol g e)) s - share (width g) (column X (gcol g e)) (s + width g) : ℝ) : EReal) := by
  pointwise [val_main_v138, val_main_v137, val_main_v136, val_main_v124, val_main_v123, val_main_v122, val_main_v110, val_main_v109,
    val_main_v108, val_main_v96, val_main_v95, val_main_cst_23, val_main_cst_20, val_main_cst_17, val_main_cst_14]
  rw [v94_at X hX, v107_at X hX, v121_at X hX, v135_at X hX]
  fin_cases g <;> simp [width, gcol]

/-- The gradient of the tokens themselves. -/
theorem v128_at (s : Fin 4096) (g : Fin 4) (e : Fin 512) : val_main_v128 (F := Ideal) X (ix3 s g e) = -X (ix2 s (gcol g e)) := by
  pointwise [val_main_v128, val_main_v127, val_main_v126, val_main_v125, val_main_v114, val_main_v113, val_main_v112, val_main_v111, val_main_v100,
    val_main_v99, val_main_v98, val_main_v97, val_main_v87, val_main_v86, val_main_v85, val_main_v84, val_main_v83, val_main_v82, val_main_v81,
    val_main_v80, val_main_v79, val_main_v78, val_main_v77, val_main_v76, val_main_cst_12, val_main_cst_15, val_main_cst_18, val_main_cst_21]
  fin_cases g <;> simp [gcol]

include hX in
/-- The running sums' gradient added up from a row to the end: a window's entries. -/
theorem v139_at (s : Fin 4096) (g : Fin 4) (e : Fin 512) : val_main_v139 (F := Ideal) X (ix3 s g e)
    = run (width g) (fun r => ((share (width g) (column X (gcol g e)) r : ℝ) : EReal)) s := by
  unfold val_main_v139
  refine (rows_at 0 4095 _ _ (fun i => ?_) _ _ s g e
    (fun r => ((share (width g) (column X (gcol g e)) r - share (width g) (column X (gcol g e)) (r + width g) : ℝ) : EReal)) (fun r => v138_at X hX r g e)).trans
    (telescope (share (width g) (column X (gcol g e))) 4096 (width g) s (share_end _ _))
  pointwise [val_main_call1_call0_v0, val_main_call1_call0_cst]

include hX in
theorem v141_at (s : Fin 4096) (k : Fin 2048) : val_main_v141 (F := Ideal) X (ix2 s k)
    = run (width (k.val / 512)) (fun r => ((share (width (k.val / 512)) (column X k) r : ℝ) : EReal)) s - X (ix2 s k) := by
  pointwise [val_main_v141, val_main_v140]
  rw [v128_at, v139_at X hX, add_comm, ← sub_eq_add_neg]
  have e : gcol ⟨k.val / 512, by omega⟩ ⟨k.val % 512, by omega⟩ = k := Fin.ext (Nat.div_add_mod' k.val 512)
  rw [e]

end Cert.PoolRefIdeal.Read
-- ==== Proof.PoolValue.lean ====
/- The multi-scale pooling's gradient on the kernel's side: sums over 2, 4, 8 and 16 rows, each twice the one before. -/
module

public import proofs.«01_k».proof.Proof.Gen.PoolIdeal.Value
public import proofs.«01_k».proof.Proof.PoolRef
public import proofs.«01_k».proof.Proof.ShiftRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Finite Cert.Window Cert.Pool
open Idealize.ShloMosaic.Pipeline (Dat)
open Cert.PoolRefIdeal.Read (column width)

namespace Cert.PoolIdeal.Value

open Cert.PoolIdeal Cert.PoolIdeal.Gen

/-- One step of the doubling: a block plus the same block `4096 - m` rows on, if the step is taken. -/
def stage (m : BitVec 32) (b : BitVec 1) (S : FVec Ideal S4096x256 .f32) : FVec Ideal S4096x256 .f32 :=
  Scalar.select b (addf S (select (cmpi .slt (iota .tc S4096x256 32 [0] iota_S4096x256_d0_w32) (broadcast S4096x256 m))
    (dynamicRotate 0 m none S rotates_S4096x256_d0) (broadcast S4096x256 (Scalar.ofBits .f32 0x00000000#32)))) S

theorem stage_one (n k : ℕ) (hn : n ≤ 4096) (hk : k = n + n) (m : BitVec 32) (hm : m = BitVec.ofNat 32 (4096 - n)) (b : BitVec 1) (hb : b = 1#1) (S : FVec Ideal S4096x256 .f32) (f : ℕ → EReal) (hf : ∀ s, 4096 ≤ s → f s = 0) (d : Fin 256)
    (hS : ∀ s : Fin 4096, S (ix2 s d) = run n f s) (s : Fin 4096) :
    stage m b S (ix2 s d) = run k f s := by
  subst hk hm hb
  rw [stage, ← run_double]
  pointwise
  rw [hS s]
  refine congrArg (run n f s + ·) ((Cert.Shift.up_word n hn (fun k => S (ix2 k d)) s _ ?_).trans ?_)
  · show ((s : ℕ) + 4096 - (BitVec.ofNat 32 (4096 - n)).toNat % 4096) % 4096 = _
    rw [BitVec.toNat_ofNat, Nat.mod_eq_of_lt (a := 4096 - n) (by omega)]
    omega
  · unfold Cert.Shift.up
    by_cases h : (s : ℕ) + n < 4096
    · rw [dif_pos h]; exact hS ⟨s + n, h⟩
    · rw [dif_neg h, run_end n f (s + n) 4096 hf (by omega)]

/-- A step that is not taken. -/
theorem stage_zero (m : BitVec 32) (b : BitVec 1) (hb : b = 0#1) (S : FVec Ideal S4096x256 .f32) : stage m b S = S := by
  subst hb
  rfl

/-- The window's width as the body forms it from the grid's coordinate, in words. -/
def word (a : BitVec 32) : BitVec 32 :=
  Scalar.shli 2#32 (Scalar.select
    (Scalar.andi
      (Scalar.cmpi .ne
        (Scalar.subi (Scalar.extui (Scalar.cmpi .sgt (Scalar.muli a 256#32) 0#32)) (Scalar.extui (Scalar.cmpi .slt (Scalar.muli a 256#32) 0#32)))
        (Scalar.subi (Scalar.extui (Scalar.cmpi .sgt 512#32 0#32)) (Scalar.extui (Scalar.cmpi .slt 512#32 0#32))))
      (Scalar.cmpi .ne (Scalar.remsi (Scalar.muli a 256#32) 512#32) 0#32))
    (Scalar.subi (Scalar.divsi (Scalar.muli a 256#32) 512#32) 1#32) (Scalar.divsi (Scalar.muli a 256#32) 512#32))

theorem word_eq : ∀ a : Fin 8, word (BitVec.ofNat 32 a) = BitVec.ofNat 32 (width (a / 2)) := by decide +kernel

/-- A block over its windows' counts. -/
def quotients (w : BitVec 32) (X : Vec Ideal S4096x256 .f32) : FVec Ideal S4096x256 .f32 :=
  divf X (sitofp .f32 (minsi (addi (iota .tc S4096x256 32 [0] iota_S4096x256_d0_w32) (broadcast S4096x256 1#32)) (broadcast S4096x256 w)))

/-- The block's result: up to four steps, the block itself taken away. -/
def result (w : BitVec 32) (X : Vec Ideal S4096x256 .f32) : FVec Ideal S4096x256 .f32 :=
  subf (stage 4088#32 (Scalar.cmpi .sgt w 8#32) (stage 4092#32 (Scalar.cmpi .sgt w 4#32) (stage 4094#32 (Scalar.cmpi .sgt w 2#32)
    (stage 4095#32 (Scalar.cmpi .sgt w 1#32) (quotients w X))))) X

theorem pay_eq (i : grid0.Coords) (X : Vec Ideal S4096x256 .f32) :
    k0_pay1 (F := Ideal) (word (BitVec.ofNat 32 (i 0).val)) X (k0_pay2 i X) (Scalar.cmpi .sgt (word (BitVec.ofNat 32 (i 0).val)) 2#32) k0_pay3 4094#32
      = result (word (BitVec.ofNat 32 (i 0).val)) X := rfl

theorem quotients_at (w : ℕ) (hw : 0 < w) (hw' : w < 4096) (X : Vec Ideal S4096x256 .f32) (f : Fin 4096 → ℝ) (d : Fin 256)
    (hX : ∀ s : Fin 4096, X (ix2 s d) = ((f s : ℝ) : EReal)) (s : Fin 4096) :
    quotients (BitVec.ofNat 32 w) X (ix2 s d) = run 1 (fun r => ((share w f r : ℝ) : EReal)) s := by
  pointwise [quotients]
  rw [count_word w s hw' s.isLt, hX, share_div w hw, run, Finset.sum_range_one, Nat.add_zero]

theorem sub_at (A X : FVec Ideal S4096x256 .f32) (i : S4096x256.Idx) : subf A X i = A i - X i := rfl

/-- The result at an entry: a window's quotients, the entry taken away. -/
theorem result_at (g : Fin 4) (X : Vec Ideal S4096x256 .f32) (f : Fin 4096 → ℝ) (d : Fin 256)
    (hX : ∀ s : Fin 4096, X (ix2 s d) = ((f s : ℝ) : EReal)) (s : Fin 4096) :
    result (BitVec.ofNat 32 (width g)) X (ix2 s d) = run (width g) (fun r => ((share (width g) f r : ℝ) : EReal)) s - X (ix2 s d) := by
  have z (w : ℕ) (r : ℕ) (h : 4096 ≤ r) : ((share w f r : ℝ) : EReal) = 0 := by rw [share_end w f r h, EReal.coe_zero]
  rw [result, sub_at]
  refine congrArg (· - X (ix2 s d)) ?_
  match g with
  | 0 =>
    rw [stage_zero 4088#32 _ (by decide), stage_zero 4092#32 _ (by decide), stage_zero 4094#32 _ (by decide)]
    exact stage_one 1 2 (by decide) (by decide) _ (by decide) _ (by decide) _ _ (z _) d (quotients_at _ (by decide) (by decide) X f d hX) s
  | 1 =>
    rw [stage_zero 4088#32 _ (by decide), stage_zero 4092#32 _ (by decide)]
    exact stage_one 2 4 (by decide) (by decide) _ (by decide) _ (by decide) _ _ (z _) d (stage_one 1 2 (by decide) (by decide) _ (by decide) _ (by decide) _ _ (z _) d (quotients_at _ (by decide) (by decide) X f d hX)) s
  | 2 =>
    rw [stage_zero 4088#32 _ (by decide)]
    exact stage_one 4 8 (by decide) (by decide) _ (by decide) _ (by decide) _ _ (z _) d (stage_one 2 4 (by decide) (by decide) _ (by decide) _ (by decide) _ _ (z _) d (stage_one 1 2 (by decide) (by decide) _ (by decide) _ (by decide) _ _ (z _) d (quotients_at _ (by decide) (by decide) X f d hX))) s
  | 3 => exact stage_one 8 16 (by decide) (by decide) _ (by decide) _ (by decide) _ _ (z _) d (stage_one 4 8 (by decide) (by decide) _ (by decide) _ (by decide) _ _ (z _) d (stage_one 2 4 (by decide) (by decide) _ (by decide) _ (by decide) _ _ (z _) d (stage_one 1 2 (by decide) (by decide) _ (by decide) _ (by decide) _ _ (z _) d (quotients_at _ (by decide) (by decide) X f d hX)))) s

variable (m : (ℓ : Loc nD τ sig) → Buf (Elt Ideal) ℓ)

/-- The windows' block indices: columns in blocks of 256. -/
theorem idx : ∀ t : Fin cfg0.N, win0_0.index t = ![0, t.val] ∧ win0_1.index t = ![0, t.val] ∧ (grid0.coords t 0).val = t.val :=
  (by decide +kernel : ∀ t : Fin grid0.N, _)

/-- The column of the arrays behind column `d` of block `t`. -/
def col (t : Fin cfg0.N) (d : Fin 256) : Fin 2048 := ⟨t.val * 256 + d.val, by have := lt_of_lt_of_eq t.isLt N_0; omega⟩

theorem read0 (c : Dev nD) (t : Fin cfg0.N) (s : Fin 4096) (d : Fin 256) :
    (iblk m c 0 t : Vec Ideal S4096x256 .f32) (ix2 s d) = (m ((c : Thread nD τ).loc main_arg0) : Vec Ideal S4096x2048 .f32) (ix2 s (col t d)) := by
  blk_ext [iblk, V, idx t, col]

/-- The pooling's gradient after the run. -/
theorem final1 (c : Dev nD) (h0 : ∀ i, IsReal (m ((c : Thread nD τ).loc main_arg0) i)) : (dats m 0 c).arrAt 1 (cfgs 0).N
    = Cert.PoolRefIdeal.Read.val_main_v141 (F := Ideal) (m ((c : Thread nD τ).loc main_arg0)) := by
  refine (dats m 0 c).arrAt_eq_of_covers 1 _ (by decide +kernel) fun t _ y => ?_
  blk_simp
  rw [after0_1]
  frame_out
  idx_vars y
  have ht := lt_of_lt_of_eq t.isLt N_0
  refine Eq.trans ?_ (congrArg _ (show (ix2 y0 (col t y1) : S4096x2048.Idx) = _ by blk_ext [idx t, col]))
  rw [Cert.PoolRefIdeal.Read.v141_at _ h0]
  have hg : (col t y1).val / 512 = t.val / 2 := by have := y1.isLt; simp only [col]; omega
  have hw : word (BitVec.ofNat 32 (grid0.coords t 0).val) = BitVec.ofNat 32 (width (t.val / 2)) := by
    rw [(idx t).2.2]
    exact word_eq ⟨t.val, ht⟩
  have e := result_at ⟨t.val / 2, by omega⟩ (iblk m c 0 t : Vec Ideal S4096x256 .f32)
    (column (m ((c : Thread nD τ).loc main_arg0)) (col t y1)) y1
    (fun s => (read0 m c t s y1).trans (Cert.PoolRefIdeal.Read.column_eq _ h0 s _)) y0
  rw [hg, ← read0 m c t y0 y1]
  refine (congrFun (pay_eq (grid0.coords t) _) _).trans ?_
  rw [hw]
  exact e

end Cert.PoolIdeal.Value
-- ==== Proof.PoolClaim.lean ====
/- The claims about the multi-scale pooling's gradient. -/
module

public import proofs.«01_k».proof.Defs
public import proofs.«01_k».proof.Proof.Gen.Pool.Frame
public import proofs.«01_k».proof.Proof.Gen.PoolRefIdeal
public import proofs.«01_k».proof.Proof.PoolValue
public import Idealize.ShloMosaic.Lib.Claim

@[expose] public section

noncomputable section

open Idealize.ShloMosaic Idealize.ShloMosaic.TcCoe Idealize.SL.Sem

namespace Cert.Pool.Claims

theorem pre_facts : Cert.Pre_pool_finite.Facts := ⟨by decide, by decide⟩

theorem frame_ref : Cert.quiescent_PoolRefIdeal (hPoolRefIdeal := Cert.PoolRefIdeal.Gen.facts) := fun m ρ _ =>
  (θ_run Cert.PoolRefIdeal.defs _ _).mono (fun r h => ⟨fun c => (h c).2, sem_eq_zero_of_no_sems (by decide) r.2⟩)
    (Cert.PoolRefIdeal.Value.run (F := Ideal) m ρ)

open Cert.PoolIdeal Cert.PoolRefIdeal.Read in
theorem equal : Cert.algebraic_PoolIdeal_PoolRefIdeal_pre_pool_finite (hPoolIdeal := Cert.PoolIdeal.Gen.facts)
    (hPoolRefIdeal := Cert.PoolRefIdeal.Gen.facts) (hPre_pool_finite := pre_facts) := by
  intro m g m' g' hp ha
  refine ⟨fun c => val_main_v141 (F := Ideal) (m ((c.tc : Thread nD τ).loc main_arg0)), ?_, ?_⟩
  · have h0 := fun c i => Cert.Finite.of_test _ (congrFun (hp c) i)
    exact (θ_run Cert.PoolIdeal.defs _ _).mono (fun r h c => ⟨(h c).1.trans (Cert.PoolIdeal.Value.final1 m c (h0 c)), (h c).2⟩)
      (Cert.PoolIdeal.Value.run_blocks (F := Ideal) m g)
  · refine (θ_run Cert.PoolRefIdeal.defs _ _).mono (fun r h c => ⟨?_, (h c).2⟩)
      (Cert.PoolRefIdeal.Value.run (F := Ideal) m' g')
    refine ((h c).1.trans (val_main_v141_eq m' c)).trans ?_
    rw [ha c]

end Cert.Pool.Claims
-- ==== Proof.NormfwdValue.lean ====
/- RMSNorm's forward call, block by block. -/
module

public import proofs.«01_k».proof.Proof.Gen.NormfwdIdeal.Value
public import proofs.«01_k».proof.Proof.Gen.NormfwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormfwdIdeal.Value

open Cert.NormfwdIdeal Cert.NormfwdIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- An entry of the normalised rows, from its row and its column's gain. -/
def entry (x : Fin 2048 → EReal) (g : EReal) (k : Fin 2048) : EReal :=
  x k * Ideal.rsqrt (Ideal.div (∑ j, x j * x j) (Ideal.ofBits .f32 0x45000000#32) + Ideal.ofBits .f32 0x358637BD#32) * g

theorem pay_at (X : Vec Ideal S256x2048 .f32) (G : Vec Ideal S1x2048 .f32) (a : Fin 256) (k : Fin 2048) :
    k0_pay1 (F := Ideal) X G (ix2 a k) = entry (fun j => X (ix2 a j)) (G (ix2 0 k)) k := by
  pointwise [k0_pay1]
  rfl

theorem ref_at (X : Vec Ideal S4096x2048 .f32) (G : Vec Ideal S1x2048 .f32) (r : Fin 4096) (k : Fin 2048) :
    Cert.NormfwdRefIdeal.Read.val_main_v12 (F := Ideal) X G (ix2 r k) = entry (fun j => X (ix2 r j)) (G (ix2 0 k)) k := by
  rw [← Cert.NormfwdRefIdeal.Read.val_main_v12_eq]
  pointwise
  rfl

/-- The row of the arrays behind a row of block `t`. -/
def row (t : Fin cfg0.N) (a : Fin 256) : Fin 4096 := ⟨t.val * 256 + a.val, by have := lt_of_lt_of_eq t.isLt N_0; omega⟩

theorem read0 (c : Dev nD) (t : Fin cfg0.N) (a : Fin 256) (k : Fin 2048) : (iblk m c 0 t : Vec Ideal S256x2048 .f32) (ix2 a k)
    = (m ((c : Thread nD τ).loc main_arg0) : Vec Ideal S4096x2048 .f32) (ix2 (row t a) k) := by
  blk_ext [iblk, V, idx t, row]

theorem read1 (c : Dev nD) (t : Fin cfg0.N) (k : Fin 2048) : (iblk m c 1 t : Vec Ideal S1x2048 .f32) (ix2 0 k)
    = (m ((c : Thread nD τ).loc main_arg1) : Vec Ideal S1x2048 .f32) (ix2 0 k) := by
  blk_ext [iblk, V, idx t]

/-- The normalised rows after the run. -/
theorem final2 (c : Dev nD) : (dats m 0 c).arrAt 2 (cfgs 0).N
    = Cert.NormfwdRefIdeal.Read.val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  refine Eq.trans ?_ (congrArg _ (show (ix2 (row t y0) y1 : S4096x2048.Idx) = _ by blk_ext [idx t, row]))
  refine (pay_at _ _ _ _).trans ?_
  rw [ref_at]
  exact congrArg₂ (fun x g => entry x g y1) (funext fun j => read0 m c t y0 j) (read1 m c t y1)

end Cert.NormfwdIdeal.Value
-- ==== Proof.NormfwdClaim.lean ====
/- The claims about RMSNorm's forward call. -/
module

public import proofs.«01_k».proof.Defs
public import proofs.«01_k».proof.Proof.Gen.Normfwd.Frame
public import proofs.«01_k».proof.Proof.Gen.NormfwdRefIdeal
public import proofs.«01_k».proof.Proof.Gen.NormfwdRefIdeal.Run
public import proofs.«01_k».proof.Proof.NormfwdValue
public import Idealize.ShloMosaic.Lib.Claim

@[expose] public section

noncomputable section

open Idealize.ShloMosaic Idealize.ShloMosaic.TcCoe Idealize.SL.Sem

namespace Cert.Normfwd.Claims

theorem frame_ref : Cert.quiescent_NormfwdRefIdeal (hNormfwdRefIdeal := Cert.NormfwdRefIdeal.Gen.facts) := fun m ρ _ =>
  (θ_run Cert.NormfwdRefIdeal.defs _ _).mono (fun r h => ⟨fun c => (h c).2, sem_eq_zero_of_no_sems (by decide) r.2⟩)
    (Cert.NormfwdRefIdeal.Value.run (F := Ideal) m ρ)

open Cert.NormfwdIdeal Cert.NormfwdRefIdeal.Read in
theorem equal : Cert.algebraic_NormfwdIdeal_NormfwdRefIdeal (hNormfwdIdeal := Cert.NormfwdIdeal.Gen.facts)
    (hNormfwdRefIdeal := Cert.NormfwdRefIdeal.Gen.facts) := by
  intro m g m' g' _ ha
  refine ⟨fun c => val_main_v12 (F := Ideal) (m ((c.tc : Thread nD τ).loc main_arg0)) (m ((c.tc : Thread nD τ).loc main_arg1)), ?_, ?_⟩
  · exact (θ_run Cert.NormfwdIdeal.defs _ _).mono (fun r h c => ⟨(h c).1.trans (Cert.NormfwdIdeal.Value.final2 m c), (h c).2⟩)
      (Cert.NormfwdIdeal.Value.run_blocks (F := Ideal) m g)
  · refine (θ_run Cert.NormfwdRefIdeal.defs _ _).mono (fun r h c => ⟨?_, (h c).2⟩)
      (Cert.NormfwdRefIdeal.Value.run (F := Ideal) m' g')
    all_goals obtain ⟨e0, e1⟩ := ha c
    · refine ((h c).1.trans (val_main_v12_eq _ _)).trans ?_
      rw [e0, e1]

end Cert.Normfwd.Claims
-- ==== Proof.HeadsfwdValue.lean ====
/- The norms of the attention's queries and keys, forward: one head's columns per store. -/
module

public import proofs.«01_k».proof.Proof.Gen.HeadsfwdIdeal.Value
public import proofs.«01_k».proof.Proof.Gen.HeadsfwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadsfwdIdeal.Value

open Cert.HeadsfwdIdeal Cert.HeadsfwdIdeal.Gen

variable (m : (ℓ : Loc nD τ sig) → Buf (Elt Ideal) ℓ)

/-- The windows' block indices: rows in blocks of 256, the gains whole. -/
theorem idx : ∀ t : Fin cfg0.N, win0_0.index t = ![0, t.val, 0] ∧ win0_1.index t = ![1, t.val, 0] ∧ win0_2.index t = ![2, t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- The queries' scale as a constant of the programs. -/
abbrev scale : EReal := Ideal.ofBits .f32 0x3DB504F3#32

/-- An entry of a normalised head, from the head's row and the column's gain. -/
def entry (x : Fin 128 → EReal) (g : EReal) (k : Fin 128) : EReal :=
  x k * Ideal.rsqrt (Ideal.div (∑ j, x j * x j) (Ideal.ofBits .f32 0x43000000#32) + Ideal.ofBits .f32 0x358637BD#32) * g

theorem qhead (X : Vec Ideal S1x256x128 .f32) (G : Vec Ideal S1x128 .f32) (a : Fin 256) (j : Fin 128) :
    k0_pay2 (F := Ideal) X G (ix2 a j) = entry (fun j => X (ix3 0 a j)) (G (ix2 0 j) * scale) j := by
  pointwise [k0_pay2]
  rfl

theorem khead (X : Vec Ideal S1x256x128 .f32) (G : Vec Ideal S1x128 .f32) (a : Fin 256) (j : Fin 128) :
    k0_pay3 (F := Ideal) X G (ix2 a j) = entry (fun j => X (ix3 0 a j)) (G (ix2 0 j)) j := by
  pointwise [k0_pay3]
  rfl

/-- Column `j` of the head that column `k` lies in. -/
abbrev hcol (k : Fin 2048) (j : Fin 128) : Fin 2048 := ⟨k.val / 128 * 128 + j.val, by omega⟩

theorem hcol_self (k : Fin 2048) : hcol k ⟨k.val % 128, Nat.mod_lt _ (by decide)⟩ = k := Fin.ext (Nat.div_add_mod' k.val 128)

section Reference

open Cert.HeadsfwdRefIdeal.Read

variable (X0 : Vec Ideal S3x4096x2048 .f32) (X1 X2 : Vec Ideal S1x128 .f32) (r : Fin 4096) (k : Fin 2048)

theorem v38_at : val_main_v38 (F := Ideal) X0 X1 (ix2 r k)
    = entry (fun j => X0 (ix3 0 r (hcol k j))) (X1 (ix2 0 ⟨k.val % 128, Nat.mod_lt _ (by decide)⟩) * scale) ⟨k.val % 128, Nat.mod_lt _ (by decide)⟩ := by
  rw [entry, hcol_self, ← mul_assoc, ← val_main_v38_eq]
  pointwise

theorem v39_at : val_main_v39 (F := Ideal) X0 X2 (ix2 r k)
    = entry (fun j => X0 (ix3 1 r (hcol k j))) (X2 (ix2 0 ⟨k.val % 128, Nat.mod_lt _ (by decide)⟩)) ⟨k.val % 128, Nat.mod_lt _ (by decide)⟩ := by
  rw [entry, hcol_self, ← val_main_v39_eq]
  pointwise

theorem v40_at : val_main_v40 (F := Ideal) X0 (ix2 r k) = X0 (ix3 2 r k) := by
  rw [← val_main_v40_eq]
  pointwise

end Reference

/-- The row of the arrays behind a row of block `t`. -/
def row (t : Fin cfg0.N) (a : Fin 256) : Fin 4096 := ⟨t.val * 256 + a.val, by have := lt_of_lt_of_eq t.isLt N_0; omega⟩

theorem read0 (c : Dev nD) (t : Fin cfg0.N) (a : Fin 256) (k : Fin 2048) : (iblk m c 0 t : Vec Ideal S1x256x2048 .f32) (ix3 0 a k)
    = (m ((c : Thread nD τ).loc main_arg0) : Vec Ideal S3x4096x2048 .f32) (ix3 0 (row t a) k) := by
  blk_ext [iblk, V, idx t, row]

theorem read1 (c : Dev nD) (t : Fin cfg0.N) (a : Fin 256) (k : Fin 2048) : (iblk m c 1 t : Vec Ideal S1x256x2048 .f32) (ix3 0 a k)
    = (m ((c : Thread nD τ).loc main_arg0) : Vec Ideal S3x4096x2048 .f32) (ix3 1 (row t a) k) := by
  blk_ext [iblk, V, idx t, row]

theorem read2 (c : Dev nD) (t : Fin cfg0.N) (a : Fin 256) (k : Fin 2048) : (iblk m c 2 t : Vec Ideal S1x256x2048 .f32) (ix3 0 a k)
    = (m ((c : Thread nD τ).loc main_arg0) : Vec Ideal S3x4096x2048 .f32) (ix3 2 (row t a) k) := by
  blk_ext [iblk, V, idx t, row]

theorem read3 (c : Dev nD) (t : Fin cfg0.N) (k : Fin 128) : (iblk m c 3 t : Vec Ideal S1x128 .f32) (ix2 0 k)
    = (m ((c : Thread nD τ).loc main_arg1) : Vec Ideal S1x128 .f32) (ix2 0 k) := by
  blk_ext [iblk, V, idx t]

theorem read4 (c : Dev nD) (t : Fin cfg0.N) (k : Fin 128) : (iblk m c 4 t : Vec Ideal S1x128 .f32) (ix2 0 k)
    = (m ((c : Thread nD τ).loc main_arg2) : Vec Ideal S1x128 .f32) (ix2 0 k) := by
  blk_ext [iblk, V, idx t]

variable (c : Dev nD)

/-- A store of the queries: the columns of the head that column `k` of the block lies in. -/
theorem qpiece (t : Fin cfg0.N) (X : Vec Ideal S1x256x128 .f32) (a : Fin 256) (j : Fin 128) (a' : Fin 256) (k : Fin 2048)
    (ha : a'.val = a.val) (hk : k.val % 128 = j.val)
    (hX : ∀ j : Fin 128, X (ix3 0 a j) = (iblk m c 0 t : Vec Ideal S1x256x2048 .f32) (ix3 0 a (hcol k j))) :
    k0_pay2 (F := Ideal) X (iblk m c 3 t) (ix2 a j)
      = Cert.HeadsfwdRefIdeal.Read.val_main_v38 (F := Ideal) (m ((c : Thread nD τ).loc main_arg0)) (m ((c : Thread nD τ).loc main_arg1)) (ix2 (row t a') k) := by
  obtain rfl := Fin.ext ha
  obtain rfl : j = ⟨k.val % 128, Nat.mod_lt _ (by decide)⟩ := Fin.ext hk.symm
  rw [v38_at, qhead]
  simp only [hX, read0, read3]

theorem kpiece (t : Fin cfg0.N) (X : Vec Ideal S1x256x128 .f32) (a : Fin 256) (j : Fin 128) (a' : Fin 256) (k : Fin 2048)
    (ha : a'.val = a.val) (hk : k.val % 128 = j.val)
    (hX : ∀ j : Fin 128, X (ix3 0 a j) = (iblk m c 1 t : Vec Ideal S1x256x2048 .f32) (ix3 0 a (hcol k j))) :
    k0_pay3 (F := Ideal) X (iblk m c 4 t) (ix2 a j)
      = Cert.HeadsfwdRefIdeal.Read.val_main_v39 (F := Ideal) (m ((c : Thread nD τ).loc main_arg0)) (m ((c : Thread nD τ).loc main_arg2)) (ix2 (row t a') k) := by
  obtain rfl := Fin.ext ha
  obtain rfl : j = ⟨k.val % 128, Nat.mod_lt _ (by decide)⟩ := Fin.ext hk.symm
  rw [v39_at, khead]
  simp only [hX, read1, read4]

set_option maxHeartbeats 2000000 in
/-- The normalised and scaled queries after the run. -/
theorem final5 : (dats m 0 c).arrAt 5 (cfgs 0).N
    = Cert.HeadsfwdRefIdeal.Read.val_main_v38 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  refine Eq.trans ?_ (congrArg _ (show (ix2 (row t (y 0)) (y 1) : S4096x2048.Idx) = _ by blk_ext [idx t, row]))
  canon_tiles x e using View.cover_of_tiledBy _ ![256, 128] (by sl_kernel_rfl) y
  all_goals idx_vars x
  all_goals
    refine qpiece m c t _ _ _ _ _ (by omega) (by omega) (fun j => ?_)
    pointwise
    blk_ext [e1]

set_option maxHeartbeats 2000000 in
/-- The normalised keys after the run. -/
theorem final6 : (dats m 0 c).arrAt 6 (cfgs 0).N
    = Cert.HeadsfwdRefIdeal.Read.val_main_v39 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  frame_out
  refine Eq.trans ?_ (congrArg _ (show (ix2 (row t (y 0)) (y 1) : S4096x2048.Idx) = _ by blk_ext [idx t, row]))
  canon_tiles x e using View.cover_of_tiledBy _ ![256, 128] (by sl_kernel_rfl) y
  all_goals idx_vars x
  all_goals
    refine kpiece m c t _ _ _ _ _ (by omega) (by omega) (fun j => ?_)
    pointwise
    blk_ext [e1]

/-- The values after the run. -/
theorem final7 : (dats m 0 c).arrAt 7 (cfgs 0).N
    = Cert.HeadsfwdRefIdeal.Read.val_main_v40 (F := Ideal) (m ((c : Thread nD τ).loc main_arg0)) := by
  refine (dats m 0 c).arrAt_eq_of_covers 7 _ (by decide +kernel) fun t _ y => ?_
  blk_simp
  rw [after0_7]
  frame_out
  idx_vars y
  refine Eq.trans ?_ (congrArg _ (show (ix2 (row t y0) y1 : S4096x2048.Idx) = _ by blk_ext [idx t, row]))
  rw [v40_at]
  pointwise [k0_pay1]
  exact read2 m c t _ _

end Cert.HeadsfwdIdeal.Value
-- ==== Proof.HeadsfwdClaim.lean ====
/- The claims about the norms of queries and keys, forward. -/
module

public import proofs.«01_k».proof.Defs
public import proofs.«01_k».proof.Proof.Gen.Headsfwd.Frame
public import proofs.«01_k».proof.Proof.Gen.HeadsfwdRefIdeal
public import proofs.«01_k».proof.Proof.Gen.HeadsfwdRefIdeal.Run
public import proofs.«01_k».proof.Proof.HeadsfwdValue
public import Idealize.ShloMosaic.Lib.Claim

@[expose] public section

noncomputable section

open Idealize.ShloMosaic Idealize.ShloMosaic.TcCoe Idealize.SL.Sem

namespace Cert.Headsfwd.Claims

theorem frame_ref : Cert.quiescent_HeadsfwdRefIdeal (hHeadsfwdRefIdeal := Cert.HeadsfwdRefIdeal.Gen.facts) := fun m ρ _ =>
  (θ_run Cert.HeadsfwdRefIdeal.defs _ _).mono (fun r h => ⟨fun c => (h c).2.2.2, sem_eq_zero_of_no_sems (by decide) r.2⟩)
    (Cert.HeadsfwdRefIdeal.Value.run (F := Ideal) m ρ)

open Cert.HeadsfwdIdeal Cert.HeadsfwdRefIdeal.Read in
theorem equal : Cert.algebraic_HeadsfwdIdeal_HeadsfwdRefIdeal (hHeadsfwdIdeal := Cert.HeadsfwdIdeal.Gen.facts)
    (hHeadsfwdRefIdeal := Cert.HeadsfwdRefIdeal.Gen.facts) := by
  intro m g m' g' _ ha
  refine ⟨fun c => val_main_v38 (F := Ideal) (m ((c.tc : Thread nD τ).loc main_arg0)) (m ((c.tc : Thread nD τ).loc main_arg1)),
    fun c => val_main_v39 (F := Ideal) (m ((c.tc : Thread nD τ).loc main_arg0)) (m ((c.tc : Thread nD τ).loc main_arg2)),
    fun c => val_main_v40 (F := Ideal) (m ((c.tc : Thread nD τ).loc main_arg0)), ?_, ?_⟩
  · exact (θ_run Cert.HeadsfwdIdeal.defs _ _).mono (fun r h c => ⟨(h c).1.trans (Cert.HeadsfwdIdeal.Value.final5 m c), (h c).2.1.trans (Cert.HeadsfwdIdeal.Value.final6 m c), (h c).2.2.1.trans (Cert.HeadsfwdIdeal.Value.final7 m c), (h c).2.2.2⟩)
      (Cert.HeadsfwdIdeal.Value.run_blocks (F := Ideal) m g)
  · refine (θ_run Cert.HeadsfwdRefIdeal.defs _ _).mono (fun r h c => ⟨?_, ?_, ?_, (h c).2.2.2⟩)
      (Cert.HeadsfwdRefIdeal.Value.run (F := Ideal) m' g')
    all_goals obtain ⟨e0, e1, e2⟩ := ha c
    · refine ((h c).1.trans (val_main_v38_eq _ _)).trans ?_
      rw [e0, e1]
    · refine ((h c).2.1.trans (val_main_v39_eq _ _)).trans ?_
      rw [e0, e2]
    · refine ((h c).2.2.1.trans (val_main_v40_eq _)).trans ?_
      rw [e0]

end Cert.Headsfwd.Claims
-- ==== Proof.TrailRows.lean ====
/- Sums over the rows that end at a row: twice as many from two shorter ones, and one as a difference of sums from the first row. -/
module

public import proofs.«01_k».proof.Proof.WindowRows

@[expose] public section

set_option maxRecDepth 16384

noncomputable section

open Idealize.ShloMosaic Idealize.ShloMosaic.TcCoe Idealize.SL.Sem Cert.Finite

namespace Cert.Trail

/-- The sum of the last `n` entries of a column up to entry `s`, fewer where the column begins. -/
def back (n : ℕ) (f : ℕ → EReal) (s : ℕ) : EReal := ∑ i ∈ Finset.range n, if i ≤ s then f (s - i) else 0

/-- A longer sum from a shorter one and the one that ends where the shorter begins. -/
theorem back_add (n k : ℕ) (f : ℕ → EReal) (s : ℕ) : back n f s + (if n ≤ s then back k f (s - n) else 0) = back (n + k) f s := by
  unfold back
  rw [Finset.sum_range_add]
  refine congrArg (_ + ·) ?_
  by_cases h : n ≤ s
  · rw [if_pos h]
    refine Finset.sum_congr rfl fun i _ => ?_
    rw [Nat.sub_sub]
    exact if_congr (by omega) rfl rfl
  · rw [if_neg h]
    exact (Finset.sum_eq_zero fun i _ => if_neg (by omega)).symm

/-- Beyond the first row there is nothing to add. -/
theorem back_long (n k : ℕ) (f : ℕ → EReal) (s : ℕ) (h : s < n) : back (k + n) f s = back n f s := by
  rw [Nat.add_comm, ← back_add, if_neg (by omega), add_zero]

theorem back_real (n : ℕ) (f : ℕ → EReal) (hf : ∀ s, IsReal (f s)) (s : ℕ) : IsReal (back n f s) :=
  IsReal.sum _ fun i => by
    split
    · exact hf _
    · exact ⟨0, rfl⟩

/-- Two sums from the first row, `w` rows apart, differ by the last `w` entries. -/
theorem back_sub (N w : ℕ) (f : ℕ → EReal) (hf : ∀ s, IsReal (f s)) (s : ℕ) (h : s < N) :
    (back N f s - if w ≤ s then back N f (s - w) else 0) = back w f s := by
  rw [← back_long N w f s h, ← back_add]
  obtain ⟨r, hr⟩ : IsReal (if w ≤ s then back N f (s - w) else 0) := by
    split
    · exact back_real _ _ hf _
    · exact ⟨0, rfl⟩
  rw [hr]
  exact EReal.add_sub_cancel_right

/-- The window sum with all but one row of padding in front adds up the rows so far. -/
theorem rows_back (N : ℕ) (f : ℕ → EReal) (s : ℕ) (hs : s < N + 1) :
    (∑ n ∈ Finset.range (N + 1), if N ≤ s + n ∧ s + n - N < N + 1 then f (s + n - N) else 0) = back (N + 1) f s := by
  rw [back, ← Finset.sum_range_reflect]
  refine Finset.sum_congr rfl fun i hi => ?_
  have hi := Finset.mem_range.mp hi
  by_cases h : i ≤ s
  · rw [if_pos h, if_pos (by omega)]
    exact congrArg f (by omega)
  · rw [if_neg h, if_neg (by omega)]

end Cert.Trail
-- ==== Proof.PoolfwdRef.lean ====
/- The multi-scale pooling on the reference's side, entry by entry. -/
module

public import proofs.«01_k».proof.Proof.Gen.PoolfwdRefIdeal.Run
public import proofs.«01_k».proof.Proof.Gen.PoolfwdRefIdeal.Read
public import proofs.«01_k».proof.Proof.TrailRows
public import proofs.«01_k».proof.Proof.PoolRef
public import Idealize.ShloMosaic.Lib.Pointwise

@[expose] public section

set_option maxRecDepth 200000

noncomputable section

open Idealize.ShloMosaic Idealize.ShloMosaic.TcCoe Idealize.SL.Sem Cert.Finite Cert.Trail Cert.Window
open Cert.PoolRefIdeal.Read (width gcol)

namespace Cert.PoolfwdRefIdeal.Read

/-- Column `k`, continued by zeros. -/
def colN (X : Vec Ideal S4096x2048 .f32) (k : Fin 2048) (s : ℕ) : EReal := if h : s < 4096 then X (ix2 ⟨s, h⟩ k) else 0

theorem colN_at (X : Vec Ideal S4096x2048 .f32) (k : Fin 2048) (s : Fin 4096) : colN X k s = X (ix2 s k) := dif_pos s.isLt

theorem colN_real (X : Vec Ideal S4096x2048 .f32) (hX : ∀ i, IsReal (X i)) (k : Fin 2048) (s : ℕ) : IsReal (colN X k s) := by
  unfold colN
  split
  · exact hX _
  · exact ⟨0, rfl⟩

/-- How many rows lie in the window of `w` rows that ends at row `s`, as the programs form it. -/
abbrev count (w s : ℕ) : EReal := FloatOps.sitofp (F := Ideal) .f32 (IntOp.minsi (IntOp.addi (BitVec.ofNat 32 s) 1#32) (BitVec.ofNat 32 w))

theorem count_comm (w s : ℕ) : FloatOps.sitofp (F := Ideal) .f32 (IntOp.minsi (IntOp.addi (1#32) (BitVec.ofNat 32 s)) (BitVec.ofNat 32 w)) = count w s := by
  rw [show IntOp.addi (1#32) (BitVec.ofNat 32 s) = IntOp.addi (BitVec.ofNat 32 s) 1#32 from BitVec.add_comm _ _]

/-- An entry of the pooled columns: the mean of the last `w` rows, the row itself taken away. -/
def entry (w : ℕ) (f : ℕ → EReal) (s : ℕ) : EReal := Ideal.div (back w f s) (count w s) - f s

variable (X : Vec Ideal S4096x2048 .f32) (hX : ∀ i, IsReal (X i))

/-- The running sums. -/
theorem v1_at (s : Fin 4096) (g : Fin 4) (e : Fin 512) : val_main_v1 (F := Ideal) X (ix3 s g e) = back 4096 (colN X (gcol g e)) s := by
  unfold val_main_v1
  refine (rows_at 4095 0 _ _ (fun i => ?_) _ _ s g e (colN X (gcol g e)) (fun r => ?_)).trans (rows_back 4095 _ s s.isLt)
  · pointwise [val_main_call0_call0_v0, val_main_call0_call0_cst]
  · rw [colN_at]
    pointwise [val_main_v0]
    rfl

section Groups

variable (s : Fin 4096) (e : Fin 512)

include hX

theorem v19_at : val_main_v19 (F := Ideal) X (ix2 s e) = entry 2 (colN X ⟨e.val, by omega⟩) s := by
  have e1 : ∀ r : Fin 4096, val_main_v1 (F := Ideal) X (ix3 r 0 e) = back 4096 (colN X ⟨e.val, by omega⟩) r := fun r => (v1_at X r 0 e).trans (by simp [gcol])
  rw [entry, ← back_sub 4096 2 _ (colN_real X hX _) s s.isLt, colN_at]
  pointwise [val_main_v5, val_main_v6, val_main_v7, val_main_v8, val_main_v9, val_main_v10, val_main_v11, val_main_v12, val_main_v13, val_main_v14, val_main_v15, val_main_v16, val_main_v17, val_main_v18, val_main_v19, val_main_cst, val_main_c_0, val_main_v4, val_main_v3, val_main_v2, val_main_v0, val_main_c]
  rw [count_comm]
  refine congrArg (· - X (ix2 s ⟨e.val, by omega⟩)) (congrArg (Ideal.div · _) (congrArg₂ (· - ·) (e1 s) ?_))
  by_cases h : (s : ℕ) < 2
  · rw [dif_pos h, if_neg (by omega)]
  · rw [dif_neg h]
    exact (e1 ⟨s - 2, by omega⟩).trans (if_pos (Nat.le_of_not_lt h)).symm

theorem v34_at : val_main_v34 (F := Ideal) X (ix2 s e) = entry 4 (colN X ⟨512 + e.val, by omega⟩) s := by
  have e1 : ∀ r : Fin 4096, val_main_v1 (F := Ideal) X (ix3 r 1 e) = back 4096 (colN X ⟨512 + e.val, by omega⟩) r := fun r => (v1_at X r 1 e).trans (by simp [gcol])
  rw [entry, ← back_sub 4096 4 _ (colN_real X hX _) s s.isLt, colN_at]
  pointwise [val_main_v20, val_main_v21, val_main_v22, val_main_v23, val_main_v24, val_main_v25, val_main_v26, val_main_v27, val_main_v28, val_main_v29, val_main_v30, val_main_v31, val_main_v32, val_main_v33, val_main_v34, val_main_cst_1, val_main_c_2, val_main_v4, val_main_v3, val_main_v2, val_main_v0, val_main_c]
  rw [count_comm]
  refine congrArg (· - X (ix2 s ⟨512 + e.val, by omega⟩)) (congrArg (Ideal.div · _) (congrArg₂ (· - ·) (e1 s) ?_))
  by_cases h : (s : ℕ) < 4
  · rw [dif_pos h, if_neg (by omega)]
  · rw [dif_neg h]
    exact (e1 ⟨s - 4, by omega⟩).trans (if_pos (Nat.le_of_not_lt h)).symm

theorem v49_at : val_main_v49 (F := Ideal) X (ix2 s e) = entry 8 (colN X ⟨1024 + e.val, by omega⟩) s := by
  have e1 : ∀ r : Fin 4096, val_main_v1 (F := Ideal) X (ix3 r 2 e) = back 4096 (colN X ⟨1024 + e.val, by omega⟩) r := fun r => (v1_at X r 2 e).trans (by simp [gcol])
  rw [entry, ← back_sub 4096 8 _ (colN_real X hX _) s s.isLt, colN_at]
  pointwise [val_main_v35, val_main_v36, val_main_v37, val_main_v38, val_main_v39, val_main_v40, val_main_v41, val_main_v42, val_main_v43, val_main_v44, val_main_v45, val_main_v46, val_main_v47, val_main_v48, val_main_v49, val_main_cst_3, val_main_c_4, val_main_v4, val_main_v3, val_main_v2, val_main_v0, val_main_c]
  rw [count_comm]
  refine congrArg (· - X (ix2 s ⟨1024 + e.val, by omega⟩)) (congrArg (Ideal.div · _) (congrArg₂ (· - ·) (e1 s) ?_))
  by_cases h : (s : ℕ) < 8
  · rw [dif_pos h, if_neg (by omega)]
  · rw [dif_neg h]
    exact (e1 ⟨s - 8, by omega⟩).trans (if_pos (Nat.le_of_not_lt h)).symm

theorem v64_at : val_main_v64 (F := Ideal) X (ix2 s e) = entry 16 (colN X ⟨1536 + e.val, by omega⟩) s := by
  have e1 : ∀ r : Fin 4096, val_main_v1 (F := Ideal) X (ix3 r 3 e) = back 4096 (colN X ⟨1536 + e.val, by omega⟩) r := fun r => (v1_at X r 3 e).trans (by simp [gcol])
  rw [entry, ← back_sub 4096 16 _ (colN_real X hX _) s s.isLt, colN_at]
  pointwise [val_main_v50, val_main_v51, val_main_v52, val_main_v53, val_main_v54, val_main_v55, val_main_v56, val_main_v57, val_main_v58, val_main_v59, val_main_v60, val_main_v61, val_main_v62, val_main_v63, val_main_v64, val_main_cst_5, val_main_c_6, val_main_v4, val_main_v3, val_main_v2, val_main_v0, val_main_c]
  rw [count_comm]
  refine congrArg (· - X (ix2 s ⟨1536 + e.val, by omega⟩)) (congrArg (Ideal.div · _) (congrArg₂ (· - ·) (e1 s) ?_))
  by_cases h : (s : ℕ) < 16
  · rw [dif_pos h, if_neg (by omega)]
  · rw [dif_neg h]
    exact (e1 ⟨s - 16, by omega⟩).trans (if_pos (Nat.le_of_not_lt h)).symm

end Groups

include hX in
theorem v69_at (s : Fin 4096) (g : Fin 4) (e : Fin 512) : val_main_v69 (F := Ideal) X (ix3 s g e) = entry (width g) (colN X (gcol g e)) s := by
  pointwise [val_main_v69, val_main_v68, val_main_v67, val_main_v66, val_main_v65]
  rw [v19_at X hX, v34_at X hX, v49_at X hX, v64_at X hX]
  fin_cases g <;> simp [width, gcol]

include hX in
theorem v71_at (s : Fin 4096) (k : Fin 2048) : val_main_v71 (F := Ideal) X (ix2 s k) = entry (width (k.val / 512)) (colN X k) s := by
  pointwise [val_main_v71, val_main_v70]
  rw [v69_at X hX]
  have e : gcol ⟨k.val / 512, by omega⟩ ⟨k.val % 512, by omega⟩ = k := Fin.ext (Nat.div_add_mod' k.val 512)
  rw [e]

end Cert.PoolfwdRefIdeal.Read
-- ==== Proof.PoolfwdValue.lean ====
/- The multi-scale pooling on the kernel's side: sums over the last 2, 4, 8 and 16 rows, each twice the one before. -/
module

public import proofs.«01_k».proof.Proof.Gen.PoolfwdIdeal.Value
public import proofs.«01_k».proof.Proof.PoolfwdRef
public import proofs.«01_k».proof.Proof.PoolValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Finite Cert.Trail
open Idealize.ShloMosaic.Pipeline (Dat)
open Cert.PoolRefIdeal.Read (width)
open Cert.PoolfwdRefIdeal.Read (colN colN_at entry)
open Cert.PoolIdeal.Value (word word_eq)

namespace Cert.PoolfwdIdeal.Value

open Cert.PoolfwdIdeal Cert.PoolfwdIdeal.Gen

/-- One step of the doubling: a block plus the same block `m` rows back, if the step is taken. -/
def stage (m : BitVec 32) (b : BitVec 1) (S : FVec Ideal S4096x256 .f32) : FVec Ideal S4096x256 .f32 :=
  Scalar.select b (addf S (select (cmpi .sge (iota .tc S4096x256 32 [0] iota_S4096x256_d0_w32) (broadcast S4096x256 m))
    (dynamicRotate 0 m none S rotates_S4096x256_d0) (broadcast S4096x256 (Scalar.ofBits .f32 0x00000000#32)))) S

theorem stage_one (n k : ℕ) (hn : n < 4096) (hk : k = n + n) (m : BitVec 32) (hm : m = BitVec.ofNat 32 n) (b : BitVec 1) (hb : b = 1#1)
    (S : FVec Ideal S4096x256 .f32) (f : ℕ → EReal) (d : Fin 256) (hS : ∀ s : Fin 4096, S (ix2 s d) = back n f s) (s : Fin 4096) :
    stage m b S (ix2 s d) = back k f s := by
  subst hk hm hb
  rw [stage, ← back_add]
  pointwise
  rw [hS s]
  refine congrArg (back n f s + ·) ((Cert.Shift.down_word n hn.le (fun k => S (ix2 k d)) s _ ?_).trans ?_)
  · show ((s : ℕ) + 4096 - (BitVec.ofNat 32 n).toNat % 4096) % 4096 = _
    rw [BitVec.toNat_ofNat, Nat.mod_eq_of_lt (a := n) (by omega), Nat.mod_eq_of_lt hn]
  · unfold Cert.Shift.down
    by_cases h : n ≤ (s : ℕ)
    · rw [dif_pos h, if_pos h]; exact hS ⟨s - n, by omega⟩
    · rw [dif_neg h, if_neg h]

/-- A step that is not taken. -/
theorem stage_zero (m : BitVec 32) (b : BitVec 1) (hb : b = 0#1) (S : FVec Ideal S4096x256 .f32) : stage m b S = S := by
  subst hb
  rfl

/-- The windows' counts. -/
def counts (w : BitVec 32) : FVec Ideal S4096x256 .f32 :=
  sitofp .f32 (minsi (addi (iota .tc S4096x256 32 [0] iota_S4096x256_d0_w32) (broadcast S4096x256 1#32)) (broadcast S4096x256 w))

/-- The sums after up to four steps. -/
def sums (w : BitVec 32) (X : Vec Ideal S4096x256 .f32) : FVec Ideal S4096x256 .f32 :=
  stage 8#32 (Scalar.cmpi .sgt w 8#32) (stage 4#32 (Scalar.cmpi .sgt w 4#32) (stage 2#32 (Scalar.cmpi .sgt w 2#32) (stage 1#32 (Scalar.cmpi .sgt w 1#32) X)))

/-- The block's result: the means, the block itself taken away. -/
def result (w : BitVec 32) (X : Vec Ideal S4096x256 .f32) : FVec Ideal S4096x256 .bf16 :=
  truncf .bf16 (subf (divf (sums w X) (counts w)) X) bitsLt_bf16_f32

theorem pay_eq (i : grid0.Coords) (X : Vec Ideal S4096x256 .f32) :
    k0_pay1 (F := Ideal) (word (BitVec.ofNat 32 (i 0).val)) X (k0_pay2 i X) (Scalar.cmpi .sgt (word (BitVec.ofNat 32 (i 0).val)) 4#32)
      = result (word (BitVec.ofNat 32 (i 0).val)) X := rfl

theorem result_eq (w : BitVec 32) (X : Vec Ideal S4096x256 .f32) (i : S4096x256.Idx) : result w X i = Ideal.div (sums w X i) (counts w i) - X i := rfl

theorem sums_at (g : Fin 4) (X : Vec Ideal S4096x256 .f32) (f : ℕ → EReal) (d : Fin 256) (hX : ∀ s : Fin 4096, X (ix2 s d) = f s) (s : Fin 4096) :
    sums (BitVec.ofNat 32 (width g)) X (ix2 s d) = back (width g) f s := by
  have h1 : ∀ s : Fin 4096, X (ix2 s d) = back 1 f s := fun s => by
    rw [hX, back, Finset.sum_range_one, if_pos (Nat.zero_le _), Nat.sub_zero]
  rw [sums]
  match g with
  | 0 =>
    rw [stage_zero 8#32 _ (by decide), stage_zero 4#32 _ (by decide), stage_zero 2#32 _ (by decide)]
    exact stage_one 1 2 (by decide) (by decide) _ (by decide) _ (by decide) _ _ d (h1) s
  | 1 =>
    rw [stage_zero 8#32 _ (by decide), stage_zero 4#32 _ (by decide)]
    exact stage_one 2 4 (by decide) (by decide) _ (by decide) _ (by decide) _ _ d (stage_one 1 2 (by decide) (by decide) _ (by decide) _ (by decide) _ _ d (h1)) s
  | 2 =>
    rw [stage_zero 8#32 _ (by decide)]
    exact stage_one 4 8 (by decide) (by decide) _ (by decide) _ (by decide) _ _ d (stage_one 2 4 (by decide) (by decide) _ (by decide) _ (by decide) _ _ d (stage_one 1 2 (by decide) (by decide) _ (by decide) _ (by decide) _ _ d (h1))) s
  | 3 => exact stage_one 8 16 (by decide) (by decide) _ (by decide) _ (by decide) _ _ d (stage_one 4 8 (by decide) (by decide) _ (by decide) _ (by decide) _ _ d (stage_one 2 4 (by decide) (by decide) _ (by decide) _ (by decide) _ _ d (stage_one 1 2 (by decide) (by decide) _ (by decide) _ (by decide) _ _ d (h1)))) s

/-- The result at an entry. -/
theorem result_at (g : Fin 4) (X : Vec Ideal S4096x256 .f32) (f : ℕ → EReal) (d : Fin 256) (hX : ∀ s : Fin 4096, X (ix2 s d) = f s) (s : Fin 4096) :
    result (BitVec.ofNat 32 (width g)) X (ix2 s d) = entry (width g) f s := by
  rw [result_eq, sums_at g X f d hX, hX, entry]
  pointwise [counts]

variable (m : (ℓ : Loc nD τ sig) → Buf (Elt Ideal) ℓ)

/-- The windows' block indices: columns in blocks of 256. -/
theorem idx : ∀ t : Fin cfg0.N, win0_0.index t = ![0, t.val] ∧ win0_1.index t = ![0, t.val] ∧ (grid0.coords t 0).val = t.val :=
  (by decide +kernel : ∀ t : Fin grid0.N, _)

/-- The column of the arrays behind column `d` of block `t`. -/
def col (t : Fin cfg0.N) (d : Fin 256) : Fin 2048 := ⟨t.val * 256 + d.val, by have := lt_of_lt_of_eq t.isLt N_0; omega⟩

theorem read0 (c : Dev nD) (t : Fin cfg0.N) (s : Fin 4096) (d : Fin 256) :
    (iblk m c 0 t : Vec Ideal S4096x256 .f32) (ix2 s d) = (m ((c : Thread nD τ).loc main_arg0) : Vec Ideal S4096x2048 .f32) (ix2 s (col t d)) := by
  blk_ext [iblk, V, idx t, col]

/-- The pooled columns after the run. -/
theorem final1 (c : Dev nD) (h0 : ∀ i, IsReal (m ((c : Thread nD τ).loc main_arg0) i)) : (dats m 0 c).arrAt 1 (cfgs 0).N
    = Cert.PoolfwdRefIdeal.Read.val_main_v71 (F := Ideal) (m ((c : Thread nD τ).loc main_arg0)) := by
  refine (dats m 0 c).arrAt_eq_of_covers 1 _ (by decide +kernel) fun t _ y => ?_
  blk_simp
  rw [after0_1]
  frame_out
  idx_vars y
  have ht := lt_of_lt_of_eq t.isLt N_0
  refine Eq.trans ?_ (congrArg _ (show (ix2 y0 (col t y1) : S4096x2048.Idx) = _ by blk_ext [idx t, col]))
  rw [Cert.PoolfwdRefIdeal.Read.v71_at _ h0]
  have hg : (col t y1).val / 512 = t.val / 2 := by have := y1.isLt; simp only [col]; omega
  have hw : word (BitVec.ofNat 32 (grid0.coords t 0).val) = BitVec.ofNat 32 (width (t.val / 2)) := by
    rw [(idx t).2.2]
    exact word_eq ⟨t.val, ht⟩
  have e := result_at ⟨t.val / 2, by omega⟩ (iblk m c 0 t : Vec Ideal S4096x256 .f32) (colN (m ((c : Thread nD τ).loc main_arg0)) (col t y1)) y1
    (fun s => (read0 m c t s y1).trans (colN_at _ _ _).symm) y0
  rw [hg]
  refine (congrFun (pay_eq (grid0.coords t) _) _).trans ?_
  rw [hw]
  exact e

end Cert.PoolfwdIdeal.Value
-- ==== Proof.PoolfwdClaim.lean ====
/- The claims about the multi-scale pooling's forward call. -/
module

public import proofs.«01_k».proof.Defs
public import proofs.«01_k».proof.Proof.Gen.Poolfwd.Frame
public import proofs.«01_k».proof.Proof.Gen.PoolfwdRefIdeal
public import proofs.«01_k».proof.Proof.PoolfwdValue
public import Idealize.ShloMosaic.Lib.Claim

@[expose] public section

noncomputable section

open Idealize.ShloMosaic Idealize.ShloMosaic.TcCoe Idealize.SL.Sem

namespace Cert.Poolfwd.Claims

theorem pre_facts : Cert.Pre_poolfwd_finite.Facts := ⟨by decide, by decide⟩

theorem frame_ref : Cert.quiescent_PoolfwdRefIdeal (hPoolfwdRefIdeal := Cert.PoolfwdRefIdeal.Gen.facts) := fun m ρ _ =>
  (θ_run Cert.PoolfwdRefIdeal.defs _ _).mono (fun r h => ⟨fun c => (h c).2, sem_eq_zero_of_no_sems (by decide) r.2⟩)
    (Cert.PoolfwdRefIdeal.Value.run (F := Ideal) m ρ)

open Cert.PoolfwdIdeal Cert.PoolfwdRefIdeal.Read in
theorem equal : Cert.algebraic_PoolfwdIdeal_PoolfwdRefIdeal_pre_poolfwd_finite (hPoolfwdIdeal := Cert.PoolfwdIdeal.Gen.facts)
    (hPoolfwdRefIdeal := Cert.PoolfwdRefIdeal.Gen.facts) (hPre_poolfwd_finite := pre_facts) := by
  intro m g m' g' hp ha
  refine ⟨fun c => val_main_v71 (F := Ideal) (m ((c.tc : Thread nD τ).loc main_arg0)), ?_, ?_⟩
  · have h0 := fun c i => Cert.Finite.of_test _ (congrFun (hp c) i)
    exact (θ_run Cert.PoolfwdIdeal.defs _ _).mono (fun r h c => ⟨(h c).1.trans (Cert.PoolfwdIdeal.Value.final1 m c (h0 c)), (h c).2⟩)
      (Cert.PoolfwdIdeal.Value.run_blocks (F := Ideal) m g)
  · refine (θ_run Cert.PoolfwdRefIdeal.defs _ _).mono (fun r h c => ⟨?_, (h c).2⟩)
      (Cert.PoolfwdRefIdeal.Value.run (F := Ideal) m' g')
    refine ((h c).1.trans (val_main_v71_eq m' c)).trans ?_
    rw [ha c]

end Cert.Poolfwd.Claims
-- ==== Proof.ConvfwdValue.lean ====
/- The gated convolution's forward call, block by block. -/
module

public import proofs.«01_k».proof.Proof.Gen.ConvfwdIdeal.Value
public import proofs.«01_k».proof.Proof.Gen.ConvfwdRefIdeal.Read
public import proofs.«01_k».proof.Proof.ShiftRows
public import Idealize.ShloMosaic.Lib.Pipeline.ValueKit
public import Idealize.ShloMosaic.Lib.Pointwise
public import Idealize.ShloMosaic.Lib.Claim

@[expose] public section

set_option maxRecDepth 200000

noncomputable section

open Idealize.ShloMosaic Idealize.ShloMosaic.TcCoe Idealize.SL.Sem Cert.Shift
open Idealize.ShloMosaic.Pipeline (Dat)

namespace Cert.ConvfwdIdeal.Value

open Cert.ConvfwdIdeal Cert.ConvfwdIdeal.Gen

variable (m : (ℓ : Loc nD τ sig) → Buf (Elt Ideal) ℓ)

/-- The windows' block indices: columns in blocks of 128, the taps in quarters of four blocks. -/
theorem idx : ∀ t : Fin cfg0.N, win0_0.index t = ![0, 0, t.val] ∧ win0_1.index t = ![1, 0, t.val] ∧ win0_2.index t = ![2, 0, t.val]
    ∧ win0_3.index t = ![t.val / 4, 0, t.val % 4] ∧ win0_4.index t = ![0, t.val] :=
  (by decide +kernel : ∀ t : Fin grid0.N, _)

/-- An entry of the gated output, from its factor, the gated input's column and the three taps. -/
def entry (b : EReal) (g : Fin 4096 → EReal) (w2 w1 w0 : EReal) (t : Fin 4096) : EReal :=
  b * (w2 * g t + w1 * down 1 g t + w0 * down 2 g t)

theorem pay_at (b c u : Vec Ideal S1x4096x128 .f32) (w : Vec Ideal S1x8x128 .f32) (t : Fin 4096) (d : Fin 128) :
    k0_pay1 (F := Ideal) c u w b (ix2 t d)
      = entry (b (ix3 0 t d)) (fun s => c (ix3 0 s d) * u (ix3 0 s d)) (w (ix3 0 2 d)) (w (ix3 0 1 d)) (w (ix3 0 0 d)) t := by
  pointwise [k0_pay1]
  rw [entry, mul_down, mul_down]
  exact congrArg (HMul.hMul (α := EReal) (β := EReal) (γ := EReal) _) (congrArg₂ (· + ·)
    (congrArg (_ + ·) (down_word 1 (by omega) (fun s => w (ix3 0 1 d) * (c (ix3 0 s d) * u (ix3 0 s d))) t _ (by simp)))
    (down_word 2 (by omega) (fun s => w (ix3 0 0 d) * (c (ix3 0 s d) * u (ix3 0 s d))) t _ (by simp)))

/-- The same on two columns that agree with the arrays' columns. -/
theorem pay_of (b c u : Vec Ideal S1x4096x128 .f32) (w : Vec Ideal S1x8x128 .f32) (t : Fin 4096) (d : Fin 128) (b' : EReal) (g : Fin 4096 → EReal)
    (w2 w1 w0 : EReal) (hb : b (ix3 0 t d) = b') (hg : ∀ s, c (ix3 0 s d) * u (ix3 0 s d) = g s) (h2 : w (ix3 0 2 d) = w2) (h1 : w (ix3 0 1 d) = w1)
    (h0 : w (ix3 0 0 d) = w0) : k0_pay1 (F := Ideal) c u w b (ix2 t d) = entry b' g w2 w1 w0 t := by
  rw [pay_at, hb, h2, h1, h0, funext hg]

section Reference

open Cert.ConvfwdRefIdeal.Read

variable (X0 : Vec Ideal Cert.ConvfwdRefIdeal.S3x4096x2048 .f32) (X1 : Vec Ideal Cert.ConvfwdRefIdeal.S3x2048 .f32)

/-- The gated input of column `d`. -/
def gcol (d : Fin 2048) (t : Fin 4096) : EReal := X0 (ix3 1 t d) * X0 (ix3 2 t d)

theorem v8_at (k : Fin 4098) (t : Fin 4096) (n : ℕ) (hn : n ≤ 2) (hk : (k : ℕ) = t + (2 - n)) (d : Fin 2048) : val_main_v8 (F := Ideal) X0 (ix2 k d) = down n (gcol X0 d) t := by
  pointwise [val_main_v8, val_main_v7, val_main_cst, val_main_v6, val_main_v5, val_main_v4, val_main_v3, val_main_v2]
  unfold down
  by_cases h : (k : ℕ) < 2
  · rw [dif_pos h, dif_neg (by omega)]
  · rw [dif_neg h, dif_pos (by omega)]
    exact congrArg (gcol X0 d) (Fin.ext (by simp only []; omega))

theorem v9_at (t : Fin 4096) (d : Fin 2048) : val_main_v9 (F := Ideal) X0 (ix2 t d) = down 2 (gcol X0 d) t := by
  pointwise [val_main_v9]
  exact v8_at X0 _ t 2 (by omega) (by simp) d

theorem v17_at (t : Fin 4096) (d : Fin 2048) : val_main_v17 (F := Ideal) X0 (ix2 t d) = down 1 (gcol X0 d) t := by
  pointwise [val_main_v17]
  exact v8_at X0 _ t 1 (by omega) (by simp; omega) d

theorem v24_at (t : Fin 4096) (d : Fin 2048) : val_main_v24 (F := Ideal) X0 (ix2 t d) = gcol X0 d t := by
  pointwise [val_main_v24]
  refine (v8_at X0 _ t 0 (by omega) (by simp; omega) d).trans ?_
  simp [down]

theorem v32_at (t : Fin 4096) (d : Fin 2048) : val_main_v32 (F := Ideal) X0 X1 (ix2 t d)
    = entry (X0 (ix3 0 t d)) (gcol X0 d) (X1 (ix2 2 d)) (X1 (ix2 1 d)) (X1 (ix2 0 d)) t := by
  pointwise [val_main_v32, val_main_v31, val_main_v30, val_main_v29, val_main_v28, val_main_v27, val_main_v26, val_main_v25, val_main_v23, val_main_v22,
    val_main_v21, val_main_v20, val_main_v19, val_main_v18, val_main_v16, val_main_v15, val_main_cst_0, val_main_v14, val_main_v13,
    val_main_v12, val_main_v11, val_main_v10, val_main_v1, val_main_v0, v9_at, v17_at, v24_at]
  rw [entry, mul_comm (X1 (ix2 2 d)), mul_comm (X1 (ix2 1 d)), mul_comm (X1 (ix2 0 d)), add_comm (_ + _) (gcol X0 d t * _), add_comm (down 2 _ t * _), add_assoc]

end Reference

/-- The column of the arrays behind column `d` of block `t`. -/
def col (t : Fin cfg0.N) (d : Fin 128) : Fin 2048 := ⟨t.val * 128 + d.val, by have := lt_of_lt_of_eq t.isLt N_0; omega⟩

theorem read0 (c : Dev nD) (t : Fin cfg0.N) (s : Fin 4096) (d : Fin 128) :
    (iblk m c 0 t : Vec Ideal S1x4096x128 .f32) (ix3 0 s d) = (m ((c : Thread nD τ).loc main_arg0) : Vec Ideal S3x4096x2048 .f32) (ix3 0 s (col t d)) := by
  blk_ext [iblk, V, idx t, col]

theorem read1 (c : Dev nD) (t : Fin cfg0.N) (s : Fin 4096) (d : Fin 128) :
    (iblk m c 1 t : Vec Ideal S1x4096x128 .f32) (ix3 0 s d) = (m ((c : Thread nD τ).loc main_arg0) : Vec Ideal S3x4096x2048 .f32) (ix3 1 s (col t d)) := by
  blk_ext [iblk, V, idx t, col]

theorem read2 (c : Dev nD) (t : Fin cfg0.N) (s : Fin 4096) (d : Fin 128) :
    (iblk m c 2 t : Vec Ideal S1x4096x128 .f32) (ix3 0 s d) = (m ((c : Thread nD τ).loc main_arg0) : Vec Ideal S3x4096x2048 .f32) (ix3 2 s (col t d)) := by
  blk_ext [iblk, V, idx t, col]

/-- The taps with rows of zeros below, sixteen rows in four column blocks. -/
def padded (X : Vec Ideal S3x2048 .f32) : Vec Ideal S4x16x512 .f32 :=
  transpose S4x16x512 [1, 0, 2] (shapeCast S16x4x512
    (pad S16x2048 ![0, 0] ![13, 0] ![0, 0] X (sitofp (F := Ideal) .f32 (constantI S_ 32 0#32)) pads_S3x2048_S16x2048_0130_000 h_S_)
    shapeCasts_S16x2048_S16x4x512) transposes_S16x4x512_S4x16x512_1_0_2

theorem padded_at (X : Vec Ideal S3x2048 .f32) (q : Fin 4) (p : Fin 3) (d : Fin 512) :
    padded X (ix3 q ⟨p.val, by omega⟩ d) = X (ix2 p ⟨q.val * 512 + d.val, by omega⟩) := by
  have hp := p.isLt
  pointwise [padded]
  rw [dif_pos (by omega)]

/-- The host's array of taps. -/
theorem taps (c : Dev nD) : V m c main_v2 = padded (m ((c : Thread nD τ).loc main_arg1) : Vec Ideal S3x2048 .f32) := by
  unfold V padded
  simp only [hostOps0, hostOps0_1, hostOps0_2, List.flatten_cons, List.flatten_nil, List.append_nil, List.cons_append, List.nil_append]
  after_results <;> rfl

/-- The taps' padded array at a block: rows 0, 1, 2 are the taps. -/
theorem read3 (c : Dev nD) (t : Fin cfg0.N) (p : Fin 3) (d : Fin 128) :
    (iblk m c 3 t : Vec Ideal S1x8x128 .f32) (ix3 0 ⟨p, by omega⟩ d) = (m ((c : Thread nD τ).loc main_arg1) : Vec Ideal S3x2048 .f32) (ix2 p (col t d)) := by
  have ht := lt_of_lt_of_eq t.isLt N_0
  blk_simp [iblk]
  rw [taps]
  refine (congrArg (padded _) (show _ = (ix3 ⟨t.val / 4, by omega⟩ ⟨p.val, by omega⟩ ⟨t.val % 4 * 128 + d.val, by omega⟩ : S4x16x512.Idx) by
    blk_ext [idx t])).trans ((padded_at _ _ p _).trans ?_)
  exact congrArg (fun d => (m ((c : Thread nD τ).loc main_arg1) : Vec Ideal S3x2048 .f32) (ix2 p d)) (Fin.ext (by simp only [col]; omega))

/-- The gated output after the run. -/
theorem final4 (c : Dev nD) : (dats m 0 c).arrAt 4 (cfgs 0).N
    = Cert.ConvfwdRefIdeal.Read.val_main_v32 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  idx_vars y
  refine Eq.trans ?_ (congrArg _ (show (ix2 y0 (col t y1) : S4096x2048.Idx) = _ by blk_ext [idx t, col]))
  rw [v32_at]
  exact pay_of _ _ _ _ _ _ _ _ _ _ _ (read0 m c t y0 y1) (fun s => congrArg₂ (· * ·) (read1 m c t s y1) (read2 m c t s y1))
    (read3 m c t 2 y1) (read3 m c t 1 y1) (read3 m c t 0 y1)

end Cert.ConvfwdIdeal.Value
-- ==== Proof.ConvfwdClaim.lean ====
/- The claims about the gated convolution's forward call. -/
module

public import proofs.«01_k».proof.Defs
public import proofs.«01_k».proof.Proof.Gen.Convfwd.Frame
public import proofs.«01_k».proof.Proof.Gen.ConvfwdRefIdeal
public import proofs.«01_k».proof.Proof.Gen.ConvfwdRefIdeal.Run
public import proofs.«01_k».proof.Proof.ConvfwdValue
public import Idealize.ShloMosaic.Lib.Claim

@[expose] public section

noncomputable section

open Idealize.ShloMosaic Idealize.ShloMosaic.TcCoe Idealize.SL.Sem

namespace Cert.Convfwd.Claims

theorem frame_ref : Cert.quiescent_ConvfwdRefIdeal (hConvfwdRefIdeal := Cert.ConvfwdRefIdeal.Gen.facts) := fun m ρ _ =>
  (θ_run Cert.ConvfwdRefIdeal.defs _ _).mono (fun r h => ⟨fun c => (h c).2, sem_eq_zero_of_no_sems (by decide) r.2⟩)
    (Cert.ConvfwdRefIdeal.Value.run (F := Ideal) m ρ)

open Cert.ConvfwdIdeal Cert.ConvfwdRefIdeal.Read in
theorem equal : Cert.algebraic_ConvfwdIdeal_ConvfwdRefIdeal (hConvfwdIdeal := Cert.ConvfwdIdeal.Gen.facts)
    (hConvfwdRefIdeal := Cert.ConvfwdRefIdeal.Gen.facts) := by
  intro m g m' g' _ ha
  refine ⟨fun c => val_main_v32 (F := Ideal) (m ((c.tc : Thread nD τ).loc main_arg0)) (m ((c.tc : Thread nD τ).loc main_arg1)), ?_, ?_⟩
  · exact (θ_run Cert.ConvfwdIdeal.defs _ _).mono (fun r h c => ⟨(h c).1.trans (Cert.ConvfwdIdeal.Value.final4 m c), (h c).2⟩)
      (Cert.ConvfwdIdeal.Value.run_blocks (F := Ideal) m g)
  · refine (θ_run Cert.ConvfwdRefIdeal.defs _ _).mono (fun r h c => ⟨?_, (h c).2⟩)
      (Cert.ConvfwdRefIdeal.Value.run (F := Ideal) m' g')
    all_goals obtain ⟨e0, e1⟩ := ha c
    · refine ((h c).1.trans (val_main_v32_eq _ _)).trans ?_
      rw [e0, e1]

end Cert.Convfwd.Claims
-- ==== Proof.GatefwdValue.lean ====
/- The gate of the feed-forward layer, forward, with the two products in front of it, block by block. -/
module

public import proofs.«01_k».proof.Proof.Gen.GatefwdIdeal.Value
public import proofs.«01_k».proof.Proof.Gen.GatefwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatefwdIdeal.Value

open Cert.GatefwdIdeal Cert.GatefwdIdeal.Gen

variable (m : (ℓ : Loc nD τ sig) → Buf (Elt Ideal) ℓ)

/-- The windows' block indices: row blocks inside each quarter of the columns. -/
theorem idx : ∀ t : Fin cfg0.N, win0_0.index t = ![t.val % 16, 0] ∧ win0_1.index t = ![t.val / 16, 0, 0, 0] ∧ win0_2.index t = ![t.val / 16, 0, 0, 0]
    ∧ win0_3.index t = ![t.val % 16, t.val / 16] ∧ win0_4.index t = ![t.val % 16, t.val / 16] ∧ win0_5.index t = ![t.val % 16, t.val / 16] :=
  (by decide +kernel : ∀ t : Fin grid0.N, _)

/-- A product at an entry. -/
def prod (X : Vec Ideal S4096x2048 .f32) (W : Vec Ideal S2048x5632 .f32) (r : Fin 4096) (k : Fin 5632) : EReal :=
  ∑ j : Fin 2048, X (ix2 r j) * W (ix2 j k)

theorem ref4 (X W r k) : Cert.GatefwdRefIdeal.Read.val_main_v4 (F := Ideal) X W (ix2 r k) = prod X W r k := by
  rw [← Cert.GatefwdRefIdeal.Read.val_main_v4_eq]
  pointwise
  rfl

theorem ref7 (X W r k) : Cert.GatefwdRefIdeal.Read.val_main_v7 (F := Ideal) X W (ix2 r k) = prod X W r k := by
  rw [← Cert.GatefwdRefIdeal.Read.val_main_v7_eq]
  pointwise
  rfl

theorem ref10 (X W U r k) : Cert.GatefwdRefIdeal.Read.val_main_v10 (F := Ideal) X W U (ix2 r k)
    = prod X W r k * Ideal.logistic (prod X W r k) * prod X U r k := by
  rw [← Cert.GatefwdRefIdeal.Read.val_main_v10_eq]
  pointwise
  rfl

/-- The row and the column of the arrays behind an entry of block `t`. -/
def row (t : Fin cfg0.N) (a : Fin 256) : Fin 4096 := ⟨t.val % 16 * 256 + a.val, by omega⟩
def col (t : Fin cfg0.N) (b : Fin 1408) : Fin 5632 := ⟨t.val / 16 * 1408 + b.val, by have := lt_of_lt_of_eq t.isLt N_0; omega⟩

theorem read0 (c : Dev nD) (t : Fin cfg0.N) (a : Fin 256) (j : Fin 2048) : (iblk m c 0 t : Vec Ideal S256x2048 .bf16) (ix2 a j)
    = (m ((c : Thread nD τ).loc main_arg0) : Vec Ideal S4096x2048 .f32) (ix2 (row t a) j) := by
  blk_simp [iblk]
  entry_read
  pointwise
  blk_ext [idx t, row]

theorem read1 (c : Dev nD) (t : Fin cfg0.N) (j : Fin 2048) (b : Fin 1408) : (iblk m c 1 t : Vec Ideal S1x1x2048x1408 .bf16) (ix4 0 0 j b)
    = (m ((c : Thread nD τ).loc main_arg1) : Vec Ideal S2048x5632 .f32) (ix2 j (col t b)) := by
  blk_simp [iblk]
  entry_read
  pointwise
  blk_ext [idx t, col]

theorem read2 (c : Dev nD) (t : Fin cfg0.N) (j : Fin 2048) (b : Fin 1408) : (iblk m c 2 t : Vec Ideal S1x1x2048x1408 .bf16) (ix4 0 0 j b)
    = (m ((c : Thread nD τ).loc main_arg2) : Vec Ideal S2048x5632 .f32) (ix2 j (col t b)) := by
  blk_simp [iblk]
  entry_read
  pointwise
  blk_ext [idx t, col]

theorem pay1_at (c : Dev nD) (t : Fin cfg0.N) (a : Fin 256) (b : Fin 1408) : k0_pay1 (F := Ideal) (iblk m c 0 t) (iblk m c 1 t) (ix2 a b)
    = prod (m ((c : Thread nD τ).loc main_arg0)) (m ((c : Thread nD τ).loc main_arg1)) (row t a) (col t b) := by
  pointwise [k0_pay1]
  exact Finset.sum_congr rfl fun j _ => congrArg₂ (· * ·) (read0 m c t a j) (read1 m c t j b)

theorem pay2_at (c : Dev nD) (t : Fin cfg0.N) (a : Fin 256) (b : Fin 1408) : k0_pay2 (F := Ideal) (iblk m c 0 t) (iblk m c 2 t) (ix2 a b)
    = prod (m ((c : Thread nD τ).loc main_arg0)) (m ((c : Thread nD τ).loc main_arg2)) (row t a) (col t b) := by
  pointwise [k0_pay2]
  exact Finset.sum_congr rfl fun j _ => congrArg₂ (· * ·) (read0 m c t a j) (read2 m c t j b)

/-- The two products and the gated product after the run. -/
theorem final3 (c : Dev nD) : (dats m 0 c).arrAt 3 (cfgs 0).N
    = Cert.GatefwdRefIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  idx_vars y
  refine Eq.trans ?_ (congrArg _ (show (ix2 (row t y0) (col t y1) : S4096x5632.Idx) = _ by blk_ext [idx t, row, col]))
  rw [ref4]
  exact pay1_at m c t y0 y1

theorem final4 (c : Dev nD) : (dats m 0 c).arrAt 4 (cfgs 0).N
    = Cert.GatefwdRefIdeal.Read.val_main_v7 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  frame_out
  idx_vars y
  refine Eq.trans ?_ (congrArg _ (show (ix2 (row t y0) (col t y1) : S4096x5632.Idx) = _ by blk_ext [idx t, row, col]))
  rw [ref7]
  exact pay2_at m c t y0 y1

theorem final5 (c : Dev nD) : (dats m 0 c).arrAt 5 (cfgs 0).N
    = Cert.GatefwdRefIdeal.Read.val_main_v10 (F := Ideal) (m ((c : Thread nD τ).loc main_arg0)) (m ((c : Thread nD τ).loc main_arg1))
      (m ((c : Thread nD τ).loc main_arg2)) := by
  refine (dats m 0 c).arrAt_eq_of_covers 5 _ (by decide +kernel) fun t _ y => ?_
  blk_simp
  rw [after0_5]
  frame_out
  idx_vars y
  refine Eq.trans ?_ (congrArg _ (show (ix2 (row t y0) (col t y1) : S4096x5632.Idx) = _ by blk_ext [idx t, row, col]))
  rw [ref10]
  pointwise [k0_pay3, pay1_at, pay2_at]

end Cert.GatefwdIdeal.Value
-- ==== Proof.GatefwdClaim.lean ====
/- The claims about the gate of the feed-forward layer, forward. -/
module

public import proofs.«01_k».proof.Defs
public import proofs.«01_k».proof.Proof.Gen.Gatefwd.Frame
public import proofs.«01_k».proof.Proof.Gen.GatefwdRefIdeal
public import proofs.«01_k».proof.Proof.Gen.GatefwdRefIdeal.Run
public import proofs.«01_k».proof.Proof.GatefwdValue
public import Idealize.ShloMosaic.Lib.Claim

@[expose] public section

noncomputable section

open Idealize.ShloMosaic Idealize.ShloMosaic.TcCoe Idealize.SL.Sem

namespace Cert.Gatefwd.Claims

theorem frame_ref : Cert.quiescent_GatefwdRefIdeal (hGatefwdRefIdeal := Cert.GatefwdRefIdeal.Gen.facts) := fun m ρ _ =>
  (θ_run Cert.GatefwdRefIdeal.defs _ _).mono (fun r h => ⟨fun c => (h c).2.2.2, sem_eq_zero_of_no_sems (by decide) r.2⟩)
    (Cert.GatefwdRefIdeal.Value.run (F := Ideal) m ρ)

open Cert.GatefwdIdeal Cert.GatefwdRefIdeal.Read in
theorem equal : Cert.algebraic_GatefwdIdeal_GatefwdRefIdeal (hGatefwdIdeal := Cert.GatefwdIdeal.Gen.facts)
    (hGatefwdRefIdeal := Cert.GatefwdRefIdeal.Gen.facts) := by
  intro m g m' g' _ ha
  refine ⟨fun c => val_main_v4 (F := Ideal) (m ((c.tc : Thread nD τ).loc main_arg0)) (m ((c.tc : Thread nD τ).loc main_arg1)),
    fun c => val_main_v7 (F := Ideal) (m ((c.tc : Thread nD τ).loc main_arg0)) (m ((c.tc : Thread nD τ).loc main_arg2)),
    fun c => val_main_v10 (F := Ideal) (m ((c.tc : Thread nD τ).loc main_arg0)) (m ((c.tc : Thread nD τ).loc main_arg1)) (m ((c.tc : Thread nD τ).loc main_arg2)), ?_, ?_⟩
  · exact (θ_run Cert.GatefwdIdeal.defs _ _).mono (fun r h c => ⟨(h c).1.trans (Cert.GatefwdIdeal.Value.final3 m c), (h c).2.1.trans (Cert.GatefwdIdeal.Value.final4 m c), (h c).2.2.1.trans (Cert.GatefwdIdeal.Value.final5 m c), (h c).2.2.2⟩)
      (Cert.GatefwdIdeal.Value.run_blocks (F := Ideal) m g)
  · refine (θ_run Cert.GatefwdRefIdeal.defs _ _).mono (fun r h c => ⟨?_, ?_, ?_, (h c).2.2.2⟩)
      (Cert.GatefwdRefIdeal.Value.run (F := Ideal) m' g')
    all_goals obtain ⟨e0, e1, e2⟩ := ha c
    · refine ((h c).1.trans (val_main_v4_eq _ _)).trans ?_
      rw [e0, e1]
    · refine ((h c).2.1.trans (val_main_v7_eq _ _)).trans ?_
      rw [e0, e2]
    · refine ((h c).2.2.1.trans (val_main_v10_eq _ _ _)).trans ?_
      rw [e0, e1, e2]

end Cert.Gatefwd.Claims
-- ==== Proof.PoolmixValue.lean ====
/- The pooling layer's product, forward, with the channel scale and the layer's input behind it: four steps add into
   a scratch block, the fourth writes the block. -/
module

public import proofs.«01_k».proof.Proof.Gen.PoolmixIdeal.Value
public import proofs.«01_k».proof.Proof.Gen.PoolmixRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolmixIdeal.Value

open Cert.PoolmixIdeal Cert.PoolmixIdeal.Gen

variable (m : (ℓ : Loc nD τ sig) → Buf (Elt Ideal) ℓ)

/-- The windows' block indices: the channel group, the row block and the step are the digits of the point's number. -/
theorem idx : ∀ t : Fin cfg0.N, win0_0.index t = ![t.val / 4 % 8, t.val / 32 * 4 + t.val % 4] ∧ win0_1.index t = ![t.val % 4, 0, t.val / 32, 0]
    ∧ win0_2.index t = ![t.val / 4 % 8, t.val / 32] ∧ win0_3.index t = ![0, t.val / 32] ∧ win0_4.index t = ![t.val / 4 % 8, t.val / 32]
    ∧ win0_5.index t = ![t.val / 4 % 8, t.val / 32] :=
  (by decide +kernel : ∀ t : Fin grid0.N, _)

/-- The row, the group and the channel of the arrays behind an entry of block `t`. -/
def row (t : Fin cfg0.N) (a : Fin 512) : Fin 4096 := ⟨t.val / 4 % 8 * 512 + a.val, by omega⟩
def grp (t : Fin cfg0.N) : Fin 4 := ⟨t.val / 32, by have := lt_of_lt_of_eq t.isLt N_0; omega⟩
def chan (g : Fin 4) (b : Fin 512) : Fin 2048 := ⟨g.val * 512 + b.val, by omega⟩

/-- The product at an entry of a group. -/
def prod (X : Vec Ideal S4096x2048 .f32) (W : Vec Ideal S4x512x512 .f32) (r : Fin 4096) (g : Fin 4) (b : Fin 512) : EReal :=
  ∑ j : Fin 512, X (ix2 r (chan g j)) * W (ix3 g j b)

theorem ref7 (X W r g b) : Cert.PoolmixRefIdeal.Read.val_main_v7 (F := Ideal) X W (ix2 r (chan g b)) = prod X W r g b := by
  pointwise [Cert.PoolmixRefIdeal.Read.val_main_v0, Cert.PoolmixRefIdeal.Read.val_main_v1, Cert.PoolmixRefIdeal.Read.val_main_v2, Cert.PoolmixRefIdeal.Read.val_main_v3, Cert.PoolmixRefIdeal.Read.val_main_v4, Cert.PoolmixRefIdeal.Read.val_main_v5, Cert.PoolmixRefIdeal.Read.val_main_v6, Cert.PoolmixRefIdeal.Read.val_main_v7]
  refine Fin.sum_fin_congr fun k => (mul_comm _ _).trans (congrArg₂ (· * ·) (congrArg X ?_) (congrArg W ?_)) <;> blk_ext [chan]

theorem ref10 (Z X W S r g b) : Cert.PoolmixRefIdeal.Read.val_main_v10 (F := Ideal) Z X W S (ix2 r (chan g b))
    = Z (ix2 r (chan g b)) + prod X W r g b * S (ix2 0 (chan g b)) := by
  rw [← ref7]
  pointwise [Cert.PoolmixRefIdeal.Read.val_main_v8, Cert.PoolmixRefIdeal.Read.val_main_v9, Cert.PoolmixRefIdeal.Read.val_main_v10]

theorem ref11 (X W r g b) : Cert.PoolmixRefIdeal.Read.val_main_v11 (F := Ideal) X W (ix2 r (chan g b)) = prod X W r g b :=
  ref7 X W r g b

theorem pay1_at (P : Vec Ideal S512x128 .bf16) (Q : Vec Ideal S1x1x128x512 .bf16) (j) :
    k0_pay1 (F := Ideal) P Q j = ∑ k : Fin 128, P (ix2 (j 0) k) * Q (ix4 0 0 k (j 1)) := by
  pointwise [k0_pay1]

theorem pay2_at (P : Vec Ideal S512x128 .bf16) (Q : Vec Ideal S1x1x128x512 .bf16) (acc : Vec Ideal S512x512 .f32) (j) :
    k0_pay2 (F := Ideal) P Q acc j = acc j + ∑ k : Fin 128, P (ix2 (j 0) k) * Q (ix4 0 0 k (j 1)) := by
  pointwise [k0_pay2]

/-- Reading the whole scratch back gives what was left in it. -/
theorem kept (X : cc0_scratch0.ty.Contents (Elt Ideal)) : (View.whole cc0_scratch0).read (Elt Ideal) ((Memref.isWhole_whole cc0_scratch0).unread X) = X :=
  (Memref.isWhole_whole cc0_scratch0).read_unread X

/-- What the scratch block holds after a block's last step. -/
theorem held (c : Dev nD) (t : Fin cfg0.N) (h3 : t.val % 4 = 3) (a b : Fin 512) : (outsAt0 m c t.val t.isLt).2.2 (ix2 a b)
    = prod (m ((c : Thread nD τ).loc main_arg1)) (m ((c : Thread nD τ).loc main_arg2)) (row t a) (grp t) b := by
  rw [Pipeline.eq_sum_fin_of_reset_step_apply_of_flush (fun n h => (outsAt0 m c n h).2.2) 4 (fun _ => 0) _
    (fun t h j => by
      rw [outsAt0_A m c t h (by omega) (by omega)]; frame_out; rw [pay1_at, ← zero_add (Finset.sum _ _)])
    (fun t h j => by
      by_cases h2 : t.val % 4 = 3
      · rw [outsAt0_C m c t h (by omega) h2]; frame_out; rw [pay2_at]; exact congrArg (· + _) (congrFun (kept _) j)
      · rw [outsAt0_B m c t h (by omega) h2]; frame_out; rw [pay2_at]; exact congrArg (· + _) (congrFun (kept _) j)) t h3 _, zero_add]
  refine Fin.sum_mul_add_congr fun s k hl => congrArg₂ (· * ·) ?_ ?_
  all_goals
    blk_simp [iblk]
    entry_read
    pointwise
    blk_ext [idx ⟨_, Pipeline.run_point_lt_of_flush t h3 s⟩, row, grp, chan]

/-- The two results' blocks at that step are functions of it. -/
theorem ends (c : Dev nD) (t : Fin cfg0.N) (h3 : t.val % 4 = 3) :
    (outsAt0 m c t.val t.isLt).1 = k0_pay3 (F := Ideal) (outsAt0 m c t.val t.isLt).2.2 (iblk m c 2 t) (iblk m c 3 t)
    ∧ (outsAt0 m c t.val t.isLt).2.1 = k0_pay4 (F := Ideal) (outsAt0 m c t.val t.isLt).2.2 := by
  rw [outsAt0_C m c t (by omega) (by omega) h3]
  constructor <;> frame_out

theorem value4 (c : Dev nD) : (dats m 0 c).arrAt 4 (cfgs 0).N
    = Cert.PoolmixRefIdeal.Read.val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h3 := (flush0_4 t).mp hf
  blk_simp
  rw [after0_4, (ends m c t h3).1]
  idx_vars y
  refine Eq.trans ?_ (congrArg _ (show (ix2 (row t y0) (chan (grp t) y1) : S4096x2048.Idx) = _ by blk_ext [idx t, row, chan, grp]))
  rw [ref10, ← held m c t h3]
  pointwise [k0_pay3]
  refine congrArg₂ (· + ·) ?_ (congrArg₂ (· * ·) rfl ?_) <;> blk_ext [iblk, V, idx t, row, chan, grp]

theorem value5 (c : Dev nD) : (dats m 0 c).arrAt 5 (cfgs 0).N
    = Cert.PoolmixRefIdeal.Read.val_main_v11 (F := Ideal) (m ((c : Thread nD τ).loc main_arg1)) (m ((c : Thread nD τ).loc main_arg2)) := by
  refine (dats m 0 c).arrAt_eq_of_covers 5 _ (by decide +kernel) fun t hf y => ?_
  have h3 := (flush0_5 t).mp hf
  blk_simp
  rw [after0_5, (ends m c t h3).2]
  idx_vars y
  refine Eq.trans ?_ (congrArg _ (show (ix2 (row t y0) (chan (grp t) y1) : S4096x2048.Idx) = _ by blk_ext [idx t, row, chan, grp]))
  rw [ref11, ← held m c t h3]
  pointwise [k0_pay4]

end Cert.PoolmixIdeal.Value
-- ==== Proof.PoolmixClaim.lean ====
/- The claims about the pooling layer's product, forward. -/
module

public import proofs.«01_k».proof.Defs
public import proofs.«01_k».proof.Proof.Gen.Poolmix.Frame
public import proofs.«01_k».proof.Proof.Gen.PoolmixRefIdeal
public import proofs.«01_k».proof.Proof.Gen.PoolmixRefIdeal.Run
public import proofs.«01_k».proof.Proof.PoolmixValue
public import Idealize.ShloMosaic.Lib.Claim

@[expose] public section

noncomputable section

open Idealize.ShloMosaic Idealize.ShloMosaic.TcCoe Idealize.SL.Sem

namespace Cert.Poolmix.Claims

theorem frame_ref : Cert.quiescent_PoolmixRefIdeal (hPoolmixRefIdeal := Cert.PoolmixRefIdeal.Gen.facts) := fun m ρ _ =>
  (θ_run Cert.PoolmixRefIdeal.defs _ _).mono (fun r h => ⟨fun c => (h c).2.2, sem_eq_zero_of_no_sems (by decide) r.2⟩)
    (Cert.PoolmixRefIdeal.Value.run (F := Ideal) m ρ)

open Cert.PoolmixIdeal Cert.PoolmixRefIdeal.Read in
theorem equal : Cert.algebraic_PoolmixIdeal_PoolmixRefIdeal (hPoolmixIdeal := Cert.PoolmixIdeal.Gen.facts)
    (hPoolmixRefIdeal := Cert.PoolmixRefIdeal.Gen.facts) := by
  intro m g m' g' _ ha
  refine ⟨fun c => val_main_v10 (F := Ideal) (m ((c.tc : Thread nD τ).loc main_arg0)) (m ((c.tc : Thread nD τ).loc main_arg1)) (m ((c.tc : Thread nD τ).loc main_arg2)) (m ((c.tc : Thread nD τ).loc main_arg3)),
    fun c => val_main_v11 (F := Ideal) (m ((c.tc : Thread nD τ).loc main_arg1)) (m ((c.tc : Thread nD τ).loc main_arg2)), ?_, ?_⟩
  · exact (θ_run Cert.PoolmixIdeal.defs _ _).mono (fun r h c => ⟨(h c).1.trans (Cert.PoolmixIdeal.Value.value4 m c), (h c).2.1.trans (Cert.PoolmixIdeal.Value.value5 m c), (h c).2.2⟩)
      (Cert.PoolmixIdeal.Value.run_blocks (F := Ideal) m g)
  · refine (θ_run Cert.PoolmixRefIdeal.defs _ _).mono (fun r h c => ⟨?_, ?_, (h c).2.2⟩)
      (Cert.PoolmixRefIdeal.Value.run (F := Ideal) m' g')
    all_goals obtain ⟨e0, e1, e2, e3⟩ := ha c
    · refine ((h c).1.trans (val_main_v10_eq _ _ _ _)).trans ?_
      rw [e0, e1, e2, e3]
    · refine ((h c).2.1.trans (val_main_v11_eq _ _)).trans ?_
      rw [e1, e2]

end Cert.Poolmix.Claims
-- ==== Proof.Quarters.lean ====
/- A sum over the feed-forward width, as the sum of its four quarters. -/
module

public import Idealize.ShloMosaic.Lib.Pipeline.ValueKit

@[expose] public section

noncomputable section

open Idealize.ShloMosaic

namespace Cert

/-- Position `k` of quarter `q`. -/
def quarter (q : Fin 4) (k : Fin 1408) : Fin 5632 := ⟨q.val * 1408 + k.val, by omega⟩

theorem sum_quarters (f : Fin 5632 → EReal) : ∑ l, f l
    = ∑ k, f (quarter 0 k) + ∑ k, f (quarter 1 k) + ∑ k, f (quarter 2 k) + ∑ k, f (quarter 3 k) := by
  rw [← Fin.sum_mul_add_fin 4 1408 f, Fin.sum_univ_four]
  rfl

end Cert
-- ==== Proof.DownfwdValue.lean ====
/- The feed-forward layer's second product with the layer's input, forward: four partial products per block. -/
module

public import proofs.«01_k».proof.Proof.Gen.DownfwdIdeal.Value
public import proofs.«01_k».proof.Proof.Gen.DownfwdRefIdeal.Read
public import Idealize.ShloMosaic.Lib.Pipeline.ValueKit
public import Idealize.ShloMosaic.Lib.Pointwise
public import Idealize.ShloMosaic.Lib.Claim
public import proofs.«01_k».proof.Proof.Quarters

@[expose] public section

set_option maxRecDepth 16384

noncomputable section

open Idealize.ShloMosaic Idealize.ShloMosaic.TcCoe Idealize.SL.Sem
open Idealize.ShloMosaic.Pipeline (Dat)

namespace Cert.DownfwdIdeal.Value

open Cert.DownfwdIdeal Cert.DownfwdIdeal.Gen

variable (m : (ℓ : Loc nD τ sig) → Buf (Elt Ideal) ℓ)

/-- The windows' block indices: each quarter of the contraction has its own window of each operand. -/
theorem idx : ∀ t : Fin cfg0.N, win0_0.index t = ![t.val % 16, 0] ∧ win0_1.index t = ![t.val % 16, 1] ∧ win0_2.index t = ![t.val % 16, 2]
    ∧ win0_3.index t = ![t.val % 16, 3] ∧ win0_4.index t = ![0, 0, 0, t.val / 16] ∧ win0_5.index t = ![1, 0, 0, t.val / 16]
    ∧ win0_6.index t = ![2, 0, 0, t.val / 16] ∧ win0_7.index t = ![3, 0, 0, t.val / 16] ∧ win0_8.index t = ![t.val % 16, t.val / 16]
    ∧ win0_9.index t = ![t.val % 16, t.val / 16] :=
  (by decide +kernel : ∀ t : Fin grid0.N, _)

/-- The row and the column of the arrays behind an entry of block `t`. -/
def row (t : Fin cfg0.N) (a : Fin 256) : Fin 4096 := ⟨t.val % 16 * 256 + a.val, by omega⟩
def col (t : Fin cfg0.N) (b : Fin 1024) : Fin 2048 := ⟨t.val / 16 * 1024 + b.val, by have := lt_of_lt_of_eq t.isLt N_0; omega⟩

theorem ref5 (X W Z r k) : Cert.DownfwdRefIdeal.Read.val_main_v5 (F := Ideal) X W Z (ix2 r k) = Z (ix2 r k) + ∑ j : Fin 5632, X (ix2 r j) * W (ix2 j k) := by
  rw [← Cert.DownfwdRefIdeal.Read.val_main_v5_eq]
  pointwise

/-- One partial product at an entry. -/
def part (P : Vec Ideal S256x1408 .bf16) (Q : Vec Ideal S1x1x1408x1024 .bf16) (a : Fin 256) (b : Fin 1024) : EReal :=
  ∑ k : Fin 1408, P (ix2 a k) * Q (ix4 0 0 k b)

theorem pay1_at (P0 Q0 P1 Q1 P2 Q2 P3 Q3 Z a b) : k0_pay1 (F := Ideal) P0 Q0 P1 Q1 P2 Q2 P3 Q3 Z (ix2 a b)
    = part P0 Q0 a b + part P1 Q1 a b + part P2 Q2 a b + part P3 Q3 a b + Z (ix2 a b) := by
  pointwise [k0_pay1]
  rfl

theorem readA (c : Dev nD) (t : Fin cfg0.N) (a : Fin 256) (k : Fin 1408) :
    (iblk m c 0 t : Vec Ideal S256x1408 .bf16) (ix2 a k) = (m ((c : Thread nD τ).loc main_arg0) : Vec Ideal S4096x5632 .f32) (ix2 (row t a) (quarter 0 k))
    ∧ (iblk m c 1 t : Vec Ideal S256x1408 .bf16) (ix2 a k) = (m ((c : Thread nD τ).loc main_arg0) : Vec Ideal S4096x5632 .f32) (ix2 (row t a) (quarter 1 k))
    ∧ (iblk m c 2 t : Vec Ideal S256x1408 .bf16) (ix2 a k) = (m ((c : Thread nD τ).loc main_arg0) : Vec Ideal S4096x5632 .f32) (ix2 (row t a) (quarter 2 k))
    ∧ (iblk m c 3 t : Vec Ideal S256x1408 .bf16) (ix2 a k) = (m ((c : Thread nD τ).loc main_arg0) : Vec Ideal S4096x5632 .f32) (ix2 (row t a) (quarter 3 k)) := by
  refine ⟨?_, ?_, ?_, ?_⟩
  all_goals
    blk_simp [iblk]
    entry_read
    pointwise
    blk_ext [idx t, row, quarter]

theorem readB (c : Dev nD) (t : Fin cfg0.N) (k : Fin 1408) (b : Fin 1024) :
    (iblk m c 4 t : Vec Ideal S1x1x1408x1024 .bf16) (ix4 0 0 k b) = (m ((c : Thread nD τ).loc main_arg1) : Vec Ideal S5632x2048 .f32) (ix2 (quarter 0 k) (col t b))
    ∧ (iblk m c 5 t : Vec Ideal S1x1x1408x1024 .bf16) (ix4 0 0 k b) = (m ((c : Thread nD τ).loc main_arg1) : Vec Ideal S5632x2048 .f32) (ix2 (quarter 1 k) (col t b))
    ∧ (iblk m c 6 t : Vec Ideal S1x1x1408x1024 .bf16) (ix4 0 0 k b) = (m ((c : Thread nD τ).loc main_arg1) : Vec Ideal S5632x2048 .f32) (ix2 (quarter 2 k) (col t b))
    ∧ (iblk m c 7 t : Vec Ideal S1x1x1408x1024 .bf16) (ix4 0 0 k b) = (m ((c : Thread nD τ).loc main_arg1) : Vec Ideal S5632x2048 .f32) (ix2 (quarter 3 k) (col t b)) := by
  refine ⟨?_, ?_, ?_, ?_⟩
  all_goals
    blk_simp [iblk]
    entry_read
    pointwise
    blk_ext [idx t, col, quarter]

theorem value9 (c : Dev nD) : (dats m 0 c).arrAt 9 (cfgs 0).N
    = Cert.DownfwdRefIdeal.Read.val_main_v5 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  idx_vars y
  refine Eq.trans ?_ (congrArg _ (show (ix2 (row t y0) (col t y1) : S4096x2048.Idx) = _ by blk_ext [idx t, row, col]))
  refine (pay1_at _ _ _ _ _ _ _ _ _ _ _).trans ?_
  rw [ref5, add_comm, sum_quarters]
  refine congrArg₂ (· + ·) (by blk_ext [iblk, V, idx t, row, col]) ?_
  have ea := fun k => readA m c t y0 k
  have eb := fun k => readB m c t k y1
  refine congrArg₂ (· + ·) (congrArg₂ (· + ·) (congrArg₂ (· + ·) ?_ ?_) ?_) ?_
  · exact Fin.sum_fin_congr fun k => congrArg₂ (· * ·) (ea k).1 (eb k).1
  · exact Fin.sum_fin_congr fun k => congrArg₂ (· * ·) (ea k).2.1 (eb k).2.1
  · exact Fin.sum_fin_congr fun k => congrArg₂ (· * ·) (ea k).2.2.1 (eb k).2.2.1
  · exact Fin.sum_fin_congr fun k => congrArg₂ (· * ·) (ea k).2.2.2 (eb k).2.2.2

end Cert.DownfwdIdeal.Value
-- ==== Proof.DownfwdClaim.lean ====
/- The claims about the feed-forward layer's second product, forward. -/
module

public import proofs.«01_k».proof.Defs
public import proofs.«01_k».proof.Proof.Gen.Downfwd.Frame
public import proofs.«01_k».proof.Proof.Gen.DownfwdRefIdeal
public import proofs.«01_k».proof.Proof.Gen.DownfwdRefIdeal.Run
public import proofs.«01_k».proof.Proof.DownfwdValue
public import Idealize.ShloMosaic.Lib.Claim

@[expose] public section

noncomputable section

open Idealize.ShloMosaic Idealize.ShloMosaic.TcCoe Idealize.SL.Sem

namespace Cert.Downfwd.Claims

theorem frame_ref : Cert.quiescent_DownfwdRefIdeal (hDownfwdRefIdeal := Cert.DownfwdRefIdeal.Gen.facts) := fun m ρ _ =>
  (θ_run Cert.DownfwdRefIdeal.defs _ _).mono (fun r h => ⟨fun c => (h c).2, sem_eq_zero_of_no_sems (by decide) r.2⟩)
    (Cert.DownfwdRefIdeal.Value.run (F := Ideal) m ρ)

open Cert.DownfwdIdeal Cert.DownfwdRefIdeal.Read in
theorem equal : Cert.algebraic_DownfwdIdeal_DownfwdRefIdeal (hDownfwdIdeal := Cert.DownfwdIdeal.Gen.facts)
    (hDownfwdRefIdeal := Cert.DownfwdRefIdeal.Gen.facts) := by
  intro m g m' g' _ ha
  refine ⟨fun c => val_main_v5 (F := Ideal) (m ((c.tc : Thread nD τ).loc main_arg0)) (m ((c.tc : Thread nD τ).loc main_arg1)) (m ((c.tc : Thread nD τ).loc main_arg2)), ?_, ?_⟩
  · exact (θ_run Cert.DownfwdIdeal.defs _ _).mono (fun r h c => ⟨(h c).1.trans (Cert.DownfwdIdeal.Value.value9 m c), (h c).2⟩)
      (Cert.DownfwdIdeal.Value.run_blocks (F := Ideal) m g)
  · refine (θ_run Cert.DownfwdRefIdeal.defs _ _).mono (fun r h c => ⟨?_, (h c).2⟩)
      (Cert.DownfwdRefIdeal.Value.run (F := Ideal) m' g')
    all_goals obtain ⟨e0, e1, e2⟩ := ha c
    · refine ((h c).1.trans (val_main_v5_eq _ _ _)).trans ?_
      rw [e0, e1, e2]

end Cert.Downfwd.Claims
-- ==== Proof.DownwtValue.lean ====
/- The weight gradient of the feed-forward layer's second product: eight steps add into a scratch block, the eighth
   writes the block. -/
module

public import proofs.«01_k».proof.Proof.Gen.DownwtIdeal.Value
public import proofs.«01_k».proof.Proof.Gen.DownwtRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownwtIdeal.Value

open Cert.DownwtIdeal Cert.DownwtIdeal.Gen

variable (m : (ℓ : Loc nD τ sig) → Buf (Elt Ideal) ℓ)

theorem idx : ∀ t : Fin cfg0.N, win0_0.index t = ![t.val % 8, t.val / 16] ∧ win0_1.index t = ![t.val % 8, t.val / 8 % 2]
    ∧ win0_2.index t = ![t.val / 16, 0, t.val / 8 % 2] :=
  (by decide +kernel : ∀ t : Fin grid0.N, _)

/-- The shard, its row and the column of the arrays behind an entry of block `t`. -/
def shard (t : Fin cfg0.N) : Fin 4 := ⟨t.val / 16, by have := lt_of_lt_of_eq t.isLt N_0; omega⟩
def row (s : Fin 4) (a : Fin 1408) : Fin 5632 := ⟨s.val * 1408 + a.val, by omega⟩
def col (t : Fin cfg0.N) (b : Fin 1024) : Fin 2048 := ⟨t.val / 8 % 2 * 1024 + b.val, by omega⟩

/-- The product at an entry. -/
def prod (X : Vec Ideal S4096x5632 .f32) (Y : Vec Ideal S4096x2048 .f32) (r : Fin 5632) (k : Fin 2048) : EReal :=
  ∑ j : Fin 4096, X (ix2 j r) * Y (ix2 j k)

theorem ref7 (X Y s a k) : Cert.DownwtRefIdeal.Read.val_main_v7 (F := Ideal) X Y (ix3 s a k) = prod X Y (row s a) k := by
  rw [← Cert.DownwtRefIdeal.Read.val_main_v7_eq]
  pointwise
  refine Fin.sum_fin_congr fun j => congrArg₂ (· * ·) (congrArg X ?_) rfl
  blk_ext [row]

theorem pay1_at (P : Vec Ideal S512x1408 .bf16) (Q : Vec Ideal S512x1024 .bf16) (j) :
    k0_pay1 (F := Ideal) P Q j = ∑ k : Fin 512, P (ix2 k (j 0)) * Q (ix2 k (j 1)) := by
  pointwise [k0_pay1]

theorem pay2_at (P : Vec Ideal S512x1408 .bf16) (Q : Vec Ideal S512x1024 .bf16) (acc : Vec Ideal S1408x1024 .f32) (j) :
    k0_pay2 (F := Ideal) P Q acc j = acc j + ∑ k : Fin 512, P (ix2 k (j 0)) * Q (ix2 k (j 1)) := by
  pointwise [k0_pay2]

/-- Reading the whole scratch back gives what was left in it. -/
theorem kept (X : cc0_scratch0.ty.Contents (Elt Ideal)) : (View.whole cc0_scratch0).read (Elt Ideal) ((Memref.isWhole_whole cc0_scratch0).unread X) = X :=
  (Memref.isWhole_whole cc0_scratch0).read_unread X

/-- What the scratch block holds after a block's last step. -/
theorem held (c : Dev nD) (t : Fin cfg0.N) (h7 : t.val % 8 = 7) (a : Fin 1408) (b : Fin 1024) : (outsAt0 m c t.val t.isLt).2 (ix2 a b)
    = prod (m ((c : Thread nD τ).loc main_arg0)) (m ((c : Thread nD τ).loc main_arg1)) (row (shard t) a) (col t b) := by
  rw [Pipeline.eq_sum_fin_of_reset_step_apply_of_flush (fun n h => (outsAt0 m c n h).2) 8 (fun _ => 0) _
    (fun t h j => by
      rw [outsAt0_A m c t h (by omega) (by omega)]; frame_out; rw [pay1_at, ← zero_add (Finset.sum _ _)])
    (fun t h j => by
      by_cases h2 : t.val % 8 = 7
      · rw [outsAt0_C m c t h (by omega) h2]; frame_out; rw [pay2_at]; exact congrArg (· + _) (congrFun (kept _) j)
      · rw [outsAt0_B m c t h (by omega) h2]; frame_out; rw [pay2_at]; exact congrArg (· + _) (congrFun (kept _) j)) t h7 _, zero_add]
  refine Fin.sum_mul_add_congr fun s k hl => congrArg₂ (· * ·) ?_ ?_
  all_goals
    blk_simp [iblk]
    entry_read
    pointwise
    blk_ext [idx ⟨_, Pipeline.run_point_lt_of_flush t h7 s⟩, row, shard, col]

theorem ends (c : Dev nD) (t : Fin cfg0.N) (h7 : t.val % 8 = 7) :
    (outsAt0 m c t.val t.isLt).1 = k0_pay3 (F := Ideal) (outsAt0 m c t.val t.isLt).2 := by
  rw [outsAt0_C m c t (by omega) (by omega) h7]
  frame_out

theorem value2 (c : Dev nD) : (dats m 0 c).arrAt 2 (cfgs 0).N
    = Cert.DownwtRefIdeal.Read.val_main_v7 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, ends m c t h7]
  idx_vars y
  refine Eq.trans ?_ (congrArg _ (show (ix3 (shard t) y1 (col t y2) : S4x1408x2048.Idx) = _ by blk_ext [idx t, shard, col]))
  rw [ref7, ← held m c t h7]
  pointwise [k0_pay3]

end Cert.DownwtIdeal.Value
-- ==== Proof.DownwtClaim.lean ====
/- The claims about the weight gradient of the feed-forward layer's second product. -/
module

public import proofs.«01_k».proof.Defs
public import proofs.«01_k».proof.Proof.Gen.Downwt.Frame
public import proofs.«01_k».proof.Proof.Gen.DownwtRefIdeal
public import proofs.«01_k».proof.Proof.Gen.DownwtRefIdeal.Run
public import proofs.«01_k».proof.Proof.DownwtValue
public import Idealize.ShloMosaic.Lib.Claim

@[expose] public section

noncomputable section

open Idealize.ShloMosaic Idealize.ShloMosaic.TcCoe Idealize.SL.Sem

namespace Cert.Downwt.Claims

theorem frame_ref : Cert.quiescent_DownwtRefIdeal (hDownwtRefIdeal := Cert.DownwtRefIdeal.Gen.facts) := fun m ρ _ =>
  (θ_run Cert.DownwtRefIdeal.defs _ _).mono (fun r h => ⟨fun c => (h c).2, sem_eq_zero_of_no_sems (by decide) r.2⟩)
    (Cert.DownwtRefIdeal.Value.run (F := Ideal) m ρ)

open Cert.DownwtIdeal Cert.DownwtRefIdeal.Read in
theorem equal : Cert.algebraic_DownwtIdeal_DownwtRefIdeal (hDownwtIdeal := Cert.DownwtIdeal.Gen.facts)
    (hDownwtRefIdeal := Cert.DownwtRefIdeal.Gen.facts) := by
  intro m g m' g' _ ha
  refine ⟨fun c => val_main_v7 (F := Ideal) (m ((c.tc : Thread nD τ).loc main_arg0)) (m ((c.tc : Thread nD τ).loc main_arg1)), ?_, ?_⟩
  · exact (θ_run Cert.DownwtIdeal.defs _ _).mono (fun r h c => ⟨(h c).1.trans (Cert.DownwtIdeal.Value.value2 m c), (h c).2⟩)
      (Cert.DownwtIdeal.Value.run_blocks (F := Ideal) m g)
  · refine (θ_run Cert.DownwtRefIdeal.defs _ _).mono (fun r h c => ⟨?_, (h c).2⟩)
      (Cert.DownwtRefIdeal.Value.run (F := Ideal) m' g')
    all_goals obtain ⟨e0, e1⟩ := ha c
    · refine ((h c).1.trans (val_main_v7_eq _ _)).trans ?_
      rw [e0, e1]

end Cert.Downwt.Claims
-- ==== Proof.FfndataValue.lean ====
/- The data gradient of the feed-forward layer's first two products: eight partial products per block. -/
module

public import proofs.«01_k».proof.Proof.Gen.FfndataIdeal.Value
public import proofs.«01_k».proof.Proof.Gen.FfndataRefIdeal.Read
public import Idealize.ShloMosaic.Lib.Pipeline.ValueKit
public import Idealize.ShloMosaic.Lib.Pointwise
public import Idealize.ShloMosaic.Lib.Claim
public import proofs.«01_k».proof.Proof.Quarters

@[expose] public section

set_option maxRecDepth 16384

noncomputable section

open Idealize.ShloMosaic Idealize.ShloMosaic.TcCoe Idealize.SL.Sem
open Idealize.ShloMosaic.Pipeline (Dat)

namespace Cert.FfndataIdeal.Value

open Cert.FfndataIdeal Cert.FfndataIdeal.Gen

variable (m : (ℓ : Loc nD τ sig) → Buf (Elt Ideal) ℓ)

/-- The windows' block indices: each quarter of the contraction has its own window of each operand. -/
theorem idx : ∀ t : Fin cfg0.N, win0_0.index t = ![t.val % 16, 0] ∧ win0_1.index t = ![t.val % 16, 1] ∧ win0_2.index t = ![t.val % 16, 2]
    ∧ win0_3.index t = ![t.val % 16, 3] ∧ win0_4.index t = ![t.val % 16, 0] ∧ win0_5.index t = ![t.val % 16, 1]
    ∧ win0_6.index t = ![t.val % 16, 2] ∧ win0_7.index t = ![t.val % 16, 3] ∧ win0_8.index t = ![0, 0, t.val / 16, 0]
    ∧ win0_9.index t = ![1, 0, t.val / 16, 0] ∧ win0_10.index t = ![2, 0, t.val / 16, 0] ∧ win0_11.index t = ![3, 0, t.val / 16, 0]
    ∧ win0_12.index t = ![0, 0, t.val / 16, 0] ∧ win0_13.index t = ![1, 0, t.val / 16, 0] ∧ win0_14.index t = ![2, 0, t.val / 16, 0]
    ∧ win0_15.index t = ![3, 0, t.val / 16, 0] ∧ win0_16.index t = ![t.val % 16, t.val / 16] :=
  (by decide +kernel : ∀ t : Fin grid0.N, _)

/-- The row and the column of the arrays behind an entry of block `t`. -/
def row (t : Fin cfg0.N) (a : Fin 256) : Fin 4096 := ⟨t.val % 16 * 256 + a.val, by omega⟩
def col (t : Fin cfg0.N) (b : Fin 512) : Fin 2048 := ⟨t.val / 16 * 512 + b.val, by have := lt_of_lt_of_eq t.isLt N_0; omega⟩

theorem ref12 (X Y W U r k) : Cert.FfndataRefIdeal.Read.val_main_v12 (F := Ideal) X Y W U (ix2 r k)
    = ∑ j : Fin 5632, X (ix2 r j) * W (ix2 k j) + ∑ j : Fin 5632, Y (ix2 r j) * U (ix2 k j) := by
  rw [← Cert.FfndataRefIdeal.Read.val_main_v12_eq]
  pointwise

/-- One partial product at an entry. -/
def part (P : Vec Ideal S256x1408 .bf16) (Q : Vec Ideal S1x1x512x1408 .bf16) (a : Fin 256) (b : Fin 512) : EReal :=
  ∑ k : Fin 1408, P (ix2 a k) * Q (ix4 0 0 b k)

theorem pay_at (P0 Q0 P1 Q1 P2 Q2 P3 Q3 R0 S0 R1 S1 R2 S2 R3 S3 a b) :
    k0_pay1 (F := Ideal) (k0_pay2 P0 Q0 P1 Q1 P2 Q2 P3 Q3) (k0_pay3 R0) S0 R1 S1 R2 S2 R3 S3 (ix2 a b)
    = part P0 Q0 a b + part P1 Q1 a b + part P2 Q2 a b + part P3 Q3 a b + (part R0 S0 a b + part R1 S1 a b + part R2 S2 a b + part R3 S3 a b) := by
  pointwise [k0_pay1, k0_pay2, k0_pay3]
  simp only [part, add_assoc]

set_option maxHeartbeats 1000000 in
theorem readA (c : Dev nD) (t : Fin cfg0.N) (a : Fin 256) (k : Fin 1408) :
    (iblk m c 0 t : Vec Ideal S256x1408 .bf16) (ix2 a k) = (m ((c : Thread nD τ).loc main_arg0) : Vec Ideal S4096x5632 .f32) (ix2 (row t a) (quarter 0 k))
    ∧ (iblk m c 1 t : Vec Ideal S256x1408 .bf16) (ix2 a k) = (m ((c : Thread nD τ).loc main_arg0) : Vec Ideal S4096x5632 .f32) (ix2 (row t a) (quarter 1 k))
    ∧ (iblk m c 2 t : Vec Ideal S256x1408 .bf16) (ix2 a k) = (m ((c : Thread nD τ).loc main_arg0) : Vec Ideal S4096x5632 .f32) (ix2 (row t a) (quarter 2 k))
    ∧ (iblk m c 3 t : Vec Ideal S256x1408 .bf16) (ix2 a k) = (m ((c : Thread nD τ).loc main_arg0) : Vec Ideal S4096x5632 .f32) (ix2 (row t a) (quarter 3 k)) := by
  refine ⟨?_, ?_, ?_, ?_⟩
  all_goals
    blk_simp [iblk]
    entry_read
    pointwise
    blk_ext [idx t, row, col, quarter]

set_option maxHeartbeats 1000000 in
theorem readB (c : Dev nD) (t : Fin cfg0.N) (a : Fin 256) (k : Fin 1408) :
    (iblk m c 4 t : Vec Ideal S256x1408 .bf16) (ix2 a k) = (m ((c : Thread nD τ).loc main_arg1) : Vec Ideal S4096x5632 .f32) (ix2 (row t a) (quarter 0 k))
    ∧ (iblk m c 5 t : Vec Ideal S256x1408 .bf16) (ix2 a k) = (m ((c : Thread nD τ).loc main_arg1) : Vec Ideal S4096x5632 .f32) (ix2 (row t a) (quarter 1 k))
    ∧ (iblk m c 6 t : Vec Ideal S256x1408 .bf16) (ix2 a k) = (m ((c : Thread nD τ).loc main_arg1) : Vec Ideal S4096x5632 .f32) (ix2 (row t a) (quarter 2 k))
    ∧ (iblk m c 7 t : Vec Ideal S256x1408 .bf16) (ix2 a k) = (m ((c : Thread nD τ).loc main_arg1) : Vec Ideal S4096x5632 .f32) (ix2 (row t a) (quarter 3 k)) := by
  refine ⟨?_, ?_, ?_, ?_⟩
  all_goals
    blk_simp [iblk]
    entry_read
    pointwise
    blk_ext [idx t, row, col, quarter]

set_option maxHeartbeats 1000000 in
theorem readU (c : Dev nD) (t : Fin cfg0.N) (b : Fin 512) (k : Fin 1408) :
    (iblk m c 8 t : Vec Ideal S1x1x512x1408 .bf16) (ix4 0 0 b k) = (m ((c : Thread nD τ).loc main_arg2) : Vec Ideal S2048x5632 .f32) (ix2 (col t b) (quarter 0 k))
    ∧ (iblk m c 9 t : Vec Ideal S1x1x512x1408 .bf16) (ix4 0 0 b k) = (m ((c : Thread nD τ).loc main_arg2) : Vec Ideal S2048x5632 .f32) (ix2 (col t b) (quarter 1 k))
    ∧ (iblk m c 10 t : Vec Ideal S1x1x512x1408 .bf16) (ix4 0 0 b k) = (m ((c : Thread nD τ).loc main_arg2) : Vec Ideal S2048x5632 .f32) (ix2 (col t b) (quarter 2 k))
    ∧ (iblk m c 11 t : Vec Ideal S1x1x512x1408 .bf16) (ix4 0 0 b k) = (m ((c : Thread nD τ).loc main_arg2) : Vec Ideal S2048x5632 .f32) (ix2 (col t b) (quarter 3 k)) := by
  refine ⟨?_, ?_, ?_, ?_⟩
  all_goals
    blk_simp [iblk]
    entry_read
    pointwise
    blk_ext [idx t, row, col, quarter]

set_option maxHeartbeats 1000000 in
theorem readW (c : Dev nD) (t : Fin cfg0.N) (b : Fin 512) (k : Fin 1408) :
    (iblk m c 12 t : Vec Ideal S1x1x512x1408 .bf16) (ix4 0 0 b k) = (m ((c : Thread nD τ).loc main_arg3) : Vec Ideal S2048x5632 .f32) (ix2 (col t b) (quarter 0 k))
    ∧ (iblk m c 13 t : Vec Ideal S1x1x512x1408 .bf16) (ix4 0 0 b k) = (m ((c : Thread nD τ).loc main_arg3) : Vec Ideal S2048x5632 .f32) (ix2 (col t b) (quarter 1 k))
    ∧ (iblk m c 14 t : Vec Ideal S1x1x512x1408 .bf16) (ix4 0 0 b k) = (m ((c : Thread nD τ).loc main_arg3) : Vec Ideal S2048x5632 .f32) (ix2 (col t b) (quarter 2 k))
    ∧ (iblk m c 15 t : Vec Ideal S1x1x512x1408 .bf16) (ix4 0 0 b k) = (m ((c : Thread nD τ).loc main_arg3) : Vec Ideal S2048x5632 .f32) (ix2 (col t b) (quarter 3 k)) := by
  refine ⟨?_, ?_, ?_, ?_⟩
  all_goals
    blk_simp [iblk]
    entry_read
    pointwise
    blk_ext [idx t, row, col, quarter]

/-- A sum in quarters, from its four partial products. -/
theorem joined (f : Fin 5632 → EReal) {P0 Q0 P1 Q1 P2 Q2 P3 Q3 a b}
    (h : ∀ k, P0 (ix2 a k) * Q0 (ix4 0 0 b k) = f (quarter 0 k) ∧ P1 (ix2 a k) * Q1 (ix4 0 0 b k) = f (quarter 1 k)
      ∧ P2 (ix2 a k) * Q2 (ix4 0 0 b k) = f (quarter 2 k) ∧ P3 (ix2 a k) * Q3 (ix4 0 0 b k) = f (quarter 3 k)) :
    part P0 Q0 a b + part P1 Q1 a b + part P2 Q2 a b + part P3 Q3 a b = ∑ l, f l := by
  rw [sum_quarters]
  exact congrArg₂ (· + ·) (congrArg₂ (· + ·) (congrArg₂ (· + ·) (Fin.sum_fin_congr fun k => (h k).1) (Fin.sum_fin_congr fun k => (h k).2.1))
    (Fin.sum_fin_congr fun k => (h k).2.2.1)) (Fin.sum_fin_congr fun k => (h k).2.2.2)

theorem final16 (c : Dev nD) : (dats m 0 c).arrAt 16 (cfgs 0).N
    = Cert.FfndataRefIdeal.Read.val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t _ y => ?_
  blk_simp
  rw [after0_16]
  frame_out
  idx_vars y
  refine Eq.trans ?_ (congrArg _ (show (ix2 (row t y0) (col t y1) : S4096x2048.Idx) = _ by blk_ext [idx t, row, col]))
  refine (pay_at _ _ _ _ _ _ _ _ _ _ _ _ _ _ _ _ _ _).trans ?_
  rw [ref12]
  refine congrArg₂ (· + ·) (joined _ fun k => ?_) (joined _ fun k => ?_)
  · have ea := readA m c t y0 k
    have eb := readU m c t y1 k
    exact ⟨congrArg₂ (· * ·) ea.1 eb.1, congrArg₂ (· * ·) ea.2.1 eb.2.1, congrArg₂ (· * ·) ea.2.2.1 eb.2.2.1, congrArg₂ (· * ·) ea.2.2.2 eb.2.2.2⟩
  · have ea := readB m c t y0 k
    have eb := readW m c t y1 k
    exact ⟨congrArg₂ (· * ·) ea.1 eb.1, congrArg₂ (· * ·) ea.2.1 eb.2.1, congrArg₂ (· * ·) ea.2.2.1 eb.2.2.1, congrArg₂ (· * ·) ea.2.2.2 eb.2.2.2⟩

end Cert.FfndataIdeal.Value
-- ==== Proof.FfndataClaim.lean ====
/- The claims about the data gradient of the feed-forward layer's first two products. -/
module

public import proofs.«01_k».proof.Defs
public import proofs.«01_k».proof.Proof.Gen.Ffndata.Frame
public import proofs.«01_k».proof.Proof.Gen.FfndataRefIdeal
public import proofs.«01_k».proof.Proof.Gen.FfndataRefIdeal.Run
public import proofs.«01_k».proof.Proof.FfndataValue
public import Idealize.ShloMosaic.Lib.Claim

@[expose] public section

noncomputable section

open Idealize.ShloMosaic Idealize.ShloMosaic.TcCoe Idealize.SL.Sem

namespace Cert.Ffndata.Claims

theorem frame_ref : Cert.quiescent_FfndataRefIdeal (hFfndataRefIdeal := Cert.FfndataRefIdeal.Gen.facts) := fun m ρ _ =>
  (θ_run Cert.FfndataRefIdeal.defs _ _).mono (fun r h => ⟨fun c => (h c).2, sem_eq_zero_of_no_sems (by decide) r.2⟩)
    (Cert.FfndataRefIdeal.Value.run (F := Ideal) m ρ)

open Cert.FfndataIdeal Cert.FfndataRefIdeal.Read in
theorem equal : Cert.algebraic_FfndataIdeal_FfndataRefIdeal (hFfndataIdeal := Cert.FfndataIdeal.Gen.facts)
    (hFfndataRefIdeal := Cert.FfndataRefIdeal.Gen.facts) := by
  intro m g m' g' _ ha
  refine ⟨fun c => val_main_v12 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.FfndataIdeal.defs _ _).mono (fun r h c => ⟨(h c).1.trans (Cert.FfndataIdeal.Value.final16 m c), (h c).2⟩)
      (Cert.FfndataIdeal.Value.run_blocks (F := Ideal) m g)
  · refine (θ_run Cert.FfndataRefIdeal.defs _ _).mono (fun r h c => ⟨?_, (h c).2⟩)
      (Cert.FfndataRefIdeal.Value.run (F := Ideal) m' g')
    all_goals obtain ⟨e0, e1, e2, e3⟩ := ha c
    · refine ((h c).1.trans (val_main_v12_eq _ _ _ _)).trans ?_
      rw [e0, e1, e2, e3]

end Cert.Ffndata.Claims
-- ==== Proof.QkvdataValue.lean ====
/- The data gradient of the queries', keys' and values' product: twelve steps add into a scratch block, the twelfth
   writes the block. -/
module

public import proofs.«01_k».proof.Proof.Gen.QkvdataIdeal.Value
public import proofs.«01_k».proof.Proof.Gen.QkvdataRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvdataIdeal.Value

open Cert.QkvdataIdeal Cert.QkvdataIdeal.Gen

variable (m : (ℓ : Loc nD τ sig) → Buf (Elt Ideal) ℓ)

/-- The windows' block indices: a step's columns lie in one third of the first operand and in one shard of the second. -/
theorem idx : ∀ t : Fin cfg0.N, win0_0.index t = ![t.val % 12 / 4, t.val / 12, t.val % 12 % 4] ∧ win0_1.index t = ![t.val % 12 / 3, 0, 0, t.val % 12 % 3]
    ∧ win0_2.index t = ![t.val / 12, 0] :=
  (by decide +kernel : ∀ t : Fin grid0.N, _)

/-- The row of the arrays behind a row of block `t`. -/
def row (t : Fin cfg0.N) (a : Fin 512) : Fin 4096 := ⟨t.val / 12 * 512 + a.val, by have := lt_of_lt_of_eq t.isLt N_0; omega⟩

/-- The product at an entry. -/
def prod (X : Vec Ideal S4096x6144 .f32) (W : Vec Ideal S2048x6144 .f32) (r : Fin 4096) (k : Fin 2048) : EReal :=
  ∑ j : Fin 6144, X (ix2 r j) * W (ix2 k j)

theorem ref5 (X W r k) : Cert.QkvdataRefIdeal.Read.val_main_v5 (F := Ideal) X W (ix2 r k) = prod X W r k := by
  rw [← Cert.QkvdataRefIdeal.Read.val_main_v5_eq]
  pointwise
  rfl

theorem pay1_at (P : Vec Ideal S1x512x512 .bf16) (Q : Vec Ideal S1x1x2048x512 .bf16) (j) :
    k0_pay1 (F := Ideal) P Q j = ∑ k : Fin 512, P (ix3 0 (j 0) k) * Q (ix4 0 0 (j 1) k) := by
  pointwise [k0_pay1]

theorem pay2_at (P : Vec Ideal S1x512x512 .bf16) (Q : Vec Ideal S1x1x2048x512 .bf16) (acc : Vec Ideal S512x2048 .f32) (j) :
    k0_pay2 (F := Ideal) P Q acc j = acc j + ∑ k : Fin 512, P (ix3 0 (j 0) k) * Q (ix4 0 0 (j 1) k) := by
  pointwise [k0_pay2]

/-- Reading the whole scratch back gives what was left in it. -/
theorem kept (X : cc0_scratch0.ty.Contents (Elt Ideal)) : (View.whole cc0_scratch0).read (Elt Ideal) ((Memref.isWhole_whole cc0_scratch0).unread X) = X :=
  (Memref.isWhole_whole cc0_scratch0).read_unread X

/-- What the scratch block holds after a block's last step. -/
theorem held (c : Dev nD) (t : Fin cfg0.N) (h11 : t.val % 12 = 11) (a : Fin 512) (b : Fin 2048) : (outsAt0 m c t.val t.isLt).2 (ix2 a b)
    = prod (m ((c : Thread nD τ).loc main_arg0)) (m ((c : Thread nD τ).loc main_arg1)) (row t a) b := by
  rw [Pipeline.eq_sum_fin_of_reset_step_apply_of_flush (fun n h => (outsAt0 m c n h).2) 12 (fun _ => 0) _
    (fun t h j => by
      rw [outsAt0_A m c t h (by omega) (by omega)]; frame_out; rw [pay1_at, ← zero_add (Finset.sum _ _)])
    (fun t h j => by
      by_cases h2 : t.val % 12 = 11
      · rw [outsAt0_C m c t h (by omega) h2]; frame_out; rw [pay2_at]; exact congrArg (· + _) (congrFun (kept _) j)
      · rw [outsAt0_B m c t h (by omega) h2]; frame_out; rw [pay2_at]; exact congrArg (· + _) (congrFun (kept _) j)) t h11 _, zero_add]
  refine Fin.sum_mul_add_congr fun s k hl => congrArg₂ (· * ·) ?_ ?_
  all_goals
    blk_simp [iblk]
    entry_read
    pointwise
    blk_ext [idx ⟨_, Pipeline.run_point_lt_of_flush t h11 s⟩, row]

theorem ends (c : Dev nD) (t : Fin cfg0.N) (h11 : t.val % 12 = 11) : (outsAt0 m c t.val t.isLt).1 = (outsAt0 m c t.val t.isLt).2 := by
  rw [outsAt0_C m c t (by omega) (by omega) h11]
  frame_out

theorem value2 (c : Dev nD) : (dats m 0 c).arrAt 2 (cfgs 0).N
    = Cert.QkvdataRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h11 := (flush0_2 t).mp hf
  blk_simp
  rw [after0_2, ends m c t h11]
  idx_vars y
  refine Eq.trans ?_ (congrArg _ (show (ix2 (row t y0) y1 : S4096x2048.Idx) = _ by blk_ext [idx t, row]))
  rw [ref5]
  exact held m c t h11 y0 y1

end Cert.QkvdataIdeal.Value
-- ==== Proof.QkvdataClaim.lean ====
/- The claims about the data gradient of the queries', keys' and values' product. -/
module

public import proofs.«01_k».proof.Defs
public import proofs.«01_k».proof.Proof.Gen.Qkvdata.Frame
public import proofs.«01_k».proof.Proof.Gen.QkvdataRefIdeal
public import proofs.«01_k».proof.Proof.Gen.QkvdataRefIdeal.Run
public import proofs.«01_k».proof.Proof.QkvdataValue
public import Idealize.ShloMosaic.Lib.Claim

@[expose] public section

noncomputable section

open Idealize.ShloMosaic Idealize.ShloMosaic.TcCoe Idealize.SL.Sem

namespace Cert.Qkvdata.Claims

theorem frame_ref : Cert.quiescent_QkvdataRefIdeal (hQkvdataRefIdeal := Cert.QkvdataRefIdeal.Gen.facts) := fun m ρ _ =>
  (θ_run Cert.QkvdataRefIdeal.defs _ _).mono (fun r h => ⟨fun c => (h c).2, sem_eq_zero_of_no_sems (by decide) r.2⟩)
    (Cert.QkvdataRefIdeal.Value.run (F := Ideal) m ρ)

open Cert.QkvdataIdeal Cert.QkvdataRefIdeal.Read in
theorem equal : Cert.algebraic_QkvdataIdeal_QkvdataRefIdeal (hQkvdataIdeal := Cert.QkvdataIdeal.Gen.facts)
    (hQkvdataRefIdeal := Cert.QkvdataRefIdeal.Gen.facts) := by
  intro m g m' g' _ ha
  refine ⟨fun c => val_main_v5 (F := Ideal) (m ((c.tc : Thread nD τ).loc main_arg0)) (m ((c.tc : Thread nD τ).loc main_arg1)), ?_, ?_⟩
  · exact (θ_run Cert.QkvdataIdeal.defs _ _).mono (fun r h c => ⟨(h c).1.trans (Cert.QkvdataIdeal.Value.value2 m c), (h c).2⟩)
      (Cert.QkvdataIdeal.Value.run_blocks (F := Ideal) m g)
  · refine (θ_run Cert.QkvdataRefIdeal.defs _ _).mono (fun r h c => ⟨?_, (h c).2⟩)
      (Cert.QkvdataRefIdeal.Value.run (F := Ideal) m' g')
    all_goals obtain ⟨e0, e1⟩ := ha c
    · refine ((h c).1.trans (val_main_v5_eq _ _)).trans ?_
      rw [e0, e1]

end Cert.Qkvdata.Claims
-- ==== Proof.FfnwtValue.lean ====
/- The weight gradients of the feed-forward layer's first two products: two steps of four partial products each add into
   a scratch block per result, the second writes the blocks. -/
module

public import proofs.«01_k».proof.Proof.Gen.FfnwtIdeal.Value
public import proofs.«01_k».proof.Proof.Gen.FfnwtRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnwtIdeal.Value

open Cert.FfnwtIdeal Cert.FfnwtIdeal.Gen

variable (m : (ℓ : Loc nD τ sig) → Buf (Elt Ideal) ℓ)

/-- The windows' block indices: each quarter of a step's rows has its own window of each operand. -/
theorem idx : ∀ t : Fin cfg0.N, win0_0.index t = ![t.val % 2 * 4 + 0, t.val / 8] ∧ win0_1.index t = ![t.val % 2 * 4 + 1, t.val / 8] ∧ win0_2.index t = ![t.val % 2 * 4 + 2, t.val / 8]
    ∧ win0_3.index t = ![t.val % 2 * 4 + 3, t.val / 8] ∧ win0_4.index t = ![t.val % 2 * 4 + 0, t.val / 2 % 4] ∧ win0_5.index t = ![t.val % 2 * 4 + 1, t.val / 2 % 4]
    ∧ win0_6.index t = ![t.val % 2 * 4 + 2, t.val / 2 % 4] ∧ win0_7.index t = ![t.val % 2 * 4 + 3, t.val / 2 % 4] ∧ win0_8.index t = ![t.val % 2 * 4 + 0, t.val / 2 % 4]
    ∧ win0_9.index t = ![t.val % 2 * 4 + 1, t.val / 2 % 4] ∧ win0_10.index t = ![t.val % 2 * 4 + 2, t.val / 2 % 4] ∧ win0_11.index t = ![t.val % 2 * 4 + 3, t.val / 2 % 4]
    ∧ win0_12.index t = ![t.val / 2 % 4, t.val / 8, 0] ∧ win0_13.index t = ![t.val / 2 % 4, t.val / 8, 0] :=
  (by decide +kernel : ∀ t : Fin grid0.N, _)

/-- The shard, the row and the column of the arrays behind an entry of block `t`, and the rows behind its quarters. -/
def shard (t : Fin cfg0.N) : Fin 4 := ⟨t.val / 2 % 4, by omega⟩
def row (t : Fin cfg0.N) (a : Fin 512) : Fin 2048 := ⟨t.val / 8 * 512 + a.val, by have := lt_of_lt_of_eq t.isLt N_0; omega⟩
def col (s : Fin 4) (b : Fin 1408) : Fin 5632 := ⟨s.val * 1408 + b.val, by omega⟩
def pos (s : Fin 2) (q : Fin 4) (k : Fin 512) : Fin 4096 := ⟨(s.val * 4 + q.val) * 512 + k.val, by omega⟩

/-- A sum over the rows, in two steps of four quarters. -/
theorem sum_pos (f : Fin 4096 → EReal) : ∑ l, f l
    = ∑ s : Fin 2, (∑ k, f (pos s 0 k) + ∑ k, f (pos s 1 k) + ∑ k, f (pos s 2 k) + ∑ k, f (pos s 3 k)) := by
  rw [← Fin.sum_mul_add_fin 8 512 f, Fin.sum_univ_eight, Fin.sum_univ_two, ← add_assoc, ← add_assoc, ← add_assoc]
  rfl

/-- A product at an entry. -/
def prod (X : Vec Ideal S4096x2048 .f32) (Y : Vec Ideal S4096x5632 .f32) (r : Fin 2048) (k : Fin 5632) : EReal :=
  ∑ j : Fin 4096, X (ix2 j r) * Y (ix2 j k)

theorem ref8 (X Y s a b) : Cert.FfnwtRefIdeal.Read.val_main_v8 (F := Ideal) X Y (ix3 s a b) = prod X Y a (col s b) := by
  rw [← Cert.FfnwtRefIdeal.Read.val_main_v8_eq]
  pointwise
  refine Fin.sum_fin_congr fun j => congrArg₂ (· * ·) rfl (congrArg Y ?_)
  blk_ext [col]

theorem ref14 (X Y s a b) : Cert.FfnwtRefIdeal.Read.val_main_v14 (F := Ideal) X Y (ix3 s a b) = prod X Y a (col s b) :=
  ref8 X Y s a b

/-- A term of a product behind an entry of block `t`. -/
def term (X : Vec Ideal S4096x2048 .f32) (Y : Vec Ideal S4096x5632 .f32) (t : Fin cfg0.N) (a : Fin 512) (b : Fin 1408) (l : Fin 4096) : EReal :=
  X (ix2 l (row t a)) * Y (ix2 l (col (shard t) b))

/-- A step's four partial products at an entry. -/
def four (P0 : Vec Ideal S512x512 .bf16) (Q0 : Vec Ideal S512x1408 .bf16) (P1 : Vec Ideal S512x512 .bf16) (Q1 : Vec Ideal S512x1408 .bf16) (P2 : Vec Ideal S512x512 .bf16) (Q2 : Vec Ideal S512x1408 .bf16) (P3 : Vec Ideal S512x512 .bf16) (Q3 : Vec Ideal S512x1408 .bf16) (a : Fin 512) (b : Fin 1408) : EReal :=
  ∑ k, P0 (ix2 k a) * Q0 (ix2 k b) + ∑ k, P1 (ix2 k a) * Q1 (ix2 k b) + ∑ k, P2 (ix2 k a) * Q2 (ix2 k b) + ∑ k, P3 (ix2 k a) * Q3 (ix2 k b)

theorem pay7_at (P0 Q0 P1 Q1 P2 Q2 P3 Q3 j) : k0_pay1 (F := Ideal) (k0_pay7 P0 Q0 P1 Q1 P2 Q2 P3 Q3) j = four P0 Q0 P1 Q1 P2 Q2 P3 Q3 (j 0) (j 1) := by
  pointwise [k0_pay1, k0_pay7]
  rfl

theorem pay2_at (P0 Q0 P1 Q1 P2 Q2 P3 Q3 j) : k0_pay2 (F := Ideal) (k0_pay8 P0 Q0) (k0_pay9 P1) Q1 P2 Q2 P3 Q3 j = four P0 Q0 P1 Q1 P2 Q2 P3 Q3 (j 0) (j 1) := by
  pointwise [k0_pay2, k0_pay8, k0_pay9]
  rfl

theorem pay3_at (P0 Q0 P1 Q1 P2 Q2 P3 Q3 Z j) : k0_pay3 (F := Ideal) (k0_pay10 P0 Q0 P1 Q1 P2 Q2 P3 Q3) Z j = Z j + four P0 Q0 P1 Q1 P2 Q2 P3 Q3 (j 0) (j 1) := by
  pointwise [k0_pay3, k0_pay10]
  rfl

theorem pay4_at (P0 Q0 P1 Q1 P2 Q2 P3 Q3 Z j) : k0_pay4 (F := Ideal) (k0_pay11 P0 Q0) (k0_pay12 P1) Q1 P2 Q2 P3 Q3 Z j = Z j + four P0 Q0 P1 Q1 P2 Q2 P3 Q3 (j 0) (j 1) := by
  pointwise [k0_pay4, k0_pay11, k0_pay12]
  rfl

set_option maxHeartbeats 1000000 in
theorem readH (c : Dev nD) (t p : Fin cfg0.N) (s : Fin 2) (hp : p.val = 2 * (t.val / 2) + s.val) (k : Fin 512) (a : Fin 512) :
    (iblk m c 0 p : Vec Ideal S512x512 .bf16) (ix2 k a) = (m ((c : Thread nD τ).loc main_arg0) : Vec Ideal S4096x2048 .f32) (ix2 (pos s 0 k) (row t a))
    ∧ (iblk m c 1 p : Vec Ideal S512x512 .bf16) (ix2 k a) = (m ((c : Thread nD τ).loc main_arg0) : Vec Ideal S4096x2048 .f32) (ix2 (pos s 1 k) (row t a))
    ∧ (iblk m c 2 p : Vec Ideal S512x512 .bf16) (ix2 k a) = (m ((c : Thread nD τ).loc main_arg0) : Vec Ideal S4096x2048 .f32) (ix2 (pos s 2 k) (row t a))
    ∧ (iblk m c 3 p : Vec Ideal S512x512 .bf16) (ix2 k a) = (m ((c : Thread nD τ).loc main_arg0) : Vec Ideal S4096x2048 .f32) (ix2 (pos s 3 k) (row t a)) := by
  refine ⟨?_, ?_, ?_, ?_⟩
  all_goals
    blk_simp [iblk]
    entry_read
    pointwise
    blk_ext [idx p, hp, pos, row, col, shard]

set_option maxHeartbeats 1000000 in
theorem readG (c : Dev nD) (t p : Fin cfg0.N) (s : Fin 2) (hp : p.val = 2 * (t.val / 2) + s.val) (k : Fin 512) (a : Fin 1408) :
    (iblk m c 4 p : Vec Ideal S512x1408 .bf16) (ix2 k a) = (m ((c : Thread nD τ).loc main_arg1) : Vec Ideal S4096x5632 .f32) (ix2 (pos s 0 k) (col (shard t) a))
    ∧ (iblk m c 5 p : Vec Ideal S512x1408 .bf16) (ix2 k a) = (m ((c : Thread nD τ).loc main_arg1) : Vec Ideal S4096x5632 .f32) (ix2 (pos s 1 k) (col (shard t) a))
    ∧ (iblk m c 6 p : Vec Ideal S512x1408 .bf16) (ix2 k a) = (m ((c : Thread nD τ).loc main_arg1) : Vec Ideal S4096x5632 .f32) (ix2 (pos s 2 k) (col (shard t) a))
    ∧ (iblk m c 7 p : Vec Ideal S512x1408 .bf16) (ix2 k a) = (m ((c : Thread nD τ).loc main_arg1) : Vec Ideal S4096x5632 .f32) (ix2 (pos s 3 k) (col (shard t) a)) := by
  refine ⟨?_, ?_, ?_, ?_⟩
  all_goals
    blk_simp [iblk]
    entry_read
    pointwise
    blk_ext [idx p, hp, pos, row, col, shard]

set_option maxHeartbeats 1000000 in
theorem readU (c : Dev nD) (t p : Fin cfg0.N) (s : Fin 2) (hp : p.val = 2 * (t.val / 2) + s.val) (k : Fin 512) (a : Fin 1408) :
    (iblk m c 8 p : Vec Ideal S512x1408 .bf16) (ix2 k a) = (m ((c : Thread nD τ).loc main_arg2) : Vec Ideal S4096x5632 .f32) (ix2 (pos s 0 k) (col (shard t) a))
    ∧ (iblk m c 9 p : Vec Ideal S512x1408 .bf16) (ix2 k a) = (m ((c : Thread nD τ).loc main_arg2) : Vec Ideal S4096x5632 .f32) (ix2 (pos s 1 k) (col (shard t) a))
    ∧ (iblk m c 10 p : Vec Ideal S512x1408 .bf16) (ix2 k a) = (m ((c : Thread nD τ).loc main_arg2) : Vec Ideal S4096x5632 .f32) (ix2 (pos s 2 k) (col (shard t) a))
    ∧ (iblk m c 11 p : Vec Ideal S512x1408 .bf16) (ix2 k a) = (m ((c : Thread nD τ).loc main_arg2) : Vec Ideal S4096x5632 .f32) (ix2 (pos s 3 k) (col (shard t) a)) := by
  refine ⟨?_, ?_, ?_, ?_⟩
  all_goals
    blk_simp [iblk]
    entry_read
    pointwise
    blk_ext [idx p, hp, pos, row, col, shard]

/-- A step's quarters of a sum, from its four partial products. -/
theorem joined (f : Fin 4096 → EReal) (s : Fin 2) {P0 Q0 P1 Q1 P2 Q2 P3 Q3 a b}
    (h : ∀ k, P0 (ix2 k a) * Q0 (ix2 k b) = f (pos s 0 k) ∧ P1 (ix2 k a) * Q1 (ix2 k b) = f (pos s 1 k)
      ∧ P2 (ix2 k a) * Q2 (ix2 k b) = f (pos s 2 k) ∧ P3 (ix2 k a) * Q3 (ix2 k b) = f (pos s 3 k)) :
    four P0 Q0 P1 Q1 P2 Q2 P3 Q3 a b = ∑ k, f (pos s 0 k) + ∑ k, f (pos s 1 k) + ∑ k, f (pos s 2 k) + ∑ k, f (pos s 3 k) :=
  congrArg₂ (· + ·) (congrArg₂ (· + ·) (congrArg₂ (· + ·) (Fin.sum_fin_congr fun k => (h k).1) (Fin.sum_fin_congr fun k => (h k).2.1))
    (Fin.sum_fin_congr fun k => (h k).2.2.1)) (Fin.sum_fin_congr fun k => (h k).2.2.2)

/-- Reading a whole scratch back gives what was left in it. -/
theorem kept {S : Ref sig .tc} (X : S.ty.Contents (Elt Ideal)) : (View.whole S).read (Elt Ideal) ((Memref.isWhole_whole S).unread X) = X :=
  (Memref.isWhole_whole S).read_unread X

theorem step0 (c : Dev nD) (t p : Fin cfg0.N) (s : Fin 2) (hp : p.val = 2 * (t.val / 2) + s.val) (a : Fin 512) (b : Fin 1408) :
    four (iblk m c 0 p) (iblk m c 4 p) (iblk m c 1 p) (iblk m c 5 p) (iblk m c 2 p) (iblk m c 6 p) (iblk m c 3 p) (iblk m c 7 p) a b
      = ∑ k, term (m ((c : Thread nD τ).loc main_arg0)) (m ((c : Thread nD τ).loc main_arg1)) t a b (pos s 0 k) + ∑ k, term (m ((c : Thread nD τ).loc main_arg0)) (m ((c : Thread nD τ).loc main_arg1)) t a b (pos s 1 k) + ∑ k, term (m ((c : Thread nD τ).loc main_arg0)) (m ((c : Thread nD τ).loc main_arg1)) t a b (pos s 2 k) + ∑ k, term (m ((c : Thread nD τ).loc main_arg0)) (m ((c : Thread nD τ).loc main_arg1)) t a b (pos s 3 k) := by
  refine joined (term (m ((c : Thread nD τ).loc main_arg0)) (m ((c : Thread nD τ).loc main_arg1)) t a b) s fun k => ?_
  have ea := readH m c t p s hp k a
  have eb := readG m c t p s hp k b
  exact ⟨congrArg₂ (· * ·) ea.1 eb.1, congrArg₂ (· * ·) ea.2.1 eb.2.1, congrArg₂ (· * ·) ea.2.2.1 eb.2.2.1, congrArg₂ (· * ·) ea.2.2.2 eb.2.2.2⟩

/-- What the first scratch block holds after a block's second step. -/
theorem held0 (c : Dev nD) (t : Fin cfg0.N) (h1 : t.val % 2 = 1) (a : Fin 512) (b : Fin 1408) : (outsAt0 m c t.val t.isLt).2.2.1 (ix2 a b)
    = prod (m ((c : Thread nD τ).loc main_arg0)) (m ((c : Thread nD τ).loc main_arg1)) (row t a) (col (shard t) b) := by
  rw [Pipeline.eq_sum_fin_of_reset_step_apply_of_flush (fun n h => (outsAt0 m c n h).2.2.1) 2 (fun _ => 0) _
    (fun t h j => by
      rw [outsAt0_A m c t h (by omega) (by omega)]; frame_out; exact (pay7_at _ _ _ _ _ _ _ _ j).trans (zero_add _).symm)
    (fun t h j => by
      rw [outsAt0_B m c t h (by omega) (by omega)]; frame_out; rw [pay3_at]; exact congrArg (· + _) (congrFun (kept (S := cc0_scratch0) _) j)) t h1 _, zero_add]
  refine Eq.trans ?_ (sum_pos (term (m ((c : Thread nD τ).loc main_arg0)) (m ((c : Thread nD τ).loc main_arg1)) t a b)).symm
  exact Fin.sum_fin_congr fun s => step0 m c t ⟨_, Pipeline.run_point_lt_of_flush t h1 s⟩ s rfl a b

theorem step1 (c : Dev nD) (t p : Fin cfg0.N) (s : Fin 2) (hp : p.val = 2 * (t.val / 2) + s.val) (a : Fin 512) (b : Fin 1408) :
    four (iblk m c 0 p) (iblk m c 8 p) (iblk m c 1 p) (iblk m c 9 p) (iblk m c 2 p) (iblk m c 10 p) (iblk m c 3 p) (iblk m c 11 p) a b
      = ∑ k, term (m ((c : Thread nD τ).loc main_arg0)) (m ((c : Thread nD τ).loc main_arg2)) t a b (pos s 0 k) + ∑ k, term (m ((c : Thread nD τ).loc main_arg0)) (m ((c : Thread nD τ).loc main_arg2)) t a b (pos s 1 k) + ∑ k, term (m ((c : Thread nD τ).loc main_arg0)) (m ((c : Thread nD τ).loc main_arg2)) t a b (pos s 2 k) + ∑ k, term (m ((c : Thread nD τ).loc main_arg0)) (m ((c : Thread nD τ).loc main_arg2)) t a b (pos s 3 k) := by
  refine joined (term (m ((c : Thread nD τ).loc main_arg0)) (m ((c : Thread nD τ).loc main_arg2)) t a b) s fun k => ?_
  have ea := readH m c t p s hp k a
  have eb := readU m c t p s hp k b
  exact ⟨congrArg₂ (· * ·) ea.1 eb.1, congrArg₂ (· * ·) ea.2.1 eb.2.1, congrArg₂ (· * ·) ea.2.2.1 eb.2.2.1, congrArg₂ (· * ·) ea.2.2.2 eb.2.2.2⟩

/-- What the second scratch block holds after a block's second step. -/
theorem held1 (c : Dev nD) (t : Fin cfg0.N) (h1 : t.val % 2 = 1) (a : Fin 512) (b : Fin 1408) : (outsAt0 m c t.val t.isLt).2.2.2 (ix2 a b)
    = prod (m ((c : Thread nD τ).loc main_arg0)) (m ((c : Thread nD τ).loc main_arg2)) (row t a) (col (shard t) b) := by
  rw [Pipeline.eq_sum_fin_of_reset_step_apply_of_flush (fun n h => (outsAt0 m c n h).2.2.2) 2 (fun _ => 0) _
    (fun t h j => by
      rw [outsAt0_A m c t h (by omega) (by omega)]; frame_out; exact (pay2_at _ _ _ _ _ _ _ _ j).trans (zero_add _).symm)
    (fun t h j => by
      rw [outsAt0_B m c t h (by omega) (by omega)]; frame_out; rw [pay4_at]; exact congrArg (· + _) (congrFun (kept (S := cc0_scratch1) _) j)) t h1 _, zero_add]
  refine Eq.trans ?_ (sum_pos (term (m ((c : Thread nD τ).loc main_arg0)) (m ((c : Thread nD τ).loc main_arg2)) t a b)).symm
  exact Fin.sum_fin_congr fun s => step1 m c t ⟨_, Pipeline.run_point_lt_of_flush t h1 s⟩ s rfl a b

/-- The two results' blocks at that step are functions of them. -/
theorem ends (c : Dev nD) (t : Fin cfg0.N) (h1 : t.val % 2 = 1) :
    (outsAt0 m c t.val t.isLt).1 = k0_pay5 (F := Ideal) (outsAt0 m c t.val t.isLt).2.2.1
    ∧ (outsAt0 m c t.val t.isLt).2.1 = k0_pay6 (F := Ideal) (outsAt0 m c t.val t.isLt).2.2.2 := by
  rw [outsAt0_B m c t (by omega) h1 h1]
  constructor <;> frame_out

theorem value12 (c : Dev nD) : (dats m 0 c).arrAt 12 (cfgs 0).N
    = Cert.FfnwtRefIdeal.Read.val_main_v8 (F := Ideal) (m ((c : Thread nD τ).loc main_arg0)) (m ((c : Thread nD τ).loc main_arg1)) := by
  refine (dats m 0 c).arrAt_eq_of_covers 12 _ (by decide +kernel) fun t hf y => ?_
  have h1 := (flush0_12 t).mp hf
  blk_simp
  rw [after0_12, (ends m c t h1).1]
  idx_vars y
  refine Eq.trans ?_ (congrArg _ (show (ix3 (shard t) (row t y1) y2 : S4x2048x1408.Idx) = _ by blk_ext [idx t, row, shard]))
  rw [ref8, ← held0 m c t h1]
  pointwise [k0_pay5]

theorem value13 (c : Dev nD) : (dats m 0 c).arrAt 13 (cfgs 0).N
    = Cert.FfnwtRefIdeal.Read.val_main_v14 (F := Ideal) (m ((c : Thread nD τ).loc main_arg0)) (m ((c : Thread nD τ).loc main_arg2)) := by
  refine (dats m 0 c).arrAt_eq_of_covers 13 _ (by decide +kernel) fun t hf y => ?_
  have h1 := (flush0_13 t).mp hf
  blk_simp
  rw [after0_13, (ends m c t h1).2]
  idx_vars y
  refine Eq.trans ?_ (congrArg _ (show (ix3 (shard t) (row t y1) y2 : S4x2048x1408.Idx) = _ by blk_ext [idx t, row, shard]))
  rw [ref14, ← held1 m c t h1]
  pointwise [k0_pay6]

end Cert.FfnwtIdeal.Value
-- ==== Proof.FfnwtClaim.lean ====
/- The claims about the weight gradients of the feed-forward layer's first two products. -/
module

public import proofs.«01_k».proof.Defs
public import proofs.«01_k».proof.Proof.Gen.Ffnwt.Frame
public import proofs.«01_k».proof.Proof.Gen.FfnwtRefIdeal
public import proofs.«01_k».proof.Proof.Gen.FfnwtRefIdeal.Run
public import proofs.«01_k».proof.Proof.FfnwtValue
public import Idealize.ShloMosaic.Lib.Claim

@[expose] public section

noncomputable section

open Idealize.ShloMosaic Idealize.ShloMosaic.TcCoe Idealize.SL.Sem

namespace Cert.Ffnwt.Claims

theorem frame_ref : Cert.quiescent_FfnwtRefIdeal (hFfnwtRefIdeal := Cert.FfnwtRefIdeal.Gen.facts) := fun m ρ _ =>
  (θ_run Cert.FfnwtRefIdeal.defs _ _).mono (fun r h => ⟨fun c => (h c).2.2, sem_eq_zero_of_no_sems (by decide) r.2⟩)
    (Cert.FfnwtRefIdeal.Value.run (F := Ideal) m ρ)

open Cert.FfnwtIdeal Cert.FfnwtRefIdeal.Read in
theorem equal : Cert.algebraic_FfnwtIdeal_FfnwtRefIdeal (hFfnwtIdeal := Cert.FfnwtIdeal.Gen.facts)
    (hFfnwtRefIdeal := Cert.FfnwtRefIdeal.Gen.facts) := by
  intro m g m' g' _ ha
  refine ⟨fun c => val_main_v8 (F := Ideal) (m ((c.tc : Thread nD τ).loc main_arg0)) (m ((c.tc : Thread nD τ).loc main_arg1)),
    fun c => val_main_v14 (F := Ideal) (m ((c.tc : Thread nD τ).loc main_arg0)) (m ((c.tc : Thread nD τ).loc main_arg2)), ?_, ?_⟩
  · exact (θ_run Cert.FfnwtIdeal.defs _ _).mono (fun r h c => ⟨(h c).1.trans (Cert.FfnwtIdeal.Value.value12 m c), (h c).2.1.trans (Cert.FfnwtIdeal.Value.value13 m c), (h c).2.2⟩)
      (Cert.FfnwtIdeal.Value.run_blocks (F := Ideal) m g)
  · refine (θ_run Cert.FfnwtRefIdeal.defs _ _).mono (fun r h c => ⟨?_, ?_, (h c).2.2⟩)
      (Cert.FfnwtRefIdeal.Value.run (F := Ideal) m' g')
    all_goals obtain ⟨e0, e1, e2⟩ := ha c
    · refine ((h c).1.trans (val_main_v8_eq _ _)).trans ?_
      rw [e0, e1]
    · refine ((h c).2.1.trans (val_main_v14_eq _ _)).trans ?_
      rw [e0, e2]

end Cert.Ffnwt.Claims
-- ==== Proof.AdamwValue.lean ====
/- One optimiser step: the kernel's results are the reference's, entry by entry. -/
module

public import proofs.«01_k».proof.Proof.Gen.AdamwIdeal.Value
public import proofs.«01_k».proof.Proof.Gen.AdamwRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwIdeal.Value

open Cert.AdamwIdeal Cert.AdamwIdeal.Gen

theorem step4 (W G M V) : G4 (F := Ideal) G M V W = Cert.AdamwRefIdeal.Read.val_main_v23 (F := Ideal) W G M V := by
  rw [← Cert.AdamwRefIdeal.Read.val_main_v23_eq]
  rfl

theorem step5 (G M) : G5 (F := Ideal) G M = Cert.AdamwRefIdeal.Read.val_main_v4 (F := Ideal) G M := by
  rw [← Cert.AdamwRefIdeal.Read.val_main_v4_eq]
  rfl

theorem step6 (G V) : G6 (F := Ideal) G V = Cert.AdamwRefIdeal.Read.val_main_v10 (F := Ideal) G V := by
  rw [← Cert.AdamwRefIdeal.Read.val_main_v10_eq]
  rfl

end Cert.AdamwIdeal.Value
-- ==== Proof.AdamwClaim.lean ====
/- The claims about one optimiser step. -/
module

public import proofs.«01_k».proof.Defs
public import proofs.«01_k».proof.Proof.Gen.Adamw.Frame
public import proofs.«01_k».proof.Proof.Gen.AdamwRefIdeal
public import proofs.«01_k».proof.Proof.Gen.AdamwRefIdeal.Run
public import proofs.«01_k».proof.Proof.AdamwValue
public import Idealize.ShloMosaic.Lib.Claim

@[expose] public section

noncomputable section

open Idealize.ShloMosaic Idealize.ShloMosaic.TcCoe Idealize.SL.Sem

namespace Cert.Adamw.Claims

theorem frame_ref : Cert.quiescent_AdamwRefIdeal (hAdamwRefIdeal := Cert.AdamwRefIdeal.Gen.facts) := fun m ρ _ =>
  (θ_run Cert.AdamwRefIdeal.defs _ _).mono (fun r h => ⟨fun c => (h c).2.2.2, sem_eq_zero_of_no_sems (by decide) r.2⟩)
    (Cert.AdamwRefIdeal.Value.run (F := Ideal) m ρ)

open Cert.AdamwIdeal Cert.AdamwRefIdeal.Read in
theorem equal : Cert.algebraic_AdamwIdeal_AdamwRefIdeal (hAdamwIdeal := Cert.AdamwIdeal.Gen.facts)
    (hAdamwRefIdeal := Cert.AdamwRefIdeal.Gen.facts) := by
  intro m g m' g' _ ha
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg1)) (m ((c.tc : Thread nD τ).loc main_arg2)),
    fun c => val_main_v10 (F := Ideal) (m ((c.tc : Thread nD τ).loc main_arg1)) (m ((c.tc : Thread nD τ).loc main_arg3)), ?_, ?_⟩
  · exact (θ_run Cert.AdamwIdeal.defs _ _).mono (fun r h c => ⟨(h c).1.trans (Cert.AdamwIdeal.Value.step4 _ _ _ _), (h c).2.1.trans (Cert.AdamwIdeal.Value.step5 _ _), (h c).2.2.1.trans (Cert.AdamwIdeal.Value.step6 _ _), (h c).2.2.2⟩)
      (Cert.AdamwIdeal.Value.run (F := Ideal) m g)
  · refine (θ_run Cert.AdamwRefIdeal.defs _ _).mono (fun r h c => ⟨?_, ?_, ?_, (h c).2.2.2⟩)
      (Cert.AdamwRefIdeal.Value.run (F := Ideal) m' g')
    all_goals obtain ⟨e0, e1, e2, e3⟩ := ha c
    · refine ((h c).1.trans (val_main_v23_eq _ _ _ _)).trans ?_
      rw [e0, e1, e2, e3]
    · refine ((h c).2.1.trans (val_main_v4_eq _ _)).trans ?_
      rw [e1, e2]
    · refine ((h c).2.2.1.trans (val_main_v10_eq _ _)).trans ?_
      rw [e1, e3]

end Cert.Adamw.Claims
-- ==== Proof.SumdevValue.lean ====
/- The sum of the small gradients over the devices. -/
module

public import proofs.«01_k».proof.Proof.Gen.SumdevIdeal.Value
public import proofs.«01_k».proof.Proof.Gen.SumdevRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumdevIdeal.Value

open Cert.SumdevIdeal Cert.SumdevIdeal.Gen

theorem total (X) : G1 (F := Ideal) X = Cert.SumdevRefIdeal.Read.val_main_v0 (F := Ideal) X := by
  rw [← Cert.SumdevRefIdeal.Read.val_main_v0_eq]
  funext y
  idx_vars y
  pointwise [G1, k0_pay1]
  rw [Fin.sum_univ_eight]
  blk_ext []

end Cert.SumdevIdeal.Value
-- ==== Proof.SumdevClaim.lean ====
/- The claims about the sum of the small gradients over the devices. -/
module

public import proofs.«01_k».proof.Defs
public import proofs.«01_k».proof.Proof.Gen.Sumdev.Frame
public import proofs.«01_k».proof.Proof.Gen.SumdevRefIdeal
public import proofs.«01_k».proof.Proof.Gen.SumdevRefIdeal.Run
public import proofs.«01_k».proof.Proof.SumdevValue
public import Idealize.ShloMosaic.Lib.Claim

@[expose] public section

noncomputable section

open Idealize.ShloMosaic Idealize.ShloMosaic.TcCoe Idealize.SL.Sem

namespace Cert.Sumdev.Claims

theorem frame_ref : Cert.quiescent_SumdevRefIdeal (hSumdevRefIdeal := Cert.SumdevRefIdeal.Gen.facts) := fun m ρ _ =>
  (θ_run Cert.SumdevRefIdeal.defs _ _).mono (fun r h => ⟨fun c => (h c).2, sem_eq_zero_of_no_sems (by decide) r.2⟩)
    (Cert.SumdevRefIdeal.Value.run (F := Ideal) m ρ)

open Cert.SumdevIdeal Cert.SumdevRefIdeal.Read in
theorem equal : Cert.algebraic_SumdevIdeal_SumdevRefIdeal (hSumdevIdeal := Cert.SumdevIdeal.Gen.facts)
    (hSumdevRefIdeal := Cert.SumdevRefIdeal.Gen.facts) := by
  intro m g m' g' _ ha
  refine ⟨fun c => val_main_v0 (F := Ideal) (m ((c.tc : Thread nD τ).loc main_arg0)), ?_, ?_⟩
  · exact (θ_run Cert.SumdevIdeal.defs _ _).mono (fun r h c => ⟨(h c).1.trans (Cert.SumdevIdeal.Value.total _), (h c).2⟩)
      (Cert.SumdevIdeal.Value.run (F := Ideal) m g)
  · refine (θ_run Cert.SumdevRefIdeal.defs _ _).mono (fun r h c => ⟨?_, (h c).2⟩)
      (Cert.SumdevRefIdeal.Value.run (F := Ideal) m' g')
    have e0 := ha c
    refine ((h c).1.trans (val_main_v0_eq _)).trans ?_
    rw [e0]

end Cert.Sumdev.Claims
-- ==== Proof.PooldataValue.lean ====
/- The data gradient of the pooling layer's product: every point writes its block, the product over a group. -/
module

public import proofs.«01_k».proof.Proof.Gen.PooldataIdeal.Value
public import proofs.«01_k».proof.Proof.Gen.PooldataRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PooldataIdeal.Value

open Cert.PooldataIdeal Cert.PooldataIdeal.Gen

variable (m : (ℓ : Loc nD τ sig) → Buf (Elt Ideal) ℓ)

theorem idx : ∀ t : Fin cfg0.N, win0_0.index t = ![t.val % 8, t.val / 32] ∧ win0_1.index t = ![t.val / 8 % 4, 0, t.val / 32, 0]
    ∧ win0_2.index t = ![t.val % 8, t.val / 8] :=
  (by decide +kernel : ∀ t : Fin grid0.N, _)

/-- The row, the group and the channel of the arrays behind an entry of block `t`. -/
def row (t : Fin cfg0.N) (a : Fin 512) : Fin 4096 := ⟨t.val % 8 * 512 + a.val, by omega⟩
def grp (t : Fin cfg0.N) : Fin 4 := ⟨t.val / 32, by have := lt_of_lt_of_eq t.isLt N_0; omega⟩
def part (t : Fin cfg0.N) (b : Fin 128) : Fin 512 := ⟨t.val / 8 % 4 * 128 + b.val, by omega⟩
def chan (g : Fin 4) (b : Fin 512) : Fin 2048 := ⟨g.val * 512 + b.val, by omega⟩

/-- The product at an entry of a group. -/
def prod (X : Vec Ideal S4096x2048 .f32) (W : Vec Ideal S4x512x512 .f32) (r : Fin 4096) (g : Fin 4) (b : Fin 512) : EReal :=
  ∑ j : Fin 512, X (ix2 r (chan g j)) * W (ix3 g b j)

theorem ref7 (X W r g b) : Cert.PooldataRefIdeal.Read.val_main_v7 (F := Ideal) X W (ix2 r (chan g b)) = prod X W r g b := by
  pointwise [Cert.PooldataRefIdeal.Read.val_main_v0, Cert.PooldataRefIdeal.Read.val_main_v1, Cert.PooldataRefIdeal.Read.val_main_v2, Cert.PooldataRefIdeal.Read.val_main_v3, Cert.PooldataRefIdeal.Read.val_main_v4, Cert.PooldataRefIdeal.Read.val_main_v5, Cert.PooldataRefIdeal.Read.val_main_v6, Cert.PooldataRefIdeal.Read.val_main_v7]
  refine Fin.sum_fin_congr fun k => (mul_comm _ _).trans (congrArg₂ (· * ·) (congrArg X ?_) (congrArg W ?_)) <;> blk_ext [chan]

theorem pay1_at (P : Vec Ideal S512x512 .bf16) (Q : Vec Ideal S1x1x128x512 .bf16) (j) :
    k0_pay1 (F := Ideal) P Q j = ∑ k : Fin 512, P (ix2 (j 0) k) * Q (ix4 0 0 (j 1) k) := by
  pointwise [k0_pay1]

/-- A point's block of the product. -/
theorem block (c : Dev nD) (t : Fin cfg0.N) (a : Fin 512) (b : Fin 128) : k0_pay1 (F := Ideal) (iblk m c 0 t) (iblk m c 1 t) (ix2 a b)
    = prod (m ((c : Thread nD τ).loc main_arg0)) (m ((c : Thread nD τ).loc main_arg1)) (row t a) (grp t) (part t b) := by
  rw [pay1_at]
  refine Fin.sum_fin_congr fun k => congrArg₂ (· * ·) ?_ ?_
  all_goals
    blk_simp [iblk]
    entry_read
    pointwise
    blk_ext [idx t, row, grp, part, chan]

theorem written (c : Dev nD) (t : Fin cfg0.N) : out0_2 (F := Ideal) (iblk m c 0 t) (iblk m c 1 t) = k0_pay1 (F := Ideal) (iblk m c 0 t) (iblk m c 1 t) := by
  frame_out

theorem value2 (c : Dev nD) : (dats m 0 c).arrAt 2 (cfgs 0).N
    = Cert.PooldataRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, written]
  idx_vars y
  refine Eq.trans ?_ (congrArg _ (show (ix2 (row t y0) (chan (grp t) (part t y1)) : S4096x2048.Idx) = _ by blk_ext [idx t, row, grp, part, chan]))
  rw [ref7]
  exact block m c t y0 y1

end Cert.PooldataIdeal.Value
-- ==== Proof.PooldataClaim.lean ====
/- The claims about the data gradient of the pooling layer's product. -/
module

public import proofs.«01_k».proof.Defs
public import proofs.«01_k».proof.Proof.Gen.Pooldata.Frame
public import proofs.«01_k».proof.Proof.Gen.PooldataRefIdeal
public import proofs.«01_k».proof.Proof.Gen.PooldataRefIdeal.Run
public import proofs.«01_k».proof.Proof.PooldataValue
public import Idealize.ShloMosaic.Lib.Claim

@[expose] public section

noncomputable section

open Idealize.ShloMosaic Idealize.ShloMosaic.TcCoe Idealize.SL.Sem

namespace Cert.Pooldata.Claims

theorem frame_ref : Cert.quiescent_PooldataRefIdeal (hPooldataRefIdeal := Cert.PooldataRefIdeal.Gen.facts) := fun m ρ _ =>
  (θ_run Cert.PooldataRefIdeal.defs _ _).mono (fun r h => ⟨fun c => (h c).2, sem_eq_zero_of_no_sems (by decide) r.2⟩)
    (Cert.PooldataRefIdeal.Value.run (F := Ideal) m ρ)

open Cert.PooldataIdeal Cert.PooldataRefIdeal.Read in
theorem equal : Cert.algebraic_PooldataIdeal_PooldataRefIdeal (hPooldataIdeal := Cert.PooldataIdeal.Gen.facts)
    (hPooldataRefIdeal := Cert.PooldataRefIdeal.Gen.facts) := by
  intro m g m' g' _ ha
  refine ⟨fun c => val_main_v7 (F := Ideal) (m ((c.tc : Thread nD τ).loc main_arg0)) (m ((c.tc : Thread nD τ).loc main_arg1)), ?_, ?_⟩
  · exact (θ_run Cert.PooldataIdeal.defs _ _).mono (fun r h c => ⟨(h c).1.trans (Cert.PooldataIdeal.Value.value2 m c), (h c).2⟩)
      (Cert.PooldataIdeal.Value.run_blocks (F := Ideal) m g)
  · refine (θ_run Cert.PooldataRefIdeal.defs _ _).mono (fun r h c => ⟨?_, (h c).2⟩)
      (Cert.PooldataRefIdeal.Value.run (F := Ideal) m' g')
    all_goals obtain ⟨e0, e1⟩ := ha c
    · refine ((h c).1.trans (val_main_v7_eq _ _)).trans ?_
      rw [e0, e1]

end Cert.Pooldata.Claims
-- ==== Proof.PoolwtValue.lean ====
/- The weight gradient of the pooling layer's product: eight steps add into a scratch block, the eighth writes the
   block. -/
module

public import proofs.«01_k».proof.Proof.Gen.PoolwtIdeal.Value
public import proofs.«01_k».proof.Proof.Gen.PoolwtRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolwtIdeal.Value

open Cert.PoolwtIdeal Cert.PoolwtIdeal.Gen

variable (m : (ℓ : Loc nD τ sig) → Buf (Elt Ideal) ℓ)

theorem idx : ∀ t : Fin cfg0.N, win0_0.index t = ![t.val % 8, t.val / 8] ∧ win0_1.index t = ![t.val % 8, t.val / 32]
    ∧ win0_2.index t = ![t.val / 8 % 4, t.val / 32, 0] :=
  (by decide +kernel : ∀ t : Fin grid0.N, _)

/-- The group and the shard of block `t`; the channel of an entry of a group, its place in a shard, and a shard's row. -/
def grp (t : Fin cfg0.N) : Fin 4 := ⟨t.val / 32, by have := lt_of_lt_of_eq t.isLt N_0; omega⟩
def shard (t : Fin cfg0.N) : Fin 4 := ⟨t.val / 8 % 4, by omega⟩
def chan (g : Fin 4) (b : Fin 512) : Fin 2048 := ⟨g.val * 512 + b.val, by omega⟩
def part (q : Fin 4) (a : Fin 128) : Fin 512 := ⟨q.val * 128 + a.val, by omega⟩

/-- The product at an entry of a group. -/
def prod (X Y : Vec Ideal S4096x2048 .f32) (g : Fin 4) (a b : Fin 512) : EReal :=
  ∑ j : Fin 4096, X (ix2 j (chan g a)) * Y (ix2 j (chan g b))

theorem ref10 (X Y q g a b) : Cert.PoolwtRefIdeal.Read.val_main_v10 (F := Ideal) X Y (ix3 q (part g a) b) = prod X Y g (part q a) b := by
  pointwise [Cert.PoolwtRefIdeal.Read.val_main_v0, Cert.PoolwtRefIdeal.Read.val_main_v1, Cert.PoolwtRefIdeal.Read.val_main_v2, Cert.PoolwtRefIdeal.Read.val_main_v3, Cert.PoolwtRefIdeal.Read.val_main_v4, Cert.PoolwtRefIdeal.Read.val_main_v5, Cert.PoolwtRefIdeal.Read.val_main_v6, Cert.PoolwtRefIdeal.Read.val_main_v7, Cert.PoolwtRefIdeal.Read.val_main_v8, Cert.PoolwtRefIdeal.Read.val_main_v9, Cert.PoolwtRefIdeal.Read.val_main_v10]
  refine Fin.sum_fin_congr fun j => congrArg₂ (· * ·) (congrArg X ?_) (congrArg Y ?_) <;> blk_ext [chan, part]

theorem pay1_at (P : Vec Ideal S512x128 .bf16) (Q : Vec Ideal S512x512 .bf16) (j) :
    k0_pay1 (F := Ideal) P Q j = ∑ k : Fin 512, P (ix2 k (j 0)) * Q (ix2 k (j 1)) := by
  pointwise [k0_pay1]

theorem pay2_at (P : Vec Ideal S512x128 .bf16) (Q : Vec Ideal S512x512 .bf16) (acc : Vec Ideal S128x512 .f32) (j) :
    k0_pay2 (F := Ideal) P Q acc j = acc j + ∑ k : Fin 512, P (ix2 k (j 0)) * Q (ix2 k (j 1)) := by
  pointwise [k0_pay2]

/-- Reading the whole scratch back gives what was left in it. -/
theorem kept (X : cc0_scratch0.ty.Contents (Elt Ideal)) : (View.whole cc0_scratch0).read (Elt Ideal) ((Memref.isWhole_whole cc0_scratch0).unread X) = X :=
  (Memref.isWhole_whole cc0_scratch0).read_unread X

/-- What the scratch block holds after a block's last step. -/
theorem held (c : Dev nD) (t : Fin cfg0.N) (h7 : t.val % 8 = 7) (a : Fin 128) (b : Fin 512) : (outsAt0 m c t.val t.isLt).2 (ix2 a b)
    = prod (m ((c : Thread nD τ).loc main_arg0)) (m ((c : Thread nD τ).loc main_arg1)) (grp t) (part (shard t) a) b := by
  rw [Pipeline.eq_sum_fin_of_reset_step_apply_of_flush (fun n h => (outsAt0 m c n h).2) 8 (fun _ => 0) _
    (fun t h j => by
      rw [outsAt0_A m c t h (by omega) (by omega)]; frame_out; rw [pay1_at, ← zero_add (Finset.sum _ _)])
    (fun t h j => by
      by_cases h2 : t.val % 8 = 7
      · rw [outsAt0_C m c t h (by omega) h2]; frame_out; rw [pay2_at]; exact congrArg (· + _) (congrFun (kept _) j)
      · rw [outsAt0_B m c t h (by omega) h2]; frame_out; rw [pay2_at]; exact congrArg (· + _) (congrFun (kept _) j)) t h7 _, zero_add]
  refine Fin.sum_mul_add_congr fun s k hl => congrArg₂ (· * ·) ?_ ?_
  all_goals
    blk_simp [iblk]
    entry_read
    pointwise
    blk_ext [idx ⟨_, Pipeline.run_point_lt_of_flush t h7 s⟩, grp, shard, chan, part]

theorem ends (c : Dev nD) (t : Fin cfg0.N) (h7 : t.val % 8 = 7) :
    (outsAt0 m c t.val t.isLt).1 = k0_pay3 (F := Ideal) (outsAt0 m c t.val t.isLt).2 := by
  rw [outsAt0_C m c t (by omega) (by omega) h7]
  frame_out

theorem value2 (c : Dev nD) : (dats m 0 c).arrAt 2 (cfgs 0).N
    = Cert.PoolwtRefIdeal.Read.val_main_v10 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, ends m c t h7]
  idx_vars y
  refine Eq.trans ?_ (congrArg _ (show (ix3 (shard t) (part (grp t) y1) y2 : S4x512x512.Idx) = _ by blk_ext [idx t, grp, shard, part]))
  rw [ref10, ← held m c t h7]
  pointwise [k0_pay3]

end Cert.PoolwtIdeal.Value
-- ==== Proof.PoolwtClaim.lean ====
/- The claims about the weight gradient of the pooling layer's product. -/
module

public import proofs.«01_k».proof.Defs
public import proofs.«01_k».proof.Proof.Gen.Poolwt.Frame
public import proofs.«01_k».proof.Proof.Gen.PoolwtRefIdeal
public import proofs.«01_k».proof.Proof.Gen.PoolwtRefIdeal.Run
public import proofs.«01_k».proof.Proof.PoolwtValue
public import Idealize.ShloMosaic.Lib.Claim

@[expose] public section

noncomputable section

open Idealize.ShloMosaic Idealize.ShloMosaic.TcCoe Idealize.SL.Sem

namespace Cert.Poolwt.Claims

theorem frame_ref : Cert.quiescent_PoolwtRefIdeal (hPoolwtRefIdeal := Cert.PoolwtRefIdeal.Gen.facts) := fun m ρ _ =>
  (θ_run Cert.PoolwtRefIdeal.defs _ _).mono (fun r h => ⟨fun c => (h c).2, sem_eq_zero_of_no_sems (by decide) r.2⟩)
    (Cert.PoolwtRefIdeal.Value.run (F := Ideal) m ρ)

open Cert.PoolwtIdeal Cert.PoolwtRefIdeal.Read in
theorem equal : Cert.algebraic_PoolwtIdeal_PoolwtRefIdeal (hPoolwtIdeal := Cert.PoolwtIdeal.Gen.facts)
    (hPoolwtRefIdeal := Cert.PoolwtRefIdeal.Gen.facts) := by
  intro m g m' g' _ ha
  refine ⟨fun c => val_main_v10 (F := Ideal) (m ((c.tc : Thread nD τ).loc main_arg0)) (m ((c.tc : Thread nD τ).loc main_arg1)), ?_, ?_⟩
  · exact (θ_run Cert.PoolwtIdeal.defs _ _).mono (fun r h c => ⟨(h c).1.trans (Cert.PoolwtIdeal.Value.value2 m c), (h c).2⟩)
      (Cert.PoolwtIdeal.Value.run_blocks (F := Ideal) m g)
  · refine (θ_run Cert.PoolwtRefIdeal.defs _ _).mono (fun r h c => ⟨?_, (h c).2⟩)
      (Cert.PoolwtRefIdeal.Value.run (F := Ideal) m' g')
    all_goals obtain ⟨e0, e1⟩ := ha c
    · refine ((h c).1.trans (val_main_v10_eq _ _)).trans ?_
      rw [e0, e1]

end Cert.Poolwt.Claims
-- ==== Proof.lean ====
module

public import proofs.«01_k».proof.Defs
public import proofs.«01_k».proof.Proof.Gen.Scale
public import proofs.«01_k».proof.Proof.Gen.Scale.Skeleton
public import proofs.«01_k».proof.Proof.Gen.Scale.Launch
public import proofs.«01_k».proof.Proof.Gen.Scale.Points
public import proofs.«01_k».proof.Proof.Gen.Scale.Frame
public import proofs.«01_k».proof.Proof.Gen.ScaleIdeal
public import proofs.«01_k».proof.Proof.Gen.ScaleIdeal.Skeleton
public import proofs.«01_k».proof.Proof.Gen.ScaleIdeal.Launch
public import proofs.«01_k».proof.Proof.Gen.ScaleIdeal.Points
public import proofs.«01_k».proof.Proof.Gen.ScaleIdeal.Frame
public import proofs.«01_k».proof.Proof.Gen.ScaleIdeal.Value
public import proofs.«01_k».proof.Proof.Gen.ScaleRefIdeal
public import proofs.«01_k».proof.Proof.Gen.ScaleRefIdeal.Run
public import proofs.«01_k».proof.Proof.Gen.ScaleRefIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsIdeal.Value
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Normfwd
public import proofs.«01_k».proof.Proof.Gen.Normfwd.Skeleton
public import proofs.«01_k».proof.Proof.Gen.Normfwd.Launch
public import proofs.«01_k».proof.Proof.Gen.Normfwd.Points
public import proofs.«01_k».proof.Proof.Gen.Normfwd.Frame
public import proofs.«01_k».proof.Proof.Gen.NormfwdIdeal
public import proofs.«01_k».proof.Proof.Gen.NormfwdIdeal.Skeleton
public import proofs.«01_k».proof.Proof.Gen.NormfwdIdeal.Launch
public import proofs.«01_k».proof.Proof.Gen.NormfwdIdeal.Points
public import proofs.«01_k».proof.Proof.Gen.NormfwdIdeal.Frame
public import proofs.«01_k».proof.Proof.Gen.NormfwdIdeal.Value
public import proofs.«01_k».proof.Proof.Gen.NormfwdRefIdeal
public import proofs.«01_k».proof.Proof.Gen.NormfwdRefIdeal.Run
public import proofs.«01_k».proof.Proof.Gen.NormfwdRefIdeal.Read
public import proofs.«01_k».proof.Proof.Gen.Headsfwd
public import proofs.«01_k».proof.Proof.Gen.Headsfwd.Skeleton
public import proofs.«01_k».proof.Proof.Gen.Headsfwd.Launch
public import proofs.«01_k».proof.Proof.Gen.Headsfwd.Points
public import proofs.«01_k».proof.Proof.Gen.Headsfwd.Frame
public import proofs.«01_k».proof.Proof.Gen.HeadsfwdIdeal
public import proofs.«01_k».proof.Proof.Gen.HeadsfwdIdeal.Skeleton
public import proofs.«01_k».proof.Proof.Gen.HeadsfwdIdeal.Launch
public import proofs.«01_k».proof.Proof.Gen.HeadsfwdIdeal.Points
public import proofs.«01_k».proof.Proof.Gen.HeadsfwdIdeal.Frame
public import proofs.«01_k».proof.Proof.Gen.HeadsfwdIdeal.Value
public import proofs.«01_k».proof.Proof.Gen.HeadsfwdRefIdeal
public import proofs.«01_k».proof.Proof.Gen.HeadsfwdRefIdeal.Run
public import proofs.«01_k».proof.Proof.Gen.HeadsfwdRefIdeal.Read
public import proofs.«01_k».proof.Proof.Gen.Poolfwd
public import proofs.«01_k».proof.Proof.Gen.Poolfwd.Skeleton
public import proofs.«01_k».proof.Proof.Gen.Poolfwd.Launch
public import proofs.«01_k».proof.Proof.Gen.Poolfwd.Points
public import proofs.«01_k».proof.Proof.Gen.Poolfwd.Frame
public import proofs.«01_k».proof.Proof.Gen.PoolfwdIdeal
public import proofs.«01_k».proof.Proof.Gen.PoolfwdIdeal.Skeleton
public import proofs.«01_k».proof.Proof.Gen.PoolfwdIdeal.Launch
public import proofs.«01_k».proof.Proof.Gen.PoolfwdIdeal.Points
public import proofs.«01_k».proof.Proof.Gen.PoolfwdIdeal.Frame
public import proofs.«01_k».proof.Proof.Gen.PoolfwdIdeal.Value
public import proofs.«01_k».proof.Proof.Gen.PoolfwdRefIdeal
public import proofs.«01_k».proof.Proof.Gen.PoolfwdRefIdeal.Run
public import proofs.«01_k».proof.Proof.Gen.PoolfwdRefIdeal.Read
public import proofs.«01_k».proof.Proof.Gen.Convfwd
public import proofs.«01_k».proof.Proof.Gen.Convfwd.Skeleton
public import proofs.«01_k».proof.Proof.Gen.Convfwd.Launch
public import proofs.«01_k».proof.Proof.Gen.Convfwd.Points
public import proofs.«01_k».proof.Proof.Gen.Convfwd.Frame
public import proofs.«01_k».proof.Proof.Gen.ConvfwdIdeal
public import proofs.«01_k».proof.Proof.Gen.ConvfwdIdeal.Skeleton
public import proofs.«01_k».proof.Proof.Gen.ConvfwdIdeal.Launch
public import proofs.«01_k».proof.Proof.Gen.ConvfwdIdeal.Points
public import proofs.«01_k».proof.Proof.Gen.ConvfwdIdeal.Frame
public import proofs.«01_k».proof.Proof.Gen.ConvfwdIdeal.Value
public import proofs.«01_k».proof.Proof.Gen.ConvfwdRefIdeal
public import proofs.«01_k».proof.Proof.Gen.ConvfwdRefIdeal.Run
public import proofs.«01_k».proof.Proof.Gen.ConvfwdRefIdeal.Read
public import proofs.«01_k».proof.Proof.Gen.Gatefwd
public import proofs.«01_k».proof.Proof.Gen.Gatefwd.Skeleton
public import proofs.«01_k».proof.Proof.Gen.Gatefwd.Launch
public import proofs.«01_k».proof.Proof.Gen.Gatefwd.Points
public import proofs.«01_k».proof.Proof.Gen.Gatefwd.Frame
public import proofs.«01_k».proof.Proof.Gen.GatefwdIdeal
public import proofs.«01_k».proof.Proof.Gen.GatefwdIdeal.Skeleton
public import proofs.«01_k».proof.Proof.Gen.GatefwdIdeal.Launch
public import proofs.«01_k».proof.Proof.Gen.GatefwdIdeal.Points
public import proofs.«01_k».proof.Proof.Gen.GatefwdIdeal.Frame
public import proofs.«01_k».proof.Proof.Gen.GatefwdIdeal.Value
public import proofs.«01_k».proof.Proof.Gen.GatefwdRefIdeal
public import proofs.«01_k».proof.Proof.Gen.GatefwdRefIdeal.Run
public import proofs.«01_k».proof.Proof.Gen.GatefwdRefIdeal.Read
public import proofs.«01_k».proof.Proof.Gen.Poolmix
public import proofs.«01_k».proof.Proof.Gen.Poolmix.Skeleton
public import proofs.«01_k».proof.Proof.Gen.Poolmix.Launch
public import proofs.«01_k».proof.Proof.Gen.Poolmix.Points
public import proofs.«01_k».proof.Proof.Gen.Poolmix.Frame
public import proofs.«01_k».proof.Proof.Gen.PoolmixIdeal
public import proofs.«01_k».proof.Proof.Gen.PoolmixIdeal.Skeleton
public import proofs.«01_k».proof.Proof.Gen.PoolmixIdeal.Launch
public import proofs.«01_k».proof.Proof.Gen.PoolmixIdeal.Points
public import proofs.«01_k».proof.Proof.Gen.PoolmixIdeal.Frame
public import proofs.«01_k».proof.Proof.Gen.PoolmixIdeal.Value
public import proofs.«01_k».proof.Proof.Gen.PoolmixRefIdeal
public import proofs.«01_k».proof.Proof.Gen.PoolmixRefIdeal.Run
public import proofs.«01_k».proof.Proof.Gen.PoolmixRefIdeal.Read
public import proofs.«01_k».proof.Proof.Gen.Downfwd
public import proofs.«01_k».proof.Proof.Gen.Downfwd.Skeleton
public import proofs.«01_k».proof.Proof.Gen.Downfwd.Launch
public import proofs.«01_k».proof.Proof.Gen.Downfwd.Points
public import proofs.«01_k».proof.Proof.Gen.Downfwd.Frame
public import proofs.«01_k».proof.Proof.Gen.DownfwdIdeal
public import proofs.«01_k».proof.Proof.Gen.DownfwdIdeal.Skeleton
public import proofs.«01_k».proof.Proof.Gen.DownfwdIdeal.Launch
public import proofs.«01_k».proof.Proof.Gen.DownfwdIdeal.Points
public import proofs.«01_k».proof.Proof.Gen.DownfwdIdeal.Frame
public import proofs.«01_k».proof.Proof.Gen.DownfwdIdeal.Value
public import proofs.«01_k».proof.Proof.Gen.DownfwdRefIdeal
public import proofs.«01_k».proof.Proof.Gen.DownfwdRefIdeal.Run
public import proofs.«01_k».proof.Proof.Gen.DownfwdRefIdeal.Read
public import proofs.«01_k».proof.Proof.Gen.Downwt
public import proofs.«01_k».proof.Proof.Gen.Downwt.Skeleton
public import proofs.«01_k».proof.Proof.Gen.Downwt.Launch
public import proofs.«01_k».proof.Proof.Gen.Downwt.Points
public import proofs.«01_k».proof.Proof.Gen.Downwt.Frame
public import proofs.«01_k».proof.Proof.Gen.DownwtIdeal
public import proofs.«01_k».proof.Proof.Gen.DownwtIdeal.Skeleton
public import proofs.«01_k».proof.Proof.Gen.DownwtIdeal.Launch
public import proofs.«01_k».proof.Proof.Gen.DownwtIdeal.Points
public import proofs.«01_k».proof.Proof.Gen.DownwtIdeal.Frame
public import proofs.«01_k».proof.Proof.Gen.DownwtIdeal.Value
public import proofs.«01_k».proof.Proof.Gen.DownwtRefIdeal
public import proofs.«01_k».proof.Proof.Gen.DownwtRefIdeal.Run
public import proofs.«01_k».proof.Proof.Gen.DownwtRefIdeal.Read
public import proofs.«01_k».proof.Proof.Gen.Ffndata
public import proofs.«01_k».proof.Proof.Gen.Ffndata.Skeleton
public import proofs.«01_k».proof.Proof.Gen.Ffndata.Launch
public import proofs.«01_k».proof.Proof.Gen.Ffndata.Points
public import proofs.«01_k».proof.Proof.Gen.Ffndata.Frame
public import proofs.«01_k».proof.Proof.Gen.FfndataIdeal
public import proofs.«01_k».proof.Proof.Gen.FfndataIdeal.Skeleton
public import proofs.«01_k».proof.Proof.Gen.FfndataIdeal.Launch
public import proofs.«01_k».proof.Proof.Gen.FfndataIdeal.Points
public import proofs.«01_k».proof.Proof.Gen.FfndataIdeal.Frame
public import proofs.«01_k».proof.Proof.Gen.FfndataIdeal.Value
public import proofs.«01_k».proof.Proof.Gen.FfndataRefIdeal
public import proofs.«01_k».proof.Proof.Gen.FfndataRefIdeal.Run
public import proofs.«01_k».proof.Proof.Gen.FfndataRefIdeal.Read
public import proofs.«01_k».proof.Proof.Gen.Qkvdata
public import proofs.«01_k».proof.Proof.Gen.Qkvdata.Skeleton
public import proofs.«01_k».proof.Proof.Gen.Qkvdata.Launch
public import proofs.«01_k».proof.Proof.Gen.Qkvdata.Points
public import proofs.«01_k».proof.Proof.Gen.Qkvdata.Frame
public import proofs.«01_k».proof.Proof.Gen.QkvdataIdeal
public import proofs.«01_k».proof.Proof.Gen.QkvdataIdeal.Skeleton
public import proofs.«01_k».proof.Proof.Gen.QkvdataIdeal.Launch
public import proofs.«01_k».proof.Proof.Gen.QkvdataIdeal.Points
public import proofs.«01_k».proof.Proof.Gen.QkvdataIdeal.Frame
public import proofs.«01_k».proof.Proof.Gen.QkvdataIdeal.Value
public import proofs.«01_k».proof.Proof.Gen.QkvdataRefIdeal
public import proofs.«01_k».proof.Proof.Gen.QkvdataRefIdeal.Run
public import proofs.«01_k».proof.Proof.Gen.QkvdataRefIdeal.Read
public import proofs.«01_k».proof.Proof.Gen.Ffnwt
public import proofs.«01_k».proof.Proof.Gen.Ffnwt.Skeleton
public import proofs.«01_k».proof.Proof.Gen.Ffnwt.Launch
public import proofs.«01_k».proof.Proof.Gen.Ffnwt.Points
public import proofs.«01_k».proof.Proof.Gen.Ffnwt.Frame
public import proofs.«01_k».proof.Proof.Gen.FfnwtIdeal
public import proofs.«01_k».proof.Proof.Gen.FfnwtIdeal.Skeleton
public import proofs.«01_k».proof.Proof.Gen.FfnwtIdeal.Launch
public import proofs.«01_k».proof.Proof.Gen.FfnwtIdeal.Points
public import proofs.«01_k».proof.Proof.Gen.FfnwtIdeal.Frame
public import proofs.«01_k».proof.Proof.Gen.FfnwtIdeal.Value
public import proofs.«01_k».proof.Proof.Gen.FfnwtRefIdeal
public import proofs.«01_k».proof.Proof.Gen.FfnwtRefIdeal.Run
public import proofs.«01_k».proof.Proof.Gen.FfnwtRefIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Gen.Sumdev
public import proofs.«01_k».proof.Proof.Gen.Sumdev.Skeleton
public import proofs.«01_k».proof.Proof.Gen.Sumdev.Launch
public import proofs.«01_k».proof.Proof.Gen.Sumdev.Points
public import proofs.«01_k».proof.Proof.Gen.Sumdev.Frame
public import proofs.«01_k».proof.Proof.Gen.SumdevIdeal
public import proofs.«01_k».proof.Proof.Gen.SumdevIdeal.Skeleton
public import proofs.«01_k».proof.Proof.Gen.SumdevIdeal.Launch
public import proofs.«01_k».proof.Proof.Gen.SumdevIdeal.Points
public import proofs.«01_k».proof.Proof.Gen.SumdevIdeal.Frame
public import proofs.«01_k».proof.Proof.Gen.SumdevIdeal.Value
public import proofs.«01_k».proof.Proof.Gen.SumdevRefIdeal
public import proofs.«01_k».proof.Proof.Gen.SumdevRefIdeal.Run
public import proofs.«01_k».proof.Proof.Gen.SumdevRefIdeal.Read
public import proofs.«01_k».proof.Proof.Gen.Pooldata
public import proofs.«01_k».proof.Proof.Gen.PooldataIdeal
public import proofs.«01_k».proof.Proof.Gen.PooldataIdeal.Value
public import proofs.«01_k».proof.Proof.Gen.PooldataRefIdeal
public import proofs.«01_k».proof.Proof.Gen.PooldataRefIdeal.Run
public import proofs.«01_k».proof.Proof.Gen.PooldataRefIdeal.Read
public import proofs.«01_k».proof.Proof.Gen.Poolwt
public import proofs.«01_k».proof.Proof.Gen.PoolwtIdeal
public import proofs.«01_k».proof.Proof.Gen.PoolwtIdeal.Value
public import proofs.«01_k».proof.Proof.Gen.PoolwtRefIdeal
public import proofs.«01_k».proof.Proof.Gen.PoolwtRefIdeal.Run
public import proofs.«01_k».proof.Proof.Gen.PoolwtRefIdeal.Read
public import proofs.«01_k».proof.Proof.ScaleClaim
public import proofs.«01_k».proof.Proof.AttnClaim
public import proofs.«01_k».proof.Proof.LossClaim
public import proofs.«01_k».proof.Proof.ConvClaim
public import proofs.«01_k».proof.Proof.NormClaim
public import proofs.«01_k».proof.Proof.HeadsClaim
public import proofs.«01_k».proof.Proof.GateClaim
public import proofs.«01_k».proof.Proof.PoolClaim
public import proofs.«01_k».proof.Proof.NormfwdClaim
public import proofs.«01_k».proof.Proof.HeadsfwdClaim
public import proofs.«01_k».proof.Proof.PoolfwdClaim
public import proofs.«01_k».proof.Proof.ConvfwdClaim
public import proofs.«01_k».proof.Proof.GatefwdClaim
public import proofs.«01_k».proof.Proof.PoolmixClaim
public import proofs.«01_k».proof.Proof.DownfwdClaim
public import proofs.«01_k».proof.Proof.DownwtClaim
public import proofs.«01_k».proof.Proof.FfndataClaim
public import proofs.«01_k».proof.Proof.QkvdataClaim
public import proofs.«01_k».proof.Proof.FfnwtClaim
public import proofs.«01_k».proof.Proof.AdamwClaim
public import proofs.«01_k».proof.Proof.SumdevClaim
public import proofs.«01_k».proof.Proof.PooldataClaim
public import proofs.«01_k».proof.Proof.PoolwtClaim
public import Idealize.ShloMosaic.Adequacy
public import Idealize.ShloMosaic.Init

@[expose] public section

noncomputable section

namespace Cert.Proof

open Idealize.ShloMosaic Idealize.SL.Sem

theorem claim : Cert.Claim :=
  ⟨Cert.Scale.Gen.facts, Cert.ScaleIdeal.Gen.facts, Cert.ScaleRefIdeal.Gen.facts,
    Cert.Attn.Gen.facts, Cert.AttnIdeal.Gen.facts, Cert.AttnRefIdeal.Gen.facts,
    Cert.Loss.Gen.facts, Cert.LossIdeal.Gen.facts, Cert.LossRefIdeal.Gen.facts,
    Cert.Conv.Gen.facts, Cert.ConvIdeal.Gen.facts, Cert.ConvRefIdeal.Gen.facts,
    Cert.Norm.Gen.facts, Cert.NormIdeal.Gen.facts, Cert.NormRefIdeal.Gen.facts,
    Cert.Heads.Gen.facts, Cert.HeadsIdeal.Gen.facts, Cert.HeadsRefIdeal.Gen.facts,
    Cert.Gate.Gen.facts, Cert.GateIdeal.Gen.facts, Cert.GateRefIdeal.Gen.facts,
    Cert.Pool.Gen.facts, Cert.PoolIdeal.Gen.facts, Cert.PoolRefIdeal.Gen.facts,
    Cert.Normfwd.Gen.facts, Cert.NormfwdIdeal.Gen.facts, Cert.NormfwdRefIdeal.Gen.facts,
    Cert.Headsfwd.Gen.facts, Cert.HeadsfwdIdeal.Gen.facts, Cert.HeadsfwdRefIdeal.Gen.facts,
    Cert.Poolfwd.Gen.facts, Cert.PoolfwdIdeal.Gen.facts, Cert.PoolfwdRefIdeal.Gen.facts,
    Cert.Convfwd.Gen.facts, Cert.ConvfwdIdeal.Gen.facts, Cert.ConvfwdRefIdeal.Gen.facts,
    Cert.Gatefwd.Gen.facts, Cert.GatefwdIdeal.Gen.facts, Cert.GatefwdRefIdeal.Gen.facts,
    Cert.Poolmix.Gen.facts, Cert.PoolmixIdeal.Gen.facts, Cert.PoolmixRefIdeal.Gen.facts,
    Cert.Downfwd.Gen.facts, Cert.DownfwdIdeal.Gen.facts, Cert.DownfwdRefIdeal.Gen.facts,
    Cert.Downwt.Gen.facts, Cert.DownwtIdeal.Gen.facts, Cert.DownwtRefIdeal.Gen.facts,
    Cert.Ffndata.Gen.facts, Cert.FfndataIdeal.Gen.facts, Cert.FfndataRefIdeal.Gen.facts,
    Cert.Qkvdata.Gen.facts, Cert.QkvdataIdeal.Gen.facts, Cert.QkvdataRefIdeal.Gen.facts,
    Cert.Ffnwt.Gen.facts, Cert.FfnwtIdeal.Gen.facts, Cert.FfnwtRefIdeal.Gen.facts,
    Cert.Adamw.Gen.facts, Cert.AdamwIdeal.Gen.facts, Cert.AdamwRefIdeal.Gen.facts,
    Cert.Sumdev.Gen.facts, Cert.SumdevIdeal.Gen.facts, Cert.SumdevRefIdeal.Gen.facts,
    Cert.Pooldata.Gen.facts, Cert.PooldataIdeal.Gen.facts, Cert.PooldataRefIdeal.Gen.facts,
    Cert.Poolwt.Gen.facts, Cert.PoolwtIdeal.Gen.facts, Cert.PoolwtRefIdeal.Gen.facts,
    Cert.Attn.Claims.pre_facts,
    Cert.Norm.Claims.pre_facts,
    Cert.Heads.Claims.pre_facts,
    Cert.Gate.Claims.pre_facts,
    Cert.Pool.Claims.pre_facts,
    Cert.Poolfwd.Claims.pre_facts,
    fun m ρ _ => Cert.Scale.Gen.frame m ρ, fun m ρ _ => Cert.ScaleIdeal.Gen.frame m ρ, Cert.Scale.Claims.frame_ref,
    fun m ρ _ => Cert.Attn.Gen.frame m ρ, fun m ρ _ => Cert.AttnIdeal.Gen.frame m ρ, fun m ρ _ => Cert.AttnIdeal.Gen.frame m ρ,
    Cert.Attn.Claims.frame_ref, fun m ρ _ => Cert.Attn.Claims.frame_ref m ρ trivial,
    fun m ρ _ => Cert.Loss.Gen.frame m ρ, fun m ρ _ => Cert.LossIdeal.Gen.frame m ρ, Cert.Loss.Claims.frame_ref,
    fun m ρ _ => Cert.Conv.Gen.frame m ρ, fun m ρ _ => Cert.ConvIdeal.Gen.frame m ρ, Cert.Conv.Claims.frame_ref,
    fun m ρ _ => Cert.Norm.Gen.frame m ρ, fun m ρ _ => Cert.NormIdeal.Gen.frame m ρ, fun m ρ _ => Cert.NormIdeal.Gen.frame m ρ,
    Cert.Norm.Claims.frame_ref, fun m ρ _ => Cert.Norm.Claims.frame_ref m ρ trivial,
    fun m ρ _ => Cert.Heads.Gen.frame m ρ, fun m ρ _ => Cert.HeadsIdeal.Gen.frame m ρ, fun m ρ _ => Cert.HeadsIdeal.Gen.frame m ρ,
    Cert.Heads.Claims.frame_ref, fun m ρ _ => Cert.Heads.Claims.frame_ref m ρ trivial,
    fun m ρ _ => Cert.Gate.Gen.frame m ρ, fun m ρ _ => Cert.GateIdeal.Gen.frame m ρ, fun m ρ _ => Cert.GateIdeal.Gen.frame m ρ,
    Cert.Gate.Claims.frame_ref, fun m ρ _ => Cert.Gate.Claims.frame_ref m ρ trivial,
    fun m ρ _ => Cert.Pool.Gen.frame m ρ, fun m ρ _ => Cert.PoolIdeal.Gen.frame m ρ, fun m ρ _ => Cert.PoolIdeal.Gen.frame m ρ,
    Cert.Pool.Claims.frame_ref, fun m ρ _ => Cert.Pool.Claims.frame_ref m ρ trivial,
    fun m ρ _ => Cert.Normfwd.Gen.frame m ρ, fun m ρ _ => Cert.NormfwdIdeal.Gen.frame m ρ, Cert.Normfwd.Claims.frame_ref,
    fun m ρ _ => Cert.Headsfwd.Gen.frame m ρ, fun m ρ _ => Cert.HeadsfwdIdeal.Gen.frame m ρ, Cert.Headsfwd.Claims.frame_ref,
    fun m ρ _ => Cert.Poolfwd.Gen.frame m ρ, fun m ρ _ => Cert.PoolfwdIdeal.Gen.frame m ρ, fun m ρ _ => Cert.PoolfwdIdeal.Gen.frame m ρ,
    Cert.Poolfwd.Claims.frame_ref, fun m ρ _ => Cert.Poolfwd.Claims.frame_ref m ρ trivial,
    fun m ρ _ => Cert.Convfwd.Gen.frame m ρ, fun m ρ _ => Cert.ConvfwdIdeal.Gen.frame m ρ, Cert.Convfwd.Claims.frame_ref,
    fun m ρ _ => Cert.Gatefwd.Gen.frame m ρ, fun m ρ _ => Cert.GatefwdIdeal.Gen.frame m ρ, Cert.Gatefwd.Claims.frame_ref,
    fun m ρ _ => Cert.Poolmix.Gen.frame m ρ, fun m ρ _ => Cert.PoolmixIdeal.Gen.frame m ρ, Cert.Poolmix.Claims.frame_ref,
    fun m ρ _ => Cert.Downfwd.Gen.frame m ρ, fun m ρ _ => Cert.DownfwdIdeal.Gen.frame m ρ, Cert.Downfwd.Claims.frame_ref,
    fun m ρ _ => Cert.Downwt.Gen.frame m ρ, fun m ρ _ => Cert.DownwtIdeal.Gen.frame m ρ, Cert.Downwt.Claims.frame_ref,
    fun m ρ _ => Cert.Ffndata.Gen.frame m ρ, fun m ρ _ => Cert.FfndataIdeal.Gen.frame m ρ, Cert.Ffndata.Claims.frame_ref,
    fun m ρ _ => Cert.Qkvdata.Gen.frame m ρ, fun m ρ _ => Cert.QkvdataIdeal.Gen.frame m ρ, Cert.Qkvdata.Claims.frame_ref,
    fun m ρ _ => Cert.Ffnwt.Gen.frame m ρ, fun m ρ _ => Cert.FfnwtIdeal.Gen.frame m ρ, Cert.Ffnwt.Claims.frame_ref,
    fun m ρ _ => Cert.Adamw.Gen.frame m ρ, fun m ρ _ => Cert.AdamwIdeal.Gen.frame m ρ, Cert.Adamw.Claims.frame_ref,
    fun m ρ _ => Cert.Sumdev.Gen.frame m ρ, fun m ρ _ => Cert.SumdevIdeal.Gen.frame m ρ, Cert.Sumdev.Claims.frame_ref,
    fun m ρ _ => Cert.Pooldata.Gen.frame m ρ, fun m ρ _ => Cert.PooldataIdeal.Gen.frame m ρ, Cert.Pooldata.Claims.frame_ref,
    fun m ρ _ => Cert.Poolwt.Gen.frame m ρ, fun m ρ _ => Cert.PoolwtIdeal.Gen.frame m ρ, Cert.Poolwt.Claims.frame_ref,
    trivial, Cert.Scale.Claims.equal,
    trivial, Cert.Attn.Claims.equal,
    trivial, Cert.Loss.Claims.equal,
    trivial, Cert.Conv.Claims.equal,
    trivial, Cert.Norm.Claims.equal,
    trivial, Cert.Heads.Claims.equal,
    trivial, Cert.Gate.Claims.equal,
    trivial, Cert.Pool.Claims.equal,
    trivial, Cert.Normfwd.Claims.equal,
    trivial, Cert.Headsfwd.Claims.equal,
    trivial, Cert.Poolfwd.Claims.equal,
    trivial, Cert.Convfwd.Claims.equal,
    trivial, Cert.Gatefwd.Claims.equal,
    trivial, Cert.Poolmix.Claims.equal,
    trivial, Cert.Downfwd.Claims.equal,
    trivial, Cert.Downwt.Claims.equal,
    trivial, Cert.Ffndata.Claims.equal,
    trivial, Cert.Qkvdata.Claims.equal,
    trivial, Cert.Ffnwt.Claims.equal,
    trivial, Cert.Adamw.Claims.equal,
    trivial, Cert.Sumdev.Claims.equal,
    trivial, Cert.Pooldata.Claims.equal,
    trivial, Cert.Poolwt.Claims.equal⟩

end Cert.Proof

end
